-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Kernel21Ideal_finite21 [hPre_finite21 : Cert.Pre_finite21.Facts] (m : (ℓ : Loc Cert.Kernel21Ideal.nD Cert.Kernel21Ideal.τ Cert.Kernel21Ideal.sig) → Buf (Elt Ideal) ℓ) : Prop :=
  ∀ c : Dev Cert.Kernel21Ideal.nD,
    (Cert.Pre_finite21.fn (F := Ideal) (m ((c.tc : Thread Cert.Kernel21Ideal.nD Cert.Kernel21Ideal.τ).loc Cert.Kernel21Ideal.main_arg0))) = (fun _ => 1#1)

def Pre_Reference21Ideal (m : (ℓ : Loc Cert.Reference21Ideal.nD Cert.Reference21Ideal.τ Cert.Reference21Ideal.sig) → Buf (Elt Ideal) ℓ) : Prop :=
  True

def Pre_Reference21Ideal_finite21 [hPre_finite21 : Cert.Pre_finite21.Facts] (m : (ℓ : Loc Cert.Reference21Ideal.nD Cert.Reference21Ideal.τ Cert.Reference21Ideal.sig) → Buf (Elt Ideal) ℓ) : Prop :=
  ∀ c : Dev Cert.Reference21Ideal.nD,
    (Cert.Pre_finite21.fn (F := Ideal) (m ((c.tc : Thread Cert.Reference21Ideal.nD Cert.Reference21Ideal.τ).loc Cert.Reference21Ideal.main_arg0))) = (fun _ => 1#1)

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Kernel22Ideal_finite22 [hPre_finite22 : Cert.Pre_finite22.Facts] (m : (ℓ : Loc Cert.Kernel22Ideal.nD Cert.Kernel22Ideal.τ Cert.Kernel22Ideal.sig) → Buf (Elt Ideal) ℓ) : Prop :=
  ∀ c : Dev Cert.Kernel22Ideal.nD,
    (Cert.Pre_finite22.fn (F := Ideal) (m ((c.tc : Thread Cert.Kernel22Ideal.nD Cert.Kernel22Ideal.τ).loc Cert.Kernel22Ideal.main_arg0)) (m ((c.tc : Thread Cert.Kernel22Ideal.nD Cert.Kernel22Ideal.τ).loc Cert.Kernel22Ideal.main_arg1))) = (fun _ => 1#1)

def Pre_Reference22Ideal (m : (ℓ : Loc Cert.Reference22Ideal.nD Cert.Reference22Ideal.τ Cert.Reference22Ideal.sig) → Buf (Elt Ideal) ℓ) : Prop :=
  True

def Pre_Reference22Ideal_finite22 [hPre_finite22 : Cert.Pre_finite22.Facts] (m : (ℓ : Loc Cert.Reference22Ideal.nD Cert.Reference22Ideal.τ Cert.Reference22Ideal.sig) → Buf (Elt Ideal) ℓ) : Prop :=
  ∀ c : Dev Cert.Reference22Ideal.nD,
    (Cert.Pre_finite22.fn (F := Ideal) (m ((c.tc : Thread Cert.Reference22Ideal.nD Cert.Reference22Ideal.τ).loc Cert.Reference22Ideal.main_arg0)) (m ((c.tc : Thread Cert.Reference22Ideal.nD Cert.Reference22Ideal.τ).loc Cert.Reference22Ideal.main_arg1))) = (fun _ => 1#1)

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0))
      ∧ r.2.sem = fun _ => 0)

def quiescent_Kernel21Ideal_pre_finite21 [hKernel21Ideal : Cert.Kernel21Ideal.Facts] [hPre_finite21 : Cert.Pre_finite21.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal_finite21 m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0))
      ∧ r.2.sem = fun _ => 0)

def quiescent_Reference21Ideal_pre_finite21 [hReference21Ideal : Cert.Reference21Ideal.Facts] [hPre_finite21 : Cert.Pre_finite21.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal_finite21 m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Kernel22Ideal_pre_finite22 [hKernel22Ideal : Cert.Kernel22Ideal.Facts] [hPre_finite22 : Cert.Pre_finite22.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal_finite22 m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Reference22Ideal_pre_finite22 [hReference22Ideal : Cert.Reference22Ideal.Facts] [hPre_finite22 : Cert.Pre_finite22.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal_finite22 m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2)
      ∧ r.2.mem ((c.tc : Thread Cert.Kernel30.nD Cert.Kernel30.τ).loc Cert.Kernel30.main_arg3) = m ((c.tc : Thread Cert.Kernel30.nD Cert.Kernel30.τ).loc Cert.Kernel30.main_arg3))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2)
      ∧ r.2.mem ((c.tc : Thread Cert.Kernel31.nD Cert.Kernel31.τ).loc Cert.Kernel31.main_arg3) = m ((c.tc : Thread Cert.Kernel31.nD Cert.Kernel31.τ).loc Cert.Kernel31.main_arg3))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
      ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2)
      ∧ r.2.mem ((c.tc : Thread Cert.Reference31Ideal.nD Cert.Reference31Ideal.τ).loc Cert.Reference31Ideal.main_arg3) = m ((c.tc : Thread Cert.Reference31Ideal.nD Cert.Reference31Ideal.τ).loc Cert.Reference31Ideal.main_arg3))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2)
      ∧ r.2.mem ((c.tc : Thread Cert.Kernel32.nD Cert.Kernel32.τ).loc Cert.Kernel32.main_arg3) = m ((c.tc : Thread Cert.Kernel32.nD Cert.Kernel32.τ).loc Cert.Kernel32.main_arg3))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
      ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2)
      ∧ r.2.mem ((c.tc : Thread Cert.Reference32Ideal.nD Cert.Reference32Ideal.τ).loc Cert.Reference32Ideal.main_arg3) = m ((c.tc : Thread Cert.Reference32Ideal.nD Cert.Reference32Ideal.τ).loc Cert.Reference32Ideal.main_arg3))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1)
      ∧ r.2.mem ((c.tc : Thread Cert.Kernel33.nD Cert.Kernel33.τ).loc Cert.Kernel33.main_arg2) = m ((c.tc : Thread Cert.Kernel33.nD Cert.Kernel33.τ).loc Cert.Kernel33.main_arg2)
      ∧ r.2.mem ((c.tc : Thread Cert.Kernel33.nD Cert.Kernel33.τ).loc Cert.Kernel33.main_arg3) = m ((c.tc : Thread Cert.Kernel33.nD Cert.Kernel33.τ).loc Cert.Kernel33.main_arg3))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
      ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
      ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1)
      ∧ r.2.mem ((c.tc : Thread Cert.Reference33Ideal.nD Cert.Reference33Ideal.τ).loc Cert.Reference33Ideal.main_arg2) = m ((c.tc : Thread Cert.Reference33Ideal.nD Cert.Reference33Ideal.τ).loc Cert.Reference33Ideal.main_arg2)
      ∧ r.2.mem ((c.tc : Thread Cert.Reference33Ideal.nD Cert.Reference33Ideal.τ).loc Cert.Reference33Ideal.main_arg3) = m ((c.tc : Thread Cert.Reference33Ideal.nD Cert.Reference33Ideal.τ).loc Cert.Reference33Ideal.main_arg3))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1)
      ∧ r.2.mem ((c.tc : Thread Cert.Kernel34.nD Cert.Kernel34.τ).loc Cert.Kernel34.main_arg2) = m ((c.tc : Thread Cert.Kernel34.nD Cert.Kernel34.τ).loc Cert.Kernel34.main_arg2)
      ∧ r.2.mem ((c.tc : Thread Cert.Kernel34.nD Cert.Kernel34.τ).loc Cert.Kernel34.main_arg3) = m ((c.tc : Thread Cert.Kernel34.nD Cert.Kernel34.τ).loc Cert.Kernel34.main_arg3))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
      ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
      ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1)
      ∧ r.2.mem ((c.tc : Thread Cert.Reference34Ideal.nD Cert.Reference34Ideal.τ).loc Cert.Reference34Ideal.main_arg2) = m ((c.tc : Thread Cert.Reference34Ideal.nD Cert.Reference34Ideal.τ).loc Cert.Reference34Ideal.main_arg2)
      ∧ r.2.mem ((c.tc : Thread Cert.Reference34Ideal.nD Cert.Reference34Ideal.τ).loc Cert.Reference34Ideal.main_arg3) = m ((c.tc : Thread Cert.Reference34Ideal.nD Cert.Reference34Ideal.τ).loc Cert.Reference34Ideal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v52_0)) (v1 : (c : Dev Cert.KernelIdeal.nD) → Buf (Elt Ideal) ((c.tc : Thread Cert.KernelIdeal.nD Cert.KernelIdeal.τ).loc Cert.KernelIdeal.main_v52_1)) (v2 : (c : Dev Cert.KernelIdeal.nD) → Buf (Elt Ideal) ((c.tc : Thread Cert.KernelIdeal.nD Cert.KernelIdeal.τ).loc Cert.KernelIdeal.main_v52_2)) (v3 : (c : Dev Cert.KernelIdeal.nD) → Buf (Elt Ideal) ((c.tc : Thread Cert.KernelIdeal.nD Cert.KernelIdeal.τ).loc Cert.KernelIdeal.main_v52_3)) (v4 : (c : Dev Cert.KernelIdeal.nD) → Buf (Elt Ideal) ((c.tc : Thread Cert.KernelIdeal.nD Cert.KernelIdeal.τ).loc Cert.KernelIdeal.main_v52_4)) (v5 : (c : Dev Cert.KernelIdeal.nD) → Buf (Elt Ideal) ((c.tc : Thread Cert.KernelIdeal.nD Cert.KernelIdeal.τ).loc Cert.KernelIdeal.main_v52_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52_0) = v0 c
          ∧ r.2.mem ((c.tc : Thread Cert.KernelIdeal.nD Cert.KernelIdeal.τ).loc Cert.KernelIdeal.main_v52_1) = v1 c
          ∧ r.2.mem ((c.tc : Thread Cert.KernelIdeal.nD Cert.KernelIdeal.τ).loc Cert.KernelIdeal.main_v52_2) = v2 c
          ∧ r.2.mem ((c.tc : Thread Cert.KernelIdeal.nD Cert.KernelIdeal.τ).loc Cert.KernelIdeal.main_v52_3) = v3 c
          ∧ r.2.mem ((c.tc : Thread Cert.KernelIdeal.nD Cert.KernelIdeal.τ).loc Cert.KernelIdeal.main_v52_4) = v4 c
          ∧ r.2.mem ((c.tc : Thread Cert.KernelIdeal.nD Cert.KernelIdeal.τ).loc Cert.KernelIdeal.main_v52_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_v95) = v1 c
          ∧ r.2.mem ((c.tc : Thread Cert.ReferenceIdeal.nD Cert.ReferenceIdeal.τ).loc Cert.ReferenceIdeal.main_v69) = v2 c
          ∧ r.2.mem ((c.tc : Thread Cert.ReferenceIdeal.nD Cert.ReferenceIdeal.τ).loc Cert.ReferenceIdeal.main_v98) = v3 c
          ∧ r.2.mem ((c.tc : Thread Cert.ReferenceIdeal.nD Cert.ReferenceIdeal.τ).loc Cert.ReferenceIdeal.main_v99) = v4 c
          ∧ r.2.mem ((c.tc : Thread Cert.ReferenceIdeal.nD Cert.ReferenceIdeal.τ).loc Cert.ReferenceIdeal.main_v100) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v34_0)) (v1 : (c : Dev Cert.Kernel2Ideal.nD) → Buf (Elt Ideal) ((c.tc : Thread Cert.Kernel2Ideal.nD Cert.Kernel2Ideal.τ).loc Cert.Kernel2Ideal.main_v34_1)) (v2 : (c : Dev Cert.Kernel2Ideal.nD) → Buf (Elt Ideal) ((c.tc : Thread Cert.Kernel2Ideal.nD Cert.Kernel2Ideal.τ).loc Cert.Kernel2Ideal.main_v34_2)) (v3 : (c : Dev Cert.Kernel2Ideal.nD) → Buf (Elt Ideal) ((c.tc : Thread Cert.Kernel2Ideal.nD Cert.Kernel2Ideal.τ).loc Cert.Kernel2Ideal.main_v34_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v34_0) = v0 c
          ∧ r.2.mem ((c.tc : Thread Cert.Kernel2Ideal.nD Cert.Kernel2Ideal.τ).loc Cert.Kernel2Ideal.main_v34_1) = v1 c
          ∧ r.2.mem ((c.tc : Thread Cert.Kernel2Ideal.nD Cert.Kernel2Ideal.τ).loc Cert.Kernel2Ideal.main_v34_2) = v2 c
          ∧ r.2.mem ((c.tc : Thread Cert.Kernel2Ideal.nD Cert.Kernel2Ideal.τ).loc Cert.Kernel2Ideal.main_v34_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v62) = v0 c
          ∧ r.2.mem ((c.tc : Thread Cert.Reference2Ideal.nD Cert.Reference2Ideal.τ).loc Cert.Reference2Ideal.main_v63) = v1 c
          ∧ r.2.mem ((c.tc : Thread Cert.Reference2Ideal.nD Cert.Reference2Ideal.τ).loc Cert.Reference2Ideal.main_v64) = v2 c
          ∧ r.2.mem ((c.tc : Thread Cert.Reference2Ideal.nD Cert.Reference2Ideal.τ).loc Cert.Reference2Ideal.main_v65) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v10) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v2) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v2) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v2) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v2) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v4) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v5) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v4) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v5) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v4) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v5) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal_pre_finite21 [hKernel21Ideal : Cert.Kernel21Ideal.Facts] [hReference21Ideal : Cert.Reference21Ideal.Facts] [hPre_finite21 : Cert.Pre_finite21.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal_finite21 m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v31) = v0 c
          ∧ r.2.mem ((c.tc : Thread Cert.Reference21Ideal.nD Cert.Reference21Ideal.τ).loc Cert.Reference21Ideal.main_v33) = v1 c
          ∧ r.2.mem ((c.tc : Thread Cert.Reference21Ideal.nD Cert.Reference21Ideal.τ).loc Cert.Reference21Ideal.main_v36) = v2 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0))

def preserves_Kernel22_Kernel22Ideal : Prop :=
  IdealRules.named_const.Statement Cert.Kernel22Ideal.κ "mask" .f32 0xF149F2CA#32 ⊥

def algebraic_Kernel22Ideal_Reference22Ideal_pre_finite22 [hKernel22Ideal : Cert.Kernel22Ideal.Facts] [hReference22Ideal : Cert.Reference22Ideal.Facts] [hPre_finite22 : Cert.Pre_finite22.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal_finite22 m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v2_0)) (v1 : (c : Dev Cert.Kernel22Ideal.nD) → Buf (Elt Ideal) ((c.tc : Thread Cert.Kernel22Ideal.nD Cert.Kernel22Ideal.τ).loc Cert.Kernel22Ideal.main_v2_1)) (v2 : (c : Dev Cert.Kernel22Ideal.nD) → Buf (Elt Ideal) ((c.tc : Thread Cert.Kernel22Ideal.nD Cert.Kernel22Ideal.τ).loc Cert.Kernel22Ideal.main_v2_2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v2_0) = v0 c
          ∧ r.2.mem ((c.tc : Thread Cert.Kernel22Ideal.nD Cert.Kernel22Ideal.τ).loc Cert.Kernel22Ideal.main_v2_1) = v1 c
          ∧ r.2.mem ((c.tc : Thread Cert.Kernel22Ideal.nD Cert.Kernel22Ideal.τ).loc Cert.Kernel22Ideal.main_v2_2) = v2 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v40) = v0 c
          ∧ r.2.mem ((c.tc : Thread Cert.Reference22Ideal.nD Cert.Reference22Ideal.τ).loc Cert.Reference22Ideal.main_v49) = v1 c
          ∧ r.2.mem ((c.tc : Thread Cert.Reference22Ideal.nD Cert.Reference22Ideal.τ).loc Cert.Reference22Ideal.main_v52) = v2 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v12) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v23) = v0 c
          ∧ r.2.mem ((c.tc : Thread Cert.Reference24Ideal.nD Cert.Reference24Ideal.τ).loc Cert.Reference24Ideal.main_v4) = v1 c
          ∧ r.2.mem ((c.tc : Thread Cert.Reference24Ideal.nD Cert.Reference24Ideal.τ).loc Cert.Reference24Ideal.main_v10) = v2 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v34) = v0 c
          ∧ r.2.mem ((c.tc : Thread Cert.Reference25Ideal.nD Cert.Reference25Ideal.τ).loc Cert.Reference25Ideal.main_v35) = v1 c
          ∧ r.2.mem ((c.tc : Thread Cert.Reference25Ideal.nD Cert.Reference25Ideal.τ).loc Cert.Reference25Ideal.main_v17) = v2 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)) (v2 : (c : Dev Cert.Kernel26Ideal.nD) → Buf (Elt Ideal) ((c.tc : Thread Cert.Kernel26Ideal.nD Cert.Kernel26Ideal.τ).loc Cert.Kernel26Ideal.main_v0_2)) (v3 : (c : Dev Cert.Kernel26Ideal.nD) → Buf (Elt Ideal) ((c.tc : Thread Cert.Kernel26Ideal.nD Cert.Kernel26Ideal.τ).loc Cert.Kernel26Ideal.main_v0_3)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_v0_2) = v2 c
          ∧ r.2.mem ((c.tc : Thread Cert.Kernel26Ideal.nD Cert.Kernel26Ideal.τ).loc Cert.Kernel26Ideal.main_v0_3) = v3 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v48) = v0 c
          ∧ r.2.mem ((c.tc : Thread Cert.Reference26Ideal.nD Cert.Reference26Ideal.τ).loc Cert.Reference26Ideal.main_v49) = v1 c
          ∧ r.2.mem ((c.tc : Thread Cert.Reference26Ideal.nD Cert.Reference26Ideal.τ).loc Cert.Reference26Ideal.main_v32) = v2 c
          ∧ r.2.mem ((c.tc : Thread Cert.Reference26Ideal.nD Cert.Reference26Ideal.τ).loc Cert.Reference26Ideal.main_v50) = v3 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)) →
    ∃ (v0 : (c : Dev Cert.Kernel27Ideal.nD) → Buf (Elt Ideal) ((c.tc : Thread Cert.Kernel27Ideal.nD Cert.Kernel27Ideal.τ).loc Cert.Kernel27Ideal.main_v0)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v13) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)) →
    ∃ (v0 : (c : Dev Cert.Kernel28Ideal.nD) → Buf (Elt Ideal) ((c.tc : Thread Cert.Kernel28Ideal.nD Cert.Kernel28Ideal.τ).loc Cert.Kernel28Ideal.main_v0)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v13) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)) →
    ∃ (v0 : (c : Dev Cert.Kernel29Ideal.nD) → Buf (Elt Ideal) ((c.tc : Thread Cert.Kernel29Ideal.nD Cert.Kernel29Ideal.τ).loc Cert.Kernel29Ideal.main_v0_0)) (v1 : (c : Dev Cert.Kernel29Ideal.nD) → Buf (Elt Ideal) ((c.tc : Thread Cert.Kernel29Ideal.nD Cert.Kernel29Ideal.τ).loc Cert.Kernel29Ideal.main_v0_1)) (v2 : (c : Dev Cert.Kernel29Ideal.nD) → Buf (Elt Ideal) ((c.tc : Thread Cert.Kernel29Ideal.nD Cert.Kernel29Ideal.τ).loc Cert.Kernel29Ideal.main_v0_2)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0_0) = v0 c
          ∧ r.2.mem ((c.tc : Thread Cert.Kernel29Ideal.nD Cert.Kernel29Ideal.τ).loc Cert.Kernel29Ideal.main_v0_1) = v1 c
          ∧ r.2.mem ((c.tc : Thread Cert.Kernel29Ideal.nD Cert.Kernel29Ideal.τ).loc Cert.Kernel29Ideal.main_v0_2) = v2 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v23) = v0 c
          ∧ r.2.mem ((c.tc : Thread Cert.Reference29Ideal.nD Cert.Reference29Ideal.τ).loc Cert.Reference29Ideal.main_v4) = v1 c
          ∧ r.2.mem ((c.tc : Thread Cert.Reference29Ideal.nD Cert.Reference29Ideal.τ).loc Cert.Reference29Ideal.main_v10) = v2 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)
      ∧ m' ((c.tc : Thread Cert.Reference30Ideal.nD Cert.Reference30Ideal.τ).loc Cert.Reference30Ideal.main_arg3) = m ((c.tc : Thread Cert.Kernel30Ideal.nD Cert.Kernel30Ideal.τ).loc Cert.Kernel30Ideal.main_arg3)) →
    ∃ (v0 : (c : Dev Cert.Kernel30Ideal.nD) → Buf (Elt Ideal) ((c.tc : Thread Cert.Kernel30Ideal.nD Cert.Kernel30Ideal.τ).loc Cert.Kernel30Ideal.main_v0_0)) (v1 : (c : Dev Cert.Kernel30Ideal.nD) → Buf (Elt Ideal) ((c.tc : Thread Cert.Kernel30Ideal.nD Cert.Kernel30Ideal.τ).loc Cert.Kernel30Ideal.main_v0_1)) (v2 : (c : Dev Cert.Kernel30Ideal.nD) → Buf (Elt Ideal) ((c.tc : Thread Cert.Kernel30Ideal.nD Cert.Kernel30Ideal.τ).loc Cert.Kernel30Ideal.main_v0_2)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0_0) = v0 c
          ∧ r.2.mem ((c.tc : Thread Cert.Kernel30Ideal.nD Cert.Kernel30Ideal.τ).loc Cert.Kernel30Ideal.main_v0_1) = v1 c
          ∧ r.2.mem ((c.tc : Thread Cert.Kernel30Ideal.nD Cert.Kernel30Ideal.τ).loc Cert.Kernel30Ideal.main_v0_2) = v2 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
          ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v23) = v0 c
          ∧ r.2.mem ((c.tc : Thread Cert.Reference30Ideal.nD Cert.Reference30Ideal.τ).loc Cert.Reference30Ideal.main_v4) = v1 c
          ∧ r.2.mem ((c.tc : Thread Cert.Reference30Ideal.nD Cert.Reference30Ideal.τ).loc Cert.Reference30Ideal.main_v10) = v2 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2)
          ∧ r.2.mem ((c.tc : Thread Cert.Reference30Ideal.nD Cert.Reference30Ideal.τ).loc Cert.Reference30Ideal.main_arg3) = m' ((c.tc : Thread Cert.Reference30Ideal.nD Cert.Reference30Ideal.τ).loc Cert.Reference30Ideal.main_arg3))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)
      ∧ m' ((c.tc : Thread Cert.Reference31Ideal.nD Cert.Reference31Ideal.τ).loc Cert.Reference31Ideal.main_arg3) = m ((c.tc : Thread Cert.Kernel31Ideal.nD Cert.Kernel31Ideal.τ).loc Cert.Kernel31Ideal.main_arg3)) →
    ∃ (v0 : (c : Dev Cert.Kernel31Ideal.nD) → Buf (Elt Ideal) ((c.tc : Thread Cert.Kernel31Ideal.nD Cert.Kernel31Ideal.τ).loc Cert.Kernel31Ideal.main_v0_0)) (v1 : (c : Dev Cert.Kernel31Ideal.nD) → Buf (Elt Ideal) ((c.tc : Thread Cert.Kernel31Ideal.nD Cert.Kernel31Ideal.τ).loc Cert.Kernel31Ideal.main_v0_1)) (v2 : (c : Dev Cert.Kernel31Ideal.nD) → Buf (Elt Ideal) ((c.tc : Thread Cert.Kernel31Ideal.nD Cert.Kernel31Ideal.τ).loc Cert.Kernel31Ideal.main_v0_2)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0_0) = v0 c
          ∧ r.2.mem ((c.tc : Thread Cert.Kernel31Ideal.nD Cert.Kernel31Ideal.τ).loc Cert.Kernel31Ideal.main_v0_1) = v1 c
          ∧ r.2.mem ((c.tc : Thread Cert.Kernel31Ideal.nD Cert.Kernel31Ideal.τ).loc Cert.Kernel31Ideal.main_v0_2) = v2 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
          ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v23) = v0 c
          ∧ r.2.mem ((c.tc : Thread Cert.Reference31Ideal.nD Cert.Reference31Ideal.τ).loc Cert.Reference31Ideal.main_v4) = v1 c
          ∧ r.2.mem ((c.tc : Thread Cert.Reference31Ideal.nD Cert.Reference31Ideal.τ).loc Cert.Reference31Ideal.main_v10) = v2 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2)
          ∧ r.2.mem ((c.tc : Thread Cert.Reference31Ideal.nD Cert.Reference31Ideal.τ).loc Cert.Reference31Ideal.main_arg3) = m' ((c.tc : Thread Cert.Reference31Ideal.nD Cert.Reference31Ideal.τ).loc Cert.Reference31Ideal.main_arg3))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)
      ∧ m' ((c.tc : Thread Cert.Reference32Ideal.nD Cert.Reference32Ideal.τ).loc Cert.Reference32Ideal.main_arg3) = m ((c.tc : Thread Cert.Kernel32Ideal.nD Cert.Kernel32Ideal.τ).loc Cert.Kernel32Ideal.main_arg3)) →
    ∃ (v0 : (c : Dev Cert.Kernel32Ideal.nD) → Buf (Elt Ideal) ((c.tc : Thread Cert.Kernel32Ideal.nD Cert.Kernel32Ideal.τ).loc Cert.Kernel32Ideal.main_v0_0)) (v1 : (c : Dev Cert.Kernel32Ideal.nD) → Buf (Elt Ideal) ((c.tc : Thread Cert.Kernel32Ideal.nD Cert.Kernel32Ideal.τ).loc Cert.Kernel32Ideal.main_v0_1)) (v2 : (c : Dev Cert.Kernel32Ideal.nD) → Buf (Elt Ideal) ((c.tc : Thread Cert.Kernel32Ideal.nD Cert.Kernel32Ideal.τ).loc Cert.Kernel32Ideal.main_v0_2)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0_0) = v0 c
          ∧ r.2.mem ((c.tc : Thread Cert.Kernel32Ideal.nD Cert.Kernel32Ideal.τ).loc Cert.Kernel32Ideal.main_v0_1) = v1 c
          ∧ r.2.mem ((c.tc : Thread Cert.Kernel32Ideal.nD Cert.Kernel32Ideal.τ).loc Cert.Kernel32Ideal.main_v0_2) = v2 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
          ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v23) = v0 c
          ∧ r.2.mem ((c.tc : Thread Cert.Reference32Ideal.nD Cert.Reference32Ideal.τ).loc Cert.Reference32Ideal.main_v4) = v1 c
          ∧ r.2.mem ((c.tc : Thread Cert.Reference32Ideal.nD Cert.Reference32Ideal.τ).loc Cert.Reference32Ideal.main_v10) = v2 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2)
          ∧ r.2.mem ((c.tc : Thread Cert.Reference32Ideal.nD Cert.Reference32Ideal.τ).loc Cert.Reference32Ideal.main_arg3) = m' ((c.tc : Thread Cert.Reference32Ideal.nD Cert.Reference32Ideal.τ).loc Cert.Reference32Ideal.main_arg3))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)
      ∧ m' ((c.tc : Thread Cert.Reference33Ideal.nD Cert.Reference33Ideal.τ).loc Cert.Reference33Ideal.main_arg2) = m ((c.tc : Thread Cert.Kernel33Ideal.nD Cert.Kernel33Ideal.τ).loc Cert.Kernel33Ideal.main_arg2)
      ∧ m' ((c.tc : Thread Cert.Reference33Ideal.nD Cert.Reference33Ideal.τ).loc Cert.Reference33Ideal.main_arg3) = m ((c.tc : Thread Cert.Kernel33Ideal.nD Cert.Kernel33Ideal.τ).loc Cert.Kernel33Ideal.main_arg3)) →
    ∃ (v0 : (c : Dev Cert.Kernel33Ideal.nD) → Buf (Elt Ideal) ((c.tc : Thread Cert.Kernel33Ideal.nD Cert.Kernel33Ideal.τ).loc Cert.Kernel33Ideal.main_v0_0)) (v1 : (c : Dev Cert.Kernel33Ideal.nD) → Buf (Elt Ideal) ((c.tc : Thread Cert.Kernel33Ideal.nD Cert.Kernel33Ideal.τ).loc Cert.Kernel33Ideal.main_v0_1)) (v2 : (c : Dev Cert.Kernel33Ideal.nD) → Buf (Elt Ideal) ((c.tc : Thread Cert.Kernel33Ideal.nD Cert.Kernel33Ideal.τ).loc Cert.Kernel33Ideal.main_v0_2)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0_0) = v0 c
          ∧ r.2.mem ((c.tc : Thread Cert.Kernel33Ideal.nD Cert.Kernel33Ideal.τ).loc Cert.Kernel33Ideal.main_v0_1) = v1 c
          ∧ r.2.mem ((c.tc : Thread Cert.Kernel33Ideal.nD Cert.Kernel33Ideal.τ).loc Cert.Kernel33Ideal.main_v0_2) = v2 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
          ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
          ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v23) = v0 c
          ∧ r.2.mem ((c.tc : Thread Cert.Reference33Ideal.nD Cert.Reference33Ideal.τ).loc Cert.Reference33Ideal.main_v4) = v1 c
          ∧ r.2.mem ((c.tc : Thread Cert.Reference33Ideal.nD Cert.Reference33Ideal.τ).loc Cert.Reference33Ideal.main_v10) = v2 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1)
          ∧ r.2.mem ((c.tc : Thread Cert.Reference33Ideal.nD Cert.Reference33Ideal.τ).loc Cert.Reference33Ideal.main_arg2) = m' ((c.tc : Thread Cert.Reference33Ideal.nD Cert.Reference33Ideal.τ).loc Cert.Reference33Ideal.main_arg2)
          ∧ r.2.mem ((c.tc : Thread Cert.Reference33Ideal.nD Cert.Reference33Ideal.τ).loc Cert.Reference33Ideal.main_arg3) = m' ((c.tc : Thread Cert.Reference33Ideal.nD Cert.Reference33Ideal.τ).loc Cert.Reference33Ideal.main_arg3))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)
      ∧ m' ((c.tc : Thread Cert.Reference34Ideal.nD Cert.Reference34Ideal.τ).loc Cert.Reference34Ideal.main_arg2) = m ((c.tc : Thread Cert.Kernel34Ideal.nD Cert.Kernel34Ideal.τ).loc Cert.Kernel34Ideal.main_arg2)
      ∧ m' ((c.tc : Thread Cert.Reference34Ideal.nD Cert.Reference34Ideal.τ).loc Cert.Reference34Ideal.main_arg3) = m ((c.tc : Thread Cert.Kernel34Ideal.nD Cert.Kernel34Ideal.τ).loc Cert.Kernel34Ideal.main_arg3)) →
    ∃ (v0 : (c : Dev Cert.Kernel34Ideal.nD) → Buf (Elt Ideal) ((c.tc : Thread Cert.Kernel34Ideal.nD Cert.Kernel34Ideal.τ).loc Cert.Kernel34Ideal.main_v0_0)) (v1 : (c : Dev Cert.Kernel34Ideal.nD) → Buf (Elt Ideal) ((c.tc : Thread Cert.Kernel34Ideal.nD Cert.Kernel34Ideal.τ).loc Cert.Kernel34Ideal.main_v0_1)) (v2 : (c : Dev Cert.Kernel34Ideal.nD) → Buf (Elt Ideal) ((c.tc : Thread Cert.Kernel34Ideal.nD Cert.Kernel34Ideal.τ).loc Cert.Kernel34Ideal.main_v0_2)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v0_0) = v0 c
          ∧ r.2.mem ((c.tc : Thread Cert.Kernel34Ideal.nD Cert.Kernel34Ideal.τ).loc Cert.Kernel34Ideal.main_v0_1) = v1 c
          ∧ r.2.mem ((c.tc : Thread Cert.Kernel34Ideal.nD Cert.Kernel34Ideal.τ).loc Cert.Kernel34Ideal.main_v0_2) = v2 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
          ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
          ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v23) = v0 c
          ∧ r.2.mem ((c.tc : Thread Cert.Reference34Ideal.nD Cert.Reference34Ideal.τ).loc Cert.Reference34Ideal.main_v4) = v1 c
          ∧ r.2.mem ((c.tc : Thread Cert.Reference34Ideal.nD Cert.Reference34Ideal.τ).loc Cert.Reference34Ideal.main_v10) = v2 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1)
          ∧ r.2.mem ((c.tc : Thread Cert.Reference34Ideal.nD Cert.Reference34Ideal.τ).loc Cert.Reference34Ideal.main_arg2) = m' ((c.tc : Thread Cert.Reference34Ideal.nD Cert.Reference34Ideal.τ).loc Cert.Reference34Ideal.main_arg2)
          ∧ r.2.mem ((c.tc : Thread Cert.Reference34Ideal.nD Cert.Reference34Ideal.τ).loc Cert.Reference34Ideal.main_arg3) = m' ((c.tc : Thread Cert.Reference34Ideal.nD Cert.Reference34Ideal.τ).loc Cert.Reference34Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hPre_finite : Cert.Pre_finite.Facts) (hPre_finite2 : Cert.Pre_finite2.Facts) (hPre_finite21 : Cert.Pre_finite21.Facts) (hPre_finite22 : Cert.Pre_finite22.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Kernel21Ideal_pre_finite21 (hKernel21Ideal := hKernel21Ideal) (hPre_finite21 := hPre_finite21)
    ∧ quiescent_Reference21Ideal (hReference21Ideal := hReference21Ideal)
    ∧ quiescent_Reference21Ideal_pre_finite21 (hReference21Ideal := hReference21Ideal) (hPre_finite21 := hPre_finite21)
    ∧ quiescent_Kernel22 (hKernel22 := hKernel22)
    ∧ quiescent_Kernel22Ideal (hKernel22Ideal := hKernel22Ideal)
    ∧ quiescent_Kernel22Ideal_pre_finite22 (hKernel22Ideal := hKernel22Ideal) (hPre_finite22 := hPre_finite22)
    ∧ quiescent_Reference22Ideal (hReference22Ideal := hReference22Ideal)
    ∧ quiescent_Reference22Ideal_pre_finite22 (hReference22Ideal := hReference22Ideal) (hPre_finite22 := hPre_finite22)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal_pre_finite21 (hKernel21Ideal := hKernel21Ideal) (hReference21Ideal := hReference21Ideal) (hPre_finite21 := hPre_finite21)
    ∧ preserves_Kernel22_Kernel22Ideal
    ∧ algebraic_Kernel22Ideal_Reference22Ideal_pre_finite22 (hKernel22Ideal := hKernel22Ideal) (hReference22Ideal := hReference22Ideal) (hPre_finite22 := hPre_finite22)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
-- ==== Pre_finite.lean ====
abbrev S4096x8320 : Shape := ⟨2, ![4096, 8320]⟩
abbrev S16x4096 : Shape := ⟨2, ![16, 4096]⟩
abbrev S4096x2048 : Shape := ⟨2, ![4096, 2048]⟩
abbrev S_ : Shape := ⟨0, ![]⟩

class Facts : Prop where
  bcast_S_S4096x8320 : S_.BroadcastsInDim S4096x8320 (![] : Fin 0 → Fin S4096x8320.rank)
  reducesTo_S4096x8320_S_d0_1 : S4096x8320.ReducesTo [0, 1] S_
  h_S_ : 0 < S_.numel
  bcast_S_S16x4096 : S_.BroadcastsInDim S16x4096 (![] : Fin 0 → Fin S16x4096.rank)
  reducesTo_S16x4096_S_d0_1 : S16x4096.ReducesTo [0, 1] S_
  bcast_S_S4096x2048 : S_.BroadcastsInDim S4096x2048 (![] : Fin 0 → Fin S4096x2048.rank)
  reducesTo_S4096x2048_S_d0_1 : S4096x2048.ReducesTo [0, 1] S_

variable [Facts]

def fn {F : FTy → Type} [FloatOps F] (main_arg0 : FVec F S4096x8320 .f32) (main_arg1 : FVec F S16x4096 .f32) (main_arg2 : FVec F S4096x2048 .f32) : IVec S_ 1 :=
  let main_v0 : FVec F S4096x8320 .f32 := Host.absf main_arg0
  let main_cst : FVec F S_ .f32 := constant S_ .f32 0x7F800000#32
  let main_v1 : FVec F S4096x8320 .f32 := broadcastInDim S4096x8320 ![] bcast_S_S4096x8320 main_cst
  let main_v2 : IVec S4096x8320 1 := cmpf .olt main_v0 main_v1
  let main_c : IVec S_ 1 := constantI S_ 1 1#1
  let main_v3 : IVec S_ 1 := (fun x v => Host.reduce IntOp.andi x v reducesTo_S4096x8320_S_d0_1 h_S_) main_v2 main_c
  let main_v4 : FVec F S16x4096 .f32 := Host.absf main_arg1
  let main_cst_0 : FVec F S_ .f32 := constant S_ .f32 0x7F800000#32
  let main_v5 : FVec F S16x4096 .f32 := broadcastInDim S16x4096 ![] bcast_S_S16x4096 main_cst_0
  let main_v6 : IVec S16x4096 1 := cmpf .olt main_v4 main_v5
  let main_c_1 : IVec S_ 1 := constantI S_ 1 1#1
  let main_v7 : IVec S_ 1 := (fun x v => Host.reduce IntOp.andi x v reducesTo_S16x4096_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  main_v13
-- ==== Pre_finite2.lean ====
abbrev S4096x8192 : Shape := ⟨2, ![4096, 8192]⟩
abbrev S4096x2048 : Shape := ⟨2, ![4096, 2048]⟩
abbrev S_ : Shape := ⟨0, ![]⟩

class Facts : Prop where
  bcast_S_S4096x8192 : S_.BroadcastsInDim S4096x8192 (![] : Fin 0 → Fin S4096x8192.rank)
  reducesTo_S4096x8192_S_d0_1 : S4096x8192.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_

variable [Facts]

def fn {F : FTy → Type} [FloatOps F] (main_arg0 : FVec F S4096x8192 .f32) (main_arg1 : FVec F S4096x2048 .f32) : IVec S_ 1 :=
  let main_v0 : FVec F S4096x8192 .f32 := Host.absf main_arg0
  let main_cst : FVec F S_ .f32 := constant S_ .f32 0x7F800000#32
  let main_v1 : FVec F S4096x8192 .f32 := broadcastInDim S4096x8192 ![] bcast_S_S4096x8192 main_cst
  let main_v2 : IVec S4096x8192 1 := cmpf .olt main_v0 main_v1
  let main_c : IVec S_ 1 := constantI S_ 1 1#1
  let main_v3 : IVec S_ 1 := (fun x v => Host.reduce IntOp.andi x v reducesTo_S4096x8192_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  main_v8
-- ==== Pre_finite21.lean ====
abbrev S4096x8192 : Shape := ⟨2, ![4096, 8192]⟩
abbrev S_ : Shape := ⟨0, ![]⟩

class Facts : Prop where
  bcast_S_S4096x8192 : S_.BroadcastsInDim S4096x8192 (![] : Fin 0 → Fin S4096x8192.rank)
  reducesTo_S4096x8192_S_d0_1 : S4096x8192.ReducesTo [0, 1] S_
  h_S_ : 0 < S_.numel

variable [Facts]

def fn {F : FTy → Type} [FloatOps F] (main_arg0 : FVec F S4096x8192 .f32) : IVec S_ 1 :=
  let main_v0 : FVec F S4096x8192 .f32 := Host.absf main_arg0
  let main_cst : FVec F S_ .f32 := constant S_ .f32 0x7F800000#32
  let main_v1 : FVec F S4096x8192 .f32 := broadcastInDim S4096x8192 ![] bcast_S_S4096x8192 main_cst
  let main_v2 : IVec S4096x8192 1 := cmpf .olt main_v0 main_v1
  let main_c : IVec S_ 1 := constantI S_ 1 1#1
  let main_v3 : IVec S_ 1 := (fun x v => Host.reduce IntOp.andi x v reducesTo_S4096x8192_S_d0_1 h_S_) main_v2 main_c
  main_v3
-- ==== Pre_finite22.lean ====
abbrev S4096x8320 : Shape := ⟨2, ![4096, 8320]⟩
abbrev S16x4096 : Shape := ⟨2, ![16, 4096]⟩
abbrev S_ : Shape := ⟨0, ![]⟩

class Facts : Prop where
  bcast_S_S4096x8320 : S_.BroadcastsInDim S4096x8320 (![] : Fin 0 → Fin S4096x8320.rank)
  reducesTo_S4096x8320_S_d0_1 : S4096x8320.ReducesTo [0, 1] S_
  h_S_ : 0 < S_.numel
  bcast_S_S16x4096 : S_.BroadcastsInDim S16x4096 (![] : Fin 0 → Fin S16x4096.rank)
  reducesTo_S16x4096_S_d0_1 : S16x4096.ReducesTo [0, 1] S_

variable [Facts]

def fn {F : FTy → Type} [FloatOps F] (main_arg0 : FVec F S4096x8320 .f32) (main_arg1 : FVec F S16x4096 .f32) : IVec S_ 1 :=
  let main_v0 : FVec F S4096x8320 .f32 := Host.absf main_arg0
  let main_cst : FVec F S_ .f32 := constant S_ .f32 0x7F800000#32
  let main_v1 : FVec F S4096x8320 .f32 := broadcastInDim S4096x8320 ![] bcast_S_S4096x8320 main_cst
  let main_v2 : IVec S4096x8320 1 := cmpf .olt main_v0 main_v1
  let main_c : IVec S_ 1 := constantI S_ 1 1#1
  let main_v3 : IVec S_ 1 := (fun x v => Host.reduce IntOp.andi x v reducesTo_S4096x8320_S_d0_1 h_S_) main_v2 main_c
  let main_v4 : FVec F S16x4096 .f32 := Host.absf main_arg1
  let main_cst_0 : FVec F S_ .f32 := constant S_ .f32 0x7F800000#32
  let main_v5 : FVec F S16x4096 .f32 := broadcastInDim S16x4096 ![] bcast_S_S16x4096 main_cst_0
  let main_v6 : IVec S16x4096 1 := cmpf .olt main_v4 main_v5
  let main_c_1 : IVec S_ 1 := constantI S_ 1 1#1
  let main_v7 : IVec S_ 1 := (fun x v => Host.reduce IntOp.andi x v reducesTo_S16x4096_S_d0_1 h_S_) main_v6 main_c_1
  let main_v8 : IVec S_ 1 := andi main_v3 main_v7
  main_v8
-- ==== Kernel.lean ====
abbrev S4096x8320 : Shape := ⟨2, ![4096, 8320]⟩
abbrev S16x4096 : Shape := ⟨2, ![16, 4096]⟩
abbrev S4096x2048 : Shape := ⟨2, ![4096, 2048]⟩
abbrev S4096x16x128 : Shape := ⟨3, ![4096, 16, 128]⟩
abbrev S16x4096x128 : Shape := ⟨3, ![16, 4096, 128]⟩
abbrev S16x4096x4096 : Shape := ⟨3, ![16, 4096, 4096]⟩
abbrev S_ : Shape := ⟨0, ![]⟩
abbrev S16x4096x1 : Shape := ⟨3, ![16, 4096, 1]⟩
abbrev S16x1x4096 : Shape := ⟨3, ![16, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S16x8x512 : Shape := ⟨3, ![16, 8, 512]⟩
abbrev S1024x128 : Shape := ⟨2, ![1024, 128]⟩
abbrev S4096x128 : Shape := ⟨2, ![4096, 128]⟩
abbrev S1x1024x1 : Shape := ⟨3, ![1, 1024, 1]⟩
abbrev S1x8x512 : Shape := ⟨3, ![1, 8, 512]⟩
abbrev S8x512 : Shape := ⟨2, ![8, 512]⟩
abbrev S1024 : Shape := ⟨1, ![1024]⟩
abbrev S1024x1 : Shape := ⟨2, ![1024, 1]⟩
abbrev S1024x512 : Shape := ⟨2, ![1024, 512]⟩
abbrev S512x128 : Shape := ⟨2, ![512, 128]⟩
abbrev S1x1x512 : Shape := ⟨3, ![1, 1, 512]⟩
abbrev S1x512 : Shape := ⟨2, ![1, 512]⟩
abbrev S512 : Shape := ⟨1, ![512]⟩

abbrev nBuf : Space → Nat
  | .hbm => 71
  | .vmem => 32
  | .smem => 0
  | _ => 0

abbrev bufTy : (tb : Table) → Fin (tcTables nBuf tb) → BufTy
  | .hbm, ⟨0, _⟩ => ⟨S4096x8320, .f32⟩
  | .hbm, ⟨1, _⟩ => ⟨S16x4096, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x16x128, .f32⟩
  | .hbm, ⟨8, _⟩ => ⟨S16x4096x128, .f32⟩
  | .hbm, ⟨9, _⟩ => ⟨S4096x16x128, .f32⟩
  | .hbm, ⟨10, _⟩ => ⟨S16x4096x128, .f32⟩
  | .hbm, ⟨11, _⟩ => ⟨S16x4096x4096, .f32⟩
  | .hbm, ⟨12, _⟩ => ⟨S_, .f32⟩
  | .hbm, ⟨13, _⟩ => ⟨S16x4096x4096, .f32⟩
  | .hbm, ⟨14, _⟩ => ⟨S16x4096x4096, .f32⟩
  | .hbm, ⟨15, _⟩ => ⟨S16x4096x1, .f32⟩
  | .hbm, ⟨16, _⟩ => ⟨S16x4096x4096, .f32⟩
  | .hbm, ⟨17, _⟩ => ⟨S16x4096x4096, .f32⟩
  | .hbm, ⟨18, _⟩ => ⟨S16x1x4096, .f32⟩
  | .hbm, ⟨19, _⟩ => ⟨S16x4096x4096, .f32⟩
  | .hbm, ⟨20, _⟩ => ⟨S16x4096x4096, .f32⟩
  | .hbm, ⟨21, _⟩ => ⟨S4096, .i32⟩
  | .hbm, ⟨22, _⟩ => ⟨S1x4096, .i32⟩
  | .hbm, ⟨23, _⟩ => ⟨S4096, .i32⟩
  | .hbm, ⟨24, _⟩ => ⟨S4096x1, .i32⟩
  | .hbm, ⟨25, _⟩ => ⟨S4096x4096, .i32⟩
  | .hbm, ⟨26, _⟩ => ⟨S4096x4096, .i32⟩
  | .hbm, ⟨27, _⟩ => ⟨S4096x4096, .i1⟩
  | .hbm, ⟨28, _⟩ => ⟨S_, .f32⟩
  | .hbm, ⟨29, _⟩ => ⟨S_, .f32⟩
  | .hbm, ⟨30, _⟩ => ⟨S16x4096x4096, .i1⟩
  | .hbm, ⟨31, _⟩ => ⟨S16x4096x4096, .f32⟩
  | .hbm, ⟨32, _⟩ => ⟨S16x4096x4096, .f32⟩
  | .hbm, ⟨33, _⟩ => ⟨S_, .f32⟩
  | .hbm, ⟨34, _⟩ => ⟨S16x4096, .f32⟩
  | .hbm, ⟨35, _⟩ => ⟨S_, .f32⟩
  | .hbm, ⟨36, _⟩ => ⟨S16x4096, .f32⟩
  | .hbm, ⟨37, _⟩ => ⟨S16x4096, .f32⟩
  | .hbm, ⟨38, _⟩ => ⟨S16x4096x1, .f32⟩
  | .hbm, ⟨39, _⟩ => ⟨S16x4096x4096, .f32⟩
  | .hbm, ⟨40, _⟩ => ⟨S16x4096x4096, .f32⟩
  | .hbm, ⟨41, _⟩ => ⟨S16x4096x4096, .f32⟩
  | .hbm, ⟨42, _⟩ => ⟨S_, .f32⟩
  | .hbm, ⟨43, _⟩ => ⟨S16x4096, .f32⟩
  | .hbm, ⟨44, _⟩ => ⟨S16x4096x1, .f32⟩
  | .hbm, ⟨45, _⟩ => ⟨S16x4096x4096, .f32⟩
  | .hbm, ⟨46, _⟩ => ⟨S16x4096x4096, .f32⟩
  | .hbm, ⟨47, _⟩ => ⟨S4096x16x128, .f32⟩
  | .hbm, ⟨48, _⟩ => ⟨S16x4096x128, .f32⟩
  | .hbm, ⟨49, _⟩ => ⟨S16x4096x128, .f32⟩
  | .hbm, ⟨50, _⟩ => ⟨S4096x16x128, .f32⟩
  | .hbm, ⟨51, _⟩ => ⟨S4096x2048, .f32⟩
  | .hbm, ⟨52, _⟩ => ⟨S_, .f32⟩
  | .hbm, ⟨53, _⟩ => ⟨S16x4096, .f32⟩
  | .hbm, ⟨54, _⟩ => ⟨S16x4096x1, .f32⟩
  | .hbm, ⟨55, _⟩ => ⟨S16x4096x4096, .f32⟩
  | .hbm, ⟨56, _⟩ => ⟨S16x4096x4096, .f32⟩
  | .hbm, ⟨57, _⟩ => ⟨S16x4096x4096, .f32⟩
  | .hbm, ⟨58, _⟩ => ⟨S_, .f32⟩
  | .hbm, ⟨59, _⟩ => ⟨S16x4096, .f32⟩
  | .hbm, ⟨60, _⟩ => ⟨S16x4096x1, .f32⟩
  | .hbm, ⟨61, _⟩ => ⟨S16x4096x1, .f32⟩
  | .hbm, ⟨62, _⟩ => ⟨S16x4096x1, .f32⟩
  | .hbm, ⟨63, _⟩ => ⟨S16x4096x1, .f32⟩
  | .hbm, ⟨64, _⟩ => ⟨S16x8x512, .f32⟩
  | .hbm, ⟨65, _⟩ => ⟨S4096x2048, .f32⟩
  | .hbm, ⟨66, _⟩ => ⟨S4096x2048, .f32⟩
  | .hbm, ⟨67, _⟩ => ⟨S4096x2048, .f32⟩
  | .hbm, ⟨68, _⟩ => ⟨S4096x2048, .bf16⟩
  | .hbm, ⟨69, _⟩ => ⟨S16x8x512, .f32⟩
  | .hbm, ⟨70, _⟩ => ⟨S16x4096x1, .f32⟩
  | .local _ .vmem, ⟨0, _⟩ => ⟨S1024x128, .f32⟩
  | .local _ .vmem, ⟨1, _⟩ => ⟨S1024x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1x1024x1, .f32⟩
  | .local _ .vmem, ⟨13, _⟩ => ⟨S1x1024x1, .f32⟩
  | .local _ .vmem, ⟨14, _⟩ => ⟨S1x1024x1, .f32⟩
  | .local _ .vmem, ⟨15, _⟩ => ⟨S1x1024x1, .f32⟩
  | .local _ .vmem, ⟨16, _⟩ => ⟨S1x8x512, .f32⟩
  | .local _ .vmem, ⟨17, _⟩ => ⟨S1x8x512, .f32⟩
  | .local _ .vmem, ⟨18, _⟩ => ⟨S1024x128, .f32⟩
  | .local _ .vmem, ⟨19, _⟩ => ⟨S1024x128, .f32⟩
  | .local _ .vmem, ⟨20, _⟩ => ⟨S4096x128, .f32⟩
  | .local _ .vmem, ⟨21, _⟩ => ⟨S4096x128, .f32⟩
  | .local _ .vmem, ⟨22, _⟩ => ⟨S4096x128, .f32⟩
  | .local _ .vmem, ⟨23, _⟩ => ⟨S4096x128, .f32⟩
  | .local _ .vmem, ⟨24, _⟩ => ⟨S1024x128, .bf16⟩
  | .local _ .vmem, ⟨25, _⟩ => ⟨S1024x128, .bf16⟩
  | .local _ .vmem, ⟨26, _⟩ => ⟨S1x8x512, .f32⟩
  | .local _ .vmem, ⟨27, _⟩ => ⟨S1x8x512, .f32⟩
  | .local _ .vmem, ⟨28, _⟩ => ⟨S1x1024x1, .f32⟩
  | .local _ .vmem, ⟨29, _⟩ => ⟨S1x1024x1, .f32⟩
  | .local _ .vmem, ⟨30, _⟩ => ⟨S4096x128, .bf16⟩
  | .local _ .vmem, ⟨31, _⟩ => ⟨S4096x128, .bf16⟩
  | _, _ => ⟨S4096x8320, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_cst_0 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v24 : Ref sig .tc := ⟨.hbm, 32, rfl⟩
abbrev main_cst_1 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_3 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_4 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_5 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52_0 : Ref sig .tc := ⟨.hbm, 65, rfl⟩
abbrev main_v52_1 : Ref sig .tc := ⟨.hbm, 66, rfl⟩
abbrev main_v52_2 : Ref sig .tc := ⟨.hbm, 67, rfl⟩
abbrev main_v52_3 : Ref sig .tc := ⟨.hbm, 68, rfl⟩
abbrev main_v52_4 : Ref sig .tc := ⟨.hbm, 69, rfl⟩
abbrev main_v52_5 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_scratch0 : Ref sig .tc := ⟨.vmem, 30, rfl⟩
abbrev cc0_scratch1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨2, ![16, 4], ![false, false]⟩

@[reducible] def k0_t1_loop (i : grid0.Coords) : Scf.Loop 32 :=
  let c0_i32_32 : BitVec 32 := 0#32
  let arg1 : BitVec 32 := BitVec.ofNat 32 (i 1).val
  let c2_i32 : BitVec 32 := 2#32
  let v43 : BitVec 32 := Scalar.muli arg1 c2_i32
  let c0_i32_25 : BitVec 32 := 0#32
  let v45 : BitVec 1 := Scalar.cmpi .sgt v43 c0_i32_25
  let v46 : BitVec 32 := Scalar.extui v45
  let c0_i32_26 : BitVec 32 := 0#32
  let v47 : BitVec 1 := Scalar.cmpi .slt v43 c0_i32_26
  let v48 : BitVec 32 := Scalar.extui v47
  let v49 : BitVec 32 := Scalar.subi v46 v48
  let c2_i32_24 : BitVec 32 := 2#32
  let c0_i32_27 : BitVec 32 := 0#32
  let v50 : BitVec 1 := Scalar.cmpi .sgt c2_i32_24 c0_i32_27
  let v51 : BitVec 32 := Scalar.extui v50
  let c0_i32_28 : BitVec 32 := 0#32
  let v52 : BitVec 1 := Scalar.cmpi .slt c2_i32_24 c0_i32_28
  let v53 : BitVec 32 := Scalar.extui v52
  let v54 : BitVec 32 := Scalar.subi v51 v53
  let v55 : BitVec 1 := Scalar.cmpi .ne v49 v54
  let v56 : BitVec 32 := Scalar.remsi v43 c2_i32_24
  let c0_i32_29 : BitVec 32 := 0#32
  let v57 : BitVec 1 := Scalar.cmpi .ne v56 c0_i32_29
  let v58 : BitVec 1 := Scalar.andi v55 v57
  let v44 : BitVec 32 := Scalar.divsi v43 c2_i32_24
  let c1_i32 : BitVec 32 := 1#32
  let v59 : BitVec 32 := Scalar.subi v44 c1_i32
  let v60 : BitVec 32 := Scalar.select v58 v59 v44
  let v63 : BitVec 32 := Scalar.subi v60 c0_i32_32
  let c1_i32_33 : BitVec 32 := 1#32
  let v65 : BitVec 32 := Scalar.divsi v63 c1_i32_33
  let v66 : BitVec 32 := Scalar.muli v65 c1_i32_33
  let v67 : BitVec 32 := Scalar.addi c0_i32_32 v66
  let c1_i32_34 : BitVec 32 := 1#32
  ⟨c0_i32_32, v67, c1_i32_34⟩
def k0_mult1 (i : grid0.Coords) (k0_t1 : Fin (k0_t1_loop i).trips) : BitVec 32 :=
  let c2_i32_87 : BitVec 32 := 2#32
  let c0_i32_32 : BitVec 32 := 0#32
  let c1_i32_34 : BitVec 32 := 1#32
  let arg19 : BitVec 32 := Scf.iv c0_i32_32 c1_i32_34 k0_t1
  let v198 : BitVec 32 := Scalar.muli c2_i32_87 arg19
  let c0_i32_88 : BitVec 32 := 0#32
  let v199 : BitVec 32 := Scalar.addi v198 c0_i32_88
  let c512_i32_89 : BitVec 32 := 512#32
  let v200 : BitVec 32 := Scalar.muli v199 c512_i32_89
  v200
def k0_off1 (i : grid0.Coords) (k0_t1 : Fin (k0_t1_loop i).trips) (c0_i32_88 : BitVec 32) : Fin 2 → Nat :=
  let c2_i32_87 : BitVec 32 := 2#32
  let c0_i32_32 : BitVec 32 := 0#32
  let c1_i32_34 : BitVec 32 := 1#32
  let arg19 : BitVec 32 := Scf.iv c0_i32_32 c1_i32_34 k0_t1
  let v198 : BitVec 32 := Scalar.muli c2_i32_87 arg19
  let v199 : BitVec 32 := Scalar.addi v198 c0_i32_88
  let c512_i32_89 : BitVec 32 := 512#32
  let v200 : BitVec 32 := Scalar.muli v199 c512_i32_89
  let v201 : BitVec 32 := v200
  let v202 : Index := Scalar.indexCast v201
  let c0_90 : Index := 0#32
  ![v202.toNat, 0]
def k0_off2 (i : grid0.Coords) (k0_t1 : Fin (k0_t1_loop i).trips) (c0_i32_88 : BitVec 32) : Fin 3 → Nat :=
  let c0_92 : Index := 0#32
  let c2_i32_87 : BitVec 32 := 2#32
  let c0_i32_32 : BitVec 32 := 0#32
  let c1_i32_34 : BitVec 32 := 1#32
  let arg19 : BitVec 32 := Scf.iv c0_i32_32 c1_i32_34 k0_t1
  let v198 : BitVec 32 := Scalar.muli c2_i32_87 arg19
  let v199 : BitVec 32 := Scalar.addi v198 c0_i32_88
  let v207 : Index := Scalar.indexCast v199
  let c0_93 : Index := 0#32
  ![0, v207.toNat, 0]
def k0_mult2 (i : grid0.Coords) (k0_t1 : Fin (k0_t1_loop i).trips) : BitVec 32 :=
  let c2_i32_109 : BitVec 32 := 2#32
  let c0_i32_32 : BitVec 32 := 0#32
  let c1_i32_34 : BitVec 32 := 1#32
  let arg19 : BitVec 32 := Scf.iv c0_i32_32 c1_i32_34 k0_t1
  let v252 : BitVec 32 := Scalar.muli c2_i32_109 arg19
  let c1_i32_110 : BitVec 32 := 1#32
  let v253 : BitVec 32 := Scalar.addi v252 c1_i32_110
  let c512_i32_111 : BitVec 32 := 512#32
  let v254 : BitVec 32 := Scalar.muli v253 c512_i32_111
  v254
@[reducible] def k0_t2_loop (i : grid0.Coords) : Scf.Loop 32 :=
  let c0_i32_32 : BitVec 32 := 0#32
  let arg1 : BitVec 32 := BitVec.ofNat 32 (i 1).val
  let c2_i32 : BitVec 32 := 2#32
  let v43 : BitVec 32 := Scalar.muli arg1 c2_i32
  let c0_i32_25 : BitVec 32 := 0#32
  let v45 : BitVec 1 := Scalar.cmpi .sgt v43 c0_i32_25
  let v46 : BitVec 32 := Scalar.extui v45
  let c0_i32_26 : BitVec 32 := 0#32
  let v47 : BitVec 1 := Scalar.cmpi .slt v43 c0_i32_26
  let v48 : BitVec 32 := Scalar.extui v47
  let v49 : BitVec 32 := Scalar.subi v46 v48
  let c2_i32_24 : BitVec 32 := 2#32
  let c0_i32_27 : BitVec 32 := 0#32
  let v50 : BitVec 1 := Scalar.cmpi .sgt c2_i32_24 c0_i32_27
  let v51 : BitVec 32 := Scalar.extui v50
  let c0_i32_28 : BitVec 32 := 0#32
  let v52 : BitVec 1 := Scalar.cmpi .slt c2_i32_24 c0_i32_28
  let v53 : BitVec 32 := Scalar.extui v52
  let v54 : BitVec 32 := Scalar.subi v51 v53
  let v55 : BitVec 1 := Scalar.cmpi .ne v49 v54
  let v56 : BitVec 32 := Scalar.remsi v43 c2_i32_24
  let c0_i32_29 : BitVec 32 := 0#32
  let v57 : BitVec 1 := Scalar.cmpi .ne v56 c0_i32_29
  let v58 : BitVec 1 := Scalar.andi v55 v57
  let v44 : BitVec 32 := Scalar.divsi v43 c2_i32_24
  let c1_i32 : BitVec 32 := 1#32
  let v59 : BitVec 32 := Scalar.subi v44 c1_i32
  let v60 : BitVec 32 := Scalar.select v58 v59 v44
  let v63 : BitVec 32 := Scalar.subi v60 c0_i32_32
  let c1_i32_33 : BitVec 32 := 1#32
  let v65 : BitVec 32 := Scalar.divsi v63 c1_i32_33
  let v66 : BitVec 32 := Scalar.muli v65 c1_i32_33
  let v67 : BitVec 32 := Scalar.addi c0_i32_32 v66
  let v64 : BitVec 32 := Scalar.addi c0_i32_32 v63
  let c1_i32_35 : BitVec 32 := 1#32
  ⟨v67, v64, c1_i32_35⟩
def k0_mult3 (i : grid0.Coords) (k0_t2 : Fin (k0_t2_loop i).trips) : BitVec 32 :=
  let c2_i32_87 : BitVec 32 := 2#32
  let c0_i32_32 : BitVec 32 := 0#32
  let arg1 : BitVec 32 := BitVec.ofNat 32 (i 1).val
  let c2_i32 : BitVec 32 := 2#32
  let v43 : BitVec 32 := Scalar.muli arg1 c2_i32
  let c0_i32_25 : BitVec 32 := 0#32
  let v45 : BitVec 1 := Scalar.cmpi .sgt v43 c0_i32_25
  let v46 : BitVec 32 := Scalar.extui v45
  let c0_i32_26 : BitVec 32 := 0#32
  let v47 : BitVec 1 := Scalar.cmpi .slt v43 c0_i32_26
  let v48 : BitVec 32 := Scalar.extui v47
  let v49 : BitVec 32 := Scalar.subi v46 v48
  let c2_i32_24 : BitVec 32 := 2#32
  let c0_i32_27 : BitVec 32 := 0#32
  let v50 : BitVec 1 := Scalar.cmpi .sgt c2_i32_24 c0_i32_27
  let v51 : BitVec 32 := Scalar.extui v50
  let c0_i32_28 : BitVec 32 := 0#32
  let v52 : BitVec 1 := Scalar.cmpi .slt c2_i32_24 c0_i32_28
  let v53 : BitVec 32 := Scalar.extui v52
  let v54 : BitVec 32 := Scalar.subi v51 v53
  let v55 : BitVec 1 := Scalar.cmpi .ne v49 v54
  let v56 : BitVec 32 := Scalar.remsi v43 c2_i32_24
  let c0_i32_29 : BitVec 32 := 0#32
  let v57 : BitVec 1 := Scalar.cmpi .ne v56 c0_i32_29
  let v58 : BitVec 1 := Scalar.andi v55 v57
  let v44 : BitVec 32 := Scalar.divsi v43 c2_i32_24
  let c1_i32 : BitVec 32 := 1#32
  let v59 : BitVec 32 := Scalar.subi v44 c1_i32
  let v60 : BitVec 32 := Scalar.select v58 v59 v44
  let v63 : BitVec 32 := Scalar.subi v60 c0_i32_32
  let c1_i32_33 : BitVec 32 := 1#32
  let v65 : BitVec 32 := Scalar.divsi v63 c1_i32_33
  let v66 : BitVec 32 := Scalar.muli v65 c1_i32_33
  let v67 : BitVec 32 := Scalar.addi c0_i32_32 v66
  let c1_i32_35 : BitVec 32 := 1#32
  let arg19 : BitVec 32 := Scf.iv v67 c1_i32_35 k0_t2
  let v198 : BitVec 32 := Scalar.muli c2_i32_87 arg19
  let c0_i32_88 : BitVec 32 := 0#32
  let v199 : BitVec 32 := Scalar.addi v198 c0_i32_88
  let c512_i32_89 : BitVec 32 := 512#32
  let v200 : BitVec 32 := Scalar.muli v199 c512_i32_89
  v200
def k0_off3 (i : grid0.Coords) (k0_t2 : Fin (k0_t2_loop i).trips) (c0_i32_88 : BitVec 32) : Fin 2 → Nat :=
  let c2_i32_87 : BitVec 32 := 2#32
  let c0_i32_32 : BitVec 32 := 0#32
  let arg1 : BitVec 32 := BitVec.ofNat 32 (i 1).val
  let c2_i32 : BitVec 32 := 2#32
  let v43 : BitVec 32 := Scalar.muli arg1 c2_i32
  let c0_i32_25 : BitVec 32 := 0#32
  let v45 : BitVec 1 := Scalar.cmpi .sgt v43 c0_i32_25
  let v46 : BitVec 32 := Scalar.extui v45
  let c0_i32_26 : BitVec 32 := 0#32
  let v47 : BitVec 1 := Scalar.cmpi .slt v43 c0_i32_26
  let v48 : BitVec 32 := Scalar.extui v47
  let v49 : BitVec 32 := Scalar.subi v46 v48
  let c2_i32_24 : BitVec 32 := 2#32
  let c0_i32_27 : BitVec 32 := 0#32
  let v50 : BitVec 1 := Scalar.cmpi .sgt c2_i32_24 c0_i32_27
  let v51 : BitVec 32 := Scalar.extui v50
  let c0_i32_28 : BitVec 32 := 0#32
  let v52 : BitVec 1 := Scalar.cmpi .slt c2_i32_24 c0_i32_28
  let v53 : BitVec 32 := Scalar.extui v52
  let v54 : BitVec 32 := Scalar.subi v51 v53
  let v55 : BitVec 1 := Scalar.cmpi .ne v49 v54
  let v56 : BitVec 32 := Scalar.remsi v43 c2_i32_24
  let c0_i32_29 : BitVec 32 := 0#32
  let v57 : BitVec 1 := Scalar.cmpi .ne v56 c0_i32_29
  let v58 : BitVec 1 := Scalar.andi v55 v57
  let v44 : BitVec 32 := Scalar.divsi v43 c2_i32_24
  let c1_i32 : BitVec 32 := 1#32
  let v59 : BitVec 32 := Scalar.subi v44 c1_i32
  let v60 : BitVec 32 := Scalar.select v58 v59 v44
  let v63 : BitVec 32 := Scalar.subi v60 c0_i32_32
  let c1_i32_33 : BitVec 32 := 1#32
  let v65 : BitVec 32 := Scalar.divsi v63 c1_i32_33
  let v66 : BitVec 32 := Scalar.muli v65 c1_i32_33
  let v67 : BitVec 32 := Scalar.addi c0_i32_32 v66
  let c1_i32_35 : BitVec 32 := 1#32
  let arg19 : BitVec 32 := Scf.iv v67 c1_i32_35 k0_t2
  let v198 : BitVec 32 := Scalar.muli c2_i32_87 arg19
  let v199 : BitVec 32 := Scalar.addi v198 c0_i32_88
  let c512_i32_89 : BitVec 32 := 512#32
  let v200 : BitVec 32 := Scalar.muli v199 c512_i32_89
  let v201 : BitVec 32 := v200
  let v202 : Index := Scalar.indexCast v201
  let c0_90 : Index := 0#32
  ![v202.toNat, 0]
def k0_off4 (i : grid0.Coords) (k0_t2 : Fin (k0_t2_loop i).trips) (c0_i32_88 : BitVec 32) : Fin 3 → Nat :=
  let c0_92 : Index := 0#32
  let c2_i32_87 : BitVec 32 := 2#32
  let c0_i32_32 : BitVec 32 := 0#32
  let arg1 : BitVec 32 := BitVec.ofNat 32 (i 1).val
  let c2_i32 : BitVec 32 := 2#32
  let v43 : BitVec 32 := Scalar.muli arg1 c2_i32
  let c0_i32_25 : BitVec 32 := 0#32
  let v45 : BitVec 1 := Scalar.cmpi .sgt v43 c0_i32_25
  let v46 : BitVec 32 := Scalar.extui v45
  let c0_i32_26 : BitVec 32 := 0#32
  let v47 : BitVec 1 := Scalar.cmpi .slt v43 c0_i32_26
  let v48 : BitVec 32 := Scalar.extui v47
  let v49 : BitVec 32 := Scalar.subi v46 v48
  let c2_i32_24 : BitVec 32 := 2#32
  let c0_i32_27 : BitVec 32 := 0#32
  let v50 : BitVec 1 := Scalar.cmpi .sgt c2_i32_24 c0_i32_27
  let v51 : BitVec 32 := Scalar.extui v50
  let c0_i32_28 : BitVec 32 := 0#32
  let v52 : BitVec 1 := Scalar.cmpi .slt c2_i32_24 c0_i32_28
  let v53 : BitVec 32 := Scalar.extui v52
  let v54 : BitVec 32 := Scalar.subi v51 v53
  let v55 : BitVec 1 := Scalar.cmpi .ne v49 v54
  let v56 : BitVec 32 := Scalar.remsi v43 c2_i32_24
  let c0_i32_29 : BitVec 32 := 0#32
  let v57 : BitVec 1 := Scalar.cmpi .ne v56 c0_i32_29
  let v58 : BitVec 1 := Scalar.andi v55 v57
  let v44 : BitVec 32 := Scalar.divsi v43 c2_i32_24
  let c1_i32 : BitVec 32 := 1#32
  let v59 : BitVec 32 := Scalar.subi v44 c1_i32
  let v60 : BitVec 32 := Scalar.select v58 v59 v44
  let v63 : BitVec 32 := Scalar.subi v60 c0_i32_32
  let c1_i32_33 : BitVec 32 := 1#32
  let v65 : BitVec 32 := Scalar.divsi v63 c1_i32_33
  let v66 : BitVec 32 := Scalar.muli v65 c1_i32_33
  let v67 : BitVec 32 := Scalar.addi c0_i32_32 v66
  let c1_i32_35 : BitVec 32 := 1#32
  let arg19 : BitVec 32 := Scf.iv v67 c1_i32_35 k0_t2
  let v198 : BitVec 32 := Scalar.muli c2_i32_87 arg19
  let v199 : BitVec 32 := Scalar.addi v198 c0_i32_88
  let v207 : Index := Scalar.indexCast v199
  let c0_93 : Index := 0#32
  ![0, v207.toNat, 0]
def k0_mult4 (i : grid0.Coords) (k0_t2 : Fin (k0_t2_loop i).trips) : BitVec 32 :=
  let c2_i32_109 : BitVec 32 := 2#32
  let c0_i32_32 : BitVec 32 := 0#32
  let arg1 : BitVec 32 := BitVec.ofNat 32 (i 1).val
  let c2_i32 : BitVec 32 := 2#32
  let v43 : BitVec 32 := Scalar.muli arg1 c2_i32
  let c0_i32_25 : BitVec 32 := 0#32
  let v45 : BitVec 1 := Scalar.cmpi .sgt v43 c0_i32_25
  let v46 : BitVec 32 := Scalar.extui v45
  let c0_i32_26 : BitVec 32 := 0#32
  let v47 : BitVec 1 := Scalar.cmpi .slt v43 c0_i32_26
  let v48 : BitVec 32 := Scalar.extui v47
  let v49 : BitVec 32 := Scalar.subi v46 v48
  let c2_i32_24 : BitVec 32 := 2#32
  let c0_i32_27 : BitVec 32 := 0#32
  let v50 : BitVec 1 := Scalar.cmpi .sgt c2_i32_24 c0_i32_27
  let v51 : BitVec 32 := Scalar.extui v50
  let c0_i32_28 : BitVec 32 := 0#32
  let v52 : BitVec 1 := Scalar.cmpi .slt c2_i32_24 c0_i32_28
  let v53 : BitVec 32 := Scalar.extui v52
  let v54 : BitVec 32 := Scalar.subi v51 v53
  let v55 : BitVec 1 := Scalar.cmpi .ne v49 v54
  let v56 : BitVec 32 := Scalar.remsi v43 c2_i32_24
  let c0_i32_29 : BitVec 32 := 0#32
  let v57 : BitVec 1 := Scalar.cmpi .ne v56 c0_i32_29
  let v58 : BitVec 1 := Scalar.andi v55 v57
  let v44 : BitVec 32 := Scalar.divsi v43 c2_i32_24
  let c1_i32 : BitVec 32 := 1#32
  let v59 : BitVec 32 := Scalar.subi v44 c1_i32
  let v60 : BitVec 32 := Scalar.select v58 v59 v44
  let v63 : BitVec 32 := Scalar.subi v60 c0_i32_32
  let c1_i32_33 : BitVec 32 := 1#32
  let v65 : BitVec 32 := Scalar.divsi v63 c1_i32_33
  let v66 : BitVec 32 := Scalar.muli v65 c1_i32_33
  let v67 : BitVec 32 := Scalar.addi c0_i32_32 v66
  let c1_i32_35 : BitVec 32 := 1#32
  let arg19 : BitVec 32 := Scf.iv v67 c1_i32_35 k0_t2
  let v252 : BitVec 32 := Scalar.muli c2_i32_109 arg19
  let c1_i32_110 : BitVec 32 := 1#32
  let v253 : BitVec 32 := Scalar.addi v252 c1_i32_110
  let c512_i32_111 : BitVec 32 := 512#32
  let v254 : BitVec 32 := Scalar.muli v253 c512_i32_111
  v254
def k0_mult5 (i : grid0.Coords) : BitVec 32 :=
  let arg1 : BitVec 32 := BitVec.ofNat 32 (i 1).val
  let c2_i32_36 : BitVec 32 := 2#32
  let v70 : BitVec 32 := Scalar.muli arg1 c2_i32_36
  let c0_i32_37 : BitVec 32 := 0#32
  let v71 : BitVec 32 := Scalar.addi v70 c0_i32_37
  let c512_i32 : BitVec 32 := 512#32
  let v72 : BitVec 32 := Scalar.muli v71 c512_i32
  v72
def k0_off5 (i : grid0.Coords) (c0_i32_37 : BitVec 32) : Fin 2 → Nat :=
  let arg1 : BitVec 32 := BitVec.ofNat 32 (i 1).val
  let c2_i32_36 : BitVec 32 := 2#32
  let v70 : BitVec 32 := Scalar.muli arg1 c2_i32_36
  let v71 : BitVec 32 := Scalar.addi v70 c0_i32_37
  let c512_i32 : BitVec 32 := 512#32
  let v72 : BitVec 32 := Scalar.muli v71 c512_i32
  let v73 : BitVec 32 := v72
  let v74 : Index := Scalar.indexCast v73
  let c0_38 : Index := 0#32
  ![v74.toNat, 0]
def k0_off6 (i : grid0.Coords) (c0_i32_37 : BitVec 32) : Fin 3 → Nat :=
  let c0_40 : Index := 0#32
  let arg1 : BitVec 32 := BitVec.ofNat 32 (i 1).val
  let c2_i32_36 : BitVec 32 := 2#32
  let v70 : BitVec 32 := Scalar.muli arg1 c2_i32_36
  let v71 : BitVec 32 := Scalar.addi v70 c0_i32_37
  let v79 : Index := Scalar.indexCast v71
  let c0_41 : Index := 0#32
  ![0, v79.toNat, 0]
def k0_mult6 (i : grid0.Coords) : BitVec 32 :=
  let arg1 : BitVec 32 := BitVec.ofNat 32 (i 1).val
  let c2_i32_58 : BitVec 32 := 2#32
  let v131 : BitVec 32 := Scalar.muli arg1 c2_i32_58
  let c1_i32_59 : BitVec 32 := 1#32
  let v132 : BitVec 32 := Scalar.addi v131 c1_i32_59
  let c512_i32_60 : BitVec 32 := 512#32
  let v133 : BitVec 32 := Scalar.muli v132 c512_i32_60
  v133
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c48_i32 : BitVec 32 := 48#32
  let v0 : BitVec 32 := Scalar.addi c48_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x8x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S4096x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S4096x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1024x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x8x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x1024x1 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S4096x8320 : Shape := ⟨2, ![4096, 8320]⟩
abbrev S16x4096 : Shape := ⟨2, ![16, 4096]⟩
abbrev S4096x2048 : Shape := ⟨2, ![4096, 2048]⟩
abbrev S4096x16x128 : Shape := ⟨3, ![4096, 16, 128]⟩
abbrev S16x4096x128 : Shape := ⟨3, ![16, 4096, 128]⟩
abbrev S16x4096x4096 : Shape := ⟨3, ![16, 4096, 4096]⟩
abbrev S_ : Shape := ⟨0, ![]⟩
abbrev S16x4096x1 : Shape := ⟨3, ![16, 4096, 1]⟩
abbrev S16x1x4096 : Shape := ⟨3, ![16, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S16x128x4096 : Shape := ⟨3, ![16, 128, 4096]⟩
abbrev S16x8x512 : Shape := ⟨3, ![16, 8, 512]⟩

abbrev nBuf : Space → Nat
  | .hbm => 145
  | .vmem => 0
  | .smem => 0
  | _ => 0

abbrev hbmTy0_0 (i : Nat) : BufTy := match i % 128 with
  | 0 => ⟨S4096x8320, .f32⟩
  | 1 => ⟨S16x4096, .f32⟩
  | 2 => ⟨S4096x2048, .f32⟩
  | 3 => ⟨S4096x2048, .f32⟩
  | 4 => ⟨S4096x2048, .f32⟩
  | 5 => ⟨S4096x2048, .f32⟩
  | 6 => ⟨S4096x2048, .f32⟩
  | 7 => ⟨S4096x16x128, .f32⟩
  | 8 => ⟨S16x4096x128, .f32⟩
  | 9 => ⟨S4096x16x128, .f32⟩
  | 10 => ⟨S16x4096x128, .f32⟩
  | 11 => ⟨S16x4096x4096, .f32⟩
  | 12 => ⟨S_, .f32⟩
  | 13 => ⟨S16x4096x4096, .f32⟩
  | 14 => ⟨S16x4096x4096, .f32⟩
  | 15 => ⟨S16x4096x1, .f32⟩
  | 16 => ⟨S16x4096x4096, .f32⟩
  | 17 => ⟨S16x4096x4096, .f32⟩
  | 18 => ⟨S16x1x4096, .f32⟩
  | 19 => ⟨S16x4096x4096, .f32⟩
  | 20 => ⟨S16x4096x4096, .f32⟩
  | 21 => ⟨S4096, .i32⟩
  | 22 => ⟨S1x4096, .i32⟩
  | 23 => ⟨S4096, .i32⟩
  | 24 => ⟨S4096x1, .i32⟩
  | 25 => ⟨S4096x4096, .i32⟩
  | 26 => ⟨S4096x4096, .i32⟩
  | 27 => ⟨S4096x4096, .i1⟩
  | 28 => ⟨S_, .f32⟩
  | 29 => ⟨S_, .f32⟩
  | 30 => ⟨S16x4096x4096, .i1⟩
  | 31 => ⟨S16x4096x4096, .f32⟩
  | 32 => ⟨S16x4096x4096, .f32⟩
  | 33 => ⟨S_, .f32⟩
  | 34 => ⟨S16x4096x4096, .f32⟩
  | 35 => ⟨S_, .f32⟩
  | 36 => ⟨S16x4096, .f32⟩
  | 37 => ⟨S16x4096x1, .f32⟩
  | 38 => ⟨S16x4096x4096, .f32⟩
  | 39 => ⟨S16x4096x4096, .i1⟩
  | 40 => ⟨S16x4096x4096, .f32⟩
  | 41 => ⟨S_, .f32⟩
  | 42 => ⟨S16x4096, .f32⟩
  | 43 => ⟨S_, .f32⟩
  | 44 => ⟨S16x4096, .f32⟩
  | 45 => ⟨S16x4096, .f32⟩
  | 46 => ⟨S_, .f32⟩
  | 47 => ⟨S16x4096, .f32⟩
  | 48 => ⟨S16x4096, .i1⟩
  | 49 => ⟨S_, .f32⟩
  | 50 => ⟨S16x4096, .f32⟩
  | 51 => ⟨S16x4096, .i1⟩
  | 52 => ⟨S_, .f32⟩
  | 53 => ⟨S16x4096, .f32⟩
  | 54 => ⟨S_, .f32⟩
  | 55 => ⟨S16x4096, .f32⟩
  | 56 => ⟨S_, .f32⟩
  | 57 => ⟨S16x4096, .f32⟩
  | 58 => ⟨S16x4096, .f32⟩
  | 59 => ⟨S16x4096, .f32⟩
  | 60 => ⟨S16x4096x1, .f32⟩
  | 61 => ⟨S16x4096x4096, .f32⟩
  | 62 => ⟨S16x4096x4096, .f32⟩
  | 63 => ⟨S16x4096x4096, .f32⟩
  | 64 => ⟨S_, .f32⟩
  | 65 => ⟨S16x4096, .f32⟩
  | 66 => ⟨S16x4096x1, .f32⟩
  | 67 => ⟨S16x4096x4096, .f32⟩
  | 68 => ⟨S16x4096x4096, .f32⟩
  | 69 => ⟨S16x4096x1, .f32⟩
  | 70 => ⟨S_, .f32⟩
  | 71 => ⟨S16x4096x1, .f32⟩
  | 72 => ⟨S16x4096x1, .f32⟩
  | 73 => ⟨S4096x16x128, .f32⟩
  | 74 => ⟨S16x4096x128, .f32⟩
  | 75 => ⟨S16x4096x128, .f32⟩
  | 76 => ⟨S4096x16x128, .f32⟩
  | 77 => ⟨S4096x2048, .f32⟩
  | 78 => ⟨S4096x2048, .f32⟩
  | 79 => ⟨S4096x2048, .f32⟩
  | 80 => ⟨S_, .f32⟩
  | 81 => ⟨S4096x2048, .f32⟩
  | 82 => ⟨S4096x2048, .f32⟩
  | 83 => ⟨S_, .f32⟩
  | 84 => ⟨S4096x2048, .f32⟩
  | 85 => ⟨S4096x2048, .f32⟩
  | 86 => ⟨S_, .f32⟩
  | 87 => ⟨S4096x2048, .f32⟩
  | 88 => ⟨S4096x2048, .f32⟩
  | 89 => ⟨S4096x2048, .f32⟩
  | 90 => ⟨S4096x2048, .f32⟩
  | 91 => ⟨S4096x2048, .f32⟩
  | 92 => ⟨S4096x2048, .f32⟩
  | 93 => ⟨S4096x2048, .f32⟩
  | 94 => ⟨S4096x2048, .f32⟩
  | 95 => ⟨S4096x2048, .f32⟩
  | 96 => ⟨S4096x2048, .f32⟩
  | 97 => ⟨S4096x2048, .f32⟩
  | 98 => ⟨S4096x16x128, .f32⟩
  | 99 => ⟨S16x4096x128, .f32⟩
  | 100 => ⟨S16x128x4096, .f32⟩
  | 101 => ⟨S16x4096x128, .f32⟩
  | 102 => ⟨S16x4096x4096, .f32⟩
  | 103 => ⟨S4096x16x128, .f32⟩
  | 104 => ⟨S4096x2048, .f32⟩
  | 105 => ⟨S16x4096x4096, .f32⟩
  | 106 => ⟨S16x4096x4096, .f32⟩
  | 107 => ⟨S16x4096x4096, .f32⟩
  | 108 => ⟨S_, .f32⟩
  | 109 => ⟨S16x4096, .f32⟩
  | 110 => ⟨S16x4096x1, .f32⟩
  | 111 => ⟨S16x4096x1, .f32⟩
  | 112 => ⟨S16x4096x4096, .f32⟩
  | 113 => ⟨S16x4096x4096, .f32⟩
  | 114 => ⟨S_, .f32⟩
  | 115 => ⟨S16x4096, .f32⟩
  | 116 => ⟨S16x4096x4096, .f32⟩
  | 117 => ⟨S16x4096x4096, .f32⟩
  | 118 => ⟨S16x4096x4096, .f32⟩
  | 119 => ⟨S_, .f32⟩
  | 120 => ⟨S16x4096x4096, .f32⟩
  | 121 => ⟨S16x4096x4096, .f32⟩
  | 122 => ⟨S16x4096x4096, .f32⟩
  | 123 => ⟨S_, .f32⟩
  | 124 => ⟨S16x4096, .f32⟩
  | 125 => ⟨S16x1x4096, .f32⟩
  | 126 => ⟨S_, .f32⟩
  | 127 => ⟨S16x4096, .f32⟩
  | _ => ⟨S4096x8320, .f32⟩

abbrev hbmTy0_1 (i : Nat) : BufTy := match i % 128 with
  | 0 => ⟨S_, .f32⟩
  | 1 => ⟨S16x4096, .f32⟩
  | 2 => ⟨S16x4096x1, .f32⟩
  | 3 => ⟨S_, .f32⟩
  | 4 => ⟨S16x4096, .f32⟩
  | 5 => ⟨S_, .f32⟩
  | 6 => ⟨S16x4096x4096, .f32⟩
  | 7 => ⟨S16x4096x4096, .f32⟩
  | 8 => ⟨S16x4096x128, .f32⟩
  | 9 => ⟨S16x4096x128, .f32⟩
  | 10 => ⟨S4096x16x128, .f32⟩
  | 11 => ⟨S4096x2048, .f32⟩
  | 12 => ⟨S4096x16x128, .f32⟩
  | 13 => ⟨S4096x2048, .f32⟩
  | 14 => ⟨S4096x2048, .bf16⟩
  | 15 => ⟨S16x8x512, .f32⟩
  | 16 => ⟨S16x4096x1, .f32⟩
  | _ => ⟨S4096x8320, .f32⟩

abbrev hbmTy (i : Nat) : BufTy := match i / 128 with
  | 0 => hbmTy0_0 i
  | 1 => hbmTy0_1 i
  | _ => ⟨S4096x8320, .f32⟩

abbrev bufTy : (tb : Table) → Fin (tcTables nBuf tb) → BufTy
  | .hbm, ⟨i, _⟩ => hbmTy i
  | _, _ => ⟨S4096x8320, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_cst_0 : Ref sig .tc := ⟨.hbm, 28, rfl⟩
abbrev main_call0_v0 : Ref sig .tc := ⟨.hbm, 29, rfl⟩
abbrev main_v24_1 : Ref sig .tc := ⟨.hbm, 30, rfl⟩
abbrev main_call0_v2 : Ref sig .tc := ⟨.hbm, 31, rfl⟩
abbrev main_v24_0 : Ref sig .tc := ⟨.hbm, 32, rfl⟩
abbrev main_call0_cst : Ref sig .tc := ⟨.hbm, 33, rfl⟩
abbrev main_v24_2 : Ref sig .tc := ⟨.hbm, 34, rfl⟩
abbrev main_cst_1 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_2 : Ref sig .tc := ⟨.hbm, 41, rfl⟩
abbrev main_v30 : Ref sig .tc := ⟨.hbm, 42, rfl⟩
abbrev main_cst_3 : Ref sig .tc := ⟨.hbm, 43, rfl⟩
abbrev main_v31 : Ref sig .tc := ⟨.hbm, 44, rfl⟩
abbrev main_v32 : Ref sig .tc := ⟨.hbm, 45, rfl⟩
abbrev main_cst_4 : Ref sig .tc := ⟨.hbm, 46, rfl⟩
abbrev main_v33 : Ref sig .tc := ⟨.hbm, 47, rfl⟩
abbrev main_v34 : Ref sig .tc := ⟨.hbm, 48, rfl⟩
abbrev main_cst_5 : Ref sig .tc := ⟨.hbm, 49, rfl⟩
abbrev main_v35 : Ref sig .tc := ⟨.hbm, 50, rfl⟩
abbrev main_v36 : Ref sig .tc := ⟨.hbm, 51, rfl⟩
abbrev main_cst_6 : Ref sig .tc := ⟨.hbm, 52, rfl⟩
abbrev main_v37 : Ref sig .tc := ⟨.hbm, 53, rfl⟩
abbrev main_cst_7 : Ref sig .tc := ⟨.hbm, 54, rfl⟩
abbrev main_v38 : Ref sig .tc := ⟨.hbm, 55, rfl⟩
abbrev main_cst_8 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_9 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_10 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_call1_v0 : Ref sig .tc := ⟨.hbm, 78, rfl⟩
abbrev main_call1_v1 : Ref sig .tc := ⟨.hbm, 79, rfl⟩
abbrev main_call1_cst : Ref sig .tc := ⟨.hbm, 80, rfl⟩
abbrev main_call1_v2 : Ref sig .tc := ⟨.hbm, 81, rfl⟩
abbrev main_call1_v3 : Ref sig .tc := ⟨.hbm, 82, rfl⟩
abbrev main_call1_cst_0 : Ref sig .tc := ⟨.hbm, 83, rfl⟩
abbrev main_call1_v4 : Ref sig .tc := ⟨.hbm, 84, rfl⟩
abbrev main_v58_2 : Ref sig .tc := ⟨.hbm, 85, rfl⟩
abbrev main_call1_cst_1 : Ref sig .tc := ⟨.hbm, 86, rfl⟩
abbrev main_call1_v6 : Ref sig .tc := ⟨.hbm, 87, rfl⟩
abbrev main_call1_v7 : Ref sig .tc := ⟨.hbm, 88, rfl⟩
abbrev main_v58_1 : Ref sig .tc := ⟨.hbm, 89, rfl⟩
abbrev main_v58_0 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_call2_v0 : Ref sig .tc := ⟨.hbm, 94, rfl⟩
abbrev main_call2_v1 : Ref sig .tc := ⟨.hbm, 95, rfl⟩
abbrev main_call2_v2 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_cst_11 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_cst_12 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_call3_cst : Ref sig .tc := ⟨.hbm, 119, rfl⟩
abbrev main_call3_v0 : Ref sig .tc := ⟨.hbm, 120, rfl⟩
abbrev main_v82 : Ref sig .tc := ⟨.hbm, 121, rfl⟩
abbrev main_v83 : Ref sig .tc := ⟨.hbm, 122, rfl⟩
abbrev main_cst_13 : Ref sig .tc := ⟨.hbm, 123, rfl⟩
abbrev main_v84 : Ref sig .tc := ⟨.hbm, 124, rfl⟩
abbrev main_v85 : Ref sig .tc := ⟨.hbm, 125, rfl⟩
abbrev main_cst_14 : Ref sig .tc := ⟨.hbm, 126, rfl⟩
abbrev main_v86 : Ref sig .tc := ⟨.hbm, 127, rfl⟩
abbrev main_cst_15 : Ref sig .tc := ⟨.hbm, 128, rfl⟩
abbrev main_v87 : Ref sig .tc := ⟨.hbm, 129, rfl⟩
abbrev main_v88 : Ref sig .tc := ⟨.hbm, 130, rfl⟩
abbrev main_cst_16 : Ref sig .tc := ⟨.hbm, 131, rfl⟩
abbrev main_v89 : Ref sig .tc := ⟨.hbm, 132, rfl⟩
abbrev main_cst_17 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩

abbrev nD : Nat := 1
abbrev τ : Topo := Topo.v7x

variable {F : FTy → Type} [FloatOps F]
-- ==== Kernel2.lean ====
abbrev S4096x8192 : Shape := ⟨2, ![4096, 8192]⟩
abbrev S4096x2048 : Shape := ⟨2, ![4096, 2048]⟩
abbrev S4096x16x128 : Shape := ⟨3, ![4096, 16, 128]⟩
abbrev S16x4096x128 : Shape := ⟨3, ![16, 4096, 128]⟩
abbrev S16x4096x4096 : Shape := ⟨3, ![16, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S16x4096 : Shape := ⟨2, ![16, 4096]⟩
abbrev S16x4096x1 : Shape := ⟨3, ![16, 4096, 1]⟩
abbrev S1024x128 : Shape := ⟨2, ![1024, 128]⟩
abbrev S4096x128 : Shape := ⟨2, ![4096, 128]⟩
abbrev S1x1024x1 : Shape := ⟨3, ![1, 1024, 1]⟩
abbrev S1024x1 : Shape := ⟨2, ![1024, 1]⟩
abbrev S128x128 : Shape := ⟨2, ![128, 128]⟩
abbrev S256x128 : Shape := ⟨2, ![256, 128]⟩
abbrev S1024x256 : Shape := ⟨2, ![1024, 256]⟩
abbrev S1024 : Shape := ⟨1, ![1024]⟩

abbrev nBuf : Space → Nat
  | .hbm => 82
  | .vmem => 26
  | .smem => 0
  | _ => 0

abbrev bufTy : (tb : Table) → Fin (tcTables nBuf tb) → BufTy
  | .hbm, ⟨0, _⟩ => ⟨S4096x8192, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S4096x16x128, .f32⟩
  | .hbm, ⟨7, _⟩ => ⟨S16x4096x128, .f32⟩
  | .hbm, ⟨8, _⟩ => ⟨S4096x16x128, .f32⟩
  | .hbm, ⟨9, _⟩ => ⟨S16x4096x128, .f32⟩
  | .hbm, ⟨10, _⟩ => ⟨S16x4096x4096, .f32⟩
  | .hbm, ⟨11, _⟩ => ⟨S_, .f32⟩
  | .hbm, ⟨12, _⟩ => ⟨S16x4096x4096, .f32⟩
  | .hbm, ⟨13, _⟩ => ⟨S16x4096x4096, .f32⟩
  | .hbm, ⟨14, _⟩ => ⟨S4096, .i32⟩
  | .hbm, ⟨15, _⟩ => ⟨S1x4096, .i32⟩
  | .hbm, ⟨16, _⟩ => ⟨S4096, .i32⟩
  | .hbm, ⟨17, _⟩ => ⟨S4096x1, .i32⟩
  | .hbm, ⟨18, _⟩ => ⟨S4096x4096, .i32⟩
  | .hbm, ⟨19, _⟩ => ⟨S4096x4096, .i32⟩
  | .hbm, ⟨20, _⟩ => ⟨S4096x4096, .i1⟩
  | .hbm, ⟨21, _⟩ => ⟨S16x4096x4096, .f32⟩
  | .hbm, ⟨22, _⟩ => ⟨S16x4096x4096, .f32⟩
  | .hbm, ⟨23, _⟩ => ⟨S_, .f32⟩
  | .hbm, ⟨24, _⟩ => ⟨S16x4096x4096, .f32⟩
  | .hbm, ⟨25, _⟩ => ⟨S16x4096x4096, .f32⟩
  | .hbm, ⟨26, _⟩ => ⟨S16x4096x4096, .f32⟩
  | .hbm, ⟨27, _⟩ => ⟨S16x4096x4096, .f32⟩
  | .hbm, ⟨28, _⟩ => ⟨S16x4096x4096, .i1⟩
  | .hbm, ⟨29, _⟩ => ⟨S16x4096x4096, .f32⟩
  | .hbm, ⟨30, _⟩ => ⟨S16x4096x4096, .f32⟩
  | .hbm, ⟨31, _⟩ => ⟨S16x4096x4096, .f32⟩
  | .hbm, ⟨32, _⟩ => ⟨S16x4096x4096, .f32⟩
  | .hbm, ⟨33, _⟩ => ⟨S16x4096x4096, .f32⟩
  | .hbm, ⟨34, _⟩ => ⟨S16x4096x4096, .f32⟩
  | .hbm, ⟨35, _⟩ => ⟨S16x4096x4096, .f32⟩
  | .hbm, ⟨36, _⟩ => ⟨S16x4096x4096, .f32⟩
  | .hbm, ⟨37, _⟩ => ⟨S16x4096x4096, .f32⟩
  | .hbm, ⟨38, _⟩ => ⟨S_, .f32⟩
  | .hbm, ⟨39, _⟩ => ⟨S_, .f32⟩
  | .hbm, ⟨40, _⟩ => ⟨S16x4096x4096, .i1⟩
  | .hbm, ⟨41, _⟩ => ⟨S16x4096x4096, .f32⟩
  | .hbm, ⟨42, _⟩ => ⟨S16x4096x4096, .f32⟩
  | .hbm, ⟨43, _⟩ => ⟨S_, .f32⟩
  | .hbm, ⟨44, _⟩ => ⟨S_, .f32⟩
  | .hbm, ⟨45, _⟩ => ⟨S16x4096x4096, .f32⟩
  | .hbm, ⟨46, _⟩ => ⟨S16x4096x4096, .f32⟩
  | .hbm, ⟨47, _⟩ => ⟨S16x4096x4096, .f32⟩
  | .hbm, ⟨48, _⟩ => ⟨S_, .f32⟩
  | .hbm, ⟨49, _⟩ => ⟨S16x4096x4096, .f32⟩
  | .hbm, ⟨50, _⟩ => ⟨S16x4096x4096, .f32⟩
  | .hbm, ⟨51, _⟩ => ⟨S16x4096x4096, .f32⟩
  | .hbm, ⟨52, _⟩ => ⟨S16x4096x4096, .f32⟩
  | .hbm, ⟨53, _⟩ => ⟨S16x4096x4096, .i1⟩
  | .hbm, ⟨54, _⟩ => ⟨S16x4096x4096, .f32⟩
  | .hbm, ⟨55, _⟩ => ⟨S16x4096x4096, .f32⟩
  | .hbm, ⟨56, _⟩ => ⟨S16x4096x4096, .f32⟩
  | .hbm, ⟨57, _⟩ => ⟨S16x4096x4096, .f32⟩
  | .hbm, ⟨58, _⟩ => ⟨S16x4096x4096, .f32⟩
  | .hbm, ⟨59, _⟩ => ⟨S16x4096x4096, .f32⟩
  | .hbm, ⟨60, _⟩ => ⟨S16x4096x4096, .f32⟩
  | .hbm, ⟨61, _⟩ => ⟨S16x4096x4096, .f32⟩
  | .hbm, ⟨62, _⟩ => ⟨S16x4096x4096, .f32⟩
  | .hbm, ⟨63, _⟩ => ⟨S16x4096x4096, .f32⟩
  | .hbm, ⟨64, _⟩ => ⟨S16x4096x4096, .f32⟩
  | .hbm, ⟨65, _⟩ => ⟨S_, .f32⟩
  | .hbm, ⟨66, _⟩ => ⟨S_, .f32⟩
  | .hbm, ⟨67, _⟩ => ⟨S16x4096x4096, .i1⟩
  | .hbm, ⟨68, _⟩ => ⟨S16x4096x4096, .f32⟩
  | .hbm, ⟨69, _⟩ => ⟨S16x4096x4096, .f32⟩
  | .hbm, ⟨70, _⟩ => ⟨S4096x16x128, .f32⟩
  | .hbm, ⟨71, _⟩ => ⟨S16x4096x128, .f32⟩
  | .hbm, ⟨72, _⟩ => ⟨S16x4096x128, .f32⟩
  | .hbm, ⟨73, _⟩ => ⟨S4096x16x128, .f32⟩
  | .hbm, ⟨74, _⟩ => ⟨S4096x2048, .f32⟩
  | .hbm, ⟨75, _⟩ => ⟨S_, .f32⟩
  | .hbm, ⟨76, _⟩ => ⟨S16x4096, .f32⟩
  | .hbm, ⟨77, _⟩ => ⟨S16x4096x1, .f32⟩
  | .hbm, ⟨78, _⟩ => ⟨S4096x2048, .bf16⟩
  | .hbm, ⟨79, _⟩ => ⟨S4096x2048, .bf16⟩
  | .hbm, ⟨80, _⟩ => ⟨S4096x2048, .bf16⟩
  | .hbm, ⟨81, _⟩ => ⟨S4096x2048, .bf16⟩
  | .local _ .vmem, ⟨0, _⟩ => ⟨S1024x128, .f32⟩
  | .local _ .vmem, ⟨1, _⟩ => ⟨S1024x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S1024x128, .f32⟩
  | .local _ .vmem, ⟨7, _⟩ => ⟨S1024x128, .f32⟩
  | .local _ .vmem, ⟨8, _⟩ => ⟨S1x1024x1, .f32⟩
  | .local _ .vmem, ⟨9, _⟩ => ⟨S1x1024x1, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x128, .bf16⟩
  | .local _ .vmem, ⟨15, _⟩ => ⟨S1024x128, .bf16⟩
  | .local _ .vmem, ⟨16, _⟩ => ⟨S4096x128, .bf16⟩
  | .local _ .vmem, ⟨17, _⟩ => ⟨S4096x128, .bf16⟩
  | .local _ .vmem, ⟨18, _⟩ => ⟨S4096x128, .bf16⟩
  | .local _ .vmem, ⟨19, _⟩ => ⟨S4096x128, .bf16⟩
  | .local _ .vmem, ⟨20, _⟩ => ⟨S1024x128, .bf16⟩
  | .local _ .vmem, ⟨21, _⟩ => ⟨S1024x128, .bf16⟩
  | .local _ .vmem, ⟨22, _⟩ => ⟨S4096x128, .bf16⟩
  | .local _ .vmem, ⟨23, _⟩ => ⟨S4096x128, .bf16⟩
  | .local _ .vmem, ⟨24, _⟩ => ⟨S4096x128, .f32⟩
  | .local _ .vmem, ⟨25, _⟩ => ⟨S4096x128, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_call0_v0 : Ref sig .tc := ⟨.hbm, 22, rfl⟩
abbrev main_call0_call0_cst : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_call0_v5 : Ref sig .tc := ⟨.hbm, 29, rfl⟩
abbrev main_call0_call0_v6 : Ref sig .tc := ⟨.hbm, 30, rfl⟩
abbrev main_call0_call0_v7 : Ref sig .tc := ⟨.hbm, 31, rfl⟩
abbrev main_call0_call0_v8 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_v11 : Ref sig .tc := ⟨.hbm, 35, rfl⟩
abbrev main_call0_v1 : Ref sig .tc := ⟨.hbm, 36, rfl⟩
abbrev main_v19 : Ref sig .tc := ⟨.hbm, 37, rfl⟩
abbrev main_cst_0 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v20 : Ref sig .tc := ⟨.hbm, 42, rfl⟩
abbrev main_call2_cst : Ref sig .tc := ⟨.hbm, 43, rfl⟩
abbrev main_call2_v0 : Ref sig .tc := ⟨.hbm, 44, rfl⟩
abbrev main_v21 : Ref sig .tc := ⟨.hbm, 45, rfl⟩
abbrev main_v22 : Ref sig .tc := ⟨.hbm, 46, rfl⟩
abbrev main_call3_v0 : Ref sig .tc := ⟨.hbm, 47, rfl⟩
abbrev main_call3_call0_cst : Ref sig .tc := ⟨.hbm, 48, rfl⟩
abbrev main_call3_call0_v0 : Ref sig .tc := ⟨.hbm, 49, rfl⟩
abbrev main_call3_call0_v1 : Ref sig .tc := ⟨.hbm, 50, rfl⟩
abbrev main_call3_call0_v2 : Ref sig .tc := ⟨.hbm, 51, rfl⟩
abbrev main_call3_call0_v3 : Ref sig .tc := ⟨.hbm, 52, rfl⟩
abbrev main_call3_call0_v4 : Ref sig .tc := ⟨.hbm, 53, rfl⟩
abbrev main_call3_call0_v5 : Ref sig .tc := ⟨.hbm, 54, rfl⟩
abbrev main_call3_call0_v6 : Ref sig .tc := ⟨.hbm, 55, rfl⟩
abbrev main_call3_call0_v7 : Ref sig .tc := ⟨.hbm, 56, rfl⟩
abbrev main_call3_call0_v8 : Ref sig .tc := ⟨.hbm, 57, rfl⟩
abbrev main_call3_call0_v9 : Ref sig .tc := ⟨.hbm, 58, rfl⟩
abbrev main_call3_call0_v10 : Ref sig .tc := ⟨.hbm, 59, rfl⟩
abbrev main_call3_call0_v11 : Ref sig .tc := ⟨.hbm, 60, rfl⟩
abbrev main_call3_v1 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_cst_1 : Ref sig .tc := ⟨.hbm, 65, rfl⟩
abbrev main_call4_v0 : Ref sig .tc := ⟨.hbm, 66, rfl⟩
abbrev main_call4_v1 : Ref sig .tc := ⟨.hbm, 67, rfl⟩
abbrev main_call4_v2 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_cst_2 : Ref sig .tc := ⟨.hbm, 75, rfl⟩
abbrev main_v32 : Ref sig .tc := ⟨.hbm, 76, rfl⟩
abbrev main_v33 : Ref sig .tc := ⟨.hbm, 77, rfl⟩
abbrev main_v34_0 : Ref sig .tc := ⟨.hbm, 78, rfl⟩
abbrev main_v34_1 : Ref sig .tc := ⟨.hbm, 79, rfl⟩
abbrev main_v34_2 : Ref sig .tc := ⟨.hbm, 80, rfl⟩
abbrev main_v34_3 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![16, 4], ![false, false]⟩

@[reducible] def k0_t1_loop (i : grid0.Coords) : Scf.Loop 32 :=
  let c0_i32_26 : BitVec 32 := 0#32
  let arg1 : BitVec 32 := BitVec.ofNat 32 (i 1).val
  let c8_i32 : BitVec 32 := 8#32
  let v48 : BitVec 32 := Scalar.muli arg1 c8_i32
  let c0_i32_20 : BitVec 32 := 0#32
  let v50 : BitVec 1 := Scalar.cmpi .sgt v48 c0_i32_20
  let v51 : BitVec 32 := Scalar.extui v50
  let c0_i32_21 : BitVec 32 := 0#32
  let v52 : BitVec 1 := Scalar.cmpi .slt v48 c0_i32_21
  let v53 : BitVec 32 := Scalar.extui v52
  let v54 : BitVec 32 := Scalar.subi v51 v53
  let c8_i32_19 : BitVec 32 := 8#32
  let c0_i32_22 : BitVec 32 := 0#32
  let v55 : BitVec 1 := Scalar.cmpi .sgt c8_i32_19 c0_i32_22
  let v56 : BitVec 32 := Scalar.extui v55
  let c0_i32_23 : BitVec 32 := 0#32
  let v57 : BitVec 1 := Scalar.cmpi .slt c8_i32_19 c0_i32_23
  let v58 : BitVec 32 := Scalar.extui v57
  let v59 : BitVec 32 := Scalar.subi v56 v58
  let v60 : BitVec 1 := Scalar.cmpi .ne v54 v59
  let v61 : BitVec 32 := Scalar.remsi v48 c8_i32_19
  let c0_i32_24 : BitVec 32 := 0#32
  let v62 : BitVec 1 := Scalar.cmpi .ne v61 c0_i32_24
  let v63 : BitVec 1 := Scalar.andi v60 v62
  let v49 : BitVec 32 := Scalar.divsi v48 c8_i32_19
  let c1_i32 : BitVec 32 := 1#32
  let v64 : BitVec 32 := Scalar.subi v49 c1_i32
  let v65 : BitVec 32 := Scalar.select v63 v64 v49
  let v67 : BitVec 32 := Scalar.subi v65 c0_i32_26
  let c1_i32_27 : BitVec 32 := 1#32
  let v69 : BitVec 32 := Scalar.divsi v67 c1_i32_27
  let v70 : BitVec 32 := Scalar.muli v69 c1_i32_27
  let v71 : BitVec 32 := Scalar.addi c0_i32_26 v70
  let c1_i32_28 : BitVec 32 := 1#32
  ⟨c0_i32_26, v71, c1_i32_28⟩
def k0_mult1 (i : grid0.Coords) (k0_t1 : Fin (k0_t1_loop i).trips) : BitVec 32 :=
  let c8_i32_236 : BitVec 32 := 8#32
  let c0_i32_26 : BitVec 32 := 0#32
  let c1_i32_28 : BitVec 32 := 1#32
  let arg17 : BitVec 32 := Scf.iv c0_i32_26 c1_i32_28 k0_t1
  let v755 : BitVec 32 := Scalar.muli c8_i32_236 arg17
  let c0_i32_237 : BitVec 32 := 0#32
  let v756 : BitVec 32 := Scalar.addi v755 c0_i32_237
  let c128_i32_238 : BitVec 32 := 128#32
  let v757 : BitVec 32 := Scalar.muli v756 c128_i32_238
  v757
def k0_off1 (i : grid0.Coords) (k0_t1 : Fin (k0_t1_loop i).trips) (c0_i32_237 : BitVec 32) : Fin 2 → Nat :=
  let c8_i32_236 : BitVec 32 := 8#32
  let c0_i32_26 : BitVec 32 := 0#32
  let c1_i32_28 : BitVec 32 := 1#32
  let arg17 : BitVec 32 := Scf.iv c0_i32_26 c1_i32_28 k0_t1
  let v755 : BitVec 32 := Scalar.muli c8_i32_236 arg17
  let v756 : BitVec 32 := Scalar.addi v755 c0_i32_237
  let c128_i32_238 : BitVec 32 := 128#32
  let v757 : BitVec 32 := Scalar.muli v756 c128_i32_238
  let v758 : BitVec 32 := v757
  let v759 : Index := Scalar.indexCast v758
  let c0_239 : Index := 0#32
  ![v759.toNat, 0]
def k0_mult2 (i : grid0.Coords) (k0_t1 : Fin (k0_t1_loop i).trips) : BitVec 32 :=
  let c8_i32_259 : BitVec 32 := 8#32
  let c0_i32_26 : BitVec 32 := 0#32
  let c1_i32_28 : BitVec 32 := 1#32
  let arg17 : BitVec 32 := Scf.iv c0_i32_26 c1_i32_28 k0_t1
  let v831 : BitVec 32 := Scalar.muli c8_i32_259 arg17
  let c1_i32_260 : BitVec 32 := 1#32
  let v832 : BitVec 32 := Scalar.addi v831 c1_i32_260
  let c128_i32_261 : BitVec 32 := 128#32
  let v833 : BitVec 32 := Scalar.muli v832 c128_i32_261
  v833
def k0_mult3 (i : grid0.Coords) (k0_t1 : Fin (k0_t1_loop i).trips) : BitVec 32 :=
  let c8_i32_282 : BitVec 32 := 8#32
  let c0_i32_26 : BitVec 32 := 0#32
  let c1_i32_28 : BitVec 32 := 1#32
  let arg17 : BitVec 32 := Scf.iv c0_i32_26 c1_i32_28 k0_t1
  let v907 : BitVec 32 := Scalar.muli c8_i32_282 arg17
  let c2_i32_283 : BitVec 32 := 2#32
  let v908 : BitVec 32 := Scalar.addi v907 c2_i32_283
  let c128_i32_284 : BitVec 32 := 128#32
  let v909 : BitVec 32 := Scalar.muli v908 c128_i32_284
  v909
def k0_mult4 (i : grid0.Coords) (k0_t1 : Fin (k0_t1_loop i).trips) : BitVec 32 :=
  let c8_i32_305 : BitVec 32 := 8#32
  let c0_i32_26 : BitVec 32 := 0#32
  let c1_i32_28 : BitVec 32 := 1#32
  let arg17 : BitVec 32 := Scf.iv c0_i32_26 c1_i32_28 k0_t1
  let v983 : BitVec 32 := Scalar.muli c8_i32_305 arg17
  let c3_i32_306 : BitVec 32 := 3#32
  let v984 : BitVec 32 := Scalar.addi v983 c3_i32_306
  let c128_i32_307 : BitVec 32 := 128#32
  let v985 : BitVec 32 := Scalar.muli v984 c128_i32_307
  v985
def k0_mult5 (i : grid0.Coords) (k0_t1 : Fin (k0_t1_loop i).trips) : BitVec 32 :=
  let c8_i32_328 : BitVec 32 := 8#32
  let c0_i32_26 : BitVec 32 := 0#32
  let c1_i32_28 : BitVec 32 := 1#32
  let arg17 : BitVec 32 := Scf.iv c0_i32_26 c1_i32_28 k0_t1
  let v1059 : BitVec 32 := Scalar.muli c8_i32_328 arg17
  let c4_i32_329 : BitVec 32 := 4#32
  let v1060 : BitVec 32 := Scalar.addi v1059 c4_i32_329
  let c128_i32_330 : BitVec 32 := 128#32
  let v1061 : BitVec 32 := Scalar.muli v1060 c128_i32_330
  v1061
def k0_mult6 (i : grid0.Coords) (k0_t1 : Fin (k0_t1_loop i).trips) : BitVec 32 :=
  let c8_i32_351 : BitVec 32 := 8#32
  let c0_i32_26 : BitVec 32 := 0#32
  let c1_i32_28 : BitVec 32 := 1#32
  let arg17 : BitVec 32 := Scf.iv c0_i32_26 c1_i32_28 k0_t1
  let v1135 : BitVec 32 := Scalar.muli c8_i32_351 arg17
  let c5_i32_352 : BitVec 32 := 5#32
  let v1136 : BitVec 32 := Scalar.addi v1135 c5_i32_352
  let c128_i32_353 : BitVec 32 := 128#32
  let v1137 : BitVec 32 := Scalar.muli v1136 c128_i32_353
  v1137
def k0_mult7 (i : grid0.Coords) (k0_t1 : Fin (k0_t1_loop i).trips) : BitVec 32 :=
  let c8_i32_374 : BitVec 32 := 8#32
  let c0_i32_26 : BitVec 32 := 0#32
  let c1_i32_28 : BitVec 32 := 1#32
  let arg17 : BitVec 32 := Scf.iv c0_i32_26 c1_i32_28 k0_t1
  let v1211 : BitVec 32 := Scalar.muli c8_i32_374 arg17
  let c6_i32_375 : BitVec 32 := 6#32
  let v1212 : BitVec 32 := Scalar.addi v1211 c6_i32_375
  let c128_i32_376 : BitVec 32 := 128#32
  let v1213 : BitVec 32 := Scalar.muli v1212 c128_i32_376
  v1213
def k0_mult8 (i : grid0.Coords) (k0_t1 : Fin (k0_t1_loop i).trips) : BitVec 32 :=
  let c8_i32_397 : BitVec 32 := 8#32
  let c0_i32_26 : BitVec 32 := 0#32
  let c1_i32_28 : BitVec 32 := 1#32
  let arg17 : BitVec 32 := Scf.iv c0_i32_26 c1_i32_28 k0_t1
  let v1287 : BitVec 32 := Scalar.muli c8_i32_397 arg17
  let c7_i32_398 : BitVec 32 := 7#32
  let v1288 : BitVec 32 := Scalar.addi v1287 c7_i32_398
  let c128_i32_399 : BitVec 32 := 128#32
  let v1289 : BitVec 32 := Scalar.muli v1288 c128_i32_399
  v1289
@[reducible] def k0_t2_loop (i : grid0.Coords) : Scf.Loop 32 :=
  let c0_i32_26 : BitVec 32 := 0#32
  let arg1 : BitVec 32 := BitVec.ofNat 32 (i 1).val
  let c8_i32 : BitVec 32 := 8#32
  let v48 : BitVec 32 := Scalar.muli arg1 c8_i32
  let c0_i32_20 : BitVec 32 := 0#32
  let v50 : BitVec 1 := Scalar.cmpi .sgt v48 c0_i32_20
  let v51 : BitVec 32 := Scalar.extui v50
  let c0_i32_21 : BitVec 32 := 0#32
  let v52 : BitVec 1 := Scalar.cmpi .slt v48 c0_i32_21
  let v53 : BitVec 32 := Scalar.extui v52
  let v54 : BitVec 32 := Scalar.subi v51 v53
  let c8_i32_19 : BitVec 32 := 8#32
  let c0_i32_22 : BitVec 32 := 0#32
  let v55 : BitVec 1 := Scalar.cmpi .sgt c8_i32_19 c0_i32_22
  let v56 : BitVec 32 := Scalar.extui v55
  let c0_i32_23 : BitVec 32 := 0#32
  let v57 : BitVec 1 := Scalar.cmpi .slt c8_i32_19 c0_i32_23
  let v58 : BitVec 32 := Scalar.extui v57
  let v59 : BitVec 32 := Scalar.subi v56 v58
  let v60 : BitVec 1 := Scalar.cmpi .ne v54 v59
  let v61 : BitVec 32 := Scalar.remsi v48 c8_i32_19
  let c0_i32_24 : BitVec 32 := 0#32
  let v62 : BitVec 1 := Scalar.cmpi .ne v61 c0_i32_24
  let v63 : BitVec 1 := Scalar.andi v60 v62
  let v49 : BitVec 32 := Scalar.divsi v48 c8_i32_19
  let c1_i32 : BitVec 32 := 1#32
  let v64 : BitVec 32 := Scalar.subi v49 c1_i32
  let v65 : BitVec 32 := Scalar.select v63 v64 v49
  let v67 : BitVec 32 := Scalar.subi v65 c0_i32_26
  let c1_i32_27 : BitVec 32 := 1#32
  let v69 : BitVec 32 := Scalar.divsi v67 c1_i32_27
  let v70 : BitVec 32 := Scalar.muli v69 c1_i32_27
  let v71 : BitVec 32 := Scalar.addi c0_i32_26 v70
  let v68 : BitVec 32 := Scalar.addi c0_i32_26 v67
  let c1_i32_29 : BitVec 32 := 1#32
  ⟨v71, v68, c1_i32_29⟩
def k0_mult9 (i : grid0.Coords) (k0_t2 : Fin (k0_t2_loop i).trips) : BitVec 32 :=
  let c8_i32_236 : BitVec 32 := 8#32
  let c0_i32_26 : BitVec 32 := 0#32
  let arg1 : BitVec 32 := BitVec.ofNat 32 (i 1).val
  let c8_i32 : BitVec 32 := 8#32
  let v48 : BitVec 32 := Scalar.muli arg1 c8_i32
  let c0_i32_20 : BitVec 32 := 0#32
  let v50 : BitVec 1 := Scalar.cmpi .sgt v48 c0_i32_20
  let v51 : BitVec 32 := Scalar.extui v50
  let c0_i32_21 : BitVec 32 := 0#32
  let v52 : BitVec 1 := Scalar.cmpi .slt v48 c0_i32_21
  let v53 : BitVec 32 := Scalar.extui v52
  let v54 : BitVec 32 := Scalar.subi v51 v53
  let c8_i32_19 : BitVec 32 := 8#32
  let c0_i32_22 : BitVec 32 := 0#32
  let v55 : BitVec 1 := Scalar.cmpi .sgt c8_i32_19 c0_i32_22
  let v56 : BitVec 32 := Scalar.extui v55
  let c0_i32_23 : BitVec 32 := 0#32
  let v57 : BitVec 1 := Scalar.cmpi .slt c8_i32_19 c0_i32_23
  let v58 : BitVec 32 := Scalar.extui v57
  let v59 : BitVec 32 := Scalar.subi v56 v58
  let v60 : BitVec 1 := Scalar.cmpi .ne v54 v59
  let v61 : BitVec 32 := Scalar.remsi v48 c8_i32_19
  let c0_i32_24 : BitVec 32 := 0#32
  let v62 : BitVec 1 := Scalar.cmpi .ne v61 c0_i32_24
  let v63 : BitVec 1 := Scalar.andi v60 v62
  let v49 : BitVec 32 := Scalar.divsi v48 c8_i32_19
  let c1_i32 : BitVec 32 := 1#32
  let v64 : BitVec 32 := Scalar.subi v49 c1_i32
  let v65 : BitVec 32 := Scalar.select v63 v64 v49
  let v67 : BitVec 32 := Scalar.subi v65 c0_i32_26
  let c1_i32_27 : BitVec 32 := 1#32
  let v69 : BitVec 32 := Scalar.divsi v67 c1_i32_27
  let v70 : BitVec 32 := Scalar.muli v69 c1_i32_27
  let v71 : BitVec 32 := Scalar.addi c0_i32_26 v70
  let c1_i32_29 : BitVec 32 := 1#32
  let arg17 : BitVec 32 := Scf.iv v71 c1_i32_29 k0_t2
  let v755 : BitVec 32 := Scalar.muli c8_i32_236 arg17
  let c0_i32_237 : BitVec 32 := 0#32
  let v756 : BitVec 32 := Scalar.addi v755 c0_i32_237
  let c128_i32_238 : BitVec 32 := 128#32
  let v757 : BitVec 32 := Scalar.muli v756 c128_i32_238
  v757
def k0_off2 (i : grid0.Coords) (k0_t2 : Fin (k0_t2_loop i).trips) (c0_i32_237 : BitVec 32) : Fin 2 → Nat :=
  let c8_i32_236 : BitVec 32 := 8#32
  let c0_i32_26 : BitVec 32 := 0#32
  let arg1 : BitVec 32 := BitVec.ofNat 32 (i 1).val
  let c8_i32 : BitVec 32 := 8#32
  let v48 : BitVec 32 := Scalar.muli arg1 c8_i32
  let c0_i32_20 : BitVec 32 := 0#32
  let v50 : BitVec 1 := Scalar.cmpi .sgt v48 c0_i32_20
  let v51 : BitVec 32 := Scalar.extui v50
  let c0_i32_21 : BitVec 32 := 0#32
  let v52 : BitVec 1 := Scalar.cmpi .slt v48 c0_i32_21
  let v53 : BitVec 32 := Scalar.extui v52
  let v54 : BitVec 32 := Scalar.subi v51 v53
  let c8_i32_19 : BitVec 32 := 8#32
  let c0_i32_22 : BitVec 32 := 0#32
  let v55 : BitVec 1 := Scalar.cmpi .sgt c8_i32_19 c0_i32_22
  let v56 : BitVec 32 := Scalar.extui v55
  let c0_i32_23 : BitVec 32 := 0#32
  let v57 : BitVec 1 := Scalar.cmpi .slt c8_i32_19 c0_i32_23
  let v58 : BitVec 32 := Scalar.extui v57
  let v59 : BitVec 32 := Scalar.subi v56 v58
  let v60 : BitVec 1 := Scalar.cmpi .ne v54 v59
  let v61 : BitVec 32 := Scalar.remsi v48 c8_i32_19
  let c0_i32_24 : BitVec 32 := 0#32
  let v62 : BitVec 1 := Scalar.cmpi .ne v61 c0_i32_24
  let v63 : BitVec 1 := Scalar.andi v60 v62
  let v49 : BitVec 32 := Scalar.divsi v48 c8_i32_19
  let c1_i32 : BitVec 32 := 1#32
  let v64 : BitVec 32 := Scalar.subi v49 c1_i32
  let v65 : BitVec 32 := Scalar.select v63 v64 v49
  let v67 : BitVec 32 := Scalar.subi v65 c0_i32_26
  let c1_i32_27 : BitVec 32 := 1#32
  let v69 : BitVec 32 := Scalar.divsi v67 c1_i32_27
  let v70 : BitVec 32 := Scalar.muli v69 c1_i32_27
  let v71 : BitVec 32 := Scalar.addi c0_i32_26 v70
  let c1_i32_29 : BitVec 32 := 1#32
  let arg17 : BitVec 32 := Scf.iv v71 c1_i32_29 k0_t2
  let v755 : BitVec 32 := Scalar.muli c8_i32_236 arg17
  let v756 : BitVec 32 := Scalar.addi v755 c0_i32_237
  let c128_i32_238 : BitVec 32 := 128#32
  let v757 : BitVec 32 := Scalar.muli v756 c128_i32_238
  let v758 : BitVec 32 := v757
  let v759 : Index := Scalar.indexCast v758
  let c0_239 : Index := 0#32
  ![v759.toNat, 0]
def k0_mult10 (i : grid0.Coords) (k0_t2 : Fin (k0_t2_loop i).trips) : BitVec 32 :=
  let c8_i32_259 : BitVec 32 := 8#32
  let c0_i32_26 : BitVec 32 := 0#32
  let arg1 : BitVec 32 := BitVec.ofNat 32 (i 1).val
  let c8_i32 : BitVec 32 := 8#32
  let v48 : BitVec 32 := Scalar.muli arg1 c8_i32
  let c0_i32_20 : BitVec 32 := 0#32
  let v50 : BitVec 1 := Scalar.cmpi .sgt v48 c0_i32_20
  let v51 : BitVec 32 := Scalar.extui v50
  let c0_i32_21 : BitVec 32 := 0#32
  let v52 : BitVec 1 := Scalar.cmpi .slt v48 c0_i32_21
  let v53 : BitVec 32 := Scalar.extui v52
  let v54 : BitVec 32 := Scalar.subi v51 v53
  let c8_i32_19 : BitVec 32 := 8#32
  let c0_i32_22 : BitVec 32 := 0#32
  let v55 : BitVec 1 := Scalar.cmpi .sgt c8_i32_19 c0_i32_22
  let v56 : BitVec 32 := Scalar.extui v55
  let c0_i32_23 : BitVec 32 := 0#32
  let v57 : BitVec 1 := Scalar.cmpi .slt c8_i32_19 c0_i32_23
  let v58 : BitVec 32 := Scalar.extui v57
  let v59 : BitVec 32 := Scalar.subi v56 v58
  let v60 : BitVec 1 := Scalar.cmpi .ne v54 v59
  let v61 : BitVec 32 := Scalar.remsi v48 c8_i32_19
  let c0_i32_24 : BitVec 32 := 0#32
  let v62 : BitVec 1 := Scalar.cmpi .ne v61 c0_i32_24
  let v63 : BitVec 1 := Scalar.andi v60 v62
  let v49 : BitVec 32 := Scalar.divsi v48 c8_i32_19
  let c1_i32 : BitVec 32 := 1#32
  let v64 : BitVec 32 := Scalar.subi v49 c1_i32
  let v65 : BitVec 32 := Scalar.select v63 v64 v49
  let v67 : BitVec 32 := Scalar.subi v65 c0_i32_26
  let c1_i32_27 : BitVec 32 := 1#32
  let v69 : BitVec 32 := Scalar.divsi v67 c1_i32_27
  let v70 : BitVec 32 := Scalar.muli v69 c1_i32_27
  let v71 : BitVec 32 := Scalar.addi c0_i32_26 v70
  let c1_i32_29 : BitVec 32 := 1#32
  let arg17 : BitVec 32 := Scf.iv v71 c1_i32_29 k0_t2
  let v831 : BitVec 32 := Scalar.muli c8_i32_259 arg17
  let c1_i32_260 : BitVec 32 := 1#32
  let v832 : BitVec 32 := Scalar.addi v831 c1_i32_260
  let c128_i32_261 : BitVec 32 := 128#32
  let v833 : BitVec 32 := Scalar.muli v832 c128_i32_261
  v833
def k0_mult11 (i : grid0.Coords) (k0_t2 : Fin (k0_t2_loop i).trips) : BitVec 32 :=
  let c8_i32_282 : BitVec 32 := 8#32
  let c0_i32_26 : BitVec 32 := 0#32
  let arg1 : BitVec 32 := BitVec.ofNat 32 (i 1).val
  let c8_i32 : BitVec 32 := 8#32
  let v48 : BitVec 32 := Scalar.muli arg1 c8_i32
  let c0_i32_20 : BitVec 32 := 0#32
  let v50 : BitVec 1 := Scalar.cmpi .sgt v48 c0_i32_20
  let v51 : BitVec 32 := Scalar.extui v50
  let c0_i32_21 : BitVec 32 := 0#32
  let v52 : BitVec 1 := Scalar.cmpi .slt v48 c0_i32_21
  let v53 : BitVec 32 := Scalar.extui v52
  let v54 : BitVec 32 := Scalar.subi v51 v53
  let c8_i32_19 : BitVec 32 := 8#32
  let c0_i32_22 : BitVec 32 := 0#32
  let v55 : BitVec 1 := Scalar.cmpi .sgt c8_i32_19 c0_i32_22
  let v56 : BitVec 32 := Scalar.extui v55
  let c0_i32_23 : BitVec 32 := 0#32
  let v57 : BitVec 1 := Scalar.cmpi .slt c8_i32_19 c0_i32_23
  let v58 : BitVec 32 := Scalar.extui v57
  let v59 : BitVec 32 := Scalar.subi v56 v58
  let v60 : BitVec 1 := Scalar.cmpi .ne v54 v59
  let v61 : BitVec 32 := Scalar.remsi v48 c8_i32_19
  let c0_i32_24 : BitVec 32 := 0#32
  let v62 : BitVec 1 := Scalar.cmpi .ne v61 c0_i32_24
  let v63 : BitVec 1 := Scalar.andi v60 v62
  let v49 : BitVec 32 := Scalar.divsi v48 c8_i32_19
  let c1_i32 : BitVec 32 := 1#32
  let v64 : BitVec 32 := Scalar.subi v49 c1_i32
  let v65 : BitVec 32 := Scalar.select v63 v64 v49
  let v67 : BitVec 32 := Scalar.subi v65 c0_i32_26
  let c1_i32_27 : BitVec 32 := 1#32
  let v69 : BitVec 32 := Scalar.divsi v67 c1_i32_27
  let v70 : BitVec 32 := Scalar.muli v69 c1_i32_27
  let v71 : BitVec 32 := Scalar.addi c0_i32_26 v70
  let c1_i32_29 : BitVec 32 := 1#32
  let arg17 : BitVec 32 := Scf.iv v71 c1_i32_29 k0_t2
  let v907 : BitVec 32 := Scalar.muli c8_i32_282 arg17
  let c2_i32_283 : BitVec 32 := 2#32
  let v908 : BitVec 32 := Scalar.addi v907 c2_i32_283
  let c128_i32_284 : BitVec 32 := 128#32
  let v909 : BitVec 32 := Scalar.muli v908 c128_i32_284
  v909
def k0_mult12 (i : grid0.Coords) (k0_t2 : Fin (k0_t2_loop i).trips) : BitVec 32 :=
  let c8_i32_305 : BitVec 32 := 8#32
  let c0_i32_26 : BitVec 32 := 0#32
  let arg1 : BitVec 32 := BitVec.ofNat 32 (i 1).val
  let c8_i32 : BitVec 32 := 8#32
  let v48 : BitVec 32 := Scalar.muli arg1 c8_i32
  let c0_i32_20 : BitVec 32 := 0#32
  let v50 : BitVec 1 := Scalar.cmpi .sgt v48 c0_i32_20
  let v51 : BitVec 32 := Scalar.extui v50
  let c0_i32_21 : BitVec 32 := 0#32
  let v52 : BitVec 1 := Scalar.cmpi .slt v48 c0_i32_21
  let v53 : BitVec 32 := Scalar.extui v52
  let v54 : BitVec 32 := Scalar.subi v51 v53
  let c8_i32_19 : BitVec 32 := 8#32
  let c0_i32_22 : BitVec 32 := 0#32
  let v55 : BitVec 1 := Scalar.cmpi .sgt c8_i32_19 c0_i32_22
  let v56 : BitVec 32 := Scalar.extui v55
  let c0_i32_23 : BitVec 32 := 0#32
  let v57 : BitVec 1 := Scalar.cmpi .slt c8_i32_19 c0_i32_23
  let v58 : BitVec 32 := Scalar.extui v57
  let v59 : BitVec 32 := Scalar.subi v56 v58
  let v60 : BitVec 1 := Scalar.cmpi .ne v54 v59
  let v61 : BitVec 32 := Scalar.remsi v48 c8_i32_19
  let c0_i32_24 : BitVec 32 := 0#32
  let v62 : BitVec 1 := Scalar.cmpi .ne v61 c0_i32_24
  let v63 : BitVec 1 := Scalar.andi v60 v62
  let v49 : BitVec 32 := Scalar.divsi v48 c8_i32_19
  let c1_i32 : BitVec 32 := 1#32
  let v64 : BitVec 32 := Scalar.subi v49 c1_i32
  let v65 : BitVec 32 := Scalar.select v63 v64 v49
  let v67 : BitVec 32 := Scalar.subi v65 c0_i32_26
  let c1_i32_27 : BitVec 32 := 1#32
  let v69 : BitVec 32 := Scalar.divsi v67 c1_i32_27
  let v70 : BitVec 32 := Scalar.muli v69 c1_i32_27
  let v71 : BitVec 32 := Scalar.addi c0_i32_26 v70
  let c1_i32_29 : BitVec 32 := 1#32
  let arg17 : BitVec 32 := Scf.iv v71 c1_i32_29 k0_t2
  let v983 : BitVec 32 := Scalar.muli c8_i32_305 arg17
  let c3_i32_306 : BitVec 32 := 3#32
  let v984 : BitVec 32 := Scalar.addi v983 c3_i32_306
  let c128_i32_307 : BitVec 32 := 128#32
  let v985 : BitVec 32 := Scalar.muli v984 c128_i32_307
  v985
def k0_mult13 (i : grid0.Coords) (k0_t2 : Fin (k0_t2_loop i).trips) : BitVec 32 :=
  let c8_i32_328 : BitVec 32 := 8#32
  let c0_i32_26 : BitVec 32 := 0#32
  let arg1 : BitVec 32 := BitVec.ofNat 32 (i 1).val
  let c8_i32 : BitVec 32 := 8#32
  let v48 : BitVec 32 := Scalar.muli arg1 c8_i32
  let c0_i32_20 : BitVec 32 := 0#32
  let v50 : BitVec 1 := Scalar.cmpi .sgt v48 c0_i32_20
  let v51 : BitVec 32 := Scalar.extui v50
  let c0_i32_21 : BitVec 32 := 0#32
  let v52 : BitVec 1 := Scalar.cmpi .slt v48 c0_i32_21
  let v53 : BitVec 32 := Scalar.extui v52
  let v54 : BitVec 32 := Scalar.subi v51 v53
  let c8_i32_19 : BitVec 32 := 8#32
  let c0_i32_22 : BitVec 32 := 0#32
  let v55 : BitVec 1 := Scalar.cmpi .sgt c8_i32_19 c0_i32_22
  let v56 : BitVec 32 := Scalar.extui v55
  let c0_i32_23 : BitVec 32 := 0#32
  let v57 : BitVec 1 := Scalar.cmpi .slt c8_i32_19 c0_i32_23
  let v58 : BitVec 32 := Scalar.extui v57
  let v59 : BitVec 32 := Scalar.subi v56 v58
  let v60 : BitVec 1 := Scalar.cmpi .ne v54 v59
  let v61 : BitVec 32 := Scalar.remsi v48 c8_i32_19
  let c0_i32_24 : BitVec 32 := 0#32
  let v62 : BitVec 1 := Scalar.cmpi .ne v61 c0_i32_24
  let v63 : BitVec 1 := Scalar.andi v60 v62
  let v49 : BitVec 32 := Scalar.divsi v48 c8_i32_19
  let c1_i32 : BitVec 32 := 1#32
  let v64 : BitVec 32 := Scalar.subi v49 c1_i32
  let v65 : BitVec 32 := Scalar.select v63 v64 v49
  let v67 : BitVec 32 := Scalar.subi v65 c0_i32_26
  let c1_i32_27 : BitVec 32 := 1#32
  let v69 : BitVec 32 := Scalar.divsi v67 c1_i32_27
  let v70 : BitVec 32 := Scalar.muli v69 c1_i32_27
  let v71 : BitVec 32 := Scalar.addi c0_i32_26 v70
  let c1_i32_29 : BitVec 32 := 1#32
  let arg17 : BitVec 32 := Scf.iv v71 c1_i32_29 k0_t2
  let v1059 : BitVec 32 := Scalar.muli c8_i32_328 arg17
  let c4_i32_329 : BitVec 32 := 4#32
  let v1060 : BitVec 32 := Scalar.addi v1059 c4_i32_329
  let c128_i32_330 : BitVec 32 := 128#32
  let v1061 : BitVec 32 := Scalar.muli v1060 c128_i32_330
  v1061
def k0_mult14 (i : grid0.Coords) (k0_t2 : Fin (k0_t2_loop i).trips) : BitVec 32 :=
  let c8_i32_351 : BitVec 32 := 8#32
  let c0_i32_26 : BitVec 32 := 0#32
  let arg1 : BitVec 32 := BitVec.ofNat 32 (i 1).val
  let c8_i32 : BitVec 32 := 8#32
  let v48 : BitVec 32 := Scalar.muli arg1 c8_i32
  let c0_i32_20 : BitVec 32 := 0#32
  let v50 : BitVec 1 := Scalar.cmpi .sgt v48 c0_i32_20
  let v51 : BitVec 32 := Scalar.extui v50
  let c0_i32_21 : BitVec 32 := 0#32
  let v52 : BitVec 1 := Scalar.cmpi .slt v48 c0_i32_21
  let v53 : BitVec 32 := Scalar.extui v52
  let v54 : BitVec 32 := Scalar.subi v51 v53
  let c8_i32_19 : BitVec 32 := 8#32
  let c0_i32_22 : BitVec 32 := 0#32
  let v55 : BitVec 1 := Scalar.cmpi .sgt c8_i32_19 c0_i32_22
  let v56 : BitVec 32 := Scalar.extui v55
  let c0_i32_23 : BitVec 32 := 0#32
  let v57 : BitVec 1 := Scalar.cmpi .slt c8_i32_19 c0_i32_23
  let v58 : BitVec 32 := Scalar.extui v57
  let v59 : BitVec 32 := Scalar.subi v56 v58
  let v60 : BitVec 1 := Scalar.cmpi .ne v54 v59
  let v61 : BitVec 32 := Scalar.remsi v48 c8_i32_19
  let c0_i32_24 : BitVec 32 := 0#32
  let v62 : BitVec 1 := Scalar.cmpi .ne v61 c0_i32_24
  let v63 : BitVec 1 := Scalar.andi v60 v62
  let v49 : BitVec 32 := Scalar.divsi v48 c8_i32_19
  let c1_i32 : BitVec 32 := 1#32
  let v64 : BitVec 32 := Scalar.subi v49 c1_i32
  let v65 : BitVec 32 := Scalar.select v63 v64 v49
  let v67 : BitVec 32 := Scalar.subi v65 c0_i32_26
  let c1_i32_27 : BitVec 32 := 1#32
  let v69 : BitVec 32 := Scalar.divsi v67 c1_i32_27
  let v70 : BitVec 32 := Scalar.muli v69 c1_i32_27
  let v71 : BitVec 32 := Scalar.addi c0_i32_26 v70
  let c1_i32_29 : BitVec 32 := 1#32
  let arg17 : BitVec 32 := Scf.iv v71 c1_i32_29 k0_t2
  let v1135 : BitVec 32 := Scalar.muli c8_i32_351 arg17
  let c5_i32_352 : BitVec 32 := 5#32
  let v1136 : BitVec 32 := Scalar.addi v1135 c5_i32_352
  let c128_i32_353 : BitVec 32 := 128#32
  let v1137 : BitVec 32 := Scalar.muli v1136 c128_i32_353
  v1137
def k0_mult15 (i : grid0.Coords) (k0_t2 : Fin (k0_t2_loop i).trips) : BitVec 32 :=
  let c8_i32_374 : BitVec 32 := 8#32
  let c0_i32_26 : BitVec 32 := 0#32
  let arg1 : BitVec 32 := BitVec.ofNat 32 (i 1).val
  let c8_i32 : BitVec 32 := 8#32
  let v48 : BitVec 32 := Scalar.muli arg1 c8_i32
  let c0_i32_20 : BitVec 32 := 0#32
  let v50 : BitVec 1 := Scalar.cmpi .sgt v48 c0_i32_20
  let v51 : BitVec 32 := Scalar.extui v50
  let c0_i32_21 : BitVec 32 := 0#32
  let v52 : BitVec 1 := Scalar.cmpi .slt v48 c0_i32_21
  let v53 : BitVec 32 := Scalar.extui v52
  let v54 : BitVec 32 := Scalar.subi v51 v53
  let c8_i32_19 : BitVec 32 := 8#32
  let c0_i32_22 : BitVec 32 := 0#32
  let v55 : BitVec 1 := Scalar.cmpi .sgt c8_i32_19 c0_i32_22
  let v56 : BitVec 32 := Scalar.extui v55
  let c0_i32_23 : BitVec 32 := 0#32
  let v57 : BitVec 1 := Scalar.cmpi .slt c8_i32_19 c0_i32_23
  let v58 : BitVec 32 := Scalar.extui v57
  let v59 : BitVec 32 := Scalar.subi v56 v58
  let v60 : BitVec 1 := Scalar.cmpi .ne v54 v59
  let v61 : BitVec 32 := Scalar.remsi v48 c8_i32_19
  let c0_i32_24 : BitVec 32 := 0#32
  let v62 : BitVec 1 := Scalar.cmpi .ne v61 c0_i32_24
  let v63 : BitVec 1 := Scalar.andi v60 v62
  let v49 : BitVec 32 := Scalar.divsi v48 c8_i32_19
  let c1_i32 : BitVec 32 := 1#32
  let v64 : BitVec 32 := Scalar.subi v49 c1_i32
  let v65 : BitVec 32 := Scalar.select v63 v64 v49
  let v67 : BitVec 32 := Scalar.subi v65 c0_i32_26
  let c1_i32_27 : BitVec 32 := 1#32
  let v69 : BitVec 32 := Scalar.divsi v67 c1_i32_27
  let v70 : BitVec 32 := Scalar.muli v69 c1_i32_27
  let v71 : BitVec 32 := Scalar.addi c0_i32_26 v70
  let c1_i32_29 : BitVec 32 := 1#32
  let arg17 : BitVec 32 := Scf.iv v71 c1_i32_29 k0_t2
  let v1211 : BitVec 32 := Scalar.muli c8_i32_374 arg17
  let c6_i32_375 : BitVec 32 := 6#32
  let v1212 : BitVec 32 := Scalar.addi v1211 c6_i32_375
  let c128_i32_376 : BitVec 32 := 128#32
  let v1213 : BitVec 32 := Scalar.muli v1212 c128_i32_376
  v1213
def k0_mult16 (i : grid0.Coords) (k0_t2 : Fin (k0_t2_loop i).trips) : BitVec 32 :=
  let c8_i32_397 : BitVec 32 := 8#32
  let c0_i32_26 : BitVec 32 := 0#32
  let arg1 : BitVec 32 := BitVec.ofNat 32 (i 1).val
  let c8_i32 : BitVec 32 := 8#32
  let v48 : BitVec 32 := Scalar.muli arg1 c8_i32
  let c0_i32_20 : BitVec 32 := 0#32
  let v50 : BitVec 1 := Scalar.cmpi .sgt v48 c0_i32_20
  let v51 : BitVec 32 := Scalar.extui v50
  let c0_i32_21 : BitVec 32 := 0#32
  let v52 : BitVec 1 := Scalar.cmpi .slt v48 c0_i32_21
  let v53 : BitVec 32 := Scalar.extui v52
  let v54 : BitVec 32 := Scalar.subi v51 v53
  let c8_i32_19 : BitVec 32 := 8#32
  let c0_i32_22 : BitVec 32 := 0#32
  let v55 : BitVec 1 := Scalar.cmpi .sgt c8_i32_19 c0_i32_22
  let v56 : BitVec 32 := Scalar.extui v55
  let c0_i32_23 : BitVec 32 := 0#32
  let v57 : BitVec 1 := Scalar.cmpi .slt c8_i32_19 c0_i32_23
  let v58 : BitVec 32 := Scalar.extui v57
  let v59 : BitVec 32 := Scalar.subi v56 v58
  let v60 : BitVec 1 := Scalar.cmpi .ne v54 v59
  let v61 : BitVec 32 := Scalar.remsi v48 c8_i32_19
  let c0_i32_24 : BitVec 32 := 0#32
  let v62 : BitVec 1 := Scalar.cmpi .ne v61 c0_i32_24
  let v63 : BitVec 1 := Scalar.andi v60 v62
  let v49 : BitVec 32 := Scalar.divsi v48 c8_i32_19
  let c1_i32 : BitVec 32 := 1#32
  let v64 : BitVec 32 := Scalar.subi v49 c1_i32
  let v65 : BitVec 32 := Scalar.select v63 v64 v49
  let v67 : BitVec 32 := Scalar.subi v65 c0_i32_26
  let c1_i32_27 : BitVec 32 := 1#32
  let v69 : BitVec 32 := Scalar.divsi v67 c1_i32_27
  let v70 : BitVec 32 := Scalar.muli v69 c1_i32_27
  let v71 : BitVec 32 := Scalar.addi c0_i32_26 v70
  let c1_i32_29 : BitVec 32 := 1#32
  let arg17 : BitVec 32 := Scf.iv v71 c1_i32_29 k0_t2
  let v1287 : BitVec 32 := Scalar.muli c8_i32_397 arg17
  let c7_i32_398 : BitVec 32 := 7#32
  let v1288 : BitVec 32 := Scalar.addi v1287 c7_i32_398
  let c128_i32_399 : BitVec 32 := 128#32
  let v1289 : BitVec 32 := Scalar.muli v1288 c128_i32_399
  v1289
def k0_mult17 (i : grid0.Coords) : BitVec 32 :=
  let arg1 : BitVec 32 := BitVec.ofNat 32 (i 1).val
  let c8_i32_30 : BitVec 32 := 8#32
  let v74 : BitVec 32 := Scalar.muli arg1 c8_i32_30
  let c0_i32_31 : BitVec 32 := 0#32
  let v75 : BitVec 32 := Scalar.addi v74 c0_i32_31
  let c128_i32 : BitVec 32 := 128#32
  let v76 : BitVec 32 := Scalar.muli v75 c128_i32
  v76
def k0_off3 (i : grid0.Coords) (c0_i32_31 : BitVec 32) : Fin 2 → Nat :=
  let arg1 : BitVec 32 := BitVec.ofNat 32 (i 1).val
  let c8_i32_30 : BitVec 32 := 8#32
  let v74 : BitVec 32 := Scalar.muli arg1 c8_i32_30
  let v75 : BitVec 32 := Scalar.addi v74 c0_i32_31
  let c128_i32 : BitVec 32 := 128#32
  let v76 : BitVec 32 := Scalar.muli v75 c128_i32
  let v77 : BitVec 32 := v76
  let v78 : Index := Scalar.indexCast v77
  let c0_32 : Index := 0#32
  ![v78.toNat, 0]
def k0_mult18 (i : grid0.Coords) : BitVec 32 :=
  let arg1 : BitVec 32 := BitVec.ofNat 32 (i 1).val
  let c8_i32_56 : BitVec 32 := 8#32
  let v159 : BitVec 32 := Scalar.muli arg1 c8_i32_56
  let c1_i32_57 : BitVec 32 := 1#32
  let v160 : BitVec 32 := Scalar.addi v159 c1_i32_57
  let c128_i32_58 : BitVec 32 := 128#32
  let v161 : BitVec 32 := Scalar.muli v160 c128_i32_58
  v161
def k0_mult19 (i : grid0.Coords) : BitVec 32 :=
  let arg1 : BitVec 32 := BitVec.ofNat 32 (i 1).val
  let c8_i32_83 : BitVec 32 := 8#32
  let v244 : BitVec 32 := Scalar.muli arg1 c8_i32_83
  let c2_i32 : BitVec 32 := 2#32
  let v245 : BitVec 32 := Scalar.addi v244 c2_i32
  let c128_i32_84 : BitVec 32 := 128#32
  let v246 : BitVec 32 := Scalar.muli v245 c128_i32_84
  v246
def k0_mult20 (i : grid0.Coords) : BitVec 32 :=
  let arg1 : BitVec 32 := BitVec.ofNat 32 (i 1).val
  let c8_i32_108 : BitVec 32 := 8#32
  let v329 : BitVec 32 := Scalar.muli arg1 c8_i32_108
  let c3_i32 : BitVec 32 := 3#32
  let v330 : BitVec 32 := Scalar.addi v329 c3_i32
  let c128_i32_109 : BitVec 32 := 128#32
  let v331 : BitVec 32 := Scalar.muli v330 c128_i32_109
  v331
def k0_mult21 (i : grid0.Coords) : BitVec 32 :=
  let arg1 : BitVec 32 := BitVec.ofNat 32 (i 1).val
  let c8_i32_133 : BitVec 32 := 8#32
  let v414 : BitVec 32 := Scalar.muli arg1 c8_i32_133
  let c4_i32 : BitVec 32 := 4#32
  let v415 : BitVec 32 := Scalar.addi v414 c4_i32
  let c128_i32_134 : BitVec 32 := 128#32
  let v416 : BitVec 32 := Scalar.muli v415 c128_i32_134
  v416
def k0_mult22 (i : grid0.Coords) : BitVec 32 :=
  let arg1 : BitVec 32 := BitVec.ofNat 32 (i 1).val
  let c8_i32_158 : BitVec 32 := 8#32
  let v499 : BitVec 32 := Scalar.muli arg1 c8_i32_158
  let c5_i32 : BitVec 32 := 5#32
  let v500 : BitVec 32 := Scalar.addi v499 c5_i32
  let c128_i32_159 : BitVec 32 := 128#32
  let v501 : BitVec 32 := Scalar.muli v500 c128_i32_159
  v501
def k0_mult23 (i : grid0.Coords) : BitVec 32 :=
  let arg1 : BitVec 32 := BitVec.ofNat 32 (i 1).val
  let c8_i32_183 : BitVec 32 := 8#32
  let v584 : BitVec 32 := Scalar.muli arg1 c8_i32_183
  let c6_i32 : BitVec 32 := 6#32
  let v585 : BitVec 32 := Scalar.addi v584 c6_i32
  let c128_i32_184 : BitVec 32 := 128#32
  let v586 : BitVec 32 := Scalar.muli v585 c128_i32_184
  v586
def k0_mult24 (i : grid0.Coords) : BitVec 32 :=
  let arg1 : BitVec 32 := BitVec.ofNat 32 (i 1).val
  let c8_i32_208 : BitVec 32 := 8#32
  let v669 : BitVec 32 := Scalar.muli arg1 c8_i32_208
  let c7_i32 : BitVec 32 := 7#32
  let v670 : BitVec 32 := Scalar.addi v669 c7_i32
  let c128_i32_209 : BitVec 32 := 128#32
  let v671 : BitVec 32 := Scalar.muli v670 c128_i32_209
  v671
def k0_cond2 (i : grid0.Coords) : BitVec 1 :=
  let arg1 : BitVec 32 := BitVec.ofNat 32 (i 1).val
  let c3_i32_234 : BitVec 32 := 3#32
  let v752 : BitVec 1 := Scalar.cmpi .eq arg1 c3_i32_234
  let v753 : BitVec 32 := Scalar.extui v752
  let c0_i32_235 : BitVec 32 := 0#32
  let v754 : BitVec 1 := Scalar.cmpi .ne v753 c0_i32_235
  v754

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c48_i32 : BitVec 32 := 48#32
  let v0 : BitVec 32 := Scalar.addi c48_i32 arg0
  let c0_i32 : BitVec 32 := 0#32
  ![arg1.toNat, v0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S4096x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S4096x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1024x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference2Ideal.lean ====
abbrev S4096x8192 : Shape := ⟨2, ![4096, 8192]⟩
abbrev S4096x2048 : Shape := ⟨2, ![4096, 2048]⟩
abbrev S4096x16x128 : Shape := ⟨3, ![4096, 16, 128]⟩
abbrev S16x4096x128 : Shape := ⟨3, ![16, 4096, 128]⟩
abbrev S16x4096x4096 : Shape := ⟨3, ![16, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S16x128x4096 : Shape := ⟨3, ![16, 128, 4096]⟩

abbrev nBuf : Space → Nat
  | .hbm => 203
  | .vmem => 0
  | .smem => 0
  | _ => 0

abbrev hbmTy0_0 (i : Nat) : BufTy := match i % 128 with
  | 0 => ⟨S4096x8192, .f32⟩
  | 1 => ⟨S4096x2048, .f32⟩
  | 2 => ⟨S4096x2048, .f32⟩
  | 3 => ⟨S4096x2048, .f32⟩
  | 4 => ⟨S4096x2048, .f32⟩
  | 5 => ⟨S4096x2048, .f32⟩
  | 6 => ⟨S4096x16x128, .f32⟩
  | 7 => ⟨S16x4096x128, .f32⟩
  | 8 => ⟨S4096x16x128, .f32⟩
  | 9 => ⟨S16x4096x128, .f32⟩
  | 10 => ⟨S16x4096x4096, .f32⟩
  | 11 => ⟨S_, .f32⟩
  | 12 => ⟨S16x4096x4096, .f32⟩
  | 13 => ⟨S16x4096x4096, .f32⟩
  | 14 => ⟨S4096, .i32⟩
  | 15 => ⟨S1x4096, .i32⟩
  | 16 => ⟨S4096, .i32⟩
  | 17 => ⟨S4096x1, .i32⟩
  | 18 => ⟨S4096x4096, .i32⟩
  | 19 => ⟨S4096x4096, .i32⟩
  | 20 => ⟨S4096x4096, .i1⟩
  | 21 => ⟨S16x4096x4096, .f32⟩
  | 22 => ⟨S16x4096x4096, .f32⟩
  | 23 => ⟨S_, .f32⟩
  | 24 => ⟨S16x4096x4096, .f32⟩
  | 25 => ⟨S16x4096x4096, .f32⟩
  | 26 => ⟨S16x4096x4096, .f32⟩
  | 27 => ⟨S16x4096x4096, .f32⟩
  | 28 => ⟨S16x4096x4096, .i1⟩
  | 29 => ⟨S16x4096x4096, .f32⟩
  | 30 => ⟨S16x4096x4096, .f32⟩
  | 31 => ⟨S16x4096x4096, .f32⟩
  | 32 => ⟨S16x4096x4096, .f32⟩
  | 33 => ⟨S16x4096x4096, .f32⟩
  | 34 => ⟨S16x4096x4096, .f32⟩
  | 35 => ⟨S16x4096x4096, .f32⟩
  | 36 => ⟨S16x4096x4096, .f32⟩
  | 37 => ⟨S_, .f32⟩
  | 38 => ⟨S16x4096x4096, .f32⟩
  | 39 => ⟨S16x4096x4096, .i1⟩
  | 40 => ⟨S_, .f32⟩
  | 41 => ⟨S16x4096x4096, .f32⟩
  | 42 => ⟨S16x4096x4096, .f32⟩
  | 43 => ⟨S_, .f32⟩
  | 44 => ⟨S16x4096x4096, .f32⟩
  | 45 => ⟨S16x4096x4096, .i1⟩
  | 46 => ⟨S_, .f32⟩
  | 47 => ⟨S16x4096x4096, .f32⟩
  | 48 => ⟨S16x4096x4096, .f32⟩
  | 49 => ⟨S16x4096x4096, .f32⟩
  | 50 => ⟨S16x4096x4096, .f32⟩
  | 51 => ⟨S_, .f32⟩
  | 52 => ⟨S_, .f32⟩
  | 53 => ⟨S_, .i1⟩
  | 54 => ⟨S_, .f32⟩
  | 55 => ⟨S_, .f32⟩
  | 56 => ⟨S_, .f32⟩
  | 57 => ⟨S_, .f32⟩
  | 58 => ⟨S16x4096x4096, .f32⟩
  | 59 => ⟨S16x4096x4096, .i1⟩
  | 60 => ⟨S_, .f32⟩
  | 61 => ⟨S16x4096x4096, .f32⟩
  | 62 => ⟨S16x4096x4096, .f32⟩
  | 63 => ⟨S16x4096x4096, .f32⟩
  | 64 => ⟨S16x4096x4096, .f32⟩
  | 65 => ⟨S16x4096x4096, .f32⟩
  | 66 => ⟨S_, .f32⟩
  | 67 => ⟨S16x4096x4096, .f32⟩
  | 68 => ⟨S16x4096x4096, .f32⟩
  | 69 => ⟨S16x4096x4096, .f32⟩
  | 70 => ⟨S_, .f32⟩
  | 71 => ⟨S_, .f32⟩
  | 72 => ⟨S16x4096x4096, .i1⟩
  | 73 => ⟨S16x4096x4096, .f32⟩
  | 74 => ⟨S16x4096x4096, .f32⟩
  | 75 => ⟨S_, .f32⟩
  | 76 => ⟨S16x4096x4096, .f32⟩
  | 77 => ⟨S_, .f32⟩
  | 78 => ⟨S_, .f32⟩
  | 79 => ⟨S16x4096x4096, .f32⟩
  | 80 => ⟨S16x4096x4096, .f32⟩
  | 81 => ⟨S16x4096x4096, .f32⟩
  | 82 => ⟨S_, .f32⟩
  | 83 => ⟨S16x4096x4096, .f32⟩
  | 84 => ⟨S16x4096x4096, .f32⟩
  | 85 => ⟨S16x4096x4096, .f32⟩
  | 86 => ⟨S16x4096x4096, .f32⟩
  | 87 => ⟨S16x4096x4096, .i1⟩
  | 88 => ⟨S16x4096x4096, .f32⟩
  | 89 => ⟨S16x4096x4096, .f32⟩
  | 90 => ⟨S16x4096x4096, .f32⟩
  | 91 => ⟨S16x4096x4096, .f32⟩
  | 92 => ⟨S16x4096x4096, .f32⟩
  | 93 => ⟨S16x4096x4096, .f32⟩
  | 94 => ⟨S16x4096x4096, .f32⟩
  | 95 => ⟨S16x4096x4096, .f32⟩
  | 96 => ⟨S_, .f32⟩
  | 97 => ⟨S16x4096x4096, .f32⟩
  | 98 => ⟨S16x4096x4096, .i1⟩
  | 99 => ⟨S_, .f32⟩
  | 100 => ⟨S16x4096x4096, .f32⟩
  | 101 => ⟨S16x4096x4096, .f32⟩
  | 102 => ⟨S_, .f32⟩
  | 103 => ⟨S16x4096x4096, .f32⟩
  | 104 => ⟨S16x4096x4096, .i1⟩
  | 105 => ⟨S_, .f32⟩
  | 106 => ⟨S16x4096x4096, .f32⟩
  | 107 => ⟨S16x4096x4096, .f32⟩
  | 108 => ⟨S16x4096x4096, .f32⟩
  | 109 => ⟨S16x4096x4096, .f32⟩
  | 110 => ⟨S_, .f32⟩
  | 111 => ⟨S_, .f32⟩
  | 112 => ⟨S_, .i1⟩
  | 113 => ⟨S_, .f32⟩
  | 114 => ⟨S_, .f32⟩
  | 115 => ⟨S_, .f32⟩
  | 116 => ⟨S_, .f32⟩
  | 117 => ⟨S16x4096x4096, .f32⟩
  | 118 => ⟨S16x4096x4096, .i1⟩
  | 119 => ⟨S_, .f32⟩
  | 120 => ⟨S16x4096x4096, .f32⟩
  | 121 => ⟨S16x4096x4096, .f32⟩
  | 122 => ⟨S16x4096x4096, .f32⟩
  | 123 => ⟨S16x4096x4096, .f32⟩
  | 124 => ⟨S16x4096x4096, .f32⟩
  | 125 => ⟨S_, .f32⟩
  | 126 => ⟨S16x4096x4096, .f32⟩
  | 127 => ⟨S16x4096x4096, .f32⟩
  | _ => ⟨S4096x8192, .f32⟩

abbrev hbmTy0_1 (i : Nat) : BufTy := match i % 128 with
  | 0 => ⟨S16x4096x4096, .f32⟩
  | 1 => ⟨S16x4096x4096, .f32⟩
  | 2 => ⟨S16x4096x4096, .f32⟩
  | 3 => ⟨S_, .f32⟩
  | 4 => ⟨S_, .f32⟩
  | 5 => ⟨S16x4096x4096, .i1⟩
  | 6 => ⟨S16x4096x4096, .f32⟩
  | 7 => ⟨S16x4096x4096, .f32⟩
  | 8 => ⟨S_, .f32⟩
  | 9 => ⟨S16x4096x4096, .f32⟩
  | 10 => ⟨S4096x16x128, .f32⟩
  | 11 => ⟨S16x4096x128, .f32⟩
  | 12 => ⟨S16x4096x128, .f32⟩
  | 13 => ⟨S4096x16x128, .f32⟩
  | 14 => ⟨S4096x2048, .f32⟩
  | 15 => ⟨S4096x2048, .f32⟩
  | 16 => ⟨S4096x2048, .f32⟩
  | 17 => ⟨S_, .f32⟩
  | 18 => ⟨S4096x2048, .f32⟩
  | 19 => ⟨S4096x2048, .f32⟩
  | 20 => ⟨S_, .f32⟩
  | 21 => ⟨S4096x2048, .f32⟩
  | 22 => ⟨S4096x2048, .f32⟩
  | 23 => ⟨S_, .f32⟩
  | 24 => ⟨S4096x2048, .f32⟩
  | 25 => ⟨S4096x2048, .f32⟩
  | 26 => ⟨S4096x2048, .f32⟩
  | 27 => ⟨S4096x2048, .f32⟩
  | 28 => ⟨S4096x2048, .f32⟩
  | 29 => ⟨S4096x2048, .f32⟩
  | 30 => ⟨S4096x2048, .f32⟩
  | 31 => ⟨S4096x2048, .f32⟩
  | 32 => ⟨S4096x2048, .f32⟩
  | 33 => ⟨S4096x2048, .f32⟩
  | 34 => ⟨S4096x2048, .f32⟩
  | 35 => ⟨S4096x16x128, .f32⟩
  | 36 => ⟨S16x4096x128, .f32⟩
  | 37 => ⟨S16x128x4096, .f32⟩
  | 38 => ⟨S16x4096x128, .f32⟩
  | 39 => ⟨S16x4096x4096, .f32⟩
  | 40 => ⟨S4096x16x128, .f32⟩
  | 41 => ⟨S4096x2048, .f32⟩
  | 42 => ⟨S_, .f32⟩
  | 43 => ⟨S16x4096x4096, .f32⟩
  | 44 => ⟨S16x4096x4096, .f32⟩
  | 45 => ⟨S16x4096x4096, .f32⟩
  | 46 => ⟨S16x4096x4096, .f32⟩
  | 47 => ⟨S16x4096x4096, .f32⟩
  | 48 => ⟨S16x4096x4096, .f32⟩
  | 49 => ⟨S16x4096x4096, .f32⟩
  | 50 => ⟨S_, .f32⟩
  | 51 => ⟨S_, .f32⟩
  | 52 => ⟨S16x4096x4096, .f32⟩
  | 53 => ⟨S16x4096x4096, .f32⟩
  | 54 => ⟨S_, .f32⟩
  | 55 => ⟨S16x4096x4096, .f32⟩
  | 56 => ⟨S16x4096x4096, .f32⟩
  | 57 => ⟨S16x4096x4096, .f32⟩
  | 58 => ⟨S16x4096x4096, .f32⟩
  | 59 => ⟨S16x4096x4096, .f32⟩
  | 60 => ⟨S16x4096x4096, .f32⟩
  | 61 => ⟨S16x4096x4096, .f32⟩
  | 62 => ⟨S_, .f32⟩
  | 63 => ⟨S16x4096x4096, .f32⟩
  | 64 => ⟨S16x4096x4096, .f32⟩
  | 65 => ⟨S16x4096x128, .f32⟩
  | 66 => ⟨S16x4096x128, .f32⟩
  | 67 => ⟨S4096x16x128, .f32⟩
  | 68 => ⟨S4096x2048, .f32⟩
  | 69 => ⟨S4096x16x128, .f32⟩
  | 70 => ⟨S4096x2048, .f32⟩
  | 71 => ⟨S4096x2048, .bf16⟩
  | 72 => ⟨S4096x2048, .bf16⟩
  | 73 => ⟨S4096x2048, .bf16⟩
  | 74 => ⟨S4096x2048, .bf16⟩
  | _ => ⟨S4096x8192, .f32⟩

abbrev hbmTy (i : Nat) : BufTy := match i / 128 with
  | 0 => hbmTy0_0 i
  | 1 => hbmTy0_1 i
  | _ => ⟨S4096x8192, .f32⟩

abbrev bufTy : (tb : Table) → Fin (tcTables nBuf tb) → BufTy
  | .hbm, ⟨i, _⟩ => hbmTy i
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_call0_v0 : Ref sig .tc := ⟨.hbm, 22, rfl⟩
abbrev main_call0_call0_cst : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_call0_v5 : Ref sig .tc := ⟨.hbm, 29, rfl⟩
abbrev main_call0_call0_v6 : Ref sig .tc := ⟨.hbm, 30, rfl⟩
abbrev main_call0_call0_v7 : Ref sig .tc := ⟨.hbm, 31, rfl⟩
abbrev main_call0_call0_v8 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_v11 : Ref sig .tc := ⟨.hbm, 35, rfl⟩
abbrev main_call0_v1_0 : Ref sig .tc := ⟨.hbm, 36, rfl⟩
abbrev main_call0_call0_cst_0 : Ref sig .tc := ⟨.hbm, 37, rfl⟩
abbrev main_call0_call0_v13 : Ref sig .tc := ⟨.hbm, 38, rfl⟩
abbrev main_call0_call0_v14 : Ref sig .tc := ⟨.hbm, 39, rfl⟩
abbrev main_call0_call0_cst_1 : Ref sig .tc := ⟨.hbm, 40, rfl⟩
abbrev main_call0_call0_v15 : Ref sig .tc := ⟨.hbm, 41, rfl⟩
abbrev main_call0_call0_v16 : Ref sig .tc := ⟨.hbm, 42, rfl⟩
abbrev main_call0_call0_cst_2 : Ref sig .tc := ⟨.hbm, 43, rfl⟩
abbrev main_call0_call0_v17 : Ref sig .tc := ⟨.hbm, 44, rfl⟩
abbrev main_call0_call0_v18 : Ref sig .tc := ⟨.hbm, 45, rfl⟩
abbrev main_call0_call0_cst_3 : Ref sig .tc := ⟨.hbm, 46, rfl⟩
abbrev main_call0_call0_v19 : Ref sig .tc := ⟨.hbm, 47, rfl⟩
abbrev main_call0_call0_v20 : Ref sig .tc := ⟨.hbm, 48, rfl⟩
abbrev main_call0_call0_v21 : Ref sig .tc := ⟨.hbm, 49, rfl⟩
abbrev main_v19_1 : Ref sig .tc := ⟨.hbm, 50, rfl⟩
abbrev main_call0_call0_cst_4 : Ref sig .tc := ⟨.hbm, 51, rfl⟩
abbrev main_call0_call0_cst_5 : Ref sig .tc := ⟨.hbm, 52, rfl⟩
abbrev main_call0_call0_v23 : Ref sig .tc := ⟨.hbm, 53, rfl⟩
abbrev main_call0_call0_cst_6 : Ref sig .tc := ⟨.hbm, 54, rfl⟩
abbrev main_call0_call0_cst_7 : Ref sig .tc := ⟨.hbm, 55, rfl⟩
abbrev main_call0_call0_v24 : Ref sig .tc := ⟨.hbm, 56, rfl⟩
abbrev main_call0_call0_cst_8 : Ref sig .tc := ⟨.hbm, 57, rfl⟩
abbrev main_call0_call0_v25 : Ref sig .tc := ⟨.hbm, 58, rfl⟩
abbrev main_call0_call0_v26 : Ref sig .tc := ⟨.hbm, 59, rfl⟩
abbrev main_call0_call0_cst_9 : Ref sig .tc := ⟨.hbm, 60, rfl⟩
abbrev main_call0_call0_v27 : Ref sig .tc := ⟨.hbm, 61, rfl⟩
abbrev main_call0_call0_v28 : Ref sig .tc := ⟨.hbm, 62, rfl⟩
abbrev main_call0_call0_v29 : Ref sig .tc := ⟨.hbm, 63, rfl⟩
abbrev main_call0_call0_v30 : Ref sig .tc := ⟨.hbm, 64, rfl⟩
abbrev main_call0_call0_v31 : Ref sig .tc := ⟨.hbm, 65, rfl⟩
abbrev main_call0_call0_cst_10 : Ref sig .tc := ⟨.hbm, 66, rfl⟩
abbrev main_call0_call0_v32 : Ref sig .tc := ⟨.hbm, 67, rfl⟩
abbrev main_v19_2 : Ref sig .tc := ⟨.hbm, 68, rfl⟩
abbrev main_v19_0 : Ref sig .tc := ⟨.hbm, 69, rfl⟩
abbrev main_cst_0 : Ref sig .tc := ⟨.hbm, 70, rfl⟩
abbrev main_call1_v0 : Ref sig .tc := ⟨.hbm, 71, rfl⟩
abbrev main_v20_1 : Ref sig .tc := ⟨.hbm, 72, rfl⟩
abbrev main_call1_v2 : Ref sig .tc := ⟨.hbm, 73, rfl⟩
abbrev main_v20_0 : Ref sig .tc := ⟨.hbm, 74, rfl⟩
abbrev main_call1_cst : Ref sig .tc := ⟨.hbm, 75, rfl⟩
abbrev main_v20_2 : Ref sig .tc := ⟨.hbm, 76, rfl⟩
abbrev main_call2_cst : Ref sig .tc := ⟨.hbm, 77, rfl⟩
abbrev main_call2_v0 : Ref sig .tc := ⟨.hbm, 78, rfl⟩
abbrev main_v21 : Ref sig .tc := ⟨.hbm, 79, rfl⟩
abbrev main_v22 : Ref sig .tc := ⟨.hbm, 80, rfl⟩
abbrev main_call3_v0 : Ref sig .tc := ⟨.hbm, 81, rfl⟩
abbrev main_call3_call0_cst : Ref sig .tc := ⟨.hbm, 82, rfl⟩
abbrev main_call3_call0_v0 : Ref sig .tc := ⟨.hbm, 83, rfl⟩
abbrev main_call3_call0_v1 : Ref sig .tc := ⟨.hbm, 84, rfl⟩
abbrev main_call3_call0_v2 : Ref sig .tc := ⟨.hbm, 85, rfl⟩
abbrev main_call3_call0_v3 : Ref sig .tc := ⟨.hbm, 86, rfl⟩
abbrev main_call3_call0_v4 : Ref sig .tc := ⟨.hbm, 87, rfl⟩
abbrev main_call3_call0_v5 : Ref sig .tc := ⟨.hbm, 88, rfl⟩
abbrev main_call3_call0_v6 : Ref sig .tc := ⟨.hbm, 89, rfl⟩
abbrev main_call3_call0_v7 : Ref sig .tc := ⟨.hbm, 90, rfl⟩
abbrev main_call3_call0_v8 : Ref sig .tc := ⟨.hbm, 91, rfl⟩
abbrev main_call3_call0_v9 : Ref sig .tc := ⟨.hbm, 92, rfl⟩
abbrev main_call3_call0_v10 : Ref sig .tc := ⟨.hbm, 93, rfl⟩
abbrev main_call3_call0_v11 : Ref sig .tc := ⟨.hbm, 94, rfl⟩
abbrev main_call3_v1_0 : Ref sig .tc := ⟨.hbm, 95, rfl⟩
abbrev main_call3_call0_cst_0 : Ref sig .tc := ⟨.hbm, 96, rfl⟩
abbrev main_call3_call0_v13 : Ref sig .tc := ⟨.hbm, 97, rfl⟩
abbrev main_call3_call0_v14 : Ref sig .tc := ⟨.hbm, 98, rfl⟩
abbrev main_call3_call0_cst_1 : Ref sig .tc := ⟨.hbm, 99, rfl⟩
abbrev main_call3_call0_v15 : Ref sig .tc := ⟨.hbm, 100, rfl⟩
abbrev main_call3_call0_v16 : Ref sig .tc := ⟨.hbm, 101, rfl⟩
abbrev main_call3_call0_cst_2 : Ref sig .tc := ⟨.hbm, 102, rfl⟩
abbrev main_call3_call0_v17 : Ref sig .tc := ⟨.hbm, 103, rfl⟩
abbrev main_call3_call0_v18 : Ref sig .tc := ⟨.hbm, 104, rfl⟩
abbrev main_call3_call0_cst_3 : Ref sig .tc := ⟨.hbm, 105, rfl⟩
abbrev main_call3_call0_v19 : Ref sig .tc := ⟨.hbm, 106, rfl⟩
abbrev main_call3_call0_v20 : Ref sig .tc := ⟨.hbm, 107, rfl⟩
abbrev main_call3_call0_v21 : Ref sig .tc := ⟨.hbm, 108, rfl⟩
abbrev main_v23_1 : Ref sig .tc := ⟨.hbm, 109, rfl⟩
abbrev main_call3_call0_cst_4 : Ref sig .tc := ⟨.hbm, 110, rfl⟩
abbrev main_call3_call0_cst_5 : Ref sig .tc := ⟨.hbm, 111, rfl⟩
abbrev main_call3_call0_v23 : Ref sig .tc := ⟨.hbm, 112, rfl⟩
abbrev main_call3_call0_cst_6 : Ref sig .tc := ⟨.hbm, 113, rfl⟩
abbrev main_call3_call0_cst_7 : Ref sig .tc := ⟨.hbm, 114, rfl⟩
abbrev main_call3_call0_v24 : Ref sig .tc := ⟨.hbm, 115, rfl⟩
abbrev main_call3_call0_cst_8 : Ref sig .tc := ⟨.hbm, 116, rfl⟩
abbrev main_call3_call0_v25 : Ref sig .tc := ⟨.hbm, 117, rfl⟩
abbrev main_call3_call0_v26 : Ref sig .tc := ⟨.hbm, 118, rfl⟩
abbrev main_call3_call0_cst_9 : Ref sig .tc := ⟨.hbm, 119, rfl⟩
abbrev main_call3_call0_v27 : Ref sig .tc := ⟨.hbm, 120, rfl⟩
abbrev main_call3_call0_v28 : Ref sig .tc := ⟨.hbm, 121, rfl⟩
abbrev main_call3_call0_v29 : Ref sig .tc := ⟨.hbm, 122, rfl⟩
abbrev main_call3_call0_v30 : Ref sig .tc := ⟨.hbm, 123, rfl⟩
abbrev main_call3_call0_v31 : Ref sig .tc := ⟨.hbm, 124, rfl⟩
abbrev main_call3_call0_cst_10 : Ref sig .tc := ⟨.hbm, 125, rfl⟩
abbrev main_call3_call0_v32 : Ref sig .tc := ⟨.hbm, 126, rfl⟩
abbrev main_v23_2 : Ref sig .tc := ⟨.hbm, 127, rfl⟩
abbrev main_v23_0 : Ref sig .tc := ⟨.hbm, 128, rfl⟩
abbrev main_v24 : Ref sig .tc := ⟨.hbm, 129, rfl⟩
abbrev main_v25 : Ref sig .tc := ⟨.hbm, 130, rfl⟩
abbrev main_cst_1 : Ref sig .tc := ⟨.hbm, 131, rfl⟩
abbrev main_call4_v0 : Ref sig .tc := ⟨.hbm, 132, rfl⟩
abbrev main_v26_1 : Ref sig .tc := ⟨.hbm, 133, rfl⟩
abbrev main_call4_v2 : Ref sig .tc := ⟨.hbm, 134, rfl⟩
abbrev main_v26_0 : Ref sig .tc := ⟨.hbm, 135, rfl⟩
abbrev main_call4_cst : Ref sig .tc := ⟨.hbm, 136, rfl⟩
abbrev main_v26_2 : Ref sig .tc := ⟨.hbm, 137, rfl⟩
abbrev main_v27 : Ref sig .tc := ⟨.hbm, 138, rfl⟩
abbrev main_v28 : Ref sig .tc := ⟨.hbm, 139, rfl⟩
abbrev main_v29 : Ref sig .tc := ⟨.hbm, 140, rfl⟩
abbrev main_v30 : Ref sig .tc := ⟨.hbm, 141, rfl⟩
abbrev main_v31 : Ref sig .tc := ⟨.hbm, 142, rfl⟩
abbrev main_call5_v0 : Ref sig .tc := ⟨.hbm, 143, rfl⟩
abbrev main_call5_v1 : Ref sig .tc := ⟨.hbm, 144, rfl⟩
abbrev main_call5_cst : Ref sig .tc := ⟨.hbm, 145, rfl⟩
abbrev main_call5_v2 : Ref sig .tc := ⟨.hbm, 146, rfl⟩
abbrev main_call5_v3 : Ref sig .tc := ⟨.hbm, 147, rfl⟩
abbrev main_call5_cst_0 : Ref sig .tc := ⟨.hbm, 148, rfl⟩
abbrev main_call5_v4 : Ref sig .tc := ⟨.hbm, 149, rfl⟩
abbrev main_v32_2 : Ref sig .tc := ⟨.hbm, 150, rfl⟩
abbrev main_call5_cst_1 : Ref sig .tc := ⟨.hbm, 151, rfl⟩
abbrev main_call5_v6 : Ref sig .tc := ⟨.hbm, 152, rfl⟩
abbrev main_call5_v7 : Ref sig .tc := ⟨.hbm, 153, rfl⟩
abbrev main_v32_1 : Ref sig .tc := ⟨.hbm, 154, rfl⟩
abbrev main_v32_0 : Ref sig .tc := ⟨.hbm, 155, rfl⟩
abbrev main_v33 : Ref sig .tc := ⟨.hbm, 156, rfl⟩
abbrev main_v34 : Ref sig .tc := ⟨.hbm, 157, rfl⟩
abbrev main_v35 : Ref sig .tc := ⟨.hbm, 158, rfl⟩
abbrev main_call6_v0 : Ref sig .tc := ⟨.hbm, 159, rfl⟩
abbrev main_call6_v1 : Ref sig .tc := ⟨.hbm, 160, rfl⟩
abbrev main_call6_v2 : Ref sig .tc := ⟨.hbm, 161, rfl⟩
abbrev main_v36 : Ref sig .tc := ⟨.hbm, 162, rfl⟩
abbrev main_v37 : Ref sig .tc := ⟨.hbm, 163, rfl⟩
abbrev main_v38 : Ref sig .tc := ⟨.hbm, 164, rfl⟩
abbrev main_v39 : Ref sig .tc := ⟨.hbm, 165, rfl⟩
abbrev main_v40 : Ref sig .tc := ⟨.hbm, 166, rfl⟩
abbrev main_v41 : Ref sig .tc := ⟨.hbm, 167, rfl⟩
abbrev main_v42 : Ref sig .tc := ⟨.hbm, 168, rfl⟩
abbrev main_v43 : Ref sig .tc := ⟨.hbm, 169, rfl⟩
abbrev main_call7_cst : Ref sig .tc := ⟨.hbm, 170, rfl⟩
abbrev main_call7_v0 : Ref sig .tc := ⟨.hbm, 171, rfl⟩
abbrev main_v44 : Ref sig .tc := ⟨.hbm, 172, rfl⟩
abbrev main_v45 : Ref sig .tc := ⟨.hbm, 173, rfl⟩
abbrev main_call8_v0 : Ref sig .tc := ⟨.hbm, 174, rfl⟩
abbrev main_call8_v1 : Ref sig .tc := ⟨.hbm, 175, rfl⟩
abbrev main_v46 : Ref sig .tc := ⟨.hbm, 176, rfl⟩
abbrev main_v47 : Ref sig .tc := ⟨.hbm, 177, rfl⟩
abbrev main_call9_cst : Ref sig .tc := ⟨.hbm, 178, rfl⟩
abbrev main_call9_v0 : Ref sig .tc := ⟨.hbm, 179, rfl⟩
abbrev main_v48 : Ref sig .tc := ⟨.hbm, 180, rfl⟩
abbrev main_v49 : Ref sig .tc := ⟨.hbm, 181, rfl⟩
abbrev main_call10_cst : Ref sig .tc := ⟨.hbm, 182, rfl⟩
abbrev main_call10_v0 : Ref sig .tc := ⟨.hbm, 183, rfl⟩
abbrev main_v50 : Ref sig .tc := ⟨.hbm, 184, rfl⟩
abbrev main_call11_v0 : Ref sig .tc := ⟨.hbm, 185, rfl⟩
abbrev main_call11_v1 : Ref sig .tc := ⟨.hbm, 186, rfl⟩
abbrev main_v51 : Ref sig .tc := ⟨.hbm, 187, rfl⟩
abbrev main_v52 : Ref sig .tc := ⟨.hbm, 188, rfl⟩
abbrev main_v53 : Ref sig .tc := ⟨.hbm, 189, rfl⟩
abbrev main_cst_2 : Ref sig .tc := ⟨.hbm, 190, rfl⟩
abbrev main_v54 : Ref sig .tc := ⟨.hbm, 191, rfl⟩
abbrev main_v55 : Ref sig .tc := ⟨.hbm, 192, rfl⟩
abbrev main_v56 : Ref sig .tc := ⟨.hbm, 193, rfl⟩
abbrev main_v57 : Ref sig .tc := ⟨.hbm, 194, rfl⟩
abbrev main_v58 : Ref sig .tc := ⟨.hbm, 195, rfl⟩
abbrev main_v59 : Ref sig .tc := ⟨.hbm, 196, rfl⟩
abbrev main_v60 : Ref sig .tc := ⟨.hbm, 197, rfl⟩
abbrev main_v61 : Ref sig .tc := ⟨.hbm, 198, rfl⟩
abbrev main_v62 : Ref sig .tc := ⟨.hbm, 199, rfl⟩
abbrev main_v63 : Ref sig .tc := ⟨.hbm, 200, rfl⟩
abbrev main_v64 : Ref sig .tc := ⟨.hbm, 201, rfl⟩
abbrev main_v65 : Ref sig .tc := ⟨.hbm, 202, rfl⟩

abbrev nD : Nat := 1
abbrev τ : Topo := Topo.v7x

variable {F : FTy → Type} [FloatOps F]
-- ==== Kernel3.lean ====
abbrev S4x1024x2048 : Shape := ⟨3, ![4, 1024, 2048]⟩
abbrev S4096x2048 : Shape := ⟨2, ![4096, 2048]⟩
abbrev S4096x1024 : Shape := ⟨2, ![4096, 1024]⟩
abbrev S1024x1024 : Shape := ⟨2, ![1024, 1024]⟩
abbrev S1x1024x1024 : Shape := ⟨3, ![1, 1024, 1024]⟩

abbrev nBuf : Space → Nat
  | .hbm => 6
  | .vmem => 12
  | .smem => 0
  | _ => 0

abbrev bufTy : (tb : Table) → Fin (tcTables nBuf tb) → BufTy
  | .hbm, ⟨0, _⟩ => ⟨S4x1024x2048, .bf16⟩
  | .hbm, ⟨1, _⟩ => ⟨S4096x2048, .bf16⟩
  | .hbm, ⟨2, _⟩ => ⟨S4096x2048, .bf16⟩
  | .hbm, ⟨3, _⟩ => ⟨S4096x2048, .bf16⟩
  | .hbm, ⟨4, _⟩ => ⟨S4096x2048, .bf16⟩
  | .hbm, ⟨5, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1x1024x1024, .bf16⟩
  | .local _ .vmem, ⟨9, _⟩ => ⟨S1x1024x1024, .bf16⟩
  | .local _ .vmem, ⟨10, _⟩ => ⟨S1024x1024, .f32⟩
  | .local _ .vmem, ⟨11, _⟩ => ⟨S1024x1024, .f32⟩
  | _, _ => ⟨S4x1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c0_i32_4 : BitVec 32 := 0#32
  let v17 : BitVec 1 := Scalar.cmpi .eq v16 c0_i32_4
  let v18 : BitVec 32 := Scalar.extui v17
  let c0_i32_5 : BitVec 32 := 0#32
  let v19 : BitVec 1 := Scalar.cmpi .ne v18 c0_i32_5
  v19

def k0_cond2 (i : grid0.Coords) : BitVec 1 :=
  let arg1 : BitVec 32 := BitVec.ofNat 32 (i 1).val
  let c0_i32_36 : BitVec 32 := 0#32
  let v84 : BitVec 1 := Scalar.cmpi .eq arg1 c0_i32_36
  let v85 : BitVec 32 := Scalar.extui v84
  let c0_i32_37 : BitVec 32 := 0#32
  let v86 : BitVec 1 := Scalar.cmpi .ne v85 c0_i32_37
  v86

def k0_cond3 (i : grid0.Coords) : BitVec 1 :=
  let arg1 : BitVec 32 := BitVec.ofNat 32 (i 1).val
  let c0_i32_38 : BitVec 32 := 0#32
  let v87 : BitVec 1 := Scalar.cmpi .sgt arg1 c0_i32_38
  let v88 : BitVec 32 := Scalar.extui v87
  let c0_i32_39 : BitVec 32 := 0#32
  let v89 : BitVec 1 := Scalar.cmpi .ne v88 c0_i32_39
  v89

def k0_cond4 (i : grid0.Coords) : BitVec 1 :=
  let arg1 : BitVec 32 := BitVec.ofNat 32 (i 1).val
  let c0_i32_7 : BitVec 32 := 0#32
  let v21 : BitVec 1 := Scalar.cmpi .sgt arg1 c0_i32_7
  let v22 : BitVec 32 := Scalar.extui v21
  let c0_i32_8 : BitVec 32 := 0#32
  let v23 : BitVec 1 := Scalar.cmpi .slt arg1 c0_i32_8
  let v24 : BitVec 32 := Scalar.extui v23
  let v25 : BitVec 32 := Scalar.subi v22 v24
  let c2_i32_6 : BitVec 32 := 2#32
  let c0_i32_9 : BitVec 32 := 0#32
  let v26 : BitVec 1 := Scalar.cmpi .sgt c2_i32_6 c0_i32_9
  let v27 : BitVec 32 := Scalar.extui v26
  let c0_i32_10 : BitVec 32 := 0#32
  let v28 : BitVec 1 := Scalar.cmpi .slt c2_i32_6 c0_i32_10
  let v29 : BitVec 32 := Scalar.extui v28
  let v30 : BitVec 32 := Scalar.subi v27 v29
  let v31 : BitVec 1 := Scalar.cmpi .ne v25 v30
  let v32 : BitVec 32 := Scalar.remsi arg1 c2_i32_6
  let c0_i32_11 : BitVec 32 := 0#32
  let v33 : BitVec 1 := Scalar.cmpi .ne v32 c0_i32_11
  let v34 : BitVec 1 := Scalar.andi v31 v33
  let v20 : BitVec 32 := Scalar.divsi arg1 c2_i32_6
  let c1_i32_12 : BitVec 32 := 1#32
  let v35 : BitVec 32 := Scalar.subi v20 c1_i32_12
  let v36 : BitVec 32 := Scalar.select v34 v35 v20
  let c1_i32_13 : BitVec 32 := 1#32
  let v37 : BitVec 1 := Scalar.cmpi .eq v36 c1_i32_13
  let v38 : BitVec 32 := Scalar.extui v37
  let c0_i32_14 : BitVec 32 := 0#32
  let v39 : BitVec 1 := Scalar.cmpi .ne v38 c0_i32_14
  v39

def k0_cond5 (i : grid0.Coords) : BitVec 1 :=
  let arg1 : BitVec 32 := BitVec.ofNat 32 (i 1).val
  let c0_i32_36 : BitVec 32 := 0#32
  let v84 : BitVec 1 := Scalar.cmpi .eq arg1 c0_i32_36
  let v85 : BitVec 32 := Scalar.extui v84
  let c0_i32_37 : BitVec 32 := 0#32
  let v86 : BitVec 1 := Scalar.cmpi .ne v85 c0_i32_37
  v86

def k0_cond6 (i : grid0.Coords) : BitVec 1 :=
  let arg1 : BitVec 32 := BitVec.ofNat 32 (i 1).val
  let c0_i32_38 : BitVec 32 := 0#32
  let v87 : BitVec 1 := Scalar.cmpi .sgt arg1 c0_i32_38
  let v88 : BitVec 32 := Scalar.extui v87
  let c0_i32_39 : BitVec 32 := 0#32
  let v89 : BitVec 1 := Scalar.cmpi .ne v88 c0_i32_39
  v89

def k0_cond7 (i : grid0.Coords) : BitVec 1 :=
  let arg1 : BitVec 32 := BitVec.ofNat 32 (i 1).val
  let c0_i32_16 : BitVec 32 := 0#32
  let v41 : BitVec 1 := Scalar.cmpi .sgt arg1 c0_i32_16
  let v42 : BitVec 32 := Scalar.extui v41
  let c0_i32_17 : BitVec 32 := 0#32
  let v43 : BitVec 1 := Scalar.cmpi .slt arg1 c0_i32_17
  let v44 : BitVec 32 := Scalar.extui v43
  let v45 : BitVec 32 := Scalar.subi v42 v44
  let c2_i32_15 : BitVec 32 := 2#32
  let c0_i32_18 : BitVec 32 := 0#32
  let v46 : BitVec 1 := Scalar.cmpi .sgt c2_i32_15 c0_i32_18
  let v47 : BitVec 32 := Scalar.extui v46
  let c0_i32_19 : BitVec 32 := 0#32
  let v48 : BitVec 1 := Scalar.cmpi .slt c2_i32_15 c0_i32_19
  let v49 : BitVec 32 := Scalar.extui v48
  let v50 : BitVec 32 := Scalar.subi v47 v49
  let v51 : BitVec 1 := Scalar.cmpi .ne v45 v50
  let v52 : BitVec 32 := Scalar.remsi arg1 c2_i32_15
  let c0_i32_20 : BitVec 32 := 0#32
  let v53 : BitVec 1 := Scalar.cmpi .ne v52 c0_i32_20
  let v54 : BitVec 1 := Scalar.andi v51 v53
  let v40 : BitVec 32 := Scalar.divsi arg1 c2_i32_15
  let c1_i32_21 : BitVec 32 := 1#32
  let v55 : BitVec 32 := Scalar.subi v40 c1_i32_21
  let v56 : BitVec 32 := Scalar.select v54 v55 v40
  let c2_i32_22 : BitVec 32 := 2#32
  let v57 : BitVec 1 := Scalar.cmpi .eq v56 c2_i32_22
  let v58 : BitVec 32 := Scalar.extui v57
  let c0_i32_23 : BitVec 32 := 0#32
  let v59 : BitVec 1 := Scalar.cmpi .ne v58 c0_i32_23
  v59

def k0_cond8 (i : grid0.Coords) : BitVec 1 :=
  let arg1 : BitVec 32 := BitVec.ofNat 32 (i 1).val
  let c0_i32_36 : BitVec 32 := 0#32
  let v84 : BitVec 1 := Scalar.cmpi .eq arg1 c0_i32_36
  let v85 : BitVec 32 := Scalar.extui v84
  let c0_i32_37 : BitVec 32 := 0#32
  let v86 : BitVec 1 := Scalar.cmpi .ne v85 c0_i32_37
  v86

def k0_cond9 (i : grid0.Coords) : BitVec 1 :=
  let arg1 : BitVec 32 := BitVec.ofNat 32 (i 1).val
  let c0_i32_38 : BitVec 32 := 0#32
  let v87 : BitVec 1 := Scalar.cmpi .sgt arg1 c0_i32_38
  let v88 : BitVec 32 := Scalar.extui v87
  let c0_i32_39 : BitVec 32 := 0#32
  let v89 : BitVec 1 := Scalar.cmpi .ne v88 c0_i32_39
  v89

def k0_cond10 (i : grid0.Coords) : BitVec 1 :=
  let arg1 : BitVec 32 := BitVec.ofNat 32 (i 1).val
  let c0_i32_25 : BitVec 32 := 0#32
  let v61 : BitVec 1 := Scalar.cmpi .sgt arg1 c0_i32_25
  let v62 : BitVec 32 := Scalar.extui v61
  let c0_i32_26 : BitVec 32 := 0#32
  let v63 : BitVec 1 := Scalar.cmpi .slt arg1 c0_i32_26
  let v64 : BitVec 32 := Scalar.extui v63
  let v65 : BitVec 32 := Scalar.subi v62 v64
  let c2_i32_24 : BitVec 32 := 2#32
  let c0_i32_27 : BitVec 32 := 0#32
  let v66 : BitVec 1 := Scalar.cmpi .sgt c2_i32_24 c0_i32_27
  let v67 : BitVec 32 := Scalar.extui v66
  let c0_i32_28 : BitVec 32 := 0#32
  let v68 : BitVec 1 := Scalar.cmpi .slt c2_i32_24 c0_i32_28
  let v69 : BitVec 32 := Scalar.extui v68
  let v70 : BitVec 32 := Scalar.subi v67 v69
  let v71 : BitVec 1 := Scalar.cmpi .ne v65 v70
  let v72 : BitVec 32 := Scalar.remsi arg1 c2_i32_24
  let c0_i32_29 : BitVec 32 := 0#32
  let v73 : BitVec 1 := Scalar.cmpi .ne v72 c0_i32_29
  let v74 : BitVec 1 := Scalar.andi v71 v73
  let v60 : BitVec 32 := Scalar.divsi arg1 c2_i32_24
  let c1_i32_30 : BitVec 32 := 1#32
  let v75 : BitVec 32 := Scalar.subi v60 c1_i32_30
  let v76 : BitVec 32 := Scalar.select v74 v75 v60
  let c3_i32 : BitVec 32 := 3#32
  let v77 : BitVec 1 := Scalar.cmpi .eq v76 c3_i32
  let v78 : BitVec 32 := Scalar.extui v77
  let c0_i32_31 : BitVec 32 := 0#32
  let v79 : BitVec 1 := Scalar.cmpi .ne v78 c0_i32_31
  v79

def k0_cond11 (i : grid0.Coords) : BitVec 1 :=
  let arg1 : BitVec 32 := BitVec.ofNat 32 (i 1).val
  let c0_i32_36 : BitVec 32 := 0#32
  let v84 : BitVec 1 := Scalar.cmpi .eq arg1 c0_i32_36
  let v85 : BitVec 32 := Scalar.extui v84
  let c0_i32_37 : BitVec 32 := 0#32
  let v86 : BitVec 1 := Scalar.cmpi .ne v85 c0_i32_37
  v86

def k0_cond12 (i : grid0.Coords) : BitVec 1 :=
  let arg1 : BitVec 32 := BitVec.ofNat 32 (i 1).val
  let c0_i32_38 : BitVec 32 := 0#32
  let v87 : BitVec 1 := Scalar.cmpi .sgt arg1 c0_i32_38
  let v88 : BitVec 32 := Scalar.extui v87
  let c0_i32_39 : BitVec 32 := 0#32
  let v89 : BitVec 1 := Scalar.cmpi .ne v88 c0_i32_39
  v89

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_3 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.subi arg1 c6_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference3Ideal.lean ====
abbrev S4x1024x2048 : Shape := ⟨3, ![4, 1024, 2048]⟩
abbrev S4096x2048 : Shape := ⟨2, ![4096, 2048]⟩
abbrev S1024x4x2048 : Shape := ⟨3, ![1024, 4, 2048]⟩
abbrev S1024x8192 : Shape := ⟨2, ![1024, 8192]⟩
abbrev S4096x8192 : Shape := ⟨2, ![4096, 8192]⟩
abbrev S_ : Shape := ⟨0, ![]⟩
abbrev S4096x1024 : Shape := ⟨2, ![4096, 1024]⟩

abbrev nBuf : Space → Nat
  | .hbm => 14
  | .vmem => 0
  | .smem => 0
  | _ => 0

abbrev bufTy : (tb : Table) → Fin (tcTables nBuf tb) → BufTy
  | .hbm, ⟨0, _⟩ => ⟨S4x1024x2048, .bf16⟩
  | .hbm, ⟨1, _⟩ => ⟨S4096x2048, .bf16⟩
  | .hbm, ⟨2, _⟩ => ⟨S4096x2048, .bf16⟩
  | .hbm, ⟨3, _⟩ => ⟨S4096x2048, .bf16⟩
  | .hbm, ⟨4, _⟩ => ⟨S4096x2048, .bf16⟩
  | .hbm, ⟨5, _⟩ => ⟨S4x1024x2048, .f32⟩
  | .hbm, ⟨6, _⟩ => ⟨S1024x4x2048, .f32⟩
  | .hbm, ⟨7, _⟩ => ⟨S1024x8192, .f32⟩
  | .hbm, ⟨8, _⟩ => ⟨S4096x8192, .bf16⟩
  | .hbm, ⟨9, _⟩ => ⟨S4096x8192, .f32⟩
  | .hbm, ⟨10, _⟩ => ⟨S_, .f32⟩
  | .hbm, ⟨11, _⟩ => ⟨S4096x1024, .f32⟩
  | .hbm, ⟨12, _⟩ => ⟨S4096x8192, .f32⟩
  | .hbm, ⟨13, _⟩ => ⟨S4096x1024, .f32⟩
  | _, _ => ⟨S4x1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Kernel4.lean ====
abbrev S4096x1024 : Shape := ⟨2, ![4096, 1024]⟩
abbrev S4096x2048 : Shape := ⟨2, ![4096, 2048]⟩
abbrev S4x1024x2048 : Shape := ⟨3, ![4, 1024, 2048]⟩
abbrev S1024x1024 : Shape := ⟨2, ![1024, 1024]⟩
abbrev S1x1024x1024 : Shape := ⟨3, ![1, 1024, 1024]⟩

abbrev nBuf : Space → Nat
  | .hbm => 6
  | .vmem => 12
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S4096x2048, .bf16⟩
  | .hbm, ⟨3, _⟩ => ⟨S4096x2048, .bf16⟩
  | .hbm, ⟨4, _⟩ => ⟨S4096x2048, .bf16⟩
  | .hbm, ⟨5, _⟩ => ⟨S4x1024x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1x1024x1024, .f32⟩
  | .local _ .vmem, ⟨11, _⟩ => ⟨S1x1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let c0_i32_4 : BitVec 32 := 0#32
  let v17 : BitVec 1 := Scalar.cmpi .eq v16 c0_i32_4
  let v18 : BitVec 32 := Scalar.extui v17
  let c0_i32_5 : BitVec 32 := 0#32
  let v19 : BitVec 1 := Scalar.cmpi .ne v18 c0_i32_5
  v19

def k0_cond2 (i : grid0.Coords) : BitVec 1 :=
  let arg1 : BitVec 32 := BitVec.ofNat 32 (i 1).val
  let c0_i32_35 : BitVec 32 := 0#32
  let v83 : BitVec 1 := Scalar.cmpi .eq arg1 c0_i32_35
  let v84 : BitVec 32 := Scalar.extui v83
  let c0_i32_36 : BitVec 32 := 0#32
  let v85 : BitVec 1 := Scalar.cmpi .ne v84 c0_i32_36
  v85

def k0_cond3 (i : grid0.Coords) : BitVec 1 :=
  let arg1 : BitVec 32 := BitVec.ofNat 32 (i 1).val
  let c0_i32_37 : BitVec 32 := 0#32
  let v86 : BitVec 1 := Scalar.cmpi .sgt arg1 c0_i32_37
  let v87 : BitVec 32 := Scalar.extui v86
  let c0_i32_38 : BitVec 32 := 0#32
  let v88 : BitVec 1 := Scalar.cmpi .ne v87 c0_i32_38
  v88

def k0_cond4 (i : grid0.Coords) : BitVec 1 :=
  let arg0 : BitVec 32 := BitVec.ofNat 32 (i 0).val
  let c0_i32_7 : BitVec 32 := 0#32
  let v21 : BitVec 1 := Scalar.cmpi .sgt arg0 c0_i32_7
  let v22 : BitVec 32 := Scalar.extui v21
  let c0_i32_8 : BitVec 32 := 0#32
  let v23 : BitVec 1 := Scalar.cmpi .slt arg0 c0_i32_8
  let v24 : BitVec 32 := Scalar.extui v23
  let v25 : BitVec 32 := Scalar.subi v22 v24
  let c2_i32_6 : BitVec 32 := 2#32
  let c0_i32_9 : BitVec 32 := 0#32
  let v26 : BitVec 1 := Scalar.cmpi .sgt c2_i32_6 c0_i32_9
  let v27 : BitVec 32 := Scalar.extui v26
  let c0_i32_10 : BitVec 32 := 0#32
  let v28 : BitVec 1 := Scalar.cmpi .slt c2_i32_6 c0_i32_10
  let v29 : BitVec 32 := Scalar.extui v28
  let v30 : BitVec 32 := Scalar.subi v27 v29
  let v31 : BitVec 1 := Scalar.cmpi .ne v25 v30
  let v32 : BitVec 32 := Scalar.remsi arg0 c2_i32_6
  let c0_i32_11 : BitVec 32 := 0#32
  let v33 : BitVec 1 := Scalar.cmpi .ne v32 c0_i32_11
  let v34 : BitVec 1 := Scalar.andi v31 v33
  let v20 : BitVec 32 := Scalar.divsi arg0 c2_i32_6
  let c1_i32_12 : BitVec 32 := 1#32
  let v35 : BitVec 32 := Scalar.subi v20 c1_i32_12
  let v36 : BitVec 32 := Scalar.select v34 v35 v20
  let c1_i32_13 : BitVec 32 := 1#32
  let v37 : BitVec 1 := Scalar.cmpi .eq v36 c1_i32_13
  let v38 : BitVec 32 := Scalar.extui v37
  let c0_i32_14 : BitVec 32 := 0#32
  let v39 : BitVec 1 := Scalar.cmpi .ne v38 c0_i32_14
  v39

def k0_cond5 (i : grid0.Coords) : BitVec 1 :=
  let arg1 : BitVec 32 := BitVec.ofNat 32 (i 1).val
  let c0_i32_35 : BitVec 32 := 0#32
  let v83 : BitVec 1 := Scalar.cmpi .eq arg1 c0_i32_35
  let v84 : BitVec 32 := Scalar.extui v83
  let c0_i32_36 : BitVec 32 := 0#32
  let v85 : BitVec 1 := Scalar.cmpi .ne v84 c0_i32_36
  v85

def k0_cond6 (i : grid0.Coords) : BitVec 1 :=
  let arg1 : BitVec 32 := BitVec.ofNat 32 (i 1).val
  let c0_i32_37 : BitVec 32 := 0#32
  let v86 : BitVec 1 := Scalar.cmpi .sgt arg1 c0_i32_37
  let v87 : BitVec 32 := Scalar.extui v86
  let c0_i32_38 : BitVec 32 := 0#32
  let v88 : BitVec 1 := Scalar.cmpi .ne v87 c0_i32_38
  v88

def k0_cond7 (i : grid0.Coords) : BitVec 1 :=
  let arg0 : BitVec 32 := BitVec.ofNat 32 (i 0).val
  let c0_i32_16 : BitVec 32 := 0#32
  let v41 : BitVec 1 := Scalar.cmpi .sgt arg0 c0_i32_16
  let v42 : BitVec 32 := Scalar.extui v41
  let c0_i32_17 : BitVec 32 := 0#32
  let v43 : BitVec 1 := Scalar.cmpi .slt arg0 c0_i32_17
  let v44 : BitVec 32 := Scalar.extui v43
  let v45 : BitVec 32 := Scalar.subi v42 v44
  let c2_i32_15 : BitVec 32 := 2#32
  let c0_i32_18 : BitVec 32 := 0#32
  let v46 : BitVec 1 := Scalar.cmpi .sgt c2_i32_15 c0_i32_18
  let v47 : BitVec 32 := Scalar.extui v46
  let c0_i32_19 : BitVec 32 := 0#32
  let v48 : BitVec 1 := Scalar.cmpi .slt c2_i32_15 c0_i32_19
  let v49 : BitVec 32 := Scalar.extui v48
  let v50 : BitVec 32 := Scalar.subi v47 v49
  let v51 : BitVec 1 := Scalar.cmpi .ne v45 v50
  let v52 : BitVec 32 := Scalar.remsi arg0 c2_i32_15
  let c0_i32_20 : BitVec 32 := 0#32
  let v53 : BitVec 1 := Scalar.cmpi .ne v52 c0_i32_20
  let v54 : BitVec 1 := Scalar.andi v51 v53
  let v40 : BitVec 32 := Scalar.divsi arg0 c2_i32_15
  let c1_i32_21 : BitVec 32 := 1#32
  let v55 : BitVec 32 := Scalar.subi v40 c1_i32_21
  let v56 : BitVec 32 := Scalar.select v54 v55 v40
  let c2_i32_22 : BitVec 32 := 2#32
  let v57 : BitVec 1 := Scalar.cmpi .eq v56 c2_i32_22
  let v58 : BitVec 32 := Scalar.extui v57
  let c0_i32_23 : BitVec 32 := 0#32
  let v59 : BitVec 1 := Scalar.cmpi .ne v58 c0_i32_23
  v59

def k0_cond8 (i : grid0.Coords) : BitVec 1 :=
  let arg1 : BitVec 32 := BitVec.ofNat 32 (i 1).val
  let c0_i32_35 : BitVec 32 := 0#32
  let v83 : BitVec 1 := Scalar.cmpi .eq arg1 c0_i32_35
  let v84 : BitVec 32 := Scalar.extui v83
  let c0_i32_36 : BitVec 32 := 0#32
  let v85 : BitVec 1 := Scalar.cmpi .ne v84 c0_i32_36
  v85

def k0_cond9 (i : grid0.Coords) : BitVec 1 :=
  let arg1 : BitVec 32 := BitVec.ofNat 32 (i 1).val
  let c0_i32_37 : BitVec 32 := 0#32
  let v86 : BitVec 1 := Scalar.cmpi .sgt arg1 c0_i32_37
  let v87 : BitVec 32 := Scalar.extui v86
  let c0_i32_38 : BitVec 32 := 0#32
  let v88 : BitVec 1 := Scalar.cmpi .ne v87 c0_i32_38
  v88

def k0_cond10 (i : grid0.Coords) : BitVec 1 :=
  let arg0 : BitVec 32 := BitVec.ofNat 32 (i 0).val
  let c0_i32_25 : BitVec 32 := 0#32
  let v61 : BitVec 1 := Scalar.cmpi .sgt arg0 c0_i32_25
  let v62 : BitVec 32 := Scalar.extui v61
  let c0_i32_26 : BitVec 32 := 0#32
  let v63 : BitVec 1 := Scalar.cmpi .slt arg0 c0_i32_26
  let v64 : BitVec 32 := Scalar.extui v63
  let v65 : BitVec 32 := Scalar.subi v62 v64
  let c2_i32_24 : BitVec 32 := 2#32
  let c0_i32_27 : BitVec 32 := 0#32
  let v66 : BitVec 1 := Scalar.cmpi .sgt c2_i32_24 c0_i32_27
  let v67 : BitVec 32 := Scalar.extui v66
  let c0_i32_28 : BitVec 32 := 0#32
  let v68 : BitVec 1 := Scalar.cmpi .slt c2_i32_24 c0_i32_28
  let v69 : BitVec 32 := Scalar.extui v68
  let v70 : BitVec 32 := Scalar.subi v67 v69
  let v71 : BitVec 1 := Scalar.cmpi .ne v65 v70
  let v72 : BitVec 32 := Scalar.remsi arg0 c2_i32_24
  let c0_i32_29 : BitVec 32 := 0#32
  let v73 : BitVec 1 := Scalar.cmpi .ne v72 c0_i32_29
  let v74 : BitVec 1 := Scalar.andi v71 v73
  let v60 : BitVec 32 := Scalar.divsi arg0 c2_i32_24
  let c1_i32_30 : BitVec 32 := 1#32
  let v75 : BitVec 32 := Scalar.subi v60 c1_i32_30
  let v76 : BitVec 32 := Scalar.select v74 v75 v60
  let c3_i32 : BitVec 32 := 3#32
  let v77 : BitVec 1 := Scalar.cmpi .eq v76 c3_i32
  let v78 : BitVec 32 := Scalar.extui v77
  let c0_i32_31 : BitVec 32 := 0#32
  let v79 : BitVec 1 := Scalar.cmpi .ne v78 c0_i32_31
  v79

def k0_cond11 (i : grid0.Coords) : BitVec 1 :=
  let arg1 : BitVec 32 := BitVec.ofNat 32 (i 1).val
  let c0_i32_35 : BitVec 32 := 0#32
  let v83 : BitVec 1 := Scalar.cmpi .eq arg1 c0_i32_35
  let v84 : BitVec 32 := Scalar.extui v83
  let c0_i32_36 : BitVec 32 := 0#32
  let v85 : BitVec 1 := Scalar.cmpi .ne v84 c0_i32_36
  v85

def k0_cond12 (i : grid0.Coords) : BitVec 1 :=
  let arg1 : BitVec 32 := BitVec.ofNat 32 (i 1).val
  let c0_i32_37 : BitVec 32 := 0#32
  let v86 : BitVec 1 := Scalar.cmpi .sgt arg1 c0_i32_37
  let v87 : BitVec 32 := Scalar.extui v86
  let c0_i32_38 : BitVec 32 := 0#32
  let v88 : BitVec 1 := Scalar.cmpi .ne v87 c0_i32_38
  v88

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg0 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![arg1.toNat, v2.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg0 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg1.toNat, v2.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg0 c4_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg1.toNat, v2.toNat]

def cc0_transform_4 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.subi arg0 c6_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg1.toNat, v2.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference4Ideal.lean ====
abbrev S4096x1024 : Shape := ⟨2, ![4096, 1024]⟩
abbrev S4096x2048 : Shape := ⟨2, ![4096, 2048]⟩
abbrev S4096x8192 : Shape := ⟨2, ![4096, 8192]⟩
abbrev S_ : Shape := ⟨0, ![]⟩
abbrev S4x1024x2048 : Shape := ⟨3, ![4, 1024, 2048]⟩
abbrev S1024x4x2048 : Shape := ⟨3, ![1024, 4, 2048]⟩
abbrev S1024x8192 : Shape := ⟨2, ![1024, 8192]⟩
abbrev S8192x1024 : Shape := ⟨2, ![8192, 1024]⟩

abbrev nBuf : Space → Nat
  | .hbm => 17
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S4096x2048, .bf16⟩
  | .hbm, ⟨3, _⟩ => ⟨S4096x2048, .bf16⟩
  | .hbm, ⟨4, _⟩ => ⟨S4096x2048, .bf16⟩
  | .hbm, ⟨5, _⟩ => ⟨S4096x8192, .bf16⟩
  | .hbm, ⟨6, _⟩ => ⟨S4096x8192, .f32⟩
  | .hbm, ⟨7, _⟩ => ⟨S_, .f32⟩
  | .hbm, ⟨8, _⟩ => ⟨S4x1024x2048, .f32⟩
  | .hbm, ⟨9, _⟩ => ⟨S4096x1024, .f32⟩
  | .hbm, ⟨10, _⟩ => ⟨S1024x4x2048, .f32⟩
  | .hbm, ⟨11, _⟩ => ⟨S1024x8192, .f32⟩
  | .hbm, ⟨12, _⟩ => ⟨S4096x8192, .f32⟩
  | .hbm, ⟨13, _⟩ => ⟨S8192x1024, .f32⟩
  | .hbm, ⟨14, _⟩ => ⟨S1024x8192, .f32⟩
  | .hbm, ⟨15, _⟩ => ⟨S1024x4x2048, .f32⟩
  | .hbm, ⟨16, _⟩ => ⟨S4x1024x2048, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]
-- ==== Kernel5.lean ====
abbrev S4096x1024 : Shape := ⟨2, ![4096, 1024]⟩
abbrev S4x1024x2048 : Shape := ⟨3, ![4, 1024, 2048]⟩
abbrev S4096x8192 : Shape := ⟨2, ![4096, 8192]⟩
abbrev S1024x1024 : Shape := ⟨2, ![1024, 1024]⟩
abbrev S1x1024x1024 : Shape := ⟨3, ![1, 1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4x1024x2048, .bf16⟩
  | .hbm, ⟨2, _⟩ => ⟨S4096x8192, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S4096x1024 : Shape := ⟨2, ![4096, 1024]⟩
abbrev S4x1024x2048 : Shape := ⟨3, ![4, 1024, 2048]⟩
abbrev S1024x4x2048 : Shape := ⟨3, ![1024, 4, 2048]⟩
abbrev S1024x8192 : Shape := ⟨2, ![1024, 8192]⟩
abbrev S4096x8192 : Shape := ⟨2, ![4096, 8192]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x1024x2048, .bf16⟩
  | .hbm, ⟨2, _⟩ => ⟨S4096x1024, .f32⟩
  | .hbm, ⟨3, _⟩ => ⟨S4x1024x2048, .f32⟩
  | .hbm, ⟨4, _⟩ => ⟨S1024x4x2048, .f32⟩
  | .hbm, ⟨5, _⟩ => ⟨S1024x8192, .f32⟩
  | .hbm, ⟨6, _⟩ => ⟨S4096x8192, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel6.lean ====
abbrev S4096x8320 : Shape := ⟨2, ![4096, 8320]⟩
abbrev S1024x8320 : Shape := ⟨2, ![1024, 8320]⟩
abbrev S4096x1024 : Shape := ⟨2, ![4096, 1024]⟩
abbrev S1024x1664 : Shape := ⟨2, ![1024, 1664]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x8320, .bf16⟩
  | .hbm, ⟨1, _⟩ => ⟨S1024x8320, .bf16⟩
  | .hbm, ⟨2, _⟩ => ⟨S4096x1024, .f32⟩
  | .local _ .vmem, ⟨0, _⟩ => ⟨S1024x1664, .bf16⟩
  | .local _ .vmem, ⟨1, _⟩ => ⟨S1024x1664, .bf16⟩
  | .local _ .vmem, ⟨2, _⟩ => ⟨S1024x1664, .bf16⟩
  | .local _ .vmem, ⟨3, _⟩ => ⟨S1024x1664, .bf16⟩
  | .local _ .vmem, ⟨4, _⟩ => ⟨S1024x1024, .f32⟩
  | .local _ .vmem, ⟨5, _⟩ => ⟨S1024x1024, .f32⟩
  | _, _ => ⟨S4096x8320, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 5], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1664 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x8320 : Shape := ⟨2, ![4096, 8320]⟩
abbrev S1024x8320 : Shape := ⟨2, ![1024, 8320]⟩
abbrev S_ : Shape := ⟨0, ![]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x8320, .bf16⟩
  | .hbm, ⟨1, _⟩ => ⟨S1024x8320, .bf16⟩
  | .hbm, ⟨2, _⟩ => ⟨S_, .f32⟩
  | .hbm, ⟨3, _⟩ => ⟨S4096x1024, .f32⟩
  | .hbm, ⟨4, _⟩ => ⟨S1024x8320, .f32⟩
  | .hbm, ⟨5, _⟩ => ⟨S4096x8320, .f32⟩
  | .hbm, ⟨6, _⟩ => ⟨S4096x8320, .f32⟩
  | .hbm, ⟨7, _⟩ => ⟨S4096x1024, .f32⟩
  | _, _ => ⟨S4096x8320, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel7.lean ====
abbrev S4096x1024 : Shape := ⟨2, ![4096, 1024]⟩
abbrev S4096x8320 : Shape := ⟨2, ![4096, 8320]⟩
abbrev S1024x8320 : Shape := ⟨2, ![1024, 8320]⟩
abbrev S1024x1024 : Shape := ⟨2, ![1024, 1024]⟩
abbrev S1024x1664 : Shape := ⟨2, ![1024, 1664]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x8320, .bf16⟩
  | .hbm, ⟨2, _⟩ => ⟨S1024x8320, .f32⟩
  | .local _ .vmem, ⟨0, _⟩ => ⟨S1024x1024, .bf16⟩
  | .local _ .vmem, ⟨1, _⟩ => ⟨S1024x1024, .bf16⟩
  | .local _ .vmem, ⟨2, _⟩ => ⟨S1024x1664, .bf16⟩
  | .local _ .vmem, ⟨3, _⟩ => ⟨S1024x1664, .bf16⟩
  | .local _ .vmem, ⟨4, _⟩ => ⟨S1024x1664, .f32⟩
  | .local _ .vmem, ⟨5, _⟩ => ⟨S1024x1664, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 5, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1664 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x1024 : Shape := ⟨2, ![4096, 1024]⟩
abbrev S4096x8320 : Shape := ⟨2, ![4096, 8320]⟩
abbrev S_ : Shape := ⟨0, ![]⟩
abbrev S1024x8320 : Shape := ⟨2, ![1024, 8320]⟩
abbrev S8320x1024 : Shape := ⟨2, ![8320, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x8320, .bf16⟩
  | .hbm, ⟨2, _⟩ => ⟨S_, .f32⟩
  | .hbm, ⟨3, _⟩ => ⟨S1024x8320, .f32⟩
  | .hbm, ⟨4, _⟩ => ⟨S4096x1024, .f32⟩
  | .hbm, ⟨5, _⟩ => ⟨S4096x8320, .f32⟩
  | .hbm, ⟨6, _⟩ => ⟨S4096x8320, .f32⟩
  | .hbm, ⟨7, _⟩ => ⟨S8320x1024, .f32⟩
  | .hbm, ⟨8, _⟩ => ⟨S1024x8320, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel8.lean ====
abbrev S4096x1024 : Shape := ⟨2, ![4096, 1024]⟩
abbrev S2048x1024 : Shape := ⟨2, ![2048, 1024]⟩
abbrev S4096x2048 : Shape := ⟨2, ![4096, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S2048x1024, .bf16⟩
  | .hbm, ⟨2, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x1024 : Shape := ⟨2, ![4096, 1024]⟩
abbrev S2048x1024 : Shape := ⟨2, ![2048, 1024]⟩
abbrev S_ : Shape := ⟨0, ![]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2048x1024, .bf16⟩
  | .hbm, ⟨2, _⟩ => ⟨S_, .f32⟩
  | .hbm, ⟨3, _⟩ => ⟨S4096x2048, .f32⟩
  | .hbm, ⟨4, _⟩ => ⟨S2048x1024, .f32⟩
  | .hbm, ⟨5, _⟩ => ⟨S4096x1024, .f32⟩
  | .hbm, ⟨6, _⟩ => ⟨S4096x1024, .f32⟩
  | .hbm, ⟨7, _⟩ => ⟨S4096x2048, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel9.lean ====
abbrev S4096x2048 : Shape := ⟨2, ![4096, 2048]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x2048 : Shape := ⟨2, ![4096, 2048]⟩
abbrev S4096x1024 : Shape := ⟨2, ![4096, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S_, .f32⟩
  | .hbm, ⟨3, _⟩ => ⟨S2048x1024, .f32⟩
  | .hbm, ⟨4, _⟩ => ⟨S4096x2048, .f32⟩
  | .hbm, ⟨5, _⟩ => ⟨S4096x1024, .f32⟩
  | .hbm, ⟨6, _⟩ => ⟨S4096x1024, .f32⟩
  | .hbm, ⟨7, _⟩ => ⟨S1024x2048, .f32⟩
  | .hbm, ⟨8, _⟩ => ⟨S2048x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel10.lean ====
abbrev S4096x2048 : Shape := ⟨2, ![4096, 2048]⟩
abbrev S2048x1024 : Shape := ⟨2, ![2048, 1024]⟩
abbrev S4096x1024 : Shape := ⟨2, ![4096, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x1024, .f32⟩
  | .hbm, ⟨3, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 2], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference10Ideal.lean ====
abbrev S4096x2048 : Shape := ⟨2, ![4096, 2048]⟩
abbrev S2048x1024 : Shape := ⟨2, ![2048, 1024]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x1024, .f32⟩
  | .hbm, ⟨3, _⟩ => ⟨S4096x2048, .f32⟩
  | .hbm, ⟨4, _⟩ => ⟨S2048x1024, .f32⟩
  | .hbm, ⟨5, _⟩ => ⟨S4096x1024, .f32⟩
  | .hbm, ⟨6, _⟩ => ⟨S4096x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel11.lean ====
abbrev S4096x1024 : Shape := ⟨2, ![4096, 1024]⟩
abbrev S1024x8320 : Shape := ⟨2, ![1024, 8320]⟩
abbrev S4096x8320 : Shape := ⟨2, ![4096, 8320]⟩
abbrev S1024x1024 : Shape := ⟨2, ![1024, 1024]⟩
abbrev S1024x1664 : Shape := ⟨2, ![1024, 1664]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x8320, .bf16⟩
  | .hbm, ⟨2, _⟩ => ⟨S4096x8320, .f32⟩
  | .local _ .vmem, ⟨0, _⟩ => ⟨S1024x1024, .bf16⟩
  | .local _ .vmem, ⟨1, _⟩ => ⟨S1024x1024, .bf16⟩
  | .local _ .vmem, ⟨2, _⟩ => ⟨S1024x1664, .bf16⟩
  | .local _ .vmem, ⟨3, _⟩ => ⟨S1024x1664, .bf16⟩
  | .local _ .vmem, ⟨4, _⟩ => ⟨S1024x1664, .f32⟩
  | .local _ .vmem, ⟨5, _⟩ => ⟨S1024x1664, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 5, 1], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1664 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4096x1024 : Shape := ⟨2, ![4096, 1024]⟩
abbrev S1024x8320 : Shape := ⟨2, ![1024, 8320]⟩
abbrev S4096x8320 : Shape := ⟨2, ![4096, 8320]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x8320, .bf16⟩
  | .hbm, ⟨2, _⟩ => ⟨S4096x1024, .f32⟩
  | .hbm, ⟨3, _⟩ => ⟨S1024x8320, .f32⟩
  | .hbm, ⟨4, _⟩ => ⟨S4096x8320, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel12.lean ====
abbrev S4096x1024 : Shape := ⟨2, ![4096, 1024]⟩
abbrev S1024x2560 : Shape := ⟨2, ![1024, 2560]⟩
abbrev S4096x2560 : Shape := ⟨2, ![4096, 2560]⟩
abbrev S1024x1024 : Shape := ⟨2, ![1024, 1024]⟩
abbrev S1024x640 : Shape := ⟨2, ![1024, 640]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x2560, .bf16⟩
  | .hbm, ⟨2, _⟩ => ⟨S4096x2560, .f32⟩
  | .local _ .vmem, ⟨0, _⟩ => ⟨S1024x1024, .bf16⟩
  | .local _ .vmem, ⟨1, _⟩ => ⟨S1024x1024, .bf16⟩
  | .local _ .vmem, ⟨2, _⟩ => ⟨S1024x640, .bf16⟩
  | .local _ .vmem, ⟨3, _⟩ => ⟨S1024x640, .bf16⟩
  | .local _ .vmem, ⟨4, _⟩ => ⟨S1024x640, .f32⟩
  | .local _ .vmem, ⟨5, _⟩ => ⟨S1024x640, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4096x1024 : Shape := ⟨2, ![4096, 1024]⟩
abbrev S1024x2560 : Shape := ⟨2, ![1024, 2560]⟩
abbrev S4096x2560 : Shape := ⟨2, ![4096, 2560]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2560, .bf16⟩
  | .hbm, ⟨2, _⟩ => ⟨S4096x1024, .f32⟩
  | .hbm, ⟨3, _⟩ => ⟨S1024x2560, .f32⟩
  | .hbm, ⟨4, _⟩ => ⟨S4096x2560, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel13.lean ====
abbrev S4096x256 : Shape := ⟨2, ![4096, 256]⟩
abbrev S256x4096 : Shape := ⟨2, ![256, 4096]⟩
abbrev S4096x4096 : Shape := ⟨2, ![4096, 4096]⟩
abbrev S1024x256 : Shape := ⟨2, ![1024, 256]⟩
abbrev S256x1024 : Shape := ⟨2, ![256, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x256, .bf16⟩
  | .hbm, ⟨1, _⟩ => ⟨S256x4096, .bf16⟩
  | .hbm, ⟨2, _⟩ => ⟨S4096x4096, .f32⟩
  | .local _ .vmem, ⟨0, _⟩ => ⟨S1024x256, .bf16⟩
  | .local _ .vmem, ⟨1, _⟩ => ⟨S1024x256, .bf16⟩
  | .local _ .vmem, ⟨2, _⟩ => ⟨S256x1024, .bf16⟩
  | .local _ .vmem, ⟨3, _⟩ => ⟨S256x1024, .bf16⟩
  | .local _ .vmem, ⟨4, _⟩ => ⟨S1024x1024, .f32⟩
  | .local _ .vmem, ⟨5, _⟩ => ⟨S1024x1024, .f32⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4096x256 : Shape := ⟨2, ![4096, 256]⟩
abbrev S256x4096 : Shape := ⟨2, ![256, 4096]⟩
abbrev S4096x4096 : Shape := ⟨2, ![4096, 4096]⟩

abbrev nBuf : Space → Nat
  | .hbm => 5
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S256x4096, .bf16⟩
  | .hbm, ⟨2, _⟩ => ⟨S4096x256, .f32⟩
  | .hbm, ⟨3, _⟩ => ⟨S256x4096, .f32⟩
  | .hbm, ⟨4, _⟩ => ⟨S4096x4096, .f32⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel14.lean ====
abbrev S4096x128 : Shape := ⟨2, ![4096, 128]⟩
abbrev S128x4096 : Shape := ⟨2, ![128, 4096]⟩
abbrev S4096x4096 : Shape := ⟨2, ![4096, 4096]⟩
abbrev S1024x128 : Shape := ⟨2, ![1024, 128]⟩
abbrev S128x1024 : Shape := ⟨2, ![128, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x128, .bf16⟩
  | .hbm, ⟨1, _⟩ => ⟨S128x4096, .bf16⟩
  | .hbm, ⟨2, _⟩ => ⟨S4096x4096, .f32⟩
  | .local _ .vmem, ⟨0, _⟩ => ⟨S1024x128, .bf16⟩
  | .local _ .vmem, ⟨1, _⟩ => ⟨S1024x128, .bf16⟩
  | .local _ .vmem, ⟨2, _⟩ => ⟨S128x1024, .bf16⟩
  | .local _ .vmem, ⟨3, _⟩ => ⟨S128x1024, .bf16⟩
  | .local _ .vmem, ⟨4, _⟩ => ⟨S1024x1024, .f32⟩
  | .local _ .vmem, ⟨5, _⟩ => ⟨S1024x1024, .f32⟩
  | _, _ => ⟨S4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S4096x128 : Shape := ⟨2, ![4096, 128]⟩
abbrev S128x4096 : Shape := ⟨2, ![128, 4096]⟩
abbrev S4096x4096 : Shape := ⟨2, ![4096, 4096]⟩

abbrev nBuf : Space → Nat
  | .hbm => 5
  | .vmem => 0
  | .smem => 0
  | _ => 0

abbrev bufTy : (tb : Table) → Fin (tcTables nBuf tb) → BufTy
  | .hbm, ⟨0, _⟩ => ⟨S4096x128, .bf16⟩
  | .hbm, ⟨1, _⟩ => ⟨S128x4096, .bf16⟩
  | .hbm, ⟨2, _⟩ => ⟨S4096x128, .f32⟩
  | .hbm, ⟨3, _⟩ => ⟨S128x4096, .f32⟩
  | .hbm, ⟨4, _⟩ => ⟨S4096x4096, .f32⟩
  | _, _ => ⟨S4096x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel15.lean ====
abbrev S4096x4096 : Shape := ⟨2, ![4096, 4096]⟩
abbrev S256x4096 : Shape := ⟨2, ![256, 4096]⟩
abbrev S4096x256 : Shape := ⟨2, ![4096, 256]⟩
abbrev S1024x1024 : Shape := ⟨2, ![1024, 1024]⟩
abbrev S256x1024 : Shape := ⟨2, ![256, 1024]⟩
abbrev S1024x256 : Shape := ⟨2, ![1024, 256]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S256x4096, .bf16⟩
  | .hbm, ⟨2, _⟩ => ⟨S4096x256, .f32⟩
  | .local _ .vmem, ⟨0, _⟩ => ⟨S1024x1024, .bf16⟩
  | .local _ .vmem, ⟨1, _⟩ => ⟨S1024x1024, .bf16⟩
  | .local _ .vmem, ⟨2, _⟩ => ⟨S256x1024, .bf16⟩
  | .local _ .vmem, ⟨3, _⟩ => ⟨S256x1024, .bf16⟩
  | .local _ .vmem, ⟨4, _⟩ => ⟨S1024x256, .f32⟩
  | .local _ .vmem, ⟨5, _⟩ => ⟨S1024x256, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S4096x4096 : Shape := ⟨2, ![4096, 4096]⟩
abbrev S256x4096 : Shape := ⟨2, ![256, 4096]⟩
abbrev S_ : Shape := ⟨0, ![]⟩
abbrev S4096x256 : Shape := ⟨2, ![4096, 256]⟩

abbrev nBuf : Space → Nat
  | .hbm => 8
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S256x4096, .bf16⟩
  | .hbm, ⟨2, _⟩ => ⟨S_, .f32⟩
  | .hbm, ⟨3, _⟩ => ⟨S4096x256, .f32⟩
  | .hbm, ⟨4, _⟩ => ⟨S256x4096, .f32⟩
  | .hbm, ⟨5, _⟩ => ⟨S4096x4096, .f32⟩
  | .hbm, ⟨6, _⟩ => ⟨S4096x4096, .f32⟩
  | .hbm, ⟨7, _⟩ => ⟨S4096x256, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel16.lean ====
abbrev S4096x256 : Shape := ⟨2, ![4096, 256]⟩
abbrev S4096x4096 : Shape := ⟨2, ![4096, 4096]⟩
abbrev S256x4096 : Shape := ⟨2, ![256, 4096]⟩
abbrev S1024x256 : Shape := ⟨2, ![1024, 256]⟩
abbrev S1024x1024 : Shape := ⟨2, ![1024, 1024]⟩
abbrev S256x1024 : Shape := ⟨2, ![256, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x256, .bf16⟩
  | .hbm, ⟨1, _⟩ => ⟨S4096x4096, .bf16⟩
  | .hbm, ⟨2, _⟩ => ⟨S256x4096, .f32⟩
  | .local _ .vmem, ⟨0, _⟩ => ⟨S1024x256, .bf16⟩
  | .local _ .vmem, ⟨1, _⟩ => ⟨S1024x256, .bf16⟩
  | .local _ .vmem, ⟨2, _⟩ => ⟨S1024x1024, .bf16⟩
  | .local _ .vmem, ⟨3, _⟩ => ⟨S1024x1024, .bf16⟩
  | .local _ .vmem, ⟨4, _⟩ => ⟨S256x1024, .f32⟩
  | .local _ .vmem, ⟨5, _⟩ => ⟨S256x1024, .f32⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S4096x256 : Shape := ⟨2, ![4096, 256]⟩
abbrev S4096x4096 : Shape := ⟨2, ![4096, 4096]⟩
abbrev S_ : Shape := ⟨0, ![]⟩
abbrev S256x4096 : Shape := ⟨2, ![256, 4096]⟩

abbrev nBuf : Space → Nat
  | .hbm => 9
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S4096x4096, .bf16⟩
  | .hbm, ⟨2, _⟩ => ⟨S_, .f32⟩
  | .hbm, ⟨3, _⟩ => ⟨S256x4096, .f32⟩
  | .hbm, ⟨4, _⟩ => ⟨S4096x256, .f32⟩
  | .hbm, ⟨5, _⟩ => ⟨S4096x4096, .f32⟩
  | .hbm, ⟨6, _⟩ => ⟨S4096x4096, .f32⟩
  | .hbm, ⟨7, _⟩ => ⟨S4096x256, .f32⟩
  | .hbm, ⟨8, _⟩ => ⟨S256x4096, .f32⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel17.lean ====
abbrev S4096x4096 : Shape := ⟨2, ![4096, 4096]⟩
abbrev S128x4096 : Shape := ⟨2, ![128, 4096]⟩
abbrev S4096x128 : Shape := ⟨2, ![4096, 128]⟩
abbrev S1024x1024 : Shape := ⟨2, ![1024, 1024]⟩
abbrev S128x1024 : Shape := ⟨2, ![128, 1024]⟩
abbrev S1024x128 : Shape := ⟨2, ![1024, 128]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S128x4096, .bf16⟩
  | .hbm, ⟨2, _⟩ => ⟨S4096x128, .f32⟩
  | .local _ .vmem, ⟨0, _⟩ => ⟨S1024x1024, .bf16⟩
  | .local _ .vmem, ⟨1, _⟩ => ⟨S1024x1024, .bf16⟩
  | .local _ .vmem, ⟨2, _⟩ => ⟨S128x1024, .bf16⟩
  | .local _ .vmem, ⟨3, _⟩ => ⟨S128x1024, .bf16⟩
  | .local _ .vmem, ⟨4, _⟩ => ⟨S1024x128, .f32⟩
  | .local _ .vmem, ⟨5, _⟩ => ⟨S1024x128, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S4096x4096 : Shape := ⟨2, ![4096, 4096]⟩
abbrev S128x4096 : Shape := ⟨2, ![128, 4096]⟩
abbrev S_ : Shape := ⟨0, ![]⟩
abbrev S4096x128 : Shape := ⟨2, ![4096, 128]⟩

abbrev nBuf : Space → Nat
  | .hbm => 8
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S128x4096, .bf16⟩
  | .hbm, ⟨2, _⟩ => ⟨S_, .f32⟩
  | .hbm, ⟨3, _⟩ => ⟨S4096x128, .f32⟩
  | .hbm, ⟨4, _⟩ => ⟨S128x4096, .f32⟩
  | .hbm, ⟨5, _⟩ => ⟨S4096x4096, .f32⟩
  | .hbm, ⟨6, _⟩ => ⟨S4096x4096, .f32⟩
  | .hbm, ⟨7, _⟩ => ⟨S4096x128, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel18.lean ====
abbrev S4096x128 : Shape := ⟨2, ![4096, 128]⟩
abbrev S4096x4096 : Shape := ⟨2, ![4096, 4096]⟩
abbrev S128x4096 : Shape := ⟨2, ![128, 4096]⟩
abbrev S1024x128 : Shape := ⟨2, ![1024, 128]⟩
abbrev S1024x1024 : Shape := ⟨2, ![1024, 1024]⟩
abbrev S128x1024 : Shape := ⟨2, ![128, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x128, .bf16⟩
  | .hbm, ⟨1, _⟩ => ⟨S4096x4096, .bf16⟩
  | .hbm, ⟨2, _⟩ => ⟨S128x4096, .f32⟩
  | .local _ .vmem, ⟨0, _⟩ => ⟨S1024x128, .bf16⟩
  | .local _ .vmem, ⟨1, _⟩ => ⟨S1024x128, .bf16⟩
  | .local _ .vmem, ⟨2, _⟩ => ⟨S1024x1024, .bf16⟩
  | .local _ .vmem, ⟨3, _⟩ => ⟨S1024x1024, .bf16⟩
  | .local _ .vmem, ⟨4, _⟩ => ⟨S128x1024, .f32⟩
  | .local _ .vmem, ⟨5, _⟩ => ⟨S128x1024, .f32⟩
  | _, _ => ⟨S4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S4096x128 : Shape := ⟨2, ![4096, 128]⟩
abbrev S4096x4096 : Shape := ⟨2, ![4096, 4096]⟩
abbrev S_ : Shape := ⟨0, ![]⟩
abbrev S128x4096 : Shape := ⟨2, ![128, 4096]⟩

abbrev nBuf : Space → Nat
  | .hbm => 9
  | .vmem => 0
  | .smem => 0
  | _ => 0

abbrev bufTy : (tb : Table) → Fin (tcTables nBuf tb) → BufTy
  | .hbm, ⟨0, _⟩ => ⟨S4096x128, .bf16⟩
  | .hbm, ⟨1, _⟩ => ⟨S4096x4096, .bf16⟩
  | .hbm, ⟨2, _⟩ => ⟨S_, .f32⟩
  | .hbm, ⟨3, _⟩ => ⟨S128x4096, .f32⟩
  | .hbm, ⟨4, _⟩ => ⟨S4096x128, .f32⟩
  | .hbm, ⟨5, _⟩ => ⟨S4096x4096, .f32⟩
  | .hbm, ⟨6, _⟩ => ⟨S4096x4096, .f32⟩
  | .hbm, ⟨7, _⟩ => ⟨S4096x128, .f32⟩
  | .hbm, ⟨8, _⟩ => ⟨S128x4096, .f32⟩
  | _, _ => ⟨S4096x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel19.lean ====
abbrev S4096x2560 : Shape := ⟨2, ![4096, 2560]⟩
abbrev S1024x2560 : Shape := ⟨2, ![1024, 2560]⟩
abbrev S4096x1024 : Shape := ⟨2, ![4096, 1024]⟩
abbrev S1024x640 : Shape := ⟨2, ![1024, 640]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2560, .bf16⟩
  | .hbm, ⟨1, _⟩ => ⟨S1024x2560, .bf16⟩
  | .hbm, ⟨2, _⟩ => ⟨S4096x1024, .f32⟩
  | .local _ .vmem, ⟨0, _⟩ => ⟨S1024x640, .bf16⟩
  | .local _ .vmem, ⟨1, _⟩ => ⟨S1024x640, .bf16⟩
  | .local _ .vmem, ⟨2, _⟩ => ⟨S1024x640, .bf16⟩
  | .local _ .vmem, ⟨3, _⟩ => ⟨S1024x640, .bf16⟩
  | .local _ .vmem, ⟨4, _⟩ => ⟨S1024x1024, .f32⟩
  | .local _ .vmem, ⟨5, _⟩ => ⟨S1024x1024, .f32⟩
  | _, _ => ⟨S4096x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S4096x2560 : Shape := ⟨2, ![4096, 2560]⟩
abbrev S1024x2560 : Shape := ⟨2, ![1024, 2560]⟩
abbrev S_ : Shape := ⟨0, ![]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x2560, .bf16⟩
  | .hbm, ⟨1, _⟩ => ⟨S1024x2560, .bf16⟩
  | .hbm, ⟨2, _⟩ => ⟨S_, .f32⟩
  | .hbm, ⟨3, _⟩ => ⟨S4096x1024, .f32⟩
  | .hbm, ⟨4, _⟩ => ⟨S1024x2560, .f32⟩
  | .hbm, ⟨5, _⟩ => ⟨S4096x2560, .f32⟩
  | .hbm, ⟨6, _⟩ => ⟨S4096x2560, .f32⟩
  | .hbm, ⟨7, _⟩ => ⟨S4096x1024, .f32⟩
  | _, _ => ⟨S4096x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel20.lean ====
abbrev S4096x1024 : Shape := ⟨2, ![4096, 1024]⟩
abbrev S4096x2560 : Shape := ⟨2, ![4096, 2560]⟩
abbrev S1024x2560 : Shape := ⟨2, ![1024, 2560]⟩
abbrev S1024x1024 : Shape := ⟨2, ![1024, 1024]⟩
abbrev S1024x640 : Shape := ⟨2, ![1024, 640]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x2560, .bf16⟩
  | .hbm, ⟨2, _⟩ => ⟨S1024x2560, .f32⟩
  | .local _ .vmem, ⟨0, _⟩ => ⟨S1024x1024, .bf16⟩
  | .local _ .vmem, ⟨1, _⟩ => ⟨S1024x1024, .bf16⟩
  | .local _ .vmem, ⟨2, _⟩ => ⟨S1024x640, .bf16⟩
  | .local _ .vmem, ⟨3, _⟩ => ⟨S1024x640, .bf16⟩
  | .local _ .vmem, ⟨4, _⟩ => ⟨S1024x640, .f32⟩
  | .local _ .vmem, ⟨5, _⟩ => ⟨S1024x640, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference20Ideal.lean ====
abbrev S4096x1024 : Shape := ⟨2, ![4096, 1024]⟩
abbrev S4096x2560 : Shape := ⟨2, ![4096, 2560]⟩
abbrev S_ : Shape := ⟨0, ![]⟩
abbrev S1024x2560 : Shape := ⟨2, ![1024, 2560]⟩
abbrev S2560x1024 : Shape := ⟨2, ![2560, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2560, .bf16⟩
  | .hbm, ⟨2, _⟩ => ⟨S_, .f32⟩
  | .hbm, ⟨3, _⟩ => ⟨S1024x2560, .f32⟩
  | .hbm, ⟨4, _⟩ => ⟨S4096x1024, .f32⟩
  | .hbm, ⟨5, _⟩ => ⟨S4096x2560, .f32⟩
  | .hbm, ⟨6, _⟩ => ⟨S4096x2560, .f32⟩
  | .hbm, ⟨7, _⟩ => ⟨S2560x1024, .f32⟩
  | .hbm, ⟨8, _⟩ => ⟨S1024x2560, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel21.lean ====
abbrev S4096x8192 : Shape := ⟨2, ![4096, 8192]⟩
abbrev S4096x2048 : Shape := ⟨2, ![4096, 2048]⟩
abbrev S16x4096x1 : Shape := ⟨3, ![16, 4096, 1]⟩
abbrev S1024x128 : Shape := ⟨2, ![1024, 128]⟩
abbrev S4096x128 : Shape := ⟨2, ![4096, 128]⟩
abbrev S1x1024x1 : Shape := ⟨3, ![1, 1024, 1]⟩
abbrev S128x128 : Shape := ⟨2, ![128, 128]⟩
abbrev S1024x1 : Shape := ⟨2, ![1024, 1]⟩
abbrev S1024 : Shape := ⟨1, ![1024]⟩

abbrev nBuf : Space → Nat
  | .hbm => 4
  | .vmem => 16
  | .smem => 0
  | _ => 0

abbrev bufTy : (tb : Table) → Fin (tcTables nBuf tb) → BufTy
  | .hbm, ⟨0, _⟩ => ⟨S4096x8192, .f32⟩
  | .hbm, ⟨1, _⟩ => ⟨S4096x2048, .f32⟩
  | .hbm, ⟨2, _⟩ => ⟨S16x4096x1, .f32⟩
  | .hbm, ⟨3, _⟩ => ⟨S4096x2048, .bf16⟩
  | .local _ .vmem, ⟨0, _⟩ => ⟨S1024x128, .f32⟩
  | .local _ .vmem, ⟨1, _⟩ => ⟨S1024x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1x1024x1, .f32⟩
  | .local _ .vmem, ⟨11, _⟩ => ⟨S1x1024x1, .f32⟩
  | .local _ .vmem, ⟨12, _⟩ => ⟨S1024x128, .bf16⟩
  | .local _ .vmem, ⟨13, _⟩ => ⟨S1024x128, .bf16⟩
  | .local _ .vmem, ⟨14, _⟩ => ⟨S4096x128, .bf16⟩
  | .local _ .vmem, ⟨15, _⟩ => ⟨S4096x128, .bf16⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 4], ![false, false]⟩

def k0_mult1 (i : grid0.Coords) : BitVec 32 :=
  let arg1 : BitVec 32 := BitVec.ofNat 32 (i 1).val
  let c8_i32 : BitVec 32 := 8#32
  let v17 : BitVec 32 := Scalar.muli arg1 c8_i32
  let c7_i32 : BitVec 32 := 7#32
  let v18 : BitVec 32 := Scalar.addi v17 c7_i32
  let c128_i32 : BitVec 32 := 128#32
  let v19 : BitVec 32 := Scalar.muli v18 c128_i32
  v19
def k0_off1 (i : grid0.Coords) (c7_i32 : BitVec 32) : Fin 2 → Nat :=
  let arg1 : BitVec 32 := BitVec.ofNat 32 (i 1).val
  let c8_i32 : BitVec 32 := 8#32
  let v17 : BitVec 32 := Scalar.muli arg1 c8_i32
  let v18 : BitVec 32 := Scalar.addi v17 c7_i32
  let c128_i32 : BitVec 32 := 128#32
  let v19 : BitVec 32 := Scalar.muli v18 c128_i32
  let v20 : BitVec 32 := v19
  let v21 : Index := Scalar.indexCast v20
  let c0_4 : Index := 0#32
  ![v21.toNat, 0]
def k0_mult2 (i : grid0.Coords) : BitVec 32 :=
  let arg1 : BitVec 32 := BitVec.ofNat 32 (i 1).val
  let c8_i32_17 : BitVec 32 := 8#32
  let v63 : BitVec 32 := Scalar.muli arg1 c8_i32_17
  let c6_i32 : BitVec 32 := 6#32
  let v64 : BitVec 32 := Scalar.addi v63 c6_i32
  let c128_i32_18 : BitVec 32 := 128#32
  let v65 : BitVec 32 := Scalar.muli v64 c128_i32_18
  v65
def k0_mult3 (i : grid0.Coords) : BitVec 32 :=
  let arg1 : BitVec 32 := BitVec.ofNat 32 (i 1).val
  let c8_i32_32 : BitVec 32 := 8#32
  let v109 : BitVec 32 := Scalar.muli arg1 c8_i32_32
  let c5_i32 : BitVec 32 := 5#32
  let v110 : BitVec 32 := Scalar.addi v109 c5_i32
  let c128_i32_33 : BitVec 32 := 128#32
  let v111 : BitVec 32 := Scalar.muli v110 c128_i32_33
  v111
def k0_mult4 (i : grid0.Coords) : BitVec 32 :=
  let arg1 : BitVec 32 := BitVec.ofNat 32 (i 1).val
  let c8_i32_47 : BitVec 32 := 8#32
  let v155 : BitVec 32 := Scalar.muli arg1 c8_i32_47
  let c4_i32 : BitVec 32 := 4#32
  let v156 : BitVec 32 := Scalar.addi v155 c4_i32
  let c128_i32_48 : BitVec 32 := 128#32
  let v157 : BitVec 32 := Scalar.muli v156 c128_i32_48
  v157
def k0_mult5 (i : grid0.Coords) : BitVec 32 :=
  let arg1 : BitVec 32 := BitVec.ofNat 32 (i 1).val
  let c8_i32_62 : BitVec 32 := 8#32
  let v201 : BitVec 32 := Scalar.muli arg1 c8_i32_62
  let c3_i32 : BitVec 32 := 3#32
  let v202 : BitVec 32 := Scalar.addi v201 c3_i32
  let c128_i32_63 : BitVec 32 := 128#32
  let v203 : BitVec 32 := Scalar.muli v202 c128_i32_63
  v203
def k0_mult6 (i : grid0.Coords) : BitVec 32 :=
  let arg1 : BitVec 32 := BitVec.ofNat 32 (i 1).val
  let c8_i32_77 : BitVec 32 := 8#32
  let v247 : BitVec 32 := Scalar.muli arg1 c8_i32_77
  let c2_i32 : BitVec 32 := 2#32
  let v248 : BitVec 32 := Scalar.addi v247 c2_i32
  let c128_i32_78 : BitVec 32 := 128#32
  let v249 : BitVec 32 := Scalar.muli v248 c128_i32_78
  v249
def k0_mult7 (i : grid0.Coords) : BitVec 32 :=
  let arg1 : BitVec 32 := BitVec.ofNat 32 (i 1).val
  let c8_i32_92 : BitVec 32 := 8#32
  let v293 : BitVec 32 := Scalar.muli arg1 c8_i32_92
  let c1_i32 : BitVec 32 := 1#32
  let v294 : BitVec 32 := Scalar.addi v293 c1_i32
  let c128_i32_93 : BitVec 32 := 128#32
  let v295 : BitVec 32 := Scalar.muli v294 c128_i32_93
  v295
def k0_mult8 (i : grid0.Coords) : BitVec 32 :=
  let arg1 : BitVec 32 := BitVec.ofNat 32 (i 1).val
  let c8_i32_108 : BitVec 32 := 8#32
  let v339 : BitVec 32 := Scalar.muli arg1 c8_i32_108
  let c0_i32_109 : BitVec 32 := 0#32
  let v340 : BitVec 32 := Scalar.addi v339 c0_i32_109
  let c128_i32_110 : BitVec 32 := 128#32
  let v341 : BitVec 32 := Scalar.muli v340 c128_i32_110
  v341
@[reducible] def k0_t1_loop (i : grid0.Coords) : Scf.Loop 32 :=
  let c0_i32_133 : BitVec 32 := 0#32
  let arg1 : BitVec 32 := BitVec.ofNat 32 (i 1).val
  let c8_i32_125 : BitVec 32 := 8#32
  let v385 : BitVec 32 := Scalar.muli arg1 c8_i32_125
  let c0_i32_127 : BitVec 32 := 0#32
  let v387 : BitVec 1 := Scalar.cmpi .sgt v385 c0_i32_127
  let v388 : BitVec 32 := Scalar.extui v387
  let c0_i32_128 : BitVec 32 := 0#32
  let v389 : BitVec 1 := Scalar.cmpi .slt v385 c0_i32_128
  let v390 : BitVec 32 := Scalar.extui v389
  let v391 : BitVec 32 := Scalar.subi v388 v390
  let c8_i32_126 : BitVec 32 := 8#32
  let c0_i32_129 : BitVec 32 := 0#32
  let v392 : BitVec 1 := Scalar.cmpi .sgt c8_i32_126 c0_i32_129
  let v393 : BitVec 32 := Scalar.extui v392
  let c0_i32_130 : BitVec 32 := 0#32
  let v394 : BitVec 1 := Scalar.cmpi .slt c8_i32_126 c0_i32_130
  let v395 : BitVec 32 := Scalar.extui v394
  let v396 : BitVec 32 := Scalar.subi v393 v395
  let v397 : BitVec 1 := Scalar.cmpi .ne v391 v396
  let v398 : BitVec 32 := Scalar.remsi v385 c8_i32_126
  let c0_i32_131 : BitVec 32 := 0#32
  let v399 : BitVec 1 := Scalar.cmpi .ne v398 c0_i32_131
  let v400 : BitVec 1 := Scalar.andi v397 v399
  let v386 : BitVec 32 := Scalar.divsi v385 c8_i32_126
  let c1_i32_132 : BitVec 32 := 1#32
  let v401 : BitVec 32 := Scalar.subi v386 c1_i32_132
  let v402 : BitVec 32 := Scalar.select v400 v401 v386
  let v403 : BitVec 32 := Scalar.subi v402 c0_i32_133
  let c1_i32_134 : BitVec 32 := 1#32
  let v405 : BitVec 32 := Scalar.divsi v403 c1_i32_134
  let v406 : BitVec 32 := Scalar.muli v405 c1_i32_134
  let v407 : BitVec 32 := Scalar.addi c0_i32_133 v406
  let c1_i32_135 : BitVec 32 := 1#32
  ⟨c0_i32_133, v407, c1_i32_135⟩
def k0_mult9 (i : grid0.Coords) (k0_t1 : Fin (k0_t1_loop i).trips) : BitVec 32 :=
  let arg1 : BitVec 32 := BitVec.ofNat 32 (i 1).val
  let c8_i32_149 : BitVec 32 := 8#32
  let v426 : BitVec 32 := Scalar.muli arg1 c8_i32_149
  let c1_i32_150 : BitVec 32 := 1#32
  let v427 : BitVec 32 := Scalar.subi v426 c1_i32_150
  let c8_i32_151 : BitVec 32 := 8#32
  let c0_i32_133 : BitVec 32 := 0#32
  let c1_i32_135 : BitVec 32 := 1#32
  let arg11 : BitVec 32 := Scf.iv c0_i32_133 c1_i32_135 k0_t1
  let v428 : BitVec 32 := Scalar.muli c8_i32_151 arg11
  let c0_i32_152 : BitVec 32 := 0#32
  let v429 : BitVec 32 := Scalar.addi v428 c0_i32_152
  let v430 : BitVec 32 := Scalar.subi v427 v429
  let c128_i32_153 : BitVec 32 := 128#32
  let v431 : BitVec 32 := Scalar.muli v430 c128_i32_153
  v431
def k0_off2 (i : grid0.Coords) (k0_t1 : Fin (k0_t1_loop i).trips) (c0_i32_152 : BitVec 32) : Fin 2 → Nat :=
  let arg1 : BitVec 32 := BitVec.ofNat 32 (i 1).val
  let c8_i32_149 : BitVec 32 := 8#32
  let v426 : BitVec 32 := Scalar.muli arg1 c8_i32_149
  let c1_i32_150 : BitVec 32 := 1#32
  let v427 : BitVec 32 := Scalar.subi v426 c1_i32_150
  let c8_i32_151 : BitVec 32 := 8#32
  let c0_i32_133 : BitVec 32 := 0#32
  let c1_i32_135 : BitVec 32 := 1#32
  let arg11 : BitVec 32 := Scf.iv c0_i32_133 c1_i32_135 k0_t1
  let v428 : BitVec 32 := Scalar.muli c8_i32_151 arg11
  let v429 : BitVec 32 := Scalar.addi v428 c0_i32_152
  let v430 : BitVec 32 := Scalar.subi v427 v429
  let c128_i32_153 : BitVec 32 := 128#32
  let v431 : BitVec 32 := Scalar.muli v430 c128_i32_153
  let v432 : BitVec 32 := v431
  let v433 : Index := Scalar.indexCast v432
  let c0_154 : Index := 0#32
  ![v433.toNat, 0]
def k0_mult10 (i : grid0.Coords) (k0_t1 : Fin (k0_t1_loop i).trips) : BitVec 32 :=
  let arg1 : BitVec 32 := BitVec.ofNat 32 (i 1).val
  let c8_i32_165 : BitVec 32 := 8#32
  let v468 : BitVec 32 := Scalar.muli arg1 c8_i32_165
  let c1_i32_166 : BitVec 32 := 1#32
  let v469 : BitVec 32 := Scalar.subi v468 c1_i32_166
  let c8_i32_167 : BitVec 32 := 8#32
  let c0_i32_133 : BitVec 32 := 0#32
  let c1_i32_135 : BitVec 32 := 1#32
  let arg11 : BitVec 32 := Scf.iv c0_i32_133 c1_i32_135 k0_t1
  let v470 : BitVec 32 := Scalar.muli c8_i32_167 arg11
  let c1_i32_168 : BitVec 32 := 1#32
  let v471 : BitVec 32 := Scalar.addi v470 c1_i32_168
  let v472 : BitVec 32 := Scalar.subi v469 v471
  let c128_i32_169 : BitVec 32 := 128#32
  let v473 : BitVec 32 := Scalar.muli v472 c128_i32_169
  v473
def k0_mult11 (i : grid0.Coords) (k0_t1 : Fin (k0_t1_loop i).trips) : BitVec 32 :=
  let arg1 : BitVec 32 := BitVec.ofNat 32 (i 1).val
  let c8_i32_181 : BitVec 32 := 8#32
  let v510 : BitVec 32 := Scalar.muli arg1 c8_i32_181
  let c1_i32_182 : BitVec 32 := 1#32
  let v511 : BitVec 32 := Scalar.subi v510 c1_i32_182
  let c8_i32_183 : BitVec 32 := 8#32
  let c0_i32_133 : BitVec 32 := 0#32
  let c1_i32_135 : BitVec 32 := 1#32
  let arg11 : BitVec 32 := Scf.iv c0_i32_133 c1_i32_135 k0_t1
  let v512 : BitVec 32 := Scalar.muli c8_i32_183 arg11
  let c2_i32_184 : BitVec 32 := 2#32
  let v513 : BitVec 32 := Scalar.addi v512 c2_i32_184
  let v514 : BitVec 32 := Scalar.subi v511 v513
  let c128_i32_185 : BitVec 32 := 128#32
  let v515 : BitVec 32 := Scalar.muli v514 c128_i32_185
  v515
def k0_mult12 (i : grid0.Coords) (k0_t1 : Fin (k0_t1_loop i).trips) : BitVec 32 :=
  let arg1 : BitVec 32 := BitVec.ofNat 32 (i 1).val
  let c8_i32_197 : BitVec 32 := 8#32
  let v552 : BitVec 32 := Scalar.muli arg1 c8_i32_197
  let c1_i32_198 : BitVec 32 := 1#32
  let v553 : BitVec 32 := Scalar.subi v552 c1_i32_198
  let c8_i32_199 : BitVec 32 := 8#32
  let c0_i32_133 : BitVec 32 := 0#32
  let c1_i32_135 : BitVec 32 := 1#32
  let arg11 : BitVec 32 := Scf.iv c0_i32_133 c1_i32_135 k0_t1
  let v554 : BitVec 32 := Scalar.muli c8_i32_199 arg11
  let c3_i32_200 : BitVec 32 := 3#32
  let v555 : BitVec 32 := Scalar.addi v554 c3_i32_200
  let v556 : BitVec 32 := Scalar.subi v553 v555
  let c128_i32_201 : BitVec 32 := 128#32
  let v557 : BitVec 32 := Scalar.muli v556 c128_i32_201
  v557
def k0_mult13 (i : grid0.Coords) (k0_t1 : Fin (k0_t1_loop i).trips) : BitVec 32 :=
  let arg1 : BitVec 32 := BitVec.ofNat 32 (i 1).val
  let c8_i32_213 : BitVec 32 := 8#32
  let v594 : BitVec 32 := Scalar.muli arg1 c8_i32_213
  let c1_i32_214 : BitVec 32 := 1#32
  let v595 : BitVec 32 := Scalar.subi v594 c1_i32_214
  let c8_i32_215 : BitVec 32 := 8#32
  let c0_i32_133 : BitVec 32 := 0#32
  let c1_i32_135 : BitVec 32 := 1#32
  let arg11 : BitVec 32 := Scf.iv c0_i32_133 c1_i32_135 k0_t1
  let v596 : BitVec 32 := Scalar.muli c8_i32_215 arg11
  let c4_i32_216 : BitVec 32 := 4#32
  let v597 : BitVec 32 := Scalar.addi v596 c4_i32_216
  let v598 : BitVec 32 := Scalar.subi v595 v597
  let c128_i32_217 : BitVec 32 := 128#32
  let v599 : BitVec 32 := Scalar.muli v598 c128_i32_217
  v599
def k0_mult14 (i : grid0.Coords) (k0_t1 : Fin (k0_t1_loop i).trips) : BitVec 32 :=
  let arg1 : BitVec 32 := BitVec.ofNat 32 (i 1).val
  let c8_i32_229 : BitVec 32 := 8#32
  let v636 : BitVec 32 := Scalar.muli arg1 c8_i32_229
  let c1_i32_230 : BitVec 32 := 1#32
  let v637 : BitVec 32 := Scalar.subi v636 c1_i32_230
  let c8_i32_231 : BitVec 32 := 8#32
  let c0_i32_133 : BitVec 32 := 0#32
  let c1_i32_135 : BitVec 32 := 1#32
  let arg11 : BitVec 32 := Scf.iv c0_i32_133 c1_i32_135 k0_t1
  let v638 : BitVec 32 := Scalar.muli c8_i32_231 arg11
  let c5_i32_232 : BitVec 32 := 5#32
  let v639 : BitVec 32 := Scalar.addi v638 c5_i32_232
  let v640 : BitVec 32 := Scalar.subi v637 v639
  let c128_i32_233 : BitVec 32 := 128#32
  let v641 : BitVec 32 := Scalar.muli v640 c128_i32_233
  v641
def k0_mult15 (i : grid0.Coords) (k0_t1 : Fin (k0_t1_loop i).trips) : BitVec 32 :=
  let arg1 : BitVec 32 := BitVec.ofNat 32 (i 1).val
  let c8_i32_245 : BitVec 32 := 8#32
  let v678 : BitVec 32 := Scalar.muli arg1 c8_i32_245
  let c1_i32_246 : BitVec 32 := 1#32
  let v679 : BitVec 32 := Scalar.subi v678 c1_i32_246
  let c8_i32_247 : BitVec 32 := 8#32
  let c0_i32_133 : BitVec 32 := 0#32
  let c1_i32_135 : BitVec 32 := 1#32
  let arg11 : BitVec 32 := Scf.iv c0_i32_133 c1_i32_135 k0_t1
  let v680 : BitVec 32 := Scalar.muli c8_i32_247 arg11
  let c6_i32_248 : BitVec 32 := 6#32
  let v681 : BitVec 32 := Scalar.addi v680 c6_i32_248
  let v682 : BitVec 32 := Scalar.subi v679 v681
  let c128_i32_249 : BitVec 32 := 128#32
  let v683 : BitVec 32 := Scalar.muli v682 c128_i32_249
  v683
def k0_mult16 (i : grid0.Coords) (k0_t1 : Fin (k0_t1_loop i).trips) : BitVec 32 :=
  let arg1 : BitVec 32 := BitVec.ofNat 32 (i 1).val
  let c8_i32_261 : BitVec 32 := 8#32
  let v720 : BitVec 32 := Scalar.muli arg1 c8_i32_261
  let c1_i32_262 : BitVec 32 := 1#32
  let v721 : BitVec 32 := Scalar.subi v720 c1_i32_262
  let c8_i32_263 : BitVec 32 := 8#32
  let c0_i32_133 : BitVec 32 := 0#32
  let c1_i32_135 : BitVec 32 := 1#32
  let arg11 : BitVec 32 := Scf.iv c0_i32_133 c1_i32_135 k0_t1
  let v722 : BitVec 32 := Scalar.muli c8_i32_263 arg11
  let c7_i32_264 : BitVec 32 := 7#32
  let v723 : BitVec 32 := Scalar.addi v722 c7_i32_264
  let v724 : BitVec 32 := Scalar.subi v721 v723
  let c128_i32_265 : BitVec 32 := 128#32
  let v725 : BitVec 32 := Scalar.muli v724 c128_i32_265
  v725
@[reducible] def k0_t2_loop (i : grid0.Coords) : Scf.Loop 32 :=
  let c0_i32_133 : BitVec 32 := 0#32
  let arg1 : BitVec 32 := BitVec.ofNat 32 (i 1).val
  let c8_i32_125 : BitVec 32 := 8#32
  let v385 : BitVec 32 := Scalar.muli arg1 c8_i32_125
  let c0_i32_127 : BitVec 32 := 0#32
  let v387 : BitVec 1 := Scalar.cmpi .sgt v385 c0_i32_127
  let v388 : BitVec 32 := Scalar.extui v387
  let c0_i32_128 : BitVec 32 := 0#32
  let v389 : BitVec 1 := Scalar.cmpi .slt v385 c0_i32_128
  let v390 : BitVec 32 := Scalar.extui v389
  let v391 : BitVec 32 := Scalar.subi v388 v390
  let c8_i32_126 : BitVec 32 := 8#32
  let c0_i32_129 : BitVec 32 := 0#32
  let v392 : BitVec 1 := Scalar.cmpi .sgt c8_i32_126 c0_i32_129
  let v393 : BitVec 32 := Scalar.extui v392
  let c0_i32_130 : BitVec 32 := 0#32
  let v394 : BitVec 1 := Scalar.cmpi .slt c8_i32_126 c0_i32_130
  let v395 : BitVec 32 := Scalar.extui v394
  let v396 : BitVec 32 := Scalar.subi v393 v395
  let v397 : BitVec 1 := Scalar.cmpi .ne v391 v396
  let v398 : BitVec 32 := Scalar.remsi v385 c8_i32_126
  let c0_i32_131 : BitVec 32 := 0#32
  let v399 : BitVec 1 := Scalar.cmpi .ne v398 c0_i32_131
  let v400 : BitVec 1 := Scalar.andi v397 v399
  let v386 : BitVec 32 := Scalar.divsi v385 c8_i32_126
  let c1_i32_132 : BitVec 32 := 1#32
  let v401 : BitVec 32 := Scalar.subi v386 c1_i32_132
  let v402 : BitVec 32 := Scalar.select v400 v401 v386
  let v403 : BitVec 32 := Scalar.subi v402 c0_i32_133
  let c1_i32_134 : BitVec 32 := 1#32
  let v405 : BitVec 32 := Scalar.divsi v403 c1_i32_134
  let v406 : BitVec 32 := Scalar.muli v405 c1_i32_134
  let v407 : BitVec 32 := Scalar.addi c0_i32_133 v406
  let v404 : BitVec 32 := Scalar.addi c0_i32_133 v403
  let c1_i32_136 : BitVec 32 := 1#32
  ⟨v407, v404, c1_i32_136⟩
def k0_mult17 (i : grid0.Coords) (k0_t2 : Fin (k0_t2_loop i).trips) : BitVec 32 :=
  let arg1 : BitVec 32 := BitVec.ofNat 32 (i 1).val
  let c8_i32_149 : BitVec 32 := 8#32
  let v426 : BitVec 32 := Scalar.muli arg1 c8_i32_149
  let c1_i32_150 : BitVec 32 := 1#32
  let v427 : BitVec 32 := Scalar.subi v426 c1_i32_150
  let c8_i32_151 : BitVec 32 := 8#32
  let c0_i32_133 : BitVec 32 := 0#32
  let c8_i32_125 : BitVec 32 := 8#32
  let v385 : BitVec 32 := Scalar.muli arg1 c8_i32_125
  let c0_i32_127 : BitVec 32 := 0#32
  let v387 : BitVec 1 := Scalar.cmpi .sgt v385 c0_i32_127
  let v388 : BitVec 32 := Scalar.extui v387
  let c0_i32_128 : BitVec 32 := 0#32
  let v389 : BitVec 1 := Scalar.cmpi .slt v385 c0_i32_128
  let v390 : BitVec 32 := Scalar.extui v389
  let v391 : BitVec 32 := Scalar.subi v388 v390
  let c8_i32_126 : BitVec 32 := 8#32
  let c0_i32_129 : BitVec 32 := 0#32
  let v392 : BitVec 1 := Scalar.cmpi .sgt c8_i32_126 c0_i32_129
  let v393 : BitVec 32 := Scalar.extui v392
  let c0_i32_130 : BitVec 32 := 0#32
  let v394 : BitVec 1 := Scalar.cmpi .slt c8_i32_126 c0_i32_130
  let v395 : BitVec 32 := Scalar.extui v394
  let v396 : BitVec 32 := Scalar.subi v393 v395
  let v397 : BitVec 1 := Scalar.cmpi .ne v391 v396
  let v398 : BitVec 32 := Scalar.remsi v385 c8_i32_126
  let c0_i32_131 : BitVec 32 := 0#32
  let v399 : BitVec 1 := Scalar.cmpi .ne v398 c0_i32_131
  let v400 : BitVec 1 := Scalar.andi v397 v399
  let v386 : BitVec 32 := Scalar.divsi v385 c8_i32_126
  let c1_i32_132 : BitVec 32 := 1#32
  let v401 : BitVec 32 := Scalar.subi v386 c1_i32_132
  let v402 : BitVec 32 := Scalar.select v400 v401 v386
  let v403 : BitVec 32 := Scalar.subi v402 c0_i32_133
  let c1_i32_134 : BitVec 32 := 1#32
  let v405 : BitVec 32 := Scalar.divsi v403 c1_i32_134
  let v406 : BitVec 32 := Scalar.muli v405 c1_i32_134
  let v407 : BitVec 32 := Scalar.addi c0_i32_133 v406
  let c1_i32_136 : BitVec 32 := 1#32
  let arg11 : BitVec 32 := Scf.iv v407 c1_i32_136 k0_t2
  let v428 : BitVec 32 := Scalar.muli c8_i32_151 arg11
  let c0_i32_152 : BitVec 32 := 0#32
  let v429 : BitVec 32 := Scalar.addi v428 c0_i32_152
  let v430 : BitVec 32 := Scalar.subi v427 v429
  let c128_i32_153 : BitVec 32 := 128#32
  let v431 : BitVec 32 := Scalar.muli v430 c128_i32_153
  v431
def k0_off3 (i : grid0.Coords) (k0_t2 : Fin (k0_t2_loop i).trips) (c0_i32_152 : BitVec 32) : Fin 2 → Nat :=
  let arg1 : BitVec 32 := BitVec.ofNat 32 (i 1).val
  let c8_i32_149 : BitVec 32 := 8#32
  let v426 : BitVec 32 := Scalar.muli arg1 c8_i32_149
  let c1_i32_150 : BitVec 32 := 1#32
  let v427 : BitVec 32 := Scalar.subi v426 c1_i32_150
  let c8_i32_151 : BitVec 32 := 8#32
  let c0_i32_133 : BitVec 32 := 0#32
  let c8_i32_125 : BitVec 32 := 8#32
  let v385 : BitVec 32 := Scalar.muli arg1 c8_i32_125
  let c0_i32_127 : BitVec 32 := 0#32
  let v387 : BitVec 1 := Scalar.cmpi .sgt v385 c0_i32_127
  let v388 : BitVec 32 := Scalar.extui v387
  let c0_i32_128 : BitVec 32 := 0#32
  let v389 : BitVec 1 := Scalar.cmpi .slt v385 c0_i32_128
  let v390 : BitVec 32 := Scalar.extui v389
  let v391 : BitVec 32 := Scalar.subi v388 v390
  let c8_i32_126 : BitVec 32 := 8#32
  let c0_i32_129 : BitVec 32 := 0#32
  let v392 : BitVec 1 := Scalar.cmpi .sgt c8_i32_126 c0_i32_129
  let v393 : BitVec 32 := Scalar.extui v392
  let c0_i32_130 : BitVec 32 := 0#32
  let v394 : BitVec 1 := Scalar.cmpi .slt c8_i32_126 c0_i32_130
  let v395 : BitVec 32 := Scalar.extui v394
  let v396 : BitVec 32 := Scalar.subi v393 v395
  let v397 : BitVec 1 := Scalar.cmpi .ne v391 v396
  let v398 : BitVec 32 := Scalar.remsi v385 c8_i32_126
  let c0_i32_131 : BitVec 32 := 0#32
  let v399 : BitVec 1 := Scalar.cmpi .ne v398 c0_i32_131
  let v400 : BitVec 1 := Scalar.andi v397 v399
  let v386 : BitVec 32 := Scalar.divsi v385 c8_i32_126
  let c1_i32_132 : BitVec 32 := 1#32
  let v401 : BitVec 32 := Scalar.subi v386 c1_i32_132
  let v402 : BitVec 32 := Scalar.select v400 v401 v386
  let v403 : BitVec 32 := Scalar.subi v402 c0_i32_133
  let c1_i32_134 : BitVec 32 := 1#32
  let v405 : BitVec 32 := Scalar.divsi v403 c1_i32_134
  let v406 : BitVec 32 := Scalar.muli v405 c1_i32_134
  let v407 : BitVec 32 := Scalar.addi c0_i32_133 v406
  let c1_i32_136 : BitVec 32 := 1#32
  let arg11 : BitVec 32 := Scf.iv v407 c1_i32_136 k0_t2
  let v428 : BitVec 32 := Scalar.muli c8_i32_151 arg11
  let v429 : BitVec 32 := Scalar.addi v428 c0_i32_152
  let v430 : BitVec 32 := Scalar.subi v427 v429
  let c128_i32_153 : BitVec 32 := 128#32
  let v431 : BitVec 32 := Scalar.muli v430 c128_i32_153
  let v432 : BitVec 32 := v431
  let v433 : Index := Scalar.indexCast v432
  let c0_154 : Index := 0#32
  ![v433.toNat, 0]
def k0_mult18 (i : grid0.Coords) (k0_t2 : Fin (k0_t2_loop i).trips) : BitVec 32 :=
  let arg1 : BitVec 32 := BitVec.ofNat 32 (i 1).val
  let c8_i32_165 : BitVec 32 := 8#32
  let v468 : BitVec 32 := Scalar.muli arg1 c8_i32_165
  let c1_i32_166 : BitVec 32 := 1#32
  let v469 : BitVec 32 := Scalar.subi v468 c1_i32_166
  let c8_i32_167 : BitVec 32 := 8#32
  let c0_i32_133 : BitVec 32 := 0#32
  let c8_i32_125 : BitVec 32 := 8#32
  let v385 : BitVec 32 := Scalar.muli arg1 c8_i32_125
  let c0_i32_127 : BitVec 32 := 0#32
  let v387 : BitVec 1 := Scalar.cmpi .sgt v385 c0_i32_127
  let v388 : BitVec 32 := Scalar.extui v387
  let c0_i32_128 : BitVec 32 := 0#32
  let v389 : BitVec 1 := Scalar.cmpi .slt v385 c0_i32_128
  let v390 : BitVec 32 := Scalar.extui v389
  let v391 : BitVec 32 := Scalar.subi v388 v390
  let c8_i32_126 : BitVec 32 := 8#32
  let c0_i32_129 : BitVec 32 := 0#32
  let v392 : BitVec 1 := Scalar.cmpi .sgt c8_i32_126 c0_i32_129
  let v393 : BitVec 32 := Scalar.extui v392
  let c0_i32_130 : BitVec 32 := 0#32
  let v394 : BitVec 1 := Scalar.cmpi .slt c8_i32_126 c0_i32_130
  let v395 : BitVec 32 := Scalar.extui v394
  let v396 : BitVec 32 := Scalar.subi v393 v395
  let v397 : BitVec 1 := Scalar.cmpi .ne v391 v396
  let v398 : BitVec 32 := Scalar.remsi v385 c8_i32_126
  let c0_i32_131 : BitVec 32 := 0#32
  let v399 : BitVec 1 := Scalar.cmpi .ne v398 c0_i32_131
  let v400 : BitVec 1 := Scalar.andi v397 v399
  let v386 : BitVec 32 := Scalar.divsi v385 c8_i32_126
  let c1_i32_132 : BitVec 32 := 1#32
  let v401 : BitVec 32 := Scalar.subi v386 c1_i32_132
  let v402 : BitVec 32 := Scalar.select v400 v401 v386
  let v403 : BitVec 32 := Scalar.subi v402 c0_i32_133
  let c1_i32_134 : BitVec 32 := 1#32
  let v405 : BitVec 32 := Scalar.divsi v403 c1_i32_134
  let v406 : BitVec 32 := Scalar.muli v405 c1_i32_134
  let v407 : BitVec 32 := Scalar.addi c0_i32_133 v406
  let c1_i32_136 : BitVec 32 := 1#32
  let arg11 : BitVec 32 := Scf.iv v407 c1_i32_136 k0_t2
  let v470 : BitVec 32 := Scalar.muli c8_i32_167 arg11
  let c1_i32_168 : BitVec 32 := 1#32
  let v471 : BitVec 32 := Scalar.addi v470 c1_i32_168
  let v472 : BitVec 32 := Scalar.subi v469 v471
  let c128_i32_169 : BitVec 32 := 128#32
  let v473 : BitVec 32 := Scalar.muli v472 c128_i32_169
  v473
def k0_mult19 (i : grid0.Coords) (k0_t2 : Fin (k0_t2_loop i).trips) : BitVec 32 :=
  let arg1 : BitVec 32 := BitVec.ofNat 32 (i 1).val
  let c8_i32_181 : BitVec 32 := 8#32
  let v510 : BitVec 32 := Scalar.muli arg1 c8_i32_181
  let c1_i32_182 : BitVec 32 := 1#32
  let v511 : BitVec 32 := Scalar.subi v510 c1_i32_182
  let c8_i32_183 : BitVec 32 := 8#32
  let c0_i32_133 : BitVec 32 := 0#32
  let c8_i32_125 : BitVec 32 := 8#32
  let v385 : BitVec 32 := Scalar.muli arg1 c8_i32_125
  let c0_i32_127 : BitVec 32 := 0#32
  let v387 : BitVec 1 := Scalar.cmpi .sgt v385 c0_i32_127
  let v388 : BitVec 32 := Scalar.extui v387
  let c0_i32_128 : BitVec 32 := 0#32
  let v389 : BitVec 1 := Scalar.cmpi .slt v385 c0_i32_128
  let v390 : BitVec 32 := Scalar.extui v389
  let v391 : BitVec 32 := Scalar.subi v388 v390
  let c8_i32_126 : BitVec 32 := 8#32
  let c0_i32_129 : BitVec 32 := 0#32
  let v392 : BitVec 1 := Scalar.cmpi .sgt c8_i32_126 c0_i32_129
  let v393 : BitVec 32 := Scalar.extui v392
  let c0_i32_130 : BitVec 32 := 0#32
  let v394 : BitVec 1 := Scalar.cmpi .slt c8_i32_126 c0_i32_130
  let v395 : BitVec 32 := Scalar.extui v394
  let v396 : BitVec 32 := Scalar.subi v393 v395
  let v397 : BitVec 1 := Scalar.cmpi .ne v391 v396
  let v398 : BitVec 32 := Scalar.remsi v385 c8_i32_126
  let c0_i32_131 : BitVec 32 := 0#32
  let v399 : BitVec 1 := Scalar.cmpi .ne v398 c0_i32_131
  let v400 : BitVec 1 := Scalar.andi v397 v399
  let v386 : BitVec 32 := Scalar.divsi v385 c8_i32_126
  let c1_i32_132 : BitVec 32 := 1#32
  let v401 : BitVec 32 := Scalar.subi v386 c1_i32_132
  let v402 : BitVec 32 := Scalar.select v400 v401 v386
  let v403 : BitVec 32 := Scalar.subi v402 c0_i32_133
  let c1_i32_134 : BitVec 32 := 1#32
  let v405 : BitVec 32 := Scalar.divsi v403 c1_i32_134
  let v406 : BitVec 32 := Scalar.muli v405 c1_i32_134
  let v407 : BitVec 32 := Scalar.addi c0_i32_133 v406
  let c1_i32_136 : BitVec 32 := 1#32
  let arg11 : BitVec 32 := Scf.iv v407 c1_i32_136 k0_t2
  let v512 : BitVec 32 := Scalar.muli c8_i32_183 arg11
  let c2_i32_184 : BitVec 32 := 2#32
  let v513 : BitVec 32 := Scalar.addi v512 c2_i32_184
  let v514 : BitVec 32 := Scalar.subi v511 v513
  let c128_i32_185 : BitVec 32 := 128#32
  let v515 : BitVec 32 := Scalar.muli v514 c128_i32_185
  v515
def k0_mult20 (i : grid0.Coords) (k0_t2 : Fin (k0_t2_loop i).trips) : BitVec 32 :=
  let arg1 : BitVec 32 := BitVec.ofNat 32 (i 1).val
  let c8_i32_197 : BitVec 32 := 8#32
  let v552 : BitVec 32 := Scalar.muli arg1 c8_i32_197
  let c1_i32_198 : BitVec 32 := 1#32
  let v553 : BitVec 32 := Scalar.subi v552 c1_i32_198
  let c8_i32_199 : BitVec 32 := 8#32
  let c0_i32_133 : BitVec 32 := 0#32
  let c8_i32_125 : BitVec 32 := 8#32
  let v385 : BitVec 32 := Scalar.muli arg1 c8_i32_125
  let c0_i32_127 : BitVec 32 := 0#32
  let v387 : BitVec 1 := Scalar.cmpi .sgt v385 c0_i32_127
  let v388 : BitVec 32 := Scalar.extui v387
  let c0_i32_128 : BitVec 32 := 0#32
  let v389 : BitVec 1 := Scalar.cmpi .slt v385 c0_i32_128
  let v390 : BitVec 32 := Scalar.extui v389
  let v391 : BitVec 32 := Scalar.subi v388 v390
  let c8_i32_126 : BitVec 32 := 8#32
  let c0_i32_129 : BitVec 32 := 0#32
  let v392 : BitVec 1 := Scalar.cmpi .sgt c8_i32_126 c0_i32_129
  let v393 : BitVec 32 := Scalar.extui v392
  let c0_i32_130 : BitVec 32 := 0#32
  let v394 : BitVec 1 := Scalar.cmpi .slt c8_i32_126 c0_i32_130
  let v395 : BitVec 32 := Scalar.extui v394
  let v396 : BitVec 32 := Scalar.subi v393 v395
  let v397 : BitVec 1 := Scalar.cmpi .ne v391 v396
  let v398 : BitVec 32 := Scalar.remsi v385 c8_i32_126
  let c0_i32_131 : BitVec 32 := 0#32
  let v399 : BitVec 1 := Scalar.cmpi .ne v398 c0_i32_131
  let v400 : BitVec 1 := Scalar.andi v397 v399
  let v386 : BitVec 32 := Scalar.divsi v385 c8_i32_126
  let c1_i32_132 : BitVec 32 := 1#32
  let v401 : BitVec 32 := Scalar.subi v386 c1_i32_132
  let v402 : BitVec 32 := Scalar.select v400 v401 v386
  let v403 : BitVec 32 := Scalar.subi v402 c0_i32_133
  let c1_i32_134 : BitVec 32 := 1#32
  let v405 : BitVec 32 := Scalar.divsi v403 c1_i32_134
  let v406 : BitVec 32 := Scalar.muli v405 c1_i32_134
  let v407 : BitVec 32 := Scalar.addi c0_i32_133 v406
  let c1_i32_136 : BitVec 32 := 1#32
  let arg11 : BitVec 32 := Scf.iv v407 c1_i32_136 k0_t2
  let v554 : BitVec 32 := Scalar.muli c8_i32_199 arg11
  let c3_i32_200 : BitVec 32 := 3#32
  let v555 : BitVec 32 := Scalar.addi v554 c3_i32_200
  let v556 : BitVec 32 := Scalar.subi v553 v555
  let c128_i32_201 : BitVec 32 := 128#32
  let v557 : BitVec 32 := Scalar.muli v556 c128_i32_201
  v557
def k0_mult21 (i : grid0.Coords) (k0_t2 : Fin (k0_t2_loop i).trips) : BitVec 32 :=
  let arg1 : BitVec 32 := BitVec.ofNat 32 (i 1).val
  let c8_i32_213 : BitVec 32 := 8#32
  let v594 : BitVec 32 := Scalar.muli arg1 c8_i32_213
  let c1_i32_214 : BitVec 32 := 1#32
  let v595 : BitVec 32 := Scalar.subi v594 c1_i32_214
  let c8_i32_215 : BitVec 32 := 8#32
  let c0_i32_133 : BitVec 32 := 0#32
  let c8_i32_125 : BitVec 32 := 8#32
  let v385 : BitVec 32 := Scalar.muli arg1 c8_i32_125
  let c0_i32_127 : BitVec 32 := 0#32
  let v387 : BitVec 1 := Scalar.cmpi .sgt v385 c0_i32_127
  let v388 : BitVec 32 := Scalar.extui v387
  let c0_i32_128 : BitVec 32 := 0#32
  let v389 : BitVec 1 := Scalar.cmpi .slt v385 c0_i32_128
  let v390 : BitVec 32 := Scalar.extui v389
  let v391 : BitVec 32 := Scalar.subi v388 v390
  let c8_i32_126 : BitVec 32 := 8#32
  let c0_i32_129 : BitVec 32 := 0#32
  let v392 : BitVec 1 := Scalar.cmpi .sgt c8_i32_126 c0_i32_129
  let v393 : BitVec 32 := Scalar.extui v392
  let c0_i32_130 : BitVec 32 := 0#32
  let v394 : BitVec 1 := Scalar.cmpi .slt c8_i32_126 c0_i32_130
  let v395 : BitVec 32 := Scalar.extui v394
  let v396 : BitVec 32 := Scalar.subi v393 v395
  let v397 : BitVec 1 := Scalar.cmpi .ne v391 v396
  let v398 : BitVec 32 := Scalar.remsi v385 c8_i32_126
  let c0_i32_131 : BitVec 32 := 0#32
  let v399 : BitVec 1 := Scalar.cmpi .ne v398 c0_i32_131
  let v400 : BitVec 1 := Scalar.andi v397 v399
  let v386 : BitVec 32 := Scalar.divsi v385 c8_i32_126
  let c1_i32_132 : BitVec 32 := 1#32
  let v401 : BitVec 32 := Scalar.subi v386 c1_i32_132
  let v402 : BitVec 32 := Scalar.select v400 v401 v386
  let v403 : BitVec 32 := Scalar.subi v402 c0_i32_133
  let c1_i32_134 : BitVec 32 := 1#32
  let v405 : BitVec 32 := Scalar.divsi v403 c1_i32_134
  let v406 : BitVec 32 := Scalar.muli v405 c1_i32_134
  let v407 : BitVec 32 := Scalar.addi c0_i32_133 v406
  let c1_i32_136 : BitVec 32 := 1#32
  let arg11 : BitVec 32 := Scf.iv v407 c1_i32_136 k0_t2
  let v596 : BitVec 32 := Scalar.muli c8_i32_215 arg11
  let c4_i32_216 : BitVec 32 := 4#32
  let v597 : BitVec 32 := Scalar.addi v596 c4_i32_216
  let v598 : BitVec 32 := Scalar.subi v595 v597
  let c128_i32_217 : BitVec 32 := 128#32
  let v599 : BitVec 32 := Scalar.muli v598 c128_i32_217
  v599
def k0_mult22 (i : grid0.Coords) (k0_t2 : Fin (k0_t2_loop i).trips) : BitVec 32 :=
  let arg1 : BitVec 32 := BitVec.ofNat 32 (i 1).val
  let c8_i32_229 : BitVec 32 := 8#32
  let v636 : BitVec 32 := Scalar.muli arg1 c8_i32_229
  let c1_i32_230 : BitVec 32 := 1#32
  let v637 : BitVec 32 := Scalar.subi v636 c1_i32_230
  let c8_i32_231 : BitVec 32 := 8#32
  let c0_i32_133 : BitVec 32 := 0#32
  let c8_i32_125 : BitVec 32 := 8#32
  let v385 : BitVec 32 := Scalar.muli arg1 c8_i32_125
  let c0_i32_127 : BitVec 32 := 0#32
  let v387 : BitVec 1 := Scalar.cmpi .sgt v385 c0_i32_127
  let v388 : BitVec 32 := Scalar.extui v387
  let c0_i32_128 : BitVec 32 := 0#32
  let v389 : BitVec 1 := Scalar.cmpi .slt v385 c0_i32_128
  let v390 : BitVec 32 := Scalar.extui v389
  let v391 : BitVec 32 := Scalar.subi v388 v390
  let c8_i32_126 : BitVec 32 := 8#32
  let c0_i32_129 : BitVec 32 := 0#32
  let v392 : BitVec 1 := Scalar.cmpi .sgt c8_i32_126 c0_i32_129
  let v393 : BitVec 32 := Scalar.extui v392
  let c0_i32_130 : BitVec 32 := 0#32
  let v394 : BitVec 1 := Scalar.cmpi .slt c8_i32_126 c0_i32_130
  let v395 : BitVec 32 := Scalar.extui v394
  let v396 : BitVec 32 := Scalar.subi v393 v395
  let v397 : BitVec 1 := Scalar.cmpi .ne v391 v396
  let v398 : BitVec 32 := Scalar.remsi v385 c8_i32_126
  let c0_i32_131 : BitVec 32 := 0#32
  let v399 : BitVec 1 := Scalar.cmpi .ne v398 c0_i32_131
  let v400 : BitVec 1 := Scalar.andi v397 v399
  let v386 : BitVec 32 := Scalar.divsi v385 c8_i32_126
  let c1_i32_132 : BitVec 32 := 1#32
  let v401 : BitVec 32 := Scalar.subi v386 c1_i32_132
  let v402 : BitVec 32 := Scalar.select v400 v401 v386
  let v403 : BitVec 32 := Scalar.subi v402 c0_i32_133
  let c1_i32_134 : BitVec 32 := 1#32
  let v405 : BitVec 32 := Scalar.divsi v403 c1_i32_134
  let v406 : BitVec 32 := Scalar.muli v405 c1_i32_134
  let v407 : BitVec 32 := Scalar.addi c0_i32_133 v406
  let c1_i32_136 : BitVec 32 := 1#32
  let arg11 : BitVec 32 := Scf.iv v407 c1_i32_136 k0_t2
  let v638 : BitVec 32 := Scalar.muli c8_i32_231 arg11
  let c5_i32_232 : BitVec 32 := 5#32
  let v639 : BitVec 32 := Scalar.addi v638 c5_i32_232
  let v640 : BitVec 32 := Scalar.subi v637 v639
  let c128_i32_233 : BitVec 32 := 128#32
  let v641 : BitVec 32 := Scalar.muli v640 c128_i32_233
  v641
def k0_mult23 (i : grid0.Coords) (k0_t2 : Fin (k0_t2_loop i).trips) : BitVec 32 :=
  let arg1 : BitVec 32 := BitVec.ofNat 32 (i 1).val
  let c8_i32_245 : BitVec 32 := 8#32
  let v678 : BitVec 32 := Scalar.muli arg1 c8_i32_245
  let c1_i32_246 : BitVec 32 := 1#32
  let v679 : BitVec 32 := Scalar.subi v678 c1_i32_246
  let c8_i32_247 : BitVec 32 := 8#32
  let c0_i32_133 : BitVec 32 := 0#32
  let c8_i32_125 : BitVec 32 := 8#32
  let v385 : BitVec 32 := Scalar.muli arg1 c8_i32_125
  let c0_i32_127 : BitVec 32 := 0#32
  let v387 : BitVec 1 := Scalar.cmpi .sgt v385 c0_i32_127
  let v388 : BitVec 32 := Scalar.extui v387
  let c0_i32_128 : BitVec 32 := 0#32
  let v389 : BitVec 1 := Scalar.cmpi .slt v385 c0_i32_128
  let v390 : BitVec 32 := Scalar.extui v389
  let v391 : BitVec 32 := Scalar.subi v388 v390
  let c8_i32_126 : BitVec 32 := 8#32
  let c0_i32_129 : BitVec 32 := 0#32
  let v392 : BitVec 1 := Scalar.cmpi .sgt c8_i32_126 c0_i32_129
  let v393 : BitVec 32 := Scalar.extui v392
  let c0_i32_130 : BitVec 32 := 0#32
  let v394 : BitVec 1 := Scalar.cmpi .slt c8_i32_126 c0_i32_130
  let v395 : BitVec 32 := Scalar.extui v394
  let v396 : BitVec 32 := Scalar.subi v393 v395
  let v397 : BitVec 1 := Scalar.cmpi .ne v391 v396
  let v398 : BitVec 32 := Scalar.remsi v385 c8_i32_126
  let c0_i32_131 : BitVec 32 := 0#32
  let v399 : BitVec 1 := Scalar.cmpi .ne v398 c0_i32_131
  let v400 : BitVec 1 := Scalar.andi v397 v399
  let v386 : BitVec 32 := Scalar.divsi v385 c8_i32_126
  let c1_i32_132 : BitVec 32 := 1#32
  let v401 : BitVec 32 := Scalar.subi v386 c1_i32_132
  let v402 : BitVec 32 := Scalar.select v400 v401 v386
  let v403 : BitVec 32 := Scalar.subi v402 c0_i32_133
  let c1_i32_134 : BitVec 32 := 1#32
  let v405 : BitVec 32 := Scalar.divsi v403 c1_i32_134
  let v406 : BitVec 32 := Scalar.muli v405 c1_i32_134
  let v407 : BitVec 32 := Scalar.addi c0_i32_133 v406
  let c1_i32_136 : BitVec 32 := 1#32
  let arg11 : BitVec 32 := Scf.iv v407 c1_i32_136 k0_t2
  let v680 : BitVec 32 := Scalar.muli c8_i32_247 arg11
  let c6_i32_248 : BitVec 32 := 6#32
  let v681 : BitVec 32 := Scalar.addi v680 c6_i32_248
  let v682 : BitVec 32 := Scalar.subi v679 v681
  let c128_i32_249 : BitVec 32 := 128#32
  let v683 : BitVec 32 := Scalar.muli v682 c128_i32_249
  v683
def k0_mult24 (i : grid0.Coords) (k0_t2 : Fin (k0_t2_loop i).trips) : BitVec 32 :=
  let arg1 : BitVec 32 := BitVec.ofNat 32 (i 1).val
  let c8_i32_261 : BitVec 32 := 8#32
  let v720 : BitVec 32 := Scalar.muli arg1 c8_i32_261
  let c1_i32_262 : BitVec 32 := 1#32
  let v721 : BitVec 32 := Scalar.subi v720 c1_i32_262
  let c8_i32_263 : BitVec 32 := 8#32
  let c0_i32_133 : BitVec 32 := 0#32
  let c8_i32_125 : BitVec 32 := 8#32
  let v385 : BitVec 32 := Scalar.muli arg1 c8_i32_125
  let c0_i32_127 : BitVec 32 := 0#32
  let v387 : BitVec 1 := Scalar.cmpi .sgt v385 c0_i32_127
  let v388 : BitVec 32 := Scalar.extui v387
  let c0_i32_128 : BitVec 32 := 0#32
  let v389 : BitVec 1 := Scalar.cmpi .slt v385 c0_i32_128
  let v390 : BitVec 32 := Scalar.extui v389
  let v391 : BitVec 32 := Scalar.subi v388 v390
  let c8_i32_126 : BitVec 32 := 8#32
  let c0_i32_129 : BitVec 32 := 0#32
  let v392 : BitVec 1 := Scalar.cmpi .sgt c8_i32_126 c0_i32_129
  let v393 : BitVec 32 := Scalar.extui v392
  let c0_i32_130 : BitVec 32 := 0#32
  let v394 : BitVec 1 := Scalar.cmpi .slt c8_i32_126 c0_i32_130
  let v395 : BitVec 32 := Scalar.extui v394
  let v396 : BitVec 32 := Scalar.subi v393 v395
  let v397 : BitVec 1 := Scalar.cmpi .ne v391 v396
  let v398 : BitVec 32 := Scalar.remsi v385 c8_i32_126
  let c0_i32_131 : BitVec 32 := 0#32
  let v399 : BitVec 1 := Scalar.cmpi .ne v398 c0_i32_131
  let v400 : BitVec 1 := Scalar.andi v397 v399
  let v386 : BitVec 32 := Scalar.divsi v385 c8_i32_126
  let c1_i32_132 : BitVec 32 := 1#32
  let v401 : BitVec 32 := Scalar.subi v386 c1_i32_132
  let v402 : BitVec 32 := Scalar.select v400 v401 v386
  let v403 : BitVec 32 := Scalar.subi v402 c0_i32_133
  let c1_i32_134 : BitVec 32 := 1#32
  let v405 : BitVec 32 := Scalar.divsi v403 c1_i32_134
  let v406 : BitVec 32 := Scalar.muli v405 c1_i32_134
  let v407 : BitVec 32 := Scalar.addi c0_i32_133 v406
  let c1_i32_136 : BitVec 32 := 1#32
  let arg11 : BitVec 32 := Scf.iv v407 c1_i32_136 k0_t2
  let v722 : BitVec 32 := Scalar.muli c8_i32_263 arg11
  let c7_i32_264 : BitVec 32 := 7#32
  let v723 : BitVec 32 := Scalar.addi v722 c7_i32_264
  let v724 : BitVec 32 := Scalar.subi v721 v723
  let c128_i32_265 : BitVec 32 := 128#32
  let v725 : BitVec 32 := Scalar.muli v724 c128_i32_265
  v725
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c48_i32 : BitVec 32 := 48#32
  let v0 : BitVec 32 := Scalar.addi c48_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference21Ideal.lean ====
abbrev S4096x8192 : Shape := ⟨2, ![4096, 8192]⟩
abbrev S4096x2048 : Shape := ⟨2, ![4096, 2048]⟩
abbrev S4096x16x128 : Shape := ⟨3, ![4096, 16, 128]⟩
abbrev S16x4096x128 : Shape := ⟨3, ![16, 4096, 128]⟩
abbrev S16x4096x4096 : Shape := ⟨3, ![16, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S16x4096 : Shape := ⟨2, ![16, 4096]⟩
abbrev S16x4096x1 : Shape := ⟨3, ![16, 4096, 1]⟩

abbrev nBuf : Space → Nat
  | .hbm => 88
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S4096x16x128, .f32⟩
  | .hbm, ⟨6, _⟩ => ⟨S16x4096x128, .f32⟩
  | .hbm, ⟨7, _⟩ => ⟨S4096x16x128, .f32⟩
  | .hbm, ⟨8, _⟩ => ⟨S16x4096x128, .f32⟩
  | .hbm, ⟨9, _⟩ => ⟨S16x4096x4096, .f32⟩
  | .hbm, ⟨10, _⟩ => ⟨S_, .f32⟩
  | .hbm, ⟨11, _⟩ => ⟨S16x4096x4096, .f32⟩
  | .hbm, ⟨12, _⟩ => ⟨S16x4096x4096, .f32⟩
  | .hbm, ⟨13, _⟩ => ⟨S4096, .i32⟩
  | .hbm, ⟨14, _⟩ => ⟨S1x4096, .i32⟩
  | .hbm, ⟨15, _⟩ => ⟨S4096, .i32⟩
  | .hbm, ⟨16, _⟩ => ⟨S4096x1, .i32⟩
  | .hbm, ⟨17, _⟩ => ⟨S4096x4096, .i32⟩
  | .hbm, ⟨18, _⟩ => ⟨S4096x4096, .i32⟩
  | .hbm, ⟨19, _⟩ => ⟨S4096x4096, .i1⟩
  | .hbm, ⟨20, _⟩ => ⟨S16x4096x4096, .f32⟩
  | .hbm, ⟨21, _⟩ => ⟨S16x4096x4096, .f32⟩
  | .hbm, ⟨22, _⟩ => ⟨S_, .f32⟩
  | .hbm, ⟨23, _⟩ => ⟨S16x4096x4096, .f32⟩
  | .hbm, ⟨24, _⟩ => ⟨S16x4096x4096, .f32⟩
  | .hbm, ⟨25, _⟩ => ⟨S16x4096x4096, .f32⟩
  | .hbm, ⟨26, _⟩ => ⟨S16x4096x4096, .f32⟩
  | .hbm, ⟨27, _⟩ => ⟨S16x4096x4096, .i1⟩
  | .hbm, ⟨28, _⟩ => ⟨S16x4096x4096, .f32⟩
  | .hbm, ⟨29, _⟩ => ⟨S16x4096x4096, .f32⟩
  | .hbm, ⟨30, _⟩ => ⟨S16x4096x4096, .f32⟩
  | .hbm, ⟨31, _⟩ => ⟨S16x4096x4096, .f32⟩
  | .hbm, ⟨32, _⟩ => ⟨S16x4096x4096, .f32⟩
  | .hbm, ⟨33, _⟩ => ⟨S16x4096x4096, .f32⟩
  | .hbm, ⟨34, _⟩ => ⟨S16x4096x4096, .f32⟩
  | .hbm, ⟨35, _⟩ => ⟨S16x4096x4096, .f32⟩
  | .hbm, ⟨36, _⟩ => ⟨S16x4096x4096, .f32⟩
  | .hbm, ⟨37, _⟩ => ⟨S_, .f32⟩
  | .hbm, ⟨38, _⟩ => ⟨S_, .f32⟩
  | .hbm, ⟨39, _⟩ => ⟨S16x4096x4096, .i1⟩
  | .hbm, ⟨40, _⟩ => ⟨S16x4096x4096, .f32⟩
  | .hbm, ⟨41, _⟩ => ⟨S16x4096x4096, .f32⟩
  | .hbm, ⟨42, _⟩ => ⟨S_, .f32⟩
  | .hbm, ⟨43, _⟩ => ⟨S_, .f32⟩
  | .hbm, ⟨44, _⟩ => ⟨S16x4096x4096, .f32⟩
  | .hbm, ⟨45, _⟩ => ⟨S16x4096x4096, .f32⟩
  | .hbm, ⟨46, _⟩ => ⟨S16x4096x4096, .f32⟩
  | .hbm, ⟨47, _⟩ => ⟨S_, .f32⟩
  | .hbm, ⟨48, _⟩ => ⟨S16x4096x4096, .f32⟩
  | .hbm, ⟨49, _⟩ => ⟨S16x4096x4096, .f32⟩
  | .hbm, ⟨50, _⟩ => ⟨S16x4096x4096, .f32⟩
  | .hbm, ⟨51, _⟩ => ⟨S16x4096x4096, .f32⟩
  | .hbm, ⟨52, _⟩ => ⟨S16x4096x4096, .i1⟩
  | .hbm, ⟨53, _⟩ => ⟨S16x4096x4096, .f32⟩
  | .hbm, ⟨54, _⟩ => ⟨S16x4096x4096, .f32⟩
  | .hbm, ⟨55, _⟩ => ⟨S16x4096x4096, .f32⟩
  | .hbm, ⟨56, _⟩ => ⟨S16x4096x4096, .f32⟩
  | .hbm, ⟨57, _⟩ => ⟨S16x4096x4096, .f32⟩
  | .hbm, ⟨58, _⟩ => ⟨S16x4096x4096, .f32⟩
  | .hbm, ⟨59, _⟩ => ⟨S16x4096x4096, .f32⟩
  | .hbm, ⟨60, _⟩ => ⟨S16x4096x4096, .f32⟩
  | .hbm, ⟨61, _⟩ => ⟨S16x4096x4096, .f32⟩
  | .hbm, ⟨62, _⟩ => ⟨S16x4096x4096, .f32⟩
  | .hbm, ⟨63, _⟩ => ⟨S16x4096x4096, .f32⟩
  | .hbm, ⟨64, _⟩ => ⟨S_, .f32⟩
  | .hbm, ⟨65, _⟩ => ⟨S_, .f32⟩
  | .hbm, ⟨66, _⟩ => ⟨S16x4096x4096, .i1⟩
  | .hbm, ⟨67, _⟩ => ⟨S16x4096x4096, .f32⟩
  | .hbm, ⟨68, _⟩ => ⟨S16x4096x4096, .f32⟩
  | .hbm, ⟨69, _⟩ => ⟨S4096x16x128, .f32⟩
  | .hbm, ⟨70, _⟩ => ⟨S16x4096x128, .f32⟩
  | .hbm, ⟨71, _⟩ => ⟨S16x4096x128, .f32⟩
  | .hbm, ⟨72, _⟩ => ⟨S4096x16x128, .f32⟩
  | .hbm, ⟨73, _⟩ => ⟨S4096x2048, .f32⟩
  | .hbm, ⟨74, _⟩ => ⟨S_, .f32⟩
  | .hbm, ⟨75, _⟩ => ⟨S16x4096, .f32⟩
  | .hbm, ⟨76, _⟩ => ⟨S16x4096x1, .f32⟩
  | .hbm, ⟨77, _⟩ => ⟨S4096x2048, .f32⟩
  | .hbm, ⟨78, _⟩ => ⟨S4096x2048, .f32⟩
  | .hbm, ⟨79, _⟩ => ⟨S_, .f32⟩
  | .hbm, ⟨80, _⟩ => ⟨S4096x2048, .f32⟩
  | .hbm, ⟨81, _⟩ => ⟨S4096x2048, .f32⟩
  | .hbm, ⟨82, _⟩ => ⟨S_, .f32⟩
  | .hbm, ⟨83, _⟩ => ⟨S4096x2048, .f32⟩
  | .hbm, ⟨84, _⟩ => ⟨S4096x2048, .f32⟩
  | .hbm, ⟨85, _⟩ => ⟨S4096x2048, .f32⟩
  | .hbm, ⟨86, _⟩ => ⟨S4096x2048, .f32⟩
  | .hbm, ⟨87, _⟩ => ⟨S4096x2048, .bf16⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_cst : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_call0_v0 : Ref sig .tc := ⟨.hbm, 21, rfl⟩
abbrev main_call0_call0_cst : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_v1 : Ref sig .tc := ⟨.hbm, 35, rfl⟩
abbrev main_v19 : Ref sig .tc := ⟨.hbm, 36, rfl⟩
abbrev main_cst_0 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v20 : Ref sig .tc := ⟨.hbm, 41, rfl⟩
abbrev main_call2_cst : Ref sig .tc := ⟨.hbm, 42, rfl⟩
abbrev main_call2_v0 : Ref sig .tc := ⟨.hbm, 43, rfl⟩
abbrev main_v21 : Ref sig .tc := ⟨.hbm, 44, rfl⟩
abbrev main_v22 : Ref sig .tc := ⟨.hbm, 45, rfl⟩
abbrev main_call3_v0 : Ref sig .tc := ⟨.hbm, 46, rfl⟩
abbrev main_call3_call0_cst : Ref sig .tc := ⟨.hbm, 47, rfl⟩
abbrev main_call3_call0_v0 : Ref sig .tc := ⟨.hbm, 48, rfl⟩
abbrev main_call3_call0_v1 : Ref sig .tc := ⟨.hbm, 49, rfl⟩
abbrev main_call3_call0_v2 : Ref sig .tc := ⟨.hbm, 50, rfl⟩
abbrev main_call3_call0_v3 : Ref sig .tc := ⟨.hbm, 51, rfl⟩
abbrev main_call3_call0_v4 : Ref sig .tc := ⟨.hbm, 52, rfl⟩
abbrev main_call3_call0_v5 : Ref sig .tc := ⟨.hbm, 53, rfl⟩
abbrev main_call3_call0_v6 : Ref sig .tc := ⟨.hbm, 54, rfl⟩
abbrev main_call3_call0_v7 : Ref sig .tc := ⟨.hbm, 55, rfl⟩
abbrev main_call3_call0_v8 : Ref sig .tc := ⟨.hbm, 56, rfl⟩
abbrev main_call3_call0_v9 : Ref sig .tc := ⟨.hbm, 57, rfl⟩
abbrev main_call3_call0_v10 : Ref sig .tc := ⟨.hbm, 58, rfl⟩
abbrev main_call3_call0_v11 : Ref sig .tc := ⟨.hbm, 59, rfl⟩
abbrev main_call3_v1 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_cst_1 : Ref sig .tc := ⟨.hbm, 64, rfl⟩
abbrev main_call4_v0 : Ref sig .tc := ⟨.hbm, 65, rfl⟩
abbrev main_call4_v1 : Ref sig .tc := ⟨.hbm, 66, rfl⟩
abbrev main_call4_v2 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_cst_2 : Ref sig .tc := ⟨.hbm, 74, rfl⟩
abbrev main_v32 : Ref sig .tc := ⟨.hbm, 75, rfl⟩
abbrev main_v33 : Ref sig .tc := ⟨.hbm, 76, rfl⟩
abbrev main_call5_v0 : Ref sig .tc := ⟨.hbm, 77, rfl⟩
abbrev main_call5_v1 : Ref sig .tc := ⟨.hbm, 78, rfl⟩
abbrev main_call5_cst : Ref sig .tc := ⟨.hbm, 79, rfl⟩
abbrev main_call5_v2 : Ref sig .tc := ⟨.hbm, 80, rfl⟩
abbrev main_call5_v3 : Ref sig .tc := ⟨.hbm, 81, rfl⟩
abbrev main_call5_cst_0 : Ref sig .tc := ⟨.hbm, 82, rfl⟩
abbrev main_call5_v4 : Ref sig .tc := ⟨.hbm, 83, rfl⟩
abbrev main_call5_v5 : Ref sig .tc := ⟨.hbm, 84, rfl⟩
abbrev main_v34 : Ref sig .tc := ⟨.hbm, 85, rfl⟩
abbrev main_v35 : Ref sig .tc := ⟨.hbm, 86, rfl⟩
abbrev main_v36 : Ref sig .tc := ⟨.hbm, 87, rfl⟩

abbrev nD : Nat := 1
abbrev τ : Topo := Topo.v7x

variable {F : FTy → Type} [FloatOps F]
-- ==== Kernel22.lean ====
abbrev S4096x8320 : Shape := ⟨2, ![4096, 8320]⟩
abbrev S16x4096 : Shape := ⟨2, ![16, 4096]⟩
abbrev S16x4096x1 : Shape := ⟨3, ![16, 4096, 1]⟩
abbrev S16x8x512 : Shape := ⟨3, ![16, 8, 512]⟩
abbrev S4096x2048 : Shape := ⟨2, ![4096, 2048]⟩
abbrev S1024x128 : Shape := ⟨2, ![1024, 128]⟩
abbrev S4096x128 : Shape := ⟨2, ![4096, 128]⟩
abbrev S1x1024x1 : Shape := ⟨3, ![1, 1024, 1]⟩
abbrev S1x8x512 : Shape := ⟨3, ![1, 8, 512]⟩
abbrev S1024x512 : Shape := ⟨2, ![1024, 512]⟩
abbrev S1024x1 : Shape := ⟨2, ![1024, 1]⟩
abbrev S512x128 : Shape := ⟨2, ![512, 128]⟩
abbrev S1x1x512 : Shape := ⟨3, ![1, 1, 512]⟩
abbrev S1x512 : Shape := ⟨2, ![1, 512]⟩
abbrev S1024 : Shape := ⟨1, ![1024]⟩

abbrev nBuf : Space → Nat
  | .hbm => 7
  | .vmem => 20
  | .smem => 0
  | _ => 0

abbrev bufTy : (tb : Table) → Fin (tcTables nBuf tb) → BufTy
  | .hbm, ⟨0, _⟩ => ⟨S4096x8320, .f32⟩
  | .hbm, ⟨1, _⟩ => ⟨S16x4096, .f32⟩
  | .hbm, ⟨2, _⟩ => ⟨S16x4096x1, .f32⟩
  | .hbm, ⟨3, _⟩ => ⟨S16x8x512, .f32⟩
  | .hbm, ⟨4, _⟩ => ⟨S4096x2048, .f32⟩
  | .hbm, ⟨5, _⟩ => ⟨S16x4096x1, .f32⟩
  | .hbm, ⟨6, _⟩ => ⟨S4096x2048, .bf16⟩
  | .local _ .vmem, ⟨0, _⟩ => ⟨S1024x128, .f32⟩
  | .local _ .vmem, ⟨1, _⟩ => ⟨S1024x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S1024x128, .f32⟩
  | .local _ .vmem, ⟨7, _⟩ => ⟨S1024x128, .f32⟩
  | .local _ .vmem, ⟨8, _⟩ => ⟨S1x1024x1, .f32⟩
  | .local _ .vmem, ⟨9, _⟩ => ⟨S1x1024x1, .f32⟩
  | .local _ .vmem, ⟨10, _⟩ => ⟨S1x8x512, .f32⟩
  | .local _ .vmem, ⟨11, _⟩ => ⟨S1x8x512, .f32⟩
  | .local _ .vmem, ⟨12, _⟩ => ⟨S1024x128, .f32⟩
  | .local _ .vmem, ⟨13, _⟩ => ⟨S1024x128, .f32⟩
  | .local _ .vmem, ⟨14, _⟩ => ⟨S1x1024x1, .f32⟩
  | .local _ .vmem, ⟨15, _⟩ => ⟨S1x1024x1, .f32⟩
  | .local _ .vmem, ⟨16, _⟩ => ⟨S1024x128, .bf16⟩
  | .local _ .vmem, ⟨17, _⟩ => ⟨S1024x128, .bf16⟩
  | .local _ .vmem, ⟨18, _⟩ => ⟨S4096x128, .bf16⟩
  | .local _ .vmem, ⟨19, _⟩ => ⟨S4096x128, .bf16⟩
  | _, _ => ⟨S4096x8320, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![16, 4], ![false, false]⟩

@[reducible] def k0_t1_loop (i : grid0.Coords) : Scf.Loop 32 :=
  let c0_i32_14 : BitVec 32 := 0#32
  let arg1 : BitVec 32 := BitVec.ofNat 32 (i 1).val
  let c2_i32 : BitVec 32 := 2#32
  let v15 : BitVec 32 := Scalar.muli arg1 c2_i32
  let c0_i32_9 : BitVec 32 := 0#32
  let v17 : BitVec 1 := Scalar.cmpi .sgt v15 c0_i32_9
  let v18 : BitVec 32 := Scalar.extui v17
  let c0_i32_10 : BitVec 32 := 0#32
  let v19 : BitVec 1 := Scalar.cmpi .slt v15 c0_i32_10
  let v20 : BitVec 32 := Scalar.extui v19
  let v21 : BitVec 32 := Scalar.subi v18 v20
  let c2_i32_8 : BitVec 32 := 2#32
  let c0_i32_11 : BitVec 32 := 0#32
  let v22 : BitVec 1 := Scalar.cmpi .sgt c2_i32_8 c0_i32_11
  let v23 : BitVec 32 := Scalar.extui v22
  let c0_i32_12 : BitVec 32 := 0#32
  let v24 : BitVec 1 := Scalar.cmpi .slt c2_i32_8 c0_i32_12
  let v25 : BitVec 32 := Scalar.extui v24
  let v26 : BitVec 32 := Scalar.subi v23 v25
  let v27 : BitVec 1 := Scalar.cmpi .ne v21 v26
  let v28 : BitVec 32 := Scalar.remsi v15 c2_i32_8
  let c0_i32_13 : BitVec 32 := 0#32
  let v29 : BitVec 1 := Scalar.cmpi .ne v28 c0_i32_13
  let v30 : BitVec 1 := Scalar.andi v27 v29
  let v16 : BitVec 32 := Scalar.divsi v15 c2_i32_8
  let c1_i32 : BitVec 32 := 1#32
  let v31 : BitVec 32 := Scalar.subi v16 c1_i32
  let v32 : BitVec 32 := Scalar.select v30 v31 v16
  let v33 : BitVec 32 := Scalar.subi v32 c0_i32_14
  let c1_i32_15 : BitVec 32 := 1#32
  let v35 : BitVec 32 := Scalar.divsi v33 c1_i32_15
  let v36 : BitVec 32 := Scalar.muli v35 c1_i32_15
  let v37 : BitVec 32 := Scalar.addi c0_i32_14 v36
  let c1_i32_16 : BitVec 32 := 1#32
  ⟨c0_i32_14, v37, c1_i32_16⟩
def k0_mult1 (i : grid0.Coords) (k0_t1 : Fin (k0_t1_loop i).trips) : BitVec 32 :=
  let c2_i32_53 : BitVec 32 := 2#32
  let c0_i32_14 : BitVec 32 := 0#32
  let c1_i32_16 : BitVec 32 := 1#32
  let arg13 : BitVec 32 := Scf.iv c0_i32_14 c1_i32_16 k0_t1
  let v140 : BitVec 32 := Scalar.muli c2_i32_53 arg13
  let c0_i32_54 : BitVec 32 := 0#32
  let v141 : BitVec 32 := Scalar.addi v140 c0_i32_54
  let c512_i32_55 : BitVec 32 := 512#32
  let v142 : BitVec 32 := Scalar.muli v141 c512_i32_55
  v142
def k0_off1 (i : grid0.Coords) (k0_t1 : Fin (k0_t1_loop i).trips) (c0_i32_54 : BitVec 32) : Fin 2 → Nat :=
  let c2_i32_53 : BitVec 32 := 2#32
  let c0_i32_14 : BitVec 32 := 0#32
  let c1_i32_16 : BitVec 32 := 1#32
  let arg13 : BitVec 32 := Scf.iv c0_i32_14 c1_i32_16 k0_t1
  let v140 : BitVec 32 := Scalar.muli c2_i32_53 arg13
  let v141 : BitVec 32 := Scalar.addi v140 c0_i32_54
  let c512_i32_55 : BitVec 32 := 512#32
  let v142 : BitVec 32 := Scalar.muli v141 c512_i32_55
  let v143 : BitVec 32 := v142
  let v144 : Index := Scalar.indexCast v143
  let c0_56 : Index := 0#32
  ![v144.toNat, 0]
def k0_off2 (i : grid0.Coords) (k0_t1 : Fin (k0_t1_loop i).trips) (c0_i32_54 : BitVec 32) : Fin 3 → Nat :=
  let c0_58 : Index := 0#32
  let c2_i32_53 : BitVec 32 := 2#32
  let c0_i32_14 : BitVec 32 := 0#32
  let c1_i32_16 : BitVec 32 := 1#32
  let arg13 : BitVec 32 := Scf.iv c0_i32_14 c1_i32_16 k0_t1
  let v140 : BitVec 32 := Scalar.muli c2_i32_53 arg13
  let v141 : BitVec 32 := Scalar.addi v140 c0_i32_54
  let v149 : Index := Scalar.indexCast v141
  let c0_59 : Index := 0#32
  ![0, v149.toNat, 0]
def k0_mult2 (i : grid0.Coords) (k0_t1 : Fin (k0_t1_loop i).trips) : BitVec 32 :=
  let c2_i32_64 : BitVec 32 := 2#32
  let c0_i32_14 : BitVec 32 := 0#32
  let c1_i32_16 : BitVec 32 := 1#32
  let arg13 : BitVec 32 := Scf.iv c0_i32_14 c1_i32_16 k0_t1
  let v173 : BitVec 32 := Scalar.muli c2_i32_64 arg13
  let c1_i32_65 : BitVec 32 := 1#32
  let v174 : BitVec 32 := Scalar.addi v173 c1_i32_65
  let c512_i32_66 : BitVec 32 := 512#32
  let v175 : BitVec 32 := Scalar.muli v174 c512_i32_66
  v175
@[reducible] def k0_t2_loop (i : grid0.Coords) : Scf.Loop 32 :=
  let c0_i32_14 : BitVec 32 := 0#32
  let arg1 : BitVec 32 := BitVec.ofNat 32 (i 1).val
  let c2_i32 : BitVec 32 := 2#32
  let v15 : BitVec 32 := Scalar.muli arg1 c2_i32
  let c0_i32_9 : BitVec 32 := 0#32
  let v17 : BitVec 1 := Scalar.cmpi .sgt v15 c0_i32_9
  let v18 : BitVec 32 := Scalar.extui v17
  let c0_i32_10 : BitVec 32 := 0#32
  let v19 : BitVec 1 := Scalar.cmpi .slt v15 c0_i32_10
  let v20 : BitVec 32 := Scalar.extui v19
  let v21 : BitVec 32 := Scalar.subi v18 v20
  let c2_i32_8 : BitVec 32 := 2#32
  let c0_i32_11 : BitVec 32 := 0#32
  let v22 : BitVec 1 := Scalar.cmpi .sgt c2_i32_8 c0_i32_11
  let v23 : BitVec 32 := Scalar.extui v22
  let c0_i32_12 : BitVec 32 := 0#32
  let v24 : BitVec 1 := Scalar.cmpi .slt c2_i32_8 c0_i32_12
  let v25 : BitVec 32 := Scalar.extui v24
  let v26 : BitVec 32 := Scalar.subi v23 v25
  let v27 : BitVec 1 := Scalar.cmpi .ne v21 v26
  let v28 : BitVec 32 := Scalar.remsi v15 c2_i32_8
  let c0_i32_13 : BitVec 32 := 0#32
  let v29 : BitVec 1 := Scalar.cmpi .ne v28 c0_i32_13
  let v30 : BitVec 1 := Scalar.andi v27 v29
  let v16 : BitVec 32 := Scalar.divsi v15 c2_i32_8
  let c1_i32 : BitVec 32 := 1#32
  let v31 : BitVec 32 := Scalar.subi v16 c1_i32
  let v32 : BitVec 32 := Scalar.select v30 v31 v16
  let v33 : BitVec 32 := Scalar.subi v32 c0_i32_14
  let c1_i32_15 : BitVec 32 := 1#32
  let v35 : BitVec 32 := Scalar.divsi v33 c1_i32_15
  let v36 : BitVec 32 := Scalar.muli v35 c1_i32_15
  let v37 : BitVec 32 := Scalar.addi c0_i32_14 v36
  let v34 : BitVec 32 := Scalar.addi c0_i32_14 v33
  let c1_i32_17 : BitVec 32 := 1#32
  ⟨v37, v34, c1_i32_17⟩
def k0_mult3 (i : grid0.Coords) (k0_t2 : Fin (k0_t2_loop i).trips) : BitVec 32 :=
  let c2_i32_53 : BitVec 32 := 2#32
  let c0_i32_14 : BitVec 32 := 0#32
  let arg1 : BitVec 32 := BitVec.ofNat 32 (i 1).val
  let c2_i32 : BitVec 32 := 2#32
  let v15 : BitVec 32 := Scalar.muli arg1 c2_i32
  let c0_i32_9 : BitVec 32 := 0#32
  let v17 : BitVec 1 := Scalar.cmpi .sgt v15 c0_i32_9
  let v18 : BitVec 32 := Scalar.extui v17
  let c0_i32_10 : BitVec 32 := 0#32
  let v19 : BitVec 1 := Scalar.cmpi .slt v15 c0_i32_10
  let v20 : BitVec 32 := Scalar.extui v19
  let v21 : BitVec 32 := Scalar.subi v18 v20
  let c2_i32_8 : BitVec 32 := 2#32
  let c0_i32_11 : BitVec 32 := 0#32
  let v22 : BitVec 1 := Scalar.cmpi .sgt c2_i32_8 c0_i32_11
  let v23 : BitVec 32 := Scalar.extui v22
  let c0_i32_12 : BitVec 32 := 0#32
  let v24 : BitVec 1 := Scalar.cmpi .slt c2_i32_8 c0_i32_12
  let v25 : BitVec 32 := Scalar.extui v24
  let v26 : BitVec 32 := Scalar.subi v23 v25
  let v27 : BitVec 1 := Scalar.cmpi .ne v21 v26
  let v28 : BitVec 32 := Scalar.remsi v15 c2_i32_8
  let c0_i32_13 : BitVec 32 := 0#32
  let v29 : BitVec 1 := Scalar.cmpi .ne v28 c0_i32_13
  let v30 : BitVec 1 := Scalar.andi v27 v29
  let v16 : BitVec 32 := Scalar.divsi v15 c2_i32_8
  let c1_i32 : BitVec 32 := 1#32
  let v31 : BitVec 32 := Scalar.subi v16 c1_i32
  let v32 : BitVec 32 := Scalar.select v30 v31 v16
  let v33 : BitVec 32 := Scalar.subi v32 c0_i32_14
  let c1_i32_15 : BitVec 32 := 1#32
  let v35 : BitVec 32 := Scalar.divsi v33 c1_i32_15
  let v36 : BitVec 32 := Scalar.muli v35 c1_i32_15
  let v37 : BitVec 32 := Scalar.addi c0_i32_14 v36
  let c1_i32_17 : BitVec 32 := 1#32
  let arg13 : BitVec 32 := Scf.iv v37 c1_i32_17 k0_t2
  let v140 : BitVec 32 := Scalar.muli c2_i32_53 arg13
  let c0_i32_54 : BitVec 32 := 0#32
  let v141 : BitVec 32 := Scalar.addi v140 c0_i32_54
  let c512_i32_55 : BitVec 32 := 512#32
  let v142 : BitVec 32 := Scalar.muli v141 c512_i32_55
  v142
def k0_off3 (i : grid0.Coords) (k0_t2 : Fin (k0_t2_loop i).trips) (c0_i32_54 : BitVec 32) : Fin 2 → Nat :=
  let c2_i32_53 : BitVec 32 := 2#32
  let c0_i32_14 : BitVec 32 := 0#32
  let arg1 : BitVec 32 := BitVec.ofNat 32 (i 1).val
  let c2_i32 : BitVec 32 := 2#32
  let v15 : BitVec 32 := Scalar.muli arg1 c2_i32
  let c0_i32_9 : BitVec 32 := 0#32
  let v17 : BitVec 1 := Scalar.cmpi .sgt v15 c0_i32_9
  let v18 : BitVec 32 := Scalar.extui v17
  let c0_i32_10 : BitVec 32 := 0#32
  let v19 : BitVec 1 := Scalar.cmpi .slt v15 c0_i32_10
  let v20 : BitVec 32 := Scalar.extui v19
  let v21 : BitVec 32 := Scalar.subi v18 v20
  let c2_i32_8 : BitVec 32 := 2#32
  let c0_i32_11 : BitVec 32 := 0#32
  let v22 : BitVec 1 := Scalar.cmpi .sgt c2_i32_8 c0_i32_11
  let v23 : BitVec 32 := Scalar.extui v22
  let c0_i32_12 : BitVec 32 := 0#32
  let v24 : BitVec 1 := Scalar.cmpi .slt c2_i32_8 c0_i32_12
  let v25 : BitVec 32 := Scalar.extui v24
  let v26 : BitVec 32 := Scalar.subi v23 v25
  let v27 : BitVec 1 := Scalar.cmpi .ne v21 v26
  let v28 : BitVec 32 := Scalar.remsi v15 c2_i32_8
  let c0_i32_13 : BitVec 32 := 0#32
  let v29 : BitVec 1 := Scalar.cmpi .ne v28 c0_i32_13
  let v30 : BitVec 1 := Scalar.andi v27 v29
  let v16 : BitVec 32 := Scalar.divsi v15 c2_i32_8
  let c1_i32 : BitVec 32 := 1#32
  let v31 : BitVec 32 := Scalar.subi v16 c1_i32
  let v32 : BitVec 32 := Scalar.select v30 v31 v16
  let v33 : BitVec 32 := Scalar.subi v32 c0_i32_14
  let c1_i32_15 : BitVec 32 := 1#32
  let v35 : BitVec 32 := Scalar.divsi v33 c1_i32_15
  let v36 : BitVec 32 := Scalar.muli v35 c1_i32_15
  let v37 : BitVec 32 := Scalar.addi c0_i32_14 v36
  let c1_i32_17 : BitVec 32 := 1#32
  let arg13 : BitVec 32 := Scf.iv v37 c1_i32_17 k0_t2
  let v140 : BitVec 32 := Scalar.muli c2_i32_53 arg13
  let v141 : BitVec 32 := Scalar.addi v140 c0_i32_54
  let c512_i32_55 : BitVec 32 := 512#32
  let v142 : BitVec 32 := Scalar.muli v141 c512_i32_55
  let v143 : BitVec 32 := v142
  let v144 : Index := Scalar.indexCast v143
  let c0_56 : Index := 0#32
  ![v144.toNat, 0]
def k0_off4 (i : grid0.Coords) (k0_t2 : Fin (k0_t2_loop i).trips) (c0_i32_54 : BitVec 32) : Fin 3 → Nat :=
  let c0_58 : Index := 0#32
  let c2_i32_53 : BitVec 32 := 2#32
  let c0_i32_14 : BitVec 32 := 0#32
  let arg1 : BitVec 32 := BitVec.ofNat 32 (i 1).val
  let c2_i32 : BitVec 32 := 2#32
  let v15 : BitVec 32 := Scalar.muli arg1 c2_i32
  let c0_i32_9 : BitVec 32 := 0#32
  let v17 : BitVec 1 := Scalar.cmpi .sgt v15 c0_i32_9
  let v18 : BitVec 32 := Scalar.extui v17
  let c0_i32_10 : BitVec 32 := 0#32
  let v19 : BitVec 1 := Scalar.cmpi .slt v15 c0_i32_10
  let v20 : BitVec 32 := Scalar.extui v19
  let v21 : BitVec 32 := Scalar.subi v18 v20
  let c2_i32_8 : BitVec 32 := 2#32
  let c0_i32_11 : BitVec 32 := 0#32
  let v22 : BitVec 1 := Scalar.cmpi .sgt c2_i32_8 c0_i32_11
  let v23 : BitVec 32 := Scalar.extui v22
  let c0_i32_12 : BitVec 32 := 0#32
  let v24 : BitVec 1 := Scalar.cmpi .slt c2_i32_8 c0_i32_12
  let v25 : BitVec 32 := Scalar.extui v24
  let v26 : BitVec 32 := Scalar.subi v23 v25
  let v27 : BitVec 1 := Scalar.cmpi .ne v21 v26
  let v28 : BitVec 32 := Scalar.remsi v15 c2_i32_8
  let c0_i32_13 : BitVec 32 := 0#32
  let v29 : BitVec 1 := Scalar.cmpi .ne v28 c0_i32_13
  let v30 : BitVec 1 := Scalar.andi v27 v29
  let v16 : BitVec 32 := Scalar.divsi v15 c2_i32_8
  let c1_i32 : BitVec 32 := 1#32
  let v31 : BitVec 32 := Scalar.subi v16 c1_i32
  let v32 : BitVec 32 := Scalar.select v30 v31 v16
  let v33 : BitVec 32 := Scalar.subi v32 c0_i32_14
  let c1_i32_15 : BitVec 32 := 1#32
  let v35 : BitVec 32 := Scalar.divsi v33 c1_i32_15
  let v36 : BitVec 32 := Scalar.muli v35 c1_i32_15
  let v37 : BitVec 32 := Scalar.addi c0_i32_14 v36
  let c1_i32_17 : BitVec 32 := 1#32
  let arg13 : BitVec 32 := Scf.iv v37 c1_i32_17 k0_t2
  let v140 : BitVec 32 := Scalar.muli c2_i32_53 arg13
  let v141 : BitVec 32 := Scalar.addi v140 c0_i32_54
  let v149 : Index := Scalar.indexCast v141
  let c0_59 : Index := 0#32
  ![0, v149.toNat, 0]
def k0_mult4 (i : grid0.Coords) (k0_t2 : Fin (k0_t2_loop i).trips) : BitVec 32 :=
  let c2_i32_64 : BitVec 32 := 2#32
  let c0_i32_14 : BitVec 32 := 0#32
  let arg1 : BitVec 32 := BitVec.ofNat 32 (i 1).val
  let c2_i32 : BitVec 32 := 2#32
  let v15 : BitVec 32 := Scalar.muli arg1 c2_i32
  let c0_i32_9 : BitVec 32 := 0#32
  let v17 : BitVec 1 := Scalar.cmpi .sgt v15 c0_i32_9
  let v18 : BitVec 32 := Scalar.extui v17
  let c0_i32_10 : BitVec 32 := 0#32
  let v19 : BitVec 1 := Scalar.cmpi .slt v15 c0_i32_10
  let v20 : BitVec 32 := Scalar.extui v19
  let v21 : BitVec 32 := Scalar.subi v18 v20
  let c2_i32_8 : BitVec 32 := 2#32
  let c0_i32_11 : BitVec 32 := 0#32
  let v22 : BitVec 1 := Scalar.cmpi .sgt c2_i32_8 c0_i32_11
  let v23 : BitVec 32 := Scalar.extui v22
  let c0_i32_12 : BitVec 32 := 0#32
  let v24 : BitVec 1 := Scalar.cmpi .slt c2_i32_8 c0_i32_12
  let v25 : BitVec 32 := Scalar.extui v24
  let v26 : BitVec 32 := Scalar.subi v23 v25
  let v27 : BitVec 1 := Scalar.cmpi .ne v21 v26
  let v28 : BitVec 32 := Scalar.remsi v15 c2_i32_8
  let c0_i32_13 : BitVec 32 := 0#32
  let v29 : BitVec 1 := Scalar.cmpi .ne v28 c0_i32_13
  let v30 : BitVec 1 := Scalar.andi v27 v29
  let v16 : BitVec 32 := Scalar.divsi v15 c2_i32_8
  let c1_i32 : BitVec 32 := 1#32
  let v31 : BitVec 32 := Scalar.subi v16 c1_i32
  let v32 : BitVec 32 := Scalar.select v30 v31 v16
  let v33 : BitVec 32 := Scalar.subi v32 c0_i32_14
  let c1_i32_15 : BitVec 32 := 1#32
  let v35 : BitVec 32 := Scalar.divsi v33 c1_i32_15
  let v36 : BitVec 32 := Scalar.muli v35 c1_i32_15
  let v37 : BitVec 32 := Scalar.addi c0_i32_14 v36
  let c1_i32_17 : BitVec 32 := 1#32
  let arg13 : BitVec 32 := Scf.iv v37 c1_i32_17 k0_t2
  let v173 : BitVec 32 := Scalar.muli c2_i32_64 arg13
  let c1_i32_65 : BitVec 32 := 1#32
  let v174 : BitVec 32 := Scalar.addi v173 c1_i32_65
  let c512_i32_66 : BitVec 32 := 512#32
  let v175 : BitVec 32 := Scalar.muli v174 c512_i32_66
  v175
def k0_mult5 (i : grid0.Coords) : BitVec 32 :=
  let arg1 : BitVec 32 := BitVec.ofNat 32 (i 1).val
  let c2_i32_18 : BitVec 32 := 2#32
  let v40 : BitVec 32 := Scalar.muli arg1 c2_i32_18
  let c0_i32_19 : BitVec 32 := 0#32
  let v41 : BitVec 32 := Scalar.addi v40 c0_i32_19
  let c512_i32 : BitVec 32 := 512#32
  let v42 : BitVec 32 := Scalar.muli v41 c512_i32
  v42
def k0_off5 (i : grid0.Coords) (c0_i32_19 : BitVec 32) : Fin 2 → Nat :=
  let arg1 : BitVec 32 := BitVec.ofNat 32 (i 1).val
  let c2_i32_18 : BitVec 32 := 2#32
  let v40 : BitVec 32 := Scalar.muli arg1 c2_i32_18
  let v41 : BitVec 32 := Scalar.addi v40 c0_i32_19
  let c512_i32 : BitVec 32 := 512#32
  let v42 : BitVec 32 := Scalar.muli v41 c512_i32
  let v43 : BitVec 32 := v42
  let v44 : Index := Scalar.indexCast v43
  let c0_20 : Index := 0#32
  ![v44.toNat, 0]
def k0_off6 (i : grid0.Coords) (c0_i32_19 : BitVec 32) : Fin 3 → Nat :=
  let c0_22 : Index := 0#32
  let arg1 : BitVec 32 := BitVec.ofNat 32 (i 1).val
  let c2_i32_18 : BitVec 32 := 2#32
  let v40 : BitVec 32 := Scalar.muli arg1 c2_i32_18
  let v41 : BitVec 32 := Scalar.addi v40 c0_i32_19
  let v49 : Index := Scalar.indexCast v41
  let c0_23 : Index := 0#32
  ![0, v49.toNat, 0]
def k0_mult6 (i : grid0.Coords) : BitVec 32 :=
  let arg1 : BitVec 32 := BitVec.ofNat 32 (i 1).val
  let c2_i32_29 : BitVec 32 := 2#32
  let v80 : BitVec 32 := Scalar.muli arg1 c2_i32_29
  let c1_i32_30 : BitVec 32 := 1#32
  let v81 : BitVec 32 := Scalar.addi v80 c1_i32_30
  let c512_i32_31 : BitVec 32 := 512#32
  let v82 : BitVec 32 := Scalar.muli v81 c512_i32_31
  v82
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c48_i32 : BitVec 32 := 48#32
  let v0 : BitVec 32 := Scalar.addi c48_i32 arg0
  let c0_i32 : BitVec 32 := 0#32
  ![arg1.toNat, v0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Kernel22Ideal.lean ====
variable {F : FTy → Type} [FloatOps F] [Named F]
def κ : String → Option EReal := fun
  | "mask" => some ⊥
  | _ => none
-- ==== Reference22Ideal.lean ====
abbrev S4096x8320 : Shape := ⟨2, ![4096, 8320]⟩
abbrev S16x4096 : Shape := ⟨2, ![16, 4096]⟩
abbrev S4096x2048 : Shape := ⟨2, ![4096, 2048]⟩
abbrev S4096x16x128 : Shape := ⟨3, ![4096, 16, 128]⟩
abbrev S16x4096x128 : Shape := ⟨3, ![16, 4096, 128]⟩
abbrev S16x4096x4096 : Shape := ⟨3, ![16, 4096, 4096]⟩
abbrev S_ : Shape := ⟨0, ![]⟩
abbrev S16x4096x1 : Shape := ⟨3, ![16, 4096, 1]⟩
abbrev S16x1x4096 : Shape := ⟨3, ![16, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩

abbrev nBuf : Space → Nat
  | .hbm => 73
  | .vmem => 0
  | .smem => 0
  | _ => 0

abbrev bufTy : (tb : Table) → Fin (tcTables nBuf tb) → BufTy
  | .hbm, ⟨0, _⟩ => ⟨S4096x8320, .f32⟩
  | .hbm, ⟨1, _⟩ => ⟨S16x4096, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S4096x16x128, .f32⟩
  | .hbm, ⟨7, _⟩ => ⟨S16x4096x128, .f32⟩
  | .hbm, ⟨8, _⟩ => ⟨S4096x16x128, .f32⟩
  | .hbm, ⟨9, _⟩ => ⟨S16x4096x128, .f32⟩
  | .hbm, ⟨10, _⟩ => ⟨S16x4096x4096, .f32⟩
  | .hbm, ⟨11, _⟩ => ⟨S_, .f32⟩
  | .hbm, ⟨12, _⟩ => ⟨S16x4096x4096, .f32⟩
  | .hbm, ⟨13, _⟩ => ⟨S16x4096x4096, .f32⟩
  | .hbm, ⟨14, _⟩ => ⟨S16x4096x1, .f32⟩
  | .hbm, ⟨15, _⟩ => ⟨S16x4096x4096, .f32⟩
  | .hbm, ⟨16, _⟩ => ⟨S16x4096x4096, .f32⟩
  | .hbm, ⟨17, _⟩ => ⟨S16x1x4096, .f32⟩
  | .hbm, ⟨18, _⟩ => ⟨S16x4096x4096, .f32⟩
  | .hbm, ⟨19, _⟩ => ⟨S16x4096x4096, .f32⟩
  | .hbm, ⟨20, _⟩ => ⟨S4096, .i32⟩
  | .hbm, ⟨21, _⟩ => ⟨S1x4096, .i32⟩
  | .hbm, ⟨22, _⟩ => ⟨S4096, .i32⟩
  | .hbm, ⟨23, _⟩ => ⟨S4096x1, .i32⟩
  | .hbm, ⟨24, _⟩ => ⟨S4096x4096, .i32⟩
  | .hbm, ⟨25, _⟩ => ⟨S4096x4096, .i32⟩
  | .hbm, ⟨26, _⟩ => ⟨S4096x4096, .i1⟩
  | .hbm, ⟨27, _⟩ => ⟨S_, .f32⟩
  | .hbm, ⟨28, _⟩ => ⟨S_, .f32⟩
  | .hbm, ⟨29, _⟩ => ⟨S16x4096x4096, .i1⟩
  | .hbm, ⟨30, _⟩ => ⟨S16x4096x4096, .f32⟩
  | .hbm, ⟨31, _⟩ => ⟨S16x4096x4096, .f32⟩
  | .hbm, ⟨32, _⟩ => ⟨S_, .f32⟩
  | .hbm, ⟨33, _⟩ => ⟨S16x4096, .f32⟩
  | .hbm, ⟨34, _⟩ => ⟨S_, .f32⟩
  | .hbm, ⟨35, _⟩ => ⟨S16x4096, .f32⟩
  | .hbm, ⟨36, _⟩ => ⟨S16x4096, .f32⟩
  | .hbm, ⟨37, _⟩ => ⟨S16x4096x1, .f32⟩
  | .hbm, ⟨38, _⟩ => ⟨S16x4096x4096, .f32⟩
  | .hbm, ⟨39, _⟩ => ⟨S16x4096x4096, .f32⟩
  | .hbm, ⟨40, _⟩ => ⟨S16x4096x4096, .f32⟩
  | .hbm, ⟨41, _⟩ => ⟨S_, .f32⟩
  | .hbm, ⟨42, _⟩ => ⟨S16x4096, .f32⟩
  | .hbm, ⟨43, _⟩ => ⟨S16x4096x1, .f32⟩
  | .hbm, ⟨44, _⟩ => ⟨S16x4096x4096, .f32⟩
  | .hbm, ⟨45, _⟩ => ⟨S16x4096x4096, .f32⟩
  | .hbm, ⟨46, _⟩ => ⟨S4096x16x128, .f32⟩
  | .hbm, ⟨47, _⟩ => ⟨S16x4096x128, .f32⟩
  | .hbm, ⟨48, _⟩ => ⟨S16x4096x128, .f32⟩
  | .hbm, ⟨49, _⟩ => ⟨S4096x16x128, .f32⟩
  | .hbm, ⟨50, _⟩ => ⟨S4096x2048, .f32⟩
  | .hbm, ⟨51, _⟩ => ⟨S_, .f32⟩
  | .hbm, ⟨52, _⟩ => ⟨S16x4096, .f32⟩
  | .hbm, ⟨53, _⟩ => ⟨S16x4096x1, .f32⟩
  | .hbm, ⟨54, _⟩ => ⟨S16x4096x4096, .f32⟩
  | .hbm, ⟨55, _⟩ => ⟨S16x4096x4096, .f32⟩
  | .hbm, ⟨56, _⟩ => ⟨S16x4096x4096, .f32⟩
  | .hbm, ⟨57, _⟩ => ⟨S_, .f32⟩
  | .hbm, ⟨58, _⟩ => ⟨S16x4096, .f32⟩
  | .hbm, ⟨59, _⟩ => ⟨S16x4096x1, .f32⟩
  | .hbm, ⟨60, _⟩ => ⟨S16x4096x1, .f32⟩
  | .hbm, ⟨61, _⟩ => ⟨S16x4096x1, .f32⟩
  | .hbm, ⟨62, _⟩ => ⟨S4096x2048, .f32⟩
  | .hbm, ⟨63, _⟩ => ⟨S4096x2048, .f32⟩
  | .hbm, ⟨64, _⟩ => ⟨S_, .f32⟩
  | .hbm, ⟨65, _⟩ => ⟨S4096x2048, .f32⟩
  | .hbm, ⟨66, _⟩ => ⟨S4096x2048, .f32⟩
  | .hbm, ⟨67, _⟩ => ⟨S_, .f32⟩
  | .hbm, ⟨68, _⟩ => ⟨S4096x2048, .f32⟩
  | .hbm, ⟨69, _⟩ => ⟨S4096x2048, .f32⟩
  | .hbm, ⟨70, _⟩ => ⟨S4096x2048, .f32⟩
  | .hbm, ⟨71, _⟩ => ⟨S4096x2048, .f32⟩
  | .hbm, ⟨72, _⟩ => ⟨S4096x2048, .bf16⟩
  | _, _ => ⟨S4096x8320, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_cst_0 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v24 : Ref sig .tc := ⟨.hbm, 31, rfl⟩
abbrev main_cst_1 : Ref sig .tc := ⟨.hbm, 32, rfl⟩
abbrev main_v25 : Ref sig .tc := ⟨.hbm, 33, rfl⟩
abbrev main_cst_2 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_3 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst_4 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_cst_5 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_call1_v0 : Ref sig .tc := ⟨.hbm, 62, rfl⟩
abbrev main_call1_v1 : Ref sig .tc := ⟨.hbm, 63, rfl⟩
abbrev main_call1_cst : Ref sig .tc := ⟨.hbm, 64, rfl⟩
abbrev main_call1_v2 : Ref sig .tc := ⟨.hbm, 65, rfl⟩
abbrev main_call1_v3 : Ref sig .tc := ⟨.hbm, 66, rfl⟩
abbrev main_call1_cst_0 : Ref sig .tc := ⟨.hbm, 67, rfl⟩
abbrev main_call1_v4 : Ref sig .tc := ⟨.hbm, 68, rfl⟩
abbrev main_call1_v5 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]
-- ==== Kernel23.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference23Ideal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel24.lean ====
abbrev S1024x2048 : Shape := ⟨2, ![1024, 2048]⟩
abbrev S256x2048 : Shape := ⟨2, ![256, 2048]⟩

abbrev nBuf : Space → Nat
  | .hbm => 7
  | .vmem => 14
  | .smem => 0
  | _ => 0

abbrev bufTy : (tb : Table) → Fin (tcTables nBuf tb) → BufTy
  | .hbm, ⟨0, _⟩ => ⟨S1024x2048, .f32⟩
  | .hbm, ⟨1, _⟩ => ⟨S1024x2048, .f32⟩
  | .hbm, ⟨2, _⟩ => ⟨S1024x2048, .f32⟩
  | .hbm, ⟨3, _⟩ => ⟨S1024x2048, .f32⟩
  | .hbm, ⟨4, _⟩ => ⟨S1024x2048, .f32⟩
  | .hbm, ⟨5, _⟩ => ⟨S1024x2048, .f32⟩
  | .hbm, ⟨6, _⟩ => ⟨S1024x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference24Ideal.lean ====
abbrev S1024x2048 : Shape := ⟨2, ![1024, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S1024x2048, .f32⟩
  | .hbm, ⟨2, _⟩ => ⟨S1024x2048, .f32⟩
  | .hbm, ⟨3, _⟩ => ⟨S1024x2048, .f32⟩
  | .hbm, ⟨4, _⟩ => ⟨S_, .f32⟩
  | .hbm, ⟨5, _⟩ => ⟨S1024x2048, .f32⟩
  | .hbm, ⟨6, _⟩ => ⟨S1024x2048, .f32⟩
  | .hbm, ⟨7, _⟩ => ⟨S_, .f32⟩
  | .hbm, ⟨8, _⟩ => ⟨S1024x2048, .f32⟩
  | .hbm, ⟨9, _⟩ => ⟨S1024x2048, .f32⟩
  | .hbm, ⟨10, _⟩ => ⟨S1024x2048, .f32⟩
  | .hbm, ⟨11, _⟩ => ⟨S_, .f32⟩
  | .hbm, ⟨12, _⟩ => ⟨S1024x2048, .f32⟩
  | .hbm, ⟨13, _⟩ => ⟨S1024x2048, .f32⟩
  | .hbm, ⟨14, _⟩ => ⟨S1024x2048, .f32⟩
  | .hbm, ⟨15, _⟩ => ⟨S_, .f32⟩
  | .hbm, ⟨16, _⟩ => ⟨S1024x2048, .f32⟩
  | .hbm, ⟨17, _⟩ => ⟨S1024x2048, .f32⟩
  | .hbm, ⟨18, _⟩ => ⟨S1024x2048, .f32⟩
  | .hbm, ⟨19, _⟩ => ⟨S_, .f32⟩
  | .hbm, ⟨20, _⟩ => ⟨S1024x2048, .f32⟩
  | .hbm, ⟨21, _⟩ => ⟨S1024x2048, .f32⟩
  | .hbm, ⟨22, _⟩ => ⟨S_, .f32⟩
  | .hbm, ⟨23, _⟩ => ⟨S1024x2048, .f32⟩
  | .hbm, ⟨24, _⟩ => ⟨S1024x2048, .f32⟩
  | .hbm, ⟨25, _⟩ => ⟨S1024x2048, .f32⟩
  | .hbm, ⟨26, _⟩ => ⟨S_, .f32⟩
  | .hbm, ⟨27, _⟩ => ⟨S1024x2048, .f32⟩
  | .hbm, ⟨28, _⟩ => ⟨S1024x2048, .f32⟩
  | .hbm, ⟨29, _⟩ => ⟨S1024x2048, .f32⟩
  | .hbm, ⟨30, _⟩ => ⟨S_, .f32⟩
  | .hbm, ⟨31, _⟩ => ⟨S1024x2048, .f32⟩
  | .hbm, ⟨32, _⟩ => ⟨S1024x2048, .f32⟩
  | .hbm, ⟨33, _⟩ => ⟨S1024x2048, .f32⟩
  | .hbm, ⟨34, _⟩ => ⟨S_, .f32⟩
  | .hbm, ⟨35, _⟩ => ⟨S1024x2048, .f32⟩
  | .hbm, ⟨36, _⟩ => ⟨S1024x2048, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel25.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 7
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .bf16⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v33 : BitVec 1 := Scalar.cmpi .eq arg0 c0_i32
  let v34 : BitVec 32 := Scalar.extui v33
  let c0_i32_16 : BitVec 32 := 0#32
  let v35 : BitVec 1 := Scalar.cmpi .ne v34 c0_i32_16
  v35

def k0_cond2 (i : grid0.Coords) : BitVec 1 :=
  let arg0 : BitVec 32 := BitVec.ofNat 32 (i 0).val
  let c0_i32_17 : BitVec 32 := 0#32
  let v36 : BitVec 1 := Scalar.cmpi .sgt arg0 c0_i32_17
  let v37 : BitVec 32 := Scalar.extui v36
  let c0_i32_18 : BitVec 32 := 0#32
  let v38 : BitVec 1 := Scalar.cmpi .ne v37 c0_i32_18
  v38

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference25Ideal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 48
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S4096x1024, .f32⟩
  | .hbm, ⟨34, _⟩ => ⟨S4096x1024, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S_, .f32⟩
  | .hbm, ⟨40, _⟩ => ⟨S4096, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== Kernel26.lean ====
abbrev S4096x1024 : Shape := ⟨2, ![4096, 1024]⟩
abbrev S1x1024 : Shape := ⟨2, ![1, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S4096x1024, .bf16⟩
  | .hbm, ⟨5, _⟩ => ⟨S1x1024, .f32⟩
  | .hbm, ⟨6, _⟩ => ⟨S1x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .bf16⟩
  | .local _ .vmem, ⟨8, _⟩ => ⟨S512x1024, .bf16⟩
  | .local _ .vmem, ⟨9, _⟩ => ⟨S1x1024, .f32⟩
  | .local _ .vmem, ⟨10, _⟩ => ⟨S1x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v47 : BitVec 1 := Scalar.cmpi .eq arg0 c0_i32
  let v48 : BitVec 32 := Scalar.extui v47
  let c0_i32_19 : BitVec 32 := 0#32
  let v49 : BitVec 1 := Scalar.cmpi .ne v48 c0_i32_19
  v49

def k0_cond2 (i : grid0.Coords) : BitVec 1 :=
  let arg0 : BitVec 32 := BitVec.ofNat 32 (i 0).val
  let c0_i32_20 : BitVec 32 := 0#32
  let v50 : BitVec 1 := Scalar.cmpi .sgt arg0 c0_i32_20
  let v51 : BitVec 32 := Scalar.extui v50
  let c0_i32_21 : BitVec 32 := 0#32
  let v52 : BitVec 1 := Scalar.cmpi .ne v51 c0_i32_21
  v52

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference26Ideal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S1x128 : Shape := ⟨2, ![1, 128]⟩

abbrev nBuf : Space → Nat
  | .hbm => 70
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096, .f32⟩
  | .hbm, ⟨29, _⟩ => ⟨S_, .f32⟩
  | .hbm, ⟨30, _⟩ => ⟨S4096, .f32⟩
  | .hbm, ⟨31, _⟩ => ⟨S4096, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S4096, .f32⟩
  | .hbm, ⟨40, _⟩ => ⟨S_, .f32⟩
  | .hbm, ⟨41, _⟩ => ⟨S4096, .f32⟩
  | .hbm, ⟨42, _⟩ => ⟨S4096, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S4096, .f32⟩
  | .hbm, ⟨54, _⟩ => ⟨S4096x1, .f32⟩
  | .hbm, ⟨55, _⟩ => ⟨S4096x1024, .f32⟩
  | .hbm, ⟨56, _⟩ => ⟨S4096x1024, .f32⟩
  | .hbm, ⟨57, _⟩ => ⟨S4096x1, .f32⟩
  | .hbm, ⟨58, _⟩ => ⟨S_, .f32⟩
  | .hbm, ⟨59, _⟩ => ⟨S4096x1, .f32⟩
  | .hbm, ⟨60, _⟩ => ⟨S4096x1, .f32⟩
  | .hbm, ⟨61, _⟩ => ⟨S_, .f32⟩
  | .hbm, ⟨62, _⟩ => ⟨S4096, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1024, .bf16⟩
  | .hbm, ⟨69, _⟩ => ⟨S1x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_cst_8 : Ref sig .tc := ⟨.hbm, 36, rfl⟩
abbrev main_cst_9 : Ref sig .tc := ⟨.hbm, 37, rfl⟩
abbrev main_v24 : Ref sig .tc := ⟨.hbm, 38, rfl⟩
abbrev main_v25 : Ref sig .tc := ⟨.hbm, 39, rfl⟩
abbrev main_cst_10 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_11 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_13 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩

abbrev nD : Nat := 1
abbrev τ : Topo := Topo.v7x

variable {F : FTy → Type} [FloatOps F]
-- ==== Kernel27.lean ====
abbrev S4096x2560 : Shape := ⟨2, ![4096, 2560]⟩
abbrev S1x256 : Shape := ⟨2, ![1, 256]⟩
abbrev S4096x256 : Shape := ⟨2, ![4096, 256]⟩
abbrev S512x256 : Shape := ⟨2, ![512, 256]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x2560, .f32⟩
  | .hbm, ⟨1, _⟩ => ⟨S1x256, .f32⟩
  | .hbm, ⟨2, _⟩ => ⟨S4096x256, .bf16⟩
  | .local _ .vmem, ⟨0, _⟩ => ⟨S512x256, .f32⟩
  | .local _ .vmem, ⟨1, _⟩ => ⟨S512x256, .f32⟩
  | .local _ .vmem, ⟨2, _⟩ => ⟨S1x256, .f32⟩
  | .local _ .vmem, ⟨3, _⟩ => ⟨S512x256, .bf16⟩
  | .local _ .vmem, ⟨4, _⟩ => ⟨S512x256, .bf16⟩
  | _, _ => ⟨S4096x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference27Ideal.lean ====
abbrev S4096x2560 : Shape := ⟨2, ![4096, 2560]⟩
abbrev S1x256 : Shape := ⟨2, ![1, 256]⟩
abbrev S4096x256 : Shape := ⟨2, ![4096, 256]⟩
abbrev S_ : Shape := ⟨0, ![]⟩
abbrev S4096 : Shape := ⟨1, ![4096]⟩
abbrev S4096x1 : Shape := ⟨2, ![4096, 1]⟩

abbrev nBuf : Space → Nat
  | .hbm => 19
  | .vmem => 0
  | .smem => 0
  | _ => 0

abbrev bufTy : (tb : Table) → Fin (tcTables nBuf tb) → BufTy
  | .hbm, ⟨0, _⟩ => ⟨S4096x2560, .f32⟩
  | .hbm, ⟨1, _⟩ => ⟨S1x256, .f32⟩
  | .hbm, ⟨2, _⟩ => ⟨S4096x256, .f32⟩
  | .hbm, ⟨3, _⟩ => ⟨S4096x256, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x256, .f32⟩
  | .hbm, ⟨15, _⟩ => ⟨S4096x256, .f32⟩
  | .hbm, ⟨16, _⟩ => ⟨S4096x256, .f32⟩
  | .hbm, ⟨17, _⟩ => ⟨S4096x256, .f32⟩
  | .hbm, ⟨18, _⟩ => ⟨S4096x256, .bf16⟩
  | _, _ => ⟨S4096x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel28.lean ====
abbrev S4096x2560 : Shape := ⟨2, ![4096, 2560]⟩
abbrev S1x128 : Shape := ⟨2, ![1, 128]⟩
abbrev S4096x128 : Shape := ⟨2, ![4096, 128]⟩
abbrev S512x128 : Shape := ⟨2, ![512, 128]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x2560, .f32⟩
  | .hbm, ⟨1, _⟩ => ⟨S1x128, .f32⟩
  | .hbm, ⟨2, _⟩ => ⟨S4096x128, .bf16⟩
  | .local _ .vmem, ⟨0, _⟩ => ⟨S512x128, .f32⟩
  | .local _ .vmem, ⟨1, _⟩ => ⟨S512x128, .f32⟩
  | .local _ .vmem, ⟨2, _⟩ => ⟨S1x128, .f32⟩
  | .local _ .vmem, ⟨3, _⟩ => ⟨S512x128, .bf16⟩
  | .local _ .vmem, ⟨4, _⟩ => ⟨S512x128, .bf16⟩
  | _, _ => ⟨S4096x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c18_i32 : BitVec 32 := 18#32
  let c0_i32 : BitVec 32 := 0#32
  ![arg0.toNat, c18_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference28Ideal.lean ====
abbrev S4096x2560 : Shape := ⟨2, ![4096, 2560]⟩
abbrev S1x128 : Shape := ⟨2, ![1, 128]⟩
abbrev S4096x128 : Shape := ⟨2, ![4096, 128]⟩
abbrev S_ : Shape := ⟨0, ![]⟩
abbrev S4096 : Shape := ⟨1, ![4096]⟩
abbrev S4096x1 : Shape := ⟨2, ![4096, 1]⟩

abbrev nBuf : Space → Nat
  | .hbm => 19
  | .vmem => 0
  | .smem => 0
  | _ => 0

abbrev bufTy : (tb : Table) → Fin (tcTables nBuf tb) → BufTy
  | .hbm, ⟨0, _⟩ => ⟨S4096x2560, .f32⟩
  | .hbm, ⟨1, _⟩ => ⟨S1x128, .f32⟩
  | .hbm, ⟨2, _⟩ => ⟨S4096x128, .f32⟩
  | .hbm, ⟨3, _⟩ => ⟨S4096x128, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x128, .f32⟩
  | .hbm, ⟨15, _⟩ => ⟨S4096x128, .f32⟩
  | .hbm, ⟨16, _⟩ => ⟨S4096x128, .f32⟩
  | .hbm, ⟨17, _⟩ => ⟨S4096x128, .f32⟩
  | .hbm, ⟨18, _⟩ => ⟨S4096x128, .bf16⟩
  | _, _ => ⟨S4096x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel29.lean ====
abbrev S512x1024 : Shape := ⟨2, ![512, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference29Ideal.lean ====
abbrev S512x1024 : Shape := ⟨2, ![512, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S_, .f32⟩
  | .hbm, ⟨5, _⟩ => ⟨S512x1024, .f32⟩
  | .hbm, ⟨6, _⟩ => ⟨S512x1024, .f32⟩
  | .hbm, ⟨7, _⟩ => ⟨S_, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S_, .f32⟩
  | .hbm, ⟨12, _⟩ => ⟨S512x1024, .f32⟩
  | .hbm, ⟨13, _⟩ => ⟨S512x1024, .f32⟩
  | .hbm, ⟨14, _⟩ => ⟨S512x1024, .f32⟩
  | .hbm, ⟨15, _⟩ => ⟨S_, .f32⟩
  | .hbm, ⟨16, _⟩ => ⟨S512x1024, .f32⟩
  | .hbm, ⟨17, _⟩ => ⟨S512x1024, .f32⟩
  | .hbm, ⟨18, _⟩ => ⟨S512x1024, .f32⟩
  | .hbm, ⟨19, _⟩ => ⟨S_, .f32⟩
  | .hbm, ⟨20, _⟩ => ⟨S512x1024, .f32⟩
  | .hbm, ⟨21, _⟩ => ⟨S512x1024, .f32⟩
  | .hbm, ⟨22, _⟩ => ⟨S_, .f32⟩
  | .hbm, ⟨23, _⟩ => ⟨S512x1024, .f32⟩
  | .hbm, ⟨24, _⟩ => ⟨S512x1024, .f32⟩
  | .hbm, ⟨25, _⟩ => ⟨S512x1024, .f32⟩
  | .hbm, ⟨26, _⟩ => ⟨S_, .f32⟩
  | .hbm, ⟨27, _⟩ => ⟨S512x1024, .f32⟩
  | .hbm, ⟨28, _⟩ => ⟨S512x1024, .f32⟩
  | .hbm, ⟨29, _⟩ => ⟨S512x1024, .f32⟩
  | .hbm, ⟨30, _⟩ => ⟨S_, .f32⟩
  | .hbm, ⟨31, _⟩ => ⟨S512x1024, .f32⟩
  | .hbm, ⟨32, _⟩ => ⟨S512x1024, .f32⟩
  | .hbm, ⟨33, _⟩ => ⟨S512x1024, .f32⟩
  | .hbm, ⟨34, _⟩ => ⟨S_, .f32⟩
  | .hbm, ⟨35, _⟩ => ⟨S512x1024, .f32⟩
  | .hbm, ⟨36, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel30.lean ====
abbrev S1024x624 : Shape := ⟨2, ![1024, 624]⟩
abbrev S256x624 : Shape := ⟨2, ![256, 624]⟩

abbrev nBuf : Space → Nat
  | .hbm => 7
  | .vmem => 14
  | .smem => 0
  | _ => 0

abbrev bufTy : (tb : Table) → Fin (tcTables nBuf tb) → BufTy
  | .hbm, ⟨0, _⟩ => ⟨S1024x624, .f32⟩
  | .hbm, ⟨1, _⟩ => ⟨S1024x624, .f32⟩
  | .hbm, ⟨2, _⟩ => ⟨S1024x624, .f32⟩
  | .hbm, ⟨3, _⟩ => ⟨S1024x624, .f32⟩
  | .hbm, ⟨4, _⟩ => ⟨S1024x624, .f32⟩
  | .hbm, ⟨5, _⟩ => ⟨S1024x624, .f32⟩
  | .hbm, ⟨6, _⟩ => ⟨S1024x624, .f32⟩
  | .local _ .vmem, ⟨0, _⟩ => ⟨S256x624, .f32⟩
  | .local _ .vmem, ⟨1, _⟩ => ⟨S256x624, .f32⟩
  | .local _ .vmem, ⟨2, _⟩ => ⟨S256x624, .f32⟩
  | .local _ .vmem, ⟨3, _⟩ => ⟨S256x624, .f32⟩
  | .local _ .vmem, ⟨4, _⟩ => ⟨S256x624, .f32⟩
  | .local _ .vmem, ⟨5, _⟩ => ⟨S256x624, .f32⟩
  | .local _ .vmem, ⟨6, _⟩ => ⟨S256x624, .f32⟩
  | .local _ .vmem, ⟨7, _⟩ => ⟨S256x624, .f32⟩
  | .local _ .vmem, ⟨8, _⟩ => ⟨S256x624, .f32⟩
  | .local _ .vmem, ⟨9, _⟩ => ⟨S256x624, .f32⟩
  | .local _ .vmem, ⟨10, _⟩ => ⟨S256x624, .f32⟩
  | .local _ .vmem, ⟨11, _⟩ => ⟨S256x624, .f32⟩
  | .local _ .vmem, ⟨12, _⟩ => ⟨S256x624, .f32⟩
  | .local _ .vmem, ⟨13, _⟩ => ⟨S256x624, .f32⟩
  | _, _ => ⟨S1024x624, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x624 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x624 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x624 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x624 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x624 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x624 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x624 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference30Ideal.lean ====
abbrev S1024x624 : Shape := ⟨2, ![1024, 624]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x624, .f32⟩
  | .hbm, ⟨1, _⟩ => ⟨S1024x624, .f32⟩
  | .hbm, ⟨2, _⟩ => ⟨S1024x624, .f32⟩
  | .hbm, ⟨3, _⟩ => ⟨S1024x624, .f32⟩
  | .hbm, ⟨4, _⟩ => ⟨S_, .f32⟩
  | .hbm, ⟨5, _⟩ => ⟨S1024x624, .f32⟩
  | .hbm, ⟨6, _⟩ => ⟨S1024x624, .f32⟩
  | .hbm, ⟨7, _⟩ => ⟨S_, .f32⟩
  | .hbm, ⟨8, _⟩ => ⟨S1024x624, .f32⟩
  | .hbm, ⟨9, _⟩ => ⟨S1024x624, .f32⟩
  | .hbm, ⟨10, _⟩ => ⟨S1024x624, .f32⟩
  | .hbm, ⟨11, _⟩ => ⟨S_, .f32⟩
  | .hbm, ⟨12, _⟩ => ⟨S1024x624, .f32⟩
  | .hbm, ⟨13, _⟩ => ⟨S1024x624, .f32⟩
  | .hbm, ⟨14, _⟩ => ⟨S1024x624, .f32⟩
  | .hbm, ⟨15, _⟩ => ⟨S_, .f32⟩
  | .hbm, ⟨16, _⟩ => ⟨S1024x624, .f32⟩
  | .hbm, ⟨17, _⟩ => ⟨S1024x624, .f32⟩
  | .hbm, ⟨18, _⟩ => ⟨S1024x624, .f32⟩
  | .hbm, ⟨19, _⟩ => ⟨S_, .f32⟩
  | .hbm, ⟨20, _⟩ => ⟨S1024x624, .f32⟩
  | .hbm, ⟨21, _⟩ => ⟨S1024x624, .f32⟩
  | .hbm, ⟨22, _⟩ => ⟨S_, .f32⟩
  | .hbm, ⟨23, _⟩ => ⟨S1024x624, .f32⟩
  | .hbm, ⟨24, _⟩ => ⟨S1024x624, .f32⟩
  | .hbm, ⟨25, _⟩ => ⟨S1024x624, .f32⟩
  | .hbm, ⟨26, _⟩ => ⟨S_, .f32⟩
  | .hbm, ⟨27, _⟩ => ⟨S1024x624, .f32⟩
  | .hbm, ⟨28, _⟩ => ⟨S1024x624, .f32⟩
  | .hbm, ⟨29, _⟩ => ⟨S1024x624, .f32⟩
  | .hbm, ⟨30, _⟩ => ⟨S_, .f32⟩
  | .hbm, ⟨31, _⟩ => ⟨S1024x624, .f32⟩
  | .hbm, ⟨32, _⟩ => ⟨S1024x624, .f32⟩
  | .hbm, ⟨33, _⟩ => ⟨S1024x624, .f32⟩
  | .hbm, ⟨34, _⟩ => ⟨S_, .f32⟩
  | .hbm, ⟨35, _⟩ => ⟨S1024x624, .f32⟩
  | .hbm, ⟨36, _⟩ => ⟨S1024x624, .f32⟩
  | _, _ => ⟨S1024x624, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel31.lean ====
abbrev S256x768 : Shape := ⟨2, ![256, 768]⟩

abbrev nBuf : Space → Nat
  | .hbm => 7
  | .vmem => 7
  | .smem => 0
  | _ => 0

abbrev bufTy : (tb : Table) → Fin (tcTables nBuf tb) → BufTy
  | .hbm, ⟨0, _⟩ => ⟨S256x768, .f32⟩
  | .hbm, ⟨1, _⟩ => ⟨S256x768, .f32⟩
  | .hbm, ⟨2, _⟩ => ⟨S256x768, .f32⟩
  | .hbm, ⟨3, _⟩ => ⟨S256x768, .f32⟩
  | .hbm, ⟨4, _⟩ => ⟨S256x768, .f32⟩
  | .hbm, ⟨5, _⟩ => ⟨S256x768, .f32⟩
  | .hbm, ⟨6, _⟩ => ⟨S256x768, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | _, _ => ⟨S256x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference31Ideal.lean ====
abbrev S256x768 : Shape := ⟨2, ![256, 768]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x768, .f32⟩
  | .hbm, ⟨1, _⟩ => ⟨S256x768, .f32⟩
  | .hbm, ⟨2, _⟩ => ⟨S256x768, .f32⟩
  | .hbm, ⟨3, _⟩ => ⟨S256x768, .f32⟩
  | .hbm, ⟨4, _⟩ => ⟨S_, .f32⟩
  | .hbm, ⟨5, _⟩ => ⟨S256x768, .f32⟩
  | .hbm, ⟨6, _⟩ => ⟨S256x768, .f32⟩
  | .hbm, ⟨7, _⟩ => ⟨S_, .f32⟩
  | .hbm, ⟨8, _⟩ => ⟨S256x768, .f32⟩
  | .hbm, ⟨9, _⟩ => ⟨S256x768, .f32⟩
  | .hbm, ⟨10, _⟩ => ⟨S256x768, .f32⟩
  | .hbm, ⟨11, _⟩ => ⟨S_, .f32⟩
  | .hbm, ⟨12, _⟩ => ⟨S256x768, .f32⟩
  | .hbm, ⟨13, _⟩ => ⟨S256x768, .f32⟩
  | .hbm, ⟨14, _⟩ => ⟨S256x768, .f32⟩
  | .hbm, ⟨15, _⟩ => ⟨S_, .f32⟩
  | .hbm, ⟨16, _⟩ => ⟨S256x768, .f32⟩
  | .hbm, ⟨17, _⟩ => ⟨S256x768, .f32⟩
  | .hbm, ⟨18, _⟩ => ⟨S256x768, .f32⟩
  | .hbm, ⟨19, _⟩ => ⟨S_, .f32⟩
  | .hbm, ⟨20, _⟩ => ⟨S256x768, .f32⟩
  | .hbm, ⟨21, _⟩ => ⟨S256x768, .f32⟩
  | .hbm, ⟨22, _⟩ => ⟨S_, .f32⟩
  | .hbm, ⟨23, _⟩ => ⟨S256x768, .f32⟩
  | .hbm, ⟨24, _⟩ => ⟨S256x768, .f32⟩
  | .hbm, ⟨25, _⟩ => ⟨S256x768, .f32⟩
  | .hbm, ⟨26, _⟩ => ⟨S_, .f32⟩
  | .hbm, ⟨27, _⟩ => ⟨S256x768, .f32⟩
  | .hbm, ⟨28, _⟩ => ⟨S256x768, .f32⟩
  | .hbm, ⟨29, _⟩ => ⟨S256x768, .f32⟩
  | .hbm, ⟨30, _⟩ => ⟨S_, .f32⟩
  | .hbm, ⟨31, _⟩ => ⟨S256x768, .f32⟩
  | .hbm, ⟨32, _⟩ => ⟨S256x768, .f32⟩
  | .hbm, ⟨33, _⟩ => ⟨S256x768, .f32⟩
  | .hbm, ⟨34, _⟩ => ⟨S_, .f32⟩
  | .hbm, ⟨35, _⟩ => ⟨S256x768, .f32⟩
  | .hbm, ⟨36, _⟩ => ⟨S256x768, .f32⟩
  | _, _ => ⟨S256x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel32.lean ====
abbrev S128x1024 : Shape := ⟨2, ![128, 1024]⟩

abbrev nBuf : Space → Nat
  | .hbm => 7
  | .vmem => 7
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference32Ideal.lean ====
abbrev S128x1024 : Shape := ⟨2, ![128, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S_, .f32⟩
  | .hbm, ⟨5, _⟩ => ⟨S128x1024, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S128x1024, .f32⟩
  | .hbm, ⟨11, _⟩ => ⟨S_, .f32⟩
  | .hbm, ⟨12, _⟩ => ⟨S128x1024, .f32⟩
  | .hbm, ⟨13, _⟩ => ⟨S128x1024, .f32⟩
  | .hbm, ⟨14, _⟩ => ⟨S128x1024, .f32⟩
  | .hbm, ⟨15, _⟩ => ⟨S_, .f32⟩
  | .hbm, ⟨16, _⟩ => ⟨S128x1024, .f32⟩
  | .hbm, ⟨17, _⟩ => ⟨S128x1024, .f32⟩
  | .hbm, ⟨18, _⟩ => ⟨S128x1024, .f32⟩
  | .hbm, ⟨19, _⟩ => ⟨S_, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S128x1024, .f32⟩
  | .hbm, ⟨26, _⟩ => ⟨S_, .f32⟩
  | .hbm, ⟨27, _⟩ => ⟨S128x1024, .f32⟩
  | .hbm, ⟨28, _⟩ => ⟨S128x1024, .f32⟩
  | .hbm, ⟨29, _⟩ => ⟨S128x1024, .f32⟩
  | .hbm, ⟨30, _⟩ => ⟨S_, .f32⟩
  | .hbm, ⟨31, _⟩ => ⟨S128x1024, .f32⟩
  | .hbm, ⟨32, _⟩ => ⟨S128x1024, .f32⟩
  | .hbm, ⟨33, _⟩ => ⟨S128x1024, .f32⟩
  | .hbm, ⟨34, _⟩ => ⟨S_, .f32⟩
  | .hbm, ⟨35, _⟩ => ⟨S128x1024, .f32⟩
  | .hbm, ⟨36, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel33.lean ====
abbrev S1024x2052 : Shape := ⟨2, ![1024, 2052]⟩
abbrev S256x2052 : Shape := ⟨2, ![256, 2052]⟩

abbrev nBuf : Space → Nat
  | .hbm => 7
  | .vmem => 14
  | .smem => 0
  | _ => 0

abbrev bufTy : (tb : Table) → Fin (tcTables nBuf tb) → BufTy
  | .hbm, ⟨0, _⟩ => ⟨S1024x2052, .f32⟩
  | .hbm, ⟨1, _⟩ => ⟨S1024x2052, .f32⟩
  | .hbm, ⟨2, _⟩ => ⟨S1024x2052, .f32⟩
  | .hbm, ⟨3, _⟩ => ⟨S1024x2052, .f32⟩
  | .hbm, ⟨4, _⟩ => ⟨S1024x2052, .f32⟩
  | .hbm, ⟨5, _⟩ => ⟨S1024x2052, .f32⟩
  | .hbm, ⟨6, _⟩ => ⟨S1024x2052, .f32⟩
  | .local _ .vmem, ⟨0, _⟩ => ⟨S256x2052, .f32⟩
  | .local _ .vmem, ⟨1, _⟩ => ⟨S256x2052, .f32⟩
  | .local _ .vmem, ⟨2, _⟩ => ⟨S256x2052, .f32⟩
  | .local _ .vmem, ⟨3, _⟩ => ⟨S256x2052, .f32⟩
  | .local _ .vmem, ⟨4, _⟩ => ⟨S256x2052, .f32⟩
  | .local _ .vmem, ⟨5, _⟩ => ⟨S256x2052, .f32⟩
  | .local _ .vmem, ⟨6, _⟩ => ⟨S256x2052, .f32⟩
  | .local _ .vmem, ⟨7, _⟩ => ⟨S256x2052, .f32⟩
  | .local _ .vmem, ⟨8, _⟩ => ⟨S256x2052, .f32⟩
  | .local _ .vmem, ⟨9, _⟩ => ⟨S256x2052, .f32⟩
  | .local _ .vmem, ⟨10, _⟩ => ⟨S256x2052, .f32⟩
  | .local _ .vmem, ⟨11, _⟩ => ⟨S256x2052, .f32⟩
  | .local _ .vmem, ⟨12, _⟩ => ⟨S256x2052, .f32⟩
  | .local _ .vmem, ⟨13, _⟩ => ⟨S256x2052, .f32⟩
  | _, _ => ⟨S1024x2052, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2052 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2052 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2052 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2052 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2052 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2052 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2052 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference33Ideal.lean ====
abbrev S1024x2052 : Shape := ⟨2, ![1024, 2052]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x2052, .f32⟩
  | .hbm, ⟨1, _⟩ => ⟨S1024x2052, .f32⟩
  | .hbm, ⟨2, _⟩ => ⟨S1024x2052, .f32⟩
  | .hbm, ⟨3, _⟩ => ⟨S1024x2052, .f32⟩
  | .hbm, ⟨4, _⟩ => ⟨S_, .f32⟩
  | .hbm, ⟨5, _⟩ => ⟨S1024x2052, .f32⟩
  | .hbm, ⟨6, _⟩ => ⟨S1024x2052, .f32⟩
  | .hbm, ⟨7, _⟩ => ⟨S_, .f32⟩
  | .hbm, ⟨8, _⟩ => ⟨S1024x2052, .f32⟩
  | .hbm, ⟨9, _⟩ => ⟨S1024x2052, .f32⟩
  | .hbm, ⟨10, _⟩ => ⟨S1024x2052, .f32⟩
  | .hbm, ⟨11, _⟩ => ⟨S_, .f32⟩
  | .hbm, ⟨12, _⟩ => ⟨S1024x2052, .f32⟩
  | .hbm, ⟨13, _⟩ => ⟨S1024x2052, .f32⟩
  | .hbm, ⟨14, _⟩ => ⟨S1024x2052, .f32⟩
  | .hbm, ⟨15, _⟩ => ⟨S_, .f32⟩
  | .hbm, ⟨16, _⟩ => ⟨S1024x2052, .f32⟩
  | .hbm, ⟨17, _⟩ => ⟨S1024x2052, .f32⟩
  | .hbm, ⟨18, _⟩ => ⟨S1024x2052, .f32⟩
  | .hbm, ⟨19, _⟩ => ⟨S_, .f32⟩
  | .hbm, ⟨20, _⟩ => ⟨S1024x2052, .f32⟩
  | .hbm, ⟨21, _⟩ => ⟨S1024x2052, .f32⟩
  | .hbm, ⟨22, _⟩ => ⟨S_, .f32⟩
  | .hbm, ⟨23, _⟩ => ⟨S1024x2052, .f32⟩
  | .hbm, ⟨24, _⟩ => ⟨S1024x2052, .f32⟩
  | .hbm, ⟨25, _⟩ => ⟨S1024x2052, .f32⟩
  | .hbm, ⟨26, _⟩ => ⟨S_, .f32⟩
  | .hbm, ⟨27, _⟩ => ⟨S1024x2052, .f32⟩
  | .hbm, ⟨28, _⟩ => ⟨S1024x2052, .f32⟩
  | .hbm, ⟨29, _⟩ => ⟨S1024x2052, .f32⟩
  | .hbm, ⟨30, _⟩ => ⟨S_, .f32⟩
  | .hbm, ⟨31, _⟩ => ⟨S1024x2052, .f32⟩
  | .hbm, ⟨32, _⟩ => ⟨S1024x2052, .f32⟩
  | .hbm, ⟨33, _⟩ => ⟨S1024x2052, .f32⟩
  | .hbm, ⟨34, _⟩ => ⟨S_, .f32⟩
  | .hbm, ⟨35, _⟩ => ⟨S1024x2052, .f32⟩
  | .hbm, ⟨36, _⟩ => ⟨S1024x2052, .f32⟩
  | _, _ => ⟨S1024x2052, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel34.lean ====
abbrev S8x768 : Shape := ⟨2, ![8, 768]⟩

abbrev nBuf : Space → Nat
  | .hbm => 7
  | .vmem => 7
  | .smem => 0
  | _ => 0

abbrev bufTy : (tb : Table) → Fin (tcTables nBuf tb) → BufTy
  | .hbm, ⟨0, _⟩ => ⟨S8x768, .f32⟩
  | .hbm, ⟨1, _⟩ => ⟨S8x768, .f32⟩
  | .hbm, ⟨2, _⟩ => ⟨S8x768, .f32⟩
  | .hbm, ⟨3, _⟩ => ⟨S8x768, .f32⟩
  | .hbm, ⟨4, _⟩ => ⟨S8x768, .f32⟩
  | .hbm, ⟨5, _⟩ => ⟨S8x768, .f32⟩
  | .hbm, ⟨6, _⟩ => ⟨S8x768, .f32⟩
  | .local _ .vmem, ⟨0, _⟩ => ⟨S8x768, .f32⟩
  | .local _ .vmem, ⟨1, _⟩ => ⟨S8x768, .f32⟩
  | .local _ .vmem, ⟨2, _⟩ => ⟨S8x768, .f32⟩
  | .local _ .vmem, ⟨3, _⟩ => ⟨S8x768, .f32⟩
  | .local _ .vmem, ⟨4, _⟩ => ⟨S8x768, .f32⟩
  | .local _ .vmem, ⟨5, _⟩ => ⟨S8x768, .f32⟩
  | .local _ .vmem, ⟨6, _⟩ => ⟨S8x768, .f32⟩
  | _, _ => ⟨S8x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference34Ideal.lean ====
abbrev S8x768 : Shape := ⟨2, ![8, 768]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8x768, .f32⟩
  | .hbm, ⟨1, _⟩ => ⟨S8x768, .f32⟩
  | .hbm, ⟨2, _⟩ => ⟨S8x768, .f32⟩
  | .hbm, ⟨3, _⟩ => ⟨S8x768, .f32⟩
  | .hbm, ⟨4, _⟩ => ⟨S_, .f32⟩
  | .hbm, ⟨5, _⟩ => ⟨S8x768, .f32⟩
  | .hbm, ⟨6, _⟩ => ⟨S8x768, .f32⟩
  | .hbm, ⟨7, _⟩ => ⟨S_, .f32⟩
  | .hbm, ⟨8, _⟩ => ⟨S8x768, .f32⟩
  | .hbm, ⟨9, _⟩ => ⟨S8x768, .f32⟩
  | .hbm, ⟨10, _⟩ => ⟨S8x768, .f32⟩
  | .hbm, ⟨11, _⟩ => ⟨S_, .f32⟩
  | .hbm, ⟨12, _⟩ => ⟨S8x768, .f32⟩
  | .hbm, ⟨13, _⟩ => ⟨S8x768, .f32⟩
  | .hbm, ⟨14, _⟩ => ⟨S8x768, .f32⟩
  | .hbm, ⟨15, _⟩ => ⟨S_, .f32⟩
  | .hbm, ⟨16, _⟩ => ⟨S8x768, .f32⟩
  | .hbm, ⟨17, _⟩ => ⟨S8x768, .f32⟩
  | .hbm, ⟨18, _⟩ => ⟨S8x768, .f32⟩
  | .hbm, ⟨19, _⟩ => ⟨S_, .f32⟩
  | .hbm, ⟨20, _⟩ => ⟨S8x768, .f32⟩
  | .hbm, ⟨21, _⟩ => ⟨S8x768, .f32⟩
  | .hbm, ⟨22, _⟩ => ⟨S_, .f32⟩
  | .hbm, ⟨23, _⟩ => ⟨S8x768, .f32⟩
  | .hbm, ⟨24, _⟩ => ⟨S8x768, .f32⟩
  | .hbm, ⟨25, _⟩ => ⟨S8x768, .f32⟩
  | .hbm, ⟨26, _⟩ => ⟨S_, .f32⟩
  | .hbm, ⟨27, _⟩ => ⟨S8x768, .f32⟩
  | .hbm, ⟨28, _⟩ => ⟨S8x768, .f32⟩
  | .hbm, ⟨29, _⟩ => ⟨S8x768, .f32⟩
  | .hbm, ⟨30, _⟩ => ⟨S_, .f32⟩
  | .hbm, ⟨31, _⟩ => ⟨S8x768, .f32⟩
  | .hbm, ⟨32, _⟩ => ⟨S8x768, .f32⟩
  | .hbm, ⟨33, _⟩ => ⟨S8x768, .f32⟩
  | .hbm, ⟨34, _⟩ => ⟨S_, .f32⟩
  | .hbm, ⟨35, _⟩ => ⟨S8x768, .f32⟩
  | .hbm, ⟨36, _⟩ => ⟨S8x768, .f32⟩
  | _, _ => ⟨S8x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.Block.lean ====
module

public import proofs.«01_k».proof.Proof.Gen.KernelIdeal.Skeleton
public import Idealize.ShloMosaic.Lib.Pointwise

/-!
# What the kernel computes on one block of 512 key columns

A tile has 1024 query rows. On a block of 512 keys the kernel forms the probabilities `p` and the score gradients `dz`, and
adds what they give to five accumulators. Each of these values is read here at one index, over the extended reals.
-/

@[expose] public section

set_option maxRecDepth 16384

noncomputable section

namespace Cert.KernelIdeal.Block

open Idealize.ShloMosaic Cert.KernelIdeal Cert.KernelIdeal.Gen

/-- The value of the kernel's mask is `−∞`. -/
theorem mask_eq : (Named.named (F := Ideal) κ "mask" (0xF149F2CA#32 : BitVec 32) : Ideal .f32) = (⊥ : EReal) :=
  IdealRules.named_const.ideal_named_scalar _ _ _ _ rfl

/-- A probability of a block that the mask leaves whole. -/
theorem prob_apply (v6 : FVec Ideal S1024x128 .bf16) (v36 v41 : Vec Ideal S1x1024x1 .f32) (kk : Vec Ideal S512x128 .bf16)
    (cc : Vec Ideal S1x1x512 .f32) (r : Fin 1024) (c : Fin 512) :
    k0_pay2 v6 (k0_pay38 v36) (k0_pay39 v41) kk cc (ix2 r c)
      = Ideal.exp ((∑ x : Fin 128, v6 (ix2 r x) * kk (ix2 c x)) + v41 (ix3 0 r 0) - cc (ix3 0 0 c) - v36 (ix3 0 r 0)) := by
  pointwise [k0_pay2, k0_pay38, k0_pay39]

/-- A probability of a block on the diagonal: the column's number is compared with the row's. -/
theorem probMasked_apply (v6 : FVec Ideal S1024x128 .bf16) (v36 v41 : Vec Ideal S1x1024x1 .f32) (v38 v71 : BitVec 32)
    (v39 v40 : IVec S1024x512 32) (kk : Vec Ideal S512x128 .bf16) (cc : Vec Ideal S1x1x512 .f32) (r : Fin 1024) (c : Fin 512) :
    k0_pay50 v6 (k0_pay38 v36) v38 v39 v40 (k0_pay39 v41) v71 kk cc (ix2 r c)
      = Ideal.exp (Scalar.select (IntOp.cmpi .sle (IntOp.addi (v40 (ix2 r c)) (Scalar.muli v71 512#32))
            (IntOp.addi (v39 (ix2 r c)) v38))
          ((∑ x : Fin 128, v6 (ix2 r x) * kk (ix2 c x)) + v41 (ix3 0 r 0) - cc (ix3 0 0 c)) (⊥ : EReal) - v36 (ix3 0 r 0)) := by
  rw [← mask_eq]
  pointwise [k0_pay50, k0_pay38, k0_pay39]

/-- The score gradient of a block that the mask leaves whole. -/
theorem dz_apply (v6 v30 : FVec Ideal S1024x128 .bf16) (v34 : FVec Ideal S1024 .f32) (v37 v42 : FVec Ideal S1024x1 .f32)
    (kk : Vec Ideal S512x128 .bf16) (cc : Vec Ideal S1x1x512 .f32) (vv : Vec Ideal S512x128 .bf16) (r : Fin 1024) (c : Fin 512) :
    k0_pay3 v6 v30 (k0_pay37 v34) v37 v42 kk cc vv (ix2 r c)
      = k0_pay2 v6 v37 v42 kk cc (ix2 r c) * ((∑ x : Fin 128, v30 (ix2 r x) * vv (ix2 c x)) - v34 (ix1 r)) := by
  pointwise [k0_pay3, k0_pay37]

/-- The score gradient of a block on the diagonal. -/
theorem dzMasked_apply (v6 v30 : FVec Ideal S1024x128 .bf16) (v34 : FVec Ideal S1024 .f32) (v37 v42 : FVec Ideal S1024x1 .f32)
    (v38 v71 : BitVec 32) (v39 v40 : IVec S1024x512 32)
    (kk : Vec Ideal S512x128 .bf16) (cc : Vec Ideal S1x1x512 .f32) (vv : Vec Ideal S512x128 .bf16) (r : Fin 1024) (c : Fin 512) :
    k0_pay51 v6 v30 (k0_pay37 v34) v37 v38 v39 v40 v42 v71 kk cc vv (ix2 r c)
      = k0_pay50 v6 v37 v38 v39 v40 v42 v71 kk cc (ix2 r c) * ((∑ x : Fin 128, v30 (ix2 r x) * vv (ix2 c x)) - v34 (ix1 r)) := by
  pointwise [k0_pay51, k0_pay37]

/-- What a block adds to a row of the gradients of the keys and of the values. -/
theorem colAcc_apply (q : FVec Ideal S1024x128 .bf16) (p : FVec Ideal S1024x512 .f32) (old : Vec Ideal S512x128 .f32)
    (c : Fin 512) (d : Fin 128) :
    k0_pay42 q p old (ix2 c d) = old (ix2 c d) + ∑ r : Fin 1024, p (ix2 r c) * q (ix2 r d) := by
  pointwise [k0_pay42]

/-- What a block takes from the gradient of the columns' bias. -/
theorem ccAcc_apply (dz : FVec Ideal S1024x512 .f32) (old : Vec Ideal S1x1x512 .f32) (c : Fin 512) :
    k0_pay43 dz old (ix3 0 0 c) = old (ix3 0 0 c) - ∑ r : Fin 1024, dz (ix2 r c) := by
  pointwise [k0_pay43]

/-- What a block adds to the gradient of the rows' bias. -/
theorem crAcc_apply (dz : FVec Ideal S1024x512 .f32) (old : FVec Ideal S1024x1 .f32) (r : Fin 1024) :
    k0_pay44 old dz (ix2 r 0) = old (ix2 r 0) + ∑ c : Fin 512, dz (ix2 r c) := by
  pointwise [k0_pay44]

/-- What a block adds to the gradient of the queries. -/
theorem rowAcc_apply (dz : FVec Ideal S1024x512 .bf16) (kk : Vec Ideal S512x128 .bf16) (old : FVec Ideal S1024x128 .f32)
    (r : Fin 1024) (d : Fin 128) :
    k0_pay45 old kk dz (ix2 r d) = old (ix2 r d) + ∑ c : Fin 512, dz (ix2 r c) * kk (ix2 c d) := by
  pointwise [k0_pay45]

/-- The rows of the gradient of the queries before the last store, scaled. -/
theorem rowScaled_apply (v35 : FVec Ideal S1024x1 .f32) (old : FVec Ideal S1024x128 .f32) (kk : Vec Ideal S512x128 .bf16)
    (p g : FVec Ideal S1024x512 .f32) (r : Fin 1024) (d : Fin 128) :
    k0_pay66 v35 old kk p g (ix2 r d)
      = k0_pay45 old kk (k0_pay61 v35 p g) (ix2 r d) * Ideal.ofBits .f32 0x3DB504F3#32 := by
  pointwise [k0_pay66, k0_pay45]

/-- The queries, scaled. -/
theorem qs_apply (q : Vec Ideal S1024x128 .f32) (r : Fin 1024) (d : Fin 128) :
    k0_pay31 q (ix2 r d) = q (ix2 r d) * Ideal.ofBits .f32 0x3DB504F3#32 := by
  pointwise [k0_pay31]

/-- The gate's sigmoid. -/
theorem sg_apply (g : Vec Ideal S1024x128 .f32) (r : Fin 1024) (d : Fin 128) :
    k0_pay32 g (ix2 r d) = Ideal.div 1 (1 + Ideal.exp (0 - g (ix2 r d))) := by
  pointwise [k0_pay32]

/-- The gate's gradient. -/
theorem dgate_apply (g dg o : Vec Ideal S1024x128 .f32) (r : Fin 1024) (d : Fin 128) :
    k0_pay33 g dg o (ix2 r d)
      = dg (ix2 r d) * o (ix2 r d) * (k0_pay32 g (ix2 r d) * (1 + g (ix2 r d) * (1 - k0_pay32 g (ix2 r d)))) := by
  pointwise [k0_pay33]

/-- The gradient of the attention's output. -/
theorem dob_apply (g dg : Vec Ideal S1024x128 .f32) (r : Fin 1024) (d : Fin 128) :
    k0_pay35 g dg (ix2 r d) = dg (ix2 r d) * (g (ix2 r d) * k0_pay32 g (ix2 r d)) := by
  pointwise [k0_pay35, k0_pay34]

/-- The sum that the softmax's gradient subtracts. -/
theorem ds_apply (g dg o : Vec Ideal S1024x128 .f32) (r : Fin 1024) :
    k0_pay36 g dg o (ix1 r) = ∑ d : Fin 128, k0_pay35 g dg (ix2 r d) * o (ix2 r d) := by
  pointwise [k0_pay36, k0_pay35]

/-- The keys and the values are kept as they are, and the accumulators start at zero. -/
theorem kb_apply (k : Vec Ideal S4096x128 .f32) (c : Fin 4096) (d : Fin 128) : k0_pay26 k (ix2 c d) = k (ix2 c d) := by
  pointwise [k0_pay26]

theorem vb_apply (k : Vec Ideal S4096x128 .f32) (c : Fin 4096) (d : Fin 128) : k0_pay27 k (ix2 c d) = k (ix2 c d) := by
  pointwise [k0_pay27]

theorem zero28_apply (c : Fin 4096) (d : Fin 128) : k0_pay28 (F := Ideal) (ix2 c d) = 0 := by
  pointwise [k0_pay28]

theorem zero29_apply (c : Fin 4096) (d : Fin 128) : k0_pay29 (F := Ideal) (ix2 c d) = 0 := by
  pointwise [k0_pay29]

theorem zero30_apply (b : Fin 8) (c : Fin 512) : k0_pay30 (F := Ideal) (ix3 0 b c) = 0 := by
  pointwise [k0_pay30]

theorem zero40_apply (r : Fin 1024) (d : Fin 128) : k0_pay40 (F := Ideal) (ix2 r d) = 0 := by
  pointwise [k0_pay40]

theorem zero41_apply (r : Fin 1024) : k0_pay41 (F := Ideal) (ix2 r 0) = 0 := by
  pointwise [k0_pay41]

theorem dcr_apply (v : FVec Ideal S1024x1 .f32) (r : Fin 1024) : k0_pay1 v (ix3 0 r 0) = v (ix2 r 0) := by
  pointwise [k0_pay1]

end Cert.KernelIdeal.Block
-- ==== Proof.Tile.lean ====
module

public import proofs.«01_k».proof.Proof.Block

/-!
# A tile of 1024 query rows, against all 4096 keys

`Tile` names what one grid point reads. `Tile.p` and `Tile.dz` are the probabilities and the score gradients of its rows, with
the causal mask written out. The kernel visits the keys in blocks of 512: below the diagonal it applies no mask, and there the
mask keeps every column.
-/

@[expose] public section

set_option maxRecDepth 16384

noncomputable section

namespace Cert.KernelIdeal.Block

open Idealize.ShloMosaic Cert.KernelIdeal Cert.KernelIdeal.Gen

/-- What one grid point reads: the scaled queries, the gradient of the attention's output, the sum the softmax's gradient
subtracts, the rows' log-sum, the rows' bias, the keys, the values, the columns' bias, and the tile's number. -/
structure Tile where
  qs : Fin 1024 → Fin 128 → EReal
  dob : Fin 1024 → Fin 128 → EReal
  ds : Fin 1024 → EReal
  lse : Fin 1024 → EReal
  cr : Fin 1024 → EReal
  K : ℕ → Fin 128 → EReal
  V : ℕ → Fin 128 → EReal
  cc : ℕ → EReal
  i : ℕ

namespace Tile

variable (T : Tile)

/-- The score of row `r` against key `c`. -/
def z (r : Fin 1024) (c : ℕ) : EReal := (∑ x : Fin 128, T.qs r x * T.K c x) + T.cr r - T.cc c

/-- The probability of key `c` in row `r`. -/
def p (r : Fin 1024) (c : ℕ) : EReal := Ideal.exp ((if c ≤ 1024 * T.i + r.val then T.z r c else ⊥) - T.lse r)

/-- The gradient of the score. -/
def dz (r : Fin 1024) (c : ℕ) : EReal := T.p r c * ((∑ x : Fin 128, T.dob r x * T.V c x) - T.ds r)

/-- Past the last row of the tile the mask leaves nothing. -/
theorem p_eq_zero {r : Fin 1024} {c : ℕ} (h : 1024 * T.i + r.val < c) : T.p r c = 0 := by
  unfold p
  rw [if_neg (by omega), EReal.bot_sub]
  exact Ideal.exp_bot

theorem dz_eq_zero {r : Fin 1024} {c : ℕ} (h : 1024 * T.i + r.val < c) : T.dz r c = 0 := by
  unfold dz
  rw [T.p_eq_zero h, zero_mul]

end Tile

/-- Row `c` of an array of 4096 rows, by a natural number. -/
def rowAt (f : S4096x128.Idx → EReal) (c : ℕ) (d : Fin 128) : EReal := if h : c < 4096 then f (ix2 ⟨c, h⟩ d) else 0

/-- Entry `c` of the bias of the 4096 columns, which is held as 8 rows of 512. -/
def colAt (f : S1x8x512.Idx → EReal) (c : ℕ) : EReal :=
  if h : c < 4096 then f (ix3 0 ⟨c / 512, by omega⟩ ⟨c % 512, by omega⟩) else 0

/-- The tile of a grid point, from the vectors the kernel holds. -/
def tileOf (i : ℕ) (v6 v30 : FVec Ideal S1024x128 .bf16) (v34 : FVec Ideal S1024 .f32) (v36 v41 : Vec Ideal S1x1024x1 .f32)
    (C : S1x8x512.Idx → EReal) (K V : S4096x128.Idx → EReal) : Tile where
  qs r d := v6 (ix2 r d)
  dob r d := v30 (ix2 r d)
  ds r := v34 (ix1 r)
  lse r := v36 (ix3 0 r 0)
  cr r := v41 (ix3 0 r 0)
  K := rowAt K
  V := rowAt V
  cc := colAt C
  i := i

variable {i : ℕ} {v6 v30 : FVec Ideal S1024x128 .bf16} {v34 : FVec Ideal S1024 .f32} {v36 v41 : Vec Ideal S1x1024x1 .f32}
  {C : S1x8x512.Idx → EReal} {K V : S4096x128.Idx → EReal}
  {kk vv : Vec Ideal S512x128 .bf16} {cc : Vec Ideal S1x1x512 .f32} {o : ℕ}

/-- Below the diagonal the kernel's probabilities are the tile's. -/
theorem prob_tile (hk : ∀ c d, kk (ix2 c d) = rowAt K (o + c.val) d) (hc : ∀ c, cc (ix3 0 0 c) = colAt C (o + c.val))
    (ho : o + 512 ≤ 1024 * i) (r : Fin 1024) (c : Fin 512) :
    k0_pay2 v6 (k0_pay38 v36) (k0_pay39 v41) kk cc (ix2 r c) = (tileOf i v6 v30 v34 v36 v41 C K V).p r (o + c.val) := by
  rw [prob_apply, Tile.p, if_pos (show o + c.val ≤ 1024 * (tileOf i v6 v30 v34 v36 v41 C K V).i + r.val by
    show o + c.val ≤ 1024 * i + r.val
    omega), Tile.z, hc]
  simp only [hk]
  rfl

/-- Below the diagonal the kernel's score gradients are the tile's. -/
theorem dz_tile (hk : ∀ c d, kk (ix2 c d) = rowAt K (o + c.val) d) (hc : ∀ c, cc (ix3 0 0 c) = colAt C (o + c.val))
    (hv : ∀ c d, vv (ix2 c d) = rowAt V (o + c.val) d)
    (ho : o + 512 ≤ 1024 * i) (r : Fin 1024) (c : Fin 512) :
    k0_pay3 v6 v30 (k0_pay37 v34) (k0_pay38 v36) (k0_pay39 v41) kk cc vv (ix2 r c)
      = (tileOf i v6 v30 v34 v36 v41 C K V).dz r (o + c.val) := by
  rw [dz_apply, prob_tile (v30 := v30) (v34 := v34) (V := V) hk hc ho, Tile.dz]
  simp only [hv]
  rfl

/-- The comparison that the kernel makes on words is the one on numbers. -/
theorem select_tile {v38 v71 : BitVec 32} {v39 v40 : IVec S1024x512 32} (h39 : ∀ r c, v39 (ix2 r c) = BitVec.ofNat 32 r.val)
    (h40 : ∀ r c, v40 (ix2 r c) = BitVec.ofNat 32 c.val) (h38 : v38 = BitVec.ofNat 32 (1024 * i))
    (h71 : Scalar.muli v71 512#32 = BitVec.ofNat 32 o) (hi : i < 4) (ho : o + 512 ≤ 4096) (r : Fin 1024) (c : Fin 512) (a b : EReal) :
    Scalar.select (IntOp.cmpi .sle (IntOp.addi (v40 (ix2 r c)) (Scalar.muli v71 512#32)) (IntOp.addi (v39 (ix2 r c)) v38)) a b
      = if o + c.val ≤ 1024 * i + r.val then a else b := by
  rw [h39, h40, h38, h71]
  have hr := r.isLt
  have hcc := c.isLt
  have e1 : IntOp.addi (BitVec.ofNat 32 c.val) (BitVec.ofNat 32 o) = BitVec.ofNat 32 (o + c.val) := by
    show BitVec.ofNat 32 c.val + BitVec.ofNat 32 o = _
    rw [← BitVec.ofNat_add, Nat.add_comm]
  have e2 : IntOp.addi (BitVec.ofNat 32 r.val) (BitVec.ofNat 32 (1024 * i)) = BitVec.ofNat 32 (1024 * i + r.val) := by
    show BitVec.ofNat 32 r.val + BitVec.ofNat 32 (1024 * i) = _
    rw [← BitVec.ofNat_add, Nat.add_comm]
  rw [e1, e2]
  have key : (BitVec.ofNat 32 (o + c.val)).sle (BitVec.ofNat 32 (1024 * i + r.val)) = decide (o + c.val ≤ 1024 * i + r.val) := by
    rw [BitVec.sle_eq_decide, BitVec.toInt_ofNat', BitVec.toInt_ofNat']
    congr 1
    have h1 : Int.bmod ((o + c.val : ℕ) : ℤ) (2 ^ 32) = ((o + c.val : ℕ) : ℤ) := Int.bmod_eq_of_le (by omega) (by omega)
    have h2 : Int.bmod ((1024 * i + r.val : ℕ) : ℤ) (2 ^ 32) = ((1024 * i + r.val : ℕ) : ℤ) := Int.bmod_eq_of_le (by omega) (by omega)
    rw [h1, h2]
    exact propext Int.ofNat_le
  by_cases h : o + c.val ≤ 1024 * i + r.val
  · rw [if_pos h]
    simp [Scalar.select, IntOp.cmpi, key, h]
  · rw [if_neg h]
    simp [Scalar.select, IntOp.cmpi, key, h]

/-- On the diagonal the kernel's probabilities are the tile's. -/
theorem probMasked_tile {v38 v71 : BitVec 32} {v39 v40 : IVec S1024x512 32} (h39 : ∀ r c, v39 (ix2 r c) = BitVec.ofNat 32 r.val)
    (h40 : ∀ r c, v40 (ix2 r c) = BitVec.ofNat 32 c.val) (h38 : v38 = BitVec.ofNat 32 (1024 * i))
    (h71 : Scalar.muli v71 512#32 = BitVec.ofNat 32 o) (hi : i < 4) (ho : o + 512 ≤ 4096)
    (hk : ∀ c d, kk (ix2 c d) = rowAt K (o + c.val) d) (hc : ∀ c, cc (ix3 0 0 c) = colAt C (o + c.val))
    (r : Fin 1024) (c : Fin 512) :
    k0_pay50 v6 (k0_pay38 v36) v38 v39 v40 (k0_pay39 v41) v71 kk cc (ix2 r c)
      = (tileOf i v6 v30 v34 v36 v41 C K V).p r (o + c.val) := by
  rw [probMasked_apply, select_tile h39 h40 h38 h71 hi ho, Tile.p, Tile.z, hc]
  simp only [hk]
  rfl

/-- On the diagonal the kernel's score gradients are the tile's. -/
theorem dzMasked_tile {v38 v71 : BitVec 32} {v39 v40 : IVec S1024x512 32} (h39 : ∀ r c, v39 (ix2 r c) = BitVec.ofNat 32 r.val)
    (h40 : ∀ r c, v40 (ix2 r c) = BitVec.ofNat 32 c.val) (h38 : v38 = BitVec.ofNat 32 (1024 * i))
    (h71 : Scalar.muli v71 512#32 = BitVec.ofNat 32 o) (hi : i < 4) (ho : o + 512 ≤ 4096)
    (hk : ∀ c d, kk (ix2 c d) = rowAt K (o + c.val) d) (hc : ∀ c, cc (ix3 0 0 c) = colAt C (o + c.val))
    (hv : ∀ c d, vv (ix2 c d) = rowAt V (o + c.val) d) (r : Fin 1024) (c : Fin 512) :
    k0_pay51 v6 v30 (k0_pay37 v34) (k0_pay38 v36) v38 v39 v40 (k0_pay39 v41) v71 kk cc vv (ix2 r c)
      = (tileOf i v6 v30 v34 v36 v41 C K V).dz r (o + c.val) := by
  rw [dzMasked_apply, probMasked_tile (v30 := v30) (v34 := v34) (V := V) h39 h40 h38 h71 hi ho hk hc, Tile.dz]
  simp only [hv]
  rfl

end Cert.KernelIdeal.Block
-- ==== Proof.Trip.lean ====
module

public import proofs.«01_k».proof.Proof.Tile
public import proofs.«01_k».proof.Proof.Gen.KernelIdeal.Loops
public import Idealize.ShloMosaic.Lib.WritesUnit

/-!
# The loop over the key blocks below the diagonal

A trip handles two blocks of 512 keys, and the tile of number `i` makes `i` trips. Here: what a trip reads and writes, in the
words of `Block`, and the state after `n` trips.
-/

@[expose] public section

set_option maxRecDepth 16384

noncomputable section

namespace Cert.KernelIdeal.Block

open Idealize.ShloMosaic Idealize.ShloMosaic.TcCoe Idealize.ShloMosaic.Tactic Cert.KernelIdeal Cert.KernelIdeal.Gen

/-- A load of 512 rows from row `o` on, read at an index. -/
theorem readAt_rows {sig : RefSig} {κ : Kind} {sp : Space} {e : EltTy} (v : View sig κ sp S4096x128 e) (f : v.ty.Contents (Elt Ideal))
    {off : Fin 2 → ℕ} (inb : ∀ a, off a + S512x128.size a ≤ S4096x128.size a) {o : ℕ} (h : off = ![o, 0])
    (c : Fin 512) (d : Fin 128) (hb : o + c.val < 4096) :
    View.readAt (Elt Ideal) v (Rect.unit (s := S4096x128) off S512x128.size inb).toLoadRect f (ix2 c d)
      = v.read (Elt Ideal) f (ix2 ⟨o + c.val, hb⟩ d) := by
  subst h
  show v.read (Elt Ideal) f ((Rect.unit (s := S4096x128) ![o, 0] S512x128.size inb).emb (ix2 c d)) = _
  congr 1
  funext a
  refine Fin.ext ?_
  fin_cases a
  · show o + 1 * c.val = o + c.val
    omega
  · show 0 + 1 * d.val = d.val
    omega

/-- A load of one row of 512 columns' bias, read at an index. -/
theorem readAt_cols {sig : RefSig} {κ : Kind} {sp : Space} (v : View sig κ sp S1x8x512 .f32) (f : v.ty.Contents (Elt Ideal))
    {off : Fin 3 → ℕ} (inb : ∀ a, off a + S1x1x512.size a ≤ S1x8x512.size a) {b : ℕ} (h : off = ![0, b, 0])
    (c : Fin 512) (hb : b < 8) :
    View.readAt (Elt Ideal) v (Rect.unit (s := S1x8x512) off S1x1x512.size inb).toLoadRect f (ix3 0 0 c)
      = v.read (Elt Ideal) f (ix3 0 ⟨b, hb⟩ c) := by
  subst h
  show v.read (Elt Ideal) f ((Rect.unit (s := S1x8x512) ![0, b, 0] S1x1x512.size inb).emb (ix3 0 0 c)) = _
  congr 1
  funext a
  refine Fin.ext ?_
  fin_cases a
  · rfl
  · show b + 1 * 0 = b
    omega
  · show 0 + 1 * c.val = c.val
    omega

section Trip

variable (𝒱 : Variants) (c : Dev nD) (bd : Option 𝒱.V) (i : grid0.Coords)
  (arg2 : Memref sig .tc .vmem S1024x128 .f32) (harg2 : arg2.IsWhole)
  (arg3 : Memref sig .tc .vmem S4096x128 .f32) (harg3 : arg3.IsWhole)
  (arg4 : Memref sig .tc .vmem S4096x128 .f32) (harg4 : arg4.IsWhole)
  (arg5 : Memref sig .tc .vmem S1024x128 .f32) (harg5 : arg5.IsWhole)
  (arg6 : Memref sig .tc .vmem S1024x128 .f32) (harg6 : arg6.IsWhole)
  (arg7 : Memref sig .tc .vmem S1024x128 .f32) (harg7 : arg7.IsWhole)
  (arg8 : Memref sig .tc .vmem S1x1024x1 .f32) (harg8 : arg8.IsWhole)
  (arg9 : Memref sig .tc .vmem S1x1024x1 .f32) (harg9 : arg9.IsWhole)
  (arg10 : Memref sig .tc .vmem S1x8x512 .f32) (harg10 : arg10.IsWhole)
  (arg11 : Memref sig .tc .vmem S1024x128 .f32) (harg11 : arg11.IsWhole)
  (arg12 : Memref sig .tc .vmem S4096x128 .f32) (harg12 : arg12.IsWhole)
  (arg13 : Memref sig .tc .vmem S4096x128 .f32) (harg13 : arg13.IsWhole)
  (arg14 : Memref sig .tc .vmem S1024x128 .bf16) (harg14 : arg14.IsWhole)
  (arg15 : Memref sig .tc .vmem S1x8x512 .f32) (harg15 : arg15.IsWhole)
  (arg16 : Memref sig .tc .vmem S1x1024x1 .f32) (harg16 : arg16.IsWhole)
  (arg17 : Memref sig .tc .vmem S4096x128 .bf16) (harg17 : arg17.IsWhole)
  (arg18 : Memref sig .tc .vmem S4096x128 .bf16) (harg18 : arg18.IsWhole)
  (arg1 : BitVec 32) (v6 v30 : FVec Ideal S1024x128 .bf16) (v34 : FVec Ideal S1024 .f32)
  (v36 v41 : Vec Ideal S1x1024x1 .f32)
  (X10 : BufTy.Contents (Elt Ideal) arg10.view.ty) (X17 : BufTy.Contents (Elt Ideal) arg17.view.ty)
  (X18 : BufTy.Contents (Elt Ideal) arg18.view.ty)

  (k : Fin (k0_t1_loop i).trips)

/-- The rows of the keys that block `j` of trip `k` loads; likewise of the values and of the columns' bias. -/
def tripK0 : Vec Ideal S512x128 .bf16 := View.readAt (Elt Ideal) arg17.view
  (Rect.unit (s := S4096x128) (k0_off1 i k 0#32) S512x128.size (k0_off1_inb i k 0)).toLoadRect X17
def tripK1 : Vec Ideal S512x128 .bf16 := View.readAt (Elt Ideal) arg17.view
  (Rect.unit (s := S4096x128) (k0_off1 i k 1#32) S512x128.size (k0_off1_inb i k 1)).toLoadRect X17
def tripV0 : Vec Ideal S512x128 .bf16 := View.readAt (Elt Ideal) arg18.view
  (Rect.unit (s := S4096x128) (k0_off1 i k 0#32) S512x128.size (k0_off1_inb i k 0)).toLoadRect X18
def tripV1 : Vec Ideal S512x128 .bf16 := View.readAt (Elt Ideal) arg18.view
  (Rect.unit (s := S4096x128) (k0_off1 i k 1#32) S512x128.size (k0_off1_inb i k 1)).toLoadRect X18
def tripC0 : Vec Ideal S1x1x512 .f32 := View.readAt (Elt Ideal) arg10.view
  (Rect.unit (s := S1x8x512) (k0_off2 i k 0#32) S1x1x512.size (k0_off2_inb i k 0)).toLoadRect X10
def tripC1 : Vec Ideal S1x1x512 .f32 := View.readAt (Elt Ideal) arg10.view
  (Rect.unit (s := S1x8x512) (k0_off2 i k 1#32) S1x1x512.size (k0_off2_inb i k 1)).toLoadRect X10

/-- The probabilities and the score gradients of the two blocks of a trip. -/
def tripP0 : FVec Ideal S1024x512 .f32 := k0_pay2 v6 (k0_pay38 v36) (k0_pay39 v41) (tripK0 i arg17 X17 k) (tripC0 i arg10 X10 k)
def tripP1 : FVec Ideal S1024x512 .f32 := k0_pay2 v6 (k0_pay38 v36) (k0_pay39 v41) (tripK1 i arg17 X17 k) (tripC1 i arg10 X10 k)
def tripZ0 : FVec Ideal S1024x512 .f32 :=
  k0_pay3 v6 v30 (k0_pay37 v34) (k0_pay38 v36) (k0_pay39 v41) (tripK0 i arg17 X17 k) (tripC0 i arg10 X10 k) (tripV0 i arg18 X18 k)
def tripZ1 : FVec Ideal S1024x512 .f32 :=
  k0_pay3 v6 v30 (k0_pay37 v34) (k0_pay38 v36) (k0_pay39 v41) (tripK1 i arg17 X17 k) (tripC1 i arg10 X10 k) (tripV1 i arg18 X18 k)

/-- What a trip hands on: the gradients of the queries and of the rows' bias, with both blocks added. -/
theorem tripR_eq (acc : FVec Ideal S1024x128 .f32 × FVec Ideal S1024x1 .f32) (f12 : BufTy.Contents (Elt Ideal) arg12.view.ty)
    (f13 : BufTy.Contents (Elt Ideal) arg13.view.ty) (f15 : BufTy.Contents (Elt Ideal) arg15.view.ty) :
    tripR_k0_t1 (F := Ideal) 𝒱 c bd i _ harg2 _ harg3 _ harg4 _ harg5 _ harg6 _ harg7 _ harg8 _ harg9 _ harg10 _ harg11 _ harg12 _ harg13 _ harg14 _ harg15 _ harg16 _ harg17 _ harg18
      arg1 v6 v30 v34 v36 v41 X10 X17 X18 k acc f12 f13 f15
      = (k0_pay45 (k0_pay45 acc.1 (tripK0 i arg17 X17 k)
            (truncf .bf16 (tripZ0 i arg10 arg17 arg18 v6 v30 v34 v36 v41 X10 X17 X18 k) bitsLt_bf16_f32)) (tripK1 i arg17 X17 k)
            (truncf .bf16 (tripZ1 i arg10 arg17 arg18 v6 v30 v34 v36 v41 X10 X17 X18 k) bitsLt_bf16_f32),
          k0_pay44 (k0_pay44 acc.2 (tripZ0 i arg10 arg17 arg18 v6 v30 v34 v36 v41 X10 X17 X18 k))
            (tripZ1 i arg10 arg17 arg18 v6 v30 v34 v36 v41 X10 X17 X18 k)) := by
  unfold tripR_k0_t1 trip_k0_t1
  rfl

/-- What a trip stores: one block of rows after the other in the gradients of the keys and of the values, and one row after the
other in the gradient of the columns' bias. -/
theorem tripL_eq (acc : FVec Ideal S1024x128 .f32 × FVec Ideal S1024x1 .f32) (f12 : BufTy.Contents (Elt Ideal) arg12.view.ty)
    (f13 : BufTy.Contents (Elt Ideal) arg13.view.ty) (f15 : BufTy.Contents (Elt Ideal) arg15.view.ty) :
    tripL_k0_t1 (F := Ideal) 𝒱 c bd i _ harg2 _ harg3 _ harg4 _ harg5 _ harg6 _ harg7 _ harg8 _ harg9 _ harg10 _ harg11 _ harg12 _ harg13 _ harg14 _ harg15 _ harg16 _ harg17 _ harg18
      arg1 v6 v30 v34 v36 v41 X10 X17 X18 k acc f12 f13 f15
      = ([⟨Rect.unit (s := S4096x128) (k0_off1 i k 1#32) S512x128.size (k0_off1_inb i k 1),
            k0_pay42 v6 (tripZ1 i arg10 arg17 arg18 v6 v30 v34 v36 v41 X10 X17 X18 k) (View.readAt (Elt Ideal) arg12.view
              (Rect.unit (s := S4096x128) (k0_off1 i k 1#32) S512x128.size (k0_off1_inb i k 1)).toLoadRect f12)⟩,
          ⟨Rect.unit (s := S4096x128) (k0_off1 i k 0#32) S512x128.size (k0_off1_inb i k 0),
            k0_pay42 v6 (tripZ0 i arg10 arg17 arg18 v6 v30 v34 v36 v41 X10 X17 X18 k) (View.readAt (Elt Ideal) arg12.view
              (Rect.unit (s := S4096x128) (k0_off1 i k 0#32) S512x128.size (k0_off1_inb i k 0)).toLoadRect f12)⟩],
        [⟨Rect.unit (s := S4096x128) (k0_off1 i k 1#32) S512x128.size (k0_off1_inb i k 1),
            k0_pay42 v30 (tripP1 i arg10 arg17 v6 v36 v41 X10 X17 k) (View.readAt (Elt Ideal) arg13.view
              (Rect.unit (s := S4096x128) (k0_off1 i k 1#32) S512x128.size (k0_off1_inb i k 1)).toLoadRect f13)⟩,
          ⟨Rect.unit (s := S4096x128) (k0_off1 i k 0#32) S512x128.size (k0_off1_inb i k 0),
            k0_pay42 v30 (tripP0 i arg10 arg17 v6 v36 v41 X10 X17 k) (View.readAt (Elt Ideal) arg13.view
              (Rect.unit (s := S4096x128) (k0_off1 i k 0#32) S512x128.size (k0_off1_inb i k 0)).toLoadRect f13)⟩],
        [⟨Rect.unit (s := S1x8x512) (k0_off2 i k 1#32) S1x1x512.size (k0_off2_inb i k 1),
            k0_pay43 (tripZ1 i arg10 arg17 arg18 v6 v30 v34 v36 v41 X10 X17 X18 k) (View.readAt (Elt Ideal) arg15.view
              (Rect.unit (s := S1x8x512) (k0_off2 i k 1#32) S1x1x512.size (k0_off2_inb i k 1)).toLoadRect f15)⟩,
          ⟨Rect.unit (s := S1x8x512) (k0_off2 i k 0#32) S1x1x512.size (k0_off2_inb i k 0),
            k0_pay43 (tripZ0 i arg10 arg17 arg18 v6 v30 v34 v36 v41 X10 X17 X18 k) (View.readAt (Elt Ideal) arg15.view
              (Rect.unit (s := S1x8x512) (k0_off2 i k 0#32) S1x1x512.size (k0_off2_inb i k 0)).toLoadRect f15)⟩]) := by
  unfold tripL_k0_t1 trip_k0_t1
  rfl

end Trip

end Cert.KernelIdeal.Block
-- ==== Proof.Loop.lean ====
module

public import proofs.«01_k».proof.Proof.Trip

/-!
# The state of the loop after `n` trips

The columns below `1024 * n` have been visited: the gradients of the queries and of the rows' bias are the sums over these columns,
and the rows below `1024 * n` of the gradients of the keys, of the values and of the columns' bias have received this tile's part.
-/

@[expose] public section

set_option maxRecDepth 16384

noncomputable section

namespace Cert.KernelIdeal.Block

open Idealize.ShloMosaic Idealize.ShloMosaic.TcCoe Idealize.ShloMosaic.Tactic Cert.KernelIdeal Cert.KernelIdeal.Gen

/-- Two stores of 512 rows, the second just below the first, each adding `g` to what it finds. -/
theorem read_rows_two {sig : RefSig} {κ : Kind} {sp : Space} (v : View sig κ sp S4096x128 .f32) (f : v.ty.Contents (Elt Ideal))
    {off0 off1 : Fin 2 → ℕ} (inb0 : ∀ a, off0 a + S512x128.size a ≤ S4096x128.size a)
    (inb1 : ∀ a, off1 a + S512x128.size a ≤ S4096x128.size a) {o : ℕ} (ho : o + 1024 ≤ 4096)
    (h0 : off0 = ![o, 0]) (h1 : off1 = ![o + 512, 0]) (w0 w1 : Vec Ideal S512x128 .f32) (g : ℕ → Fin 128 → EReal)
    (hw0 : ∀ (c : Fin 512) (d : Fin 128), w0 (ix2 c d) = v.read (Elt Ideal) f (ix2 ⟨o + c.val, by omega⟩ d) + g (o + c.val) d)
    (hw1 : ∀ (c : Fin 512) (d : Fin 128), w1 (ix2 c d)
      = v.read (Elt Ideal) f (ix2 ⟨o + 512 + c.val, by omega⟩ d) + g (o + 512 + c.val) d) (a : Fin 4096) (d : Fin 128) :
    v.read (Elt Ideal) (v.writes (Elt Ideal) f [⟨Rect.unit (s := S4096x128) off1 S512x128.size inb1, w1⟩,
        ⟨Rect.unit (s := S4096x128) off0 S512x128.size inb0, w0⟩]) (ix2 a d)
      = v.read (Elt Ideal) f (ix2 a d) + if o ≤ a.val ∧ a.val < o + 1024 then g a.val d else 0 := by
  by_cases c1 : o + 512 ≤ a.val ∧ a.val < o + 512 + 512
  · rw [if_pos (by omega)]
    refine (View.read_writes_cons_unit_of_mem v f inb1 w1 _ (ix2 a d) (ix2 (⟨a.val - (o + 512), by omega⟩ : Fin 512) d) h1 ?_).trans ?_
    · intro x
      fin_cases x
      · show a.val = o + 512 + (a.val - (o + 512))
        omega
      · show d.val = 0 + d.val
        omega
    · have e : (⟨o + 512 + (a.val - (o + 512)), by omega⟩ : Fin 4096) = a := Fin.ext (by show o + 512 + (a.val - (o + 512)) = a.val; omega)
      have e' : o + 512 + (a.val - (o + 512)) = a.val := by omega
      refine (hw1 _ _).trans ?_
      show v.read (Elt Ideal) f (ix2 (⟨o + 512 + (a.val - (o + 512)), by omega⟩ : Fin 4096) d) + g (o + 512 + (a.val - (o + 512))) d = _
      rw [e, e']
  · refine (View.read_writes_cons_unit_of_not_mem v f inb1 w1 _ (ix2 a d) h1 (0 : Fin 2) ?_).trans ?_
    · show a.val < o + 512 ∨ o + 512 + 512 ≤ a.val
      omega
    by_cases c0 : o ≤ a.val ∧ a.val < o + 512
    · rw [if_pos (by omega)]
      refine (View.read_writes_cons_unit_of_mem v f inb0 w0 _ (ix2 a d) (ix2 (⟨a.val - o, by omega⟩ : Fin 512) d) h0 ?_).trans ?_
      · intro x
        fin_cases x
        · show a.val = o + (a.val - o)
          omega
        · show d.val = 0 + d.val
          omega
      · have e : (⟨o + (a.val - o), by omega⟩ : Fin 4096) = a := Fin.ext (by show o + (a.val - o) = a.val; omega)
        have e' : o + (a.val - o) = a.val := by omega
        refine (hw0 _ _).trans ?_
        show v.read (Elt Ideal) f (ix2 (⟨o + (a.val - o), by omega⟩ : Fin 4096) d) + g (o + (a.val - o)) d = _
        rw [e, e']
    · rw [if_neg (by omega), add_zero]
      refine (View.read_writes_cons_unit_of_not_mem v f inb0 w0 _ (ix2 a d) h0 (0 : Fin 2) ?_).trans rfl
      show a.val < o ∨ o + 512 ≤ a.val
      omega

/-- Two stores of one row of the columns' bias, at rows `b` and `b + 1`, each taking `g` from what it finds. -/
theorem read_cols_two {sig : RefSig} {κ : Kind} {sp : Space} (v : View sig κ sp S1x8x512 .f32) (f : v.ty.Contents (Elt Ideal))
    {off0 off1 : Fin 3 → ℕ} (inb0 : ∀ a, off0 a + S1x1x512.size a ≤ S1x8x512.size a)
    (inb1 : ∀ a, off1 a + S1x1x512.size a ≤ S1x8x512.size a) {b : ℕ} (hb : b + 2 ≤ 8)
    (h0 : off0 = ![0, b, 0]) (h1 : off1 = ![0, b + 1, 0]) (w0 w1 : Vec Ideal S1x1x512 .f32) (g : ℕ → EReal)
    (hw0 : ∀ c : Fin 512, w0 (ix3 0 0 c) = v.read (Elt Ideal) f (ix3 0 ⟨b, by omega⟩ c) - g (512 * b + c.val))
    (hw1 : ∀ c : Fin 512, w1 (ix3 0 0 c) = v.read (Elt Ideal) f (ix3 0 ⟨b + 1, by omega⟩ c) - g (512 * (b + 1) + c.val))
    (a : Fin 8) (c : Fin 512) :
    v.read (Elt Ideal) (v.writes (Elt Ideal) f [⟨Rect.unit (s := S1x8x512) off1 S1x1x512.size inb1, w1⟩,
        ⟨Rect.unit (s := S1x8x512) off0 S1x1x512.size inb0, w0⟩]) (ix3 0 a c)
      = v.read (Elt Ideal) f (ix3 0 a c) - if b ≤ a.val ∧ a.val < b + 2 then g (512 * a.val + c.val) else 0 := by
  by_cases c1 : a.val = b + 1
  · rw [if_pos (by omega)]
    refine (View.read_writes_cons_unit_of_mem v f inb1 w1 _ (ix3 0 a c) (ix3 (0 : Fin 1) (0 : Fin 1) c) h1 ?_).trans ?_
    · intro x
      fin_cases x
      · rfl
      · show a.val = b + 1 + 0
        omega
      · show c.val = 0 + c.val
        omega
    · rw [show a = ⟨b + 1, by omega⟩ from Fin.ext c1]
      exact hw1 c
  · refine (View.read_writes_cons_unit_of_not_mem v f inb1 w1 _ (ix3 0 a c) h1 (1 : Fin 3) ?_).trans ?_
    · show a.val < b + 1 ∨ b + 1 + 1 ≤ a.val
      omega
    by_cases c0 : a.val = b
    · rw [if_pos (by omega)]
      refine (View.read_writes_cons_unit_of_mem v f inb0 w0 _ (ix3 0 a c) (ix3 (0 : Fin 1) (0 : Fin 1) c) h0 ?_).trans ?_
      · intro x
        fin_cases x
        · rfl
        · show a.val = b + 0
          omega
        · show c.val = 0 + c.val
          omega
      · rw [show a = ⟨b, by omega⟩ from Fin.ext c0]
        exact hw0 c
    · rw [if_neg (by omega), sub_zero]
      refine (View.read_writes_cons_unit_of_not_mem v f inb0 w0 _ (ix3 0 a c) h0 (1 : Fin 3) ?_).trans rfl
      show a.val < b ∨ b + 1 ≤ a.val
      omega

/-- The tile of number `i` makes `i` trips. -/
theorem trips_eq : ∀ i : grid0.Coords, (k0_t1_loop i).trips = (i 1).val := by decide +kernel

section Trip

variable (𝒱 : Variants) (c : Dev nD) (bd : Option 𝒱.V) (i : grid0.Coords)
  (arg2 : Memref sig .tc .vmem S1024x128 .f32) (harg2 : arg2.IsWhole)
  (arg3 : Memref sig .tc .vmem S4096x128 .f32) (harg3 : arg3.IsWhole)
  (arg4 : Memref sig .tc .vmem S4096x128 .f32) (harg4 : arg4.IsWhole)
  (arg5 : Memref sig .tc .vmem S1024x128 .f32) (harg5 : arg5.IsWhole)
  (arg6 : Memref sig .tc .vmem S1024x128 .f32) (harg6 : arg6.IsWhole)
  (arg7 : Memref sig .tc .vmem S1024x128 .f32) (harg7 : arg7.IsWhole)
  (arg8 : Memref sig .tc .vmem S1x1024x1 .f32) (harg8 : arg8.IsWhole)
  (arg9 : Memref sig .tc .vmem S1x1024x1 .f32) (harg9 : arg9.IsWhole)
  (arg10 : Memref sig .tc .vmem S1x8x512 .f32) (harg10 : arg10.IsWhole)
  (arg11 : Memref sig .tc .vmem S1024x128 .f32) (harg11 : arg11.IsWhole)
  (arg12 : Memref sig .tc .vmem S4096x128 .f32) (harg12 : arg12.IsWhole)
  (arg13 : Memref sig .tc .vmem S4096x128 .f32) (harg13 : arg13.IsWhole)
  (arg14 : Memref sig .tc .vmem S1024x128 .bf16) (harg14 : arg14.IsWhole)
  (arg15 : Memref sig .tc .vmem S1x8x512 .f32) (harg15 : arg15.IsWhole)
  (arg16 : Memref sig .tc .vmem S1x1024x1 .f32) (harg16 : arg16.IsWhole)
  (arg17 : Memref sig .tc .vmem S4096x128 .bf16) (harg17 : arg17.IsWhole)
  (arg18 : Memref sig .tc .vmem S4096x128 .bf16) (harg18 : arg18.IsWhole)
  (arg1 : BitVec 32) (v6 v30 : FVec Ideal S1024x128 .bf16) (v34 : FVec Ideal S1024 .f32)
  (v36 v41 : Vec Ideal S1x1024x1 .f32)
  (X10 : BufTy.Contents (Elt Ideal) arg10.view.ty) (X17 : BufTy.Contents (Elt Ideal) arg17.view.ty)
  (X18 : BufTy.Contents (Elt Ideal) arg18.view.ty)

/-- The tile that the loop works on. -/
abbrev loopTile : Tile := tileOf (i 1).val v6 v30 v34 v36 v41 (arg10.view.read (Elt Ideal) X10)
  (arg17.view.read (Elt Ideal) X17) (arg18.view.read (Elt Ideal) X18)

section One

variable (k : Fin (k0_t1_loop i).trips)

theorem trip_lt : 1024 * k.val + 1024 ≤ 1024 * (i 1).val ∧ (i 1).val < 4 := by
  have h : k.val < (i 1).val := lt_of_lt_of_eq k.isLt (trips_eq i)
  have h4 : (i 1).val < 4 := (i 1).isLt
  omega

theorem tripK0_apply (c : Fin 512) (d : Fin 128) :
    tripK0 i arg17 X17 k (ix2 c d) = rowAt (arg17.view.read (Elt Ideal) X17) (1024 * k.val + c.val) d := by
  have hk := trip_lt i k
  have hc := c.isLt
  rw [rowAt, dif_pos (show 1024 * k.val + c.val < 4096 by omega)]
  exact readAt_rows arg17.view X17 (k0_off1_inb i k 0) ((k0_off1_eq i k 0).trans (by simp)) c d (by omega)

theorem tripV0_apply (c : Fin 512) (d : Fin 128) :
    tripV0 i arg18 X18 k (ix2 c d) = rowAt (arg18.view.read (Elt Ideal) X18) (1024 * k.val + c.val) d := by
  have hk := trip_lt i k
  have hc := c.isLt
  rw [rowAt, dif_pos (show 1024 * k.val + c.val < 4096 by omega)]
  exact readAt_rows arg18.view X18 (k0_off1_inb i k 0) ((k0_off1_eq i k 0).trans (by simp)) c d (by omega)

theorem tripC0_apply (c : Fin 512) :
    tripC0 i arg10 X10 k (ix3 0 0 c) = colAt (arg10.view.read (Elt Ideal) X10) (1024 * k.val + c.val) := by
  have hk := trip_lt i k
  have hc := c.isLt
  rw [colAt, dif_pos (show 1024 * k.val + c.val < 4096 by omega)]
  have e1 : (1024 * k.val + c.val) / 512 = 2 * k.val + 0 := by omega
  have e2 : (1024 * k.val + c.val) % 512 = c.val := by omega
  refine (readAt_cols arg10.view X10 (k0_off2_inb i k 0) (k0_off2_eq i k 0) c (show 2 * k.val + 0 < 8 by omega)).trans ?_
  congr 2
  · exact Fin.ext e1.symm
  · exact Fin.ext e2.symm

theorem tripP0_apply (r : Fin 1024) (c : Fin 512) :
    tripP0 i arg10 arg17 v6 v36 v41 X10 X17 k (ix2 r c) = (loopTile i arg10 arg17 arg18 v6 v30 v34 v36 v41 X10 X17 X18).p r (1024 * k.val + c.val) :=
  prob_tile (tripK0_apply i arg17 X17 k) (tripC0_apply i arg10 X10 k) (by have := trip_lt i k; omega) r c

theorem tripZ0_apply (r : Fin 1024) (c : Fin 512) :
    tripZ0 i arg10 arg17 arg18 v6 v30 v34 v36 v41 X10 X17 X18 k (ix2 r c) = (loopTile i arg10 arg17 arg18 v6 v30 v34 v36 v41 X10 X17 X18).dz r (1024 * k.val + c.val) :=
  dz_tile (tripK0_apply i arg17 X17 k) (tripC0_apply i arg10 X10 k) (tripV0_apply i arg18 X18 k)
    (by have := trip_lt i k; omega) r c

theorem tripK1_apply (c : Fin 512) (d : Fin 128) :
    tripK1 i arg17 X17 k (ix2 c d) = rowAt (arg17.view.read (Elt Ideal) X17) (1024 * k.val + 512 + c.val) d := by
  have hk := trip_lt i k
  have hc := c.isLt
  rw [rowAt, dif_pos (show 1024 * k.val + 512 + c.val < 4096 by omega)]
  exact readAt_rows arg17.view X17 (k0_off1_inb i k 1) ((k0_off1_eq i k 1).trans (by simp)) c d (by omega)

theorem tripV1_apply (c : Fin 512) (d : Fin 128) :
    tripV1 i arg18 X18 k (ix2 c d) = rowAt (arg18.view.read (Elt Ideal) X18) (1024 * k.val + 512 + c.val) d := by
  have hk := trip_lt i k
  have hc := c.isLt
  rw [rowAt, dif_pos (show 1024 * k.val + 512 + c.val < 4096 by omega)]
  exact readAt_rows arg18.view X18 (k0_off1_inb i k 1) ((k0_off1_eq i k 1).trans (by simp)) c d (by omega)

theorem tripC1_apply (c : Fin 512) :
    tripC1 i arg10 X10 k (ix3 0 0 c) = colAt (arg10.view.read (Elt Ideal) X10) (1024 * k.val + 512 + c.val) := by
  have hk := trip_lt i k
  have hc := c.isLt
  rw [colAt, dif_pos (show 1024 * k.val + 512 + c.val < 4096 by omega)]
  have e1 : (1024 * k.val + 512 + c.val) / 512 = 2 * k.val + 1 := by omega
  have e2 : (1024 * k.val + 512 + c.val) % 512 = c.val := by omega
  refine (readAt_cols arg10.view X10 (k0_off2_inb i k 1) (k0_off2_eq i k 1) c (show 2 * k.val + 1 < 8 by omega)).trans ?_
  congr 2
  · exact Fin.ext e1.symm
  · exact Fin.ext e2.symm

theorem tripP1_apply (r : Fin 1024) (c : Fin 512) :
    tripP1 i arg10 arg17 v6 v36 v41 X10 X17 k (ix2 r c) = (loopTile i arg10 arg17 arg18 v6 v30 v34 v36 v41 X10 X17 X18).p r (1024 * k.val + 512 + c.val) :=
  prob_tile (tripK1_apply i arg17 X17 k) (tripC1_apply i arg10 X10 k) (by have := trip_lt i k; omega) r c

theorem tripZ1_apply (r : Fin 1024) (c : Fin 512) :
    tripZ1 i arg10 arg17 arg18 v6 v30 v34 v36 v41 X10 X17 X18 k (ix2 r c) = (loopTile i arg10 arg17 arg18 v6 v30 v34 v36 v41 X10 X17 X18).dz r (1024 * k.val + 512 + c.val) :=
  dz_tile (tripK1_apply i arg17 X17 k) (tripC1_apply i arg10 X10 k) (tripV1_apply i arg18 X18 k)
    (by have := trip_lt i k; omega) r c

end One

/-- The state of the loop before trip `n`, read at the indices of the five arrays. -/
theorem loop_state (G12 : BufTy.Contents (Elt Ideal) arg12.view.ty) (G13 : BufTy.Contents (Elt Ideal) arg13.view.ty)
    (G15 : BufTy.Contents (Elt Ideal) arg15.view.ty) (init : FVec Ideal S1024x128 .f32 × FVec Ideal S1024x1 .f32)
    (h1 : ∀ r d, init.1 (ix2 r d) = 0) (h2 : ∀ r, init.2 (ix2 r 0) = 0) (n : ℕ) (hn : n ≤ (i 1).val) :
    (∀ r d, (st_k0_t1 (F := Ideal) 𝒱 c bd i _ harg2 _ harg3 _ harg4 _ harg5 _ harg6 _ harg7 _ harg8 _ harg9 _ harg10 _ harg11 _ harg12 _ harg13 _ harg14 _ harg15 _ harg16 _ harg17 _ harg18
      arg1 v6 v30 v34 v36 v41 X10 X17 X18 G12 G13 G15 init n).1.1 (ix2 r d) = ∑ x ∈ Finset.range (1024 * n), (loopTile i arg10 arg17 arg18 v6 v30 v34 v36 v41 X10 X17 X18).dz r x * (loopTile i arg10 arg17 arg18 v6 v30 v34 v36 v41 X10 X17 X18).K x d) ∧
    (∀ r, (st_k0_t1 (F := Ideal) 𝒱 c bd i _ harg2 _ harg3 _ harg4 _ harg5 _ harg6 _ harg7 _ harg8 _ harg9 _ harg10 _ harg11 _ harg12 _ harg13 _ harg14 _ harg15 _ harg16 _ harg17 _ harg18
      arg1 v6 v30 v34 v36 v41 X10 X17 X18 G12 G13 G15 init n).1.2 (ix2 r 0) = ∑ x ∈ Finset.range (1024 * n), (loopTile i arg10 arg17 arg18 v6 v30 v34 v36 v41 X10 X17 X18).dz r x) ∧
    (∀ a d, arg12.view.read (Elt Ideal) (arg12.view.writes (Elt Ideal) G12 (st_k0_t1 (F := Ideal) 𝒱 c bd i _ harg2 _ harg3 _ harg4 _ harg5 _ harg6 _ harg7 _ harg8 _ harg9 _ harg10 _ harg11 _ harg12 _ harg13 _ harg14 _ harg15 _ harg16 _ harg17 _ harg18
      arg1 v6 v30 v34 v36 v41 X10 X17 X18 G12 G13 G15 init n).2.1) (ix2 a d)
      = arg12.view.read (Elt Ideal) G12 (ix2 a d) + if a.val < 1024 * n then ∑ r, (loopTile i arg10 arg17 arg18 v6 v30 v34 v36 v41 X10 X17 X18).dz r a.val * (loopTile i arg10 arg17 arg18 v6 v30 v34 v36 v41 X10 X17 X18).qs r d else 0) ∧
    (∀ a d, arg13.view.read (Elt Ideal) (arg13.view.writes (Elt Ideal) G13 (st_k0_t1 (F := Ideal) 𝒱 c bd i _ harg2 _ harg3 _ harg4 _ harg5 _ harg6 _ harg7 _ harg8 _ harg9 _ harg10 _ harg11 _ harg12 _ harg13 _ harg14 _ harg15 _ harg16 _ harg17 _ harg18
      arg1 v6 v30 v34 v36 v41 X10 X17 X18 G12 G13 G15 init n).2.2.1) (ix2 a d)
      = arg13.view.read (Elt Ideal) G13 (ix2 a d) + if a.val < 1024 * n then ∑ r, (loopTile i arg10 arg17 arg18 v6 v30 v34 v36 v41 X10 X17 X18).p r a.val * (loopTile i arg10 arg17 arg18 v6 v30 v34 v36 v41 X10 X17 X18).dob r d else 0) ∧
    (∀ a b, arg15.view.read (Elt Ideal) (arg15.view.writes (Elt Ideal) G15 (st_k0_t1 (F := Ideal) 𝒱 c bd i _ harg2 _ harg3 _ harg4 _ harg5 _ harg6 _ harg7 _ harg8 _ harg9 _ harg10 _ harg11 _ harg12 _ harg13 _ harg14 _ harg15 _ harg16 _ harg17 _ harg18
      arg1 v6 v30 v34 v36 v41 X10 X17 X18 G12 G13 G15 init n).2.2.2) (ix3 0 a b)
      = arg15.view.read (Elt Ideal) G15 (ix3 0 a b) - if a.val < 2 * n then ∑ r, (loopTile i arg10 arg17 arg18 v6 v30 v34 v36 v41 X10 X17 X18).dz r (512 * a.val + b.val) else 0) := by
  induction n with
  | zero =>
    refine ⟨fun r d => ?_, fun r => ?_, fun a d => ?_, fun a d => ?_, fun a b => ?_⟩
    · exact (h1 r d).trans (by simp)
    · exact (h2 r).trans (by simp)
    · rw [if_neg (by omega), add_zero]; rfl
    · rw [if_neg (by omega), add_zero]; rfl
    · rw [if_neg (by omega), sub_zero]; rfl
  | succ n ih =>
    obtain ⟨i1, i2, i3, i4, i5⟩ := ih (by omega)
    have hlt : n < (k0_t1_loop i).trips := by rw [trips_eq]; omega
    have h4 : (i 1).val < 4 := (i 1).isLt
    have hst := st_k0_t1_succ (F := Ideal) 𝒱 c bd i _ harg2 _ harg3 _ harg4 _ harg5 _ harg6 _ harg7 _ harg8 _ harg9 _ harg10 _ harg11 _ harg12 _ harg13 _ harg14 _ harg15 _ harg16 _ harg17 _ harg18
      arg1 v6 v30 v34 v36 v41 X10 X17 X18 G12 G13 G15 init ⟨n, hlt⟩
    generalize hS : st_k0_t1 (F := Ideal) 𝒱 c bd i _ harg2 _ harg3 _ harg4 _ harg5 _ harg6 _ harg7 _ harg8 _ harg9 _ harg10 _ harg11 _ harg12 _ harg13 _ harg14 _ harg15 _ harg16 _ harg17 _ harg18
      arg1 v6 v30 v34 v36 v41 X10 X17 X18 G12 G13 G15 init n = S at i1 i2 i3 i4 i5 hst
    rw [show (st_k0_t1 (F := Ideal) 𝒱 c bd i _ harg2 _ harg3 _ harg4 _ harg5 _ harg6 _ harg7 _ harg8 _ harg9 _ harg10 _ harg11 _ harg12 _ harg13 _ harg14 _ harg15 _ harg16 _ harg17 _ harg18
      arg1 v6 v30 v34 v36 v41 X10 X17 X18 G12 G13 G15 init (n + 1)) = _ from hst, tripR_eq, tripL_eq]
    clear hst
    dsimp only
    have split : ∀ f : ℕ → EReal, ∑ x ∈ Finset.range (1024 * (n + 1)), f x
        = ((∑ x ∈ Finset.range (1024 * n), f x) + ∑ x : Fin 512, f (1024 * n + x.val)) + ∑ x : Fin 512, f (1024 * n + 512 + x.val) := by
      intro f
      rw [show 1024 * (n + 1) = 1024 * n + 512 + 512 by ring, Finset.sum_range_add, Finset.sum_range_add,
        Finset.sum_range (fun x => f (1024 * n + x)), Finset.sum_range (fun x => f (1024 * n + 512 + x))]
    refine ⟨fun r d => ?_, fun r => ?_, fun a d => ?_, fun a d => ?_, fun a b => ?_⟩
    · rw [rowAcc_apply, rowAcc_apply, split, i1]
      simp only [truncf, tripK0_apply, tripK1_apply]
      refine congrArg₂ (· + ·) (congrArg₂ (· + ·) rfl (Finset.sum_congr rfl fun x _ => ?_)) (Finset.sum_congr rfl fun x _ => ?_)
      · exact congrArg (· * _) (tripZ0_apply i arg10 arg17 arg18 v6 v30 v34 v36 v41 X10 X17 X18 ⟨n, hlt⟩ r x)
      · exact congrArg (· * _) (tripZ1_apply i arg10 arg17 arg18 v6 v30 v34 v36 v41 X10 X17 X18 ⟨n, hlt⟩ r x)
    · rw [crAcc_apply, crAcc_apply, split, i2]
      refine congrArg₂ (· + ·) (congrArg₂ (· + ·) rfl (Finset.sum_congr rfl fun x _ => ?_)) (Finset.sum_congr rfl fun x _ => ?_)
      · exact tripZ0_apply i arg10 arg17 arg18 v6 v30 v34 v36 v41 X10 X17 X18 ⟨n, hlt⟩ r x
      · exact tripZ1_apply i arg10 arg17 arg18 v6 v30 v34 v36 v41 X10 X17 X18 ⟨n, hlt⟩ r x
    · rw [View.writes_append]
      refine (read_rows_two arg12.view _ (k0_off1_inb i ⟨n, hlt⟩ 0) (k0_off1_inb i ⟨n, hlt⟩ 1) (o := 1024 * n) (by omega)
        ((k0_off1_eq i ⟨n, hlt⟩ 0).trans (by simp)) ((k0_off1_eq i ⟨n, hlt⟩ 1).trans (by simp)) _ _
        (fun a d => ∑ r, (loopTile i arg10 arg17 arg18 v6 v30 v34 v36 v41 X10 X17 X18).dz r a * (loopTile i arg10 arg17 arg18 v6 v30 v34 v36 v41 X10 X17 X18).qs r d) (fun c d => ?_) (fun c d => ?_) a d).trans ?_
      · rw [colAcc_apply]
        refine congrArg₂ (· + ·) (readAt_rows arg12.view _ _ ((k0_off1_eq i ⟨n, hlt⟩ 0).trans (by simp)) c d _)
          (Finset.sum_congr rfl fun r _ => congrArg (· * _) (tripZ0_apply i arg10 arg17 arg18 v6 v30 v34 v36 v41 X10 X17 X18 ⟨n, hlt⟩ r c))
      · rw [colAcc_apply]
        refine congrArg₂ (· + ·) (readAt_rows arg12.view _ _ ((k0_off1_eq i ⟨n, hlt⟩ 1).trans (by simp)) c d _)
          (Finset.sum_congr rfl fun r _ => congrArg (· * _) (tripZ1_apply i arg10 arg17 arg18 v6 v30 v34 v36 v41 X10 X17 X18 ⟨n, hlt⟩ r c))
      · rw [i3]
        by_cases ha : a.val < 1024 * n
        · rw [if_pos ha, if_neg (by omega), if_pos (by omega), add_zero]
        · rw [if_neg ha, add_zero]
          by_cases hb : a.val < 1024 * (n + 1)
          · rw [if_pos (by omega), if_pos hb]
          · rw [if_neg (by omega), if_neg hb]
    · rw [View.writes_append]
      refine (read_rows_two arg13.view _ (k0_off1_inb i ⟨n, hlt⟩ 0) (k0_off1_inb i ⟨n, hlt⟩ 1) (o := 1024 * n) (by omega)
        ((k0_off1_eq i ⟨n, hlt⟩ 0).trans (by simp)) ((k0_off1_eq i ⟨n, hlt⟩ 1).trans (by simp)) _ _
        (fun a d => ∑ r, (loopTile i arg10 arg17 arg18 v6 v30 v34 v36 v41 X10 X17 X18).p r a * (loopTile i arg10 arg17 arg18 v6 v30 v34 v36 v41 X10 X17 X18).dob r d) (fun c d => ?_) (fun c d => ?_) a d).trans ?_
      · rw [colAcc_apply]
        refine congrArg₂ (· + ·) (readAt_rows arg13.view _ _ ((k0_off1_eq i ⟨n, hlt⟩ 0).trans (by simp)) c d _)
          (Finset.sum_congr rfl fun r _ => congrArg (· * _)
            (tripP0_apply i arg10 arg17 arg18 v6 v30 v34 v36 v41 X10 X17 X18 ⟨n, hlt⟩ r c))
      · rw [colAcc_apply]
        refine congrArg₂ (· + ·) (readAt_rows arg13.view _ _ ((k0_off1_eq i ⟨n, hlt⟩ 1).trans (by simp)) c d _)
          (Finset.sum_congr rfl fun r _ => congrArg (· * _)
            (tripP1_apply i arg10 arg17 arg18 v6 v30 v34 v36 v41 X10 X17 X18 ⟨n, hlt⟩ r c))
      · rw [i4]
        by_cases ha : a.val < 1024 * n
        · rw [if_pos ha, if_neg (by omega), if_pos (by omega), add_zero]
        · rw [if_neg ha, add_zero]
          by_cases hb : a.val < 1024 * (n + 1)
          · rw [if_pos (by omega), if_pos hb]
          · rw [if_neg (by omega), if_neg hb]
    · rw [View.writes_append]
      refine (read_cols_two arg15.view _ (k0_off2_inb i ⟨n, hlt⟩ 0) (k0_off2_inb i ⟨n, hlt⟩ 1) (b := 2 * n) (by omega)
        (k0_off2_eq i ⟨n, hlt⟩ 0) (k0_off2_eq i ⟨n, hlt⟩ 1) _ _
        (fun a => ∑ r, (loopTile i arg10 arg17 arg18 v6 v30 v34 v36 v41 X10 X17 X18).dz r a) (fun c => ?_) (fun c => ?_) a b).trans ?_
      · rw [ccAcc_apply]
        refine congrArg₂ (· - ·) (readAt_cols arg15.view _ _ (k0_off2_eq i ⟨n, hlt⟩ 0) c _)
          (Finset.sum_congr rfl fun r _ => (tripZ0_apply i arg10 arg17 arg18 v6 v30 v34 v36 v41 X10 X17 X18 ⟨n, hlt⟩ r c).trans ?_)
        exact congrArg ((loopTile i arg10 arg17 arg18 v6 v30 v34 v36 v41 X10 X17 X18).dz r) (by show 1024 * n + c.val = 512 * (2 * n) + c.val; omega)
      · rw [ccAcc_apply]
        refine congrArg₂ (· - ·) (readAt_cols arg15.view _ _ (k0_off2_eq i ⟨n, hlt⟩ 1) c _)
          (Finset.sum_congr rfl fun r _ => (tripZ1_apply i arg10 arg17 arg18 v6 v30 v34 v36 v41 X10 X17 X18 ⟨n, hlt⟩ r c).trans ?_)
        exact congrArg ((loopTile i arg10 arg17 arg18 v6 v30 v34 v36 v41 X10 X17 X18).dz r) (by show 1024 * n + 512 + c.val = 512 * (2 * n + 1) + c.val; omega)
      · rw [i5]
        by_cases ha : a.val < 2 * n
        · rw [if_pos ha, if_neg (by omega), if_pos (by omega), sub_zero]
        · rw [if_neg ha, sub_zero]
          by_cases hb : a.val < 2 * (n + 1)
          · rw [if_pos (by omega), if_pos hb]
          · rw [if_neg (by omega), if_neg hb]

end Trip

end Cert.KernelIdeal.Block
-- ==== Proof.Diag.lean ====
module

public import proofs.«01_k».proof.Proof.Loop

/-!
# The two blocks on the diagonal

After the loop a tile handles the 1024 columns of its own number in two blocks of 512, with the mask. Here: what these two blocks
compute, and what the arrays hold after them.
-/

@[expose] public section

set_option maxRecDepth 16384

noncomputable section

namespace Cert.KernelIdeal.Block

open Idealize.ShloMosaic Idealize.ShloMosaic.TcCoe Idealize.ShloMosaic.Tactic Cert.KernelIdeal Cert.KernelIdeal.Gen

section Store

variable (i : grid0.Coords)

theorem coord_lt : (i 1).val < 4 := (i 1).isLt

theorem off5_zero : k0_off5 i 0#32 = ![1024 * (i 1).val, 0] := (k0_off5_eq i 0).trans (by simp)

theorem off5_one : k0_off5 i 1#32 = ![1024 * (i 1).val + 512, 0] := (k0_off5_eq i 1).trans (by simp)

theorem off6_zero : k0_off6 i 0#32 = ![0, 2 * (i 1).val, 0] := (k0_off6_eq i 0).trans (by simp)

theorem off6_one : k0_off6 i 1#32 = ![0, 2 * (i 1).val + 1, 0] := (k0_off6_eq i 1).trans (by simp)

/-- The two blocks' stores of an array of 4096 rows: each adds its part to the rows it finds. -/
theorem diag_rows {sig : RefSig} {κ : Kind} {sp : Space} (v : View sig κ sp S4096x128 .f32) (f : v.ty.Contents (Elt Ideal))
    (q : FVec Ideal S1024x128 .bf16) (P0 P1 : FVec Ideal S1024x512 .f32) (g : Fin 1024 → ℕ → EReal)
    (h0 : ∀ r c, P0 (ix2 r c) = g r (1024 * (i 1).val + c.val))
    (h1 : ∀ r c, P1 (ix2 r c) = g r (1024 * (i 1).val + 512 + c.val)) (a : Fin 4096) (d : Fin 128) :
    v.read (Elt Ideal) (v.writes (Elt Ideal) f
        [⟨Rect.unit (s := S4096x128) (k0_off5 i 1#32) S512x128.size (k0_off5_inb i 1),
          k0_pay42 q P1 (View.readAt (Elt Ideal) v (Rect.unit (s := S4096x128) (k0_off5 i 1#32) S512x128.size (k0_off5_inb i 1)).toLoadRect
            (v.writes (Elt Ideal) f [⟨Rect.unit (s := S4096x128) (k0_off5 i 0#32) S512x128.size (k0_off5_inb i 0),
              k0_pay42 q P0 (View.readAt (Elt Ideal) v (Rect.unit (s := S4096x128) (k0_off5 i 0#32) S512x128.size (k0_off5_inb i 0)).toLoadRect f)⟩]))⟩,
         ⟨Rect.unit (s := S4096x128) (k0_off5 i 0#32) S512x128.size (k0_off5_inb i 0),
          k0_pay42 q P0 (View.readAt (Elt Ideal) v (Rect.unit (s := S4096x128) (k0_off5 i 0#32) S512x128.size (k0_off5_inb i 0)).toLoadRect f)⟩])
        (ix2 a d)
      = v.read (Elt Ideal) f (ix2 a d)
        + if 1024 * (i 1).val ≤ a.val ∧ a.val < 1024 * (i 1).val + 1024 then ∑ r, g r a.val * q (ix2 r d) else 0 := by
  have h4 := coord_lt i
  refine read_rows_two v f (k0_off5_inb i 0) (k0_off5_inb i 1) (o := 1024 * (i 1).val) (by omega) (off5_zero i) (off5_one i) _ _
    (fun a d => ∑ r, g r a * q (ix2 r d)) (fun c d => ?_) (fun c d => ?_) a d
  · rw [colAcc_apply]
    refine congrArg₂ (· + ·) (readAt_rows v f (k0_off5_inb i 0) (off5_zero i) c d _) (Finset.sum_congr rfl fun r _ => ?_)
    exact congrArg (· * _) (h0 r c)
  · rw [colAcc_apply]
    refine congrArg₂ (· + ·) ((readAt_rows v _ (k0_off5_inb i 1) (off5_one i) c d (by omega)).trans ?_)
      (Finset.sum_congr rfl fun r _ => ?_)
    · refine (View.read_writes_cons_unit_of_not_mem v f (k0_off5_inb i 0) _ _ _ (off5_zero i) (0 : Fin 2) ?_).trans rfl
      show 1024 * (i 1).val + 512 + c.val < 1024 * (i 1).val ∨ 1024 * (i 1).val + 512 ≤ 1024 * (i 1).val + 512 + c.val
      omega
    · exact congrArg (· * _) (h1 r c)

/-- The two blocks' stores of the columns' bias: each takes its part from the row it finds. -/
theorem diag_cols {sig : RefSig} {κ : Kind} {sp : Space} (v : View sig κ sp S1x8x512 .f32) (f : v.ty.Contents (Elt Ideal))
    (P0 P1 : FVec Ideal S1024x512 .f32) (g : Fin 1024 → ℕ → EReal)
    (h0 : ∀ r c, P0 (ix2 r c) = g r (1024 * (i 1).val + c.val))
    (h1 : ∀ r c, P1 (ix2 r c) = g r (1024 * (i 1).val + 512 + c.val)) (a : Fin 8) (b : Fin 512) :
    v.read (Elt Ideal) (v.writes (Elt Ideal) f
        [⟨Rect.unit (s := S1x8x512) (k0_off6 i 1#32) S1x1x512.size (k0_off6_inb i 1),
          k0_pay43 P1 (View.readAt (Elt Ideal) v (Rect.unit (s := S1x8x512) (k0_off6 i 1#32) S1x1x512.size (k0_off6_inb i 1)).toLoadRect
            (v.writes (Elt Ideal) f [⟨Rect.unit (s := S1x8x512) (k0_off6 i 0#32) S1x1x512.size (k0_off6_inb i 0),
              k0_pay43 P0 (View.readAt (Elt Ideal) v (Rect.unit (s := S1x8x512) (k0_off6 i 0#32) S1x1x512.size (k0_off6_inb i 0)).toLoadRect f)⟩]))⟩,
         ⟨Rect.unit (s := S1x8x512) (k0_off6 i 0#32) S1x1x512.size (k0_off6_inb i 0),
          k0_pay43 P0 (View.readAt (Elt Ideal) v (Rect.unit (s := S1x8x512) (k0_off6 i 0#32) S1x1x512.size (k0_off6_inb i 0)).toLoadRect f)⟩])
        (ix3 0 a b)
      = v.read (Elt Ideal) f (ix3 0 a b)
        - if 2 * (i 1).val ≤ a.val ∧ a.val < 2 * (i 1).val + 2 then ∑ r, g r (512 * a.val + b.val) else 0 := by
  have h4 := coord_lt i
  refine read_cols_two v f (k0_off6_inb i 0) (k0_off6_inb i 1) (b := 2 * (i 1).val) (by omega) (off6_zero i) (off6_one i) _ _
    (fun a => ∑ r, g r a) (fun c => ?_) (fun c => ?_) a b
  · rw [ccAcc_apply]
    refine congrArg₂ (· - ·) (readAt_cols v f (k0_off6_inb i 0) (off6_zero i) c (by omega)) (Finset.sum_congr rfl fun r _ => ?_)
    exact (h0 r c).trans (congrArg (g r) (by omega))
  · rw [ccAcc_apply]
    refine congrArg₂ (· - ·) ((readAt_cols v _ (k0_off6_inb i 1) (off6_one i) c (by omega)).trans ?_)
      (Finset.sum_congr rfl fun r _ => ?_)
    · refine (View.read_writes_cons_unit_of_not_mem v f (k0_off6_inb i 0) _ _ _ (off6_zero i) (1 : Fin 3) ?_).trans rfl
      show 2 * (i 1).val + 1 < 2 * (i 1).val ∨ 2 * (i 1).val + 1 ≤ 2 * (i 1).val + 1
      omega
    · exact (h1 r c).trans (congrArg (g r) (by omega))

end Store

section Diag

variable (i : grid0.Coords)
  (arg10 : Memref sig .tc .vmem S1x8x512 .f32) (arg17 : Memref sig .tc .vmem S4096x128 .bf16)
  (arg18 : Memref sig .tc .vmem S4096x128 .bf16)
  (v6 v30 : FVec Ideal S1024x128 .bf16) (v34 : FVec Ideal S1024 .f32)
  (v36 v41 : Vec Ideal S1x1024x1 .f32)
  (X10 : BufTy.Contents (Elt Ideal) arg10.view.ty) (X17 : BufTy.Contents (Elt Ideal) arg17.view.ty)
  (X18 : BufTy.Contents (Elt Ideal) arg18.view.ty)

theorem iota0_apply (r : Fin 1024) (c : Fin 512) :
    iota Kind.tc S1024x512 32 [0] iota_S1024x512_d0_w32 (ix2 r c) = BitVec.ofNat 32 r.val := by
  pointwise []

theorem iota1_apply (r : Fin 1024) (c : Fin 512) :
    iota Kind.tc S1024x512 32 [1] iota_S1024x512_d1_w32 (ix2 r c) = BitVec.ofNat 32 c.val := by
  pointwise []

theorem word_row : Scalar.muli (BitVec.ofNat 32 (i 1).val) 1024#32 = BitVec.ofNat 32 (1024 * (i 1).val) := by
  revert i
  decide +kernel

theorem word_col0 : Scalar.muli (Scalar.addi (Scalar.muli (BitVec.ofNat 32 (i 1).val) 2#32) 0#32) 512#32
    = BitVec.ofNat 32 (1024 * (i 1).val) := by
  revert i
  decide +kernel

theorem word_col1 : Scalar.muli (Scalar.addi (Scalar.muli (BitVec.ofNat 32 (i 1).val) 2#32) 1#32) 512#32
    = BitVec.ofNat 32 (1024 * (i 1).val + 512) := by
  revert i
  decide +kernel

/-- Block 0 on the diagonal: its keys, values, columns' bias, probabilities and score gradients. -/
def diagK0 : Vec Ideal S512x128 .bf16 :=
  View.readAt (Elt Ideal) arg17.view (Rect.unit (s := S4096x128) (k0_off5 i 0#32) S512x128.size (k0_off5_inb i 0)).toLoadRect X17

def diagV0 : Vec Ideal S512x128 .bf16 :=
  View.readAt (Elt Ideal) arg18.view (Rect.unit (s := S4096x128) (k0_off5 i 0#32) S512x128.size (k0_off5_inb i 0)).toLoadRect X18

def diagC0 : Vec Ideal S1x1x512 .f32 :=
  View.readAt (Elt Ideal) arg10.view (Rect.unit (s := S1x8x512) (k0_off6 i 0#32) S1x1x512.size (k0_off6_inb i 0)).toLoadRect X10

def diagP0 : FVec Ideal S1024x512 .f32 :=
  k0_pay50 v6 (k0_pay38 v36) (Scalar.muli (BitVec.ofNat 32 (i 1).val) 1024#32) (iota Kind.tc S1024x512 32 [0] iota_S1024x512_d0_w32)
    (iota Kind.tc S1024x512 32 [1] iota_S1024x512_d1_w32) (k0_pay39 v41)
    (Scalar.addi (Scalar.muli (BitVec.ofNat 32 (i 1).val) 2#32) 0#32) (diagK0 i arg17 X17) (diagC0 i arg10 X10)

def diagZ0 : FVec Ideal S1024x512 .f32 :=
  k0_pay51 v6 v30 (k0_pay37 v34) (k0_pay38 v36) (Scalar.muli (BitVec.ofNat 32 (i 1).val) 1024#32)
    (iota Kind.tc S1024x512 32 [0] iota_S1024x512_d0_w32)
    (iota Kind.tc S1024x512 32 [1] iota_S1024x512_d1_w32) (k0_pay39 v41)
    (Scalar.addi (Scalar.muli (BitVec.ofNat 32 (i 1).val) 2#32) 0#32) (diagK0 i arg17 X17) (diagC0 i arg10 X10) (diagV0 i arg18 X18)

theorem diagK0_apply (c : Fin 512) (d : Fin 128) :
    diagK0 i arg17 X17 (ix2 c d) = rowAt (arg17.view.read (Elt Ideal) X17) (1024 * (i 1).val + c.val) d := by
  have h4 := coord_lt i
  have hc := c.isLt
  rw [rowAt, dif_pos (show 1024 * (i 1).val + c.val < 4096 by omega)]
  exact readAt_rows arg17.view X17 (k0_off5_inb i 0) (off5_zero i) c d (by omega)

theorem diagV0_apply (c : Fin 512) (d : Fin 128) :
    diagV0 i arg18 X18 (ix2 c d) = rowAt (arg18.view.read (Elt Ideal) X18) (1024 * (i 1).val + c.val) d := by
  have h4 := coord_lt i
  have hc := c.isLt
  rw [rowAt, dif_pos (show 1024 * (i 1).val + c.val < 4096 by omega)]
  exact readAt_rows arg18.view X18 (k0_off5_inb i 0) (off5_zero i) c d (by omega)

theorem diagC0_apply (c : Fin 512) :
    diagC0 i arg10 X10 (ix3 0 0 c) = colAt (arg10.view.read (Elt Ideal) X10) (1024 * (i 1).val + c.val) := by
  have h4 := coord_lt i
  have hc := c.isLt
  rw [colAt, dif_pos (show 1024 * (i 1).val + c.val < 4096 by omega)]
  refine (readAt_cols arg10.view X10 (k0_off6_inb i 0) (off6_zero i) c (by omega)).trans ?_
  congr 2
  · refine Fin.ext ?_
    show 2 * (i 1).val = (1024 * (i 1).val + c.val) / 512
    omega
  · refine Fin.ext ?_
    show _ = (1024 * (i 1).val + c.val) % 512
    omega

theorem diagP0_apply (r : Fin 1024) (c : Fin 512) :
    diagP0 i arg10 arg17 v6 v36 v41 X10 X17 (ix2 r c)
      = (loopTile i arg10 arg17 arg18 v6 v30 v34 v36 v41 X10 X17 X18).p r (1024 * (i 1).val + c.val) :=
  probMasked_tile iota0_apply iota1_apply (word_row i) (word_col0 i) (coord_lt i) (by have := coord_lt i; omega)
    (diagK0_apply i arg17 X17) (diagC0_apply i arg10 X10) r c

theorem diagZ0_apply (r : Fin 1024) (c : Fin 512) :
    diagZ0 i arg10 arg17 arg18 v6 v30 v34 v36 v41 X10 X17 X18 (ix2 r c)
      = (loopTile i arg10 arg17 arg18 v6 v30 v34 v36 v41 X10 X17 X18).dz r (1024 * (i 1).val + c.val) :=
  dzMasked_tile iota0_apply iota1_apply (word_row i) (word_col0 i) (coord_lt i) (by have := coord_lt i; omega)
    (diagK0_apply i arg17 X17) (diagC0_apply i arg10 X10) (diagV0_apply i arg18 X18) r c

/-- Block 1 on the diagonal: its keys, values, columns' bias, probabilities and score gradients. -/
def diagK1 : Vec Ideal S512x128 .bf16 :=
  View.readAt (Elt Ideal) arg17.view (Rect.unit (s := S4096x128) (k0_off5 i 1#32) S512x128.size (k0_off5_inb i 1)).toLoadRect X17

def diagV1 : Vec Ideal S512x128 .bf16 :=
  View.readAt (Elt Ideal) arg18.view (Rect.unit (s := S4096x128) (k0_off5 i 1#32) S512x128.size (k0_off5_inb i 1)).toLoadRect X18

def diagC1 : Vec Ideal S1x1x512 .f32 :=
  View.readAt (Elt Ideal) arg10.view (Rect.unit (s := S1x8x512) (k0_off6 i 1#32) S1x1x512.size (k0_off6_inb i 1)).toLoadRect X10

def diagP1 : FVec Ideal S1024x512 .f32 :=
  k0_pay50 v6 (k0_pay38 v36) (Scalar.muli (BitVec.ofNat 32 (i 1).val) 1024#32) (iota Kind.tc S1024x512 32 [0] iota_S1024x512_d0_w32)
    (iota Kind.tc S1024x512 32 [1] iota_S1024x512_d1_w32) (k0_pay39 v41)
    (Scalar.addi (Scalar.muli (BitVec.ofNat 32 (i 1).val) 2#32) 1#32) (diagK1 i arg17 X17) (diagC1 i arg10 X10)

def diagZ1 : FVec Ideal S1024x512 .f32 :=
  k0_pay51 v6 v30 (k0_pay37 v34) (k0_pay38 v36) (Scalar.muli (BitVec.ofNat 32 (i 1).val) 1024#32)
    (iota Kind.tc S1024x512 32 [0] iota_S1024x512_d0_w32)
    (iota Kind.tc S1024x512 32 [1] iota_S1024x512_d1_w32) (k0_pay39 v41)
    (Scalar.addi (Scalar.muli (BitVec.ofNat 32 (i 1).val) 2#32) 1#32) (diagK1 i arg17 X17) (diagC1 i arg10 X10) (diagV1 i arg18 X18)

theorem diagK1_apply (c : Fin 512) (d : Fin 128) :
    diagK1 i arg17 X17 (ix2 c d) = rowAt (arg17.view.read (Elt Ideal) X17) (1024 * (i 1).val + 512 + c.val) d := by
  have h4 := coord_lt i
  have hc := c.isLt
  rw [rowAt, dif_pos (show 1024 * (i 1).val + 512 + c.val < 4096 by omega)]
  exact readAt_rows arg17.view X17 (k0_off5_inb i 1) (off5_one i) c d (by omega)

theorem diagV1_apply (c : Fin 512) (d : Fin 128) :
    diagV1 i arg18 X18 (ix2 c d) = rowAt (arg18.view.read (Elt Ideal) X18) (1024 * (i 1).val + 512 + c.val) d := by
  have h4 := coord_lt i
  have hc := c.isLt
  rw [rowAt, dif_pos (show 1024 * (i 1).val + 512 + c.val < 4096 by omega)]
  exact readAt_rows arg18.view X18 (k0_off5_inb i 1) (off5_one i) c d (by omega)

theorem diagC1_apply (c : Fin 512) :
    diagC1 i arg10 X10 (ix3 0 0 c) = colAt (arg10.view.read (Elt Ideal) X10) (1024 * (i 1).val + 512 + c.val) := by
  have h4 := coord_lt i
  have hc := c.isLt
  rw [colAt, dif_pos (show 1024 * (i 1).val + 512 + c.val < 4096 by omega)]
  refine (readAt_cols arg10.view X10 (k0_off6_inb i 1) (off6_one i) c (by omega)).trans ?_
  congr 2
  · refine Fin.ext ?_
    show 2 * (i 1).val + 1 = (1024 * (i 1).val + 512 + c.val) / 512
    omega
  · refine Fin.ext ?_
    show _ = (1024 * (i 1).val + 512 + c.val) % 512
    omega

theorem diagP1_apply (r : Fin 1024) (c : Fin 512) :
    diagP1 i arg10 arg17 v6 v36 v41 X10 X17 (ix2 r c)
      = (loopTile i arg10 arg17 arg18 v6 v30 v34 v36 v41 X10 X17 X18).p r (1024 * (i 1).val + 512 + c.val) :=
  probMasked_tile iota0_apply iota1_apply (word_row i) (word_col1 i) (coord_lt i) (by have := coord_lt i; omega)
    (diagK1_apply i arg17 X17) (diagC1_apply i arg10 X10) r c

theorem diagZ1_apply (r : Fin 1024) (c : Fin 512) :
    diagZ1 i arg10 arg17 arg18 v6 v30 v34 v36 v41 X10 X17 X18 (ix2 r c)
      = (loopTile i arg10 arg17 arg18 v6 v30 v34 v36 v41 X10 X17 X18).dz r (1024 * (i 1).val + 512 + c.val) :=
  dzMasked_tile iota0_apply iota1_apply (word_row i) (word_col1 i) (coord_lt i) (by have := coord_lt i; omega)
    (diagK1_apply i arg17 X17) (diagC1_apply i arg10 X10) (diagV1_apply i arg18 X18) r c

end Diag

end Cert.KernelIdeal.Block
-- ==== Proof.After.lean ====
module

public import proofs.«01_k».proof.Proof.Diag

/-!
# What the arrays hold after a grid point

The loop below the diagonal and the two blocks on it, together: every row and every column of the arrays has received what the tile
has for it.
-/

@[expose] public section

set_option maxRecDepth 16384

noncomputable section

namespace Cert.KernelIdeal.Block

open Idealize.ShloMosaic Idealize.ShloMosaic.TcCoe Idealize.ShloMosaic.Tactic Cert.KernelIdeal Cert.KernelIdeal.Gen

section Point

variable (𝒱 : Variants) (c : Dev nD) (bd : Option 𝒱.V) (i : grid0.Coords)
  (arg2 : Memref sig .tc .vmem S1024x128 .f32) (harg2 : arg2.IsWhole)
  (arg3 : Memref sig .tc .vmem S4096x128 .f32) (harg3 : arg3.IsWhole)
  (arg4 : Memref sig .tc .vmem S4096x128 .f32) (harg4 : arg4.IsWhole)
  (arg5 : Memref sig .tc .vmem S1024x128 .f32) (harg5 : arg5.IsWhole)
  (arg6 : Memref sig .tc .vmem S1024x128 .f32) (harg6 : arg6.IsWhole)
  (arg7 : Memref sig .tc .vmem S1024x128 .f32) (harg7 : arg7.IsWhole)
  (arg8 : Memref sig .tc .vmem S1x1024x1 .f32) (harg8 : arg8.IsWhole)
  (arg9 : Memref sig .tc .vmem S1x1024x1 .f32) (harg9 : arg9.IsWhole)
  (arg10 : Memref sig .tc .vmem S1x8x512 .f32) (harg10 : arg10.IsWhole)
  (arg11 : Memref sig .tc .vmem S1024x128 .f32) (harg11 : arg11.IsWhole)
  (arg12 : Memref sig .tc .vmem S4096x128 .f32) (harg12 : arg12.IsWhole)
  (arg13 : Memref sig .tc .vmem S4096x128 .f32) (harg13 : arg13.IsWhole)
  (arg14 : Memref sig .tc .vmem S1024x128 .bf16) (harg14 : arg14.IsWhole)
  (arg15 : Memref sig .tc .vmem S1x8x512 .f32) (harg15 : arg15.IsWhole)
  (arg16 : Memref sig .tc .vmem S1x1024x1 .f32) (harg16 : arg16.IsWhole)
  (arg17 : Memref sig .tc .vmem S4096x128 .bf16) (harg17 : arg17.IsWhole)
  (arg18 : Memref sig .tc .vmem S4096x128 .bf16) (harg18 : arg18.IsWhole)
  (arg1 : BitVec 32) (v6 v30 : FVec Ideal S1024x128 .bf16) (v34 : FVec Ideal S1024 .f32)
  (v36 v41 : Vec Ideal S1x1024x1 .f32)
  (X10 : BufTy.Contents (Elt Ideal) arg10.view.ty) (X17 : BufTy.Contents (Elt Ideal) arg17.view.ty)
  (X18 : BufTy.Contents (Elt Ideal) arg18.view.ty)

  (G12 : BufTy.Contents (Elt Ideal) arg12.view.ty) (G13 : BufTy.Contents (Elt Ideal) arg13.view.ty)
  (G15 : BufTy.Contents (Elt Ideal) arg15.view.ty)

/-- The columns past the tile's own 1024 add nothing to a row's sum. -/
theorem sum_tile (f : ℕ → EReal) (r : Fin 1024) (h : ∀ c, 1024 * (i 1).val + r.val < c → f c = 0) :
    ∑ x ∈ Finset.range 4096, f x = ((∑ x ∈ Finset.range (1024 * (i 1).val), f x)
      + ∑ x : Fin 512, f (1024 * (i 1).val + x.val)) + ∑ x : Fin 512, f (1024 * (i 1).val + 512 + x.val) := by
  have h4 := coord_lt i
  rw [← Finset.sum_range (fun x => f (1024 * (i 1).val + x)), ← Finset.sum_range (fun x => f (1024 * (i 1).val + 512 + x)),
    ← Finset.sum_range_add, ← Finset.sum_range_add]
  refine (Finset.sum_subset (Finset.range_mono (by omega)) fun x _ hx => h x ?_).symm
  have : ¬ x < 1024 * (i 1).val + 512 + 512 := fun hh => hx (Finset.mem_range.mpr hh)
  omega

-- `L` is what the loop leaves.
variable {L : _}
  (hL : L = st_k0_t1 (F := Ideal) 𝒱 c bd i _ harg2 _ harg3 _ harg4 _ harg5 _ harg6 _ harg7 _ harg8 _ harg9 _ harg10 _ harg11 _ harg12 _ harg13 _ harg14 _ harg15 _ harg16 _ harg17 _ harg18
      arg1 v6 v30 v34 v36 v41 X10 X17 X18 G12 G13 G15 (k0_pay40, k0_pay41) (Scf.trips (k0_t1_loop i).lb (k0_t1_loop i).ub (k0_t1_loop i).st))

include hL

/-- The gradient of the queries, before the last scale. -/
theorem point_row (r : Fin 1024) (d : Fin 128) :
    k0_pay45 (k0_pay45 L.1.1 (diagK0 i arg17 X17) (truncf .bf16 (diagZ0 i arg10 arg17 arg18 v6 v30 v34 v36 v41 X10 X17 X18) bitsLt_bf16_f32)) (diagK1 i arg17 X17)
        (truncf .bf16 (diagZ1 i arg10 arg17 arg18 v6 v30 v34 v36 v41 X10 X17 X18) bitsLt_bf16_f32) (ix2 r d)
      = ∑ x ∈ Finset.range 4096, (loopTile i arg10 arg17 arg18 v6 v30 v34 v36 v41 X10 X17 X18).dz r x * (loopTile i arg10 arg17 arg18 v6 v30 v34 v36 v41 X10 X17 X18).K x d := by
  subst hL
  rw [rowAcc_apply, rowAcc_apply]
  have e := (loop_state 𝒱 c bd i _ harg2 _ harg3 _ harg4 _ harg5 _ harg6 _ harg7 _ harg8 _ harg9 _ harg10 _ harg11 _ harg12 _ harg13 _ harg14 _ harg15 _ harg16 _ harg17 _ harg18
      arg1 v6 v30 v34 v36 v41 X10 X17 X18 G12 G13 G15 (k0_pay40, k0_pay41)
      zero40_apply zero41_apply (i 1).val le_rfl).1 r d
  rw [← trips_eq i] at e
  refine (congrArg (· + _) (congrArg (· + _) e)).trans ?_
  rw [trips_eq i, sum_tile i (fun x => (loopTile i arg10 arg17 arg18 v6 v30 v34 v36 v41 X10 X17 X18).dz r x * (loopTile i arg10 arg17 arg18 v6 v30 v34 v36 v41 X10 X17 X18).K x d) r (fun c h => by
    show (loopTile i arg10 arg17 arg18 v6 v30 v34 v36 v41 X10 X17 X18).dz r c * _ = 0
    rw [Tile.dz_eq_zero (loopTile i arg10 arg17 arg18 v6 v30 v34 v36 v41 X10 X17 X18) h, zero_mul])]
  simp only [truncf, diagK0_apply, diagK1_apply]
  refine congrArg₂ (· + ·) (congrArg₂ (· + ·) rfl (Finset.sum_congr rfl fun x _ => ?_)) (Finset.sum_congr rfl fun x _ => ?_)
  · exact congrArg (· * _) (diagZ0_apply i arg10 arg17 arg18 v6 v30 v34 v36 v41 X10 X17 X18 r x)
  · exact congrArg (· * _) (diagZ1_apply i arg10 arg17 arg18 v6 v30 v34 v36 v41 X10 X17 X18 r x)

/-- The gradient of the rows' bias. -/
theorem point_cr (r : Fin 1024) :
    k0_pay44 (k0_pay44 L.1.2 (diagZ0 i arg10 arg17 arg18 v6 v30 v34 v36 v41 X10 X17 X18)) (diagZ1 i arg10 arg17 arg18 v6 v30 v34 v36 v41 X10 X17 X18) (ix2 r 0) = ∑ x ∈ Finset.range 4096, (loopTile i arg10 arg17 arg18 v6 v30 v34 v36 v41 X10 X17 X18).dz r x := by
  subst hL
  rw [crAcc_apply, crAcc_apply]
  have e := (loop_state 𝒱 c bd i _ harg2 _ harg3 _ harg4 _ harg5 _ harg6 _ harg7 _ harg8 _ harg9 _ harg10 _ harg11 _ harg12 _ harg13 _ harg14 _ harg15 _ harg16 _ harg17 _ harg18
      arg1 v6 v30 v34 v36 v41 X10 X17 X18 G12 G13 G15 (k0_pay40, k0_pay41)
      zero40_apply zero41_apply (i 1).val le_rfl).2.1 r
  rw [← trips_eq i] at e
  refine (congrArg (· + _) (congrArg (· + _) e)).trans ?_
  rw [trips_eq i, sum_tile i (fun x => (loopTile i arg10 arg17 arg18 v6 v30 v34 v36 v41 X10 X17 X18).dz r x) r (fun c h => Tile.dz_eq_zero (loopTile i arg10 arg17 arg18 v6 v30 v34 v36 v41 X10 X17 X18) h)]
  refine congrArg₂ (· + ·) (congrArg₂ (· + ·) rfl (Finset.sum_congr rfl fun x _ => ?_)) (Finset.sum_congr rfl fun x _ => ?_)
  · exact diagZ0_apply i arg10 arg17 arg18 v6 v30 v34 v36 v41 X10 X17 X18 r x
  · exact diagZ1_apply i arg10 arg17 arg18 v6 v30 v34 v36 v41 X10 X17 X18 r x

/-- The keys' gradient receives this tile's part in every row. -/
theorem point_dk (a : Fin 4096) (d : Fin 128) :
    arg12.view.read (Elt Ideal) (arg12.view.writes (Elt Ideal) (arg12.view.writes (Elt Ideal) G12 L.2.1)
        [⟨Rect.unit (s := S4096x128) (k0_off5 i 1#32) S512x128.size (k0_off5_inb i 1),
          k0_pay42 v6 (diagZ1 i arg10 arg17 arg18 v6 v30 v34 v36 v41 X10 X17 X18) (View.readAt (Elt Ideal) arg12.view (Rect.unit (s := S4096x128) (k0_off5 i 1#32) S512x128.size (k0_off5_inb i 1)).toLoadRect
            (arg12.view.writes (Elt Ideal) (arg12.view.writes (Elt Ideal) G12 L.2.1) [⟨Rect.unit (s := S4096x128) (k0_off5 i 0#32) S512x128.size (k0_off5_inb i 0),
              k0_pay42 v6 (diagZ0 i arg10 arg17 arg18 v6 v30 v34 v36 v41 X10 X17 X18) (View.readAt (Elt Ideal) arg12.view (Rect.unit (s := S4096x128) (k0_off5 i 0#32) S512x128.size (k0_off5_inb i 0)).toLoadRect (arg12.view.writes (Elt Ideal) G12 L.2.1))⟩]))⟩,
         ⟨Rect.unit (s := S4096x128) (k0_off5 i 0#32) S512x128.size (k0_off5_inb i 0),
          k0_pay42 v6 (diagZ0 i arg10 arg17 arg18 v6 v30 v34 v36 v41 X10 X17 X18) (View.readAt (Elt Ideal) arg12.view (Rect.unit (s := S4096x128) (k0_off5 i 0#32) S512x128.size (k0_off5_inb i 0)).toLoadRect (arg12.view.writes (Elt Ideal) G12 L.2.1))⟩])
        (ix2 a d)
      = arg12.view.read (Elt Ideal) G12 (ix2 a d) + ∑ r, (loopTile i arg10 arg17 arg18 v6 v30 v34 v36 v41 X10 X17 X18).dz r a.val * (loopTile i arg10 arg17 arg18 v6 v30 v34 v36 v41 X10 X17 X18).qs r d := by
  subst hL
  refine (diag_rows i arg12.view _ v6 (diagZ0 i arg10 arg17 arg18 v6 v30 v34 v36 v41 X10 X17 X18) (diagZ1 i arg10 arg17 arg18 v6 v30 v34 v36 v41 X10 X17 X18) (loopTile i arg10 arg17 arg18 v6 v30 v34 v36 v41 X10 X17 X18).dz
    (diagZ0_apply i arg10 arg17 arg18 v6 v30 v34 v36 v41 X10 X17 X18) (diagZ1_apply i arg10 arg17 arg18 v6 v30 v34 v36 v41 X10 X17 X18) a d).trans ?_
  have e := (loop_state 𝒱 c bd i _ harg2 _ harg3 _ harg4 _ harg5 _ harg6 _ harg7 _ harg8 _ harg9 _ harg10 _ harg11 _ harg12 _ harg13 _ harg14 _ harg15 _ harg16 _ harg17 _ harg18
      arg1 v6 v30 v34 v36 v41 X10 X17 X18 G12 G13 G15 (k0_pay40, k0_pay41)
      zero40_apply zero41_apply (i 1).val le_rfl).2.2.1 a d
  rw [← trips_eq i] at e
  refine (congrArg (· + _) e).trans ?_
  have hT := trips_eq i
  rw [hT, add_assoc]
  congr 1
  have hz : ∀ r, 1024 * (i 1).val + 1024 ≤ a.val → (loopTile i arg10 arg17 arg18 v6 v30 v34 v36 v41 X10 X17 X18).dz r a.val = 0 :=
    fun r h => Tile.dz_eq_zero (loopTile i arg10 arg17 arg18 v6 v30 v34 v36 v41 X10 X17 X18) (by show 1024 * (i 1).val + r.val < a.val; omega)
  by_cases h : a.val < 1024 * (i 1).val
  · rw [if_pos h, if_neg (by omega), add_zero]
  · rw [if_neg h, zero_add]
    by_cases h' : a.val < 1024 * (i 1).val + 1024
    · rw [if_pos (by omega)]
      rfl
    · rw [if_neg (by omega)]
      refine (Finset.sum_eq_zero fun r _ => ?_).symm
      rw [hz r (by omega), zero_mul]

/-- The values' gradient receives this tile's part in every row. -/
theorem point_dv (a : Fin 4096) (d : Fin 128) :
    arg13.view.read (Elt Ideal) (arg13.view.writes (Elt Ideal) (arg13.view.writes (Elt Ideal) G13 L.2.2.1)
        [⟨Rect.unit (s := S4096x128) (k0_off5 i 1#32) S512x128.size (k0_off5_inb i 1),
          k0_pay42 v30 (diagP1 i arg10 arg17 v6 v36 v41 X10 X17) (View.readAt (Elt Ideal) arg13.view (Rect.unit (s := S4096x128) (k0_off5 i 1#32) S512x128.size (k0_off5_inb i 1)).toLoadRect
            (arg13.view.writes (Elt Ideal) (arg13.view.writes (Elt Ideal) G13 L.2.2.1) [⟨Rect.unit (s := S4096x128) (k0_off5 i 0#32) S512x128.size (k0_off5_inb i 0),
              k0_pay42 v30 (diagP0 i arg10 arg17 v6 v36 v41 X10 X17) (View.readAt (Elt Ideal) arg13.view (Rect.unit (s := S4096x128) (k0_off5 i 0#32) S512x128.size (k0_off5_inb i 0)).toLoadRect (arg13.view.writes (Elt Ideal) G13 L.2.2.1))⟩]))⟩,
         ⟨Rect.unit (s := S4096x128) (k0_off5 i 0#32) S512x128.size (k0_off5_inb i 0),
          k0_pay42 v30 (diagP0 i arg10 arg17 v6 v36 v41 X10 X17) (View.readAt (Elt Ideal) arg13.view (Rect.unit (s := S4096x128) (k0_off5 i 0#32) S512x128.size (k0_off5_inb i 0)).toLoadRect (arg13.view.writes (Elt Ideal) G13 L.2.2.1))⟩])
        (ix2 a d)
      = arg13.view.read (Elt Ideal) G13 (ix2 a d) + ∑ r, (loopTile i arg10 arg17 arg18 v6 v30 v34 v36 v41 X10 X17 X18).p r a.val * (loopTile i arg10 arg17 arg18 v6 v30 v34 v36 v41 X10 X17 X18).dob r d := by
  subst hL
  refine (diag_rows i arg13.view _ v30 (diagP0 i arg10 arg17 v6 v36 v41 X10 X17) (diagP1 i arg10 arg17 v6 v36 v41 X10 X17) (loopTile i arg10 arg17 arg18 v6 v30 v34 v36 v41 X10 X17 X18).p
    (diagP0_apply i arg10 arg17 arg18 v6 v30 v34 v36 v41 X10 X17 X18) (diagP1_apply i arg10 arg17 arg18 v6 v30 v34 v36 v41 X10 X17 X18) a d).trans ?_
  have e := (loop_state 𝒱 c bd i _ harg2 _ harg3 _ harg4 _ harg5 _ harg6 _ harg7 _ harg8 _ harg9 _ harg10 _ harg11 _ harg12 _ harg13 _ harg14 _ harg15 _ harg16 _ harg17 _ harg18
      arg1 v6 v30 v34 v36 v41 X10 X17 X18 G12 G13 G15 (k0_pay40, k0_pay41)
      zero40_apply zero41_apply (i 1).val le_rfl).2.2.2.1 a d
  rw [← trips_eq i] at e
  refine (congrArg (· + _) e).trans ?_
  have hT := trips_eq i
  rw [hT, add_assoc]
  congr 1
  have hz : ∀ r, 1024 * (i 1).val + 1024 ≤ a.val → (loopTile i arg10 arg17 arg18 v6 v30 v34 v36 v41 X10 X17 X18).p r a.val = 0 :=
    fun r h => Tile.p_eq_zero (loopTile i arg10 arg17 arg18 v6 v30 v34 v36 v41 X10 X17 X18) (by show 1024 * (i 1).val + r.val < a.val; omega)
  by_cases h : a.val < 1024 * (i 1).val
  · rw [if_pos h, if_neg (by omega), add_zero]
  · rw [if_neg h, zero_add]
    by_cases h' : a.val < 1024 * (i 1).val + 1024
    · rw [if_pos (by omega)]
      rfl
    · rw [if_neg (by omega)]
      refine (Finset.sum_eq_zero fun r _ => ?_).symm
      rw [hz r (by omega), zero_mul]

/-- This tile's part is taken from every entry of the columns' bias' gradient. -/
theorem point_cc (a : Fin 8) (b : Fin 512) :
    arg15.view.read (Elt Ideal) (arg15.view.writes (Elt Ideal) (arg15.view.writes (Elt Ideal) G15 L.2.2.2)
        [⟨Rect.unit (s := S1x8x512) (k0_off6 i 1#32) S1x1x512.size (k0_off6_inb i 1),
          k0_pay43 (diagZ1 i arg10 arg17 arg18 v6 v30 v34 v36 v41 X10 X17 X18) (View.readAt (Elt Ideal) arg15.view (Rect.unit (s := S1x8x512) (k0_off6 i 1#32) S1x1x512.size (k0_off6_inb i 1)).toLoadRect
            (arg15.view.writes (Elt Ideal) (arg15.view.writes (Elt Ideal) G15 L.2.2.2) [⟨Rect.unit (s := S1x8x512) (k0_off6 i 0#32) S1x1x512.size (k0_off6_inb i 0),
              k0_pay43 (diagZ0 i arg10 arg17 arg18 v6 v30 v34 v36 v41 X10 X17 X18) (View.readAt (Elt Ideal) arg15.view (Rect.unit (s := S1x8x512) (k0_off6 i 0#32) S1x1x512.size (k0_off6_inb i 0)).toLoadRect (arg15.view.writes (Elt Ideal) G15 L.2.2.2))⟩]))⟩,
         ⟨Rect.unit (s := S1x8x512) (k0_off6 i 0#32) S1x1x512.size (k0_off6_inb i 0),
          k0_pay43 (diagZ0 i arg10 arg17 arg18 v6 v30 v34 v36 v41 X10 X17 X18) (View.readAt (Elt Ideal) arg15.view (Rect.unit (s := S1x8x512) (k0_off6 i 0#32) S1x1x512.size (k0_off6_inb i 0)).toLoadRect (arg15.view.writes (Elt Ideal) G15 L.2.2.2))⟩])
        (ix3 0 a b)
      = arg15.view.read (Elt Ideal) G15 (ix3 0 a b) - ∑ r, (loopTile i arg10 arg17 arg18 v6 v30 v34 v36 v41 X10 X17 X18).dz r (512 * a.val + b.val) := by
  subst hL
  refine (diag_cols i arg15.view _ (diagZ0 i arg10 arg17 arg18 v6 v30 v34 v36 v41 X10 X17 X18) (diagZ1 i arg10 arg17 arg18 v6 v30 v34 v36 v41 X10 X17 X18) (loopTile i arg10 arg17 arg18 v6 v30 v34 v36 v41 X10 X17 X18).dz
    (diagZ0_apply i arg10 arg17 arg18 v6 v30 v34 v36 v41 X10 X17 X18) (diagZ1_apply i arg10 arg17 arg18 v6 v30 v34 v36 v41 X10 X17 X18) a b).trans ?_
  have e := (loop_state 𝒱 c bd i _ harg2 _ harg3 _ harg4 _ harg5 _ harg6 _ harg7 _ harg8 _ harg9 _ harg10 _ harg11 _ harg12 _ harg13 _ harg14 _ harg15 _ harg16 _ harg17 _ harg18
      arg1 v6 v30 v34 v36 v41 X10 X17 X18 G12 G13 G15 (k0_pay40, k0_pay41)
      zero40_apply zero41_apply (i 1).val le_rfl).2.2.2.2 a b
  rw [← trips_eq i] at e
  refine (congrArg (· - _) e).trans ?_
  have hT := trips_eq i
  rw [hT]
  have hz : 2 * (i 1).val + 2 ≤ a.val → ∑ r, (loopTile i arg10 arg17 arg18 v6 v30 v34 v36 v41 X10 X17 X18).dz r (512 * a.val + b.val) = 0 :=
    fun h => Finset.sum_eq_zero fun r _ => Tile.dz_eq_zero (loopTile i arg10 arg17 arg18 v6 v30 v34 v36 v41 X10 X17 X18) (by show 1024 * (i 1).val + r.val < 512 * a.val + b.val; omega)
  by_cases h : a.val < 2 * (i 1).val
  · rw [if_pos h, if_neg (by omega), sub_zero]
  · rw [if_neg h, sub_zero]
    by_cases h' : a.val < 2 * (i 1).val + 2
    · rw [if_pos (by omega)]
    · rw [if_neg (by omega), sub_zero, hz (by omega), sub_zero]

end Point

end Cert.KernelIdeal.Block
-- ==== Proof.Point.lean ====
module

public import proofs.«01_k».proof.Proof.After
public import proofs.«01_k».proof.Proof.Gen.KernelIdeal.Frame

/-!
# The tile of a grid point

A load of a whole buffer is its contents; the loop over no block makes no trip; the tile, from the blocks that the point reads.
-/

@[expose] public section

set_option maxRecDepth 16384

noncomputable section

namespace Cert.KernelIdeal.Block

open Idealize.ShloMosaic Idealize.ShloMosaic.TcCoe Idealize.ShloMosaic.Tactic Cert.KernelIdeal Cert.KernelIdeal.Gen

/-- A load of a whole buffer reads its contents. -/
theorem load_whole {sp : Space} {e : EltTy} {n : ℕ} {size : Fin n → ℕ} {m : Memref sig .tc sp ⟨n, size⟩ e} (h : m.IsWhole)
    (X : (⟨n, size⟩ : Shape).Idx → Elt Ideal e) {off : Fin n → ℕ} (ho : off = fun _ => 0) (inb : ∀ a, off a + size a ≤ size a) :
    View.readAt (Elt Ideal) m.view (Rect.unit (s := ⟨n, size⟩) off size inb).toLoadRect (h.unread X) = X := by
  rw [View.readAt_eq_ld, h.read_unread]
  exact View.ld_unit_zero (S := ⟨n, size⟩) ho inb X

theorem off2 : (![0, 0] : Fin 2 → ℕ) = fun _ => 0 := by
  funext a
  fin_cases a <;> rfl

theorem off3 : (![0, 0, 0] : Fin 3 → ℕ) = fun _ => 0 := by
  funext a
  fin_cases a <;> rfl

/-- Every index lies in the rectangle of the whole. -/
theorem mem_whole {n : ℕ} {size : Fin n → ℕ} {off : Fin n → ℕ} (ho : off = fun _ => 0) (inb : ∀ a, off a + size a ≤ size a)
    (y : (⟨n, size⟩ : Shape).Idx) : y ∈ (Rect.unit (s := ⟨n, size⟩) off size inb).set := by
  subst ho
  exact Rect.mem_set_unit.mpr fun a => ⟨Nat.zero_le _, by simpa using (y a).isLt⟩

/-- A buffer that one store of the whole covers holds that store. -/
theorem read_store_whole {sp : Space} {e : EltTy} {n : ℕ} {size : Fin n → ℕ} (v : View sig .tc sp ⟨n, size⟩ e) (f : v.ty.Contents (Elt Ideal))
    {off : Fin n → ℕ} (ho : off = fun _ => 0) (inb : ∀ a, off a + size a ≤ size a) (w : Vec Ideal ⟨n, size⟩ e) :
    v.read (Elt Ideal) (v.writes (Elt Ideal) f [⟨Rect.unit (s := ⟨n, size⟩) off size inb, w⟩]) = w := by
  refine (View.read_writes_eq_canon v _ _ fun y => ⟨_, List.mem_singleton.mpr rfl, ?_⟩).trans (View.canon_unit_zero (S := ⟨n, size⟩) ho inb w)
  exact mem_whole ho inb y

/-- The second loop of the kernel has nothing to visit. -/
theorem trips2_eq (i : grid0.Coords) : Scf.trips (k0_t2_loop i).lb (k0_t2_loop i).ub (k0_t2_loop i).st = 0 :=
  Nat.le_zero.mp (k0_t2_abs i).2.1

/-- What a load of a whole matrix reads, and one of a single matrix of three indices. -/
abbrev ld2 {n k : ℕ} {e : EltTy} {m : Memref sig .tc .vmem ⟨2, ![n, k]⟩ e} (h : m.IsWhole) (X : (⟨2, ![n, k]⟩ : Shape).Idx → Elt Ideal e) :=
  View.readAt (Elt Ideal) m.view (Rect.unit (s := ⟨2, ![n, k]⟩) ![0, 0] (⟨2, ![n, k]⟩ : Shape).size (by intro a; fin_cases a <;> simp)).toLoadRect (h.unread X)

abbrev ld3 {l n k : ℕ} {e : EltTy} {m : Memref sig .tc .vmem ⟨3, ![l, n, k]⟩ e} (h : m.IsWhole) (X : (⟨3, ![l, n, k]⟩ : Shape).Idx → Elt Ideal e) :=
  View.readAt (Elt Ideal) m.view (Rect.unit (s := ⟨3, ![l, n, k]⟩) ![0, 0, 0] (⟨3, ![l, n, k]⟩ : Shape).size (by intro a; fin_cases a <;> simp)).toLoadRect (h.unread X)

theorem ld2_eq {n k : ℕ} {e : EltTy} {m : Memref sig .tc .vmem ⟨2, ![n, k]⟩ e} (h : m.IsWhole) (X : (⟨2, ![n, k]⟩ : Shape).Idx → Elt Ideal e) :
    ld2 h X = X := load_whole h X off2 _

theorem ld3_eq {l n k : ℕ} {e : EltTy} {m : Memref sig .tc .vmem ⟨3, ![l, n, k]⟩ e} (h : m.IsWhole) (X : (⟨3, ![l, n, k]⟩ : Shape).Idx → Elt Ideal e) :
    ld3 h X = X := load_whole h X off3 _

/-- The tile of a grid point, from the blocks of q, gate, o, dg, lse and the two biases, and the kept keys and values. -/
def pointTile (i : ℕ) (x0 x3 x4 x5 : Vec Ideal S1024x128 .f32) (x6 x7 : Vec Ideal S1x1024x1 .f32) (x8 : Vec Ideal S1x8x512 .f32)
    (K V : S4096x128.Idx → EReal) : Tile :=
  tileOf i (k0_pay31 x0) (k0_pay35 x3 x5) (k0_pay36 x3 x5 x4) x6 x7 x8 K V

end Cert.KernelIdeal.Block
-- ==== Proof.Head.lean ====
module

public import proofs.«01_k».proof.Proof.Point

/-!
# One head, against all 4096 rows and 4096 columns

`Head` names what the kernel reads of one head, by row and column numbers. `Head.tile` cuts the tile of 1024 rows that one grid
point reads out of it, and the gradients of the scores of that tile are rows of the head's.
-/

@[expose] public section

set_option maxRecDepth 16384

noncomputable section

namespace Cert.KernelIdeal.Block

open Idealize.ShloMosaic Idealize.ShloMosaic.TcCoe Idealize.ShloMosaic.Tactic Cert.KernelIdeal Cert.KernelIdeal.Gen

/-- The scale of the scores, 1/√128. -/
abbrev sc : EReal := Ideal.ofBits .f32 0x3DB504F3#32

/-- An entry of a matrix, by natural numbers. -/
def at2 {a b : ℕ} (X : (⟨2, ![a, b]⟩ : Shape).Idx → EReal) (i j : ℕ) : EReal :=
  if h : i < a ∧ j < b then X (ix2 ⟨i, h.1⟩ ⟨j, h.2⟩) else 0

theorem at2_val {a b : ℕ} (X : (⟨2, ![a, b]⟩ : Shape).Idx → EReal) {i j : ℕ} (hi : i < a) (hj : j < b) :
    at2 X i j = X (ix2 ⟨i, hi⟩ ⟨j, hj⟩) := dif_pos ⟨hi, hj⟩

/-- An entry of an array of one-entry rows, by natural numbers. -/
def at31 {a b : ℕ} (X : (⟨3, ![a, b, 1]⟩ : Shape).Idx → EReal) (i j : ℕ) : EReal :=
  if h : i < a ∧ j < b then X (ix3 ⟨i, h.1⟩ ⟨j, h.2⟩ 0) else 0

theorem at31_val {a b : ℕ} (X : (⟨3, ![a, b, 1]⟩ : Shape).Idx → EReal) {i j : ℕ} (hi : i < a) (hj : j < b) :
    at31 X i j = X (ix3 ⟨i, hi⟩ ⟨j, hj⟩ 0) := dif_pos ⟨hi, hj⟩

/-- What the kernel reads of one head: queries, keys, values, gate, the attention's output, the gradient that comes in, the
rows' log-sum and the cumulated forget bias. -/
structure Head where
  q : ℕ → Fin 128 → EReal
  k : ℕ → Fin 128 → EReal
  v : ℕ → Fin 128 → EReal
  g : ℕ → Fin 128 → EReal
  o : ℕ → Fin 128 → EReal
  dg : ℕ → Fin 128 → EReal
  lse : ℕ → EReal
  b : ℕ → EReal

namespace Head

variable (H : Head)

/-- The scaled queries. -/
def qs (n : ℕ) (d : Fin 128) : EReal := H.q n d * sc

/-- The gate's sigmoid. -/
def sg (n : ℕ) (d : Fin 128) : EReal := Ideal.div 1 (1 + Ideal.exp (0 - H.g n d))

/-- The gradient of the attention's output. -/
def dob (n : ℕ) (d : Fin 128) : EReal := H.dg n d * (H.g n d * H.sg n d)

/-- The gradient of the gate. -/
def dgate (n : ℕ) (d : Fin 128) : EReal := H.dg n d * H.o n d * (H.sg n d * (1 + H.g n d * (1 - H.sg n d)))

/-- The sum that the softmax's gradient subtracts. -/
def ds (n : ℕ) : EReal := ∑ d : Fin 128, H.dob n d * H.o n d

/-- The score of row `n` against column `c`. -/
def z (n c : ℕ) : EReal := (∑ x : Fin 128, H.qs n x * H.k c x) + H.b n - H.b c

/-- The probability of column `c` in row `n`. -/
def p (n c : ℕ) : EReal := Ideal.exp ((if c ≤ n then H.z n c else ⊥) - H.lse n)

/-- The gradient of the score. -/
def dz (n c : ℕ) : EReal := H.p n c * ((∑ x : Fin 128, H.dob n x * H.v c x) - H.ds n)

/-- The tile of 1024 rows from row `1024 * i`. -/
def tile (i : ℕ) : Tile where
  qs r d := H.qs (1024 * i + r.val) d
  dob r d := H.dob (1024 * i + r.val) d
  ds r := H.ds (1024 * i + r.val)
  lse r := H.lse (1024 * i + r.val)
  cr r := H.b (1024 * i + r.val)
  K := H.k
  V := H.v
  cc := H.b
  i := i

theorem tile_p (i : ℕ) (r : Fin 1024) (c : ℕ) : (H.tile i).p r c = H.p (1024 * i + r.val) c := rfl

theorem tile_dz (i : ℕ) (r : Fin 1024) (c : ℕ) : (H.tile i).dz r c = H.dz (1024 * i + r.val) c := rfl

end Head

/-- Four tiles of 1024 rows are all the rows. -/
theorem sum_tiles (f : ℕ → EReal) :
    ∑ j ∈ Finset.range 4, ∑ r : Fin 1024, f (1024 * j + r.val) = ∑ n ∈ Finset.range 4096, f n := by
  have h : ∀ j, ∑ r : Fin 1024, f (1024 * j + r.val) = ∑ r ∈ Finset.range 1024, f (1024 * j + r) :=
    fun j => (Finset.sum_range fun r => f (1024 * j + r)).symm
  simp only [h, Finset.sum_range_succ _ 3, Finset.sum_range_succ _ 2, Finset.sum_range_succ _ 1, Finset.sum_range_one]
  rw [show 4096 = 1024 + 1024 + 1024 + 1024 from rfl, Finset.sum_range_add, Finset.sum_range_add, Finset.sum_range_add]
  simp only [Nat.mul_zero, Nat.zero_add, Nat.mul_one, Nat.reduceMul, Nat.reduceAdd]

/-- What the kernel reads of head `h`, in the program's arrays. -/
def headOf (P : S4096x8320.Idx → EReal) (B : S16x4096.Idx → EReal) (D O : S4096x2048.Idx → EReal) (L : S16x4096x1.Idx → EReal)
    (h : ℕ) : Head where
  q n d := at2 P n (128 * h + d.val)
  k n d := at2 P n (2048 + 128 * h + d.val)
  v n d := at2 P n (4096 + 128 * h + d.val)
  g n d := at2 P n (6144 + 128 * h + d.val)
  o n d := at2 O n (128 * h + d.val)
  dg n d := at2 D n (128 * h + d.val)
  lse n := at31 L h n
  b n := at2 B h n

end Cert.KernelIdeal.Block
-- ==== Proof.Reads.lean ====
module

public import proofs.«01_k».proof.Proof.Head
public import proofs.«01_k».proof.Proof.Gen.KernelIdeal.Value
public import Idealize.ShloMosaic.Lib.Pipeline.ValueKit
public import Idealize.ShloMosaic.Lib.StableHlo.RunRead

/-!
# The blocks that a grid point reads

Point `t` works on head `t / 4` and on the tile of rows from `1024 * (t % 4)`. Each block it reads is a part of one of the
program's arrays, and the point's tile is that tile of the head.
-/

@[expose] public section

set_option maxRecDepth 16384

noncomputable section

namespace Cert.KernelIdeal.Block

open Idealize.ShloMosaic Idealize.ShloMosaic.TcCoe Idealize.ShloMosaic.Tactic Cert.KernelIdeal Cert.KernelIdeal.Gen

variable (m : (ℓ : Loc nD τ sig) → Buf (Elt Ideal) ℓ) (c : Dev nD)

/-- Which blocks a point reads. -/
theorem idx : ∀ t : Fin cfg0.N, win0_0.index t = ![t.val % 4, t.val / 4] ∧ win0_1.index t = ![0, 16 + t.val / 4]
    ∧ win0_2.index t = ![0, 32 + t.val / 4] ∧ win0_3.index t = ![t.val % 4, 48 + t.val / 4] ∧ win0_4.index t = ![t.val % 4, t.val / 4]
    ∧ win0_5.index t = ![t.val % 4, t.val / 4] ∧ win0_6.index t = ![t.val / 4, t.val % 4, 0] ∧ win0_7.index t = ![t.val / 4, t.val % 4, 0]
    ∧ win0_8.index t = ![t.val / 4, 0, 0] := by
  decide +kernel

theorem coord1 : ∀ t : Fin cfg0.N, ((grid0.coords t) 1).val = t.val % 4 := by
  decide +kernel

theorem blk_q (t : Fin cfg0.N) (r : Fin 1024) (d : Fin 128) :
    iblk m c 0 t (ix2 r d) = at2 (m ((c : Thread nD τ).loc main_arg0)) (1024 * (t.val % 4) + r.val) (128 * (t.val / 4) + d.val) := by
  have ht : t.val < 64 := t.isLt
  rw [at2_val (a := 4096) (b := 8320) _ (by omega) (by omega)]
  blk_ext [iblk, V, idx t]

theorem blk_k (t : Fin cfg0.N) (r : Fin 4096) (d : Fin 128) :
    iblk m c 1 t (ix2 r d) = at2 (m ((c : Thread nD τ).loc main_arg0)) (r.val) (2048 + 128 * (t.val / 4) + d.val) := by
  have ht : t.val < 64 := t.isLt
  rw [at2_val (a := 4096) (b := 8320) _ (by omega) (by omega)]
  blk_ext [iblk, V, idx t]

theorem blk_v (t : Fin cfg0.N) (r : Fin 4096) (d : Fin 128) :
    iblk m c 2 t (ix2 r d) = at2 (m ((c : Thread nD τ).loc main_arg0)) (r.val) (4096 + 128 * (t.val / 4) + d.val) := by
  have ht : t.val < 64 := t.isLt
  rw [at2_val (a := 4096) (b := 8320) _ (by omega) (by omega)]
  blk_ext [iblk, V, idx t]

theorem blk_g (t : Fin cfg0.N) (r : Fin 1024) (d : Fin 128) :
    iblk m c 3 t (ix2 r d) = at2 (m ((c : Thread nD τ).loc main_arg0)) (1024 * (t.val % 4) + r.val) (6144 + 128 * (t.val / 4) + d.val) := by
  have ht : t.val < 64 := t.isLt
  rw [at2_val (a := 4096) (b := 8320) _ (by omega) (by omega)]
  blk_ext [iblk, V, idx t]

theorem blk_o (t : Fin cfg0.N) (r : Fin 1024) (d : Fin 128) :
    iblk m c 4 t (ix2 r d) = at2 (V m c main_v40) (1024 * (t.val % 4) + r.val) (128 * (t.val / 4) + d.val) := by
  have ht : t.val < 64 := t.isLt
  rw [at2_val (a := 4096) (b := 2048) _ (by omega) (by omega)]
  blk_ext [iblk, V, idx t]

theorem blk_dg (t : Fin cfg0.N) (r : Fin 1024) (d : Fin 128) :
    iblk m c 5 t (ix2 r d) = at2 (m ((c : Thread nD τ).loc main_arg2)) (1024 * (t.val % 4) + r.val) (128 * (t.val / 4) + d.val) := by
  have ht : t.val < 64 := t.isLt
  rw [at2_val (a := 4096) (b := 2048) _ (by omega) (by omega)]
  blk_ext [iblk, V, idx t]

theorem read_lse (t : Fin cfg0.N) (X : S16x4096x1.Idx → EReal) (r : Fin 1024) :
    (win0_6.blk t).view.read (Elt Ideal) X (ix3 0 r 0) = at31 X (t.val / 4) (1024 * (t.val % 4) + r.val) := by
  have ht : t.val < 64 := t.isLt
  rw [at31_val (a := 16) (b := 4096) _ (by omega) (by omega)]
  blk_ext [idx t]

theorem read_cr (t : Fin cfg0.N) (X : S16x4096x1.Idx → EReal) (r : Fin 1024) :
    (win0_7.blk t).view.read (Elt Ideal) X (ix3 0 r 0) = at31 X (t.val / 4) (1024 * (t.val % 4) + r.val) := by
  have ht : t.val < 64 := t.isLt
  rw [at31_val (a := 16) (b := 4096) _ (by omega) (by omega)]
  blk_ext [idx t]

theorem read_cc (t : Fin cfg0.N) (X : S16x8x512.Idx → EReal) (b : Fin 8) (d : Fin 512) (h : t.val / 4 < 16) :
    (win0_8.blk t).view.read (Elt Ideal) X (ix3 0 b d) = X (ix3 ⟨t.val / 4, h⟩ b d) := by
  have ht : t.val < 64 := t.isLt
  blk_ext [idx t]

theorem blk_lse (t : Fin cfg0.N) (r : Fin 1024) :
    iblk m c 6 t (ix3 0 r 0) = at31 (V m c main_v49) (t.val / 4) (1024 * (t.val % 4) + r.val) :=
  read_lse t _ r

/-- The bias of the rows is the bias. -/
theorem V50 (h : Fin 16) (n : Fin 4096) : V m c main_v50 (ix3 h n 0) = m ((c : Thread nD τ).loc main_arg1) (ix2 h n) := by
  simp only [V, hostOps0, hostOps0_1, hostOps0_2, List.flatten_cons, List.flatten_nil, List.append_nil, List.cons_append, List.nil_append]
  after_reads_simp
  pointwise
  blk_ext

/-- The bias of the columns is the bias, in rows of 512. -/
theorem V51 (h : Fin 16) (b : Fin 8) (d : Fin 512) : V m c main_v51 (ix3 h b d) = at2 (m ((c : Thread nD τ).loc main_arg1)) h.val (512 * b.val + d.val) := by
  rw [at2_val (a := 16) (b := 4096) _ (by omega) (by omega)]
  simp only [V, hostOps0, hostOps0_1, hostOps0_2, List.flatten_cons, List.flatten_nil, List.append_nil, List.cons_append, List.nil_append]
  after_reads_simp
  pointwise
  blk_ext

theorem blk_cr (t : Fin cfg0.N) (r : Fin 1024) :
    iblk m c 7 t (ix3 0 r 0) = at2 (m ((c : Thread nD τ).loc main_arg1)) (t.val / 4) (1024 * (t.val % 4) + r.val) := by
  have ht : t.val < 64 := t.isLt
  rw [at2_val (a := 16) (b := 4096) _ (by omega) (by omega)]
  refine (read_cr t _ r).trans ?_
  rw [at31_val (a := 16) (b := 4096) _ (by omega) (by omega)]
  exact V50 m c _ _

theorem blk_cc (t : Fin cfg0.N) (b : Fin 8) (d : Fin 512) :
    iblk m c 8 t (ix3 0 b d) = at2 (m ((c : Thread nD τ).loc main_arg1)) (t.val / 4) (512 * b.val + d.val) := by
  have ht : t.val < 64 := t.isLt
  exact (read_cc t _ b d (by omega)).trans (V51 m c _ _ _)

/-- What the kernel reads of head `h` in the program's arrays. -/
def headAt (h : ℕ) : Head :=
  headOf (m ((c : Thread nD τ).loc main_arg0)) (m ((c : Thread nD τ).loc main_arg1)) (m ((c : Thread nD τ).loc main_arg2))
    (V m c main_v40) (V m c main_v49) h

/-- The tile of point `t` is a tile of its head. -/
theorem tile_at (t : Fin cfg0.N) (K W : S4096x128.Idx → EReal)
    (hK : ∀ a d, K (ix2 a d) = (headAt m c (t.val / 4)).k a.val d) (hW : ∀ a d, W (ix2 a d) = (headAt m c (t.val / 4)).v a.val d) :
    pointTile ((grid0.coords t) 1).val (iblk m c 0 t) (iblk m c 3 t) (iblk m c 4 t) (iblk m c 5 t) (iblk m c 6 t) (iblk m c 7 t)
      (iblk m c 8 t) K W = (headAt m c (t.val / 4)).tile (t.val % 4) := by
  have ht : t.val < 64 := t.isLt
  have hr : ∀ (X : S4096x8320.Idx → EReal) a o (b : Fin 128), ¬ a < 4096 → at2 X a (o + b.val) = 0 :=
    fun X a o b h => dif_neg fun h' => h h'.1
  have e1 : ∀ r d, k0_pay35 (iblk m c 3 t) (iblk m c 5 t) (ix2 r d) = (headAt m c (t.val / 4)).dob (1024 * (t.val % 4) + r.val) d := by
    intro r d
    rw [dob_apply, sg_apply, blk_g m c t, blk_dg m c t]
    rfl
  unfold pointTile tileOf Head.tile
  refine Tile.mk.injEq .. ▸ ⟨?_, ?_, ?_, ?_, ?_, ?_, ?_, ?_, ?_⟩
  · funext r d
    rw [qs_apply, blk_q m c t]
    rfl
  · funext r d
    exact e1 r d
  · funext r
    rw [ds_apply]
    refine Finset.sum_congr rfl fun d _ => ?_
    rw [e1, blk_o m c t]
    unfold headAt headOf
    dsimp only
  · funext r
    unfold headAt headOf
    dsimp only
    rw [← blk_lse m c t r]
  · funext r
    exact blk_cr m c t r
  · funext a d
    unfold rowAt
    split
    · exact hK _ d
    · exact (hr _ a _ d ‹_›).symm
  · funext a d
    unfold rowAt
    split
    · exact hW _ d
    · exact (hr _ a _ d ‹_›).symm
  · funext a
    unfold colAt
    split
    · rw [blk_cc m c t]
      show _ = at2 _ (t.val / 4) a
      congr 1
      show 512 * (a / 512) + a % 512 = a
      omega
    · rename_i hn
      have hz : at2 (a := 16) (b := 4096) (m ((c : Thread nD τ).loc main_arg1)) (t.val / 4) a = 0 := dif_neg fun h' => hn h'.2
      exact hz.symm
  · exact coord1 t

/-- The keys that a point's block holds. -/
theorem keys_at (t : Fin cfg0.N) (a : Fin 4096) (d : Fin 128) : k0_pay26 (iblk m c 1 t) (ix2 a d) = (headAt m c (t.val / 4)).k a.val d := by
  rw [kb_apply, blk_k m c t]
  rfl

/-- The values that a point's block holds. -/
theorem values_at (t : Fin cfg0.N) (a : Fin 4096) (d : Fin 128) : k0_pay27 (iblk m c 2 t) (ix2 a d) = (headAt m c (t.val / 4)).v a.val d := by
  rw [vb_apply, blk_v m c t]
  rfl

/-- The gate's gradient at a point. -/
theorem dgate_at (t : Fin cfg0.N) (r : Fin 1024) (d : Fin 128) :
    k0_pay33 (iblk m c 3 t) (iblk m c 5 t) (iblk m c 4 t) (ix2 r d) = (headAt m c (t.val / 4)).dgate (1024 * (t.val % 4) + r.val) d := by
  rw [dgate_apply, sg_apply, blk_g m c t, blk_dg m c t, blk_o m c t]
  unfold headAt headOf Head.dgate Head.sg
  dsimp only

end Cert.KernelIdeal.Block
-- ==== Proof.Host.lean ====
module

public import proofs.«01_k».proof.Proof.Reads

/-!
# The saved forward values that the host computes

The masked scores, the attention's output and the rows' log-sum, as terms of the two arguments they are computed from.
-/

@[expose] public section

set_option maxRecDepth 16384

noncomputable section

namespace Cert.KernelIdeal.Block

open Idealize.ShloMosaic Idealize.ShloMosaic.TcCoe Idealize.ShloMosaic.Tactic Cert.KernelIdeal Cert.KernelIdeal.Gen

/-- The projections from column `off`, split into heads. -/
def hCols (P : FVec Ideal S4096x2048 .f32) : FVec Ideal S16x4096x128 .f32 :=
  transpose S16x4096x128 [1, 0, 2] (shapeCast S4096x16x128 P shapeCasts_S4096x2048_S4096x16x128) transposes_S4096x16x128_S16x4096x128_1_0_2

/-- Whether a column lies at or before a row. -/
def hMask : IVec S4096x4096 1 :=
  cmpi .sle (broadcastInDim S4096x4096 ![0, 1] bcast_S1x4096_S4096x4096_0_1 (broadcastInDim S1x4096 ![1] bcast_S4096_S1x4096_1 (iotaInDim S4096 32 0)))
    (broadcastInDim S4096x4096 ![0, 1] bcast_S4096x1_S4096x4096_0_1 (broadcastInDim S4096x1 ![0] bcast_S4096_S4096x1_0 (iotaInDim S4096 32 0)))

/-- The scores. -/
def hZ (P : FVec Ideal S4096x8320 .f32) (B : FVec Ideal S16x4096 .f32) : FVec Ideal S16x4096x4096 .f32 :=
  subf (addf (mulf (Host.dotGeneral dot_S16x4096x128_S16x4096x128_S16x4096x4096_2_2_1_1_0_0 none
        (hCols (extractStridedSlice S4096x2048 ![0, 0] P slices_S4096x8320_S4096x2048_0_0))
        (hCols (extractStridedSlice S4096x2048 ![0, 2048] P slices_S4096x8320_S4096x2048_0_2048)))
      (broadcastInDim S16x4096x4096 ![] bcast_S_S16x4096x4096 (constant S_ .f32 0x3DB504F3#32)))
    (broadcastInDim S16x4096x4096 ![0, 1, 2] bcast_S16x4096x1_S16x4096x4096_0_1_2 (broadcastInDim S16x4096x1 ![0, 1] bcast_S16x4096_S16x4096x1_0_1 B)))
    (broadcastInDim S16x4096x4096 ![0, 1, 2] bcast_S16x1x4096_S16x4096x4096_0_1_2 (broadcastInDim S16x1x4096 ![0, 2] bcast_S16x4096_S16x1x4096_0_2 B))

/-- The scores under the mask. -/
def hA (P : FVec Ideal S4096x8320 .f32) (B : FVec Ideal S16x4096 .f32) : FVec Ideal S16x4096x4096 .f32 :=
  select (broadcastInDim S16x4096x4096 ![1, 2] bcast_S4096x4096_S16x4096x4096_1_2 hMask) (hZ P B)
    (broadcastInDim S16x4096x4096 ![] bcast_S_S16x4096x4096 (constant S_ .f32 0xFF800000#32))

/-- The rows' maxima. -/
def hM (Z : FVec Ideal S16x4096x4096 .f32) : FVec Ideal S16x4096 .f32 :=
  Host.reduce FloatOps.maximumf Z (constant S_ .f32 0xFF800000#32) reducesTo_S16x4096x4096_S16x4096_d2 h_S_

/-- The exponentials of the scores, each less its row's shift. -/
def hE (Z : FVec Ideal S16x4096x4096 .f32) (M : FVec Ideal S16x4096 .f32) : FVec Ideal S16x4096x4096 .f32 :=
  Host.exp (subf Z (broadcastInDim S16x4096x4096 ![0, 1, 2] bcast_S16x4096x1_S16x4096x4096_0_1_2 (broadcastInDim S16x4096x1 ![0, 1] bcast_S16x4096_S16x4096x1_0_1 M)))

/-- The rows' sums of exponentials. -/
def hS (E : FVec Ideal S16x4096x4096 .f32) : FVec Ideal S16x4096x1 .f32 :=
  broadcastInDim S16x4096x1 ![0, 1] bcast_S16x4096_S16x4096x1_0_1 (Host.reduceAdd E (constant S_ .f32 0x00000000#32) reducesTo_S16x4096x4096_S16x4096_d2 h_S_)

/-- The rows' log-sums. -/
def hL (M : FVec Ideal S16x4096 .f32) (S : FVec Ideal S16x4096x1 .f32) : FVec Ideal S16x4096x1 .f32 :=
  addf (broadcastInDim S16x4096x1 ![0, 1] bcast_S16x4096_S16x4096x1_0_1 M) (Host.log S)

/-- The attention's output. -/
def hO (E : FVec Ideal S16x4096x4096 .f32) (S : FVec Ideal S16x4096x1 .f32) (P : FVec Ideal S4096x8320 .f32) : FVec Ideal S4096x2048 .f32 :=
  shapeCast S4096x2048 (transpose S4096x16x128 [1, 0, 2] (Host.dotGeneral dot_S16x4096x4096_S16x4096x128_S16x4096x128_2_1_1_2_0_0 none
    (Host.divf E (broadcastInDim S16x4096x4096 ![0, 1, 2] bcast_S16x4096x1_S16x4096x4096_0_1_2 S))
    (hCols (extractStridedSlice S4096x2048 ![0, 4096] P slices_S4096x8320_S4096x2048_0_4096))) transposes_S16x4096x128_S4096x16x128_1_0_2)
    shapeCasts_S4096x16x128_S4096x2048

/-- The maxima as the softmax takes them, not below −∞. -/
def hTop (W : FVec Ideal S16x4096 .f32) : FVec Ideal S16x4096 .f32 :=
  maximumf (broadcastInDim S16x4096 ![] bcast_S_S16x4096 (constant S_ .f32 0xFF800000#32)) W

variable (m : (ℓ : Loc nD τ sig) → Buf (Elt Ideal) ℓ) (c : Dev nD)

/-- The array of the attention's outputs at the kernel's launch. -/
theorem V40 : V m c main_v40 = hO (hE (hA (m ((c : Thread nD τ).loc main_arg0)) (m ((c : Thread nD τ).loc main_arg1)))
      (hTop (hM (hA (m ((c : Thread nD τ).loc main_arg0)) (m ((c : Thread nD τ).loc main_arg1))))))
    (hS (hE (hA (m ((c : Thread nD τ).loc main_arg0)) (m ((c : Thread nD τ).loc main_arg1)))
      (hTop (hM (hA (m ((c : Thread nD τ).loc main_arg0)) (m ((c : Thread nD τ).loc main_arg1)))))))
    (m ((c : Thread nD τ).loc main_arg0)) := by
  simp only [V, hostOps0, hostOps0_1, hostOps0_2, List.flatten_cons, List.flatten_nil, List.append_nil, List.cons_append, List.nil_append]
  after_reads_simp
  rfl

/-- The array of the rows' log-sums at the kernel's launch. -/
theorem V49 : V m c main_v49 = hL (hM (hA (m ((c : Thread nD τ).loc main_arg0)) (m ((c : Thread nD τ).loc main_arg1))))
    (hS (hE (hA (m ((c : Thread nD τ).loc main_arg0)) (m ((c : Thread nD τ).loc main_arg1)))
      (hM (hA (m ((c : Thread nD τ).loc main_arg0)) (m ((c : Thread nD τ).loc main_arg1)))))) := by
  simp only [V, hostOps0, hostOps0_1, hostOps0_2, List.flatten_cons, List.flatten_nil, List.append_nil, List.cons_append, List.nil_append]
  after_reads_simp
  rfl

theorem hCols_apply (P : FVec Ideal S4096x2048 .f32) (h : Fin 16) (n : Fin 4096) (d : Fin 128) :
    hCols P (ix3 h n d) = at2 P n.val (128 * h.val + d.val) := by
  rw [at2_val (a := 4096) (b := 2048) _ (by omega) (by omega)]
  pointwise [hCols]
  blk_ext

/-- A slice of the projections. -/
theorem hSlice_apply (P : FVec Ideal S4096x8320 .f32) (o : ℕ) (hs : S4096x8320.Slices ![0, o] S4096x2048) (n : Fin 4096) (h : Fin 16)
    (d : Fin 128) (ho : o + 2048 ≤ 8320) :
    at2 (extractStridedSlice S4096x2048 ![0, o] P hs) n.val (128 * h.val + d.val) = at2 P n.val (o + 128 * h.val + d.val) := by
  rw [at2_val (a := 4096) (b := 2048) _ (by omega) (by omega), at2_val (a := 4096) (b := 8320) _ (by omega) (by omega)]
  pointwise
  blk_ext

theorem hMask_apply (n c : Fin 4096) : hMask (ix2 n c) = if c.val ≤ n.val then 1#1 else 0#1 := by
  pointwise [hMask]
  have hr := n.isLt
  have hc := c.isLt
  have key : (BitVec.ofNat 32 c.val).sle (BitVec.ofNat 32 n.val) = decide (c.val ≤ n.val) := by
    rw [BitVec.sle_eq_decide, BitVec.toInt_ofNat', BitVec.toInt_ofNat']
    congr 1
    have h1 : Int.bmod ((c.val : ℕ) : ℤ) (2 ^ 32) = ((c.val : ℕ) : ℤ) := Int.bmod_eq_of_le (by omega) (by omega)
    have h2 : Int.bmod ((n.val : ℕ) : ℤ) (2 ^ 32) = ((n.val : ℕ) : ℤ) := Int.bmod_eq_of_le (by omega) (by omega)
    rw [h1, h2]
    exact propext Int.ofNat_le
  by_cases h : c.val ≤ n.val
  · rw [if_pos h]
    simp [IntOp.cmpi, key, h]
  · rw [if_neg h]
    simp [IntOp.cmpi, key, h]

theorem hZ_apply (P : FVec Ideal S4096x8320 .f32) (B : FVec Ideal S16x4096 .f32) (h : Fin 16) (n c : Fin 4096) :
    hZ P B (ix3 h n c) = (∑ d : Fin 128, at2 P n.val (128 * h.val + d.val) * at2 P c.val (2048 + 128 * h.val + d.val)) * sc
      + at2 B h.val n.val - at2 B h.val c.val := by
  rw [at2_val (a := 16) (b := 4096) B h.isLt n.isLt, at2_val (a := 16) (b := 4096) B h.isLt c.isLt]
  pointwise [hZ]
  congr 3
  refine Finset.sum_congr rfl fun d _ => ?_
  rw [hCols_apply, hCols_apply, hSlice_apply _ 0 _ _ _ _ (by omega), hSlice_apply _ 2048 _ _ _ _ (by omega), Nat.zero_add]

theorem bits_bot : Ideal.ofBits .f32 0xFF800000#32 = ⊥ := by
  simp [Ideal.ofBits, Ideal.ieee]

theorem hA_apply (P : FVec Ideal S4096x8320 .f32) (B : FVec Ideal S16x4096 .f32) (h : Fin 16) (n c : Fin 4096) :
    hA P B (ix3 h n c) = if c.val ≤ n.val then hZ P B (ix3 h n c) else ⊥ := by
  pointwise [hA]
  rw [hMask_apply, bits_bot]
  by_cases h : c.val ≤ n.val
  · rw [if_pos h, if_pos h]
    rfl
  · rw [if_neg h, if_neg h]
    rfl

theorem hE_apply (Z : FVec Ideal S16x4096x4096 .f32) (M : FVec Ideal S16x4096 .f32) (h : Fin 16) (n c : Fin 4096) :
    hE Z M (ix3 h n c) = Ideal.exp (Z (ix3 h n c) - M (ix2 h n)) := by
  pointwise [hE]

theorem hS_apply (E : FVec Ideal S16x4096x4096 .f32) (h : Fin 16) (n : Fin 4096) :
    hS E (ix3 h n 0) = ∑ c : Fin 4096, E (ix3 h n c) := by
  pointwise [hS]

theorem hL_apply (M : FVec Ideal S16x4096 .f32) (S : FVec Ideal S16x4096x1 .f32) (h : Fin 16) (n : Fin 4096) :
    hL M S (ix3 h n 0) = M (ix2 h n) + Ideal.log (S (ix3 h n 0)) := by
  pointwise [hL]

theorem hO_apply (E : FVec Ideal S16x4096x4096 .f32) (S : FVec Ideal S16x4096x1 .f32) (P : FVec Ideal S4096x8320 .f32)
    (n : Fin 4096) (h : Fin 16) (d : Fin 128) :
    at2 (hO E S P) n.val (128 * h.val + d.val)
      = ∑ c : Fin 4096, Ideal.div (E (ix3 h n c)) (S (ix3 h n 0)) * at2 P c.val (4096 + 128 * h.val + d.val) := by
  rw [at2_val (a := 4096) (b := 2048) _ (by omega) (by omega)]
  pointwise [hO]
  refine Finset.sum_congr rfl fun c _ => ?_
  rw [hCols_apply, hSlice_apply _ 4096 _ _ _ _ (by omega)]

theorem hTop_eq (W : FVec Ideal S16x4096 .f32) : hTop W = W := by
  funext j
  show max (Ideal.ofBits .f32 0xFF800000#32) (W j) = W j
  rw [bits_bot]
  exact max_eq_right bot_le

/-- A maximum of entries that are not ∞, of which one is not −∞, is a real number. -/
theorem hM_real (Z : FVec Ideal S16x4096x4096 .f32) (h : Fin 16) (n : Fin 4096) (hlt : ∀ c, Z (ix3 h n c) ≠ ⊤)
    (hgt : Z (ix3 h n n) ≠ ⊥) : ∃ r : ℝ, hM Z (ix2 h n) = r := by
  have hred : S16x4096x4096.Reduces [2] S16x4096 := by decide +kernel
  have e : hM Z (ix2 h n) = (Finset.univ : Finset (Fin 4096)).fold max (⊥ : EReal) fun c => Z (ix3 h n c) := by
    unfold hM
    refine (Host.reduce_eq_fold_single (max : EReal → EReal → EReal) Z _ reducesTo_S16x4096x4096_S16x4096_d2 hred h_S_ _).trans ?_
    show Finset.fold max (Ideal.ofBits .f32 0xFF800000#32) _ (Finset.univ : Finset (Fin 4096)) = _
    rw [bits_bot]
    congr 1
    funext k
    show Z _ = Z _
    congr 1
    funext a
    fin_cases a <;> rfl
  have h1 : hM Z (ix2 h n) ≠ ⊤ := by
    rw [e]
    refine ne_of_lt ((Finset.fold_max_lt _).mpr ⟨bot_lt_top, fun c _ => lt_of_le_of_ne le_top (hlt c)⟩)
  have h2 : hM Z (ix2 h n) ≠ ⊥ := by
    rw [e]
    refine ne_of_gt ((Finset.lt_fold_max _).mpr (Or.inr ⟨n, Finset.mem_univ _, bot_lt_iff_ne_bot.mpr hgt⟩))
  exact ⟨_, (EReal.coe_toReal h1 h2).symm⟩

end Cert.KernelIdeal.Block
-- ==== Proof.Real.lean ====
module

public import proofs.«01_k».proof.Proof.Host

/-!
# One head over the real numbers

`RHead` holds one head's finite inputs; its functions are the attention's forward and backward quantities. The softmax may be
taken with any shift of the scores: the shift cancels.
-/

@[expose] public section

set_option maxRecDepth 16384

noncomputable section

namespace Cert.KernelIdeal.Block

open Idealize.ShloMosaic Idealize.ShloMosaic.TcCoe Idealize.ShloMosaic.Tactic Cert.KernelIdeal Cert.KernelIdeal.Gen

/-- A sum of real numbers is their sum among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A quotient by a number that is not zero. -/
theorem div_real (x : ℝ) {y : ℝ} (h : y ≠ 0) : Ideal.div (x : EReal) (y : EReal) = ((x / y : ℝ) : EReal) := by
  rw [Ideal.div_coe h, ← EReal.coe_mul]
  congr 1
  ring

/-- One head's inputs: queries, keys, values, gate, the gradient that comes in, the cumulated forget bias, and the scale. -/
structure RHead where
  q : Fin 4096 → Fin 128 → ℝ
  k : Fin 4096 → Fin 128 → ℝ
  v : Fin 4096 → Fin 128 → ℝ
  g : Fin 4096 → Fin 128 → ℝ
  dg : Fin 4096 → Fin 128 → ℝ
  b : Fin 4096 → ℝ
  s : ℝ

namespace RHead

variable (R : RHead)

/-- The score of row `n` against column `c`. -/
def z (n c : Fin 4096) : ℝ := (∑ d, R.q n d * R.k c d) * R.s + R.b n - R.b c

/-- The weight of column `c` in row `n`: nothing after the row. -/
def w (n c : Fin 4096) : ℝ := if c.val ≤ n.val then Real.exp (R.z n c) else 0

/-- The sum of a row's weights. -/
def S (n : Fin 4096) : ℝ := ∑ c, R.w n c

/-- The probability of column `c` in row `n`. -/
def p (n c : Fin 4096) : ℝ := R.w n c / R.S n

/-- The attention's output. -/
def o (n : Fin 4096) (d : Fin 128) : ℝ := ∑ c, R.p n c * R.v c d

/-- The gate's sigmoid. -/
def sg (n : Fin 4096) (d : Fin 128) : ℝ := 1 / (1 + Real.exp (-R.g n d))

/-- The gradient of the attention's output. -/
def dob (n : Fin 4096) (d : Fin 128) : ℝ := R.dg n d * (R.g n d * R.sg n d)

/-- The gradient of the probabilities. -/
def G (n c : Fin 4096) : ℝ := ∑ d, R.dob n d * R.v c d

/-- The sum that the softmax's gradient subtracts. -/
def ds (n : Fin 4096) : ℝ := ∑ d, R.dob n d * R.o n d

/-- The gradient of the scores. -/
def dz (n c : Fin 4096) : ℝ := R.p n c * (R.G n c - R.ds n)

/-- The gradient of the gate. -/
def dgate (n : Fin 4096) (d : Fin 128) : ℝ := R.dg n d * R.o n d * (R.sg n d * (1 + R.g n d * (1 - R.sg n d)))

theorem w_nonneg (n c : Fin 4096) : 0 ≤ R.w n c := by
  unfold w
  split
  · exact (Real.exp_pos _).le
  · exact le_refl _

theorem S_pos (n : Fin 4096) : 0 < R.S n := by
  refine Finset.sum_pos' (fun c _ => R.w_nonneg n c) ⟨n, Finset.mem_univ _, ?_⟩
  unfold w
  rw [if_pos (le_refl _)]
  exact Real.exp_pos _

theorem S_ne (n : Fin 4096) : R.S n ≠ 0 := (R.S_pos n).ne'

theorem one_add_exp_ne (x : ℝ) : 1 + Real.exp x ≠ 0 := (add_pos one_pos (Real.exp_pos x)).ne'

/-- The sum that the softmax's gradient subtracts is the mean of the probabilities' gradient. -/
theorem ds_eq (n : Fin 4096) : R.ds n = ∑ c, R.p n c * R.G n c := by
  unfold ds o G
  simp only [Finset.mul_sum]
  rw [Finset.sum_comm]
  refine Finset.sum_congr rfl fun c _ => Finset.sum_congr rfl fun d _ => ?_
  ring

/-- A weight under the shift `μ`. -/
def e (μ : ℝ) (n c : Fin 4096) : ℝ := R.w n c * Real.exp (-μ)

theorem sum_e (μ : ℝ) (n : Fin 4096) : ∑ c, R.e μ n c = R.S n * Real.exp (-μ) := by
  unfold e S
  rw [Finset.sum_mul]

theorem shift_pos (μ : ℝ) (n : Fin 4096) : 0 < R.S n * Real.exp (-μ) := mul_pos (R.S_pos n) (Real.exp_pos _)

/-- The shift cancels in a probability. -/
theorem p_shift (μ : ℝ) (n c : Fin 4096) : R.e μ n c / (R.S n * Real.exp (-μ)) = R.p n c := by
  unfold e p
  exact mul_div_mul_right _ _ (Real.exp_pos _).ne'

/-- The shift cancels in a row's log-sum. -/
theorem log_shift (μ : ℝ) (n : Fin 4096) : μ + Real.log (R.S n * Real.exp (-μ)) = Real.log (R.S n) := by
  rw [Real.log_mul (R.S_ne n) (Real.exp_pos _).ne', Real.log_exp]
  ring

/-- The softmax's gradient as it is derived from the quotient of the weights by their sum. -/
theorem dz_shift (μ : ℝ) (n c : Fin 4096) :
    (R.G n c / (R.S n * Real.exp (-μ))
        + -(∑ x, R.G n x * (1 / ((R.S n * Real.exp (-μ)) * (R.S n * Real.exp (-μ)))) * R.e μ n x)) * R.e μ n c = R.dz n c := by
  have hT := (R.shift_pos μ n).ne'
  have h1 : ∀ x, R.G n x * (1 / ((R.S n * Real.exp (-μ)) * (R.S n * Real.exp (-μ)))) * R.e μ n x
      = (R.p n x * R.G n x) * (1 / (R.S n * Real.exp (-μ))) := by
    intro x
    rw [← R.p_shift μ n x]
    field_simp
  simp only [h1]
  rw [← Finset.sum_mul, ← R.ds_eq]
  unfold dz
  rw [← R.p_shift μ n c]
  field_simp
  ring

/-- No gradient goes to a masked score. -/
theorem dz_masked (n c : Fin 4096) (h : ¬c.val ≤ n.val) : R.dz n c = 0 := by
  unfold dz p w
  rw [if_neg h, zero_div, zero_mul]

end RHead

/-- The exponential of a masked score under a shift. -/
theorem exp_masked (R : RHead) (μ : ℝ) (n c : Fin 4096) :
    Ideal.exp ((if c.val ≤ n.val then (R.z n c : EReal) else ⊥) - (μ : EReal)) = (R.e μ n c : EReal) := by
  unfold RHead.e RHead.w
  by_cases h : c.val ≤ n.val
  · rw [if_pos h, if_pos h, ← EReal.coe_sub, Ideal.exp_coe, sub_eq_add_neg, Real.exp_add]
  · rw [if_neg h, if_neg h, EReal.bot_sub, Ideal.exp_bot, zero_mul]
    rfl

/-- The scale is a real number. -/
theorem sc_real : ∃ r : ℝ, sc = r := by
  refine ⟨11863283 * (2 ^ 27)⁻¹, ?_⟩
  simp [sc, Ideal.ofBits, Ideal.ieee]

/-- One head of finite arrays. -/
def realHead (P : S4096x8320.Idx → ℝ) (B : S16x4096.Idx → ℝ) (D : S4096x2048.Idx → ℝ) (s : ℝ) (h : Fin 16) : RHead where
  q n d := P (ix2 n ⟨128 * h.val + d.val, by omega⟩)
  k n d := P (ix2 n ⟨2048 + 128 * h.val + d.val, by omega⟩)
  v n d := P (ix2 n ⟨4096 + 128 * h.val + d.val, by omega⟩)
  g n d := P (ix2 n ⟨6144 + 128 * h.val + d.val, by omega⟩)
  dg n d := D (ix2 n ⟨128 * h.val + d.val, by omega⟩)
  b n := B (ix2 h n)
  s := s

end Cert.KernelIdeal.Block
-- ==== Proof.PointA.lean ====
module

public import proofs.«01_k».proof.Proof.Point

/-!
# What the first grid point of a head leaves

The point stores the keys and the values, and starts the accumulators at zero.
-/

@[expose] public section

set_option maxRecDepth 16384

noncomputable section

namespace Cert.KernelIdeal.Block

open Idealize.ShloMosaic Idealize.ShloMosaic.TcCoe Idealize.ShloMosaic.Tactic Cert.KernelIdeal Cert.KernelIdeal.Gen

section CaseA

variable (c : Dev nD) (i : grid0.Coords)
  (arg2 : Memref sig .tc .vmem S1024x128 .f32) (harg2 : arg2.IsWhole)
  (arg3 : Memref sig .tc .vmem S4096x128 .f32) (harg3 : arg3.IsWhole)
  (arg4 : Memref sig .tc .vmem S4096x128 .f32) (harg4 : arg4.IsWhole)
  (arg5 : Memref sig .tc .vmem S1024x128 .f32) (harg5 : arg5.IsWhole)
  (arg6 : Memref sig .tc .vmem S1024x128 .f32) (harg6 : arg6.IsWhole)
  (arg7 : Memref sig .tc .vmem S1024x128 .f32) (harg7 : arg7.IsWhole)
  (arg8 : Memref sig .tc .vmem S1x1024x1 .f32) (harg8 : arg8.IsWhole)
  (arg9 : Memref sig .tc .vmem S1x1024x1 .f32) (harg9 : arg9.IsWhole)
  (arg10 : Memref sig .tc .vmem S1x8x512 .f32) (harg10 : arg10.IsWhole)
  (arg11 : Memref sig .tc .vmem S1024x128 .f32) (harg11 : arg11.IsWhole)
  (arg12 : Memref sig .tc .vmem S4096x128 .f32) (harg12 : arg12.IsWhole)
  (arg13 : Memref sig .tc .vmem S4096x128 .f32) (harg13 : arg13.IsWhole)
  (arg14 : Memref sig .tc .vmem S1024x128 .bf16) (harg14 : arg14.IsWhole)
  (arg15 : Memref sig .tc .vmem S1x8x512 .f32) (harg15 : arg15.IsWhole)
  (arg16 : Memref sig .tc .vmem S1x1024x1 .f32) (harg16 : arg16.IsWhole)
  (arg17 : Memref sig .tc .vmem S4096x128 .bf16) (harg17 : arg17.IsWhole)
  (arg18 : Memref sig .tc .vmem S4096x128 .bf16) (harg18 : arg18.IsWhole)
  (x0 : Vec Ideal S1024x128 .f32) (x1 x2 : Vec Ideal S4096x128 .f32) (x3 x4 x5 : Vec Ideal S1024x128 .f32)
  (x6 x7 : Vec Ideal S1x1024x1 .f32) (x8 : Vec Ideal S1x8x512 .f32)
  (hc0 : cond0_0 i)

/-- The tile that the point's words name. -/
theorem tileA_eq : loopTile i arg10 arg17 arg18 (k0_pay31 (ld2 harg2 x0)) (k0_pay35 (ld2 harg5 x3) (ld2 harg7 x5))
      (k0_pay36 (ld2 harg5 x3) (ld2 harg7 x5) (ld2 harg6 x4)) (ld3 harg8 x6) (ld3 harg9 x7)
      (harg10.unread x8) (arg17.view.writes (Elt Ideal) arg17.view.junk [⟨Rect.unit (s := S4096x128) ![0, 0] S4096x128.size inb_S4096x128_S4096x128_0_0, k0_pay26 (ld2 harg3 x1)⟩]) (arg18.view.writes (Elt Ideal) arg18.view.junk [⟨Rect.unit (s := S4096x128) ![0, 0] S4096x128.size inb_S4096x128_S4096x128_0_0, k0_pay27 (ld2 harg4 x2)⟩])
    = (pointTile (i 1).val x0 x3 x4 x5 x6 x7 x8 (k0_pay26 x1) (k0_pay27 x2)) := by
  unfold loopTile pointTile
  rw [ld2_eq harg2, ld2_eq harg5, ld2_eq harg6, ld2_eq harg7, ld3_eq harg8, ld3_eq harg9,
    ld2_eq harg3, ld2_eq harg4,
    harg10.read_unread, read_store_whole arg17.view _ off2, read_store_whole arg18.view _ off2]

/-- The gradient of the queries. -/
theorem outA_dq (r : Fin 1024) (d : Fin 128) :
    out0_A_9 c i _ harg2 _ harg3 _ harg4 _ harg5 _ harg6 _ harg7 _ harg8 _ harg9 _ harg10 _ harg11 _ harg12 _ harg13 _ harg14
      _ harg15 _ harg16 _ harg17 _ harg18 hc0 x0 x1 x2 x3 x4 x5 x6 x7 x8 (ix2 r d)
      = (∑ x ∈ Finset.range 4096, (pointTile (i 1).val x0 x3 x4 x5 x6 x7 x8 (k0_pay26 x1) (k0_pay27 x2)).dz r x * (pointTile (i 1).val x0 x3 x4 x5 x6 x7 x8 (k0_pay26 x1) (k0_pay27 x2)).K x d) * Ideal.ofBits .f32 0x3DB504F3#32 := by
  have h := point_row Variants.none c none i _ harg2 _ harg3 _ harg4 _ harg5 _ harg6 _ harg7 _ harg8 _ harg9 _ harg10 _ harg11 _ harg12 _ harg13 _ harg14
      _ harg15 _ harg16 _ harg17 _ harg18
      (BitVec.ofNat 32 (i 1).val) (k0_pay31 (ld2 harg2 x0)) (k0_pay35 (ld2 harg5 x3) (ld2 harg7 x5))
      (k0_pay36 (ld2 harg5 x3) (ld2 harg7 x5) (ld2 harg6 x4)) (ld3 harg8 x6) (ld3 harg9 x7)
      (harg10.unread x8) (arg17.view.writes (Elt Ideal) arg17.view.junk [⟨Rect.unit (s := S4096x128) ![0, 0] S4096x128.size inb_S4096x128_S4096x128_0_0, k0_pay26 (ld2 harg3 x1)⟩]) (arg18.view.writes (Elt Ideal) arg18.view.junk [⟨Rect.unit (s := S4096x128) ![0, 0] S4096x128.size inb_S4096x128_S4096x128_0_0, k0_pay27 (ld2 harg4 x2)⟩])
      (arg12.view.writes (Elt Ideal) arg12.view.junk [⟨Rect.unit (s := S4096x128) ![0, 0] S4096x128.size inb_S4096x128_S4096x128_0_0, k0_pay28 (F := Ideal)⟩]) (arg13.view.writes (Elt Ideal) arg13.view.junk [⟨Rect.unit (s := S4096x128) ![0, 0] S4096x128.size inb_S4096x128_S4096x128_0_0, k0_pay29 (F := Ideal)⟩]) (arg15.view.writes (Elt Ideal) arg15.view.junk [⟨Rect.unit (s := S1x8x512) ![0, 0, 0] S1x8x512.size inb_S1x8x512_S1x8x512_0_0_0, k0_pay30 (F := Ideal)⟩]) rfl r d
  rw [tileA_eq] at h
  refine Eq.trans ?_ (congrArg (· * Ideal.ofBits .f32 0x3DB504F3#32) h)
  unfold out0_A_9 kernelRun0_A
  dsimp only
  refine (congrFun (read_store_whole VO0_9 _ off2 inb_S1024x128_S1024x128_0_0 _) (ix2 r d)).trans ?_
  rw [rowScaled_apply]
  unfold kernelRun0_A.sl.r_12 kernelRun0_A.sl.r_6
  rw [trips2_eq]
  rfl

/-- The gradient of the rows' bias. -/
theorem outA_cr (r : Fin 1024) :
    out0_A_14 c i _ harg2 _ harg3 _ harg4 _ harg5 _ harg6 _ harg7 _ harg8 _ harg9 _ harg10 _ harg11 _ harg12 _ harg13 _ harg14
      _ harg15 _ harg16 _ harg17 _ harg18 hc0 x0 x1 x2 x3 x4 x5 x6 x7 x8 (ix3 0 r 0) = ∑ x ∈ Finset.range 4096, (pointTile (i 1).val x0 x3 x4 x5 x6 x7 x8 (k0_pay26 x1) (k0_pay27 x2)).dz r x := by
  have h := point_cr Variants.none c none i _ harg2 _ harg3 _ harg4 _ harg5 _ harg6 _ harg7 _ harg8 _ harg9 _ harg10 _ harg11 _ harg12 _ harg13 _ harg14
      _ harg15 _ harg16 _ harg17 _ harg18
      (BitVec.ofNat 32 (i 1).val) (k0_pay31 (ld2 harg2 x0)) (k0_pay35 (ld2 harg5 x3) (ld2 harg7 x5))
      (k0_pay36 (ld2 harg5 x3) (ld2 harg7 x5) (ld2 harg6 x4)) (ld3 harg8 x6) (ld3 harg9 x7)
      (harg10.unread x8) (arg17.view.writes (Elt Ideal) arg17.view.junk [⟨Rect.unit (s := S4096x128) ![0, 0] S4096x128.size inb_S4096x128_S4096x128_0_0, k0_pay26 (ld2 harg3 x1)⟩]) (arg18.view.writes (Elt Ideal) arg18.view.junk [⟨Rect.unit (s := S4096x128) ![0, 0] S4096x128.size inb_S4096x128_S4096x128_0_0, k0_pay27 (ld2 harg4 x2)⟩])
      (arg12.view.writes (Elt Ideal) arg12.view.junk [⟨Rect.unit (s := S4096x128) ![0, 0] S4096x128.size inb_S4096x128_S4096x128_0_0, k0_pay28 (F := Ideal)⟩]) (arg13.view.writes (Elt Ideal) arg13.view.junk [⟨Rect.unit (s := S4096x128) ![0, 0] S4096x128.size inb_S4096x128_S4096x128_0_0, k0_pay29 (F := Ideal)⟩]) (arg15.view.writes (Elt Ideal) arg15.view.junk [⟨Rect.unit (s := S1x8x512) ![0, 0, 0] S1x8x512.size inb_S1x8x512_S1x8x512_0_0_0, k0_pay30 (F := Ideal)⟩]) rfl r
  rw [tileA_eq] at h
  refine Eq.trans ?_ h
  unfold out0_A_14 kernelRun0_A
  dsimp only
  refine (congrFun (read_store_whole VO0_14 _ off3 inb_S1x1024x1_S1x1024x1_0_0_0 _) (ix3 0 r 0)).trans ?_
  rw [dcr_apply]
  unfold kernelRun0_A.sl.r_16 kernelRun0_A.sl.r_11 kernelRun0_A.sl.r_7
  rw [trips2_eq]
  rfl

/-- The gradient of the gate. -/
theorem outA_dgate :
    out0_A_12 c i _ harg2 _ harg3 _ harg4 _ harg5 _ harg6 _ harg7 _ harg8 _ harg9 _ harg10 _ harg11 _ harg12 _ harg13 _ harg14
      _ harg15 _ harg16 _ harg17 _ harg18 hc0 x0 x1 x2 x3 x4 x5 x6 x7 x8 = k0_pay33 x3 x5 x4 := by
  unfold out0_A_12 kernelRun0_A
  dsimp only
  unfold kernelRun0_A.sl.H12_1
  refine (read_store_whole VO0_12 _ off2 inb_S1024x128_S1024x128_0_0 _).trans ?_
  rw [load_whole harg5 x3 off2 inb_S1024x128_S1024x128_0_0,
    load_whole harg6 x4 off2 inb_S1024x128_S1024x128_0_0, load_whole harg7 x5 off2 inb_S1024x128_S1024x128_0_0]

/-- The keys' gradient. -/
theorem outA_dk (a : Fin 4096) (d : Fin 128) :
    out0_A_10 c i _ harg2 _ harg3 _ harg4 _ harg5 _ harg6 _ harg7 _ harg8 _ harg9 _ harg10 _ harg11 _ harg12 _ harg13 _ harg14
      _ harg15 _ harg16 _ harg17 _ harg18 hc0 x0 x1 x2 x3 x4 x5 x6 x7 x8 (ix2 a d)
      = 0 + ∑ r, (pointTile (i 1).val x0 x3 x4 x5 x6 x7 x8 (k0_pay26 x1) (k0_pay27 x2)).dz r a.val * (pointTile (i 1).val x0 x3 x4 x5 x6 x7 x8 (k0_pay26 x1) (k0_pay27 x2)).qs r d := by
  have h := point_dk Variants.none c none i _ harg2 _ harg3 _ harg4 _ harg5 _ harg6 _ harg7 _ harg8 _ harg9 _ harg10 _ harg11 _ harg12 _ harg13 _ harg14
      _ harg15 _ harg16 _ harg17 _ harg18
      (BitVec.ofNat 32 (i 1).val) (k0_pay31 (ld2 harg2 x0)) (k0_pay35 (ld2 harg5 x3) (ld2 harg7 x5))
      (k0_pay36 (ld2 harg5 x3) (ld2 harg7 x5) (ld2 harg6 x4)) (ld3 harg8 x6) (ld3 harg9 x7)
      (harg10.unread x8) (arg17.view.writes (Elt Ideal) arg17.view.junk [⟨Rect.unit (s := S4096x128) ![0, 0] S4096x128.size inb_S4096x128_S4096x128_0_0, k0_pay26 (ld2 harg3 x1)⟩]) (arg18.view.writes (Elt Ideal) arg18.view.junk [⟨Rect.unit (s := S4096x128) ![0, 0] S4096x128.size inb_S4096x128_S4096x128_0_0, k0_pay27 (ld2 harg4 x2)⟩])
      (arg12.view.writes (Elt Ideal) arg12.view.junk [⟨Rect.unit (s := S4096x128) ![0, 0] S4096x128.size inb_S4096x128_S4096x128_0_0, k0_pay28 (F := Ideal)⟩]) (arg13.view.writes (Elt Ideal) arg13.view.junk [⟨Rect.unit (s := S4096x128) ![0, 0] S4096x128.size inb_S4096x128_S4096x128_0_0, k0_pay29 (F := Ideal)⟩]) (arg15.view.writes (Elt Ideal) arg15.view.junk [⟨Rect.unit (s := S1x8x512) ![0, 0, 0] S1x8x512.size inb_S1x8x512_S1x8x512_0_0_0, k0_pay30 (F := Ideal)⟩]) rfl a d
  rw [tileA_eq, read_store_whole arg12.view _ off2, zero28_apply] at h
  simp only [← View.writes_append] at h
  refine Eq.trans ?_ h
  have hcov := cover0_A_10 c i _ harg2 _ harg3 _ harg4 _ harg5 _ harg6 _ harg7 _ harg8 _ harg9 _ harg10 _ harg11 _ harg12 _ harg13 _ harg14
      _ harg15 _ harg16 _ harg17 _ harg18 hc0 x0 x1 x2 x3 x4 x5 x6 x7 x8
  unfold out0_A_10
  rw [View.read_writes_eq_canon VO0_10 _ _ hcov, ← View.read_writes_eq_canon arg12.view arg12.view.junk _ hcov]
  unfold kernelRun0_A
  dsimp only
  unfold kernelRun0_A.sl.v163 kernelRun0_A.sl.H10_1_1 kernelRun0_A.sl.v102
  rw [trips2_eq]
  rfl

/-- The values' gradient. -/
theorem outA_dv (a : Fin 4096) (d : Fin 128) :
    out0_A_11 c i _ harg2 _ harg3 _ harg4 _ harg5 _ harg6 _ harg7 _ harg8 _ harg9 _ harg10 _ harg11 _ harg12 _ harg13 _ harg14
      _ harg15 _ harg16 _ harg17 _ harg18 hc0 x0 x1 x2 x3 x4 x5 x6 x7 x8 (ix2 a d)
      = 0 + ∑ r, (pointTile (i 1).val x0 x3 x4 x5 x6 x7 x8 (k0_pay26 x1) (k0_pay27 x2)).p r a.val * (pointTile (i 1).val x0 x3 x4 x5 x6 x7 x8 (k0_pay26 x1) (k0_pay27 x2)).dob r d := by
  have h := point_dv Variants.none c none i _ harg2 _ harg3 _ harg4 _ harg5 _ harg6 _ harg7 _ harg8 _ harg9 _ harg10 _ harg11 _ harg12 _ harg13 _ harg14
      _ harg15 _ harg16 _ harg17 _ harg18
      (BitVec.ofNat 32 (i 1).val) (k0_pay31 (ld2 harg2 x0)) (k0_pay35 (ld2 harg5 x3) (ld2 harg7 x5))
      (k0_pay36 (ld2 harg5 x3) (ld2 harg7 x5) (ld2 harg6 x4)) (ld3 harg8 x6) (ld3 harg9 x7)
      (harg10.unread x8) (arg17.view.writes (Elt Ideal) arg17.view.junk [⟨Rect.unit (s := S4096x128) ![0, 0] S4096x128.size inb_S4096x128_S4096x128_0_0, k0_pay26 (ld2 harg3 x1)⟩]) (arg18.view.writes (Elt Ideal) arg18.view.junk [⟨Rect.unit (s := S4096x128) ![0, 0] S4096x128.size inb_S4096x128_S4096x128_0_0, k0_pay27 (ld2 harg4 x2)⟩])
      (arg12.view.writes (Elt Ideal) arg12.view.junk [⟨Rect.unit (s := S4096x128) ![0, 0] S4096x128.size inb_S4096x128_S4096x128_0_0, k0_pay28 (F := Ideal)⟩]) (arg13.view.writes (Elt Ideal) arg13.view.junk [⟨Rect.unit (s := S4096x128) ![0, 0] S4096x128.size inb_S4096x128_S4096x128_0_0, k0_pay29 (F := Ideal)⟩]) (arg15.view.writes (Elt Ideal) arg15.view.junk [⟨Rect.unit (s := S1x8x512) ![0, 0, 0] S1x8x512.size inb_S1x8x512_S1x8x512_0_0_0, k0_pay30 (F := Ideal)⟩]) rfl a d
  rw [tileA_eq, read_store_whole arg13.view _ off2, zero29_apply] at h
  simp only [← View.writes_append] at h
  refine Eq.trans ?_ h
  have hcov := cover0_A_11 c i _ harg2 _ harg3 _ harg4 _ harg5 _ harg6 _ harg7 _ harg8 _ harg9 _ harg10 _ harg11 _ harg12 _ harg13 _ harg14
      _ harg15 _ harg16 _ harg17 _ harg18 hc0 x0 x1 x2 x3 x4 x5 x6 x7 x8
  unfold out0_A_11
  rw [View.read_writes_eq_canon VO0_11 _ _ hcov, ← View.read_writes_eq_canon arg13.view arg13.view.junk _ hcov]
  unfold kernelRun0_A
  dsimp only
  unfold kernelRun0_A.sl.v170 kernelRun0_A.sl.H11_1_1 kernelRun0_A.sl.v109
  rw [trips2_eq]
  rfl

/-- The gradient of the columns' bias. -/
theorem outA_cc (a : Fin 8) (d : Fin 512) :
    out0_A_13 c i _ harg2 _ harg3 _ harg4 _ harg5 _ harg6 _ harg7 _ harg8 _ harg9 _ harg10 _ harg11 _ harg12 _ harg13 _ harg14
      _ harg15 _ harg16 _ harg17 _ harg18 hc0 x0 x1 x2 x3 x4 x5 x6 x7 x8 (ix3 0 a d)
      = 0 - ∑ r, (pointTile (i 1).val x0 x3 x4 x5 x6 x7 x8 (k0_pay26 x1) (k0_pay27 x2)).dz r (512 * a.val + d.val) := by
  have h := point_cc Variants.none c none i _ harg2 _ harg3 _ harg4 _ harg5 _ harg6 _ harg7 _ harg8 _ harg9 _ harg10 _ harg11 _ harg12 _ harg13 _ harg14
      _ harg15 _ harg16 _ harg17 _ harg18
      (BitVec.ofNat 32 (i 1).val) (k0_pay31 (ld2 harg2 x0)) (k0_pay35 (ld2 harg5 x3) (ld2 harg7 x5))
      (k0_pay36 (ld2 harg5 x3) (ld2 harg7 x5) (ld2 harg6 x4)) (ld3 harg8 x6) (ld3 harg9 x7)
      (harg10.unread x8) (arg17.view.writes (Elt Ideal) arg17.view.junk [⟨Rect.unit (s := S4096x128) ![0, 0] S4096x128.size inb_S4096x128_S4096x128_0_0, k0_pay26 (ld2 harg3 x1)⟩]) (arg18.view.writes (Elt Ideal) arg18.view.junk [⟨Rect.unit (s := S4096x128) ![0, 0] S4096x128.size inb_S4096x128_S4096x128_0_0, k0_pay27 (ld2 harg4 x2)⟩])
      (arg12.view.writes (Elt Ideal) arg12.view.junk [⟨Rect.unit (s := S4096x128) ![0, 0] S4096x128.size inb_S4096x128_S4096x128_0_0, k0_pay28 (F := Ideal)⟩]) (arg13.view.writes (Elt Ideal) arg13.view.junk [⟨Rect.unit (s := S4096x128) ![0, 0] S4096x128.size inb_S4096x128_S4096x128_0_0, k0_pay29 (F := Ideal)⟩]) (arg15.view.writes (Elt Ideal) arg15.view.junk [⟨Rect.unit (s := S1x8x512) ![0, 0, 0] S1x8x512.size inb_S1x8x512_S1x8x512_0_0_0, k0_pay30 (F := Ideal)⟩]) rfl a d
  rw [tileA_eq, read_store_whole arg15.view _ off3, zero30_apply] at h
  simp only [← View.writes_append] at h
  refine Eq.trans ?_ h
  have hcov := cover0_A_13 c i _ harg2 _ harg3 _ harg4 _ harg5 _ harg6 _ harg7 _ harg8 _ harg9 _ harg10 _ harg11 _ harg12 _ harg13 _ harg14
      _ harg15 _ harg16 _ harg17 _ harg18 hc0 x0 x1 x2 x3 x4 x5 x6 x7 x8
  unfold out0_A_13
  rw [View.read_writes_eq_canon VO0_13 _ _ hcov, ← View.read_writes_eq_canon arg15.view arg15.view.junk _ hcov]
  unfold kernelRun0_A
  dsimp only
  unfold kernelRun0_A.sl.v178 kernelRun0_A.sl.H13_1_1 kernelRun0_A.sl.v117
  rw [trips2_eq]
  rfl

/-- The keys that the point keeps. -/
theorem soutA_k : sout0_A_0 c i _ harg2 _ harg3 _ harg4 _ harg5 _ harg6 _ harg7 _ harg8 _ harg9 _ harg10 _ harg11 _ harg12 _ harg13 _ harg14
      _ harg15 _ harg16 _ harg17 _ harg18 hc0 x0 x1 x2 x3 x4 x5 x6 x7 x8 = k0_pay26 x1 := by
  unfold sout0_A_0 kernelRun0_A
  dsimp only
  unfold kernelRun0_A.sl.HS0_1
  refine (read_store_whole VS0_0 _ off2 inb_S4096x128_S4096x128_0_0 _).trans ?_
  rw [load_whole harg3 x1 off2 inb_S4096x128_S4096x128_0_0]

/-- The values that the point keeps. -/
theorem soutA_v : sout0_A_1 c i _ harg2 _ harg3 _ harg4 _ harg5 _ harg6 _ harg7 _ harg8 _ harg9 _ harg10 _ harg11 _ harg12 _ harg13 _ harg14
      _ harg15 _ harg16 _ harg17 _ harg18 hc0 x0 x1 x2 x3 x4 x5 x6 x7 x8 = k0_pay27 x2 := by
  unfold sout0_A_1 kernelRun0_A
  dsimp only
  unfold kernelRun0_A.sl.HS1_1
  refine (read_store_whole VS0_1 _ off2 inb_S4096x128_S4096x128_0_0 _).trans ?_
  rw [load_whole harg4 x2 off2 inb_S4096x128_S4096x128_0_0]

end CaseA

end Cert.KernelIdeal.Block
-- ==== Proof.PointB.lean ====
module

public import proofs.«01_k».proof.Proof.Point

/-!
# What a grid point after the first of its head leaves

The accumulators hold what the point before left, and the keys and values are the ones kept.
-/

@[expose] public section

set_option maxRecDepth 16384

noncomputable section

namespace Cert.KernelIdeal.Block

open Idealize.ShloMosaic Idealize.ShloMosaic.TcCoe Idealize.ShloMosaic.Tactic Cert.KernelIdeal Cert.KernelIdeal.Gen

section CaseB

variable (c : Dev nD) (i : grid0.Coords)
  (arg2 : Memref sig .tc .vmem S1024x128 .f32) (harg2 : arg2.IsWhole)
  (arg3 : Memref sig .tc .vmem S4096x128 .f32) (harg3 : arg3.IsWhole)
  (arg4 : Memref sig .tc .vmem S4096x128 .f32) (harg4 : arg4.IsWhole)
  (arg5 : Memref sig .tc .vmem S1024x128 .f32) (harg5 : arg5.IsWhole)
  (arg6 : Memref sig .tc .vmem S1024x128 .f32) (harg6 : arg6.IsWhole)
  (arg7 : Memref sig .tc .vmem S1024x128 .f32) (harg7 : arg7.IsWhole)
  (arg8 : Memref sig .tc .vmem S1x1024x1 .f32) (harg8 : arg8.IsWhole)
  (arg9 : Memref sig .tc .vmem S1x1024x1 .f32) (harg9 : arg9.IsWhole)
  (arg10 : Memref sig .tc .vmem S1x8x512 .f32) (harg10 : arg10.IsWhole)
  (arg11 : Memref sig .tc .vmem S1024x128 .f32) (harg11 : arg11.IsWhole)
  (arg12 : Memref sig .tc .vmem S4096x128 .f32) (harg12 : arg12.IsWhole)
  (arg13 : Memref sig .tc .vmem S4096x128 .f32) (harg13 : arg13.IsWhole)
  (arg14 : Memref sig .tc .vmem S1024x128 .bf16) (harg14 : arg14.IsWhole)
  (arg15 : Memref sig .tc .vmem S1x8x512 .f32) (harg15 : arg15.IsWhole)
  (arg16 : Memref sig .tc .vmem S1x1024x1 .f32) (harg16 : arg16.IsWhole)
  (arg17 : Memref sig .tc .vmem S4096x128 .bf16) (harg17 : arg17.IsWhole)
  (arg18 : Memref sig .tc .vmem S4096x128 .bf16) (harg18 : arg18.IsWhole)
  (x0 : Vec Ideal S1024x128 .f32) (x1 x2 : Vec Ideal S4096x128 .f32) (x3 x4 x5 : Vec Ideal S1024x128 .f32)
  (x6 x7 : Vec Ideal S1x1024x1 .f32) (x8 : Vec Ideal S1x8x512 .f32)
  (xo10 xo11 : Vec Ideal S4096x128 .f32) (xo13 : Vec Ideal S1x8x512 .f32) (xs0 xs1 : Vec Ideal S4096x128 .bf16)
  (hc0 : ¬cond0_0 i)

/-- The tile that the point's words name. -/
theorem tileB_eq : loopTile i arg10 arg17 arg18 (k0_pay31 (ld2 harg2 x0)) (k0_pay35 (ld2 harg5 x3) (ld2 harg7 x5))
      (k0_pay36 (ld2 harg5 x3) (ld2 harg7 x5) (ld2 harg6 x4)) (ld3 harg8 x6) (ld3 harg9 x7)
      (harg10.unread x8) (harg17.unread xs0) (harg18.unread xs1)
    = (pointTile (i 1).val x0 x3 x4 x5 x6 x7 x8 xs0 xs1) := by
  unfold loopTile pointTile
  rw [ld2_eq harg2, ld2_eq harg5, ld2_eq harg6, ld2_eq harg7, ld3_eq harg8, ld3_eq harg9,
    harg10.read_unread, harg17.read_unread, harg18.read_unread]

/-- The gradient of the queries. -/
theorem outB_dq (r : Fin 1024) (d : Fin 128) :
    out0_B_9 c i _ harg2 _ harg3 _ harg4 _ harg5 _ harg6 _ harg7 _ harg8 _ harg9 _ harg10 _ harg11 _ harg12 _ harg13 _ harg14
      _ harg15 _ harg16 _ harg17 _ harg18 hc0 x0 x1 x2 x3 x4 x5 x6 x7 x8 xo10 xo11 xo13 xs0 xs1 (ix2 r d)
      = (∑ x ∈ Finset.range 4096, (pointTile (i 1).val x0 x3 x4 x5 x6 x7 x8 xs0 xs1).dz r x * (pointTile (i 1).val x0 x3 x4 x5 x6 x7 x8 xs0 xs1).K x d) * Ideal.ofBits .f32 0x3DB504F3#32 := by
  have h := point_row Variants.none c none i _ harg2 _ harg3 _ harg4 _ harg5 _ harg6 _ harg7 _ harg8 _ harg9 _ harg10 _ harg11 _ harg12 _ harg13 _ harg14
      _ harg15 _ harg16 _ harg17 _ harg18
      (BitVec.ofNat 32 (i 1).val) (k0_pay31 (ld2 harg2 x0)) (k0_pay35 (ld2 harg5 x3) (ld2 harg7 x5))
      (k0_pay36 (ld2 harg5 x3) (ld2 harg7 x5) (ld2 harg6 x4)) (ld3 harg8 x6) (ld3 harg9 x7)
      (harg10.unread x8) (harg17.unread xs0) (harg18.unread xs1)
      (harg12.unread xo10) (harg13.unread xo11) (harg15.unread xo13) rfl r d
  rw [tileB_eq] at h
  refine Eq.trans ?_ (congrArg (· * Ideal.ofBits .f32 0x3DB504F3#32) h)
  unfold out0_B_9 kernelRun0_B
  dsimp only
  refine (congrFun (read_store_whole VO0_9 _ off2 inb_S1024x128_S1024x128_0_0 _) (ix2 r d)).trans ?_
  rw [rowScaled_apply]
  unfold kernelRun0_B.sl.r_12 kernelRun0_B.sl.r_6
  rw [trips2_eq]
  rfl

/-- The gradient of the rows' bias. -/
theorem outB_cr (r : Fin 1024) :
    out0_B_14 c i _ harg2 _ harg3 _ harg4 _ harg5 _ harg6 _ harg7 _ harg8 _ harg9 _ harg10 _ harg11 _ harg12 _ harg13 _ harg14
      _ harg15 _ harg16 _ harg17 _ harg18 hc0 x0 x1 x2 x3 x4 x5 x6 x7 x8 xo10 xo11 xo13 xs0 xs1 (ix3 0 r 0) = ∑ x ∈ Finset.range 4096, (pointTile (i 1).val x0 x3 x4 x5 x6 x7 x8 xs0 xs1).dz r x := by
  have h := point_cr Variants.none c none i _ harg2 _ harg3 _ harg4 _ harg5 _ harg6 _ harg7 _ harg8 _ harg9 _ harg10 _ harg11 _ harg12 _ harg13 _ harg14
      _ harg15 _ harg16 _ harg17 _ harg18
      (BitVec.ofNat 32 (i 1).val) (k0_pay31 (ld2 harg2 x0)) (k0_pay35 (ld2 harg5 x3) (ld2 harg7 x5))
      (k0_pay36 (ld2 harg5 x3) (ld2 harg7 x5) (ld2 harg6 x4)) (ld3 harg8 x6) (ld3 harg9 x7)
      (harg10.unread x8) (harg17.unread xs0) (harg18.unread xs1)
      (harg12.unread xo10) (harg13.unread xo11) (harg15.unread xo13) rfl r
  rw [tileB_eq] at h
  refine Eq.trans ?_ h
  unfold out0_B_14 kernelRun0_B
  dsimp only
  refine (congrFun (read_store_whole VO0_14 _ off3 inb_S1x1024x1_S1x1024x1_0_0_0 _) (ix3 0 r 0)).trans ?_
  rw [dcr_apply]
  unfold kernelRun0_B.sl.r_16 kernelRun0_B.sl.r_11 kernelRun0_B.sl.r_7
  rw [trips2_eq]
  rfl

/-- The gradient of the gate. -/
theorem outB_dgate :
    out0_B_12 c i _ harg2 _ harg3 _ harg4 _ harg5 _ harg6 _ harg7 _ harg8 _ harg9 _ harg10 _ harg11 _ harg12 _ harg13 _ harg14
      _ harg15 _ harg16 _ harg17 _ harg18 hc0 x0 x1 x2 x3 x4 x5 x6 x7 x8 xo10 xo11 xo13 xs0 xs1 = k0_pay33 x3 x5 x4 := by
  unfold out0_B_12 kernelRun0_B
  dsimp only
  unfold kernelRun0_B.sl.H12_1
  refine (read_store_whole VO0_12 _ off2 inb_S1024x128_S1024x128_0_0 _).trans ?_
  rw [load_whole harg5 x3 off2 inb_S1024x128_S1024x128_0_0,
    load_whole harg6 x4 off2 inb_S1024x128_S1024x128_0_0, load_whole harg7 x5 off2 inb_S1024x128_S1024x128_0_0]

/-- The keys' gradient. -/
theorem outB_dk (a : Fin 4096) (d : Fin 128) :
    out0_B_10 c i _ harg2 _ harg3 _ harg4 _ harg5 _ harg6 _ harg7 _ harg8 _ harg9 _ harg10 _ harg11 _ harg12 _ harg13 _ harg14
      _ harg15 _ harg16 _ harg17 _ harg18 hc0 x0 x1 x2 x3 x4 x5 x6 x7 x8 xo10 xo11 xo13 xs0 xs1 (ix2 a d)
      = xo10 (ix2 a d) + ∑ r, (pointTile (i 1).val x0 x3 x4 x5 x6 x7 x8 xs0 xs1).dz r a.val * (pointTile (i 1).val x0 x3 x4 x5 x6 x7 x8 xs0 xs1).qs r d := by
  have h := point_dk Variants.none c none i _ harg2 _ harg3 _ harg4 _ harg5 _ harg6 _ harg7 _ harg8 _ harg9 _ harg10 _ harg11 _ harg12 _ harg13 _ harg14
      _ harg15 _ harg16 _ harg17 _ harg18
      (BitVec.ofNat 32 (i 1).val) (k0_pay31 (ld2 harg2 x0)) (k0_pay35 (ld2 harg5 x3) (ld2 harg7 x5))
      (k0_pay36 (ld2 harg5 x3) (ld2 harg7 x5) (ld2 harg6 x4)) (ld3 harg8 x6) (ld3 harg9 x7)
      (harg10.unread x8) (harg17.unread xs0) (harg18.unread xs1)
      (harg12.unread xo10) (harg13.unread xo11) (harg15.unread xo13) rfl a d
  rw [tileB_eq, harg12.read_unread] at h
  refine Eq.trans ?_ h
  unfold out0_B_10 kernelRun0_B
  dsimp only
  unfold kernelRun0_B.sl.H10_1 kernelRun0_B.sl.v102
  rw [trips2_eq]
  rfl

/-- The values' gradient. -/
theorem outB_dv (a : Fin 4096) (d : Fin 128) :
    out0_B_11 c i _ harg2 _ harg3 _ harg4 _ harg5 _ harg6 _ harg7 _ harg8 _ harg9 _ harg10 _ harg11 _ harg12 _ harg13 _ harg14
      _ harg15 _ harg16 _ harg17 _ harg18 hc0 x0 x1 x2 x3 x4 x5 x6 x7 x8 xo10 xo11 xo13 xs0 xs1 (ix2 a d)
      = xo11 (ix2 a d) + ∑ r, (pointTile (i 1).val x0 x3 x4 x5 x6 x7 x8 xs0 xs1).p r a.val * (pointTile (i 1).val x0 x3 x4 x5 x6 x7 x8 xs0 xs1).dob r d := by
  have h := point_dv Variants.none c none i _ harg2 _ harg3 _ harg4 _ harg5 _ harg6 _ harg7 _ harg8 _ harg9 _ harg10 _ harg11 _ harg12 _ harg13 _ harg14
      _ harg15 _ harg16 _ harg17 _ harg18
      (BitVec.ofNat 32 (i 1).val) (k0_pay31 (ld2 harg2 x0)) (k0_pay35 (ld2 harg5 x3) (ld2 harg7 x5))
      (k0_pay36 (ld2 harg5 x3) (ld2 harg7 x5) (ld2 harg6 x4)) (ld3 harg8 x6) (ld3 harg9 x7)
      (harg10.unread x8) (harg17.unread xs0) (harg18.unread xs1)
      (harg12.unread xo10) (harg13.unread xo11) (harg15.unread xo13) rfl a d
  rw [tileB_eq, harg13.read_unread] at h
  refine Eq.trans ?_ h
  unfold out0_B_11 kernelRun0_B
  dsimp only
  unfold kernelRun0_B.sl.H11_1 kernelRun0_B.sl.v109
  rw [trips2_eq]
  rfl

/-- The gradient of the columns' bias. -/
theorem outB_cc (a : Fin 8) (d : Fin 512) :
    out0_B_13 c i _ harg2 _ harg3 _ harg4 _ harg5 _ harg6 _ harg7 _ harg8 _ harg9 _ harg10 _ harg11 _ harg12 _ harg13 _ harg14
      _ harg15 _ harg16 _ harg17 _ harg18 hc0 x0 x1 x2 x3 x4 x5 x6 x7 x8 xo10 xo11 xo13 xs0 xs1 (ix3 0 a d)
      = xo13 (ix3 0 a d) - ∑ r, (pointTile (i 1).val x0 x3 x4 x5 x6 x7 x8 xs0 xs1).dz r (512 * a.val + d.val) := by
  have h := point_cc Variants.none c none i _ harg2 _ harg3 _ harg4 _ harg5 _ harg6 _ harg7 _ harg8 _ harg9 _ harg10 _ harg11 _ harg12 _ harg13 _ harg14
      _ harg15 _ harg16 _ harg17 _ harg18
      (BitVec.ofNat 32 (i 1).val) (k0_pay31 (ld2 harg2 x0)) (k0_pay35 (ld2 harg5 x3) (ld2 harg7 x5))
      (k0_pay36 (ld2 harg5 x3) (ld2 harg7 x5) (ld2 harg6 x4)) (ld3 harg8 x6) (ld3 harg9 x7)
      (harg10.unread x8) (harg17.unread xs0) (harg18.unread xs1)
      (harg12.unread xo10) (harg13.unread xo11) (harg15.unread xo13) rfl a d
  rw [tileB_eq, harg15.read_unread] at h
  refine Eq.trans ?_ h
  unfold out0_B_13 kernelRun0_B
  dsimp only
  unfold kernelRun0_B.sl.H13_1 kernelRun0_B.sl.v117
  rw [trips2_eq]
  rfl

end CaseB

end Cert.KernelIdeal.Block
-- ==== Proof.Grid.lean ====
module

public import proofs.«01_k».proof.Proof.Reads
public import proofs.«01_k».proof.Proof.PointA
public import proofs.«01_k».proof.Proof.PointB

/-!
# What the grid leaves

The keys and values kept at the first point of a head serve its four points. After point `t` the three accumulators hold the sums
over the tiles of the head up to this one, and the other outputs hold the tile's own rows.
-/

@[expose] public section

set_option maxRecDepth 16384

noncomputable section

namespace Cert.KernelIdeal.Block

open Idealize.ShloMosaic Idealize.ShloMosaic.TcCoe Idealize.ShloMosaic.Tactic Cert.KernelIdeal Cert.KernelIdeal.Gen

variable (m : (ℓ : Loc nD τ sig) → Buf (Elt Ideal) ℓ) (c : Dev nD)

/-- The head of a point. -/
abbrev hd (t : ℕ) : Head := headAt m c (t / 4)

/-- The part of the keys' gradient that tile `j` of a head gives. -/
def dkPart (H : Head) (a : ℕ) (d : Fin 128) (j : ℕ) : EReal := ∑ r : Fin 1024, H.dz (1024 * j + r.val) a * H.qs (1024 * j + r.val) d

/-- The part of the values' gradient that tile `j` of a head gives. -/
def dvPart (H : Head) (a : ℕ) (d : Fin 128) (j : ℕ) : EReal := ∑ r : Fin 1024, H.p (1024 * j + r.val) a * H.dob (1024 * j + r.val) d

/-- The part of the columns' bias gradient that tile `j` of a head takes off. -/
def dccPart (H : Head) (a : ℕ) (j : ℕ) : EReal := ∑ r : Fin 1024, H.dz (1024 * j + r.val) a

/-- What the outputs hold after point `t`. -/
structure Left (t : Fin cfg0.N) : Prop where
  kb : ∀ a d, (outsAt0 m c t.val t.isLt).2.2.2.2.2.2.1 (ix2 a d) = (hd m c t.val).k a.val d
  vb : ∀ a d, (outsAt0 m c t.val t.isLt).2.2.2.2.2.2.2 (ix2 a d) = (hd m c t.val).v a.val d
  dq : ∀ r d, (outsAt0 m c t.val t.isLt).1 (ix2 r d)
    = (∑ x ∈ Finset.range 4096, (hd m c t.val).dz (1024 * (t.val % 4) + r.val) x * (hd m c t.val).k x d) * sc
  dcr : ∀ r, (outsAt0 m c t.val t.isLt).2.2.2.2.2.1 (ix3 0 r 0)
    = ∑ x ∈ Finset.range 4096, (hd m c t.val).dz (1024 * (t.val % 4) + r.val) x
  dgate : ∀ r d, (outsAt0 m c t.val t.isLt).2.2.2.1 (ix2 r d) = (hd m c t.val).dgate (1024 * (t.val % 4) + r.val) d
  dk : ∀ (a : Fin 4096) d, (outsAt0 m c t.val t.isLt).2.1 (ix2 a d)
    = ∑ j ∈ Finset.range (t.val % 4 + 1), dkPart (hd m c t.val) a.val d j
  dv : ∀ (a : Fin 4096) d, (outsAt0 m c t.val t.isLt).2.2.1 (ix2 a d)
    = ∑ j ∈ Finset.range (t.val % 4 + 1), dvPart (hd m c t.val) a.val d j
  dcc : ∀ (a : Fin 8) (d : Fin 512), (outsAt0 m c t.val t.isLt).2.2.2.2.1 (ix3 0 a d)
    = ∑ j ∈ Finset.range (t.val % 4 + 1), -dccPart (hd m c t.val) (512 * a.val + d.val) j

/-- After the first point of a head. -/
theorem left_first (t : Fin cfg0.N) (h0 : t.val % 4 = 0) : Left m c t := by
  have hT := tile_at m c t _ _ (keys_at m c t) (values_at m c t)
  have e := outsAt0_A m c t h0
  refine ⟨?_, ?_, ?_, ?_, ?_, ?_, ?_, ?_⟩
  · intro a d
    rw [e]
    dsimp only
    rw [soutA_k]
    exact keys_at m c t a d
  · intro a d
    rw [e]
    dsimp only
    rw [soutA_v]
    exact values_at m c t a d
  · intro r d
    rw [e]
    dsimp only
    rw [outA_dq, hT]
    rfl
  · intro r
    rw [e]
    dsimp only
    rw [outA_cr, hT]
    rfl
  · intro r d
    rw [e]
    dsimp only
    rw [outA_dgate]
    exact dgate_at m c t r d
  · intro a d
    rw [e]
    dsimp only
    rw [outA_dk, hT, h0, zero_add, zero_add, Finset.sum_range_one]
    rfl
  · intro a d
    rw [e]
    dsimp only
    rw [outA_dv, hT, h0, zero_add, zero_add, Finset.sum_range_one]
    rfl
  · intro a d
    rw [e]
    dsimp only
    rw [outA_cc, hT, h0, zero_sub, zero_add, Finset.sum_range_one]
    rfl

/-- After a further point of a head. -/
theorem left_next (t t' : Fin cfg0.N) (h0 : ¬t.val % 4 = 0) (ht' : t'.val = t.val - 1) (L : Left m c t') : Left m c t := by
  have hh : t'.val / 4 = t.val / 4 := by omega
  have hm : t'.val % 4 + 1 = t.val % 4 := by omega
  obtain ⟨n', hn'⟩ := t'
  dsimp only at ht' hh hm
  subst ht'
  have hkb := L.kb
  have hvb := L.vb
  have hdk := L.dk
  have hdv := L.dv
  have hdcc := L.dcc
  unfold hd at hkb hvb hdk hdv hdcc
  dsimp only at hkb hvb hdk hdv hdcc
  rw [hh] at hkb hvb hdk hdv hdcc
  rw [hm] at hdk hdv hdcc
  have hT := tile_at m c t _ _ hkb hvb
  have e := outsAt0_B m c t h0
  refine ⟨?_, ?_, ?_, ?_, ?_, ?_, ?_, ?_⟩
  · intro a d
    rw [e]
    exact hkb a d
  · intro a d
    rw [e]
    exact hvb a d
  · intro r d
    rw [e]
    dsimp only
    rw [outB_dq, hT]
    rfl
  · intro r
    rw [e]
    dsimp only
    rw [outB_cr, hT]
    rfl
  · intro r d
    rw [e]
    dsimp only
    rw [outB_dgate]
    exact dgate_at m c t r d
  · intro a d
    rw [e]
    dsimp only
    rw [outB_dk, hT, hdk, Finset.sum_range_succ]
    rfl
  · intro a d
    rw [e]
    dsimp only
    rw [outB_dv, hT, hdv, Finset.sum_range_succ]
    rfl
  · intro a d
    rw [e]
    dsimp only
    rw [outB_cc, hT, hdcc, Finset.sum_range_succ, sub_eq_add_neg]
    rfl

/-- After every point. -/
theorem left : ∀ t : Fin cfg0.N, Left m c t := by
  intro ⟨n, hn⟩
  induction n with
  | zero => exact left_first m c _ rfl
  | succ n ih =>
    by_cases h0 : (n + 1) % 4 = 0
    · exact left_first m c _ h0
    · exact left_next m c _ ⟨n, Nat.lt_of_succ_lt hn⟩ h0 rfl (ih _)

end Cert.KernelIdeal.Block
-- ==== Proof.Arrays.lean ====
module

public import proofs.«01_k».proof.Proof.Grid

/-!
# What the six result arrays hold

Each entry of a result is what its head's points left there: a row's entry from the point of its tile, a column's entry from the
last point of the head, summed over all the rows.
-/

@[expose] public section

set_option maxRecDepth 16384

noncomputable section

namespace Cert.KernelIdeal.Block

open Idealize.ShloMosaic Idealize.ShloMosaic.TcCoe Idealize.ShloMosaic.Tactic Cert.KernelIdeal Cert.KernelIdeal.Gen Cert.KernelIdeal.Value

variable (m : (ℓ : Loc nD τ sig) → Buf (Elt Ideal) ℓ) (c : Dev nD)

theorem G9_at (i : S4096x2048.Idx) (j : S1024x128.Idx) (t : Fin cfg0.N) (ht : pt9Of i = t.val) (hj : loc9Of i = j) :
    G9 m c i = (outsAt0 m c t.val t.isLt).1 j := by
  obtain ⟨n, hn⟩ := t
  dsimp only at ht
  subst ht
  subst hj
  unfold G9
  rw [dif_pos hn, outsAt0_sweep]

theorem G10_at (i : S4096x2048.Idx) (j : S4096x128.Idx) (t : Fin cfg0.N) (ht : pt10Of i = t.val) (hj : loc10Of i = j) :
    G10 m c i = (outsAt0 m c t.val t.isLt).2.1 j := by
  obtain ⟨n, hn⟩ := t
  dsimp only at ht
  subst ht
  subst hj
  unfold G10
  rw [dif_pos hn, outsAt0_sweep]

theorem G11_at (i : S4096x2048.Idx) (j : S4096x128.Idx) (t : Fin cfg0.N) (ht : pt11Of i = t.val) (hj : loc11Of i = j) :
    G11 m c i = (outsAt0 m c t.val t.isLt).2.2.1 j := by
  obtain ⟨n, hn⟩ := t
  dsimp only at ht
  subst ht
  subst hj
  unfold G11
  rw [dif_pos hn, outsAt0_sweep]

theorem G12_at (i : S4096x2048.Idx) (j : S1024x128.Idx) (t : Fin cfg0.N) (ht : pt12Of i = t.val) (hj : loc12Of i = j) :
    G12 m c i = (outsAt0 m c t.val t.isLt).2.2.2.1 j := by
  obtain ⟨n, hn⟩ := t
  dsimp only at ht
  subst ht
  subst hj
  unfold G12
  rw [dif_pos hn, outsAt0_sweep]

theorem G13_at (i : S16x8x512.Idx) (j : S1x8x512.Idx) (t : Fin cfg0.N) (ht : pt13Of i = t.val) (hj : loc13Of i = j) :
    G13 m c i = (outsAt0 m c t.val t.isLt).2.2.2.2.1 j := by
  obtain ⟨n, hn⟩ := t
  dsimp only at ht
  subst ht
  subst hj
  unfold G13
  rw [dif_pos hn, outsAt0_sweep]

theorem G14_at (i : S16x4096x1.Idx) (j : S1x1024x1.Idx) (t : Fin cfg0.N) (ht : pt14Of i = t.val) (hj : loc14Of i = j) :
    G14 m c i = (outsAt0 m c t.val t.isLt).2.2.2.2.2.1 j := by
  obtain ⟨n, hn⟩ := t
  dsimp only at ht
  subst ht
  subst hj
  unfold G14
  rw [dif_pos hn, outsAt0_sweep]

/-- The point of a head and a row. -/
def ptRow (h : Fin 16) (n : Fin 4096) : Fin cfg0.N := ⟨4 * h.val + n.val / 1024, show _ < 64 by omega⟩

/-- The last point of a head. -/
def ptLast (h : Fin 16) : Fin cfg0.N := ⟨4 * h.val + 3, show _ < 64 by omega⟩

theorem ptRow_div (h : Fin 16) (n : Fin 4096) : (ptRow h n).val / 4 = h.val := show (4 * h.val + n.val / 1024) / 4 = _ by omega

theorem ptRow_mod (h : Fin 16) (n : Fin 4096) : 1024 * ((ptRow h n).val % 4) + n.val % 1024 = n.val :=
  show 1024 * ((4 * h.val + n.val / 1024) % 4) + _ = _ by omega

theorem ptLast_div (h : Fin 16) : (ptLast h).val / 4 = h.val := show (4 * h.val + 3) / 4 = _ by omega

theorem ptLast_mod (h : Fin 16) : (ptLast h).val % 4 = 3 := show (4 * h.val + 3) % 4 = _ by omega

/-- Column `d` of head `h`. -/
abbrev col (h : Fin 16) (d : Fin 128) : Fin 2048 := ⟨128 * h.val + d.val, by omega⟩

/-- The queries' gradient. -/
theorem dq_at (n : Fin 4096) (h : Fin 16) (d : Fin 128) :
    G9 m c (ix2 n (col h d)) = (∑ x ∈ Finset.range 4096, (headAt m c h.val).dz n.val x * (headAt m c h.val).k x d) * sc := by
  have hn : n.val % 1024 < 1024 := Nat.mod_lt _ (by decide)
  rw [G9_at m c _ (ix2 ⟨n.val % 1024, hn⟩ d) (ptRow h n)
    (show 1 * (n.val / 1024 - 0) + 4 * ((128 * h.val + d.val) / 128 - 0) = 4 * h.val + n.val / 1024 by omega)
    (by funext a; fin_cases a <;> refine Fin.ext ?_ <;> first | rfl | (show (128 * h.val + d.val) % 128 = d.val; omega)),
    (left m c (ptRow h n)).dq]
  unfold hd
  dsimp only
  rw [ptRow_div, ptRow_mod]

/-- The gate's gradient. -/
theorem dgate_at' (n : Fin 4096) (h : Fin 16) (d : Fin 128) :
    G12 m c (ix2 n (col h d)) = (headAt m c h.val).dgate n.val d := by
  have hn : n.val % 1024 < 1024 := Nat.mod_lt _ (by decide)
  rw [G12_at m c _ (ix2 ⟨n.val % 1024, hn⟩ d) (ptRow h n)
    (show 1 * (n.val / 1024 - 0) + 4 * ((128 * h.val + d.val) / 128 - 0) = 4 * h.val + n.val / 1024 by omega)
    (by funext a; fin_cases a <;> refine Fin.ext ?_ <;> first | rfl | (show (128 * h.val + d.val) % 128 = d.val; omega)),
    (left m c (ptRow h n)).dgate]
  unfold hd
  dsimp only
  rw [ptRow_div, ptRow_mod]

/-- The keys' gradient. -/
theorem dk_at (a : Fin 4096) (h : Fin 16) (d : Fin 128) :
    G10 m c (ix2 a (col h d)) = ∑ n ∈ Finset.range 4096, (headAt m c h.val).dz n a.val * (headAt m c h.val).qs n d := by
  rw [G10_at m c _ (ix2 a d) (ptLast h)
    (show 4 * (16 * (a.val / 4096 - 0) + 1 * ((128 * h.val + d.val) / 128 - 0)) + 3 = 4 * h.val + 3 by omega)
    (by funext b; fin_cases b <;> refine Fin.ext ?_ <;> first | (show a.val % 4096 = a.val; omega) | (show (128 * h.val + d.val) % 128 = d.val; omega)),
    (left m c (ptLast h)).dk]
  unfold hd
  rw [ptLast_div, ptLast_mod]
  exact sum_tiles fun n => (headAt m c h.val).dz n a.val * (headAt m c h.val).qs n d

/-- The values' gradient. -/
theorem dv_at (a : Fin 4096) (h : Fin 16) (d : Fin 128) :
    G11 m c (ix2 a (col h d)) = ∑ n ∈ Finset.range 4096, (headAt m c h.val).p n a.val * (headAt m c h.val).dob n d := by
  rw [G11_at m c _ (ix2 a d) (ptLast h)
    (show 4 * (16 * (a.val / 4096 - 0) + 1 * ((128 * h.val + d.val) / 128 - 0)) + 3 = 4 * h.val + 3 by omega)
    (by funext b; fin_cases b <;> refine Fin.ext ?_ <;> first | (show a.val % 4096 = a.val; omega) | (show (128 * h.val + d.val) % 128 = d.val; omega)),
    (left m c (ptLast h)).dv]
  unfold hd
  rw [ptLast_div, ptLast_mod]
  exact sum_tiles fun n => (headAt m c h.val).p n a.val * (headAt m c h.val).dob n d

/-- The bias gradient as a column. -/
theorem dcc_at (h : Fin 16) (b : Fin 8) (d : Fin 512) :
    G13 m c (ix3 h b d) = ∑ j ∈ Finset.range 4, -dccPart (headAt m c h.val) (512 * b.val + d.val) j := by
  rw [G13_at m c _ (ix3 0 b d) (ptLast h)
    (show 4 * (1 * (h.val / 1 - 0) + 1 * (b.val / 8 - 0) + 1 * (d.val / 512 - 0)) + 3 = 4 * h.val + 3 by omega)
    (by funext a; fin_cases a <;> refine Fin.ext ?_ <;>
          first | (show h.val % 1 = 0; omega) | (show b.val % 8 = b.val; omega) | (show d.val % 512 = d.val; omega)),
    (left m c (ptLast h)).dcc]
  unfold hd
  rw [ptLast_div, ptLast_mod]

/-- The bias gradient as a row. -/
theorem dcr_at (h : Fin 16) (n : Fin 4096) :
    G14 m c (ix3 h n 0) = ∑ x ∈ Finset.range 4096, (headAt m c h.val).dz n.val x := by
  have hn : n.val % 1024 < 1024 := Nat.mod_lt _ (by decide)
  rw [G14_at m c _ (ix3 0 ⟨n.val % 1024, hn⟩ 0) (ptRow h n)
    (show 4 * (h.val / 1 - 0) + 1 * (n.val / 1024 - 0) + 1 * (0 / 1 - 0) = 4 * h.val + n.val / 1024 by omega)
    (by funext a; fin_cases a <;> refine Fin.ext ?_ <;> first | rfl | (show h.val % 1 = 0; omega)),
    (left m c (ptRow h n)).dcr]
  unfold hd
  dsimp only
  rw [ptRow_div, ptRow_mod]

end Cert.KernelIdeal.Block
-- ==== Proof.KernelReal.lean ====
module

public import proofs.«01_k».proof.Proof.Real
public import proofs.«01_k».proof.Proof.Arrays

/-!
# The kernel on finite inputs

On finite inputs every quantity of a head is a real number, and the six results are the real head's gradients.
-/

@[expose] public section

set_option maxRecDepth 16384

noncomputable section

namespace Cert.KernelIdeal.Block

open Idealize.ShloMosaic Idealize.ShloMosaic.TcCoe Idealize.ShloMosaic.Tactic Cert.KernelIdeal Cert.KernelIdeal.Gen

variable (P : S4096x8320.Idx → ℝ) (B : S16x4096.Idx → ℝ) (D : S4096x2048.Idx → ℝ) (s : ℝ)

/-- An array of real numbers among the extended reals. -/
abbrev up {ι : Type} (X : ι → ℝ) : ι → EReal := fun i => (X i : EReal)

section Host

variable (hs : sc = (s : EReal)) (h : Fin 16)
include D hs

theorem hZ_real (n c : Fin 4096) : hZ (up P) (up B) (ix3 h n c) = ((realHead P B D s h).z n c : EReal) := by
  rw [hZ_apply, hs]
  have e : ∀ d : Fin 128, at2 (a := 4096) (b := 8320) (up P) n.val (128 * h.val + d.val) * at2 (a := 4096) (b := 8320) (up P) c.val (2048 + 128 * h.val + d.val)
      = (((realHead P B D s h).q n d * (realHead P B D s h).k c d : ℝ) : EReal) := by
    intro d
    rw [at2_val (a := 4096) (b := 8320) _ n.isLt (by omega), at2_val (a := 4096) (b := 8320) _ c.isLt (by omega), EReal.coe_mul]
    rfl
  simp only [e]
  rw [at2_val (a := 16) (b := 4096) _ h.isLt n.isLt, at2_val (a := 16) (b := 4096) _ h.isLt c.isLt, ← coe_sum, ← EReal.coe_mul,
    ← EReal.coe_add, ← EReal.coe_sub]
  rfl

theorem hA_real (n c : Fin 4096) :
    hA (up P) (up B) (ix3 h n c) = if c.val ≤ n.val then ((realHead P B D s h).z n c : EReal) else ⊥ := by
  rw [hA_apply, hZ_real P B D s hs]

/-- The rows' maxima are real numbers. -/
theorem max_real (n : Fin 4096) : ∃ μ : ℝ, hM (hA (up P) (up B)) (ix2 h n) = μ := by
  refine hM_real _ h n (fun c => ?_) ?_
  · rw [hA_real P B D s hs]
    split
    · exact EReal.coe_ne_top _
    · exact bot_ne_top
  · rw [hA_real P B D s hs, if_pos (le_refl _)]
    exact EReal.coe_ne_bot _

variable (M : FVec Ideal S16x4096 .f32) (μ : ℝ) (n : Fin 4096) (hM : M (ix2 h n) = μ)
include hM

theorem hE_real (c : Fin 4096) : hE (hA (up P) (up B)) M (ix3 h n c) = ((realHead P B D s h).e μ n c : EReal) := by
  rw [hE_apply, hA_real P B D s hs, hM]
  exact exp_masked _ _ _ _

theorem hS_real : hS (hE (hA (up P) (up B)) M) (ix3 h n 0) = (((realHead P B D s h).S n * Real.exp (-μ) : ℝ) : EReal) := by
  rw [hS_apply]
  simp only [hE_real P B D s hs h M μ n hM]
  rw [← coe_sum, RHead.sum_e]

theorem hP_real (c : Fin 4096) : Ideal.div (hE (hA (up P) (up B)) M (ix3 h n c)) (hS (hE (hA (up P) (up B)) M) (ix3 h n 0))
    = ((realHead P B D s h).p n c : EReal) := by
  rw [hE_real P B D s hs h M μ n hM, hS_real P B D s hs h M μ n hM, div_real _ (RHead.shift_pos _ μ n).ne', RHead.p_shift]

theorem hL_real : hL M (hS (hE (hA (up P) (up B)) M)) (ix3 h n 0) = (Real.log ((realHead P B D s h).S n) : EReal) := by
  rw [hL_apply, hS_real P B D s hs h M μ n hM, hM, Ideal.log_coe, if_neg (not_le.mpr (RHead.shift_pos _ μ n)), ← EReal.coe_add, RHead.log_shift]

theorem hO_real (d : Fin 128) : at2 (a := 4096) (b := 2048) (hO (hE (hA (up P) (up B)) M) (hS (hE (hA (up P) (up B)) M)) (up P)) n.val (128 * h.val + d.val)
    = ((realHead P B D s h).o n d : EReal) := by
  rw [hO_apply]
  simp only [hP_real P B D s hs h M μ n hM]
  unfold RHead.o
  rw [coe_sum]
  refine Finset.sum_congr rfl fun c _ => ?_
  rw [at2_val (a := 4096) (b := 8320) _ c.isLt (by omega), EReal.coe_mul]
  rfl

end Host

/-- A head of the kernel is a real head. -/
structure IsReal (H : Head) (R : RHead) : Prop where
  s : sc = (R.s : EReal)
  q : ∀ (n : Fin 4096) d, H.q n.val d = (R.q n d : EReal)
  k : ∀ (n : Fin 4096) d, H.k n.val d = (R.k n d : EReal)
  v : ∀ (n : Fin 4096) d, H.v n.val d = (R.v n d : EReal)
  g : ∀ (n : Fin 4096) d, H.g n.val d = (R.g n d : EReal)
  o : ∀ (n : Fin 4096) d, H.o n.val d = (R.o n d : EReal)
  dg : ∀ (n : Fin 4096) d, H.dg n.val d = (R.dg n d : EReal)
  lse : ∀ n : Fin 4096, H.lse n.val = (Real.log (R.S n) : EReal)
  b : ∀ n : Fin 4096, H.b n.val = (R.b n : EReal)

namespace IsReal

variable {H : Head} {R : RHead} (I : IsReal H R)
include I

theorem qs (n : Fin 4096) (d : Fin 128) : H.qs n.val d = ((R.q n d * R.s : ℝ) : EReal) := by
  unfold Head.qs
  rw [I.q, I.s, EReal.coe_mul]

theorem z (n c : Fin 4096) : H.z n.val c.val = (R.z n c : EReal) := by
  unfold Head.z RHead.z
  simp only [I.qs, I.k, ← EReal.coe_mul]
  rw [← coe_sum, I.b, I.b, ← EReal.coe_add, ← EReal.coe_sub]
  congr 3
  rw [Finset.sum_mul]
  refine Finset.sum_congr rfl fun d _ => ?_
  ring

theorem p (n c : Fin 4096) : H.p n.val c.val = (R.p n c : EReal) := by
  unfold Head.p
  rw [I.z, I.lse, exp_masked]
  congr 1
  unfold RHead.e RHead.p
  rw [Real.exp_neg, Real.exp_log (R.S_pos n)]
  rfl

theorem sg (n : Fin 4096) (d : Fin 128) : H.sg n.val d = (R.sg n d : EReal) := by
  unfold Head.sg RHead.sg
  rw [I.g, ← EReal.coe_zero, ← EReal.coe_sub, Ideal.exp_coe, ← EReal.coe_one, ← EReal.coe_add, zero_sub, div_real _ (RHead.one_add_exp_ne _)]

theorem dob (n : Fin 4096) (d : Fin 128) : H.dob n.val d = (R.dob n d : EReal) := by
  unfold Head.dob RHead.dob
  rw [I.dg, I.g, I.sg, EReal.coe_mul, EReal.coe_mul]

theorem ds (n : Fin 4096) : H.ds n.val = (R.ds n : EReal) := by
  unfold Head.ds RHead.ds
  simp only [I.dob, I.o, ← EReal.coe_mul]
  rw [coe_sum]

theorem dz (n c : Fin 4096) : H.dz n.val c.val = (R.dz n c : EReal) := by
  unfold Head.dz RHead.dz RHead.G
  simp only [I.dob, I.v, ← EReal.coe_mul]
  rw [I.p, I.ds, ← coe_sum, ← EReal.coe_sub, ← EReal.coe_mul]

theorem dgate (n : Fin 4096) (d : Fin 128) : H.dgate n.val d = (R.dgate n d : EReal) := by
  unfold Head.dgate RHead.dgate
  rw [I.dg, I.o, I.g, I.sg, ← EReal.coe_one, ← EReal.coe_sub, ← EReal.coe_mul, ← EReal.coe_mul, ← EReal.coe_add, ← EReal.coe_mul, ← EReal.coe_mul]

theorem dq (n : Fin 4096) (d : Fin 128) : (∑ x ∈ Finset.range 4096, H.dz n.val x * H.k x d) * sc = (((∑ c, R.dz n c * R.k c d) * R.s : ℝ) : EReal) := by
  rw [Finset.sum_range]
  simp only [I.dz, I.k, ← EReal.coe_mul]
  rw [← coe_sum, I.s, ← EReal.coe_mul]

theorem dk (a : Fin 4096) (d : Fin 128) : ∑ n ∈ Finset.range 4096, H.dz n a.val * H.qs n d = ((∑ n, R.dz n a * (R.q n d * R.s) : ℝ) : EReal) := by
  rw [Finset.sum_range]
  simp only [I.dz, I.qs, ← EReal.coe_mul]
  rw [← coe_sum]

theorem dv (a : Fin 4096) (d : Fin 128) : ∑ n ∈ Finset.range 4096, H.p n a.val * H.dob n d = ((∑ n, R.p n a * R.dob n d : ℝ) : EReal) := by
  rw [Finset.sum_range]
  simp only [I.p, I.dob, ← EReal.coe_mul]
  rw [← coe_sum]

theorem dcr (n : Fin 4096) : ∑ x ∈ Finset.range 4096, H.dz n.val x = ((∑ c, R.dz n c : ℝ) : EReal) := by
  rw [Finset.sum_range]
  simp only [I.dz]
  rw [← coe_sum]

theorem dcc (a : Fin 4096) : ∑ j ∈ Finset.range 4, -dccPart H a.val j = ((-∑ n, R.dz n a : ℝ) : EReal) := by
  have e : ∀ j ∈ Finset.range 4, -dccPart H a.val j
      = ((∑ r : Fin 1024, -(if h : 1024 * j + r.val < 4096 then R.dz ⟨1024 * j + r.val, h⟩ a else 0) : ℝ) : EReal) := by
    intro j hj
    rw [Finset.mem_range] at hj
    rw [Finset.sum_neg_distrib, EReal.coe_neg, coe_sum]
    unfold dccPart
    congr 1
    refine Finset.sum_congr rfl fun r _ => ?_
    rw [dif_pos (by omega)]
    exact I.dz ⟨1024 * j + r.val, by omega⟩ a
  rw [Finset.sum_congr rfl e]
  simp only [coe_sum]
  rw [sum_tiles fun n => ((-(if h : n < 4096 then R.dz ⟨n, h⟩ a else 0) : ℝ) : EReal), Finset.sum_range, ← coe_sum, Finset.sum_neg_distrib]
  simp only [Fin.is_lt, dite_true]

end IsReal

/-- On finite arrays a head of the kernel is the real head. -/
theorem headAt_real (m : (ℓ : Loc nD τ sig) → Buf (Elt Ideal) ℓ) (c : Dev nD) (hs : sc = (s : EReal))
    (hP : m ((c : Thread nD τ).loc main_arg0) = up P) (hB : m ((c : Thread nD τ).loc main_arg1) = up B)
    (hD : m ((c : Thread nD τ).loc main_arg2) = up D) (h : Fin 16) : IsReal (headAt m c h.val) (realHead P B D s h) := by
  unfold headAt
  rw [V40, V49, hP, hB, hD, hTop_eq]
  refine ⟨hs, ?_, ?_, ?_, ?_, ?_, ?_, ?_, ?_⟩
  · intro n d
    exact at2_val (a := 4096) (b := 8320) _ n.isLt (by omega)
  · intro n d
    exact at2_val (a := 4096) (b := 8320) _ n.isLt (by omega)
  · intro n d
    exact at2_val (a := 4096) (b := 8320) _ n.isLt (by omega)
  · intro n d
    exact at2_val (a := 4096) (b := 8320) _ n.isLt (by omega)
  · intro n d
    obtain ⟨μ, hμ⟩ := max_real P B D s hs h n
    exact hO_real P B D s hs h _ μ n hμ d
  · intro n d
    exact at2_val (a := 4096) (b := 2048) _ n.isLt (by omega)
  · intro n
    obtain ⟨μ, hμ⟩ := max_real P B D s hs h n
    exact (at31_val (a := 16) (b := 4096) _ h.isLt n.isLt).trans (hL_real P B D s hs h _ μ n hμ)
  · intro n
    exact at2_val (a := 16) (b := 4096) _ h.isLt n.isLt

end Cert.KernelIdeal.Block
-- ==== Proof.RefReal.lean ====
module

public import proofs.«01_k».proof.Proof.Gen.ReferenceIdeal.Read
public import proofs.«01_k».proof.Proof.KernelReal

/-!
# The reference on finite inputs

On finite inputs the reference's six results are the real heads' gradients.
-/

@[expose] public section

set_option maxRecDepth 16384

noncomputable section

namespace Cert.KernelIdeal.Block

open Idealize.ShloMosaic Idealize.ShloMosaic.TcCoe Idealize.ShloMosaic.Tactic Cert.KernelIdeal Cert.KernelIdeal.Gen
open Cert.ReferenceIdeal.Read

/-- The heads of an array put side by side. -/
def hRows (X : FVec Ideal S16x4096x128 .f32) : FVec Ideal S4096x2048 .f32 :=
  shapeCast S4096x2048 (transpose S4096x16x128 [1, 0, 2] X transposes_S16x4096x128_S4096x16x128_1_0_2) shapeCasts_S4096x16x128_S4096x2048

theorem hRows_apply (X : FVec Ideal S16x4096x128 .f32) (h : Fin 16) (n : Fin 4096) (d : Fin 128) :
    hRows X (ix2 n (col h d)) = X (ix3 h n d) := by
  pointwise [hRows]
  blk_ext [col]

theorem bits_one : Ideal.ofBits .f32 0x3F800000#32 = 1 := by
  simp [Ideal.ofBits, Ideal.ieee]
  rw [← EReal.coe_mul, ← EReal.coe_one]
  norm_num

theorem bits_zero : Ideal.ofBits .f32 0x00000000#32 = 0 := by
  simp [Ideal.ofBits, Ideal.ieee]

section Stages

variable (x0 : FVec Ideal S4096x8320 .f32) (x1 : FVec Ideal S16x4096 .f32) (x2 : FVec Ideal S4096x2048 .f32)

theorem ref_A : val_main_v24_0 (F := Ideal) x0 x1 = hA x0 x1 := rfl

theorem ref_top : val_main_v32 (F := Ideal) x0 x1 = hTop (hM (val_main_v24_0 (F := Ideal) x0 x1)) := rfl

theorem ref_E : val_main_v45 (F := Ideal) x0 x1 = hE (val_main_v24_0 (F := Ideal) x0 x1) (val_main_v32 (F := Ideal) x0 x1) := rfl

/-- The reference's exponentials. -/
theorem ref_exp : val_main_v45 (F := Ideal) x0 x1 = hE (hA x0 x1) (hM (hA x0 x1)) := by
  rw [ref_E, ref_top, hTop_eq, ref_A]

theorem ref_S : val_main_v47 (F := Ideal) x0 x1 = hS (val_main_v45 (F := Ideal) x0 x1) := rfl

theorem ref_O : val_main_v57 (F := Ideal) x0 x1 = hO (val_main_v45 (F := Ideal) x0 x1) (val_main_v47 (F := Ideal) x0 x1) x0 := rfl

theorem ref_q : val_main_v5 (F := Ideal) x0 = hCols (extractStridedSlice S4096x2048 ![0, 0] x0 slices_S4096x8320_S4096x2048_0_0) := rfl

theorem ref_k : val_main_v7 (F := Ideal) x0 = hCols (extractStridedSlice S4096x2048 ![0, 2048] x0 slices_S4096x8320_S4096x2048_0_2048) := rfl

theorem ref_v : val_main_v54 (F := Ideal) x0 = hCols (extractStridedSlice S4096x2048 ![0, 4096] x0 slices_S4096x8320_S4096x2048_0_4096) := rfl

theorem ref_do : val_main_v64 (F := Ideal) x0 x2 = hCols (val_main_v61 (F := Ideal) x0 x2) := rfl

theorem ref_dv : val_main_v69 (F := Ideal) x0 x1 x2 = hRows (val_main_v66 (F := Ideal) x0 x1 x2) := rfl

theorem ref_dk : val_main_v95 (F := Ideal) x0 x1 x2 = hRows (val_main_v92 (F := Ideal) x0 x1 x2) := rfl

theorem ref_dq : val_main_v97 (F := Ideal) x0 x1 x2 = hRows (val_main_v93 (F := Ideal) x0 x1 x2) := rfl

theorem ref_mask (h : Fin 16) (n c : Fin 4096) : val_main_v24_1 (F := Ideal) (ix3 h n c) = if c.val ≤ n.val then 1#1 else 0#1 := by
  rw [val_main_v24_1_apply, ← hMask_apply]
  show hMask _ = hMask _
  congr 1
  funext a
  fin_cases a <;> rfl

end Stages

variable (P : S4096x8320.Idx → ℝ) (B : S16x4096.Idx → ℝ) (D : S4096x2048.Idx → ℝ) (s : ℝ) (hs : sc = (s : EReal)) (h : Fin 16)
include hs

theorem ref_p (n c : Fin 4096) : val_main_v49 (F := Ideal) (up P) (up B) (ix3 h n c) = ((realHead P B D s h).p n c : EReal) := by
  obtain ⟨μ, hμ⟩ := max_real P B D s hs h n
  rw [val_main_v49_apply, val_main_v48_apply, show idx_main_v48 (ix3 h n c) = ix3 h n 0 from by funext a; fin_cases a <;> rfl, ref_S, ref_exp]
  exact hP_real P B D s hs h _ μ n hμ c

theorem ref_o (n : Fin 4096) (d : Fin 128) : val_main_v57 (F := Ideal) (up P) (up B) (ix2 n (col h d)) = ((realHead P B D s h).o n d : EReal) := by
  obtain ⟨μ, hμ⟩ := max_real P B D s hs h n
  rw [ref_O, ref_S, ref_exp, ← hO_real P B D s hs h _ μ n hμ d, at2_val (a := 4096) (b := 2048) _ n.isLt (by omega)]

omit hs in
theorem ref_g (n : Fin 4096) (d : Fin 128) : val_main_v3 (F := Ideal) (up P) (ix2 n (col h d)) = ((realHead P B D s h).g n d : EReal) := by
  rw [val_main_v3_apply]
  show ((P _ : ℝ) : EReal) = ((P _ : ℝ) : EReal)
  congr 2
  funext a
  fin_cases a
  · apply Fin.ext
    simp [col]
  · apply Fin.ext
    simp [col]
    omega

omit hs in
theorem ref_sg (n : Fin 4096) (d : Fin 128) : val_main_v58_2 (F := Ideal) (up P) (ix2 n (col h d)) = ((realHead P B D s h).sg n d : EReal) := by
  rw [val_main_v58_2_apply, val_main_call1_v3_apply, val_main_call1_v1_apply, val_main_call1_v0_apply, ref_g P B D s,
    val_main_call1_v2_apply, val_main_call1_v4_apply, val_main_call1_cst_apply, val_main_call1_cst_0_apply]
  show Ideal.div (Ideal.ofBits .f32 0x3F800000#32) (Ideal.ofBits .f32 0x3F800000#32 + Ideal.exp (-(((realHead P B D s h).g n d : ℝ) : EReal))) = _
  rw [bits_one, ← EReal.coe_neg, Ideal.exp_coe, ← EReal.coe_one, ← EReal.coe_add, div_real _ (RHead.one_add_exp_ne _)]
  rfl

omit hs in
theorem ref_dob (n : Fin 4096) (d : Fin 128) : val_main_v61 (F := Ideal) (up P) (up D) (ix2 n (col h d)) = ((realHead P B D s h).dob n d : EReal) := by
  rw [val_main_v61_apply, val_main_v58_0_apply, ref_g P B D s, ref_sg P B D s]
  show ((D _ : ℝ) : EReal) * (_ * _) = _
  rw [← EReal.coe_mul, ← EReal.coe_mul]
  rfl

omit hs in
theorem ref_dob3 (n : Fin 4096) (d : Fin 128) : val_main_v64 (F := Ideal) (up P) (up D) (ix3 h n d) = ((realHead P B D s h).dob n d : EReal) := by
  rw [ref_do, hCols_apply, at2_val (a := 4096) (b := 2048) _ n.isLt (by omega)]
  exact ref_dob P B D s h n d

omit hs in
theorem ref_q3 (n : Fin 4096) (d : Fin 128) : val_main_v5 (F := Ideal) (up P) (ix3 h n d) = ((realHead P B D s h).q n d : EReal) := by
  rw [ref_q, hCols_apply, hSlice_apply _ 0 _ _ _ _ (by omega), Nat.zero_add, at2_val (a := 4096) (b := 8320) _ n.isLt (by omega)]
  rfl

omit hs in
theorem ref_k3 (n : Fin 4096) (d : Fin 128) : val_main_v7 (F := Ideal) (up P) (ix3 h n d) = ((realHead P B D s h).k n d : EReal) := by
  rw [ref_k, hCols_apply, hSlice_apply _ 2048 _ _ _ _ (by omega), at2_val (a := 4096) (b := 8320) _ n.isLt (by omega)]
  rfl

omit hs in
theorem ref_v3 (n : Fin 4096) (d : Fin 128) : val_main_v54 (F := Ideal) (up P) (ix3 h n d) = ((realHead P B D s h).v n d : EReal) := by
  rw [ref_v, hCols_apply, hSlice_apply _ 4096 _ _ _ _ (by omega), at2_val (a := 4096) (b := 8320) _ n.isLt (by omega)]
  rfl

omit hs in
theorem ref_G (n c : Fin 4096) : val_main_v67 (F := Ideal) (up P) (up D) (ix3 h n c) = ((realHead P B D s h).G n c : EReal) := by
  rw [val_main_v67_apply]
  unfold RHead.G
  rw [coe_sum]
  refine Finset.sum_congr rfl fun d _ => ?_
  rw [show lidx_main_v67 (ix3 h n c) d = ix3 h n d from by funext a; fin_cases a <;> rfl,
    show ridx_main_v67 (ix3 h n c) d = ix3 h c d from by funext a; fin_cases a <;> rfl, ref_dob3 P B D s, ref_v3 P B D s, EReal.coe_mul]

/-- The gradient of the gate. -/
theorem ref_dgate (n : Fin 4096) (d : Fin 128) : val_main_v98 (F := Ideal) (up P) (up B) (up D) (ix2 n (col h d)) = ((realHead P B D s h).dgate n d : EReal) := by
  rw [val_main_v98_apply, val_main_v62_apply, val_main_call2_v1_apply, val_main_call2_v2_apply, val_main_call2_v0_apply, val_main_v60_apply,
    val_main_v58_1_apply, val_main_call1_v7_apply, val_main_call1_v6_apply, ref_g P B D s, ref_sg P B D s, ref_o P B D s hs]
  show ((_ * ((D _ : ℝ) : EReal)) * _) + (_ * (_ * ((D _ : ℝ) : EReal))) * (_ * (Ideal.ofBits .f32 0x3F800000#32 - _)) = _
  rw [bits_one, ← EReal.coe_one]
  simp only [← EReal.coe_mul, ← EReal.coe_sub, ← EReal.coe_add]
  congr 1
  unfold RHead.dgate
  show _ = D (ix2 n (col h d)) * _ * _
  ring

/-- The gradient of the probabilities' values. -/
theorem ref_dv_real (a : Fin 4096) (d : Fin 128) :
    val_main_v69 (F := Ideal) (up P) (up B) (up D) (ix2 a (col h d)) = ((∑ n, (realHead P B D s h).p n a * (realHead P B D s h).dob n d : ℝ) : EReal) := by
  rw [ref_dv, hRows_apply, val_main_v66_apply, val_main_v65_apply, coe_sum]
  refine Finset.sum_congr rfl fun n _ => ?_
  rw [show lidx_main_v65 (idx_main_v66 (ix3 h a d)) n = ix3 h n d from by funext a; fin_cases a <;> rfl,
    show ridx_main_v65 (idx_main_v66 (ix3 h a d)) n = ix3 h n a from by funext a; fin_cases a <;> rfl, ref_dob3 P B D s, ref_p P B D s hs, mul_comm, EReal.coe_mul]

/-- The gradient of the scores. -/
theorem ref_dz (n c : Fin 4096) : val_main_v82 (F := Ideal) (up P) (up B) (up D) (ix3 h n c) = ((realHead P B D s h).dz n c : EReal) := by
  rw [val_main_v82_apply, ref_mask]
  by_cases hc : c.val ≤ n.val
  · rw [if_pos hc]
    show val_main_v81 (F := Ideal) (up P) (up B) (up D) (ix3 h n c) = _
    obtain ⟨μ, hμ⟩ := max_real P B D s hs h n
    have hE' : ∀ x, val_main_v45 (F := Ideal) (up P) (up B) (ix3 h n x) = ((realHead P B D s h).e μ n x : EReal) := fun x => by
      rw [ref_exp]
      exact hE_real P B D s hs h _ μ n hμ x
    have hS' : val_main_v47 (F := Ideal) (up P) (up B) (ix3 h n 0) = (((realHead P B D s h).S n * Real.exp (-μ) : ℝ) : EReal) := by
      rw [ref_S, ref_exp]
      exact hS_real P B D s hs h _ μ n hμ
    have hT := (RHead.shift_pos (realHead P B D s h) μ n).ne'
    have hI : val_main_v52 (F := Ideal) (up P) (up B) (ix3 h n 0)
        = ((1 / (((realHead P B D s h).S n * Real.exp (-μ)) * ((realHead P B D s h).S n * Real.exp (-μ))) : ℝ) : EReal) := by
      rw [val_main_v52_apply, val_main_v50_apply, val_main_v51_apply, hS']
      show Ideal.div (Ideal.ofBits .f32 0x3F800000#32) (_ * _) = _
      rw [bits_one, ← EReal.coe_one, ← EReal.coe_mul, div_real _ (mul_ne_zero hT hT)]
    have h73 : val_main_v73 (F := Ideal) (up P) (up B) (up D) (ix2 h n)
        = ((∑ x, (realHead P B D s h).G n x * (1 / (((realHead P B D s h).S n * Real.exp (-μ)) * ((realHead P B D s h).S n * Real.exp (-μ))))
          * (realHead P B D s h).e μ n x : ℝ) : EReal) := by
      rw [val_main_v73_apply, coe_sum, val_main_cst_11_apply]
      refine Eq.trans (congrArg (· + _) bits_zero) (Eq.trans (zero_add _) ?_)
      refine Finset.sum_congr rfl fun x _ => ?_
      rw [show idx_main_v73 (ix2 h n) x = ix3 h n x from by funext a; fin_cases a <;> rfl, val_main_v72_apply, val_main_v71_apply, val_main_v70_apply,
        show idx_main_v70 (ix3 h n x) = ix3 h n 0 from by funext a; fin_cases a <;> rfl, hI, hE', ref_G P B D s]
      show _ * _ * _ = _
      rw [← EReal.coe_mul, ← EReal.coe_mul]
    have h78 : val_main_v78 (F := Ideal) (up P) (up B) (up D) (ix2 h n)
        = -val_main_v73 (F := Ideal) (up P) (up B) (up D) (ix2 h n) := by
      rw [val_main_v78_apply, Fin.sum_univ_one, val_main_v75_apply, val_main_v74_apply, val_main_cst_12_apply]
      refine Eq.trans (congrArg (· + _) bits_zero) (Eq.trans (zero_add _) ?_)
      rw [show idx_main_v74 (idx_main_v78 (ix2 h n) 0) = ix2 h n from by
        funext a
        fin_cases a
        · apply Fin.ext
          simp <;> omega
        · apply Fin.ext
          simp <;> omega]
      rfl
    rw [val_main_v81_apply, val_main_v80_apply, val_main_v77_apply, val_main_v76_apply, val_main_v79_apply,
      show idx_main_v76 (ix3 h n c) = ix3 h n 0 from by funext a; fin_cases a <;> rfl,
      show idx_main_v79 (ix3 h n c) = ix2 h n from by funext a; fin_cases a <;> rfl, hE', hS', ref_G P B D s, h78, h73, ← RHead.dz_shift _ μ]
    show (Ideal.div _ _ + _) * _ = _
    rw [div_real _ hT, ← EReal.coe_neg, ← EReal.coe_add, ← EReal.coe_mul]
  · rw [if_neg hc, RHead.dz_masked _ _ _ hc]
    show Ideal.ofBits .f32 0x00000000#32 = _
    rw [bits_zero]
    rfl

theorem ref_dzs (n c : Fin 4096) : val_main_v91 (F := Ideal) (up P) (up B) (up D) (ix3 h n c) = (((realHead P B D s h).dz n c * s : ℝ) : EReal) := by
  rw [val_main_v91_apply, val_main_v90_apply, ref_dz P B D s hs]
  show _ * sc = _
  rw [hs, EReal.coe_mul]

/-- The gradient of the queries. -/
theorem ref_dq_real (n : Fin 4096) (d : Fin 128) :
    val_main_v97 (F := Ideal) (up P) (up B) (up D) (ix2 n (col h d)) = (((∑ c, (realHead P B D s h).dz n c * (realHead P B D s h).k c d) * s : ℝ) : EReal) := by
  rw [ref_dq, hRows_apply, val_main_v93_apply, Finset.sum_mul, coe_sum]
  refine Finset.sum_congr rfl fun c _ => ?_
  rw [show lidx_main_v93 (ix3 h n d) c = ix3 h n c from by funext a; fin_cases a <;> rfl,
    show ridx_main_v93 (ix3 h n d) c = ix3 h c d from by funext a; fin_cases a <;> rfl, ref_dzs P B D s hs, ref_k3 P B D s, ← EReal.coe_mul]
  congr 1
  ring

/-- The gradient of the keys. -/
theorem ref_dk_real (a : Fin 4096) (d : Fin 128) :
    val_main_v95 (F := Ideal) (up P) (up B) (up D) (ix2 a (col h d)) = ((∑ n, (realHead P B D s h).dz n a * ((realHead P B D s h).q n d * s) : ℝ) : EReal) := by
  rw [ref_dk, hRows_apply, val_main_v92_apply, coe_sum]
  refine Finset.sum_congr rfl fun n _ => ?_
  rw [show lidx_main_v92 (ix3 h a d) n = ix3 h n a from by funext a; fin_cases a <;> rfl,
    show ridx_main_v92 (ix3 h a d) n = ix3 h n d from by funext a; fin_cases a <;> rfl, ref_dzs P B D s hs, ref_q3 P B D s, ← EReal.coe_mul]
  congr 1
  ring

/-- The gradient of the forget bias as the columns have it. -/
theorem ref_dcc_real (b : Fin 8) (d : Fin 512) :
    val_main_v99 (F := Ideal) (up P) (up B) (up D) (ix3 h b d) = ((-∑ n, (realHead P B D s h).dz n ⟨512 * b.val + d.val, by omega⟩ : ℝ) : EReal) := by
  rw [val_main_v99_apply, val_main_v86_apply, Fin.sum_univ_one, val_main_v85_apply, val_main_v84_apply, ← Finset.sum_neg_distrib, coe_sum,
    val_main_cst_13_apply, val_main_cst_14_apply]
  refine Eq.trans (congrArg (· + _) bits_zero) (Eq.trans (zero_add _) ?_)
  refine Eq.trans (congrArg (· + _) bits_zero) (Eq.trans (zero_add _) ?_)
  refine Finset.sum_congr rfl fun n _ => ?_
  rw [val_main_v83_apply, EReal.coe_neg, ← ref_dz P B D s hs]
  show -_ = -_
  congr 2
  funext a
  have := h.isLt
  have := b.isLt
  have := d.isLt
  fin_cases a
  · apply Fin.ext
    simp <;> omega
  · rfl
  · apply Fin.ext
    simp <;> omega

/-- The gradient of the forget bias as the rows have it. -/
theorem ref_dcr_real (n : Fin 4096) :
    val_main_v100 (F := Ideal) (up P) (up B) (up D) (ix3 h n 0) = ((∑ c, (realHead P B D s h).dz n c : ℝ) : EReal) := by
  rw [val_main_v100_apply, val_main_v89_apply, Fin.sum_univ_one, val_main_v88_apply, val_main_v87_apply, coe_sum, val_main_cst_15_apply, val_main_cst_16_apply]
  refine Eq.trans (congrArg (· + _) bits_zero) (Eq.trans (zero_add _) ?_)
  refine Eq.trans (congrArg (· + _) bits_zero) (Eq.trans (zero_add _) ?_)
  refine Finset.sum_congr rfl fun c _ => ?_
  rw [← ref_dz P B D s hs]
  congr 1
  funext a
  have := h.isLt
  have := n.isLt
  fin_cases a
  · apply Fin.ext
    simp <;> omega
  · apply Fin.ext
    simp <;> omega
  · rfl

end Cert.KernelIdeal.Block
-- ==== Proof.Equation.lean ====
module

public import proofs.«01_k».proof.Proof.RefReal

/-!
# The equation

On finite inputs the kernel's six results are the reference's.
-/

@[expose] public section

set_option maxRecDepth 16384

noncomputable section

namespace Cert.KernelIdeal.Block

open Idealize.ShloMosaic Idealize.ShloMosaic.TcCoe Idealize.ShloMosaic.Tactic Cert.KernelIdeal Cert.KernelIdeal.Gen Cert.KernelIdeal.Value
open Cert.ReferenceIdeal.Read

/-- An index of a row of heads is a head's column. -/
theorem col_surj (i : S4096x2048.Idx) : ∃ (n : Fin 4096) (h : Fin 16) (d : Fin 128), i = ix2 n (col h d) := by
  have hi : (i 1).val < 2048 := (i 1).isLt
  refine ⟨i 0, ⟨(i 1).val / 128, by omega⟩, ⟨(i 1).val % 128, by omega⟩, ?_⟩
  funext a
  fin_cases a
  · rfl
  · apply Fin.ext
    show (i 1).val = 128 * ((i 1).val / 128) + (i 1).val % 128
    omega

theorem blocks_surj (i : S16x8x512.Idx) : ∃ (h : Fin 16) (b : Fin 8) (d : Fin 512), i = ix3 h b d := by
  refine ⟨i 0, i 1, i 2, ?_⟩
  funext a
  fin_cases a <;> rfl

theorem rows_surj (i : S16x4096x1.Idx) : ∃ (h : Fin 16) (n : Fin 4096), i = ix3 h n 0 := by
  refine ⟨i 0, i 1, ?_⟩
  funext a
  fin_cases a
  · rfl
  · rfl
  · exact Subsingleton.elim (α := Fin 1) _ _

variable (m : (ℓ : Loc nD τ sig) → Buf (Elt Ideal) ℓ) (c : Dev nD)
variable (P : S4096x8320.Idx → ℝ) (B : S16x4096.Idx → ℝ) (D : S4096x2048.Idx → ℝ)
variable (hP : m ((c : Thread nD τ).loc main_arg0) = up P) (hB : m ((c : Thread nD τ).loc main_arg1) = up B)
  (hD : m ((c : Thread nD τ).loc main_arg2) = up D)
include hP hB hD

/-- The queries' gradient. -/
theorem eq_dq : val_main_v97 (F := Ideal) (up P) (up B) (up D) = G9 m c := by
  obtain ⟨s, hs⟩ := sc_real
  funext i
  obtain ⟨n, h, d, rfl⟩ := col_surj i
  rw [ref_dq_real P B D s hs]
  exact ((dq_at m c n h d).trans ((headAt_real P B D s m c hs hP hB hD h).dq n d)).symm

/-- The keys' gradient. -/
theorem eq_dk : val_main_v95 (F := Ideal) (up P) (up B) (up D) = G10 m c := by
  obtain ⟨s, hs⟩ := sc_real
  funext i
  obtain ⟨n, h, d, rfl⟩ := col_surj i
  rw [ref_dk_real P B D s hs]
  exact ((dk_at m c n h d).trans ((headAt_real P B D s m c hs hP hB hD h).dk n d)).symm

/-- The values' gradient. -/
theorem eq_dv : val_main_v69 (F := Ideal) (up P) (up B) (up D) = G11 m c := by
  obtain ⟨s, hs⟩ := sc_real
  funext i
  obtain ⟨n, h, d, rfl⟩ := col_surj i
  rw [ref_dv_real P B D s hs]
  exact ((dv_at m c n h d).trans ((headAt_real P B D s m c hs hP hB hD h).dv n d)).symm

/-- The gate's gradient. -/
theorem eq_dgate : val_main_v98 (F := Ideal) (up P) (up B) (up D) = G12 m c := by
  obtain ⟨s, hs⟩ := sc_real
  funext i
  obtain ⟨n, h, d, rfl⟩ := col_surj i
  rw [ref_dgate P B D s hs]
  exact ((dgate_at' m c n h d).trans ((headAt_real P B D s m c hs hP hB hD h).dgate n d)).symm

/-- The forget bias's gradient from the columns. -/
theorem eq_dcc : val_main_v99 (F := Ideal) (up P) (up B) (up D) = G13 m c := by
  obtain ⟨s, hs⟩ := sc_real
  funext i
  obtain ⟨h, b, d, rfl⟩ := blocks_surj i
  rw [ref_dcc_real P B D s hs]
  exact ((dcc_at m c h b d).trans ((headAt_real P B D s m c hs hP hB hD h).dcc ⟨512 * b.val + d.val, by omega⟩)).symm

/-- The forget bias's gradient from the rows. -/
theorem eq_dcr : val_main_v100 (F := Ideal) (up P) (up B) (up D) = G14 m c := by
  obtain ⟨s, hs⟩ := sc_real
  funext i
  obtain ⟨h, n, rfl⟩ := rows_surj i
  rw [ref_dcr_real P B D s hs]
  exact ((dcr_at m c h n).trans ((headAt_real P B D s m c hs hP hB hD h).dcr n)).symm

end Cert.KernelIdeal.Block
-- ==== Proof.Finite.lean ====
module

public import proofs.«01_k».proof.Pre_finite
public import Idealize.ShloMosaic.Lib.ReduceAll
public import proofs.«01_k».proof.Proof.Reads

/-!
# Finite inputs

The precondition makes each input an array of real numbers.
-/

@[expose] public section

set_option maxRecDepth 16384

noncomputable section

namespace Cert.KernelIdeal.Block

open Idealize.ShloMosaic Idealize.ShloMosaic.TcCoe Idealize.ShloMosaic.Tactic

/-- The precondition's side conditions. -/
theorem preFacts : Cert.Pre_finite.Facts where
  bcast_S_S4096x8320 := by decide
  reducesTo_S4096x8320_S_d0_1 := by decide
  h_S_ := by decide
  bcast_S_S16x4096 := by decide
  reducesTo_S16x4096_S_d0_1 := by decide
  bcast_S_S4096x2048 := by decide
  reducesTo_S4096x2048_S_d0_1 := by decide

/-- A number whose absolute value is below ∞ is real. -/
theorem real_of_abs {x : EReal} (hx : Ideal.cmp .olt (max x (-x)) (Ideal.ofBits .f32 0x7F800000#32) = 1#1) :
    ((x.toReal : ℝ) : EReal) = x := by
  refine EReal.coe_toReal ?_ ?_
  · rintro rfl
    simp [Ideal.ofBits, Ideal.ieee, Ideal.cmp] at hx
  · rintro rfl
    simp [Ideal.ofBits, Ideal.ieee, Ideal.cmp] at hx

/-- An array whose entries' absolute values are all below ∞ is an array of real numbers. -/
theorem real_of_all {S : Shape} (X : FVec Ideal S .f32) {axes : List (Fin S.rank)} (hb : (⟨0, ![]⟩ : Shape).BroadcastsInDim S (![] : Fin 0 → Fin S.rank))
    (hr : S.ReducesTo axes ⟨0, ![]⟩) (h0 : 0 < (⟨0, ![]⟩ : Shape).numel) (j : (⟨0, ![]⟩ : Shape).Idx)
    (h : Host.reduce IntOp.andi (cmpf .olt (Host.absf X) (broadcastInDim S ![] hb (constant ⟨0, ![]⟩ .f32 0x7F800000#32)))
      (constantI ⟨0, ![]⟩ 1 1#1) hr h0 j = 1#1) : X = fun i => ((X i).toReal : EReal) := by
  funext i
  have : Subsingleton (⟨0, ![]⟩ : Shape).Idx := ⟨fun a b => funext fun k => k.elim0⟩
  exact (real_of_abs (Host.reduce_andi_all _ _ _ _ j h i)).symm

/-- The three inputs are arrays of real numbers. -/
theorem real_of_pre [Cert.Pre_finite.Facts] (x0 : FVec Ideal Cert.Pre_finite.S4096x8320 .f32) (x1 : FVec Ideal Cert.Pre_finite.S16x4096 .f32)
    (x2 : FVec Ideal Cert.Pre_finite.S4096x2048 .f32) (h : Cert.Pre_finite.fn (F := Ideal) x0 x1 x2 = fun _ => 1#1) :
    (x0 = fun i => ((x0 i).toReal : EReal)) ∧ (x1 = fun i => ((x1 i).toReal : EReal)) ∧ (x2 = fun i => ((x2 i).toReal : EReal)) := by
  let j : (⟨0, ![]⟩ : Shape).Idx := fun k => k.elim0
  have h' := congrFun h j
  have hand : ∀ a b : BitVec 1, IntOp.andi a b = 1#1 → a = 1#1 ∧ b = 1#1 := by decide
  obtain ⟨h12, h3⟩ := hand _ _ h'
  obtain ⟨h1, h2⟩ := hand _ _ h12
  exact ⟨real_of_all x0 Cert.Pre_finite.Facts.bcast_S_S4096x8320 Cert.Pre_finite.Facts.reducesTo_S4096x8320_S_d0_1 Cert.Pre_finite.Facts.h_S_ j h1,
    real_of_all x1 Cert.Pre_finite.Facts.bcast_S_S16x4096 Cert.Pre_finite.Facts.reducesTo_S16x4096_S_d0_1 Cert.Pre_finite.Facts.h_S_ j h2,
    real_of_all x2 Cert.Pre_finite.Facts.bcast_S_S4096x2048 Cert.Pre_finite.Facts.reducesTo_S4096x2048_S_d0_1 Cert.Pre_finite.Facts.h_S_ j h3⟩

end Cert.KernelIdeal.Block
-- ==== Proof.SbBlock.lean ====
module

public import proofs.«01_k».proof.Proof.Gen.Kernel2Ideal.Skeleton
public import Idealize.ShloMosaic.Lib.Pointwise

/-!
# The stick-breaking backward pass on one block of 128 key columns

A tile has 1024 query rows. On a block of 128 keys the kernel forms the scores, the weights and the gradients of the scores, and
adds what they give to five accumulators. The running sums along a row are products with a triangular matrix of ones. `sel` is the
causal mask: on the diagonal it puts zero where a key does not come before the row, below the diagonal it changes nothing.
-/

@[expose] public section

set_option maxRecDepth 16384

noncomputable section

namespace Cert.Kernel2Ideal.Sb

open Idealize.ShloMosaic Cert.Kernel2Ideal Cert.Kernel2Ideal.Gen

variable (sel : FVec Ideal S1024x128 .f32 → FVec Ideal S1024x128 .f32)
  (dob q : FVec Ideal S1024x128 .bf16) (lt : FVec Ideal S1024x1 .f32) (t41 t46 : FVec Ideal S256x128 .bf16)
  (cp cc : FVec Ideal S1024x1 .f32) (dq : FVec Ideal S1024x128 .f32) (kk vv : Vec Ideal S128x128 .bf16)
  (x : FVec Ideal S1024x128 .f32) (old : Vec Ideal S128x128 .f32)

/-- The running sums of a block's rows: `x` is split in two parts of half the width, whose product with the triangular matrix
stacked on itself is taken; the sum of the blocks before is added. -/
def bTri (t : FVec Ideal S256x128 .bf16) (x : FVec Ideal S1024x128 .f32) (c : FVec Ideal S1024x1 .f32) : FVec Ideal S1024x128 .f32 :=
  addf (matmul dot_S1024x256_S256x128_S1024x128_1_0_0_1_n_n none
      (concatenate S1024x256 1 [⟨S1024x128, truncf .bf16 x bitsLt_bf16_f32⟩,
        ⟨S1024x128, truncf .bf16 (subf x (extf .f32 (truncf .bf16 x bitsLt_bf16_f32) bitsLt_bf16_f32)) bitsLt_bf16_f32⟩]
        concatenates_S1024x128_S1024x128_S1024x256_d1)
      t (constant S1024x128 .f32 0x00000000#32))
    (broadcastTo S1024x128 c broadcasts_S1024x1_S1024x128)

/-- The logarithms of the shares that the keys leave. -/
def bLs : FVec Ideal S1024x128 .f32 := sel (k0_pay6 q kk)

/-- The weights. -/
def bW : FVec Ideal S1024x128 .f32 :=
  sel (exp (addf (k0_pay7 q kk) (subf (broadcastTo S1024x128 lt broadcasts_S1024x1_S1024x128) (bTri t41 (bLs sel q kk) cp))))

/-- The gradients of the weights' logarithms. -/
def bDa : FVec Ideal S1024x128 .f32 :=
  mulf (matmul (φ₂ := .bf16) dot_S1024x128_S128x128_S1024x128_1_1_0_0_n_n none dob vv (constant S1024x128 .f32 0x00000000#32))
    (bW sel q lt t41 cp kk)

/-- The gradients of the scores. -/
def bDz : FVec Ideal S1024x128 .bf16 :=
  truncf .bf16 (sel (subf (mulf (bDa sel dob q lt t41 cp kk vv)
      (subf (broadcast S1024x128 (Scalar.ofBits (F := Ideal) .f32 0x3F800000#32)) (exp (k0_pay7 q kk))))
    (mulf (exp (k0_pay7 q kk)) (bTri t46 (bDa sel dob q lt t41 cp kk vv) cc)))) bitsLt_bf16_f32

/-- The gradient of the queries after the block. -/
def bDq : FVec Ideal S1024x128 .f32 :=
  addf dq (matmul (φ₂ := .bf16) dot_S1024x128_S128x128_S1024x128_1_0_0_1_n_n none (bDz sel dob q lt t41 t46 cp cc kk vv) kk
    (constant S1024x128 .f32 0x00000000#32))

/-- The block's rows of the gradient of the keys after the block. -/
def bDk : FVec Ideal S128x128 .f32 :=
  shapeCast S128x128 (addf old (matmul dot_S1024x128_S1024x128_S128x128_0_0_1_1_n_n none (bDz sel dob q lt t41 t46 cp cc kk vv) q
    (constant S128x128 .f32 0x00000000#32))) shapeCasts_S128x128_S128x128

/-- The block's rows of the gradient of the values after the block. -/
def bDv : FVec Ideal S128x128 .f32 :=
  shapeCast S128x128 (addf old (matmul dot_S1024x128_S1024x128_S128x128_0_0_1_1_n_n none
    (truncf .bf16 (bW sel q lt t41 cp kk) bitsLt_bf16_f32) dob
    (constant S128x128 .f32 0x00000000#32))) shapeCasts_S128x128_S128x128

/-- The running sum of the logarithms after the block. -/
def bCp : FVec Ideal S1024x1 .f32 := k0_pay16 cp (bLs sel q kk)

/-- The running sum of the gradients of the logarithms after the block. -/
def bCc : FVec Ideal S1024x1 .f32 := k0_pay17 cc (bDa sel dob q lt t41 cp kk vv)

/-- The scores. -/
theorem z_apply (r : Fin 1024) (c : Fin 128) : k0_pay4 q kk (ix2 r c) = ∑ x : Fin 128, q (ix2 r x) * kk (ix2 c x) := by
  pointwise [k0_pay4]

/-- The softplus of a score. -/
theorem sp_apply (r : Fin 1024) (c : Fin 128) :
    k0_pay5 q kk (ix2 r c) = max (k0_pay4 q kk (ix2 r c)) 0
      + Ideal.log (1 + Ideal.exp (0 - max (k0_pay4 q kk (ix2 r c)) (-(k0_pay4 q kk (ix2 r c))))) := by
  pointwise [k0_pay5]
  rfl

theorem ls_apply (r : Fin 1024) (c : Fin 128) : k0_pay6 q kk (ix2 r c) = 0 - k0_pay5 q kk (ix2 r c) := by
  pointwise [k0_pay6]

theorem lsig_apply (r : Fin 1024) (c : Fin 128) :
    k0_pay7 q kk (ix2 r c) = k0_pay4 q kk (ix2 r c) - k0_pay5 q kk (ix2 r c) := by
  pointwise [k0_pay7]

/-- The running sums, as two products: of the row, and of what the row's rounding leaves. -/
theorem tri_apply (t : FVec Ideal S256x128 .bf16) (c : FVec Ideal S1024x1 .f32) (r : Fin 1024) (j : Fin 128) :
    bTri t x c (ix2 r j)
      = (∑ k : Fin 128, x (ix2 r k) * t (ix2 ⟨k.val, by omega⟩ j)) + (∑ k : Fin 128, (x (ix2 r k) - x (ix2 r k)) * t (ix2 ⟨128 + k.val, by omega⟩ j))
        + c (ix2 r 0) := by
  pointwise [bTri]

/-- What the mask does to a weight. -/
def wRaw : FVec Ideal S1024x128 .f32 :=
  exp (addf (k0_pay7 q kk) (subf (broadcastTo S1024x128 lt broadcasts_S1024x1_S1024x128) (bTri t41 (bLs sel q kk) cp)))

theorem wRaw_apply (r : Fin 1024) (c : Fin 128) :
    wRaw sel q lt t41 cp kk (ix2 r c)
      = Ideal.exp (k0_pay7 q kk (ix2 r c) + (lt (ix2 r 0) - bTri t41 (bLs sel q kk) cp (ix2 r c))) := by
  pointwise [wRaw]

theorem w_eq : bW sel q lt t41 cp kk = sel (wRaw sel q lt t41 cp kk) := rfl

theorem da_apply (r : Fin 1024) (c : Fin 128) :
    bDa sel dob q lt t41 cp kk vv (ix2 r c)
      = (∑ x : Fin 128, dob (ix2 r x) * vv (ix2 c x)) * bW sel q lt t41 cp kk (ix2 r c) := by
  pointwise [bDa]

/-- A gradient of the scores before the mask. -/
def dzRaw : FVec Ideal S1024x128 .f32 :=
  subf (mulf (bDa sel dob q lt t41 cp kk vv)
      (subf (broadcast S1024x128 (Scalar.ofBits (F := Ideal) .f32 0x3F800000#32)) (exp (k0_pay7 q kk))))
    (mulf (exp (k0_pay7 q kk)) (bTri t46 (bDa sel dob q lt t41 cp kk vv) cc))

theorem dzRaw_apply (r : Fin 1024) (c : Fin 128) :
    dzRaw sel dob q lt t41 t46 cp cc kk vv (ix2 r c)
      = bDa sel dob q lt t41 cp kk vv (ix2 r c) * (1 - Ideal.exp (k0_pay7 q kk (ix2 r c)))
        - Ideal.exp (k0_pay7 q kk (ix2 r c)) * bTri t46 (bDa sel dob q lt t41 cp kk vv) cc (ix2 r c) := by
  pointwise [dzRaw]

theorem dz_eq (r : Fin 1024) (c : Fin 128) :
    bDz sel dob q lt t41 t46 cp cc kk vv (ix2 r c) = sel (dzRaw sel dob q lt t41 t46 cp cc kk vv) (ix2 r c) := rfl

theorem dq_apply (r : Fin 1024) (d : Fin 128) :
    bDq sel dob q lt t41 t46 cp cc dq kk vv (ix2 r d)
      = dq (ix2 r d) + ∑ c : Fin 128, bDz sel dob q lt t41 t46 cp cc kk vv (ix2 r c) * kk (ix2 c d) := by
  pointwise [bDq]

theorem dk_apply (c : Fin 128) (d : Fin 128) :
    bDk sel dob q lt t41 t46 cp cc kk vv old (ix2 c d)
      = old (ix2 c d) + ∑ r : Fin 1024, bDz sel dob q lt t41 t46 cp cc kk vv (ix2 r c) * q (ix2 r d) := by
  pointwise [bDk]

theorem dv_apply (c : Fin 128) (d : Fin 128) :
    bDv sel dob q lt t41 cp kk old (ix2 c d)
      = old (ix2 c d) + ∑ r : Fin 1024, bW sel q lt t41 cp kk (ix2 r c) * dob (ix2 r d) := by
  pointwise [bDv]

theorem cp_apply (r : Fin 1024) : k0_pay16 cp x (ix2 r 0) = cp (ix2 r 0) + ∑ c : Fin 128, x (ix2 r c) := by
  pointwise [k0_pay16]

theorem cc_apply (r : Fin 1024) : k0_pay17 cc x (ix2 r 0) = cc (ix2 r 0) + ∑ c : Fin 128, x (ix2 r c) := by
  pointwise [k0_pay17]

/-- The bit of a comparison, as a number. -/
theorem bit_one (b : BitVec 1) (h : b = 1#1) : (FloatOps.sitofp FTy.f32 (BitVec.setWidth 32 b) : Ideal .f32) = (1 : EReal) := by
  subst h
  show (((BitVec.setWidth 32 (1#1 : BitVec 1)).toInt : ℝ) : EReal) = 1
  simp

theorem bit_zero (b : BitVec 1) (h : b = 0#1) : (FloatOps.sitofp FTy.f32 (BitVec.setWidth 32 b) : Ideal .f32) = (0 : EReal) := by
  subst h
  show (((BitVec.setWidth 32 (0#1 : BitVec 1)).toInt : ℝ) : EReal) = 0
  simp

theorem bit_ite (p : Prop) [Decidable p] :
    (FloatOps.sitofp FTy.f32 (BitVec.setWidth 32 (if p then 1#1 else 0#1 : BitVec 1)) : Ideal .f32) = if p then (1 : EReal) else 0 := by
  by_cases h : p
  · rw [if_pos h, if_pos h]
    exact bit_one _ rfl
  · rw [if_neg h, if_neg h]
    exact bit_zero _ rfl

/-- Comparisons of small words are comparisons of numbers. -/
theorem slt_word {a b : ℕ} (ha : a < 2 ^ 31) (hb : b < 2 ^ 31) :
    IntOp.cmpi CmpIPredicate.slt (BitVec.ofNat 32 a) (BitVec.ofNat 32 b) = if a < b then 1#1 else 0#1 := by
  have key : (BitVec.ofNat 32 a).slt (BitVec.ofNat 32 b) = decide (a < b) := by
    rw [BitVec.slt_eq_decide, BitVec.toInt_ofNat', BitVec.toInt_ofNat']
    have h1 : Int.bmod (a : ℤ) (2 ^ 32) = (a : ℤ) := Int.bmod_eq_of_le (by omega) (by omega)
    have h2 : Int.bmod (b : ℤ) (2 ^ 32) = (b : ℤ) := Int.bmod_eq_of_le (by omega) (by omega)
    rw [h1, h2]
    exact decide_eq_decide.mpr Int.ofNat_lt
  by_cases h : a < b <;> simp [IntOp.cmpi, key, h]

theorem sle_word {a b : ℕ} (ha : a < 2 ^ 31) (hb : b < 2 ^ 31) :
    IntOp.cmpi CmpIPredicate.sle (BitVec.ofNat 32 a) (BitVec.ofNat 32 b) = if a ≤ b then 1#1 else 0#1 := by
  have key : (BitVec.ofNat 32 a).sle (BitVec.ofNat 32 b) = decide (a ≤ b) := by
    rw [BitVec.sle_eq_decide, BitVec.toInt_ofNat', BitVec.toInt_ofNat']
    have h1 : Int.bmod (a : ℤ) (2 ^ 32) = (a : ℤ) := Int.bmod_eq_of_le (by omega) (by omega)
    have h2 : Int.bmod (b : ℤ) (2 ^ 32) = (b : ℤ) := Int.bmod_eq_of_le (by omega) (by omega)
    rw [h1, h2]
    exact decide_eq_decide.mpr Int.ofNat_le
  by_cases h : a ≤ b <;> simp [IntOp.cmpi, key, h]

/-- The triangular matrices: ones up to the column, and ones before the column. -/
theorem upto_apply (x : Fin 256) (c : Fin 128) : k0_pay223 (F := Ideal) (ix2 x c) = if x.val % 128 ≤ c.val then 1 else 0 := by
  have hx := x.isLt
  have hc := c.isLt
  pointwise [k0_pay223]
  split
  · rw [sle_word (by omega) (by omega), Nat.mod_eq_of_lt ‹_›]
    exact bit_ite _
  · have e : x.val % 128 = x.val - 128 := by omega
    rw [sle_word (by omega) (by omega), e]
    exact bit_ite _

theorem before_apply (x : Fin 256) (c : Fin 128) : k0_pay224 (F := Ideal) (ix2 x c) = if x.val % 128 < c.val then 1 else 0 := by
  have hx := x.isLt
  have hc := c.isLt
  pointwise [k0_pay224]
  split
  · rw [slt_word (by omega) (by omega), Nat.mod_eq_of_lt ‹_›]
    exact bit_ite _
  · have e : x.val % 128 = x.val - 128 := by omega
    rw [slt_word (by omega) (by omega), e]
    exact bit_ite _

/-- The queries, scaled. -/
theorem qs_apply (q : Vec Ideal S1024x128 .f32) (r : Fin 1024) (d : Fin 128) :
    k0_pay221 q (ix2 r d) = q (ix2 r d) * Ideal.ofBits .f32 0x3DB504F3#32 := by
  pointwise [k0_pay221]

/-- The gate's sigmoid. -/
theorem sg_apply (g : Vec Ideal S1024x128 .f32) (r : Fin 1024) (d : Fin 128) :
    k0_pay218 g (ix2 r d) = Ideal.div 1 (1 + Ideal.exp (0 - g (ix2 r d))) := by
  pointwise [k0_pay218]

/-- The gate's gradient. -/
theorem dgate_apply (g dg o : Vec Ideal S1024x128 .f32) (r : Fin 1024) (d : Fin 128) :
    k0_pay219 g dg o (ix2 r d)
      = dg (ix2 r d) * o (ix2 r d) * (k0_pay218 g (ix2 r d) * (1 + g (ix2 r d) * (1 - k0_pay218 g (ix2 r d)))) := by
  pointwise [k0_pay219]

/-- The gradient of the attention's output. -/
theorem dob_apply (g dg : Vec Ideal S1024x128 .f32) (r : Fin 1024) (d : Fin 128) :
    k0_pay220 g dg (ix2 r d) = dg (ix2 r d) * (g (ix2 r d) * k0_pay218 g (ix2 r d)) := by
  pointwise [k0_pay220]

/-- The row totals of the logarithms. -/
theorem lt_apply (l : Vec Ideal S1x1024x1 .f32) (r : Fin 1024) : k0_pay222 l (ix2 r 0) = l (ix3 0 r 0) := by
  pointwise [k0_pay222]

/-- The keys and the values are kept as they are, and the accumulators start at zero. -/
theorem kb_apply (k : Vec Ideal S4096x128 .f32) (c : Fin 4096) (d : Fin 128) : k0_pay214 k (ix2 c d) = k (ix2 c d) := by
  pointwise [k0_pay214]

theorem vb_apply (k : Vec Ideal S4096x128 .f32) (c : Fin 4096) (d : Fin 128) : k0_pay215 k (ix2 c d) = k (ix2 c d) := by
  pointwise [k0_pay215]

theorem zero216_apply (c : Fin 4096) (d : Fin 128) : k0_pay216 (F := Ideal) (ix2 c d) = 0 := by
  pointwise [k0_pay216]

theorem zero217_apply (c : Fin 4096) (d : Fin 128) : k0_pay217 (F := Ideal) (ix2 c d) = 0 := by
  pointwise [k0_pay217]

theorem zero225_apply (r : Fin 1024) : k0_pay225 (F := Ideal) (ix2 r 0) = 0 := by
  pointwise [k0_pay225]

theorem zero226_apply (r : Fin 1024) (d : Fin 128) : k0_pay226 (F := Ideal) (ix2 r d) = 0 := by
  pointwise [k0_pay226]

/-- What the kernel stores of the accumulators. -/
theorem out1_apply (v : FVec Ideal S1024x128 .f32) (r : Fin 1024) (d : Fin 128) : k0_pay1 v (ix2 r d) = v (ix2 r d) := by
  pointwise [k0_pay1]

theorem out2_apply (v : Vec Ideal S4096x128 .f32) (r : Fin 4096) (d : Fin 128) : k0_pay2 v (ix2 r d) = v (ix2 r d) := by
  pointwise [k0_pay2]

theorem out3_apply (v : Vec Ideal S4096x128 .f32) (r : Fin 4096) (d : Fin 128) : k0_pay3 v (ix2 r d) = v (ix2 r d) := by
  pointwise [k0_pay3]

end Cert.Kernel2Ideal.Sb
-- ==== Proof.SbTile.lean ====
module

public import proofs.«01_k».proof.Proof.SbBlock
public import proofs.«01_k».proof.Proof.Real

/-!
# A tile of 1024 query rows of the stick-breaking attention, over the real numbers

`RTile` names what one grid point reads, when all of it is finite. Its functions are the scores, the weights and the gradients of
its rows, with the causal mask written out. Each value of a block of the kernel is one of these real numbers.
-/

@[expose] public section

set_option maxRecDepth 16384

noncomputable section

namespace Cert.Kernel2Ideal.Sb

open Idealize.ShloMosaic Cert.Kernel2Ideal Cert.Kernel2Ideal.Gen
open Cert.KernelIdeal.Block (coe_sum div_real)

/-- The softplus. -/
def softplus (z : ℝ) : ℝ := max z 0 + Real.log (1 + Real.exp (-|z|))

/-- The kernel's formula of the softplus, at a real number. -/
theorem softplus_coe (z : ℝ) :
    max (z : EReal) 0 + Ideal.log (1 + Ideal.exp (0 - max (z : EReal) (-(z : EReal)))) = (softplus z : EReal) := by
  have h1 : max (z : EReal) (-(z : EReal)) = ((|z| : ℝ) : EReal) := by
    rw [← EReal.coe_neg, ← EReal.coe_strictMono.monotone.map_max]
    rfl
  have hp : 0 < 1 + Real.exp (-|z|) := by positivity
  rw [h1, zero_sub, ← EReal.coe_neg, Ideal.exp_coe, ← EReal.coe_one, ← EReal.coe_add, Ideal.log_coe, if_neg (not_le.mpr hp), ← EReal.coe_zero,
    ← EReal.coe_strictMono.monotone.map_max, ← EReal.coe_add]
  rfl

/-- What one grid point reads: the scaled queries, the gradient of the attention's output, the row totals of the logarithms, the
keys, the values, and the tile's number. -/
structure RTile where
  qs : Fin 1024 → Fin 128 → ℝ
  dob : Fin 1024 → Fin 128 → ℝ
  lt : Fin 1024 → ℝ
  K : ℕ → Fin 128 → ℝ
  V : ℕ → Fin 128 → ℝ
  i : ℕ

namespace RTile

variable (T : RTile)

/-- The score of row `r` against key `c`. -/
def z (r : Fin 1024) (c : ℕ) : ℝ := ∑ x : Fin 128, T.qs r x * T.K c x

/-- The logarithm of the share of the stick that key `c` leaves. -/
def ls (r : Fin 1024) (c : ℕ) : ℝ := if c < 1024 * T.i + r.val then -softplus (T.z r c) else 0

/-- The sum of the logarithms of the first `n` keys. -/
def pre (r : Fin 1024) (n : ℕ) : ℝ := ∑ c ∈ Finset.range n, T.ls r c

/-- The weight of key `c` in row `r`. -/
def w (r : Fin 1024) (c : ℕ) : ℝ :=
  if c < 1024 * T.i + r.val then Real.exp (T.z r c - softplus (T.z r c) + (T.lt r - T.pre r (c + 1))) else 0

/-- The gradient of the weight's logarithm. -/
def da (r : Fin 1024) (c : ℕ) : ℝ := (∑ x : Fin 128, T.dob r x * T.V c x) * T.w r c

/-- The sum of these gradients over the first `n` keys. -/
def cs (r : Fin 1024) (n : ℕ) : ℝ := ∑ c ∈ Finset.range n, T.da r c

/-- The gradient of the score. -/
def dz (r : Fin 1024) (c : ℕ) : ℝ :=
  if c < 1024 * T.i + r.val then T.da r c * (1 - Real.exp (T.z r c - softplus (T.z r c)))
    - Real.exp (T.z r c - softplus (T.z r c)) * T.cs r c else 0

end RTile

/-- The sum over one block more. -/
theorem sum_block (f : ℕ → ℝ) (o : ℕ) : ∑ c ∈ Finset.range (o + 128), f c = ∑ c ∈ Finset.range o, f c + ∑ c : Fin 128, f (o + c.val) := by
  rw [Finset.sum_range_add, Finset.sum_range (fun x => f (o + x))]

/-- The sum of the first columns of a block, as a product with a triangular matrix of ones. -/
theorem sum_upto (f : ℕ → ℝ) (o n : ℕ) (hn : n ≤ 128) :
    (∑ k : Fin 128, f (o + k.val) * (if k.val < n then 1 else 0)) + ∑ c ∈ Finset.range o, f c = ∑ c ∈ Finset.range (o + n), f c := by
  rw [Finset.sum_range_add, add_comm]
  congr 1
  simp only [mul_ite, mul_one, mul_zero]
  rw [← Finset.sum_range (fun k => if k < n then f (o + k) else 0), ← Finset.sum_filter]
  refine Finset.sum_congr ?_ fun _ _ => rfl
  ext k
  simp only [Finset.mem_filter, Finset.mem_range]
  omega

/-- The running sums of real rows, when the matrix has ones in the first `n c` rows of column `c`. -/
theorem tri_real {x : FVec Ideal S1024x128 .f32} {t : FVec Ideal S256x128 .bf16} {c : FVec Ideal S1024x1 .f32}
    {f : Fin 1024 → ℕ → ℝ} {o : ℕ} {n : Fin 128 → ℕ} (hn : ∀ j, n j ≤ 128)
    (hx : ∀ r j, x (ix2 r j) = ((f r (o + j.val) : ℝ) : EReal))
    (ht : ∀ k j, t (ix2 k j) = if k.val % 128 < n j then 1 else 0)
    (hc : ∀ r, c (ix2 r 0) = ((∑ j ∈ Finset.range o, f r j : ℝ) : EReal)) (r : Fin 1024) (j : Fin 128) :
    bTri t x c (ix2 r j) = ((∑ k ∈ Finset.range (o + n j), f r k : ℝ) : EReal) := by
  have hi : ∀ (p : Prop) [Decidable p], (if p then (1 : EReal) else 0) = (((if p then 1 else 0 : ℝ)) : EReal) := by
    intro p _
    split <;> simp
  rw [tri_apply, hc]
  have h2 : (∑ k : Fin 128, (x (ix2 r k) - x (ix2 r k)) * t (ix2 ⟨128 + k.val, by omega⟩ j)) = 0 := by
    refine Finset.sum_eq_zero fun k _ => ?_
    rw [hx, ← EReal.coe_sub, sub_self, EReal.coe_zero, zero_mul]
  have h1 : (∑ k : Fin 128, x (ix2 r k) * t (ix2 ⟨k.val, by omega⟩ j))
      = ((∑ k : Fin 128, f r (o + k.val) * (if k.val < n j then 1 else 0) : ℝ) : EReal) := by
    rw [coe_sum]
    refine Finset.sum_congr rfl fun k _ => ?_
    have hk : k.val % 128 = k.val := Nat.mod_eq_of_lt k.isLt
    rw [hx, ht, hi, ← EReal.coe_mul]
    show ((_ * (if k.val % 128 < n j then (1 : ℝ) else 0) : ℝ) : EReal) = _
    rw [hk]
  rw [h1, h2, add_zero, ← EReal.coe_add, sum_upto _ _ _ (hn j)]

/-- What holds at a block of 128 keys from key `o`, before the kernel treats it: the vectors it reads are the tile's, and the
running sums are those of the keys before. -/
structure BlockOk (T : RTile) (o : ℕ) (sel : FVec Ideal S1024x128 .f32 → FVec Ideal S1024x128 .f32)
    (dob q : FVec Ideal S1024x128 .bf16) (lt : FVec Ideal S1024x1 .f32) (t41 t46 : FVec Ideal S256x128 .bf16)
    (cp cc : FVec Ideal S1024x1 .f32) (kk vv : Vec Ideal S128x128 .bf16) : Prop where
  hsel : ∀ x r c, sel x (ix2 r c) = if o + c.val < 1024 * T.i + r.val then x (ix2 r c) else 0
  hdob : ∀ r d, dob (ix2 r d) = ((T.dob r d : ℝ) : EReal)
  hq : ∀ r d, q (ix2 r d) = ((T.qs r d : ℝ) : EReal)
  hlt : ∀ r, lt (ix2 r 0) = ((T.lt r : ℝ) : EReal)
  h41 : ∀ k j, t41 (ix2 k j) = if k.val % 128 ≤ j.val then 1 else 0
  h46 : ∀ k j, t46 (ix2 k j) = if k.val % 128 < j.val then 1 else 0
  hcp : ∀ r, cp (ix2 r 0) = ((T.pre r o : ℝ) : EReal)
  hcc : ∀ r, cc (ix2 r 0) = ((T.cs r o : ℝ) : EReal)
  hk : ∀ c d, kk (ix2 c d) = ((T.K (o + c.val) d : ℝ) : EReal)
  hv : ∀ c d, vv (ix2 c d) = ((T.V (o + c.val) d : ℝ) : EReal)

namespace BlockOk

variable {T : RTile} {o : ℕ} {sel : FVec Ideal S1024x128 .f32 → FVec Ideal S1024x128 .f32}
  {dob q : FVec Ideal S1024x128 .bf16} {lt : FVec Ideal S1024x1 .f32} {t41 t46 : FVec Ideal S256x128 .bf16}
  {cp cc : FVec Ideal S1024x1 .f32} {kk vv : Vec Ideal S128x128 .bf16}
  (B : BlockOk T o sel dob q lt t41 t46 cp cc kk vv)
include B

theorem z (r : Fin 1024) (c : Fin 128) : k0_pay4 q kk (ix2 r c) = ((T.z r (o + c.val) : ℝ) : EReal) := by
  rw [z_apply, RTile.z, coe_sum]
  refine Finset.sum_congr rfl fun x _ => ?_
  rw [B.hq, B.hk, ← EReal.coe_mul]

theorem sp (r : Fin 1024) (c : Fin 128) : k0_pay5 q kk (ix2 r c) = ((softplus (T.z r (o + c.val)) : ℝ) : EReal) := by
  rw [sp_apply, B.z]
  exact softplus_coe _

theorem lsig (r : Fin 1024) (c : Fin 128) :
    k0_pay7 q kk (ix2 r c) = ((T.z r (o + c.val) - softplus (T.z r (o + c.val)) : ℝ) : EReal) := by
  rw [lsig_apply, B.z, B.sp, ← EReal.coe_sub]

theorem ls (r : Fin 1024) (c : Fin 128) : bLs sel q kk (ix2 r c) = ((T.ls r (o + c.val) : ℝ) : EReal) := by
  unfold bLs RTile.ls
  rw [B.hsel]
  split
  · rw [ls_apply, B.sp, zero_sub, ← EReal.coe_neg]
  · rfl

theorem pre (r : Fin 1024) (c : Fin 128) :
    bTri t41 (bLs sel q kk) cp (ix2 r c) = ((T.pre r (o + (c.val + 1)) : ℝ) : EReal) :=
  tri_real (f := T.ls) (n := fun j => j.val + 1) (fun j => j.isLt) B.ls
    (fun k j => (B.h41 k j).trans (by simp only [Nat.lt_succ_iff])) B.hcp r c

theorem w (r : Fin 1024) (c : Fin 128) : bW sel q lt t41 cp kk (ix2 r c) = ((T.w r (o + c.val) : ℝ) : EReal) := by
  unfold RTile.w
  rw [w_eq, B.hsel]
  split
  · rw [wRaw_apply, B.lsig, B.hlt, B.pre, ← EReal.coe_sub, ← EReal.coe_add, Ideal.exp_coe]
    rfl
  · rfl

theorem da (r : Fin 1024) (c : Fin 128) :
    bDa sel dob q lt t41 cp kk vv (ix2 r c) = ((T.da r (o + c.val) : ℝ) : EReal) := by
  rw [da_apply, B.w, RTile.da, EReal.coe_mul, coe_sum]
  congr 1
  refine Finset.sum_congr rfl fun x _ => ?_
  rw [B.hdob, B.hv, ← EReal.coe_mul]

theorem cs (r : Fin 1024) (c : Fin 128) :
    bTri t46 (bDa sel dob q lt t41 cp kk vv) cc (ix2 r c) = ((T.cs r (o + c.val) : ℝ) : EReal) :=
  tri_real (f := T.da) (n := fun j => j.val) (fun j => j.isLt.le) B.da B.h46 B.hcc r c

theorem dz (r : Fin 1024) (c : Fin 128) :
    bDz sel dob q lt t41 t46 cp cc kk vv (ix2 r c) = ((T.dz r (o + c.val) : ℝ) : EReal) := by
  unfold RTile.dz
  rw [dz_eq, B.hsel]
  split
  · rw [dzRaw_apply, B.da, B.lsig, B.cs, Ideal.exp_coe, ← EReal.coe_one, ← EReal.coe_sub, ← EReal.coe_mul, ← EReal.coe_mul, ← EReal.coe_sub]
  · rfl

/-- The running sums after the block. -/
theorem cp' (r : Fin 1024) : bCp sel q cp kk (ix2 r 0) = ((T.pre r (o + 128) : ℝ) : EReal) := by
  unfold bCp
  rw [cp_apply, B.hcp]
  simp only [RTile.pre]
  rw [sum_block, EReal.coe_add, coe_sum (Finset.univ)]
  congr 1
  exact Finset.sum_congr rfl fun c _ => B.ls r c

theorem cc' (r : Fin 1024) : bCc sel dob q lt t41 cp cc kk vv (ix2 r 0) = ((T.cs r (o + 128) : ℝ) : EReal) := by
  unfold bCc
  rw [cc_apply, B.hcc]
  simp only [RTile.cs]
  rw [sum_block, EReal.coe_add, coe_sum (Finset.univ)]
  congr 1
  exact Finset.sum_congr rfl fun c _ => B.da r c

/-- The gradient of the queries after the block. -/
theorem dq' {dq : FVec Ideal S1024x128 .f32} {f : Fin 1024 → Fin 128 → ℕ → ℝ}
    (hf : ∀ r d c, f r d c = T.dz r c * T.K c d)
    (hdq : ∀ r d, dq (ix2 r d) = ((∑ c ∈ Finset.range o, f r d c : ℝ) : EReal)) (r : Fin 1024) (d : Fin 128) :
    bDq sel dob q lt t41 t46 cp cc dq kk vv (ix2 r d) = ((∑ c ∈ Finset.range (o + 128), f r d c : ℝ) : EReal) := by
  rw [dq_apply, hdq, sum_block, EReal.coe_add, coe_sum (Finset.univ)]
  congr 1
  refine Finset.sum_congr rfl fun c _ => ?_
  rw [B.dz, B.hk, hf, ← EReal.coe_mul]

/-- What the block adds to its rows of the gradient of the keys. -/
theorem dk' (old : Vec Ideal S128x128 .f32) (c d : Fin 128) :
    bDk sel dob q lt t41 t46 cp cc kk vv old (ix2 c d)
      = old (ix2 c d) + ((∑ r : Fin 1024, T.dz r (o + c.val) * T.qs r d : ℝ) : EReal) := by
  rw [dk_apply, coe_sum]
  congr 1
  refine Finset.sum_congr rfl fun r _ => ?_
  rw [B.dz, B.hq, ← EReal.coe_mul]

/-- What the block adds to its rows of the gradient of the values. -/
theorem dv' (old : Vec Ideal S128x128 .f32) (c d : Fin 128) :
    bDv sel dob q lt t41 cp kk old (ix2 c d)
      = old (ix2 c d) + ((∑ r : Fin 1024, T.w r (o + c.val) * T.dob r d : ℝ) : EReal) := by
  rw [dv_apply, coe_sum]
  congr 1
  refine Finset.sum_congr rfl fun r _ => ?_
  rw [B.w, B.hdob, ← EReal.coe_mul]

end BlockOk

end Cert.Kernel2Ideal.Sb
-- ==== Proof.SbReal.lean ====
module

public import proofs.«01_k».proof.Proof.SbTile

/-!
# One head of the stick-breaking attention over the real numbers

`SHead` holds one head's finite inputs; its functions are the attention's forward and backward quantities, with the causal mask
written out. A tile of 1024 of its rows is what one grid point of the kernel works on.
-/

@[expose] public section

set_option maxRecDepth 16384

noncomputable section

namespace Cert.Kernel2Ideal.Sb

open Idealize.ShloMosaic Idealize.ShloMosaic.TcCoe Idealize.ShloMosaic.Tactic Cert.Kernel2Ideal Cert.Kernel2Ideal.Gen
open Cert.KernelIdeal.Block (coe_sum div_real)

/-- One head's inputs, by row numbers: queries, keys, values, gate, the gradient that comes in, and the scale. -/
structure SHead where
  q : ℕ → Fin 128 → ℝ
  k : ℕ → Fin 128 → ℝ
  v : ℕ → Fin 128 → ℝ
  g : ℕ → Fin 128 → ℝ
  dg : ℕ → Fin 128 → ℝ
  s : ℝ

namespace SHead

variable (R : SHead)

/-- The scaled queries. -/
def qs (n : ℕ) (d : Fin 128) : ℝ := R.q n d * R.s

/-- The score of row `n` against key `c`. -/
def z (n c : ℕ) : ℝ := ∑ x : Fin 128, R.qs n x * R.k c x

/-- The logarithm of the share of the stick that key `c` leaves. -/
def ls (n c : ℕ) : ℝ := if c < n then -softplus (R.z n c) else 0

/-- The sum of the logarithms of the first `m` keys. -/
def pre (n m : ℕ) : ℝ := ∑ c ∈ Finset.range m, R.ls n c

/-- The sum of the logarithms of all the keys. -/
def lt (n : ℕ) : ℝ := R.pre n 4096

/-- The weight of key `c` in row `n`. -/
def w (n c : ℕ) : ℝ := if c < n then Real.exp (R.z n c - softplus (R.z n c) + (R.lt n - R.pre n (c + 1))) else 0

/-- The attention's output. -/
def o (n : ℕ) (d : Fin 128) : ℝ := ∑ c ∈ Finset.range 4096, R.w n c * R.v c d

/-- The gate's sigmoid. -/
def sg (n : ℕ) (d : Fin 128) : ℝ := 1 / (1 + Real.exp (-R.g n d))

/-- The gradient of the attention's output. -/
def dob (n : ℕ) (d : Fin 128) : ℝ := R.dg n d * (R.g n d * R.sg n d)

/-- The gradient of the gate. -/
def dgate (n : ℕ) (d : Fin 128) : ℝ := R.dg n d * R.o n d * (R.sg n d * (1 + R.g n d * (1 - R.sg n d)))

/-- The gradient of the weights. -/
def G (n c : ℕ) : ℝ := ∑ x : Fin 128, R.dob n x * R.v c x

/-- The gradient of the weight's logarithm. -/
def da (n c : ℕ) : ℝ := R.G n c * R.w n c

/-- The sum of these gradients over the first `m` keys. -/
def cs (n m : ℕ) : ℝ := ∑ c ∈ Finset.range m, R.da n c

/-- The gradient of the score. -/
def dz (n c : ℕ) : ℝ :=
  if c < n then R.da n c * (1 - Real.exp (R.z n c - softplus (R.z n c))) - Real.exp (R.z n c - softplus (R.z n c)) * R.cs n c else 0

/-- The tile of 1024 rows from row `1024 * i`. -/
def tile (i : ℕ) : RTile where
  qs r d := R.qs (1024 * i + r.val) d
  dob r d := R.dob (1024 * i + r.val) d
  lt r := R.lt (1024 * i + r.val)
  K := R.k
  V := R.v
  i := i

theorem tile_w (i : ℕ) (r : Fin 1024) (c : ℕ) : (R.tile i).w r c = R.w (1024 * i + r.val) c := rfl

theorem tile_dz (i : ℕ) (r : Fin 1024) (c : ℕ) : (R.tile i).dz r c = R.dz (1024 * i + r.val) c := rfl

theorem one_add_exp_ne (x : ℝ) : 1 + Real.exp x ≠ 0 := (add_pos one_pos (Real.exp_pos x)).ne'

/-- A weight of a masked key is zero. -/
theorem w_masked {n c : ℕ} (h : ¬c < n) : R.w n c = 0 := if_neg h

/-- No gradient goes to a masked score. -/
theorem dz_masked {n c : ℕ} (h : ¬c < n) : R.dz n c = 0 := if_neg h

/-- What the keys from key `c` on leave, less what key `c` leaves. -/
theorem later (n c : ℕ) (h : c < 4096) : (∑ x ∈ Finset.range (4096 - c), R.ls n (c + x)) - R.ls n c = R.lt n - R.pre n (c + 1) := by
  have e : R.lt n = R.pre n c + ∑ x ∈ Finset.range (4096 - c), R.ls n (c + x) := by
    unfold lt pre
    rw [← Finset.sum_range_add, show c + (4096 - c) = 4096 from by omega]
  rw [e]
  unfold pre
  rw [Finset.sum_range_succ]
  ring

/-- The sum of the gradients of the logarithms of the keys up to `c`, less that of key `c`. -/
theorem before (n c : ℕ) : -R.da n c + ∑ x ∈ Finset.range (c + 1), R.da n x = R.cs n c := by
  unfold cs
  rw [Finset.sum_range_succ]
  ring

end SHead

/-- The softplus of the opposite number. -/
theorem softplus_neg (z : ℝ) : softplus (-z) = softplus z - z := by
  unfold softplus
  rw [abs_neg]
  rcases le_total z 0 with h | h
  · rw [max_eq_left (neg_nonneg.mpr h), max_eq_right h]
    ring
  · rw [max_eq_right (neg_nonpos.mpr h), max_eq_left h]
    ring

/-- The softplus is the logarithm of one plus the exponential. -/
theorem softplus_log (z : ℝ) : softplus z = Real.log (1 + Real.exp z) := by
  have pos : ∀ x : ℝ, 0 ≤ x → x + Real.log (1 + Real.exp (-x)) = Real.log (1 + Real.exp x) := by
    intro x _
    conv_lhs => rw [← Real.log_exp x]
    rw [← Real.log_mul (Real.exp_pos x).ne' (add_pos one_pos (Real.exp_pos _)).ne', Real.log_exp, mul_add, mul_one, ← Real.exp_add, add_neg_cancel,
      Real.exp_zero, add_comm]
  unfold softplus
  rcases le_total z 0 with h | h
  · rw [max_eq_right h, abs_of_nonpos h, neg_neg, zero_add]
  · rw [max_eq_left h, abs_of_nonneg h, pos z h]

/-- The sigmoid and its opposite. -/
theorem sig_add (z : ℝ) : Real.exp (-z - softplus (-z)) = 1 - Real.exp (z - softplus z) := by
  have hp : 0 < 1 + Real.exp z := add_pos one_pos (Real.exp_pos _)
  rw [softplus_neg, show -z - (softplus z - z) = -softplus z from by ring, Real.exp_sub, Real.exp_neg, softplus_log, Real.exp_log hp]
  field_simp
  ring

end Cert.Kernel2Ideal.Sb
-- ==== Proof.SbHost.lean ====
module

public import proofs.«01_k».proof.Proof.SbReal
public import proofs.«01_k».proof.Proof.KernelReal
public import proofs.«01_k».proof.Proof.Gen.Kernel2Ideal.Value
public import Idealize.ShloMosaic.Lib.Pipeline.ValueKit
public import Idealize.ShloMosaic.Lib.StableHlo.RunRead

/-!
# The saved forward values of the stick-breaking attention that the host computes

The logarithms, their sums from the right, the weights, the attention's output and the rows' totals, as terms of the projections;
and their values on finite projections.
-/

@[expose] public section

set_option maxRecDepth 16384

noncomputable section

namespace Cert.Kernel2Ideal.Sb

open Idealize.ShloMosaic Idealize.ShloMosaic.TcCoe Idealize.ShloMosaic.Tactic Cert.Kernel2Ideal Cert.Kernel2Ideal.Gen
open Cert.KernelIdeal.Block (coe_sum div_real at2 at2_val at31 at31_val up)

/-- The projections from one column on, split into heads. -/
def hCols (P : FVec Ideal S4096x2048 .f32) : FVec Ideal S16x4096x128 .f32 :=
  transpose S16x4096x128 [1, 0, 2] (shapeCast S4096x16x128 P shapeCasts_S4096x2048_S4096x16x128) transposes_S4096x16x128_S16x4096x128_1_0_2

/-- The heads of an array put side by side. -/
def hRows (X : FVec Ideal S16x4096x128 .f32) : FVec Ideal S4096x2048 .f32 :=
  shapeCast S4096x2048 (transpose S4096x16x128 [1, 0, 2] X transposes_S16x4096x128_S4096x16x128_1_0_2) shapeCasts_S4096x16x128_S4096x2048

/-- The array of zeros. -/
def hZero : FVec Ideal S16x4096x4096 .f32 := broadcastInDim S16x4096x4096 ![] bcast_S_S16x4096x4096 (constant S_ .f32 0x00000000#32)

/-- Whether a key lies before a row. -/
def hMask : IVec S4096x4096 1 :=
  cmpi .slt (broadcastInDim S4096x4096 ![0, 1] bcast_S1x4096_S4096x4096_0_1 (broadcastInDim S1x4096 ![1] bcast_S4096_S1x4096_1 (iotaInDim S4096 32 0)))
    (broadcastInDim S4096x4096 ![0, 1] bcast_S4096x1_S4096x4096_0_1 (broadcastInDim S4096x1 ![0] bcast_S4096_S4096x1_0 (iotaInDim S4096 32 0)))

/-- An array under the mask. -/
def hWhere (X : FVec Ideal S16x4096x4096 .f32) : FVec Ideal S16x4096x4096 .f32 :=
  select (broadcastInDim S16x4096x4096 ![1, 2] bcast_S4096x4096_S16x4096x4096_1_2 hMask) X hZero

/-- The scores. -/
def hZ (P : FVec Ideal S4096x8192 .f32) : FVec Ideal S16x4096x4096 .f32 :=
  mulf (Host.dotGeneral dot_S16x4096x128_S16x4096x128_S16x4096x4096_2_2_1_1_0_0 none
      (hCols (extractStridedSlice S4096x2048 ![0, 0] P slices_S4096x8192_S4096x2048_0_0))
      (hCols (extractStridedSlice S4096x2048 ![0, 2048] P slices_S4096x8192_S4096x2048_0_2048)))
    (broadcastInDim S16x4096x4096 ![] bcast_S_S16x4096x4096 (constant S_ .f32 0x3DB504F3#32))

/-- The softplus. -/
def hSoft (Y : FVec Ideal S16x4096x4096 .f32) : FVec Ideal S16x4096x4096 .f32 :=
  select (cmpf .une (subf Y hZero) (subf Y hZero)) (addf Y hZero)
    (addf (maximumf Y hZero) (Host.log1p (Host.exp (Host.negf (Host.absf (subf Y hZero))))))

/-- The logarithm of the sigmoid. -/
def hLogSig (X : FVec Ideal S16x4096x4096 .f32) : FVec Ideal S16x4096x4096 .f32 := Host.negf (hSoft (Host.negf X))

/-- The logarithms of what the keys leave. -/
def hSkip (Z : FVec Ideal S16x4096x4096 .f32) : FVec Ideal S16x4096x4096 .f32 := hWhere (hLogSig (Host.negf Z))

/-- The sums from the right. -/
def hCum (X : FVec Ideal S16x4096x4096 .f32) : FVec Ideal S16x4096x4096 .f32 :=
  Host.reduceWindowAdd ![1, 1, 4096] ![1, 1, 1] ![0, 0, 0] ![0, 0, 4095] X (broadcastInDim S_ ![] bcast_S_S_ (constant S_ .f32 0x00000000#32))
    reduceWindows_S16x4096x4096_S16x4096x4096_w1s1p0_0_w1s1p0_0_w4096s1p0_4095 h_S_

/-- The exponentials before the mask. -/
def hE (Z : FVec Ideal S16x4096x4096 .f32) : FVec Ideal S16x4096x4096 .f32 :=
  Host.exp (addf (hLogSig Z) (subf (hCum (hSkip Z)) (hSkip Z)))

/-- The attention's output of its weights. -/
def hO (W : FVec Ideal S16x4096x4096 .f32) (P : FVec Ideal S4096x8192 .f32) : FVec Ideal S4096x2048 .f32 :=
  hRows (Host.dotGeneral dot_S16x4096x4096_S16x4096x128_S16x4096x128_2_1_1_2_0_0 none W
    (hCols (extractStridedSlice S4096x2048 ![0, 4096] P slices_S4096x8192_S4096x2048_0_4096)))

/-- The totals of the rows. -/
def hLt (X : FVec Ideal S16x4096x4096 .f32) : FVec Ideal S16x4096x1 .f32 :=
  broadcastInDim S16x4096x1 ![0, 1] bcast_S16x4096_S16x4096x1_0_1 (Host.reduceAdd X (constant S_ .f32 0x00000000#32) reducesTo_S16x4096x4096_S16x4096_d2 h_S_)

section Launch

variable (m : (ℓ : Loc nD τ sig) → Buf (Elt Ideal) ℓ) (c : Dev nD)

/-- The array of the attention's outputs at the kernel's launch. -/
theorem V31 : V m c main_v31 = hO (hWhere (hE (hZ (m ((c : Thread nD τ).loc main_arg0))))) (m ((c : Thread nD τ).loc main_arg0)) := by
  simp only [V, hostOps0, hostOps0_1, hostOps0_2, hostOps0_3, hostOps0_4, hostOps0_5, hostOps0_6, hostOps0_7, hostOps0_8, hostOps0_9, List.flatten_cons, List.flatten_nil, List.append_nil, List.cons_append, List.nil_append]
  after_reads_simp
  rfl

/-- The array of the rows' totals at the kernel's launch. -/
theorem V33 : V m c main_v33 = hLt (hSkip (hZ (m ((c : Thread nD τ).loc main_arg0)))) := by
  simp only [V, hostOps0, hostOps0_1, hostOps0_2, hostOps0_3, hostOps0_4, hostOps0_5, hostOps0_6, hostOps0_7, hostOps0_8, hostOps0_9, List.flatten_cons, List.flatten_nil, List.append_nil, List.cons_append, List.nil_append]
  after_reads_simp
  rfl

end Launch

theorem hCols_apply (P : FVec Ideal S4096x2048 .f32) (h : Fin 16) (n : Fin 4096) (d : Fin 128) :
    hCols P (ix3 h n d) = at2 P n.val (128 * h.val + d.val) := by
  rw [at2_val (a := 4096) (b := 2048) _ (by omega) (by omega)]
  pointwise [hCols]
  blk_ext

theorem hRows_apply (X : FVec Ideal S16x4096x128 .f32) (h : Fin 16) (n : Fin 4096) (d : Fin 128) :
    hRows X (ix2 n ⟨128 * h.val + d.val, by omega⟩) = X (ix3 h n d) := by
  pointwise [hRows]
  blk_ext

/-- A slice of the projections. -/
theorem hSlice_apply (P : FVec Ideal S4096x8192 .f32) (o : ℕ) (hs : S4096x8192.Slices ![0, o] S4096x2048) (n : Fin 4096) (h : Fin 16)
    (d : Fin 128) (ho : o + 2048 ≤ 8192) :
    at2 (extractStridedSlice S4096x2048 ![0, o] P hs) n.val (128 * h.val + d.val) = at2 P n.val (o + 128 * h.val + d.val) := by
  rw [at2_val (a := 4096) (b := 2048) _ (by omega) (by omega), at2_val (a := 4096) (b := 8192) _ (by omega) (by omega)]
  pointwise
  blk_ext

theorem hMask_apply (n c : Fin 4096) : hMask (ix2 n c) = if c.val < n.val then 1#1 else 0#1 := by
  pointwise [hMask]
  have hr := n.isLt
  have hc := c.isLt
  have key : (BitVec.ofNat 32 c.val).slt (BitVec.ofNat 32 n.val) = decide (c.val < n.val) := by
    rw [BitVec.slt_eq_decide, BitVec.toInt_ofNat', BitVec.toInt_ofNat']
    have h1 : Int.bmod ((c.val : ℕ) : ℤ) (2 ^ 32) = ((c.val : ℕ) : ℤ) := Int.bmod_eq_of_le (by omega) (by omega)
    have h2 : Int.bmod ((n.val : ℕ) : ℤ) (2 ^ 32) = ((n.val : ℕ) : ℤ) := Int.bmod_eq_of_le (by omega) (by omega)
    rw [h1, h2]
    exact decide_eq_decide.mpr Int.ofNat_lt
  by_cases h : c.val < n.val
  · rw [if_pos h]
    simp [IntOp.cmpi, key, h]
  · rw [if_neg h]
    simp [IntOp.cmpi, key, h]

theorem bits_zero : Ideal.ofBits .f32 0x00000000#32 = 0 := by
  simp [Ideal.ofBits, Ideal.ieee]

theorem hZero_apply (i : S16x4096x4096.Idx) : hZero i = 0 := bits_zero

theorem hWhere_apply (X : FVec Ideal S16x4096x4096 .f32) (h : Fin 16) (n c : Fin 4096) :
    hWhere X (ix3 h n c) = if c.val < n.val then X (ix3 h n c) else 0 := by
  pointwise [hWhere]
  rw [hMask_apply, hZero_apply]
  by_cases h : c.val < n.val
  · rw [if_pos h, if_pos h]
    rfl
  · rw [if_neg h, if_neg h]
    rfl

theorem hZ_apply (P : FVec Ideal S4096x8192 .f32) (h : Fin 16) (n c : Fin 4096) :
    hZ P (ix3 h n c) = (∑ d : Fin 128, at2 P n.val (128 * h.val + d.val) * at2 P c.val (2048 + 128 * h.val + d.val)) * Ideal.ofBits .f32 0x3DB504F3#32 := by
  pointwise [hZ]
  congr 1
  refine Finset.sum_congr rfl fun d _ => ?_
  rw [hCols_apply, hCols_apply, hSlice_apply _ 0 _ _ _ _ (by omega), hSlice_apply _ 2048 _ _ _ _ (by omega), Nat.zero_add]

/-- The host's formula of the softplus, at a real number. -/
theorem hSoft_real (Y : FVec Ideal S16x4096x4096 .f32) (i : S16x4096x4096.Idx) (y : ℝ) (hy : Y i = (y : EReal)) :
    hSoft Y i = (softplus y : EReal) := by
  have e : hSoft Y i = if Ideal.cmp .une (Y i - hZero i) (Y i - hZero i) = 1#1 then Y i + hZero i
      else max (Y i) (hZero i) + Ideal.log (1 + Ideal.exp (-max (Y i - hZero i) (-(Y i - hZero i)))) := rfl
  have hc : ∀ x : EReal, ¬Ideal.cmp .une x x = 1#1 := by
    intro x
    simp [Ideal.cmp]
  rw [e, if_neg (hc _), hZero_apply, sub_zero, hy, ← softplus_coe, zero_sub]

theorem hLogSig_real (X : FVec Ideal S16x4096x4096 .f32) (i : S16x4096x4096.Idx) (x : ℝ) (hx : X i = (x : EReal)) :
    hLogSig X i = ((x - softplus x : ℝ) : EReal) := by
  have e : hSoft (Host.negf X) i = (softplus (-x) : EReal) := hSoft_real _ i (-x) (by
    show -X i = _
    rw [hx, EReal.coe_neg])
  show -hSoft (Host.negf X) i = _
  rw [e, softplus_neg, ← EReal.coe_neg, neg_sub]

theorem hLogSig_neg_real (X : FVec Ideal S16x4096x4096 .f32) (i : S16x4096x4096.Idx) (x : ℝ) (hx : X i = (x : EReal)) :
    hLogSig (Host.negf X) i = ((-softplus x : ℝ) : EReal) := by
  rw [hLogSig_real _ i (-x) (by
    show -X i = _
    rw [hx, EReal.coe_neg]), softplus_neg]
  congr 1
  ring

/-- The window of one row and one head is a row of positions. -/
theorem sum_positions {K : ℕ} (f : (⟨3, ![1, 1, K]⟩ : Shape).Idx → EReal) :
    (List.finRange (⟨3, ![1, 1, K]⟩ : Shape).numel).foldl (fun r n => r + f ((⟨3, ![1, 1, K]⟩ : Shape).rowMajor.symm n)) 0
      = ∑ k : Fin K, f (ix3 0 0 k) := by
  have e : ∀ {N : ℕ} (g : Fin N → EReal), (List.finRange N).foldl (fun r n => r + g n) 0 = ∑ n, g n := by
    intro N g
    rw [Fin.sum_univ_def, List.sum_eq_foldl, List.foldl_map]
  rw [e fun n => f ((⟨3, ![1, 1, K]⟩ : Shape).rowMajor.symm n), Equiv.sum_comp (⟨3, ![1, 1, K]⟩ : Shape).rowMajor.symm f]
  refine (Fintype.sum_bijective (fun k : Fin K => (ix3 0 0 k : (⟨3, ![1, 1, K]⟩ : Shape).Idx)) ⟨?_, ?_⟩
    (fun k : Fin K => f (ix3 0 0 k)) f fun k => rfl).symm
  · intro a b hab
    exact congrFun hab 2
  · intro i
    refine ⟨i 2, ?_⟩
    funext a
    fin_cases a
    · exact Subsingleton.elim (α := Fin 1) _ _
    · exact Subsingleton.elim (α := Fin 1) _ _
    · rfl

/-- The sum over windows, at the extended reals. -/
theorem reduceWindowAdd_ideal {s t u : Shape} (window strides lo hi : Fin s.rank → ℕ) (X : FVec Ideal s .f32) (v : FVec Ideal u .f32)
    (w : s.ReduceWindows window strides lo hi t) (hu : 0 < u.numel) :
    Host.reduceWindowAdd window strides lo hi X v w hu = Ideal.hostReduceWindowAdd window strides lo hi w X (v (Shape.Idx.first hu)) := rfl

/-- A sum over windows of whole rows, padded by `l` below: what each position of the window adds. -/
theorem window_sum {A B K : ℕ} (hi : Fin 3 → ℕ) (X : (⟨3, ![A, B, K]⟩ : Shape).Idx → EReal) (v : EReal) (hv : v = 0) (l : ℕ)
    (w : (⟨3, ![A, B, K]⟩ : Shape).ReduceWindows (![1, 1, K] : Fin 3 → ℕ) ![1, 1, 1] ![0, 0, l] hi ⟨3, ![A, B, K]⟩) (h : Fin A) (n : Fin B) (c : Fin K) :
    Ideal.hostReduceWindowAdd ![1, 1, K] ![1, 1, 1] ![0, 0, l] hi w X v (ix3 h n c)
      = ∑ k : Fin K, if hk : l ≤ c.val + k.val ∧ c.val + k.val - l < K then X (ix3 h n ⟨c.val + k.val - l, hk.2⟩) else 0 := by
  subst hv
  unfold Ideal.hostReduceWindowAdd Host.reduceWindow
  dsimp only
  refine (sum_positions (K := K) fun p => @dite EReal (∀ a : Fin 3, (![0, 0, l] : Fin 3 → ℕ) a ≤ (ix3 h n c a).val * (![1, 1, 1] : Fin 3 → ℕ) a + (p a).val
      ∧ (ix3 h n c a).val * (![1, 1, 1] : Fin 3 → ℕ) a + (p a).val - (![0, 0, l] : Fin 3 → ℕ) a < (⟨3, ![A, B, K]⟩ : Shape).size a) (Nat.decidableForallFin _)
    (fun hin => X (fun a => ⟨(ix3 h n c a).val * (![1, 1, 1] : Fin 3 → ℕ) a + (p a).val - (![0, 0, l] : Fin 3 → ℕ) a, (hin a).2⟩)) (fun _ => 0)).trans ?_
  refine Finset.sum_congr rfl fun k _ => ?_
  by_cases hk : l ≤ c.val + k.val ∧ c.val + k.val - l < K
  · rw [dif_pos hk, dif_pos]
    · congr 1
      funext a
      fin_cases a
      · exact Fin.ext (show h.val * 1 + 0 - 0 = h.val by omega)
      · exact Fin.ext (show n.val * 1 + 0 - 0 = n.val by omega)
      · exact Fin.ext (show c.val * 1 + k.val - l = c.val + k.val - l by omega)
    · intro a
      have := h.isLt
      have := n.isLt
      fin_cases a
      · exact show 0 ≤ h.val * 1 + 0 ∧ h.val * 1 + 0 - 0 < A by omega
      · exact show 0 ≤ n.val * 1 + 0 ∧ n.val * 1 + 0 - 0 < B by omega
      · exact show l ≤ c.val * 1 + k.val ∧ c.val * 1 + k.val - l < K by omega
  · rw [dif_neg hk, dif_neg]
    intro hin
    have h2 : l ≤ c.val * 1 + k.val ∧ c.val * 1 + k.val - l < K := hin 2
    exact hk (by omega)

/-- The sum from the right, of real numbers. -/
theorem hCum_real (X : FVec Ideal S16x4096x4096 .f32) (h : Fin 16) (n : Fin 4096) (f : ℕ → ℝ)
    (hX : ∀ c : Fin 4096, X (ix3 h n c) = (f c.val : EReal)) (c : Fin 4096) :
    hCum X (ix3 h n c) = ((∑ x ∈ Finset.range (4096 - c.val), f (c.val + x) : ℝ) : EReal) := by
  have hc := c.isLt
  unfold hCum
  rw [reduceWindowAdd_ideal, show broadcastInDim S_ ![] bcast_S_S_ (constant (F := Ideal) S_ .f32 0x00000000#32) (Shape.Idx.first h_S_) = (0 : EReal) from bits_zero,
    window_sum (A := 16) (B := 4096) (K := 4096) ![0, 0, 4095] X _ rfl 0 _ h n c]
  have e : ∀ k : Fin 4096, (if hk : 0 ≤ c.val + k.val ∧ c.val + k.val - 0 < 4096 then X (ix3 h n ⟨c.val + k.val - 0, hk.2⟩) else 0)
      = ((if c.val + k.val < 4096 then f (c.val + k.val) else 0 : ℝ) : EReal) := by
    intro k
    by_cases hk : c.val + k.val < 4096
    · rw [dif_pos ⟨Nat.zero_le _, hk⟩, if_pos hk, hX]
      rfl
    · rw [dif_neg fun q => hk q.2, if_neg hk, EReal.coe_zero]
  rw [Finset.sum_congr rfl fun k _ => e k, ← coe_sum, ← Finset.sum_range (fun k => if c.val + k < 4096 then f (c.val + k) else 0), ← Finset.sum_filter]
  congr 1
  refine Finset.sum_congr ?_ fun _ _ => rfl
  ext k
  rw [Finset.mem_filter, Finset.mem_range, Finset.mem_range]
  omega

/-- The sums from the left. -/
def hPre (X : FVec Ideal S16x4096x4096 .f32) (w : S16x4096x4096.ReduceWindows (![1, 1, 4096] : Fin 3 → ℕ) ![1, 1, 1] ![0, 0, 4095] ![0, 0, 0] S16x4096x4096) :
    FVec Ideal S16x4096x4096 .f32 :=
  Host.reduceWindowAdd ![1, 1, 4096] ![1, 1, 1] ![0, 0, 4095] ![0, 0, 0] X (broadcastInDim S_ ![] bcast_S_S_ (constant S_ .f32 0x00000000#32)) w h_S_

/-- The sum from the left, of real numbers. -/
theorem hPre_real (X : FVec Ideal S16x4096x4096 .f32) (w) (h : Fin 16) (n : Fin 4096) (f : ℕ → ℝ)
    (hX : ∀ c : Fin 4096, X (ix3 h n c) = (f c.val : EReal)) (c : Fin 4096) :
    hPre X w (ix3 h n c) = ((∑ x ∈ Finset.range (c.val + 1), f x : ℝ) : EReal) := by
  have hc := c.isLt
  unfold hPre
  rw [reduceWindowAdd_ideal, show broadcastInDim S_ ![] bcast_S_S_ (constant (F := Ideal) S_ .f32 0x00000000#32) (Shape.Idx.first h_S_) = (0 : EReal) from bits_zero,
    window_sum (A := 16) (B := 4096) (K := 4096) ![0, 0, 0] X _ rfl 4095 _ h n c]
  have e : ∀ k : Fin 4096, (if hk : 4095 ≤ c.val + k.val ∧ c.val + k.val - 4095 < 4096 then X (ix3 h n ⟨c.val + k.val - 4095, hk.2⟩) else 0)
      = ((if 4095 ≤ c.val + k.val then f (c.val + k.val - 4095) else 0 : ℝ) : EReal) := by
    intro k
    have hk' := k.isLt
    by_cases hk : 4095 ≤ c.val + k.val
    · rw [dif_pos ⟨hk, by omega⟩, if_pos hk, hX]
    · rw [dif_neg fun q => hk q.1, if_neg hk, EReal.coe_zero]
  rw [Finset.sum_congr rfl fun k _ => e k, ← coe_sum, ← Finset.sum_range (fun k => if 4095 ≤ c.val + k then f (c.val + k - 4095) else 0)]
  refine congrArg Real.toEReal ((Finset.sum_congr (congrArg Finset.range (show 4096 = (4095 - c.val) + (c.val + 1) from by omega)) fun _ _ => rfl).trans ?_)
  rw [Finset.sum_range_add, Finset.sum_eq_zero, zero_add]
  · refine Finset.sum_congr rfl fun k _ => ?_
    rw [if_pos (by omega), show c.val + (4095 - c.val + k) - 4095 = k from by omega]
  · intro k hk
    rw [Finset.mem_range] at hk
    exact if_neg (by omega)

/-- The sum of a row, of real numbers. -/
theorem hLt_real (X : FVec Ideal S16x4096x4096 .f32) (h : Fin 16) (n : Fin 4096) (f : ℕ → ℝ)
    (hX : ∀ c : Fin 4096, X (ix3 h n c) = (f c.val : EReal)) : hLt X (ix3 h n 0) = ((∑ x ∈ Finset.range 4096, f x : ℝ) : EReal) := by
  have e : hLt X (ix3 h n 0) = ∑ c : Fin 4096, X (ix3 h n c) := by
    pointwise [hLt]
  rw [e, Finset.sum_congr rfl fun c _ => hX c, ← coe_sum, Finset.sum_range]

theorem hO_apply (W : FVec Ideal S16x4096x4096 .f32) (P : FVec Ideal S4096x8192 .f32) (n : Fin 4096) (h : Fin 16) (d : Fin 128) :
    hO W P (ix2 n ⟨128 * h.val + d.val, by omega⟩) = ∑ c : Fin 4096, W (ix3 h n c) * at2 P c.val (4096 + 128 * h.val + d.val) := by
  unfold hO
  rw [hRows_apply]
  pointwise
  refine Finset.sum_congr rfl fun c _ => ?_
  rw [hCols_apply, hSlice_apply _ 4096 _ _ _ _ (by omega)]

/-- An entry of a matrix of real numbers, by natural numbers. -/
def r2 {a b : ℕ} (X : (⟨2, ![a, b]⟩ : Shape).Idx → ℝ) (i j : ℕ) : ℝ :=
  if h : i < a ∧ j < b then X (ix2 ⟨i, h.1⟩ ⟨j, h.2⟩) else 0

theorem at2_up {a b : ℕ} (X : (⟨2, ![a, b]⟩ : Shape).Idx → ℝ) (i j : ℕ) : at2 (up X) i j = (r2 X i j : EReal) := by
  unfold at2 r2
  split
  · rfl
  · rfl

/-- One head of finite arrays. -/
def headR (P : S4096x8192.Idx → ℝ) (D : S4096x2048.Idx → ℝ) (s : ℝ) (h : ℕ) : SHead where
  q n d := r2 (a := 4096) (b := 8192) P n (128 * h + d.val)
  k n d := r2 (a := 4096) (b := 8192) P n (2048 + 128 * h + d.val)
  v n d := r2 (a := 4096) (b := 8192) P n (4096 + 128 * h + d.val)
  g n d := r2 (a := 4096) (b := 8192) P n (6144 + 128 * h + d.val)
  dg n d := r2 (a := 4096) (b := 2048) D n (128 * h + d.val)
  s := s

/-- The scale of the scores, 1/√128, is a real number. -/
theorem scale_real : ∃ r : ℝ, Ideal.ofBits .f32 0x3DB504F3#32 = (r : EReal) := by
  refine ⟨11863283 * (2 ^ 27)⁻¹, ?_⟩
  simp [Ideal.ofBits, Ideal.ieee]

theorem hE_apply (Z : FVec Ideal S16x4096x4096 .f32) (i : S16x4096x4096.Idx) :
    hE Z i = Ideal.exp (hLogSig Z i + (hCum (hSkip Z) i - hSkip Z i)) := by
  unfold hE
  generalize hCum (hSkip Z) = A
  generalize hSkip Z = B
  generalize hLogSig Z = C
  rfl

section Real

variable (P : S4096x8192.Idx → ℝ) (D : S4096x2048.Idx → ℝ) (s : ℝ) (hs : Ideal.ofBits .f32 0x3DB504F3#32 = (s : EReal)) (h : Fin 16) (n : Fin 4096)
include D hs

theorem hZ_real (c : Fin 4096) : hZ (up P) (ix3 h n c) = ((headR P D s h.val).z n.val c.val : EReal) := by
  rw [hZ_apply, hs]
  simp only [at2_up, ← EReal.coe_mul]
  rw [← coe_sum, ← EReal.coe_mul]
  congr 1
  unfold SHead.z SHead.qs
  rw [Finset.sum_mul]
  refine Finset.sum_congr rfl fun d _ => ?_
  show _ = r2 (a := 4096) (b := 8192) P n.val (128 * h.val + d.val) * s * r2 (a := 4096) (b := 8192) P c.val (2048 + 128 * h.val + d.val)
  ring

theorem hSkip_real (c : Fin 4096) : hSkip (hZ (up P)) (ix3 h n c) = ((headR P D s h.val).ls n.val c.val : EReal) := by
  unfold hSkip SHead.ls
  rw [hWhere_apply, hLogSig_neg_real _ _ _ (hZ_real P D s hs h n c)]
  split
  · rfl
  · rfl

/-- The exponential before the mask. -/
theorem hE_real (c : Fin 4096) : hE (hZ (up P)) (ix3 h n c)
    = (Real.exp ((headR P D s h.val).z n.val c.val - softplus ((headR P D s h.val).z n.val c.val)
      + ((headR P D s h.val).lt n.val - (headR P D s h.val).pre n.val (c.val + 1))) : EReal) := by
  rw [hE_apply, hLogSig_real _ _ _ (hZ_real P D s hs h n c), hCum_real _ h n _ (hSkip_real P D s hs h n) c, hSkip_real P D s hs h n c, ← EReal.coe_sub,
    ← EReal.coe_add, Ideal.exp_coe, SHead.later _ _ _ c.isLt]

theorem hW_real (c : Fin 4096) : hWhere (hE (hZ (up P))) (ix3 h n c) = ((headR P D s h.val).w n.val c.val : EReal) := by
  rw [hWhere_apply, hE_real P D s hs]
  unfold SHead.w
  split
  · rfl
  · rfl

theorem hO_real (d : Fin 128) : hO (hWhere (hE (hZ (up P)))) (up P) (ix2 n ⟨128 * h.val + d.val, by omega⟩) = ((headR P D s h.val).o n.val d : EReal) := by
  rw [hO_apply]
  unfold SHead.o
  rw [Finset.sum_range, coe_sum]
  refine Finset.sum_congr rfl fun c _ => ?_
  rw [hW_real P D s hs, at2_up, EReal.coe_mul]
  rfl

theorem hLt_skip : hLt (hSkip (hZ (up P))) (ix3 h n 0) = ((headR P D s h.val).lt n.val : EReal) := by
  unfold SHead.lt SHead.pre
  exact hLt_real _ h n (fun c => (headR P D s h.val).ls n.val c) (hSkip_real P D s hs h n)

end Real

end Cert.Kernel2Ideal.Sb
-- ==== Proof.SbTrip.lean ====
module

public import proofs.«01_k».proof.Proof.SbTile
public import proofs.«01_k».proof.Proof.Gen.Kernel2Ideal.Loops
public import Idealize.ShloMosaic.Lib.WritesUnit

/-!
# Eight blocks of keys

The kernel treats the keys in groups of eight blocks: a trip of the loop below the diagonal, and the diagonal. `carry` is what is
handed from block to block; `pieces` are the stores into an accumulator. A trip is eight blocks in the words of `SbBlock`.
-/

@[expose] public section

set_option maxRecDepth 16384

noncomputable section

namespace Cert.Kernel2Ideal.Sb

open Idealize.ShloMosaic Idealize.ShloMosaic.TcCoe Idealize.ShloMosaic.Tactic Cert.Kernel2Ideal Cert.Kernel2Ideal.Gen
open Cert.KernelIdeal.Block (coe_sum div_real)

/-- What is handed from block to block: the two running sums and the gradient of the queries. -/
abbrev Carry := FVec Ideal S1024x1 .f32 × FVec Ideal S1024x1 .f32 × FVec Ideal S1024x128 .f32

/-- What is handed on after `u` blocks. -/
def carry (sel : ℕ → FVec Ideal S1024x128 .f32 → FVec Ideal S1024x128 .f32) (dob q : FVec Ideal S1024x128 .bf16)
    (lt : FVec Ideal S1024x1 .f32) (t41 t46 : FVec Ideal S256x128 .bf16) (KK VV : ℕ → Vec Ideal S128x128 .bf16) (s : Carry) : ℕ → Carry
  | 0 => s
  | u + 1 =>
    (bCp (sel u) q (carry sel dob q lt t41 t46 KK VV s u).1 (KK u),
     bCc (sel u) dob q lt t41 (carry sel dob q lt t41 t46 KK VV s u).1 (carry sel dob q lt t41 t46 KK VV s u).2.1 (KK u) (VV u),
     bDq (sel u) dob q lt t41 t46 (carry sel dob q lt t41 t46 KK VV s u).1 (carry sel dob q lt t41 t46 KK VV s u).2.1
       (carry sel dob q lt t41 t46 KK VV s u).2.2 (KK u) (VV u))

/-- The rows that block `u` adds its part to, in the gradient of the keys. -/
def valK (sel : ℕ → FVec Ideal S1024x128 .f32 → FVec Ideal S1024x128 .f32) (dob q : FVec Ideal S1024x128 .bf16)
    (lt : FVec Ideal S1024x1 .f32) (t41 t46 : FVec Ideal S256x128 .bf16) (KK VV : ℕ → Vec Ideal S128x128 .bf16) (s : Carry)
    (u : ℕ) (old : Vec Ideal S128x128 .f32) : Vec Ideal S128x128 .f32 :=
  bDk (sel u) dob q lt t41 t46 (carry sel dob q lt t41 t46 KK VV s u).1 (carry sel dob q lt t41 t46 KK VV s u).2.1 (KK u) (VV u) old

/-- The rows that block `u` adds its part to, in the gradient of the values. -/
def valV (sel : ℕ → FVec Ideal S1024x128 .f32 → FVec Ideal S1024x128 .f32) (dob q : FVec Ideal S1024x128 .bf16)
    (lt : FVec Ideal S1024x1 .f32) (t41 t46 : FVec Ideal S256x128 .bf16) (KK VV : ℕ → Vec Ideal S128x128 .bf16) (s : Carry)
    (u : ℕ) (old : Vec Ideal S128x128 .f32) : Vec Ideal S128x128 .f32 :=
  bDv (sel u) dob q lt t41 (carry sel dob q lt t41 t46 KK VV s u).1 (KK u) old

/-- The stores of the first `u` blocks, the last one first. -/
def pieces (off : ℕ → Fin 2 → ℕ) (inb : ∀ u a, off u a + S128x128.size a ≤ S4096x128.size a) (val : ℕ → Vec Ideal S128x128 .f32) :
    ℕ → List (View.Piece (Elt Ideal) S4096x128 .f32)
  | 0 => []
  | u + 1 => ⟨Rect.unit (s := S4096x128) (off u) S128x128.size (inb u), val u⟩ :: pieces off inb val u

/-- The rows that a load of 128 rows reads. -/
def rowsOf {e : EltTy} (v : View sig .tc .vmem S4096x128 e) (X : v.ty.Contents (Elt Ideal)) (off : ℕ → Fin 2 → ℕ)
    (inb : ∀ u a, off u a + S128x128.size a ≤ S4096x128.size a) (u : ℕ) : Vec Ideal S128x128 e :=
  View.readAt (Elt Ideal) v (Rect.unit (s := S4096x128) (off u) S128x128.size (inb u)).toLoadRect X

section Trip

variable (𝒱 : Variants) (c : Dev nD) (bd : Option 𝒱.V) (i : grid0.Coords)
  (arg2 : Memref sig .tc .vmem S1024x128 .f32) (harg2 : arg2.IsWhole)
  (arg3 : Memref sig .tc .vmem S4096x128 .f32) (harg3 : arg3.IsWhole)
  (arg4 : Memref sig .tc .vmem S4096x128 .f32) (harg4 : arg4.IsWhole)
  (arg5 : Memref sig .tc .vmem S1024x128 .f32) (harg5 : arg5.IsWhole)
  (arg6 : Memref sig .tc .vmem S1x1024x1 .f32) (harg6 : arg6.IsWhole)
  (arg7 : Memref sig .tc .vmem S1024x128 .f32) (harg7 : arg7.IsWhole)
  (arg8 : Memref sig .tc .vmem S1024x128 .f32) (harg8 : arg8.IsWhole)
  (arg9 : Memref sig .tc .vmem S1024x128 .bf16) (harg9 : arg9.IsWhole)
  (arg10 : Memref sig .tc .vmem S4096x128 .bf16) (harg10 : arg10.IsWhole)
  (arg11 : Memref sig .tc .vmem S4096x128 .bf16) (harg11 : arg11.IsWhole)
  (arg12 : Memref sig .tc .vmem S1024x128 .bf16) (harg12 : arg12.IsWhole)
  (arg13 : Memref sig .tc .vmem S4096x128 .bf16) (harg13 : arg13.IsWhole)
  (arg14 : Memref sig .tc .vmem S4096x128 .bf16) (harg14 : arg14.IsWhole)
  (arg15 : Memref sig .tc .vmem S4096x128 .f32) (harg15 : arg15.IsWhole)
  (arg16 : Memref sig .tc .vmem S4096x128 .f32) (harg16 : arg16.IsWhole)
  (arg1 : BitVec 32) (v26 v30 : FVec Ideal S1024x128 .bf16) (v32 : FVec Ideal S1024x1 .f32)
  (X13 : BufTy.Contents (Elt Ideal) arg13.view.ty) (X14 : BufTy.Contents (Elt Ideal) arg14.view.ty)
  (k : Fin (k0_t1_loop i).trips)

/-- Where block `u` of a trip lies. -/
def tripOff (u : ℕ) : Fin 2 → ℕ := k0_off1 i k (BitVec.ofNat 32 (Fin.ofNat 8 u).val)

theorem tripOff_inb (u : ℕ) (a : Fin 2) : tripOff i k u a + S128x128.size a ≤ S4096x128.size a := k0_off1_inb i k (Fin.ofNat 8 u) a

/-- What is handed on after `u` blocks of a trip. -/
abbrev tripCarry (acc : Carry) : ℕ → Carry :=
  carry (fun _ x => x) v26 v30 v32 k0_pay223 k0_pay224 (rowsOf arg13.view X13 (tripOff i k) (tripOff_inb i k))
    (rowsOf arg14.view X14 (tripOff i k) (tripOff_inb i k)) acc

/-- What a trip hands on. -/
theorem tripR_eq (acc : Carry) (f15 : BufTy.Contents (Elt Ideal) arg15.view.ty) (f16 : BufTy.Contents (Elt Ideal) arg16.view.ty) :
    tripR_k0_t1 (F := Ideal) 𝒱 c bd i _ harg2 _ harg3 _ harg4 _ harg5 _ harg6 _ harg7 _ harg8 _ harg9 _ harg10 _ harg11 _ harg12 _ harg13 _ harg14 _ harg15 _ harg16
      arg1 v26 v30 v32 X13 X14 k acc f15 f16
      = tripCarry i arg13 arg14 v26 v30 v32 X13 X14 k acc 8 := by
  unfold tripR_k0_t1 trip_k0_t1
  rfl

/-- What a trip stores. -/
theorem tripL_eq (acc : Carry) (f15 : BufTy.Contents (Elt Ideal) arg15.view.ty) (f16 : BufTy.Contents (Elt Ideal) arg16.view.ty) :
    tripL_k0_t1 (F := Ideal) 𝒱 c bd i _ harg2 _ harg3 _ harg4 _ harg5 _ harg6 _ harg7 _ harg8 _ harg9 _ harg10 _ harg11 _ harg12 _ harg13 _ harg14 _ harg15 _ harg16
      arg1 v26 v30 v32 X13 X14 k acc f15 f16
      = (pieces (tripOff i k) (tripOff_inb i k) (fun u => valK (fun _ x => x) v26 v30 v32 k0_pay223 k0_pay224
            (rowsOf arg13.view X13 (tripOff i k) (tripOff_inb i k)) (rowsOf arg14.view X14 (tripOff i k) (tripOff_inb i k)) acc u
            (rowsOf arg15.view f15 (tripOff i k) (tripOff_inb i k) u)) 8,
         pieces (tripOff i k) (tripOff_inb i k) (fun u => valV (fun _ x => x) v26 v30 v32 k0_pay223 k0_pay224
            (rowsOf arg13.view X13 (tripOff i k) (tripOff_inb i k)) (rowsOf arg14.view X14 (tripOff i k) (tripOff_inb i k)) acc u
            (rowsOf arg16.view f16 (tripOff i k) (tripOff_inb i k) u)) 8) := by
  unfold tripL_k0_t1 trip_k0_t1
  rfl

end Trip

end Cert.Kernel2Ideal.Sb
-- ==== Proof.SbLoop.lean ====
module

public import proofs.«01_k».proof.Proof.SbTrip

/-!
# The state after some blocks

After the blocks up to column `n` the running sums are the tile's sums of the first `n` columns, and the rows below `n` of the gradients
of the keys and of the values have received the tile's part. First for one group of eight blocks, then for the loop over the groups
below the diagonal.
-/

@[expose] public section

set_option maxRecDepth 16384

noncomputable section

namespace Cert.Kernel2Ideal.Sb

open Idealize.ShloMosaic Idealize.ShloMosaic.TcCoe Idealize.ShloMosaic.Tactic Cert.Kernel2Ideal Cert.Kernel2Ideal.Gen
open Cert.KernelIdeal.Block (coe_sum div_real)

/-- A load of 128 rows, at an index. -/
theorem rowsOf_apply {e : EltTy} (v : View sig .tc .vmem S4096x128 e) (X : v.ty.Contents (Elt Ideal)) {off : ℕ → Fin 2 → ℕ}
    (inb : ∀ u a, off u a + S128x128.size a ≤ S4096x128.size a) {u n : ℕ} (ho : off u = ![n, 0]) (c d : Fin 128) (h : n + c.val < 4096) :
    rowsOf v X off inb u (ix2 c d) = v.read (Elt Ideal) X (ix2 ⟨n + c.val, h⟩ d) := by
  unfold rowsOf
  rw [View.readAt_eq_ld]
  refine congrArg (v.read (Elt Ideal) X) (funext fun a => Fin.ext ?_)
  fin_cases a
  · show off u 0 + 1 * c.val = n + c.val
    rw [ho]
    simp
  · show off u 1 + 1 * d.val = d.val
    rw [ho]
    simp

/-- Stores of 128 rows each, one below the other, each adding `g` to what the array held before them all. -/
theorem read_pieces (v : View sig .tc .vmem S4096x128 .f32) (f : v.ty.Contents (Elt Ideal)) {off : ℕ → Fin 2 → ℕ}
    (inb : ∀ u a, off u a + S128x128.size a ≤ S4096x128.size a) {o m : ℕ} (hm : o + 128 * m ≤ 4096)
    (hoff : ∀ u, u < m → off u = ![o + 128 * u, 0]) (val : ℕ → Vec Ideal S128x128 .f32) (g : ℕ → Fin 128 → EReal)
    (hval : ∀ u (hu : u < m) (c d : Fin 128),
      val u (ix2 c d) = v.read (Elt Ideal) f (ix2 ⟨o + 128 * u + c.val, by omega⟩ d) + g (o + 128 * u + c.val) d)
    (a : Fin 4096) (d : Fin 128) : ∀ n, n ≤ m →
    v.read (Elt Ideal) (v.writes (Elt Ideal) f (pieces off inb val n)) (ix2 a d)
      = v.read (Elt Ideal) f (ix2 a d) + if o ≤ a.val ∧ a.val < o + 128 * n then g a.val d else 0
  | 0, _ => by
    rw [if_neg (by omega), add_zero]
    rfl
  | n + 1, hn => by
    by_cases h : o + 128 * n ≤ a.val ∧ a.val < o + 128 * n + 128
    · rw [if_pos (by omega)]
      refine (View.read_writes_cons_unit_of_mem v f (inb n) (val n) _ (ix2 a d) (ix2 (⟨a.val - (o + 128 * n), by omega⟩ : Fin 128) d)
        (hoff n (by omega)) ?_).trans ?_
      · intro x
        fin_cases x
        · show a.val = o + 128 * n + (a.val - (o + 128 * n))
          omega
        · show d.val = 0 + d.val
          omega
      · have e' : o + 128 * n + (a.val - (o + 128 * n)) = a.val := by omega
        have e : (⟨o + 128 * n + (a.val - (o + 128 * n)), by omega⟩ : Fin 4096) = a := Fin.ext e'
        refine (hval n (by omega) _ _).trans ?_
        show v.read (Elt Ideal) f (ix2 (⟨o + 128 * n + (a.val - (o + 128 * n)), by omega⟩ : Fin 4096) d)
          + g (o + 128 * n + (a.val - (o + 128 * n))) d = _
        rw [e, e']
    · refine (View.read_writes_cons_unit_of_not_mem v f (inb n) (val n) _ (ix2 a d) (hoff n (by omega)) (0 : Fin 2) ?_).trans ?_
      · show a.val < o + 128 * n ∨ o + 128 * n + 128 ≤ a.val
        omega
      · refine (read_pieces v f inb hm hoff val g hval a d n (by omega)).trans (congrArg (_ + ·) ?_)
        by_cases h2 : o ≤ a.val ∧ a.val < o + 128 * n
        · rw [if_pos h2, if_pos (by omega)]
        · rw [if_neg h2, if_neg (by omega)]

section Group

variable (T : RTile) (o m : ℕ) (sel : ℕ → FVec Ideal S1024x128 .f32 → FVec Ideal S1024x128 .f32)
  (dob q : FVec Ideal S1024x128 .bf16) (lt : FVec Ideal S1024x1 .f32) (t41 t46 : FVec Ideal S256x128 .bf16)
  (KK VV : ℕ → Vec Ideal S128x128 .bf16) (s : Carry)

/-- What eight blocks start from: the tile's arrays, the running sums at column `o`, and the blocks' keys and values. -/
structure GroupOk : Prop where
  hsel : ∀ u, u < m → ∀ x r c, sel u x (ix2 r c) = if o + 128 * u + c.val < 1024 * T.i + r.val then x (ix2 r c) else 0
  hdob : ∀ r d, dob (ix2 r d) = ((T.dob r d : ℝ) : EReal)
  hq : ∀ r d, q (ix2 r d) = ((T.qs r d : ℝ) : EReal)
  hlt : ∀ r, lt (ix2 r 0) = ((T.lt r : ℝ) : EReal)
  h41 : ∀ k j, t41 (ix2 k j) = if k.val % 128 ≤ j.val then 1 else 0
  h46 : ∀ k j, t46 (ix2 k j) = if k.val % 128 < j.val then 1 else 0
  hcp : ∀ r, s.1 (ix2 r 0) = ((T.pre r o : ℝ) : EReal)
  hcc : ∀ r, s.2.1 (ix2 r 0) = ((T.cs r o : ℝ) : EReal)
  hdq : ∀ r d, s.2.2 (ix2 r d) = ((∑ c ∈ Finset.range o, T.dz r c * T.K c d : ℝ) : EReal)
  hk : ∀ u, u < m → ∀ c d, KK u (ix2 c d) = ((T.K (o + 128 * u + c.val) d : ℝ) : EReal)
  hv : ∀ u, u < m → ∀ c d, VV u (ix2 c d) = ((T.V (o + 128 * u + c.val) d : ℝ) : EReal)

variable {T o m sel dob q lt t41 t46 KK VV s} (H : GroupOk T o m sel dob q lt t41 t46 KK VV s)
include H

/-- What is handed on after `u` blocks: the sums of the first `o + 128 u` columns. -/
theorem carry_ok (u : ℕ) (hu : u ≤ m) :
    (∀ r, (carry sel dob q lt t41 t46 KK VV s u).1 (ix2 r 0) = ((T.pre r (o + 128 * u) : ℝ) : EReal)) ∧
    (∀ r, (carry sel dob q lt t41 t46 KK VV s u).2.1 (ix2 r 0) = ((T.cs r (o + 128 * u) : ℝ) : EReal)) ∧
    (∀ r d, (carry sel dob q lt t41 t46 KK VV s u).2.2 (ix2 r d)
      = ((∑ c ∈ Finset.range (o + 128 * u), T.dz r c * T.K c d : ℝ) : EReal)) := by
  induction u with
  | zero => exact ⟨H.hcp, H.hcc, H.hdq⟩
  | succ u ih =>
    obtain ⟨i1, i2, i3⟩ := ih (by omega)
    have B : BlockOk T (o + 128 * u) (sel u) dob q lt t41 t46 (carry sel dob q lt t41 t46 KK VV s u).1
        (carry sel dob q lt t41 t46 KK VV s u).2.1 (KK u) (VV u) :=
      ⟨H.hsel u (by omega), H.hdob, H.hq, H.hlt, H.h41, H.h46, i1, i2, H.hk u (by omega), H.hv u (by omega)⟩
    have e : o + 128 * (u + 1) = o + 128 * u + 128 := by ring
    rw [e]
    exact ⟨fun r => B.cp' r, fun r => B.cc' r, fun r d => B.dq' (f := fun r d c => T.dz r c * T.K c d) (fun _ _ _ => rfl) i3 r d⟩

/-- Each of the blocks is one of the tile's. -/
theorem block_ok (u : ℕ) (hu : u < m) : BlockOk T (o + 128 * u) (sel u) dob q lt t41 t46 (carry sel dob q lt t41 t46 KK VV s u).1
    (carry sel dob q lt t41 t46 KK VV s u).2.1 (KK u) (VV u) := by
  obtain ⟨i1, i2, -⟩ := carry_ok H u hu.le
  exact ⟨H.hsel u hu, H.hdob, H.hq, H.hlt, H.h41, H.h46, i1, i2, H.hk u hu, H.hv u hu⟩

theorem valK_apply (u : ℕ) (hu : u < m) (old : Vec Ideal S128x128 .f32) (c d : Fin 128) :
    valK sel dob q lt t41 t46 KK VV s u old (ix2 c d)
      = old (ix2 c d) + ((∑ r, T.dz r (o + 128 * u + c.val) * T.qs r d : ℝ) : EReal) := (block_ok H u hu).dk' old c d

theorem valV_apply (u : ℕ) (hu : u < m) (old : Vec Ideal S128x128 .f32) (c d : Fin 128) :
    valV sel dob q lt t41 t46 KK VV s u old (ix2 c d)
      = old (ix2 c d) + ((∑ r, T.w r (o + 128 * u + c.val) * T.dob r d : ℝ) : EReal) := (block_ok H u hu).dv' old c d

end Group

/-- The tile of number `i` makes `i` trips. -/
theorem trips_eq : ∀ i : grid0.Coords, (k0_t1_loop i).trips = (i 1).val := by decide +kernel

section Loop

variable (𝒱 : Variants) (c : Dev nD) (bd : Option 𝒱.V) (i : grid0.Coords)
  (arg2 : Memref sig .tc .vmem S1024x128 .f32) (harg2 : arg2.IsWhole)
  (arg3 : Memref sig .tc .vmem S4096x128 .f32) (harg3 : arg3.IsWhole)
  (arg4 : Memref sig .tc .vmem S4096x128 .f32) (harg4 : arg4.IsWhole)
  (arg5 : Memref sig .tc .vmem S1024x128 .f32) (harg5 : arg5.IsWhole)
  (arg6 : Memref sig .tc .vmem S1x1024x1 .f32) (harg6 : arg6.IsWhole)
  (arg7 : Memref sig .tc .vmem S1024x128 .f32) (harg7 : arg7.IsWhole)
  (arg8 : Memref sig .tc .vmem S1024x128 .f32) (harg8 : arg8.IsWhole)
  (arg9 : Memref sig .tc .vmem S1024x128 .bf16) (harg9 : arg9.IsWhole)
  (arg10 : Memref sig .tc .vmem S4096x128 .bf16) (harg10 : arg10.IsWhole)
  (arg11 : Memref sig .tc .vmem S4096x128 .bf16) (harg11 : arg11.IsWhole)
  (arg12 : Memref sig .tc .vmem S1024x128 .bf16) (harg12 : arg12.IsWhole)
  (arg13 : Memref sig .tc .vmem S4096x128 .bf16) (harg13 : arg13.IsWhole)
  (arg14 : Memref sig .tc .vmem S4096x128 .bf16) (harg14 : arg14.IsWhole)
  (arg15 : Memref sig .tc .vmem S4096x128 .f32) (harg15 : arg15.IsWhole)
  (arg16 : Memref sig .tc .vmem S4096x128 .f32) (harg16 : arg16.IsWhole)
  (arg1 : BitVec 32) (v26 v30 : FVec Ideal S1024x128 .bf16) (v32 : FVec Ideal S1024x1 .f32)
  (X13 : BufTy.Contents (Elt Ideal) arg13.view.ty) (X14 : BufTy.Contents (Elt Ideal) arg14.view.ty)
  (G15 : BufTy.Contents (Elt Ideal) arg15.view.ty) (G16 : BufTy.Contents (Elt Ideal) arg16.view.ty) (init : Carry)

theorem trip_lt (k : Fin (k0_t1_loop i).trips) : 1024 * k.val + 1024 ≤ 1024 * (i 1).val ∧ (i 1).val < 4 := by
  have h : k.val < (i 1).val := lt_of_lt_of_eq k.isLt (trips_eq i)
  have h4 : (i 1).val < 4 := (i 1).isLt
  omega

theorem tripOff_eq (k : Fin (k0_t1_loop i).trips) (u : ℕ) (hu : u < 8) : tripOff i k u = ![1024 * k.val + 128 * u, 0] := by
  unfold tripOff
  refine (k0_off1_eq i k (Fin.ofNat 8 u)).trans ?_
  have e : (Fin.ofNat 8 u).val = u := Nat.mod_eq_of_lt hu
  rw [e]

/-- A tile's arrays as the loop finds them. -/
structure LoopOk (T : RTile) (K V : Vec Ideal S4096x128 .bf16) : Prop where
  hi : T.i = (i 1).val
  hdob : ∀ r d, v26 (ix2 r d) = ((T.dob r d : ℝ) : EReal)
  hq : ∀ r d, v30 (ix2 r d) = ((T.qs r d : ℝ) : EReal)
  hlt : ∀ r, v32 (ix2 r 0) = ((T.lt r : ℝ) : EReal)
  hk : ∀ (a : Fin 4096) d, K (ix2 a d) = ((T.K a.val d : ℝ) : EReal)
  hv : ∀ (a : Fin 4096) d, V (ix2 a d) = ((T.V a.val d : ℝ) : EReal)

/-- The state of the loop before trip `n`, read at the indices. -/
theorem loop_state (T : RTile) (H : LoopOk i v26 v30 v32 T (arg13.view.read (Elt Ideal) X13) (arg14.view.read (Elt Ideal) X14))
    (h1 : ∀ r, init.1 (ix2 r 0) = 0) (h2 : ∀ r, init.2.1 (ix2 r 0) = 0) (h3 : ∀ r d, init.2.2 (ix2 r d) = 0)
    (n : ℕ) (hn : n ≤ (i 1).val) :
    ((∀ r, (st_k0_t1 (F := Ideal) 𝒱 c bd i _ harg2 _ harg3 _ harg4 _ harg5 _ harg6 _ harg7 _ harg8 _ harg9 _ harg10 _ harg11 _ harg12 _ harg13 _ harg14 _ harg15 _ harg16
      arg1 v26 v30 v32 X13 X14 G15 G16 init n).1.1 (ix2 r 0) = ((T.pre r (1024 * n) : ℝ) : EReal)) ∧
     (∀ r, (st_k0_t1 (F := Ideal) 𝒱 c bd i _ harg2 _ harg3 _ harg4 _ harg5 _ harg6 _ harg7 _ harg8 _ harg9 _ harg10 _ harg11 _ harg12 _ harg13 _ harg14 _ harg15 _ harg16
      arg1 v26 v30 v32 X13 X14 G15 G16 init n).1.2.1 (ix2 r 0) = ((T.cs r (1024 * n) : ℝ) : EReal)) ∧
     (∀ r d, (st_k0_t1 (F := Ideal) 𝒱 c bd i _ harg2 _ harg3 _ harg4 _ harg5 _ harg6 _ harg7 _ harg8 _ harg9 _ harg10 _ harg11 _ harg12 _ harg13 _ harg14 _ harg15 _ harg16
      arg1 v26 v30 v32 X13 X14 G15 G16 init n).1.2.2 (ix2 r d)
        = ((∑ x ∈ Finset.range (1024 * n), T.dz r x * T.K x d : ℝ) : EReal))) ∧
    (∀ a d, arg15.view.read (Elt Ideal) (arg15.view.writes (Elt Ideal) G15 (st_k0_t1 (F := Ideal) 𝒱 c bd i _ harg2 _ harg3 _ harg4 _ harg5 _ harg6 _ harg7 _ harg8 _ harg9 _ harg10 _ harg11 _ harg12 _ harg13 _ harg14 _ harg15 _ harg16
      arg1 v26 v30 v32 X13 X14 G15 G16 init n).2.1) (ix2 a d)
      = arg15.view.read (Elt Ideal) G15 (ix2 a d)
        + if a.val < 1024 * n then ((∑ r, T.dz r a.val * T.qs r d : ℝ) : EReal) else 0) ∧
    (∀ a d, arg16.view.read (Elt Ideal) (arg16.view.writes (Elt Ideal) G16 (st_k0_t1 (F := Ideal) 𝒱 c bd i _ harg2 _ harg3 _ harg4 _ harg5 _ harg6 _ harg7 _ harg8 _ harg9 _ harg10 _ harg11 _ harg12 _ harg13 _ harg14 _ harg15 _ harg16
      arg1 v26 v30 v32 X13 X14 G15 G16 init n).2.2) (ix2 a d)
      = arg16.view.read (Elt Ideal) G16 (ix2 a d)
        + if a.val < 1024 * n then ((∑ r, T.w r a.val * T.dob r d : ℝ) : EReal) else 0) := by
  induction n with
  | zero =>
    refine ⟨⟨fun r => ?_, fun r => ?_, fun r d => ?_⟩, fun a d => ?_, fun a d => ?_⟩
    · refine (h1 r).trans ?_
      simp [RTile.pre]
    · refine (h2 r).trans ?_
      simp [RTile.cs]
    · refine (h3 r d).trans ?_
      simp
    · rw [if_neg (by omega), add_zero]; rfl
    · rw [if_neg (by omega), add_zero]; rfl
  | succ n ih =>
    obtain ⟨⟨i1, i2, i3⟩, i4, i5⟩ := ih (by omega)
    have hlt : n < (k0_t1_loop i).trips := by rw [trips_eq]; omega
    have h4 : (i 1).val < 4 := (i 1).isLt
    have hst := st_k0_t1_succ (F := Ideal) 𝒱 c bd i _ harg2 _ harg3 _ harg4 _ harg5 _ harg6 _ harg7 _ harg8 _ harg9 _ harg10 _ harg11 _ harg12 _ harg13 _ harg14 _ harg15 _ harg16
      arg1 v26 v30 v32 X13 X14 G15 G16 init ⟨n, hlt⟩
    generalize hS : st_k0_t1 (F := Ideal) 𝒱 c bd i _ harg2 _ harg3 _ harg4 _ harg5 _ harg6 _ harg7 _ harg8 _ harg9 _ harg10 _ harg11 _ harg12 _ harg13 _ harg14 _ harg15 _ harg16
      arg1 v26 v30 v32 X13 X14 G15 G16 init n = S at i1 i2 i3 i4 i5 hst
    rw [show (st_k0_t1 (F := Ideal) 𝒱 c bd i _ harg2 _ harg3 _ harg4 _ harg5 _ harg6 _ harg7 _ harg8 _ harg9 _ harg10 _ harg11 _ harg12 _ harg13 _ harg14 _ harg15 _ harg16
      arg1 v26 v30 v32 X13 X14 G15 G16 init (n + 1)) = _ from hst, tripR_eq, tripL_eq]
    clear hst
    dsimp only
    have e : 1024 * (n + 1) = 1024 * n + 128 * 8 := by ring
    have hG : GroupOk T (1024 * n) 8 (fun _ x => x) v26 v30 v32 k0_pay223 k0_pay224
        (rowsOf arg13.view X13 (tripOff i ⟨n, hlt⟩) (tripOff_inb i ⟨n, hlt⟩)) (rowsOf arg14.view X14 (tripOff i ⟨n, hlt⟩) (tripOff_inb i ⟨n, hlt⟩)) S.1 := by
      refine ⟨fun u hu x r c => ?_, H.hdob, H.hq, H.hlt, upto_apply, before_apply, i1, i2, i3, fun u hu c d => ?_, fun u hu c d => ?_⟩
      · have := c.isLt
        rw [H.hi, if_pos (by omega)]
      · exact (rowsOf_apply arg13.view X13 _ (tripOff_eq i ⟨n, hlt⟩ u hu) c d (by have := c.isLt; show 1024 * n + 128 * u + c.val < 4096; omega)).trans (H.hk _ d)
      · exact (rowsOf_apply arg14.view X14 _ (tripOff_eq i ⟨n, hlt⟩ u hu) c d (by have := c.isLt; show 1024 * n + 128 * u + c.val < 4096; omega)).trans (H.hv _ d)
    refine ⟨?_, fun a d => ?_, fun a d => ?_⟩
    · rw [e]
      exact carry_ok hG 8 le_rfl
    · rw [View.writes_append]
      refine (read_pieces arg15.view _ (tripOff_inb i ⟨n, hlt⟩) (o := 1024 * n) (m := 8) (by omega) (tripOff_eq i ⟨n, hlt⟩) _
        (fun a d => ((∑ r, T.dz r a * T.qs r d : ℝ) : EReal)) (fun u hu c d => ?_) a d 8 le_rfl).trans ?_
      · rw [valK_apply hG u hu]
        exact congrArg (· + _) (rowsOf_apply arg15.view _ _ (tripOff_eq i ⟨n, hlt⟩ u hu) c d _)
      · rw [i4]
        by_cases ha : a.val < 1024 * n
        · rw [if_pos ha, if_neg (by omega), if_pos (by omega), add_zero]
        · rw [if_neg ha, add_zero]
          by_cases hb : a.val < 1024 * (n + 1)
          · rw [if_pos (by omega), if_pos hb]
          · rw [if_neg (by omega), if_neg hb]
    · rw [View.writes_append]
      refine (read_pieces arg16.view _ (tripOff_inb i ⟨n, hlt⟩) (o := 1024 * n) (m := 8) (by omega) (tripOff_eq i ⟨n, hlt⟩) _
        (fun a d => ((∑ r, T.w r a * T.dob r d : ℝ) : EReal)) (fun u hu c d => ?_) a d 8 le_rfl).trans ?_
      · rw [valV_apply hG u hu]
        exact congrArg (· + _) (rowsOf_apply arg16.view _ _ (tripOff_eq i ⟨n, hlt⟩ u hu) c d _)
      · rw [i5]
        by_cases ha : a.val < 1024 * n
        · rw [if_pos ha, if_neg (by omega), if_pos (by omega), add_zero]
        · rw [if_neg ha, add_zero]
          by_cases hb : a.val < 1024 * (n + 1)
          · rw [if_pos (by omega), if_pos hb]
          · rw [if_neg (by omega), if_neg hb]

end Loop

end Cert.Kernel2Ideal.Sb
-- ==== Proof.SbDiag.lean ====
module

public import proofs.«01_k».proof.Proof.SbLoop

/-!
# The eight blocks on the diagonal

After the loop a tile handles the 1024 keys of its own number in eight blocks, with the mask. Then all keys that the tile's rows see
have been visited, so the sums are the tile's whole sums.
-/

@[expose] public section

set_option maxRecDepth 16384

noncomputable section

namespace Cert.Kernel2Ideal.Sb

open Idealize.ShloMosaic Idealize.ShloMosaic.TcCoe Idealize.ShloMosaic.Tactic Cert.Kernel2Ideal Cert.Kernel2Ideal.Gen
open Cert.KernelIdeal.Block (coe_sum div_real)

theorem iota0_apply (r : Fin 1024) (c : Fin 128) :
    iota Kind.tc S1024x128 32 [0] iota_S1024x128_d0_w32 (ix2 r c) = BitVec.ofNat 32 r.val := by
  pointwise []

theorem iota1_apply (r : Fin 1024) (c : Fin 128) :
    iota Kind.tc S1024x128 32 [1] iota_S1024x128_d1_w32 (ix2 r c) = BitVec.ofNat 32 c.val := by
  pointwise []

/-- The mask of block `u` on the diagonal. -/
def dgSel (u : ℕ) (x : FVec Ideal S1024x128 .f32) : FVec Ideal S1024x128 .f32 :=
  select (cmpi .slt (addi (iota Kind.tc S1024x128 32 [1] iota_S1024x128_d1_w32) (broadcast S1024x128 (BitVec.ofNat 32 (128 * u))))
    (iota Kind.tc S1024x128 32 [0] iota_S1024x128_d0_w32)) x (broadcast S1024x128 (Scalar.ofBits .f32 0x00000000#32))

theorem dgSel_apply (u : ℕ) (hu : u < 8) (x : FVec Ideal S1024x128 .f32) (r : Fin 1024) (c : Fin 128) :
    dgSel u x (ix2 r c) = if 128 * u + c.val < r.val then x (ix2 r c) else 0 := by
  have hr := r.isLt
  have hc := c.isLt
  show Scalar.select (IntOp.cmpi .slt
    (iota Kind.tc S1024x128 32 [1] iota_S1024x128_d1_w32 (ix2 r c) + BitVec.ofNat 32 (128 * u))
    (iota Kind.tc S1024x128 32 [0] iota_S1024x128_d0_w32 (ix2 r c))) (x (ix2 r c)) (Ideal.ofBits .f32 0x00000000#32) = _
  rw [iota0_apply, iota1_apply, ← BitVec.ofNat_add, slt_word (by omega) (by omega), Nat.add_comm c.val]
  by_cases h : 128 * u + c.val < r.val
  · rw [if_pos h, if_pos h]
    rfl
  · rw [if_neg h, if_neg h]
    refine Eq.trans (b := Ideal.ofBits .f32 0x00000000#32) rfl ?_
    simp [Ideal.ofBits, Ideal.ieee]

/-- Stores of 128 rows each, every one reading what the ones before it left. -/
def piecesN (off : ℕ → Fin 2 → ℕ) (inb : ∀ u a, off u a + S128x128.size a ≤ S4096x128.size a)
    (v : View sig .tc .vmem S4096x128 .f32) (f : v.ty.Contents (Elt Ideal)) (val : ℕ → Vec Ideal S128x128 .f32 → Vec Ideal S128x128 .f32)
    (tail : List (View.Piece (Elt Ideal) S4096x128 .f32)) : ℕ → List (View.Piece (Elt Ideal) S4096x128 .f32)
  | 0 => tail
  | u + 1 => ⟨Rect.unit (s := S4096x128) (off u) S128x128.size (inb u),
      val u (rowsOf v (v.writes (Elt Ideal) f (piecesN off inb v f val tail u)) off inb u)⟩ :: piecesN off inb v f val tail u

/-- One store more, read from what the ones before it left. -/
theorem piecesN_step {off : ℕ → Fin 2 → ℕ} {inb : ∀ u a, off u a + S128x128.size a ≤ S4096x128.size a}
    {v : View sig .tc .vmem S4096x128 .f32} {f : v.ty.Contents (Elt Ideal)} {val : ℕ → Vec Ideal S128x128 .f32 → Vec Ideal S128x128 .f32}
    {tail xs : List (View.Piece (Elt Ideal) S4096x128 .f32)} {p : View.Piece (Elt Ideal) S4096x128 .f32} {n : ℕ}
    (hx : xs = piecesN off inb v f val tail n)
    (hp : p = ⟨Rect.unit (s := S4096x128) (off n) S128x128.size (inb n), val n (rowsOf v (v.writes (Elt Ideal) f xs) off inb n)⟩) :
    p :: xs = piecesN off inb v f val tail (n + 1) := by
  rw [hp, hx, piecesN]

/-- Such stores, one below the other, each adding `g` to what it finds. -/
theorem read_piecesN (v : View sig .tc .vmem S4096x128 .f32) (f : v.ty.Contents (Elt Ideal)) {off : ℕ → Fin 2 → ℕ}
    (inb : ∀ u a, off u a + S128x128.size a ≤ S4096x128.size a) {o m : ℕ} (hm : o + 128 * m ≤ 4096)
    (hoff : ∀ u, u < m → off u = ![o + 128 * u, 0]) (val : ℕ → Vec Ideal S128x128 .f32 → Vec Ideal S128x128 .f32)
    (tail : List (View.Piece (Elt Ideal) S4096x128 .f32)) (g : ℕ → Fin 128 → EReal)
    (hval : ∀ u (_ : u < m) old (c d : Fin 128), val u old (ix2 c d) = old (ix2 c d) + g (o + 128 * u + c.val) d) :
    ∀ n, n ≤ m → ∀ (a : Fin 4096) (d : Fin 128),
    v.read (Elt Ideal) (v.writes (Elt Ideal) f (piecesN off inb v f val tail n)) (ix2 a d)
      = v.read (Elt Ideal) (v.writes (Elt Ideal) f tail) (ix2 a d) + if o ≤ a.val ∧ a.val < o + 128 * n then g a.val d else 0
  | 0, _, a, d => by
    rw [if_neg (by omega), add_zero]
    rfl
  | n + 1, hn, a, d => by
    have ih := read_piecesN v f inb hm hoff val tail g hval n (by omega)
    by_cases h : o + 128 * n ≤ a.val ∧ a.val < o + 128 * n + 128
    · rw [if_pos (by omega)]
      refine (View.read_writes_cons_unit_of_mem v f (inb n) _ _ (ix2 a d) (ix2 (⟨a.val - (o + 128 * n), by omega⟩ : Fin 128) d)
        (hoff n (by omega)) ?_).trans ?_
      · intro x
        fin_cases x
        · show a.val = o + 128 * n + (a.val - (o + 128 * n))
          omega
        · show d.val = 0 + d.val
          omega
      · have e' : o + 128 * n + (a.val - (o + 128 * n)) = a.val := by omega
        have e : (⟨o + 128 * n + (a.val - (o + 128 * n)), by omega⟩ : Fin 4096) = a := Fin.ext e'
        refine (hval n (by omega) _ _ _).trans ?_
        show _ + g (o + 128 * n + (a.val - (o + 128 * n))) d = _
        rw [rowsOf_apply v _ inb (hoff n (by omega)) _ _ (by show o + 128 * n + (a.val - (o + 128 * n)) < 4096; omega)]
        show v.read (Elt Ideal) _ (ix2 (⟨o + 128 * n + (a.val - (o + 128 * n)), by omega⟩ : Fin 4096) d) + _ = _
        rw [e, e', ih, if_neg (by omega), add_zero]
    · refine (View.read_writes_cons_unit_of_not_mem v f (inb n) _ _ (ix2 a d) (hoff n (by omega)) (0 : Fin 2) ?_).trans ?_
      · show a.val < o + 128 * n ∨ o + 128 * n + 128 ≤ a.val
        omega
      · refine (ih a d).trans (congrArg (_ + ·) ?_)
        by_cases h2 : o ≤ a.val ∧ a.val < o + 128 * n
        · rw [if_pos h2, if_pos (by omega)]
        · rw [if_neg h2, if_neg (by omega)]

section Diag

variable (𝒱 : Variants) (c : Dev nD) (bd : Option 𝒱.V) (i : grid0.Coords)
  (arg2 : Memref sig .tc .vmem S1024x128 .f32) (harg2 : arg2.IsWhole)
  (arg3 : Memref sig .tc .vmem S4096x128 .f32) (harg3 : arg3.IsWhole)
  (arg4 : Memref sig .tc .vmem S4096x128 .f32) (harg4 : arg4.IsWhole)
  (arg5 : Memref sig .tc .vmem S1024x128 .f32) (harg5 : arg5.IsWhole)
  (arg6 : Memref sig .tc .vmem S1x1024x1 .f32) (harg6 : arg6.IsWhole)
  (arg7 : Memref sig .tc .vmem S1024x128 .f32) (harg7 : arg7.IsWhole)
  (arg8 : Memref sig .tc .vmem S1024x128 .f32) (harg8 : arg8.IsWhole)
  (arg9 : Memref sig .tc .vmem S1024x128 .bf16) (harg9 : arg9.IsWhole)
  (arg10 : Memref sig .tc .vmem S4096x128 .bf16) (harg10 : arg10.IsWhole)
  (arg11 : Memref sig .tc .vmem S4096x128 .bf16) (harg11 : arg11.IsWhole)
  (arg12 : Memref sig .tc .vmem S1024x128 .bf16) (harg12 : arg12.IsWhole)
  (arg13 : Memref sig .tc .vmem S4096x128 .bf16) (harg13 : arg13.IsWhole)
  (arg14 : Memref sig .tc .vmem S4096x128 .bf16) (harg14 : arg14.IsWhole)
  (arg15 : Memref sig .tc .vmem S4096x128 .f32) (harg15 : arg15.IsWhole)
  (arg16 : Memref sig .tc .vmem S4096x128 .f32) (harg16 : arg16.IsWhole)
  (arg1 : BitVec 32) (v26 v30 : FVec Ideal S1024x128 .bf16) (v32 : FVec Ideal S1024x1 .f32)
  (X13 : BufTy.Contents (Elt Ideal) arg13.view.ty) (X14 : BufTy.Contents (Elt Ideal) arg14.view.ty)
  (G15 : BufTy.Contents (Elt Ideal) arg15.view.ty) (G16 : BufTy.Contents (Elt Ideal) arg16.view.ty)

/-- Where block `u` on the diagonal lies. -/
def dgOff (u : ℕ) : Fin 2 → ℕ := k0_off3 i (BitVec.ofNat 32 (Fin.ofNat 8 u).val)

theorem dgOff_inb (u : ℕ) (a : Fin 2) : dgOff i u a + S128x128.size a ≤ S4096x128.size a := k0_off3_inb i (Fin.ofNat 8 u) a

theorem dgOff_eq (u : ℕ) (hu : u < 8) : dgOff i u = ![1024 * (i 1).val + 128 * u, 0] := by
  unfold dgOff
  refine (k0_off3_eq i (Fin.ofNat 8 u)).trans ?_
  have e : (Fin.ofNat 8 u).val = u := Nat.mod_eq_of_lt hu
  rw [e]

/-- What is handed on after `u` blocks on the diagonal. -/
abbrev dgCarry (s : Carry) : ℕ → Carry :=
  carry dgSel v26 v30 v32 k0_pay223 k0_pay224 (rowsOf arg13.view X13 (dgOff i) (dgOff_inb i)) (rowsOf arg14.view X14 (dgOff i) (dgOff_inb i)) s

/-- The stores into the gradient of the keys, up to block `u` on the diagonal. -/
abbrev dgK (s : Carry) (tail : List (View.Piece (Elt Ideal) S4096x128 .f32)) : ℕ → List (View.Piece (Elt Ideal) S4096x128 .f32) :=
  piecesN (dgOff i) (dgOff_inb i) arg15.view G15 (valK dgSel v26 v30 v32 k0_pay223 k0_pay224 (rowsOf arg13.view X13 (dgOff i) (dgOff_inb i))
    (rowsOf arg14.view X14 (dgOff i) (dgOff_inb i)) s) tail

/-- The stores into the gradient of the values, up to block `u` on the diagonal. -/
abbrev dgV (s : Carry) (tail : List (View.Piece (Elt Ideal) S4096x128 .f32)) : ℕ → List (View.Piece (Elt Ideal) S4096x128 .f32) :=
  piecesN (dgOff i) (dgOff_inb i) arg16.view G16 (valV dgSel v26 v30 v32 k0_pay223 k0_pay224 (rowsOf arg13.view X13 (dgOff i) (dgOff_inb i))
    (rowsOf arg14.view X14 (dgOff i) (dgOff_inb i)) s) tail

/-- A key beyond a tile's rows takes no part in it. -/
theorem dz_out (T : RTile) (r : Fin 1024) (a : ℕ) (h : 1024 * T.i + 1024 ≤ a) : T.dz r a = 0 := by
  have := r.isLt
  unfold RTile.dz
  rw [if_neg (by omega)]

theorem w_out (T : RTile) (r : Fin 1024) (a : ℕ) (h : 1024 * T.i + 1024 ≤ a) : T.w r a = 0 := by
  have := r.isLt
  unfold RTile.w
  rw [if_neg (by omega)]

variable (T : RTile) (H : LoopOk i v26 v30 v32 T (arg13.view.read (Elt Ideal) X13) (arg14.view.read (Elt Ideal) X14))
include H

/-- The diagonal's blocks start from the tile's sums below it. -/
theorem dg_ok : GroupOk T (1024 * (i 1).val) 8 dgSel v26 v30 v32 k0_pay223 k0_pay224
    (rowsOf arg13.view X13 (dgOff i) (dgOff_inb i)) (rowsOf arg14.view X14 (dgOff i) (dgOff_inb i))
    (st_k0_t1 (F := Ideal) 𝒱 c bd i _ harg2 _ harg3 _ harg4 _ harg5 _ harg6 _ harg7 _ harg8 _ harg9 _ harg10 _ harg11 _ harg12 _ harg13 _ harg14 _ harg15 _ harg16
      arg1 v26 v30 v32 X13 X14 G15 G16 (k0_pay225, k0_pay225, k0_pay226) (k0_t1_loop i).trips).1 := by
  have h4 : (i 1).val < 4 := (i 1).isLt
  rw [trips_eq]
  obtain ⟨⟨i1, i2, i3⟩, -, -⟩ := loop_state 𝒱 c bd i _ harg2 _ harg3 _ harg4 _ harg5 _ harg6 _ harg7 _ harg8 _ harg9 _ harg10 _ harg11 _ harg12 _ harg13 _ harg14 _ harg15 _ harg16
      arg1 v26 v30 v32 X13 X14 G15 G16 (k0_pay225, k0_pay225, k0_pay226) T H zero225_apply zero225_apply zero226_apply (i 1).val le_rfl
  refine ⟨fun u hu x r c => ?_, H.hdob, H.hq, H.hlt, upto_apply, before_apply, i1, i2, i3, fun u hu c d => ?_, fun u hu c d => ?_⟩
  · rw [dgSel_apply u hu, H.hi]
    by_cases h : 128 * u + c.val < r.val
    · rw [if_pos h, if_pos (by omega)]
    · rw [if_neg h, if_neg (by omega)]
  · exact (rowsOf_apply arg13.view X13 _ (dgOff_eq i u hu) c d (by have := c.isLt; omega)).trans (H.hk _ d)
  · exact (rowsOf_apply arg14.view X14 _ (dgOff_eq i u hu) c d (by have := c.isLt; omega)).trans (H.hv _ d)

/-- The gradient of the queries, before its scale. -/
theorem dg_dq (r : Fin 1024) (d : Fin 128) :
    (dgCarry i arg13 arg14 v26 v30 v32 X13 X14 (st_k0_t1 (F := Ideal) 𝒱 c bd i _ harg2 _ harg3 _ harg4 _ harg5 _ harg6 _ harg7 _ harg8 _ harg9 _ harg10 _ harg11 _ harg12 _ harg13 _ harg14 _ harg15 _ harg16
      arg1 v26 v30 v32 X13 X14 G15 G16 (k0_pay225, k0_pay225, k0_pay226) (k0_t1_loop i).trips).1 8).2.2 (ix2 r d)
      = ((∑ x ∈ Finset.range (1024 * (i 1).val + 1024), T.dz r x * T.K x d : ℝ) : EReal) :=
  (carry_ok (dg_ok 𝒱 c bd i _ harg2 _ harg3 _ harg4 _ harg5 _ harg6 _ harg7 _ harg8 _ harg9 _ harg10 _ harg11 _ harg12 _ harg13 _ harg14 _ harg15 _ harg16
      arg1 v26 v30 v32 X13 X14 G15 G16 T H) 8 le_rfl).2.2 r d

/-- The gradient of the keys after the point: every row has received the tile's part. -/
theorem dg_dk (f : BufTy.Contents (Elt Ideal) arg15.view.ty) (tl : List (View.Piece (Elt Ideal) S4096x128 .f32))
    (htl : arg15.view.writes (Elt Ideal) f tl = arg15.view.writes (Elt Ideal) G15 (st_k0_t1 (F := Ideal) 𝒱 c bd i _ harg2 _ harg3 _ harg4 _ harg5 _ harg6 _ harg7 _ harg8 _ harg9 _ harg10 _ harg11 _ harg12 _ harg13 _ harg14 _ harg15 _ harg16
      arg1 v26 v30 v32 X13 X14 G15 G16 (k0_pay225, k0_pay225, k0_pay226) (k0_t1_loop i).trips).2.1) (a : Fin 4096) (d : Fin 128) :
    arg15.view.read (Elt Ideal) (arg15.view.writes (Elt Ideal) f (dgK i arg13 arg14 arg15 v26 v30 v32 X13 X14 f (st_k0_t1 (F := Ideal) 𝒱 c bd i _ harg2 _ harg3 _ harg4 _ harg5 _ harg6 _ harg7 _ harg8 _ harg9 _ harg10 _ harg11 _ harg12 _ harg13 _ harg14 _ harg15 _ harg16
      arg1 v26 v30 v32 X13 X14 G15 G16 (k0_pay225, k0_pay225, k0_pay226) (k0_t1_loop i).trips).1 tl 8)) (ix2 a d)
      = arg15.view.read (Elt Ideal) G15 (ix2 a d) + ((∑ r, T.dz r a.val * T.qs r d : ℝ) : EReal) := by
  have h4 : (i 1).val < 4 := (i 1).isLt
  have hG := dg_ok 𝒱 c bd i _ harg2 _ harg3 _ harg4 _ harg5 _ harg6 _ harg7 _ harg8 _ harg9 _ harg10 _ harg11 _ harg12 _ harg13 _ harg14 _ harg15 _ harg16
      arg1 v26 v30 v32 X13 X14 G15 G16 T H
  have hL := loop_state 𝒱 c bd i _ harg2 _ harg3 _ harg4 _ harg5 _ harg6 _ harg7 _ harg8 _ harg9 _ harg10 _ harg11 _ harg12 _ harg13 _ harg14 _ harg15 _ harg16
      arg1 v26 v30 v32 X13 X14 G15 G16 (k0_pay225, k0_pay225, k0_pay226) T H zero225_apply zero225_apply zero226_apply (i 1).val le_rfl
  rw [← trips_eq] at hL
  refine (read_piecesN arg15.view f (dgOff_inb i) (o := 1024 * (i 1).val) (m := 8) (by omega) (dgOff_eq i) _ _
    (fun a d => ((∑ r, T.dz r a * T.qs r d : ℝ) : EReal)) (fun u hu old c d => valK_apply hG u hu old c d) 8 le_rfl a d).trans ?_
  rw [htl, hL.2.1 a d, trips_eq]
  by_cases h1 : a.val < 1024 * (i 1).val
  · rw [if_pos h1, if_neg (by omega), add_zero]
  · rw [if_neg h1, add_zero]
    by_cases h2 : a.val < 1024 * (i 1).val + 128 * 8
    · rw [if_pos (by omega)]
    · rw [if_neg (by omega)]
      refine congrArg (_ + ·) ?_
      have e : (∑ r, T.dz r a.val * T.qs r d) = 0 :=
        Finset.sum_eq_zero fun r _ => by rw [dz_out T r a.val (by rw [H.hi]; omega), zero_mul]
      rw [e]
      rfl

/-- The gradient of the values after the point: every row has received the tile's part. -/
theorem dg_dv (f : BufTy.Contents (Elt Ideal) arg16.view.ty) (tl : List (View.Piece (Elt Ideal) S4096x128 .f32))
    (htl : arg16.view.writes (Elt Ideal) f tl = arg16.view.writes (Elt Ideal) G16 (st_k0_t1 (F := Ideal) 𝒱 c bd i _ harg2 _ harg3 _ harg4 _ harg5 _ harg6 _ harg7 _ harg8 _ harg9 _ harg10 _ harg11 _ harg12 _ harg13 _ harg14 _ harg15 _ harg16
      arg1 v26 v30 v32 X13 X14 G15 G16 (k0_pay225, k0_pay225, k0_pay226) (k0_t1_loop i).trips).2.2) (a : Fin 4096) (d : Fin 128) :
    arg16.view.read (Elt Ideal) (arg16.view.writes (Elt Ideal) f (dgV i arg13 arg14 arg16 v26 v30 v32 X13 X14 f (st_k0_t1 (F := Ideal) 𝒱 c bd i _ harg2 _ harg3 _ harg4 _ harg5 _ harg6 _ harg7 _ harg8 _ harg9 _ harg10 _ harg11 _ harg12 _ harg13 _ harg14 _ harg15 _ harg16
      arg1 v26 v30 v32 X13 X14 G15 G16 (k0_pay225, k0_pay225, k0_pay226) (k0_t1_loop i).trips).1 tl 8)) (ix2 a d)
      = arg16.view.read (Elt Ideal) G16 (ix2 a d) + ((∑ r, T.w r a.val * T.dob r d : ℝ) : EReal) := by
  have h4 : (i 1).val < 4 := (i 1).isLt
  have hG := dg_ok 𝒱 c bd i _ harg2 _ harg3 _ harg4 _ harg5 _ harg6 _ harg7 _ harg8 _ harg9 _ harg10 _ harg11 _ harg12 _ harg13 _ harg14 _ harg15 _ harg16
      arg1 v26 v30 v32 X13 X14 G15 G16 T H
  have hL := loop_state 𝒱 c bd i _ harg2 _ harg3 _ harg4 _ harg5 _ harg6 _ harg7 _ harg8 _ harg9 _ harg10 _ harg11 _ harg12 _ harg13 _ harg14 _ harg15 _ harg16
      arg1 v26 v30 v32 X13 X14 G15 G16 (k0_pay225, k0_pay225, k0_pay226) T H zero225_apply zero225_apply zero226_apply (i 1).val le_rfl
  rw [← trips_eq] at hL
  refine (read_piecesN arg16.view f (dgOff_inb i) (o := 1024 * (i 1).val) (m := 8) (by omega) (dgOff_eq i) _ _
    (fun a d => ((∑ r, T.w r a * T.dob r d : ℝ) : EReal)) (fun u hu old c d => valV_apply hG u hu old c d) 8 le_rfl a d).trans ?_
  rw [htl, hL.2.2 a d, trips_eq]
  by_cases h1 : a.val < 1024 * (i 1).val
  · rw [if_pos h1, if_neg (by omega), add_zero]
  · rw [if_neg h1, add_zero]
    by_cases h2 : a.val < 1024 * (i 1).val + 128 * 8
    · rw [if_pos (by omega)]
    · rw [if_neg (by omega)]
      refine congrArg (_ + ·) ?_
      have e : (∑ r, T.w r a.val * T.dob r d) = 0 :=
        Finset.sum_eq_zero fun r _ => by rw [w_out T r a.val (by rw [H.hi]; omega), zero_mul]
      rw [e]
      rfl

end Diag

end Cert.Kernel2Ideal.Sb
-- ==== Proof.SbPoint.lean ====
module

public import proofs.«01_k».proof.Proof.SbDiag
public import proofs.«01_k».proof.Proof.Gen.Kernel2Ideal.Frame

/-!
# What a grid point in the middle of its head leaves

A load of a whole buffer is its contents, and the loop over no block makes no trip. A point that is neither the first nor the last of
its head adds its tile's part to what the accumulators hold.
-/

@[expose] public section

set_option maxRecDepth 16384

noncomputable section

namespace Cert.Kernel2Ideal.Sb

open Idealize.ShloMosaic Idealize.ShloMosaic.TcCoe Idealize.ShloMosaic.Tactic Cert.Kernel2Ideal Cert.Kernel2Ideal.Gen
open Cert.KernelIdeal.Block (coe_sum div_real)

/-- A load of a whole buffer reads its contents. -/
theorem load_whole {sp : Space} {e : EltTy} {n : ℕ} {size : Fin n → ℕ} {m : Memref sig .tc sp ⟨n, size⟩ e} (h : m.IsWhole)
    (X : (⟨n, size⟩ : Shape).Idx → Elt Ideal e) {off : Fin n → ℕ} (ho : off = fun _ => 0) (inb : ∀ a, off a + size a ≤ size a) :
    View.readAt (Elt Ideal) m.view (Rect.unit (s := ⟨n, size⟩) off size inb).toLoadRect (h.unread X) = X := by
  rw [View.readAt_eq_ld, h.read_unread]
  exact View.ld_unit_zero (S := ⟨n, size⟩) ho inb X

theorem off2 : (![0, 0] : Fin 2 → ℕ) = fun _ => 0 := by
  funext a
  fin_cases a <;> rfl

theorem off3 : (![0, 0, 0] : Fin 3 → ℕ) = fun _ => 0 := by
  funext a
  fin_cases a <;> rfl

/-- Every index lies in the rectangle of the whole. -/
theorem mem_whole {n : ℕ} {size : Fin n → ℕ} {off : Fin n → ℕ} (ho : off = fun _ => 0) (inb : ∀ a, off a + size a ≤ size a)
    (y : (⟨n, size⟩ : Shape).Idx) : y ∈ (Rect.unit (s := ⟨n, size⟩) off size inb).set := by
  subst ho
  exact Rect.mem_set_unit.mpr fun a => ⟨Nat.zero_le _, by simpa using (y a).isLt⟩

/-- A buffer that one store of the whole covers holds that store. -/
theorem read_store_whole {sp : Space} {e : EltTy} {n : ℕ} {size : Fin n → ℕ} (v : View sig .tc sp ⟨n, size⟩ e) (f : v.ty.Contents (Elt Ideal))
    {off : Fin n → ℕ} (ho : off = fun _ => 0) (inb : ∀ a, off a + size a ≤ size a) (w : Vec Ideal ⟨n, size⟩ e) :
    v.read (Elt Ideal) (v.writes (Elt Ideal) f [⟨Rect.unit (s := ⟨n, size⟩) off size inb, w⟩]) = w := by
  refine (View.read_writes_eq_canon v _ _ fun y => ⟨_, List.mem_singleton.mpr rfl, ?_⟩).trans (View.canon_unit_zero (S := ⟨n, size⟩) ho inb w)
  exact mem_whole ho inb y

/-- The second loop of the kernel has nothing to visit. -/
theorem trips2_eq (i : grid0.Coords) : Scf.trips (k0_t2_loop i).lb (k0_t2_loop i).ub (k0_t2_loop i).st = 0 :=
  Nat.le_zero.mp (k0_t2_abs i).2.1

section CaseB

variable (c : Dev nD) (i : grid0.Coords)
  (arg2 : Memref sig .tc .vmem S1024x128 .f32) (harg2 : arg2.IsWhole)
  (arg3 : Memref sig .tc .vmem S4096x128 .f32) (harg3 : arg3.IsWhole)
  (arg4 : Memref sig .tc .vmem S4096x128 .f32) (harg4 : arg4.IsWhole)
  (arg5 : Memref sig .tc .vmem S1024x128 .f32) (harg5 : arg5.IsWhole)
  (arg6 : Memref sig .tc .vmem S1x1024x1 .f32) (harg6 : arg6.IsWhole)
  (arg7 : Memref sig .tc .vmem S1024x128 .f32) (harg7 : arg7.IsWhole)
  (arg8 : Memref sig .tc .vmem S1024x128 .f32) (harg8 : arg8.IsWhole)
  (arg9 : Memref sig .tc .vmem S1024x128 .bf16) (harg9 : arg9.IsWhole)
  (arg10 : Memref sig .tc .vmem S4096x128 .bf16) (harg10 : arg10.IsWhole)
  (arg11 : Memref sig .tc .vmem S4096x128 .bf16) (harg11 : arg11.IsWhole)
  (arg12 : Memref sig .tc .vmem S1024x128 .bf16) (harg12 : arg12.IsWhole)
  (arg13 : Memref sig .tc .vmem S4096x128 .bf16) (harg13 : arg13.IsWhole)
  (arg14 : Memref sig .tc .vmem S4096x128 .bf16) (harg14 : arg14.IsWhole)
  (arg15 : Memref sig .tc .vmem S4096x128 .f32) (harg15 : arg15.IsWhole)
  (arg16 : Memref sig .tc .vmem S4096x128 .f32) (harg16 : arg16.IsWhole)
  (hc0 : ¬cond0_0 i) (hc1 : ¬cond0_1 i)
  (x0 : Vec Ideal S1024x128 .f32) (x1 x2 : Vec Ideal S4096x128 .f32) (x3 : Vec Ideal S1024x128 .f32) (x4 : Vec Ideal S1x1024x1 .f32)
  (x5 x6 : Vec Ideal S1024x128 .f32) (xs0 xs1 : Vec Ideal S4096x128 .bf16) (xs2 xs3 : Vec Ideal S4096x128 .f32)

-- `L` is what the loop leaves.
variable {L : _}
  (hL : L = st_k0_t1 (F := Ideal) Variants.none c none i _ harg2 _ harg3 _ harg4 _ harg5 _ harg6 _ harg7 _ harg8 _ harg9 _ harg10 _ harg11 _ harg12 _ harg13 _ harg14 _ harg15 _ harg16
      (BitVec.ofNat 32 (i 1).val) (kernelRun0_B.sl.r c _ harg5 _ harg8 x3 x6) (kernelRun0_B.sl.r_1 c _ harg2 x0) (kernelRun0_B.sl.r_2 c _ harg6 x4) (harg13.unread xs0) (harg14.unread xs1) (harg15.unread xs2) (harg16.unread xs3) (k0_pay225, k0_pay225, k0_pay226) (k0_t1_loop i).trips)
  -- `S` is what the diagonal starts from.
  {S : _}
  (hS : S = ((kernelRun0_B.sl.r_3 c i _ harg2 _ harg3 _ harg4 _ harg5 _ harg6 _ harg7 _ harg8 _ harg9 _ harg10 _ harg11 _ harg12 _ harg13 _ harg14 _ harg15 _ harg16 x0 x3 x4 x6 xs0 xs1 xs2 xs3),
      (kernelRun0_B.sl.r_4 c i _ harg2 _ harg3 _ harg4 _ harg5 _ harg6 _ harg7 _ harg8 _ harg9 _ harg10 _ harg11 _ harg12 _ harg13 _ harg14 _ harg15 _ harg16 x0 x3 x4 x6 xs0 xs1 xs2 xs3),
      (kernelRun0_B.sl.r_5 c i _ harg2 _ harg3 _ harg4 _ harg5 _ harg6 _ harg7 _ harg8 _ harg9 _ harg10 _ harg11 _ harg12 _ harg13 _ harg14 _ harg15 _ harg16 x0 x3 x4 x6 xs0 xs1 xs2 xs3)))

include hL hS in
/-- What the diagonal starts from is what the loop hands on. -/
theorem startB : S = L.1 := by
  subst hL hS
  unfold kernelRun0_B.sl.r_3 kernelRun0_B.sl.r_4 kernelRun0_B.sl.r_5
  rw [trips2_eq]
  rfl

/-- The point's words, as the tile's arrays. -/
theorem loopOkB (T : RTile) (H : LoopOk i (k0_pay220 x3 x6) (k0_pay221 x0) (k0_pay222 x4) T xs0 xs1) :
    LoopOk i (kernelRun0_B.sl.r c _ harg5 _ harg8 x3 x6) (kernelRun0_B.sl.r_1 c _ harg2 x0) (kernelRun0_B.sl.r_2 c _ harg6 x4) T
      (arg13.view.read (Elt Ideal) (harg13.unread xs0)) (arg14.view.read (Elt Ideal) (harg14.unread xs1)) := by
  unfold kernelRun0_B.sl.r kernelRun0_B.sl.r_1 kernelRun0_B.sl.r_2
  rw [load_whole harg5 x3 off2 inb_S1024x128_S1024x128_0_0, load_whole harg8 x6 off2 inb_S1024x128_S1024x128_0_0,
    load_whole harg2 x0 off2 inb_S1024x128_S1024x128_0_0, load_whole harg6 x4 off3 inb_S1x1024x1_S1x1024x1_0_0_0,
    harg13.read_unread, harg14.read_unread]
  exact H

include hS in
/-- The last block's words. -/
theorem lastB : (kernelRun0_B.sl.r_84 c i _ harg2 _ harg3 _ harg4 _ harg5 _ harg6 _ harg7 _ harg8 _ harg9 _ harg10 _ harg11 _ harg12 _ harg13 _ harg14 _ harg15 _ harg16 x0 x3 x4 x6 xs0 xs1 xs2 xs3)
    = mulf (dgCarry i arg13 arg14 (kernelRun0_B.sl.r c _ harg5 _ harg8 x3 x6) (kernelRun0_B.sl.r_1 c _ harg2 x0) (kernelRun0_B.sl.r_2 c _ harg6 x4) (harg13.unread xs0) (harg14.unread xs1)
        S 8).2.2
        (broadcast S1024x128 (Scalar.ofBits .f32 0x3DB504F3#32)) := by
  subst hS
  rfl

include hL hS in
/-- The stores into the gradient of the keys on the diagonal, but the last block's. -/
theorem dkB_7 : kernelRun0_B.sl.HS2_7 c i _ harg2 _ harg3 _ harg4 _ harg5 _ harg6 _ harg7 _ harg8 _ harg9 _ harg10 _ harg11 _ harg12 _ harg13 _ harg14 _ harg15 _ harg16 x0 x3 x4 x6 xs0 xs1 xs2 xs3
    = dgK i arg13 arg14 arg15 (kernelRun0_B.sl.r c _ harg5 _ harg8 x3 x6) (kernelRun0_B.sl.r_1 c _ harg2 x0) (kernelRun0_B.sl.r_2 c _ harg6 x4) (harg13.unread xs0) (harg14.unread xs1) (harg15.unread xs2) S L.2.1 7 := by
  subst hL hS
  unfold kernelRun0_B.sl.HS2_7
  refine piecesN_step ?_ rfl
  unfold kernelRun0_B.sl.HS2_6
  refine piecesN_step ?_ rfl
  unfold kernelRun0_B.sl.HS2_5
  refine piecesN_step ?_ rfl
  unfold kernelRun0_B.sl.HS2_4
  refine piecesN_step ?_ rfl
  unfold kernelRun0_B.sl.HS2_3
  refine piecesN_step ?_ rfl
  unfold kernelRun0_B.sl.HS2_2
  refine piecesN_step ?_ rfl
  unfold kernelRun0_B.sl.HS2_1
  try unfold kernelRun0_B.sl.v137
  rw [trips2_eq]
  rfl

include hL hS in
/-- The stores into the gradient of the values on the diagonal, but the last block's. -/
theorem dvB_7 : kernelRun0_B.sl.HS3_7 c i _ harg2 _ harg3 _ harg4 _ harg5 _ harg6 _ harg7 _ harg8 _ harg9 _ harg10 _ harg11 _ harg12 _ harg13 _ harg14 _ harg15 _ harg16 x0 x3 x4 x6 xs0 xs1 xs2 xs3
    = dgV i arg13 arg14 arg16 (kernelRun0_B.sl.r c _ harg5 _ harg8 x3 x6) (kernelRun0_B.sl.r_1 c _ harg2 x0) (kernelRun0_B.sl.r_2 c _ harg6 x4) (harg13.unread xs0) (harg14.unread xs1) (harg16.unread xs3) S L.2.2 7 := by
  subst hL hS
  unfold kernelRun0_B.sl.HS3_7
  refine piecesN_step ?_ rfl
  unfold kernelRun0_B.sl.HS3_6
  refine piecesN_step ?_ rfl
  unfold kernelRun0_B.sl.HS3_5
  refine piecesN_step ?_ rfl
  unfold kernelRun0_B.sl.HS3_4
  refine piecesN_step ?_ rfl
  unfold kernelRun0_B.sl.HS3_3
  refine piecesN_step ?_ rfl
  unfold kernelRun0_B.sl.HS3_2
  refine piecesN_step ?_ rfl
  unfold kernelRun0_B.sl.HS3_1
  try unfold kernelRun0_B.sl.v145
  rw [trips2_eq]
  rfl

/-- The gradient of the queries. -/
theorem outB_dq (T : RTile) (H : LoopOk i (k0_pay220 x3 x6) (k0_pay221 x0) (k0_pay222 x4) T xs0 xs1) (r : Fin 1024) (d : Fin 128) :
    out0_B_7 c i _ harg2 _ harg3 _ harg4 _ harg5 _ harg6 _ harg7 _ harg8 _ harg9 _ harg10 _ harg11 _ harg12 _ harg13 _ harg14 _ harg15 _ harg16
      hc0 hc1 x0 x1 x2 x3 x4 x5 x6 xs0 xs1 xs2 xs3 (ix2 r d)
      = ((∑ x ∈ Finset.range (1024 * (i 1).val + 1024), T.dz r x * T.K x d : ℝ) : EReal) * Ideal.ofBits .f32 0x3DB504F3#32 := by
  have h := dg_dq Variants.none c none i _ harg2 _ harg3 _ harg4 _ harg5 _ harg6 _ harg7 _ harg8 _ harg9 _ harg10 _ harg11 _ harg12 _ harg13 _ harg14 _ harg15 _ harg16
      (BitVec.ofNat 32 (i 1).val) (kernelRun0_B.sl.r c _ harg5 _ harg8 x3 x6) (kernelRun0_B.sl.r_1 c _ harg2 x0) (kernelRun0_B.sl.r_2 c _ harg6 x4) (harg13.unread xs0) (harg14.unread xs1) (harg15.unread xs2) (harg16.unread xs3) T
    (loopOkB c i _ harg2 _ harg5 _ harg6 _ harg8 _ harg13 _ harg14 x0 x3 x4 x6 xs0 xs1 T H) r d
  rw [← startB (hL := rfl) (hS := rfl)] at h
  refine Eq.trans ?_ (congrArg (· * Ideal.ofBits .f32 0x3DB504F3#32) h)
  unfold out0_B_7 kernelRun0_B
  dsimp only
  refine (congrFun (read_store_whole VO0_7 _ off2 inb_S1024x128_S1024x128_0_0 _) (ix2 r d)).trans ?_
  rw [lastB (hS := rfl)]
  rfl

/-- The gradient of the gate. -/
theorem outB_dgate :
    out0_B_10 c i _ harg2 _ harg3 _ harg4 _ harg5 _ harg6 _ harg7 _ harg8 _ harg9 _ harg10 _ harg11 _ harg12 _ harg13 _ harg14 _ harg15 _ harg16
      hc0 hc1 x0 x1 x2 x3 x4 x5 x6 xs0 xs1 xs2 xs3 = k0_pay219 x3 x6 x5 := by
  unfold out0_B_10 kernelRun0_B
  dsimp only
  refine (read_store_whole VO0_10 _ off2 inb_S1024x128_S1024x128_0_0 _).trans ?_
  rw [load_whole harg5 x3 off2 inb_S1024x128_S1024x128_0_0,
    load_whole harg8 x6 off2 inb_S1024x128_S1024x128_0_0, load_whole harg7 x5 off2 inb_S1024x128_S1024x128_0_0]

/-- The gradient of the keys, so far. -/
theorem soutB_dk (T : RTile) (H : LoopOk i (k0_pay220 x3 x6) (k0_pay221 x0) (k0_pay222 x4) T xs0 xs1) (a : Fin 4096) (d : Fin 128) :
    sout0_B_2 c i _ harg2 _ harg3 _ harg4 _ harg5 _ harg6 _ harg7 _ harg8 _ harg9 _ harg10 _ harg11 _ harg12 _ harg13 _ harg14 _ harg15 _ harg16
      hc0 hc1 x0 x1 x2 x3 x4 x5 x6 xs0 xs1 xs2 xs3 (ix2 a d)
      = xs2 (ix2 a d) + ((∑ r, T.dz r a.val * T.qs r d : ℝ) : EReal) := by
  have h := dg_dk Variants.none c none i _ harg2 _ harg3 _ harg4 _ harg5 _ harg6 _ harg7 _ harg8 _ harg9 _ harg10 _ harg11 _ harg12 _ harg13 _ harg14 _ harg15 _ harg16
      (BitVec.ofNat 32 (i 1).val) (kernelRun0_B.sl.r c _ harg5 _ harg8 x3 x6) (kernelRun0_B.sl.r_1 c _ harg2 x0) (kernelRun0_B.sl.r_2 c _ harg6 x4) (harg13.unread xs0) (harg14.unread xs1) (harg15.unread xs2) (harg16.unread xs3) T
    (loopOkB c i _ harg2 _ harg5 _ harg6 _ harg8 _ harg13 _ harg14 x0 x3 x4 x6 xs0 xs1 T H) (harg15.unread xs2) _ rfl a d
  rw [← startB (hL := rfl) (hS := rfl), harg15.read_unread] at h
  refine Eq.trans ?_ h
  unfold sout0_B_2 kernelRun0_B
  dsimp only
  rw [dgK, piecesN, ← dgK, ← dkB_7 c i _ harg2 _ harg3 _ harg4 _ harg5 _ harg6 _ harg7 _ harg8 _ harg9 _ harg10 _ harg11 _ harg12 _ harg13 _ harg14 _ harg15 _ harg16 x0 x3 x4 x6 xs0 xs1 xs2 xs3 rfl rfl]
  rfl

/-- The gradient of the values, so far. -/
theorem soutB_dv (T : RTile) (H : LoopOk i (k0_pay220 x3 x6) (k0_pay221 x0) (k0_pay222 x4) T xs0 xs1) (a : Fin 4096) (d : Fin 128) :
    sout0_B_3 c i _ harg2 _ harg3 _ harg4 _ harg5 _ harg6 _ harg7 _ harg8 _ harg9 _ harg10 _ harg11 _ harg12 _ harg13 _ harg14 _ harg15 _ harg16
      hc0 hc1 x0 x1 x2 x3 x4 x5 x6 xs0 xs1 xs2 xs3 (ix2 a d)
      = xs3 (ix2 a d) + ((∑ r, T.w r a.val * T.dob r d : ℝ) : EReal) := by
  have h := dg_dv Variants.none c none i _ harg2 _ harg3 _ harg4 _ harg5 _ harg6 _ harg7 _ harg8 _ harg9 _ harg10 _ harg11 _ harg12 _ harg13 _ harg14 _ harg15 _ harg16
      (BitVec.ofNat 32 (i 1).val) (kernelRun0_B.sl.r c _ harg5 _ harg8 x3 x6) (kernelRun0_B.sl.r_1 c _ harg2 x0) (kernelRun0_B.sl.r_2 c _ harg6 x4) (harg13.unread xs0) (harg14.unread xs1) (harg15.unread xs2) (harg16.unread xs3) T
    (loopOkB c i _ harg2 _ harg5 _ harg6 _ harg8 _ harg13 _ harg14 x0 x3 x4 x6 xs0 xs1 T H) (harg16.unread xs3) _ rfl a d
  rw [← startB (hL := rfl) (hS := rfl), harg16.read_unread] at h
  refine Eq.trans ?_ h
  unfold sout0_B_3 kernelRun0_B
  dsimp only
  rw [dgV, piecesN, ← dgV, ← dvB_7 c i _ harg2 _ harg3 _ harg4 _ harg5 _ harg6 _ harg7 _ harg8 _ harg9 _ harg10 _ harg11 _ harg12 _ harg13 _ harg14 _ harg15 _ harg16 x0 x3 x4 x6 xs0 xs1 xs2 xs3 rfl rfl]
  rfl

end CaseB

end Cert.Kernel2Ideal.Sb
-- ==== Proof.SbPointA.lean ====
module

public import proofs.«01_k».proof.Proof.SbPoint

/-!
# What the first grid point of a head leaves

It keeps the head's keys and values, sets the accumulators to zero and adds its tile's part.
-/

@[expose] public section

set_option maxRecDepth 16384

noncomputable section

namespace Cert.Kernel2Ideal.Sb

open Idealize.ShloMosaic Idealize.ShloMosaic.TcCoe Idealize.ShloMosaic.Tactic Cert.Kernel2Ideal Cert.Kernel2Ideal.Gen
open Cert.KernelIdeal.Block (coe_sum div_real)

section CaseA

variable (c : Dev nD) (i : grid0.Coords)
  (arg2 : Memref sig .tc .vmem S1024x128 .f32) (harg2 : arg2.IsWhole)
  (arg3 : Memref sig .tc .vmem S4096x128 .f32) (harg3 : arg3.IsWhole)
  (arg4 : Memref sig .tc .vmem S4096x128 .f32) (harg4 : arg4.IsWhole)
  (arg5 : Memref sig .tc .vmem S1024x128 .f32) (harg5 : arg5.IsWhole)
  (arg6 : Memref sig .tc .vmem S1x1024x1 .f32) (harg6 : arg6.IsWhole)
  (arg7 : Memref sig .tc .vmem S1024x128 .f32) (harg7 : arg7.IsWhole)
  (arg8 : Memref sig .tc .vmem S1024x128 .f32) (harg8 : arg8.IsWhole)
  (arg9 : Memref sig .tc .vmem S1024x128 .bf16) (harg9 : arg9.IsWhole)
  (arg10 : Memref sig .tc .vmem S4096x128 .bf16) (harg10 : arg10.IsWhole)
  (arg11 : Memref sig .tc .vmem S4096x128 .bf16) (harg11 : arg11.IsWhole)
  (arg12 : Memref sig .tc .vmem S1024x128 .bf16) (harg12 : arg12.IsWhole)
  (arg13 : Memref sig .tc .vmem S4096x128 .bf16) (harg13 : arg13.IsWhole)
  (arg14 : Memref sig .tc .vmem S4096x128 .bf16) (harg14 : arg14.IsWhole)
  (arg15 : Memref sig .tc .vmem S4096x128 .f32) (harg15 : arg15.IsWhole)
  (arg16 : Memref sig .tc .vmem S4096x128 .f32) (harg16 : arg16.IsWhole)
  (hc0 : cond0_0 i) (hc1 : ¬cond0_1 i)
  (x0 : Vec Ideal S1024x128 .f32) (x1 x2 : Vec Ideal S4096x128 .f32) (x3 : Vec Ideal S1024x128 .f32) (x4 : Vec Ideal S1x1024x1 .f32)
  (x5 x6 : Vec Ideal S1024x128 .f32) (xs0 xs1 : Vec Ideal S4096x128 .bf16) (xs2 xs3 : Vec Ideal S4096x128 .f32)

-- `L` is what the loop leaves.
variable {L : _}
  (hL : L = st_k0_t1 (F := Ideal) Variants.none c none i _ harg2 _ harg3 _ harg4 _ harg5 _ harg6 _ harg7 _ harg8 _ harg9 _ harg10 _ harg11 _ harg12 _ harg13 _ harg14 _ harg15 _ harg16
      (BitVec.ofNat 32 (i 1).val) (kernelRun0_A.sl.r c _ harg5 _ harg8 x3 x6) (kernelRun0_A.sl.r_1 c _ harg2 x0) (kernelRun0_A.sl.r_2 c _ harg6 x4) (arg13.view.writes (Elt Ideal) arg13.view.junk (kernelRun0_A.sl.HS0_1 c _ harg3 x1)) (arg14.view.writes (Elt Ideal) arg14.view.junk (kernelRun0_A.sl.HS1_1 c _ harg4 x2)) (arg15.view.writes (Elt Ideal) arg15.view.junk kernelRun0_A.sl.HS2_1) (arg16.view.writes (Elt Ideal) arg16.view.junk kernelRun0_A.sl.HS3_1) (k0_pay225, k0_pay225, k0_pay226) (k0_t1_loop i).trips)
  -- `S` is what the diagonal starts from.
  {S : _}
  (hS : S = ((kernelRun0_A.sl.r_3 c i _ harg2 _ harg3 _ harg4 _ harg5 _ harg6 _ harg7 _ harg8 _ harg9 _ harg10 _ harg11 _ harg12 _ harg13 _ harg14 _ harg15 _ harg16 x0 x1 x2 x3 x4 x6),
      (kernelRun0_A.sl.r_4 c i _ harg2 _ harg3 _ harg4 _ harg5 _ harg6 _ harg7 _ harg8 _ harg9 _ harg10 _ harg11 _ harg12 _ harg13 _ harg14 _ harg15 _ harg16 x0 x1 x2 x3 x4 x6),
      (kernelRun0_A.sl.r_5 c i _ harg2 _ harg3 _ harg4 _ harg5 _ harg6 _ harg7 _ harg8 _ harg9 _ harg10 _ harg11 _ harg12 _ harg13 _ harg14 _ harg15 _ harg16 x0 x1 x2 x3 x4 x6)))

include hL hS in
/-- What the diagonal starts from is what the loop hands on. -/
theorem startA : S = L.1 := by
  subst hL hS
  unfold kernelRun0_A.sl.r_3 kernelRun0_A.sl.r_4 kernelRun0_A.sl.r_5
  rw [trips2_eq]
  rfl

/-- The point's words, as the tile's arrays. -/
theorem loopOkA (T : RTile) (H : LoopOk i (k0_pay220 x3 x6) (k0_pay221 x0) (k0_pay222 x4) T (k0_pay214 x1) (k0_pay215 x2)) :
    LoopOk i (kernelRun0_A.sl.r c _ harg5 _ harg8 x3 x6) (kernelRun0_A.sl.r_1 c _ harg2 x0) (kernelRun0_A.sl.r_2 c _ harg6 x4) T
      (arg13.view.read (Elt Ideal) (arg13.view.writes (Elt Ideal) arg13.view.junk (kernelRun0_A.sl.HS0_1 c _ harg3 x1))) (arg14.view.read (Elt Ideal) (arg14.view.writes (Elt Ideal) arg14.view.junk (kernelRun0_A.sl.HS1_1 c _ harg4 x2))) := by
  unfold kernelRun0_A.sl.r kernelRun0_A.sl.r_1 kernelRun0_A.sl.r_2 kernelRun0_A.sl.HS0_1 kernelRun0_A.sl.HS1_1
  rw [load_whole harg5 x3 off2 inb_S1024x128_S1024x128_0_0, load_whole harg8 x6 off2 inb_S1024x128_S1024x128_0_0,
    load_whole harg2 x0 off2 inb_S1024x128_S1024x128_0_0, load_whole harg6 x4 off3 inb_S1x1024x1_S1x1024x1_0_0_0,
    read_store_whole arg13.view _ off2 inb_S4096x128_S4096x128_0_0,
    read_store_whole arg14.view _ off2 inb_S4096x128_S4096x128_0_0, load_whole harg3 x1 off2 inb_S4096x128_S4096x128_0_0,
    load_whole harg4 x2 off2 inb_S4096x128_S4096x128_0_0]
  exact H

include hS in
/-- The last block's words. -/
theorem lastA : (kernelRun0_A.sl.r_81 c i _ harg2 _ harg3 _ harg4 _ harg5 _ harg6 _ harg7 _ harg8 _ harg9 _ harg10 _ harg11 _ harg12 _ harg13 _ harg14 _ harg15 _ harg16 x0 x1 x2 x3 x4 x6)
    = mulf (dgCarry i arg13 arg14 (kernelRun0_A.sl.r c _ harg5 _ harg8 x3 x6) (kernelRun0_A.sl.r_1 c _ harg2 x0) (kernelRun0_A.sl.r_2 c _ harg6 x4) (arg13.view.writes (Elt Ideal) arg13.view.junk (kernelRun0_A.sl.HS0_1 c _ harg3 x1)) (arg14.view.writes (Elt Ideal) arg14.view.junk (kernelRun0_A.sl.HS1_1 c _ harg4 x2))
        S 8).2.2
        (broadcast S1024x128 (Scalar.ofBits .f32 0x3DB504F3#32)) := by
  subst hS
  rfl

/-- The gradient of the keys is first set to zero. -/
theorem zeroA_2 (a : Fin 4096) (d : Fin 128) :
    arg15.view.read (Elt Ideal) (arg15.view.writes (Elt Ideal) arg15.view.junk kernelRun0_A.sl.HS2_1) (ix2 a d) = 0 := by
  unfold kernelRun0_A.sl.HS2_1
  rw [read_store_whole arg15.view _ off2]
  exact zero216_apply _ _

/-- The gradient of the values is first set to zero. -/
theorem zeroA_3 (a : Fin 4096) (d : Fin 128) :
    arg16.view.read (Elt Ideal) (arg16.view.writes (Elt Ideal) arg16.view.junk kernelRun0_A.sl.HS3_1) (ix2 a d) = 0 := by
  unfold kernelRun0_A.sl.HS3_1
  rw [read_store_whole arg16.view _ off2]
  exact zero217_apply _ _

include hL hS in
/-- The stores into the gradient of the keys on the diagonal, but the last block's. -/
theorem dkA_7 : kernelRun0_A.sl.HS2_7 c i _ harg2 _ harg3 _ harg4 _ harg5 _ harg6 _ harg7 _ harg8 _ harg9 _ harg10 _ harg11 _ harg12 _ harg13 _ harg14 _ harg15 _ harg16 x0 x1 x2 x3 x4 x6
    = dgK i arg13 arg14 arg15 (kernelRun0_A.sl.r c _ harg5 _ harg8 x3 x6) (kernelRun0_A.sl.r_1 c _ harg2 x0) (kernelRun0_A.sl.r_2 c _ harg6 x4) (arg13.view.writes (Elt Ideal) arg13.view.junk (kernelRun0_A.sl.HS0_1 c _ harg3 x1)) (arg14.view.writes (Elt Ideal) arg14.view.junk (kernelRun0_A.sl.HS1_1 c _ harg4 x2)) arg15.view.junk S (L.2.1 ++ kernelRun0_A.sl.HS2_1) 7 := by
  subst hL hS
  unfold kernelRun0_A.sl.HS2_7
  refine piecesN_step ?_ rfl
  unfold kernelRun0_A.sl.HS2_6
  refine piecesN_step ?_ rfl
  unfold kernelRun0_A.sl.HS2_5
  refine piecesN_step ?_ rfl
  unfold kernelRun0_A.sl.HS2_4
  refine piecesN_step ?_ rfl
  unfold kernelRun0_A.sl.HS2_3
  refine piecesN_step ?_ rfl
  unfold kernelRun0_A.sl.HS2_2
  refine piecesN_step ?_ rfl
  unfold kernelRun0_A.sl.HS2_1_1
  try unfold kernelRun0_A.sl.v137
  rw [trips2_eq]
  rfl

include hL hS in
/-- The stores into the gradient of the values on the diagonal, but the last block's. -/
theorem dvA_7 : kernelRun0_A.sl.HS3_7 c i _ harg2 _ harg3 _ harg4 _ harg5 _ harg6 _ harg7 _ harg8 _ harg9 _ harg10 _ harg11 _ harg12 _ harg13 _ harg14 _ harg15 _ harg16 x0 x1 x2 x3 x4 x6
    = dgV i arg13 arg14 arg16 (kernelRun0_A.sl.r c _ harg5 _ harg8 x3 x6) (kernelRun0_A.sl.r_1 c _ harg2 x0) (kernelRun0_A.sl.r_2 c _ harg6 x4) (arg13.view.writes (Elt Ideal) arg13.view.junk (kernelRun0_A.sl.HS0_1 c _ harg3 x1)) (arg14.view.writes (Elt Ideal) arg14.view.junk (kernelRun0_A.sl.HS1_1 c _ harg4 x2)) arg16.view.junk S (L.2.2 ++ kernelRun0_A.sl.HS3_1) 7 := by
  subst hL hS
  unfold kernelRun0_A.sl.HS3_7
  refine piecesN_step ?_ rfl
  unfold kernelRun0_A.sl.HS3_6
  refine piecesN_step ?_ rfl
  unfold kernelRun0_A.sl.HS3_5
  refine piecesN_step ?_ rfl
  unfold kernelRun0_A.sl.HS3_4
  refine piecesN_step ?_ rfl
  unfold kernelRun0_A.sl.HS3_3
  refine piecesN_step ?_ rfl
  unfold kernelRun0_A.sl.HS3_2
  refine piecesN_step ?_ rfl
  unfold kernelRun0_A.sl.HS3_1_1
  try unfold kernelRun0_A.sl.v145
  rw [trips2_eq]
  rfl

/-- The gradient of the queries. -/
theorem outA_dq (T : RTile) (H : LoopOk i (k0_pay220 x3 x6) (k0_pay221 x0) (k0_pay222 x4) T (k0_pay214 x1) (k0_pay215 x2)) (r : Fin 1024) (d : Fin 128) :
    out0_A_7 c i _ harg2 _ harg3 _ harg4 _ harg5 _ harg6 _ harg7 _ harg8 _ harg9 _ harg10 _ harg11 _ harg12 _ harg13 _ harg14 _ harg15 _ harg16
      hc0 hc1 x0 x1 x2 x3 x4 x5 x6 (ix2 r d)
      = ((∑ x ∈ Finset.range (1024 * (i 1).val + 1024), T.dz r x * T.K x d : ℝ) : EReal) * Ideal.ofBits .f32 0x3DB504F3#32 := by
  have h := dg_dq Variants.none c none i _ harg2 _ harg3 _ harg4 _ harg5 _ harg6 _ harg7 _ harg8 _ harg9 _ harg10 _ harg11 _ harg12 _ harg13 _ harg14 _ harg15 _ harg16
      (BitVec.ofNat 32 (i 1).val) (kernelRun0_A.sl.r c _ harg5 _ harg8 x3 x6) (kernelRun0_A.sl.r_1 c _ harg2 x0) (kernelRun0_A.sl.r_2 c _ harg6 x4) (arg13.view.writes (Elt Ideal) arg13.view.junk (kernelRun0_A.sl.HS0_1 c _ harg3 x1)) (arg14.view.writes (Elt Ideal) arg14.view.junk (kernelRun0_A.sl.HS1_1 c _ harg4 x2)) (arg15.view.writes (Elt Ideal) arg15.view.junk kernelRun0_A.sl.HS2_1) (arg16.view.writes (Elt Ideal) arg16.view.junk kernelRun0_A.sl.HS3_1) T
    (loopOkA c i _ harg2 _ harg3 _ harg4 _ harg5 _ harg6 _ harg8 arg13 arg14 x0 x1 x2 x3 x4 x6 T H) r d
  rw [← startA (hL := rfl) (hS := rfl)] at h
  refine Eq.trans ?_ (congrArg (· * Ideal.ofBits .f32 0x3DB504F3#32) h)
  unfold out0_A_7 kernelRun0_A
  dsimp only
  refine (congrFun (read_store_whole VO0_7 _ off2 inb_S1024x128_S1024x128_0_0 _) (ix2 r d)).trans ?_
  rw [lastA (hS := rfl)]
  rfl

/-- The gradient of the gate. -/
theorem outA_dgate :
    out0_A_10 c i _ harg2 _ harg3 _ harg4 _ harg5 _ harg6 _ harg7 _ harg8 _ harg9 _ harg10 _ harg11 _ harg12 _ harg13 _ harg14 _ harg15 _ harg16
      hc0 hc1 x0 x1 x2 x3 x4 x5 x6 = k0_pay219 x3 x6 x5 := by
  unfold out0_A_10 kernelRun0_A
  dsimp only
  refine (read_store_whole VO0_10 _ off2 inb_S1024x128_S1024x128_0_0 _).trans ?_
  rw [load_whole harg5 x3 off2 inb_S1024x128_S1024x128_0_0,
    load_whole harg8 x6 off2 inb_S1024x128_S1024x128_0_0, load_whole harg7 x5 off2 inb_S1024x128_S1024x128_0_0]

/-- The gradient of the keys, so far. -/
theorem soutA_dk (T : RTile) (H : LoopOk i (k0_pay220 x3 x6) (k0_pay221 x0) (k0_pay222 x4) T (k0_pay214 x1) (k0_pay215 x2)) (a : Fin 4096) (d : Fin 128) :
    sout0_A_2 c i _ harg2 _ harg3 _ harg4 _ harg5 _ harg6 _ harg7 _ harg8 _ harg9 _ harg10 _ harg11 _ harg12 _ harg13 _ harg14 _ harg15 _ harg16
      hc0 hc1 x0 x1 x2 x3 x4 x5 x6 (ix2 a d)
      = ((∑ r, T.dz r a.val * T.qs r d : ℝ) : EReal) := by
  have h := dg_dk Variants.none c none i _ harg2 _ harg3 _ harg4 _ harg5 _ harg6 _ harg7 _ harg8 _ harg9 _ harg10 _ harg11 _ harg12 _ harg13 _ harg14 _ harg15 _ harg16
      (BitVec.ofNat 32 (i 1).val) (kernelRun0_A.sl.r c _ harg5 _ harg8 x3 x6) (kernelRun0_A.sl.r_1 c _ harg2 x0) (kernelRun0_A.sl.r_2 c _ harg6 x4) (arg13.view.writes (Elt Ideal) arg13.view.junk (kernelRun0_A.sl.HS0_1 c _ harg3 x1)) (arg14.view.writes (Elt Ideal) arg14.view.junk (kernelRun0_A.sl.HS1_1 c _ harg4 x2)) (arg15.view.writes (Elt Ideal) arg15.view.junk kernelRun0_A.sl.HS2_1) (arg16.view.writes (Elt Ideal) arg16.view.junk kernelRun0_A.sl.HS3_1) T
    (loopOkA c i _ harg2 _ harg3 _ harg4 _ harg5 _ harg6 _ harg8 arg13 arg14 x0 x1 x2 x3 x4 x6 T H) arg15.view.junk (_ ++ kernelRun0_A.sl.HS2_1) (View.writes_append _ _ _ _) a d
  rw [← startA (hL := rfl) (hS := rfl), zeroA_2, zero_add] at h
  refine Eq.trans ?_ h
  have hcov := scover0_A_2 c i _ harg2 _ harg3 _ harg4 _ harg5 _ harg6 _ harg7 _ harg8 _ harg9 _ harg10 _ harg11 _ harg12 _ harg13 _ harg14 _ harg15 _ harg16
      hc0 hc1 x0 x1 x2 x3 x4 x5 x6
  unfold sout0_A_2
  rw [View.read_writes_eq_canon VS0_2 _ _ hcov, ← View.read_writes_eq_canon arg15.view arg15.view.junk _ hcov]
  unfold kernelRun0_A
  dsimp only
  rw [dgK, piecesN, ← dgK, ← dkA_7 c i _ harg2 _ harg3 _ harg4 _ harg5 _ harg6 _ harg7 _ harg8 _ harg9 _ harg10 _ harg11 _ harg12 _ harg13 _ harg14 _ harg15 _ harg16 x0 x1 x2 x3 x4 x6 rfl rfl]
  rfl

/-- The gradient of the values, so far. -/
theorem soutA_dv (T : RTile) (H : LoopOk i (k0_pay220 x3 x6) (k0_pay221 x0) (k0_pay222 x4) T (k0_pay214 x1) (k0_pay215 x2)) (a : Fin 4096) (d : Fin 128) :
    sout0_A_3 c i _ harg2 _ harg3 _ harg4 _ harg5 _ harg6 _ harg7 _ harg8 _ harg9 _ harg10 _ harg11 _ harg12 _ harg13 _ harg14 _ harg15 _ harg16
      hc0 hc1 x0 x1 x2 x3 x4 x5 x6 (ix2 a d)
      = ((∑ r, T.w r a.val * T.dob r d : ℝ) : EReal) := by
  have h := dg_dv Variants.none c none i _ harg2 _ harg3 _ harg4 _ harg5 _ harg6 _ harg7 _ harg8 _ harg9 _ harg10 _ harg11 _ harg12 _ harg13 _ harg14 _ harg15 _ harg16
      (BitVec.ofNat 32 (i 1).val) (kernelRun0_A.sl.r c _ harg5 _ harg8 x3 x6) (kernelRun0_A.sl.r_1 c _ harg2 x0) (kernelRun0_A.sl.r_2 c _ harg6 x4) (arg13.view.writes (Elt Ideal) arg13.view.junk (kernelRun0_A.sl.HS0_1 c _ harg3 x1)) (arg14.view.writes (Elt Ideal) arg14.view.junk (kernelRun0_A.sl.HS1_1 c _ harg4 x2)) (arg15.view.writes (Elt Ideal) arg15.view.junk kernelRun0_A.sl.HS2_1) (arg16.view.writes (Elt Ideal) arg16.view.junk kernelRun0_A.sl.HS3_1) T
    (loopOkA c i _ harg2 _ harg3 _ harg4 _ harg5 _ harg6 _ harg8 arg13 arg14 x0 x1 x2 x3 x4 x6 T H) arg16.view.junk (_ ++ kernelRun0_A.sl.HS3_1) (View.writes_append _ _ _ _) a d
  rw [← startA (hL := rfl) (hS := rfl), zeroA_3, zero_add] at h
  refine Eq.trans ?_ h
  have hcov := scover0_A_3 c i _ harg2 _ harg3 _ harg4 _ harg5 _ harg6 _ harg7 _ harg8 _ harg9 _ harg10 _ harg11 _ harg12 _ harg13 _ harg14 _ harg15 _ harg16
      hc0 hc1 x0 x1 x2 x3 x4 x5 x6
  unfold sout0_A_3
  rw [View.read_writes_eq_canon VS0_3 _ _ hcov, ← View.read_writes_eq_canon arg16.view arg16.view.junk _ hcov]
  unfold kernelRun0_A
  dsimp only
  rw [dgV, piecesN, ← dgV, ← dvA_7 c i _ harg2 _ harg3 _ harg4 _ harg5 _ harg6 _ harg7 _ harg8 _ harg9 _ harg10 _ harg11 _ harg12 _ harg13 _ harg14 _ harg15 _ harg16 x0 x1 x2 x3 x4 x6 rfl rfl]
  rfl

/-- The keys are kept. -/
theorem soutA_0 : sout0_A_0 c i _ harg2 _ harg3 _ harg4 _ harg5 _ harg6 _ harg7 _ harg8 _ harg9 _ harg10 _ harg11 _ harg12 _ harg13 _ harg14 _ harg15 _ harg16
      hc0 hc1 x0 x1 x2 x3 x4 x5 x6 = k0_pay214 x1 := by
  unfold sout0_A_0 kernelRun0_A
  dsimp only
  unfold kernelRun0_A.sl.HS0_1
  refine (read_store_whole VS0_0 _ off2 inb_S4096x128_S4096x128_0_0 _).trans ?_
  rw [load_whole harg3 x1 off2 inb_S4096x128_S4096x128_0_0]

/-- The values are kept. -/
theorem soutA_1 : sout0_A_1 c i _ harg2 _ harg3 _ harg4 _ harg5 _ harg6 _ harg7 _ harg8 _ harg9 _ harg10 _ harg11 _ harg12 _ harg13 _ harg14 _ harg15 _ harg16
      hc0 hc1 x0 x1 x2 x3 x4 x5 x6 = k0_pay215 x2 := by
  unfold sout0_A_1 kernelRun0_A
  dsimp only
  unfold kernelRun0_A.sl.HS1_1
  refine (read_store_whole VS0_1 _ off2 inb_S4096x128_S4096x128_0_0 _).trans ?_
  rw [load_whole harg4 x2 off2 inb_S4096x128_S4096x128_0_0]

end CaseA

end Cert.Kernel2Ideal.Sb
-- ==== Proof.SbPointC.lean ====
module

public import proofs.«01_k».proof.Proof.SbPoint

/-!
# What the last grid point of a head leaves

It adds its tile's part to the accumulators and writes them out.
-/

@[expose] public section

set_option maxRecDepth 16384

noncomputable section

namespace Cert.Kernel2Ideal.Sb

open Idealize.ShloMosaic Idealize.ShloMosaic.TcCoe Idealize.ShloMosaic.Tactic Cert.Kernel2Ideal Cert.Kernel2Ideal.Gen
open Cert.KernelIdeal.Block (coe_sum div_real)

section CaseC

variable (c : Dev nD) (i : grid0.Coords)
  (arg2 : Memref sig .tc .vmem S1024x128 .f32) (harg2 : arg2.IsWhole)
  (arg3 : Memref sig .tc .vmem S4096x128 .f32) (harg3 : arg3.IsWhole)
  (arg4 : Memref sig .tc .vmem S4096x128 .f32) (harg4 : arg4.IsWhole)
  (arg5 : Memref sig .tc .vmem S1024x128 .f32) (harg5 : arg5.IsWhole)
  (arg6 : Memref sig .tc .vmem S1x1024x1 .f32) (harg6 : arg6.IsWhole)
  (arg7 : Memref sig .tc .vmem S1024x128 .f32) (harg7 : arg7.IsWhole)
  (arg8 : Memref sig .tc .vmem S1024x128 .f32) (harg8 : arg8.IsWhole)
  (arg9 : Memref sig .tc .vmem S1024x128 .bf16) (harg9 : arg9.IsWhole)
  (arg10 : Memref sig .tc .vmem S4096x128 .bf16) (harg10 : arg10.IsWhole)
  (arg11 : Memref sig .tc .vmem S4096x128 .bf16) (harg11 : arg11.IsWhole)
  (arg12 : Memref sig .tc .vmem S1024x128 .bf16) (harg12 : arg12.IsWhole)
  (arg13 : Memref sig .tc .vmem S4096x128 .bf16) (harg13 : arg13.IsWhole)
  (arg14 : Memref sig .tc .vmem S4096x128 .bf16) (harg14 : arg14.IsWhole)
  (arg15 : Memref sig .tc .vmem S4096x128 .f32) (harg15 : arg15.IsWhole)
  (arg16 : Memref sig .tc .vmem S4096x128 .f32) (harg16 : arg16.IsWhole)
  (hc0 : ¬cond0_0 i) (hc1 : cond0_1 i)
  (x0 : Vec Ideal S1024x128 .f32) (x1 x2 : Vec Ideal S4096x128 .f32) (x3 : Vec Ideal S1024x128 .f32) (x4 : Vec Ideal S1x1024x1 .f32)
  (x5 x6 : Vec Ideal S1024x128 .f32) (xs0 xs1 : Vec Ideal S4096x128 .bf16) (xs2 xs3 : Vec Ideal S4096x128 .f32)

-- `L` is what the loop leaves.
variable {L : _}
  (hL : L = st_k0_t1 (F := Ideal) Variants.none c none i _ harg2 _ harg3 _ harg4 _ harg5 _ harg6 _ harg7 _ harg8 _ harg9 _ harg10 _ harg11 _ harg12 _ harg13 _ harg14 _ harg15 _ harg16
      (BitVec.ofNat 32 (i 1).val) (kernelRun0_C.sl.r c _ harg5 _ harg8 x3 x6) (kernelRun0_C.sl.r_1 c _ harg2 x0) (kernelRun0_C.sl.r_2 c _ harg6 x4) (harg13.unread xs0) (harg14.unread xs1) (harg15.unread xs2) (harg16.unread xs3) (k0_pay225, k0_pay225, k0_pay226) (k0_t1_loop i).trips)
  -- `S` is what the diagonal starts from.
  {S : _}
  (hS : S = ((kernelRun0_C.sl.r_3 c i _ harg2 _ harg3 _ harg4 _ harg5 _ harg6 _ harg7 _ harg8 _ harg9 _ harg10 _ harg11 _ harg12 _ harg13 _ harg14 _ harg15 _ harg16 x0 x3 x4 x6 xs0 xs1 xs2 xs3),
      (kernelRun0_C.sl.r_4 c i _ harg2 _ harg3 _ harg4 _ harg5 _ harg6 _ harg7 _ harg8 _ harg9 _ harg10 _ harg11 _ harg12 _ harg13 _ harg14 _ harg15 _ harg16 x0 x3 x4 x6 xs0 xs1 xs2 xs3),
      (kernelRun0_C.sl.r_5 c i _ harg2 _ harg3 _ harg4 _ harg5 _ harg6 _ harg7 _ harg8 _ harg9 _ harg10 _ harg11 _ harg12 _ harg13 _ harg14 _ harg15 _ harg16 x0 x3 x4 x6 xs0 xs1 xs2 xs3)))

include hL hS in
/-- What the diagonal starts from is what the loop hands on. -/
theorem startC : S = L.1 := by
  subst hL hS
  unfold kernelRun0_C.sl.r_3 kernelRun0_C.sl.r_4 kernelRun0_C.sl.r_5
  rw [trips2_eq]
  rfl

/-- The point's words, as the tile's arrays. -/
theorem loopOkC (T : RTile) (H : LoopOk i (k0_pay220 x3 x6) (k0_pay221 x0) (k0_pay222 x4) T xs0 xs1) :
    LoopOk i (kernelRun0_C.sl.r c _ harg5 _ harg8 x3 x6) (kernelRun0_C.sl.r_1 c _ harg2 x0) (kernelRun0_C.sl.r_2 c _ harg6 x4) T
      (arg13.view.read (Elt Ideal) (harg13.unread xs0)) (arg14.view.read (Elt Ideal) (harg14.unread xs1)) := by
  unfold kernelRun0_C.sl.r kernelRun0_C.sl.r_1 kernelRun0_C.sl.r_2
  rw [load_whole harg5 x3 off2 inb_S1024x128_S1024x128_0_0, load_whole harg8 x6 off2 inb_S1024x128_S1024x128_0_0,
    load_whole harg2 x0 off2 inb_S1024x128_S1024x128_0_0, load_whole harg6 x4 off3 inb_S1x1024x1_S1x1024x1_0_0_0,
    harg13.read_unread, harg14.read_unread]
  exact H

include hS in
/-- The last block's words. -/
theorem lastC : (kernelRun0_C.sl.r_84 c i _ harg2 _ harg3 _ harg4 _ harg5 _ harg6 _ harg7 _ harg8 _ harg9 _ harg10 _ harg11 _ harg12 _ harg13 _ harg14 _ harg15 _ harg16 x0 x3 x4 x6 xs0 xs1 xs2 xs3)
    = mulf (dgCarry i arg13 arg14 (kernelRun0_C.sl.r c _ harg5 _ harg8 x3 x6) (kernelRun0_C.sl.r_1 c _ harg2 x0) (kernelRun0_C.sl.r_2 c _ harg6 x4) (harg13.unread xs0) (harg14.unread xs1)
        S 8).2.2
        (broadcast S1024x128 (Scalar.ofBits .f32 0x3DB504F3#32)) := by
  subst hS
  rfl

include hL hS in
/-- The stores into the gradient of the keys on the diagonal, but the last block's. -/
theorem dkC_7 : kernelRun0_C.sl.HS2_7 c i _ harg2 _ harg3 _ harg4 _ harg5 _ harg6 _ harg7 _ harg8 _ harg9 _ harg10 _ harg11 _ harg12 _ harg13 _ harg14 _ harg15 _ harg16 x0 x3 x4 x6 xs0 xs1 xs2 xs3
    = dgK i arg13 arg14 arg15 (kernelRun0_C.sl.r c _ harg5 _ harg8 x3 x6) (kernelRun0_C.sl.r_1 c _ harg2 x0) (kernelRun0_C.sl.r_2 c _ harg6 x4) (harg13.unread xs0) (harg14.unread xs1) (harg15.unread xs2) S L.2.1 7 := by
  subst hL hS
  unfold kernelRun0_C.sl.HS2_7
  refine piecesN_step ?_ rfl
  unfold kernelRun0_C.sl.HS2_6
  refine piecesN_step ?_ rfl
  unfold kernelRun0_C.sl.HS2_5
  refine piecesN_step ?_ rfl
  unfold kernelRun0_C.sl.HS2_4
  refine piecesN_step ?_ rfl
  unfold kernelRun0_C.sl.HS2_3
  refine piecesN_step ?_ rfl
  unfold kernelRun0_C.sl.HS2_2
  refine piecesN_step ?_ rfl
  unfold kernelRun0_C.sl.HS2_1
  try unfold kernelRun0_C.sl.v137
  rw [trips2_eq]
  rfl

include hL hS in
/-- The stores into the gradient of the values on the diagonal, but the last block's. -/
theorem dvC_7 : kernelRun0_C.sl.HS3_7 c i _ harg2 _ harg3 _ harg4 _ harg5 _ harg6 _ harg7 _ harg8 _ harg9 _ harg10 _ harg11 _ harg12 _ harg13 _ harg14 _ harg15 _ harg16 x0 x3 x4 x6 xs0 xs1 xs2 xs3
    = dgV i arg13 arg14 arg16 (kernelRun0_C.sl.r c _ harg5 _ harg8 x3 x6) (kernelRun0_C.sl.r_1 c _ harg2 x0) (kernelRun0_C.sl.r_2 c _ harg6 x4) (harg13.unread xs0) (harg14.unread xs1) (harg16.unread xs3) S L.2.2 7 := by
  subst hL hS
  unfold kernelRun0_C.sl.HS3_7
  refine piecesN_step ?_ rfl
  unfold kernelRun0_C.sl.HS3_6
  refine piecesN_step ?_ rfl
  unfold kernelRun0_C.sl.HS3_5
  refine piecesN_step ?_ rfl
  unfold kernelRun0_C.sl.HS3_4
  refine piecesN_step ?_ rfl
  unfold kernelRun0_C.sl.HS3_3
  refine piecesN_step ?_ rfl
  unfold kernelRun0_C.sl.HS3_2
  refine piecesN_step ?_ rfl
  unfold kernelRun0_C.sl.HS3_1
  try unfold kernelRun0_C.sl.v145
  rw [trips2_eq]
  rfl

/-- The gradient of the queries. -/
theorem outC_dq (T : RTile) (H : LoopOk i (k0_pay220 x3 x6) (k0_pay221 x0) (k0_pay222 x4) T xs0 xs1) (r : Fin 1024) (d : Fin 128) :
    out0_C_7 c i _ harg2 _ harg3 _ harg4 _ harg5 _ harg6 _ harg7 _ harg8 _ harg9 _ harg10 _ harg11 _ harg12 _ harg13 _ harg14 _ harg15 _ harg16
      hc0 hc1 x0 x1 x2 x3 x4 x5 x6 xs0 xs1 xs2 xs3 (ix2 r d)
      = ((∑ x ∈ Finset.range (1024 * (i 1).val + 1024), T.dz r x * T.K x d : ℝ) : EReal) * Ideal.ofBits .f32 0x3DB504F3#32 := by
  have h := dg_dq Variants.none c none i _ harg2 _ harg3 _ harg4 _ harg5 _ harg6 _ harg7 _ harg8 _ harg9 _ harg10 _ harg11 _ harg12 _ harg13 _ harg14 _ harg15 _ harg16
      (BitVec.ofNat 32 (i 1).val) (kernelRun0_C.sl.r c _ harg5 _ harg8 x3 x6) (kernelRun0_C.sl.r_1 c _ harg2 x0) (kernelRun0_C.sl.r_2 c _ harg6 x4) (harg13.unread xs0) (harg14.unread xs1) (harg15.unread xs2) (harg16.unread xs3) T
    (loopOkC c i _ harg2 _ harg5 _ harg6 _ harg8 _ harg13 _ harg14 x0 x3 x4 x6 xs0 xs1 T H) r d
  rw [← startC (hL := rfl) (hS := rfl)] at h
  refine Eq.trans ?_ (congrArg (· * Ideal.ofBits .f32 0x3DB504F3#32) h)
  unfold out0_C_7 kernelRun0_C
  dsimp only
  refine (congrFun (read_store_whole VO0_7 _ off2 inb_S1024x128_S1024x128_0_0 _) (ix2 r d)).trans ?_
  rw [lastC (hS := rfl)]
  rfl

/-- The gradient of the gate. -/
theorem outC_dgate :
    out0_C_10 c i _ harg2 _ harg3 _ harg4 _ harg5 _ harg6 _ harg7 _ harg8 _ harg9 _ harg10 _ harg11 _ harg12 _ harg13 _ harg14 _ harg15 _ harg16
      hc0 hc1 x0 x1 x2 x3 x4 x5 x6 xs0 xs1 xs2 xs3 = k0_pay219 x3 x6 x5 := by
  unfold out0_C_10 kernelRun0_C
  dsimp only
  refine (read_store_whole VO0_10 _ off2 inb_S1024x128_S1024x128_0_0 _).trans ?_
  rw [load_whole harg5 x3 off2 inb_S1024x128_S1024x128_0_0,
    load_whole harg8 x6 off2 inb_S1024x128_S1024x128_0_0, load_whole harg7 x5 off2 inb_S1024x128_S1024x128_0_0]

/-- The gradient of the keys, so far. -/
theorem soutC_dk (T : RTile) (H : LoopOk i (k0_pay220 x3 x6) (k0_pay221 x0) (k0_pay222 x4) T xs0 xs1) (a : Fin 4096) (d : Fin 128) :
    sout0_C_2 c i _ harg2 _ harg3 _ harg4 _ harg5 _ harg6 _ harg7 _ harg8 _ harg9 _ harg10 _ harg11 _ harg12 _ harg13 _ harg14 _ harg15 _ harg16
      hc0 hc1 x0 x1 x2 x3 x4 x5 x6 xs0 xs1 xs2 xs3 (ix2 a d)
      = xs2 (ix2 a d) + ((∑ r, T.dz r a.val * T.qs r d : ℝ) : EReal) := by
  have h := dg_dk Variants.none c none i _ harg2 _ harg3 _ harg4 _ harg5 _ harg6 _ harg7 _ harg8 _ harg9 _ harg10 _ harg11 _ harg12 _ harg13 _ harg14 _ harg15 _ harg16
      (BitVec.ofNat 32 (i 1).val) (kernelRun0_C.sl.r c _ harg5 _ harg8 x3 x6) (kernelRun0_C.sl.r_1 c _ harg2 x0) (kernelRun0_C.sl.r_2 c _ harg6 x4) (harg13.unread xs0) (harg14.unread xs1) (harg15.unread xs2) (harg16.unread xs3) T
    (loopOkC c i _ harg2 _ harg5 _ harg6 _ harg8 _ harg13 _ harg14 x0 x3 x4 x6 xs0 xs1 T H) (harg15.unread xs2) _ rfl a d
  rw [← startC (hL := rfl) (hS := rfl), harg15.read_unread] at h
  refine Eq.trans ?_ h
  unfold sout0_C_2 kernelRun0_C
  dsimp only
  rw [dgK, piecesN, ← dgK, ← dkC_7 c i _ harg2 _ harg3 _ harg4 _ harg5 _ harg6 _ harg7 _ harg8 _ harg9 _ harg10 _ harg11 _ harg12 _ harg13 _ harg14 _ harg15 _ harg16 x0 x3 x4 x6 xs0 xs1 xs2 xs3 rfl rfl]
  rfl

/-- The gradient of the values, so far. -/
theorem soutC_dv (T : RTile) (H : LoopOk i (k0_pay220 x3 x6) (k0_pay221 x0) (k0_pay222 x4) T xs0 xs1) (a : Fin 4096) (d : Fin 128) :
    sout0_C_3 c i _ harg2 _ harg3 _ harg4 _ harg5 _ harg6 _ harg7 _ harg8 _ harg9 _ harg10 _ harg11 _ harg12 _ harg13 _ harg14 _ harg15 _ harg16
      hc0 hc1 x0 x1 x2 x3 x4 x5 x6 xs0 xs1 xs2 xs3 (ix2 a d)
      = xs3 (ix2 a d) + ((∑ r, T.w r a.val * T.dob r d : ℝ) : EReal) := by
  have h := dg_dv Variants.none c none i _ harg2 _ harg3 _ harg4 _ harg5 _ harg6 _ harg7 _ harg8 _ harg9 _ harg10 _ harg11 _ harg12 _ harg13 _ harg14 _ harg15 _ harg16
      (BitVec.ofNat 32 (i 1).val) (kernelRun0_C.sl.r c _ harg5 _ harg8 x3 x6) (kernelRun0_C.sl.r_1 c _ harg2 x0) (kernelRun0_C.sl.r_2 c _ harg6 x4) (harg13.unread xs0) (harg14.unread xs1) (harg15.unread xs2) (harg16.unread xs3) T
    (loopOkC c i _ harg2 _ harg5 _ harg6 _ harg8 _ harg13 _ harg14 x0 x3 x4 x6 xs0 xs1 T H) (harg16.unread xs3) _ rfl a d
  rw [← startC (hL := rfl) (hS := rfl), harg16.read_unread] at h
  refine Eq.trans ?_ h
  unfold sout0_C_3 kernelRun0_C
  dsimp only
  rw [dgV, piecesN, ← dgV, ← dvC_7 c i _ harg2 _ harg3 _ harg4 _ harg5 _ harg6 _ harg7 _ harg8 _ harg9 _ harg10 _ harg11 _ harg12 _ harg13 _ harg14 _ harg15 _ harg16 x0 x3 x4 x6 xs0 xs1 xs2 xs3 rfl rfl]
  rfl

/-- The gradient of the keys is written out as accumulated. -/
theorem outC_8 (a : Fin 4096) (d : Fin 128) :
    out0_C_8 c i _ harg2 _ harg3 _ harg4 _ harg5 _ harg6 _ harg7 _ harg8 _ harg9 _ harg10 _ harg11 _ harg12 _ harg13 _ harg14 _ harg15 _ harg16
      hc0 hc1 x0 x1 x2 x3 x4 x5 x6 xs0 xs1 xs2 xs3 (ix2 a d)
      = sout0_C_2 c i _ harg2 _ harg3 _ harg4 _ harg5 _ harg6 _ harg7 _ harg8 _ harg9 _ harg10 _ harg11 _ harg12 _ harg13 _ harg14 _ harg15 _ harg16
      hc0 hc1 x0 x1 x2 x3 x4 x5 x6 xs0 xs1 xs2 xs3 (ix2 a d) := by
  unfold out0_C_8 sout0_C_2 kernelRun0_C
  dsimp only
  refine (congrFun (read_store_whole VO0_8 _ off2 inb_S4096x128_S4096x128_0_0 _) (ix2 a d)).trans ?_
  rw [out2_apply, kernelRun0_C.sl.v755, View.readAt_eq_ld, View.ld_unit_zero (S := S4096x128) off2 inb_S4096x128_S4096x128_0_0]

/-- The gradient of the values is written out as accumulated. -/
theorem outC_9 (a : Fin 4096) (d : Fin 128) :
    out0_C_9 c i _ harg2 _ harg3 _ harg4 _ harg5 _ harg6 _ harg7 _ harg8 _ harg9 _ harg10 _ harg11 _ harg12 _ harg13 _ harg14 _ harg15 _ harg16
      hc0 hc1 x0 x1 x2 x3 x4 x5 x6 xs0 xs1 xs2 xs3 (ix2 a d)
      = sout0_C_3 c i _ harg2 _ harg3 _ harg4 _ harg5 _ harg6 _ harg7 _ harg8 _ harg9 _ harg10 _ harg11 _ harg12 _ harg13 _ harg14 _ harg15 _ harg16
      hc0 hc1 x0 x1 x2 x3 x4 x5 x6 xs0 xs1 xs2 xs3 (ix2 a d) := by
  unfold out0_C_9 sout0_C_3 kernelRun0_C
  dsimp only
  refine (congrFun (read_store_whole VO0_9 _ off2 inb_S4096x128_S4096x128_0_0 _) (ix2 a d)).trans ?_
  rw [out3_apply, kernelRun0_C.sl.v758, View.readAt_eq_ld, View.ld_unit_zero (S := S4096x128) off2 inb_S4096x128_S4096x128_0_0]

end CaseC

end Cert.Kernel2Ideal.Sb
-- ==== Proof.SbGrid.lean ====
module

public import proofs.«01_k».proof.Proof.SbHost
public import proofs.«01_k».proof.Proof.SbPoint
public import proofs.«01_k».proof.Proof.SbPointA
public import proofs.«01_k».proof.Proof.SbPointC

/-!
# What the second kernel's grid leaves

Point `t` works on head `t / 4` and on the tile of rows from `1024 * (t % 4)`. The keys and values kept at the first point of a head serve
its four points. After point `t` the two kept sums are the sums over the tiles of the head up to this one; the last point of a head writes
them out.
-/

@[expose] public section

set_option maxRecDepth 16384

noncomputable section

namespace Cert.Kernel2Ideal.Sb

open Idealize.ShloMosaic Idealize.ShloMosaic.TcCoe Idealize.ShloMosaic.Tactic Cert.Kernel2Ideal Cert.Kernel2Ideal.Gen
open Cert.KernelIdeal.Block (coe_sum div_real at2 at2_val at31 at31_val up)

variable (m : (ℓ : Loc nD τ sig) → Buf (Elt Ideal) ℓ) (c : Dev nD)

/-- Which blocks a point reads. -/
theorem idx : ∀ t : Fin cfg0.N, win0_0.index t = ![t.val % 4, t.val / 4] ∧ win0_1.index t = ![0, 16 + t.val / 4]
    ∧ win0_2.index t = ![0, 32 + t.val / 4] ∧ win0_3.index t = ![t.val % 4, 48 + t.val / 4] ∧ win0_4.index t = ![t.val / 4, t.val % 4, 0]
    ∧ win0_5.index t = ![t.val % 4, t.val / 4] ∧ win0_6.index t = ![t.val % 4, t.val / 4] := by
  decide +kernel

theorem coord1 : ∀ t : Fin cfg0.N, ((grid0.coords t) 1).val = t.val % 4 := by
  decide +kernel

theorem blk_q (t : Fin cfg0.N) (r : Fin 1024) (d : Fin 128) :
    iblk m c 0 t (ix2 r d) = at2 (m ((c : Thread nD τ).loc main_arg0)) (1024 * (t.val % 4) + r.val) (128 * (t.val / 4) + d.val) := by
  have ht : t.val < 64 := t.isLt
  rw [at2_val (a := 4096) (b := 8192) _ (by omega) (by omega)]
  blk_ext [iblk, V, idx t]

theorem blk_k (t : Fin cfg0.N) (r : Fin 4096) (d : Fin 128) :
    iblk m c 1 t (ix2 r d) = at2 (m ((c : Thread nD τ).loc main_arg0)) (r.val) (2048 + 128 * (t.val / 4) + d.val) := by
  have ht : t.val < 64 := t.isLt
  rw [at2_val (a := 4096) (b := 8192) _ (by omega) (by omega)]
  blk_ext [iblk, V, idx t]

theorem blk_v (t : Fin cfg0.N) (r : Fin 4096) (d : Fin 128) :
    iblk m c 2 t (ix2 r d) = at2 (m ((c : Thread nD τ).loc main_arg0)) (r.val) (4096 + 128 * (t.val / 4) + d.val) := by
  have ht : t.val < 64 := t.isLt
  rw [at2_val (a := 4096) (b := 8192) _ (by omega) (by omega)]
  blk_ext [iblk, V, idx t]

theorem blk_g (t : Fin cfg0.N) (r : Fin 1024) (d : Fin 128) :
    iblk m c 3 t (ix2 r d) = at2 (m ((c : Thread nD τ).loc main_arg0)) (1024 * (t.val % 4) + r.val) (6144 + 128 * (t.val / 4) + d.val) := by
  have ht : t.val < 64 := t.isLt
  rw [at2_val (a := 4096) (b := 8192) _ (by omega) (by omega)]
  blk_ext [iblk, V, idx t]

theorem blk_o (t : Fin cfg0.N) (r : Fin 1024) (d : Fin 128) :
    iblk m c 5 t (ix2 r d) = at2 (V m c main_v31) (1024 * (t.val % 4) + r.val) (128 * (t.val / 4) + d.val) := by
  have ht : t.val < 64 := t.isLt
  rw [at2_val (a := 4096) (b := 2048) _ (by omega) (by omega)]
  blk_ext [iblk, V, idx t]

theorem blk_dg (t : Fin cfg0.N) (r : Fin 1024) (d : Fin 128) :
    iblk m c 6 t (ix2 r d) = at2 (m ((c : Thread nD τ).loc main_arg1)) (1024 * (t.val % 4) + r.val) (128 * (t.val / 4) + d.val) := by
  have ht : t.val < 64 := t.isLt
  rw [at2_val (a := 4096) (b := 2048) _ (by omega) (by omega)]
  blk_ext [iblk, V, idx t]

theorem read_lt (t : Fin cfg0.N) (X : S16x4096x1.Idx → EReal) (r : Fin 1024) :
    (win0_4.blk t).view.read (Elt Ideal) X (ix3 0 r 0) = at31 X (t.val / 4) (1024 * (t.val % 4) + r.val) := by
  have ht : t.val < 64 := t.isLt
  rw [at31_val (a := 16) (b := 4096) _ (by omega) (by omega)]
  blk_ext [idx t]

theorem blk_lt (t : Fin cfg0.N) (r : Fin 1024) :
    iblk m c 4 t (ix3 0 r 0) = at31 (V m c main_v33) (t.val / 4) (1024 * (t.val % 4) + r.val) :=
  read_lt t _ r

section Real

variable (P : S4096x8192.Idx → ℝ) (D : S4096x2048.Idx → ℝ) (s : ℝ) (hs : Ideal.ofBits .f32 0x3DB504F3#32 = (s : EReal))
  (hP : m ((c : Thread nD τ).loc main_arg0) = up P) (hD : m ((c : Thread nD τ).loc main_arg1) = up D)

/-- The head of a point. -/
abbrev hd (t : ℕ) : SHead := headR P D s (t / 4)

include hs hP hD

/-- The keys that a point's block holds. -/
theorem keys_at (t : Fin cfg0.N) (a : Fin 4096) (d : Fin 128) : k0_pay214 (iblk m c 1 t) (ix2 a d) = ((hd P D s t.val).k a.val d : EReal) := by
  rw [kb_apply, blk_k m c t, hP, at2_up]
  rfl

/-- The values that a point's block holds. -/
theorem values_at (t : Fin cfg0.N) (a : Fin 4096) (d : Fin 128) : k0_pay215 (iblk m c 2 t) (ix2 a d) = ((hd P D s t.val).v a.val d : EReal) := by
  rw [vb_apply, blk_v m c t, hP, at2_up]
  rfl

theorem sg_at (t : Fin cfg0.N) (r : Fin 1024) (d : Fin 128) :
    k0_pay218 (iblk m c 3 t) (ix2 r d) = ((hd P D s t.val).sg (1024 * (t.val % 4) + r.val) d : EReal) := by
  rw [sg_apply, blk_g m c t, hP, at2_up, ← EReal.coe_zero, ← EReal.coe_sub, Ideal.exp_coe, ← EReal.coe_one, ← EReal.coe_add, zero_sub,
    div_real _ (SHead.one_add_exp_ne _)]
  rfl

/-- The gradient of the attention's output at a point. -/
theorem dob_at (t : Fin cfg0.N) (r : Fin 1024) (d : Fin 128) :
    k0_pay220 (iblk m c 3 t) (iblk m c 6 t) (ix2 r d) = ((hd P D s t.val).dob (1024 * (t.val % 4) + r.val) d : EReal) := by
  rw [dob_apply, sg_at m c P D s hs hP hD, blk_g m c t, blk_dg m c t, hP, hD, at2_up, at2_up, ← EReal.coe_mul, ← EReal.coe_mul]
  rfl

/-- The attention's output at a point. -/
theorem o_at (t : Fin cfg0.N) (r : Fin 1024) (d : Fin 128) :
    iblk m c 5 t (ix2 r d) = ((hd P D s t.val).o (1024 * (t.val % 4) + r.val) d : EReal) := by
  have ht : t.val < 64 := t.isLt
  rw [blk_o m c t, V31, hP, at2_val (a := 4096) (b := 2048) _ (by omega) (by omega)]
  exact hO_real P D s hs ⟨t.val / 4, by omega⟩ ⟨1024 * (t.val % 4) + r.val, by omega⟩ d

/-- The gate's gradient at a point. -/
theorem dgate_real (t : Fin cfg0.N) (r : Fin 1024) (d : Fin 128) :
    k0_pay219 (iblk m c 3 t) (iblk m c 6 t) (iblk m c 5 t) (ix2 r d) = ((hd P D s t.val).dgate (1024 * (t.val % 4) + r.val) d : EReal) := by
  rw [dgate_apply, sg_at m c P D s hs hP hD, o_at m c P D s hs hP hD, blk_g m c t, blk_dg m c t, hP, hD, at2_up, at2_up, ← EReal.coe_one, ← EReal.coe_sub,
    ← EReal.coe_mul, ← EReal.coe_mul, ← EReal.coe_add, ← EReal.coe_mul, ← EReal.coe_mul]
  rfl

/-- A point's loop works on the tile of its head. -/
theorem loop_at (t : Fin cfg0.N) (K W : Vec Ideal S4096x128 .bf16)
    (hK : ∀ (a : Fin 4096) d, K (ix2 a d) = ((hd P D s t.val).k a.val d : EReal)) (hW : ∀ (a : Fin 4096) d, W (ix2 a d) = ((hd P D s t.val).v a.val d : EReal)) :
    LoopOk (grid0.coords t) (k0_pay220 (iblk m c 3 t) (iblk m c 6 t)) (k0_pay221 (iblk m c 0 t)) (k0_pay222 (iblk m c 4 t))
      ((hd P D s t.val).tile (t.val % 4)) K W := by
  have ht : t.val < 64 := t.isLt
  refine ⟨(coord1 t).symm, dob_at m c P D s hs hP hD t, ?_, ?_, hK, hW⟩
  · intro r d
    rw [qs_apply, blk_q m c t, hP, at2_up, hs, ← EReal.coe_mul]
    rfl
  · intro r
    rw [lt_apply, blk_lt m c t, V33, hP, at31_val (a := 16) (b := 4096) _ (by omega) (by omega)]
    exact hLt_skip P D s hs ⟨t.val / 4, by omega⟩ ⟨1024 * (t.val % 4) + r.val, by omega⟩

end Real

/-- The part of the keys' gradient that tile `j` of a head gives. -/
def dkPart (H : SHead) (a : ℕ) (d : Fin 128) (j : ℕ) : ℝ := ∑ r : Fin 1024, H.dz (1024 * j + r.val) a * H.qs (1024 * j + r.val) d

/-- The part of the values' gradient that tile `j` of a head gives. -/
def dvPart (H : SHead) (a : ℕ) (d : Fin 128) (j : ℕ) : ℝ := ∑ r : Fin 1024, H.w (1024 * j + r.val) a * H.dob (1024 * j + r.val) d

variable (P : S4096x8192.Idx → ℝ) (D : S4096x2048.Idx → ℝ) (s : ℝ)

/-- What the outputs and the kept arrays hold after point `t`. -/
structure Left (t : Fin cfg0.N) : Prop where
  kb : ∀ (a : Fin 4096) d, (outsAt0 m c t.val t.isLt).2.2.2.2.1 (ix2 a d) = ((hd P D s t.val).k a.val d : EReal)
  vb : ∀ (a : Fin 4096) d, (outsAt0 m c t.val t.isLt).2.2.2.2.2.1 (ix2 a d) = ((hd P D s t.val).v a.val d : EReal)
  dq : ∀ r d, (outsAt0 m c t.val t.isLt).1 (ix2 r d)
    = ((∑ x ∈ Finset.range (1024 * (t.val % 4) + 1024), (hd P D s t.val).dz (1024 * (t.val % 4) + r.val) x * (hd P D s t.val).k x d : ℝ) : EReal) * s
  dgate : ∀ r d, (outsAt0 m c t.val t.isLt).2.2.2.1 (ix2 r d) = ((hd P D s t.val).dgate (1024 * (t.val % 4) + r.val) d : EReal)
  dk : ∀ (a : Fin 4096) d, (outsAt0 m c t.val t.isLt).2.2.2.2.2.2.1 (ix2 a d)
    = ((∑ j ∈ Finset.range (t.val % 4 + 1), dkPart (hd P D s t.val) a.val d j : ℝ) : EReal)
  dv : ∀ (a : Fin 4096) d, (outsAt0 m c t.val t.isLt).2.2.2.2.2.2.2 (ix2 a d)
    = ((∑ j ∈ Finset.range (t.val % 4 + 1), dvPart (hd P D s t.val) a.val d j : ℝ) : EReal)
  dkOut : t.val % 4 = 3 → ∀ (a : Fin 4096) d, (outsAt0 m c t.val t.isLt).2.1 (ix2 a d) = (outsAt0 m c t.val t.isLt).2.2.2.2.2.2.1 (ix2 a d)
  dvOut : t.val % 4 = 3 → ∀ (a : Fin 4096) d, (outsAt0 m c t.val t.isLt).2.2.1 (ix2 a d) = (outsAt0 m c t.val t.isLt).2.2.2.2.2.2.2 (ix2 a d)

variable (hs : Ideal.ofBits .f32 0x3DB504F3#32 = (s : EReal))
  (hP : m ((c : Thread nD τ).loc main_arg0) = up P) (hD : m ((c : Thread nD τ).loc main_arg1) = up D)
include hs hP hD

/-- After the first point of a head. -/
theorem left_first (t : Fin cfg0.N) (h0 : t.val % 4 = 0) : Left m c P D s t := by
  have hT := loop_at m c P D s hs hP hD t _ _ (keys_at m c P D s hs hP hD t) (values_at m c P D s hs hP hD t)
  have e := outsAt0_A m c t h0 (by omega)
  have hc := coord1 t
  refine ⟨?_, ?_, ?_, ?_, ?_, ?_, fun h => absurd h (by omega), fun h => absurd h (by omega)⟩
  · intro a d
    rw [e]
    dsimp only
    rw [soutA_0]
    exact keys_at m c P D s hs hP hD t a d
  · intro a d
    rw [e]
    dsimp only
    rw [soutA_1]
    exact values_at m c P D s hs hP hD t a d
  · intro r d
    rw [e]
    dsimp only
    rw [outA_dq (H := hT), hs, hc]
    rfl
  · intro r d
    rw [e]
    dsimp only
    rw [outA_dgate]
    exact dgate_real m c P D s hs hP hD t r d
  · intro a d
    rw [e]
    dsimp only
    rw [soutA_dk (H := hT), h0, zero_add, Finset.sum_range_one]
    rfl
  · intro a d
    rw [e]
    dsimp only
    rw [soutA_dv (H := hT), h0, zero_add, Finset.sum_range_one]
    rfl

/-- After a middle point of a head. -/
theorem left_middle (t t' : Fin cfg0.N) (h0 : ¬t.val % 4 = 0) (h1 : ¬t.val % 4 = 3) (ht' : t'.val = t.val - 1) (L : Left m c P D s t') : Left m c P D s t := by
  have hh : t'.val / 4 = t.val / 4 := by omega
  have hm : t'.val % 4 + 1 = t.val % 4 := by omega
  have hc := coord1 t
  obtain ⟨n', hn'⟩ := t'
  dsimp only at ht' hh hm
  subst ht'
  have hkb := L.kb
  have hvb := L.vb
  have hdk := L.dk
  have hdv := L.dv
  unfold hd at hkb hvb hdk hdv
  dsimp only at hkb hvb hdk hdv
  rw [hh] at hkb hvb hdk hdv
  rw [hm] at hdk hdv
  have hT := loop_at m c P D s hs hP hD t _ _ hkb hvb
  have e := outsAt0_B m c t h0 h1
  refine ⟨?_, ?_, ?_, ?_, ?_, ?_, fun h => absurd h h1, fun h => absurd h h1⟩
  · intro a d
    rw [e]
    exact hkb a d
  · intro a d
    rw [e]
    exact hvb a d
  · intro r d
    rw [e]
    dsimp only
    rw [outB_dq (H := hT), hs, hc]
    rfl
  · intro r d
    rw [e]
    dsimp only
    rw [outB_dgate]
    exact dgate_real m c P D s hs hP hD t r d
  · intro a d
    rw [e]
    dsimp only
    rw [soutB_dk (H := hT), hdk, Finset.sum_range_succ, EReal.coe_add]
    rfl
  · intro a d
    rw [e]
    dsimp only
    rw [soutB_dv (H := hT), hdv, Finset.sum_range_succ, EReal.coe_add]
    rfl

/-- After the last point of a head. -/
theorem left_last (t t' : Fin cfg0.N) (h0 : ¬t.val % 4 = 0) (h1 : t.val % 4 = 3) (ht' : t'.val = t.val - 1) (L : Left m c P D s t') : Left m c P D s t := by
  have hh : t'.val / 4 = t.val / 4 := by omega
  have hm : t'.val % 4 + 1 = t.val % 4 := by omega
  have hc := coord1 t
  obtain ⟨n', hn'⟩ := t'
  dsimp only at ht' hh hm
  subst ht'
  have hkb := L.kb
  have hvb := L.vb
  have hdk := L.dk
  have hdv := L.dv
  unfold hd at hkb hvb hdk hdv
  dsimp only at hkb hvb hdk hdv
  rw [hh] at hkb hvb hdk hdv
  rw [hm] at hdk hdv
  have hT := loop_at m c P D s hs hP hD t _ _ hkb hvb
  have e := outsAt0_C m c t h0 h1
  refine ⟨?_, ?_, ?_, ?_, ?_, ?_, fun _ => ?_, fun _ => ?_⟩
  · intro a d
    rw [e]
    exact hkb a d
  · intro a d
    rw [e]
    exact hvb a d
  · intro r d
    rw [e]
    dsimp only
    rw [outC_dq (H := hT), hs, hc]
    rfl
  · intro r d
    rw [e]
    dsimp only
    rw [outC_dgate]
    exact dgate_real m c P D s hs hP hD t r d
  · intro a d
    rw [e]
    dsimp only
    rw [soutC_dk (H := hT), hdk, Finset.sum_range_succ, EReal.coe_add]
    rfl
  · intro a d
    rw [e]
    dsimp only
    rw [soutC_dv (H := hT), hdv, Finset.sum_range_succ, EReal.coe_add]
    rfl
  · intro a d
    rw [e]
    dsimp only
    rw [outC_8]
  · intro a d
    rw [e]
    dsimp only
    rw [outC_9]

/-- After every point. -/
theorem left : ∀ t : Fin cfg0.N, Left m c P D s t := by
  intro ⟨n, hn⟩
  induction n with
  | zero => exact left_first m c P D s hs hP hD _ rfl
  | succ n ih =>
    by_cases h0 : (n + 1) % 4 = 0
    · exact left_first m c P D s hs hP hD _ h0
    · by_cases h1 : (n + 1) % 4 = 3
      · exact left_last m c P D s hs hP hD _ ⟨n, Nat.lt_of_succ_lt hn⟩ h0 h1 rfl (ih _)
      · exact left_middle m c P D s hs hP hD _ ⟨n, Nat.lt_of_succ_lt hn⟩ h0 h1 rfl (ih _)

end Cert.Kernel2Ideal.Sb
-- ==== Proof.SbArrays.lean ====
module

public import proofs.«01_k».proof.Proof.SbGrid
public import proofs.«01_k».proof.Proof.Arrays

/-!
# What the second kernel's four result arrays hold

Each entry of a result is what its head's points left there: a row's entry from the point of its tile, a column's entry from the last point
of the head, summed over all the rows.
-/

@[expose] public section

set_option maxRecDepth 16384

noncomputable section

namespace Cert.Kernel2Ideal.Sb

open Idealize.ShloMosaic Idealize.ShloMosaic.TcCoe Idealize.ShloMosaic.Tactic Cert.Kernel2Ideal Cert.Kernel2Ideal.Gen
open Cert.KernelIdeal.Block (coe_sum div_real col up)

open Cert.Kernel2Ideal.Value

variable (m : (ℓ : Loc nD τ sig) → Buf (Elt Ideal) ℓ) (c : Dev nD)

theorem G7_at (i : S4096x2048.Idx) (j : S1024x128.Idx) (t : Fin cfg0.N) (ht : pt7Of i = t.val) (hj : loc7Of i = j) :
    G7 m c i = (outsAt0 m c t.val t.isLt).1 j := by
  obtain ⟨n, hn⟩ := t
  dsimp only at ht
  subst ht
  subst hj
  unfold G7
  rw [dif_pos hn, outsAt0_sweep]

theorem G8_at (i : S4096x2048.Idx) (j : S4096x128.Idx) (t : Fin cfg0.N) (ht : pt8Of i = t.val) (hj : loc8Of i = j) :
    G8 m c i = (outsAt0 m c t.val t.isLt).2.1 j := by
  obtain ⟨n, hn⟩ := t
  dsimp only at ht
  subst ht
  subst hj
  unfold G8
  rw [dif_pos hn, outsAt0_sweep]

theorem G9_at (i : S4096x2048.Idx) (j : S4096x128.Idx) (t : Fin cfg0.N) (ht : pt9Of i = t.val) (hj : loc9Of i = j) :
    G9 m c i = (outsAt0 m c t.val t.isLt).2.2.1 j := by
  obtain ⟨n, hn⟩ := t
  dsimp only at ht
  subst ht
  subst hj
  unfold G9
  rw [dif_pos hn, outsAt0_sweep]

theorem G10_at (i : S4096x2048.Idx) (j : S1024x128.Idx) (t : Fin cfg0.N) (ht : pt10Of i = t.val) (hj : loc10Of i = j) :
    G10 m c i = (outsAt0 m c t.val t.isLt).2.2.2.1 j := by
  obtain ⟨n, hn⟩ := t
  dsimp only at ht
  subst ht
  subst hj
  unfold G10
  rw [dif_pos hn, outsAt0_sweep]

/-- The point of a head and a row. -/
def ptRow (h : Fin 16) (n : Fin 4096) : Fin cfg0.N := ⟨4 * h.val + n.val / 1024, show _ < 64 by omega⟩

/-- The last point of a head. -/
def ptLast (h : Fin 16) : Fin cfg0.N := ⟨4 * h.val + 3, show _ < 64 by omega⟩

theorem ptRow_div (h : Fin 16) (n : Fin 4096) : (ptRow h n).val / 4 = h.val := show (4 * h.val + n.val / 1024) / 4 = _ by omega

theorem ptRow_mod (h : Fin 16) (n : Fin 4096) : (ptRow h n).val % 4 = n.val / 1024 := show (4 * h.val + n.val / 1024) % 4 = _ by omega

theorem row_split (n : Fin 4096) : 1024 * (n.val / 1024) + n.val % 1024 = n.val := by omega

theorem ptLast_div (h : Fin 16) : (ptLast h).val / 4 = h.val := show (4 * h.val + 3) / 4 = _ by omega

theorem ptLast_mod (h : Fin 16) : (ptLast h).val % 4 = 3 := show (4 * h.val + 3) % 4 = _ by omega

/-- The sum over four tiles of 1024 rows is the sum over all the rows. -/
theorem sum_tiles (f : ℕ → ℝ) : ∑ j ∈ Finset.range (3 + 1), ∑ r : Fin 1024, f (1024 * j + r.val) = ∑ n ∈ Finset.range 4096, f n := by
  have h : ∀ j, ∑ r : Fin 1024, f (1024 * j + r.val) = ∑ r ∈ Finset.range 1024, f (1024 * j + r) :=
    fun j => (Finset.sum_range fun r => f (1024 * j + r)).symm
  simp only [h, Finset.sum_range_succ _ 3, Finset.sum_range_succ _ 2, Finset.sum_range_succ _ 1, Finset.sum_range_one]
  rw [show 4096 = 1024 + 1024 + 1024 + 1024 from rfl, Finset.sum_range_add, Finset.sum_range_add, Finset.sum_range_add]
  simp only [Nat.mul_zero, Nat.zero_add, Nat.mul_one, Nat.reduceMul, Nat.reduceAdd]

/-- The keys after a row's own tile add nothing to the queries' gradient. -/
theorem dq_keys (H : SHead) (n : ℕ) (hn : n < 4096) (d : Fin 128) :
    ∑ x ∈ Finset.range (1024 * (n / 1024) + 1024), H.dz n x * H.k x d = ∑ x ∈ Finset.range 4096, H.dz n x * H.k x d := by
  refine Finset.sum_subset (fun x hx => ?_) fun x _ hx => ?_
  · rw [Finset.mem_range] at hx ⊢
    omega
  · rw [Finset.mem_range] at hx
    rw [SHead.dz_masked _ (by omega), zero_mul]

variable (P : S4096x8192.Idx → ℝ) (D : S4096x2048.Idx → ℝ) (s : ℝ) (hs : Ideal.ofBits .f32 0x3DB504F3#32 = (s : EReal))
  (hP : m ((c : Thread nD τ).loc main_arg0) = up P) (hD : m ((c : Thread nD τ).loc main_arg1) = up D)
include hs hP hD

/-- The queries' gradient. -/
theorem dq_at (n : Fin 4096) (h : Fin 16) (d : Fin 128) :
    G7 m c (ix2 n (col h d)) = (((∑ x ∈ Finset.range 4096, (headR P D s h.val).dz n.val x * (headR P D s h.val).k x d) * s : ℝ) : EReal) := by
  have hn : n.val % 1024 < 1024 := Nat.mod_lt _ (by decide)
  rw [G7_at m c _ (ix2 ⟨n.val % 1024, hn⟩ d) (ptRow h n)
    (show 1 * (n.val / 1024 - 0) + 4 * ((128 * h.val + d.val) / 128 - 0) = 4 * h.val + n.val / 1024 by omega)
    (by funext a; fin_cases a <;> refine Fin.ext ?_ <;> first | rfl | (show (128 * h.val + d.val) % 128 = d.val; omega)),
    (left m c P D s hs hP hD (ptRow h n)).dq]
  unfold hd
  dsimp only
  rw [ptRow_div, ptRow_mod, row_split, dq_keys _ _ n.isLt, EReal.coe_mul]

/-- The gate's gradient. -/
theorem dgate_at (n : Fin 4096) (h : Fin 16) (d : Fin 128) :
    G10 m c (ix2 n (col h d)) = ((headR P D s h.val).dgate n.val d : EReal) := by
  have hn : n.val % 1024 < 1024 := Nat.mod_lt _ (by decide)
  rw [G10_at m c _ (ix2 ⟨n.val % 1024, hn⟩ d) (ptRow h n)
    (show 1 * (n.val / 1024 - 0) + 4 * ((128 * h.val + d.val) / 128 - 0) = 4 * h.val + n.val / 1024 by omega)
    (by funext a; fin_cases a <;> refine Fin.ext ?_ <;> first | rfl | (show (128 * h.val + d.val) % 128 = d.val; omega)),
    (left m c P D s hs hP hD (ptRow h n)).dgate]
  unfold hd
  dsimp only
  rw [ptRow_div, ptRow_mod, row_split]

/-- The keys' gradient. -/
theorem dk_at (a : Fin 4096) (h : Fin 16) (d : Fin 128) :
    G8 m c (ix2 a (col h d)) = ((∑ n ∈ Finset.range 4096, (headR P D s h.val).dz n a.val * (headR P D s h.val).qs n d : ℝ) : EReal) := by
  rw [G8_at m c _ (ix2 a d) (ptLast h)
    (show 4 * (16 * (a.val / 4096 - 0) + 1 * ((128 * h.val + d.val) / 128 - 0)) + 3 = 4 * h.val + 3 by omega)
    (by funext b; fin_cases b <;> refine Fin.ext ?_ <;> first | (show a.val % 4096 = a.val; omega) | (show (128 * h.val + d.val) % 128 = d.val; omega)),
    (left m c P D s hs hP hD (ptLast h)).dkOut (ptLast_mod h), (left m c P D s hs hP hD (ptLast h)).dk]
  unfold hd
  rw [ptLast_div, ptLast_mod]
  exact congrArg Real.toEReal (sum_tiles fun n => (headR P D s h.val).dz n a.val * (headR P D s h.val).qs n d)

/-- The values' gradient. -/
theorem dv_at (a : Fin 4096) (h : Fin 16) (d : Fin 128) :
    G9 m c (ix2 a (col h d)) = ((∑ n ∈ Finset.range 4096, (headR P D s h.val).w n a.val * (headR P D s h.val).dob n d : ℝ) : EReal) := by
  rw [G9_at m c _ (ix2 a d) (ptLast h)
    (show 4 * (16 * (a.val / 4096 - 0) + 1 * ((128 * h.val + d.val) / 128 - 0)) + 3 = 4 * h.val + 3 by omega)
    (by funext b; fin_cases b <;> refine Fin.ext ?_ <;> first | (show a.val % 4096 = a.val; omega) | (show (128 * h.val + d.val) % 128 = d.val; omega)),
    (left m c P D s hs hP hD (ptLast h)).dvOut (ptLast_mod h), (left m c P D s hs hP hD (ptLast h)).dv]
  unfold hd
  rw [ptLast_div, ptLast_mod]
  exact congrArg Real.toEReal (sum_tiles fun n => (headR P D s h.val).w n a.val * (headR P D s h.val).dob n d)

end Cert.Kernel2Ideal.Sb
-- ==== Proof.SbRef.lean ====
module

public import proofs.«01_k».proof.Proof.SbHost
public import proofs.«01_k».proof.Proof.Arrays
public import proofs.«01_k».proof.Proof.Gen.Reference2Ideal.Read

/-!
# The second reference on finite inputs

On finite inputs the four results of the second reference are the real heads' gradients.
-/

@[expose] public section

set_option maxRecDepth 16384

noncomputable section

namespace Cert.Kernel2Ideal.Sb

open Idealize.ShloMosaic Idealize.ShloMosaic.TcCoe Idealize.ShloMosaic.Tactic Cert.Kernel2Ideal Cert.Kernel2Ideal.Gen
open Cert.KernelIdeal.Block (coe_sum div_real at2 at2_val up col)

open Cert.Reference2Ideal.Read

/-- An array with zero in place of ∞. -/
def hSel (X : FVec Ideal S16x4096x4096 .f32) : FVec Ideal S16x4096x4096 .f32 :=
  select (cmpf .oeq X (broadcastInDim S16x4096x4096 ![] bcast_S_S16x4096x4096 (constant S_ .f32 0x7F800000#32))) hZero X

/-- The sigmoid, as the gradient of the softplus has it. -/
def hSig (Y : FVec Ideal S16x4096x4096 .f32) : FVec Ideal S16x4096x4096 .f32 := Host.exp (subf (hSel Y) (hSel (hSoft Y)))

theorem hSel_real (X : FVec Ideal S16x4096x4096 .f32) (i : S16x4096x4096.Idx) (x : ℝ) (hx : X i = (x : EReal)) : hSel X i = (x : EReal) := by
  have e : hSel X i = if Ideal.cmp .oeq (X i) (Ideal.ofBits .f32 0x7F800000#32) = 1#1 then hZero i else X i := rfl
  rw [e, if_neg, hx]
  rw [hx]
  simp [Ideal.cmp, Ideal.ofBits, Ideal.ieee]

theorem hSig_real (Y : FVec Ideal S16x4096x4096 .f32) (i : S16x4096x4096.Idx) (y : ℝ) (hy : Y i = (y : EReal)) :
    hSig Y i = (Real.exp (y - softplus y) : EReal) := by
  have e : hSig Y i = Ideal.exp (hSel Y i - hSel (hSoft Y) i) := rfl
  rw [e, hSel_real _ _ _ hy, hSel_real _ _ _ (hSoft_real Y i y hy), ← EReal.coe_sub, Ideal.exp_coe]

theorem bits_one : Ideal.ofBits .f32 0x3F800000#32 = 1 := by
  simp [Ideal.ofBits, Ideal.ieee]
  rw [← EReal.coe_mul, ← EReal.coe_one]
  norm_num

section Stages

variable (x0 : FVec Ideal S4096x8192 .f32) (x1 : FVec Ideal S4096x2048 .f32)

theorem ref_E : val_main_v25 (F := Ideal) x0 = hE (hZ x0) := rfl

theorem ref_W : val_main_v26_0 (F := Ideal) x0 = hWhere (hE (hZ x0)) := rfl

theorem ref_O : val_main_v31 (F := Ideal) x0 = hO (hWhere (hE (hZ x0))) x0 := rfl

theorem ref_q : val_main_v5 (F := Ideal) x0 = hCols (extractStridedSlice S4096x2048 ![0, 0] x0 slices_S4096x8192_S4096x2048_0_0) := rfl

theorem ref_k : val_main_v7 (F := Ideal) x0 = hCols (extractStridedSlice S4096x2048 ![0, 2048] x0 slices_S4096x8192_S4096x2048_0_2048) := rfl

theorem ref_v : val_main_v28 (F := Ideal) x0 = hCols (extractStridedSlice S4096x2048 ![0, 4096] x0 slices_S4096x8192_S4096x2048_0_4096) := rfl

theorem ref_do : val_main_v38 (F := Ideal) x0 x1 = hCols (val_main_v35 (F := Ideal) x0 x1) := rfl

theorem ref_dv : val_main_v64 (F := Ideal) x0 x1 = hRows (val_main_v40 (F := Ideal) x0 x1) := rfl

theorem ref_dk : val_main_v63 (F := Ideal) x0 x1 = hRows (val_main_v56 (F := Ideal) x0 x1) := rfl

theorem ref_dq : val_main_v62 (F := Ideal) x0 x1 = hRows (val_main_v57 (F := Ideal) x0 x1) := rfl

theorem ref_where_G : val_main_v44 (F := Ideal) x0 x1 = hWhere (val_main_v41 (F := Ideal) x0 x1) := rfl

theorem ref_where_cs : val_main_v50 (F := Ideal) x0 x1 = hWhere (val_main_v49 (F := Ideal) x0 x1) := rfl

theorem ref_sig_neg : val_main_v23_1 (F := Ideal) x0 = hSig (Host.negf (hZ x0)) := rfl

theorem ref_sig : val_main_v19_1 (F := Ideal) x0 = hSig (Host.negf (Host.negf (hZ x0))) := rfl

theorem ref_pre : ∃ w, val_main_v48 (F := Ideal) x0 x1 = hPre (val_main_v45 (F := Ideal) x0 x1) w := ⟨_, rfl⟩

end Stages

theorem r2_val {a b : ℕ} (X : (⟨2, ![a, b]⟩ : Shape).Idx → ℝ) (i : Fin a) (j : Fin b) : r2 X i.val j.val = X (ix2 i j) := dif_pos ⟨i.isLt, j.isLt⟩

variable (P : S4096x8192.Idx → ℝ) (D : S4096x2048.Idx → ℝ) (s : ℝ) (hs : Ideal.ofBits .f32 0x3DB504F3#32 = (s : EReal)) (h : Fin 16)

theorem ref_g (n : Fin 4096) (d : Fin 128) : val_main_v3 (F := Ideal) (up P) (ix2 n (col h d)) = ((headR P D s h.val).g n.val d : EReal) := by
  rw [val_main_v3_apply]
  show ((P _ : ℝ) : EReal) = ((r2 (a := 4096) (b := 8192) P n.val (6144 + 128 * h.val + d.val) : ℝ) : EReal)
  rw [r2_val (a := 4096) (b := 8192) P n ⟨6144 + 128 * h.val + d.val, by omega⟩]
  exact congrArg (fun i => ((P i : ℝ) : EReal)) (by
    funext a
    fin_cases a
    · apply Fin.ext
      simp [col]
    · apply Fin.ext
      simp [col]
      omega)

theorem ref_in (n : Fin 4096) (d : Fin 128) : up D (ix2 n (col h d)) = ((headR P D s h.val).dg n.val d : EReal) := by
  show ((D _ : ℝ) : EReal) = ((r2 (a := 4096) (b := 2048) D n.val (128 * h.val + d.val) : ℝ) : EReal)
  exact congrArg Real.toEReal (r2_val (a := 4096) (b := 2048) D n (col h d)).symm

theorem ref_sg (n : Fin 4096) (d : Fin 128) : val_main_v32_2 (F := Ideal) (up P) (ix2 n (col h d)) = ((headR P D s h.val).sg n.val d : EReal) := by
  rw [val_main_v32_2_apply, val_main_call5_v3_apply, val_main_call5_v1_apply, val_main_call5_v0_apply, ref_g P D s,
    val_main_call5_v2_apply, val_main_call5_v4_apply, val_main_call5_cst_apply, val_main_call5_cst_0_apply]
  show Ideal.div (Ideal.ofBits .f32 0x3F800000#32) (Ideal.ofBits .f32 0x3F800000#32 + Ideal.exp (-(((headR P D s h.val).g n.val d : ℝ) : EReal))) = _
  rw [bits_one, ← EReal.coe_neg, Ideal.exp_coe, ← EReal.coe_one, ← EReal.coe_add, div_real _ (SHead.one_add_exp_ne _)]
  rfl

theorem ref_dob (n : Fin 4096) (d : Fin 128) : val_main_v35 (F := Ideal) (up P) (up D) (ix2 n (col h d)) = ((headR P D s h.val).dob n.val d : EReal) := by
  rw [val_main_v35_apply, val_main_v32_0_apply, ref_g P D s, ref_sg P D s, ref_in P D s]
  show _ * (_ * _) = _
  rw [← EReal.coe_mul, ← EReal.coe_mul]
  rfl

theorem ref_dob3 (n : Fin 4096) (d : Fin 128) : val_main_v38 (F := Ideal) (up P) (up D) (ix3 h n d) = ((headR P D s h.val).dob n.val d : EReal) := by
  rw [ref_do, hCols_apply, at2_val (a := 4096) (b := 2048) _ n.isLt (by omega)]
  exact ref_dob P D s h n d

theorem ref_q3 (n : Fin 4096) (d : Fin 128) : val_main_v5 (F := Ideal) (up P) (ix3 h n d) = ((headR P D s h.val).q n.val d : EReal) := by
  rw [ref_q, hCols_apply, hSlice_apply _ 0 _ _ _ _ (by omega), Nat.zero_add, at2_up]
  rfl

theorem ref_k3 (n : Fin 4096) (d : Fin 128) : val_main_v7 (F := Ideal) (up P) (ix3 h n d) = ((headR P D s h.val).k n.val d : EReal) := by
  rw [ref_k, hCols_apply, hSlice_apply _ 2048 _ _ _ _ (by omega), at2_up]
  rfl

theorem ref_v3 (n : Fin 4096) (d : Fin 128) : val_main_v28 (F := Ideal) (up P) (ix3 h n d) = ((headR P D s h.val).v n.val d : EReal) := by
  rw [ref_v, hCols_apply, hSlice_apply _ 4096 _ _ _ _ (by omega), at2_up]
  rfl

theorem ref_G (n c : Fin 4096) : val_main_v41 (F := Ideal) (up P) (up D) (ix3 h n c) = ((headR P D s h.val).G n.val c.val : EReal) := by
  rw [val_main_v41_apply]
  unfold SHead.G
  rw [coe_sum]
  refine Finset.sum_congr rfl fun d _ => ?_
  rw [show lidx_main_v41 (ix3 h n c) d = ix3 h n d from by funext a; fin_cases a <;> rfl,
    show ridx_main_v41 (ix3 h n c) d = ix3 h c d from by funext a; fin_cases a <;> rfl, ref_dob3 P D s, ref_v3 P D s, EReal.coe_mul]

include hs

/-- The gradient of the gate. -/
theorem ref_dgate (n : Fin 4096) (d : Fin 128) : val_main_v65 (F := Ideal) (up P) (up D) (ix2 n (col h d)) = ((headR P D s h.val).dgate n.val d : EReal) := by
  have hO : val_main_v31 (F := Ideal) (up P) (ix2 n (col h d)) = ((headR P D s h.val).o n.val d : EReal) := by
    rw [ref_O]
    exact hO_real P D s hs h n d
  show val_main_v36 (F := Ideal) (up P) (up D) (ix2 n (col h d)) = _
  rw [val_main_v36_apply, val_main_call6_v1_apply, val_main_call6_v2_apply, val_main_call6_v0_apply, val_main_v34_apply,
    val_main_v32_1_apply, val_main_call5_v7_apply, val_main_call5_v6_apply, ref_g P D s, ref_sg P D s, hO, ref_in P D s]
  show ((_ * _) * _) + (_ * (_ * _)) * (_ * (Ideal.ofBits .f32 0x3F800000#32 - _)) = _
  rw [bits_one, ← EReal.coe_one]
  simp only [← EReal.coe_mul, ← EReal.coe_sub, ← EReal.coe_add]
  congr 1
  unfold SHead.dgate
  ring

/-- The gradient of the values. -/
theorem ref_dv_real (a : Fin 4096) (d : Fin 128) :
    val_main_v64 (F := Ideal) (up P) (up D) (ix2 a (col h d))
      = ((∑ n ∈ Finset.range 4096, (headR P D s h.val).w n a.val * (headR P D s h.val).dob n d : ℝ) : EReal) := by
  refine (congrFun (ref_dv (up P) (up D)) _).trans ((hRows_apply _ h a d).trans ?_)
  rw [val_main_v40_apply, val_main_v39_apply, Finset.sum_range, coe_sum]
  refine Finset.sum_congr rfl fun n _ => ?_
  rw [show lidx_main_v39 (idx_main_v40 (ix3 h a d)) n = ix3 h n d from by funext a; fin_cases a <;> rfl,
    show ridx_main_v39 (idx_main_v40 (ix3 h a d)) n = ix3 h n a from by funext a; fin_cases a <;> rfl, ref_dob3 P D s, ref_W, hW_real P D s hs,
    mul_comm, EReal.coe_mul]

/-- The gradient of the weights' logarithms. -/
theorem ref_da (n c : Fin 4096) : val_main_v45 (F := Ideal) (up P) (up D) (ix3 h n c) = ((headR P D s h.val).da n.val c.val : EReal) := by
  rw [val_main_v45_apply, ref_where_G, hWhere_apply, ref_E, hE_real P D s hs, ref_G P D s]
  unfold SHead.da SHead.w
  by_cases hc : c.val < n.val
  · rw [if_pos hc, if_pos hc]
    exact (EReal.coe_mul _ _).symm
  · rw [if_neg hc, if_neg hc, mul_zero]
    exact zero_mul _

/-- Its sums over the keys before. -/
theorem ref_cs (n c : Fin 4096) : val_main_v49 (F := Ideal) (up P) (up D) (ix3 h n c) = ((headR P D s h.val).cs n.val c.val : EReal) := by
  obtain ⟨w, hw⟩ := ref_pre (up P) (up D)
  rw [val_main_v49_apply, val_main_v47_apply, hw, hPre_real _ w h n (fun x => (headR P D s h.val).da n.val x) (ref_da P D s hs h n) c, ref_da P D s hs]
  show -_ + _ = _
  rw [← EReal.coe_neg, ← EReal.coe_add, SHead.before]

/-- The gradient of the scores. -/
theorem ref_dz (n c : Fin 4096) : val_main_v53 (F := Ideal) (up P) (up D) (ix3 h n c) = ((headR P D s h.val).dz n.val c.val : EReal) := by
  have hz := hZ_real P D s hs h n c
  have h1 : val_main_v23_1 (F := Ideal) (up P) (ix3 h n c)
      = ((1 - Real.exp ((headR P D s h.val).z n.val c.val - softplus ((headR P D s h.val).z n.val c.val)) : ℝ) : EReal) := by
    rw [ref_sig_neg, hSig_real _ _ (-(headR P D s h.val).z n.val c.val) (by
      show -hZ (up P) (ix3 h n c) = _
      rw [hz, EReal.coe_neg]), sig_add]
  have h2 : val_main_v19_1 (F := Ideal) (up P) (ix3 h n c)
      = (Real.exp ((headR P D s h.val).z n.val c.val - softplus ((headR P D s h.val).z n.val c.val)) : EReal) := by
    rw [ref_sig, hSig_real _ _ ((headR P D s h.val).z n.val c.val) (by
      show -(-hZ (up P) (ix3 h n c)) = _
      rw [hz, neg_neg])]
  have h3 : val_main_v50 (F := Ideal) (up P) (up D) (ix3 h n c) = ((if c.val < n.val then (headR P D s h.val).cs n.val c.val else 0 : ℝ) : EReal) := by
    rw [ref_where_cs, hWhere_apply, ref_cs P D s hs]
    split
    · rfl
    · rfl
  rw [val_main_v53_apply, val_main_v46_apply, val_main_v52_apply, val_main_v51_apply, val_main_call8_v1_apply, val_main_call8_v0_apply,
    val_main_call11_v1_apply, val_main_call11_v0_apply, h1, h2, h3, ref_da P D s hs]
  show -(-_ * _) + -(-(-_ * _)) = _
  simp only [← EReal.coe_mul, ← EReal.coe_neg, ← EReal.coe_add]
  refine congrArg Real.toEReal ?_
  by_cases hc : c.val < n.val
  · rw [if_pos hc]
    unfold SHead.dz
    rw [if_pos hc]
    ring
  · rw [if_neg hc, SHead.dz_masked _ hc]
    unfold SHead.da
    rw [SHead.w_masked _ hc]
    ring

theorem ref_dzs (n c : Fin 4096) : val_main_v55 (F := Ideal) (up P) (up D) (ix3 h n c) = (((headR P D s h.val).dz n.val c.val * s : ℝ) : EReal) := by
  rw [val_main_v55_apply, val_main_v54_apply, ref_dz P D s hs]
  show _ * Ideal.ofBits .f32 0x3DB504F3#32 = _
  rw [hs, EReal.coe_mul]

/-- The gradient of the queries. -/
theorem ref_dq_real (n : Fin 4096) (d : Fin 128) :
    val_main_v62 (F := Ideal) (up P) (up D) (ix2 n (col h d))
      = (((∑ x ∈ Finset.range 4096, (headR P D s h.val).dz n.val x * (headR P D s h.val).k x d) * s : ℝ) : EReal) := by
  refine (congrFun (ref_dq (up P) (up D)) _).trans ((hRows_apply _ h n d).trans ?_)
  rw [val_main_v57_apply, Finset.sum_range, Finset.sum_mul, coe_sum]
  refine Finset.sum_congr rfl fun c _ => ?_
  rw [show lidx_main_v57 (ix3 h n d) c = ix3 h n c from by funext a; fin_cases a <;> rfl,
    show ridx_main_v57 (ix3 h n d) c = ix3 h c d from by funext a; fin_cases a <;> rfl, ref_dzs P D s hs, ref_k3 P D s, ← EReal.coe_mul]
  congr 1
  ring

/-- The gradient of the keys. -/
theorem ref_dk_real (a : Fin 4096) (d : Fin 128) :
    val_main_v63 (F := Ideal) (up P) (up D) (ix2 a (col h d))
      = ((∑ n ∈ Finset.range 4096, (headR P D s h.val).dz n a.val * (headR P D s h.val).qs n d : ℝ) : EReal) := by
  refine (congrFun (ref_dk (up P) (up D)) _).trans ((hRows_apply _ h a d).trans ?_)
  rw [val_main_v56_apply, Finset.sum_range, coe_sum]
  refine Finset.sum_congr rfl fun n _ => ?_
  rw [show lidx_main_v56 (ix3 h a d) n = ix3 h n a from by funext a; fin_cases a <;> rfl,
    show ridx_main_v56 (ix3 h a d) n = ix3 h n d from by funext a; fin_cases a <;> rfl, ref_dzs P D s hs, ref_q3 P D s, ← EReal.coe_mul]
  congr 1
  unfold SHead.qs
  show _ = (headR P D s h.val).dz n.val a.val * ((headR P D s h.val).q n.val d * s)
  ring

end Cert.Kernel2Ideal.Sb
-- ==== Proof.SbEquation.lean ====
module

public import proofs.«01_k».proof.Proof.SbArrays
public import proofs.«01_k».proof.Proof.SbRef
public import proofs.«01_k».proof.Proof.Equation
public import proofs.«01_k».proof.Proof.Finite
public import proofs.«01_k».proof.Pre_finite2

/-!
# The equation of the second call

On finite inputs the second kernel's four results are its reference's.
-/

@[expose] public section

set_option maxRecDepth 16384

noncomputable section

namespace Cert.Kernel2Ideal.Sb

open Idealize.ShloMosaic Idealize.ShloMosaic.TcCoe Idealize.ShloMosaic.Tactic Cert.Kernel2Ideal Cert.Kernel2Ideal.Gen
open Cert.KernelIdeal.Block (coe_sum div_real col col_surj up real_of_all)

open Cert.Reference2Ideal.Read Cert.Kernel2Ideal.Value

/-- The precondition's side conditions. -/
theorem preFacts : Cert.Pre_finite2.Facts where
  bcast_S_S4096x8192 := by decide
  reducesTo_S4096x8192_S_d0_1 := by decide
  h_S_ := by decide
  bcast_S_S4096x2048 := by decide
  reducesTo_S4096x2048_S_d0_1 := by decide

/-- The two inputs are arrays of real numbers. -/
theorem real_of_pre [Cert.Pre_finite2.Facts] (x0 : FVec Ideal Cert.Pre_finite2.S4096x8192 .f32) (x1 : FVec Ideal Cert.Pre_finite2.S4096x2048 .f32)
    (h : Cert.Pre_finite2.fn (F := Ideal) x0 x1 = fun _ => 1#1) :
    (x0 = fun i => ((x0 i).toReal : EReal)) ∧ (x1 = fun i => ((x1 i).toReal : EReal)) := by
  let j : (⟨0, ![]⟩ : Shape).Idx := fun k => k.elim0
  have h' := congrFun h j
  have hand : ∀ a b : BitVec 1, IntOp.andi a b = 1#1 → a = 1#1 ∧ b = 1#1 := by decide
  obtain ⟨h1, h2⟩ := hand _ _ h'
  exact ⟨real_of_all x0 Cert.Pre_finite2.Facts.bcast_S_S4096x8192 Cert.Pre_finite2.Facts.reducesTo_S4096x8192_S_d0_1 Cert.Pre_finite2.Facts.h_S_ j h1,
    real_of_all x1 Cert.Pre_finite2.Facts.bcast_S_S4096x2048 Cert.Pre_finite2.Facts.reducesTo_S4096x2048_S_d0_1 Cert.Pre_finite2.Facts.h_S_ j h2⟩

variable (m : (ℓ : Loc nD τ sig) → Buf (Elt Ideal) ℓ) (c : Dev nD)
variable (P : S4096x8192.Idx → ℝ) (D : S4096x2048.Idx → ℝ)
  (hP : m ((c : Thread nD τ).loc main_arg0) = up P) (hD : m ((c : Thread nD τ).loc main_arg1) = up D)
include hP hD

/-- The queries' gradient. -/
theorem eq_dq : val_main_v62 (F := Ideal) (up P) (up D) = G7 m c := by
  obtain ⟨s, hs⟩ := scale_real
  funext i
  obtain ⟨n, h, d, rfl⟩ := col_surj i
  exact (ref_dq_real P D s hs h n d).trans (dq_at m c P D s hs hP hD n h d).symm

/-- The keys' gradient. -/
theorem eq_dk : val_main_v63 (F := Ideal) (up P) (up D) = G8 m c := by
  obtain ⟨s, hs⟩ := scale_real
  funext i
  obtain ⟨n, h, d, rfl⟩ := col_surj i
  exact (ref_dk_real P D s hs h n d).trans (dk_at m c P D s hs hP hD n h d).symm

/-- The values' gradient. -/
theorem eq_dv : val_main_v64 (F := Ideal) (up P) (up D) = G9 m c := by
  obtain ⟨s, hs⟩ := scale_real
  funext i
  obtain ⟨n, h, d, rfl⟩ := col_surj i
  exact (ref_dv_real P D s hs h n d).trans (dv_at m c P D s hs hP hD n h d).symm

/-- The gate's gradient. -/
theorem eq_dgate : val_main_v65 (F := Ideal) (up P) (up D) = G10 m c := by
  obtain ⟨s, hs⟩ := scale_real
  funext i
  obtain ⟨n, h, d, rfl⟩ := col_surj i
  exact (ref_dgate P D s hs h n d).trans (dgate_at m c P D s hs hP hD n h d).symm

end Cert.Kernel2Ideal.Sb
-- ==== Proof.SbFwdBlock.lean ====
module

public import proofs.«01_k».proof.Proof.SbReal
public import proofs.«01_k».proof.Proof.Gen.Kernel21Ideal.Skeleton

/-!
# The stick-breaking forward pass on one block of 128 key columns

The kernel goes through the keys from the last one a tile sees to the first. `cl` is the sum of the logarithms of the keys already
treated, `acc` their part of the output. On a block it forms the scores and the weights; what the later keys of the block leave is a
product with a triangular matrix of ones. `sel` is the causal mask, as in `SbBlock`.
-/

@[expose] public section

set_option maxRecDepth 16384

noncomputable section

namespace Cert.Kernel21Ideal.SbF

open Idealize.ShloMosaic Cert.Kernel21Ideal Cert.Kernel21Ideal.Gen
open Cert.KernelIdeal.Block (coe_sum div_real)
open Cert.Kernel2Ideal.Sb (RTile softplus softplus_coe sum_block slt_word bit_ite)

section Block

variable (sel : FVec Ideal S1024x128 .f32 → FVec Ideal S1024x128 .f32) (q : FVec Ideal S1024x128 .bf16) (t : FVec Ideal S128x128 .bf16)
  (cl : FVec Ideal S1024x1 .f32) (acc : FVec Ideal S1024x128 .f32) (kk vv : Vec Ideal S128x128 .bf16) (x : FVec Ideal S1024x128 .f32)

/-- What the later keys of the block leave, as a sum of two products. -/
def bLater : FVec Ideal S1024x128 .f32 :=
  addf (matmul dot_S1024x128_S128x128_S1024x128_1_0_0_1_n_n none (truncf .bf16 x bitsLt_bf16_f32) t (constant S1024x128 .f32 0x00000000#32))
    (matmul dot_S1024x128_S128x128_S1024x128_1_0_0_1_n_n none
      (truncf .bf16 (subf x (extf .f32 (truncf .bf16 x bitsLt_bf16_f32) bitsLt_bf16_f32)) bitsLt_bf16_f32) t
      (constant S1024x128 .f32 0x00000000#32))

/-- The logarithms of the shares that the keys leave. -/
def bLs : FVec Ideal S1024x128 .f32 := sel (k0_pay4 q kk)

/-- The weights before the mask. -/
def wRaw : FVec Ideal S1024x128 .f32 :=
  exp (addf (addf (subf (k0_pay2 q kk) (k0_pay3 q kk)) (bLater t (bLs sel q kk))) (broadcastTo S1024x128 cl broadcasts_S1024x1_S1024x128))

/-- The output after the block. -/
def bAcc : FVec Ideal S1024x128 .f32 :=
  addf acc (matmul (φ₂ := .bf16) dot_S1024x128_S128x128_S1024x128_1_0_0_1_n_n none (truncf .bf16 (sel (wRaw sel q t cl kk)) bitsLt_bf16_f32) vv
    (constant S1024x128 .f32 0x00000000#32))

/-- The sum of the logarithms after the block. -/
def bCl : FVec Ideal S1024x1 .f32 :=
  addf cl (shapeCast S1024x1 (multiReduction .add [1] S1024 (bLs sel q kk) 0x00000000#32 reduces_S1024x128_S1024 (.inl rfl) rfl)
    shapeCasts_S1024_S1024x1)

theorem z_apply (r : Fin 1024) (c : Fin 128) : k0_pay2 q kk (ix2 r c) = ∑ x : Fin 128, q (ix2 r x) * kk (ix2 c x) := by
  pointwise [k0_pay2]

theorem sp_apply (r : Fin 1024) (c : Fin 128) :
    k0_pay3 q kk (ix2 r c) = max (k0_pay2 q kk (ix2 r c)) 0
      + Ideal.log (1 + Ideal.exp (0 - max (k0_pay2 q kk (ix2 r c)) (-(k0_pay2 q kk (ix2 r c))))) := by
  pointwise [k0_pay3]
  rfl

theorem ls_apply (r : Fin 1024) (c : Fin 128) : k0_pay4 q kk (ix2 r c) = 0 - k0_pay3 q kk (ix2 r c) := by
  pointwise [k0_pay4]

theorem later_apply (r : Fin 1024) (j : Fin 128) :
    bLater t x (ix2 r j) = (∑ k : Fin 128, x (ix2 r k) * t (ix2 k j)) + ∑ k : Fin 128, (x (ix2 r k) - x (ix2 r k)) * t (ix2 k j) := by
  pointwise [bLater]

theorem wRaw_apply (r : Fin 1024) (c : Fin 128) :
    wRaw sel q t cl kk (ix2 r c)
      = Ideal.exp (k0_pay2 q kk (ix2 r c) - k0_pay3 q kk (ix2 r c) + bLater t (bLs sel q kk) (ix2 r c) + cl (ix2 r 0)) := by
  pointwise [wRaw]

theorem acc_apply (r : Fin 1024) (d : Fin 128) :
    bAcc sel q t cl acc kk vv (ix2 r d) = acc (ix2 r d) + ∑ c : Fin 128, sel (wRaw sel q t cl kk) (ix2 r c) * vv (ix2 c d) := by
  pointwise [bAcc]

theorem cl_apply (r : Fin 1024) : bCl sel q cl kk (ix2 r 0) = cl (ix2 r 0) + ∑ c : Fin 128, bLs sel q kk (ix2 r c) := by
  pointwise [bCl]

/-- The triangular matrix: ones for the later keys. -/
theorem tri_apply (k j : Fin 128) : k0_pay75 (F := Ideal) (ix2 k j) = if j.val < k.val then 1 else 0 := by
  have hk := k.isLt
  have hj := j.isLt
  pointwise [k0_pay75]
  refine Eq.trans ?_ (bit_ite _)
  rw [← slt_word (by omega) (by omega)]
  rfl

/-- The queries, scaled. -/
theorem qs_apply (q : Vec Ideal S1024x128 .f32) (r : Fin 1024) (d : Fin 128) :
    k0_pay74 q (ix2 r d) = q (ix2 r d) * Ideal.ofBits .f32 0x3DB504F3#32 := by
  pointwise [k0_pay74]

/-- The keys and the values are kept as they are, and the sums start at zero. -/
theorem kb_apply (k : Vec Ideal S4096x128 .f32) (c : Fin 4096) (d : Fin 128) : k0_pay72 k (ix2 c d) = k (ix2 c d) := by
  pointwise [k0_pay72]

theorem vb_apply (k : Vec Ideal S4096x128 .f32) (c : Fin 4096) (d : Fin 128) : k0_pay73 k (ix2 c d) = k (ix2 c d) := by
  pointwise [k0_pay73]

theorem zero76_apply (r : Fin 1024) : k0_pay76 (F := Ideal) (ix2 r 0) = 0 := by
  pointwise [k0_pay76]

theorem zero77_apply (r : Fin 1024) (d : Fin 128) : k0_pay77 (F := Ideal) (ix2 r d) = 0 := by
  pointwise [k0_pay77]

/-- The row totals, as they are stored. -/
theorem lt_apply (l : FVec Ideal S1024x1 .f32) (r : Fin 1024) : k0_pay148 l (ix3 0 r 0) = l (ix2 r 0) := by
  pointwise [k0_pay148]

/-- The gated output. -/
theorem gated_apply (o : FVec Ideal S1024x128 .f32) (g : Vec Ideal S1024x128 .f32) (r : Fin 1024) (d : Fin 128) :
    k0_pay1 o g (k0_pay149 g) k0_pay150 (ix2 r d) = o (ix2 r d) * (g (ix2 r d) * Ideal.div 1 (1 + Ideal.exp (0 - g (ix2 r d)))) := by
  pointwise [k0_pay1, k0_pay149, k0_pay150]

end Block

/-- The sum of the later columns of a block, as a product with the triangular matrix. -/
theorem sum_later (f : ℕ → ℝ) (o j : ℕ) (hj : j < 128) :
    (∑ k : Fin 128, f (o + k.val) * (if j < k.val then 1 else 0))
      = ∑ c ∈ Finset.range (o + 128), f c - ∑ c ∈ Finset.range (o + j + 1), f c := by
  have h1 := Cert.Kernel2Ideal.Sb.sum_upto f o (j + 1) hj
  have h2 := sum_block f o
  have h3 : (∑ k : Fin 128, f (o + k.val)) = (∑ k : Fin 128, f (o + k.val) * (if k.val < j + 1 then 1 else 0))
      + ∑ k : Fin 128, f (o + k.val) * (if j < k.val then 1 else 0) := by
    rw [← Finset.sum_add_distrib]
    refine Finset.sum_congr rfl fun k _ => ?_
    by_cases h : j < k.val
    · rw [if_pos h, if_neg (by omega)]
      ring
    · rw [if_neg h, if_pos (by omega)]
      ring
  rw [show o + j + 1 = o + (j + 1) from by ring]
  linarith

/-- A tile's output up to key `n`. -/
def part (T : RTile) (r : Fin 1024) (d : Fin 128) (n : ℕ) : ℝ := ∑ c ∈ Finset.range n, T.w r c * T.V c d

/-- The sums once the keys from `n` on have been treated. -/
structure After (T : RTile) (n : ℕ) (cl : FVec Ideal S1024x1 .f32) (acc : FVec Ideal S1024x128 .f32) : Prop where
  hcl : ∀ r, cl (ix2 r 0) = ((T.lt r - T.pre r n : ℝ) : EReal)
  hacc : ∀ r d, acc (ix2 r d) = ((part T r d 4096 - part T r d n : ℝ) : EReal)

/-- What holds at the block of 128 keys from key `o`: the vectors read are the tile's, and the sums are those of the later keys. -/
structure BlockOk (T : RTile) (o : ℕ) (sel : FVec Ideal S1024x128 .f32 → FVec Ideal S1024x128 .f32) (q : FVec Ideal S1024x128 .bf16)
    (t : FVec Ideal S128x128 .bf16) (cl : FVec Ideal S1024x1 .f32) (acc : FVec Ideal S1024x128 .f32)
    (kk vv : Vec Ideal S128x128 .bf16) : Prop where
  hsel : ∀ x r c, sel x (ix2 r c) = if o + c.val < 1024 * T.i + r.val then x (ix2 r c) else 0
  hq : ∀ r d, q (ix2 r d) = ((T.qs r d : ℝ) : EReal)
  ht : ∀ k j, t (ix2 k j) = if j.val < k.val then 1 else 0
  hs : After T (o + 128) cl acc
  hk : ∀ c d, kk (ix2 c d) = ((T.K (o + c.val) d : ℝ) : EReal)
  hv : ∀ c d, vv (ix2 c d) = ((T.V (o + c.val) d : ℝ) : EReal)

namespace BlockOk

variable {T : RTile} {o : ℕ} {sel : FVec Ideal S1024x128 .f32 → FVec Ideal S1024x128 .f32} {q : FVec Ideal S1024x128 .bf16}
  {t : FVec Ideal S128x128 .bf16} {cl : FVec Ideal S1024x1 .f32} {acc : FVec Ideal S1024x128 .f32} {kk vv : Vec Ideal S128x128 .bf16}
  (B : BlockOk T o sel q t cl acc kk vv)
include B

theorem z (r : Fin 1024) (c : Fin 128) : k0_pay2 q kk (ix2 r c) = ((T.z r (o + c.val) : ℝ) : EReal) := by
  rw [z_apply, RTile.z, coe_sum]
  refine Finset.sum_congr rfl fun x _ => ?_
  rw [B.hq, B.hk, ← EReal.coe_mul]

theorem sp (r : Fin 1024) (c : Fin 128) : k0_pay3 q kk (ix2 r c) = ((softplus (T.z r (o + c.val)) : ℝ) : EReal) := by
  rw [sp_apply, B.z]
  exact softplus_coe _

theorem ls (r : Fin 1024) (c : Fin 128) : bLs sel q kk (ix2 r c) = ((T.ls r (o + c.val) : ℝ) : EReal) := by
  unfold bLs RTile.ls
  rw [B.hsel]
  split
  · rw [ls_apply, B.sp, zero_sub, ← EReal.coe_neg]
  · rfl

theorem later (r : Fin 1024) (c : Fin 128) :
    bLater t (bLs sel q kk) (ix2 r c) = ((T.pre r (o + 128) - T.pre r (o + c.val + 1) : ℝ) : EReal) := by
  have hi : ∀ (p : Prop) [Decidable p], (if p then (1 : EReal) else 0) = (((if p then 1 else 0 : ℝ)) : EReal) := by
    intro p _
    split <;> simp
  have h2 : (∑ k : Fin 128, (bLs sel q kk (ix2 r k) - bLs sel q kk (ix2 r k)) * t (ix2 k c)) = 0 := by
    refine Finset.sum_eq_zero fun k _ => ?_
    rw [B.ls, ← EReal.coe_sub, sub_self, EReal.coe_zero, zero_mul]
  rw [later_apply, h2, add_zero]
  unfold RTile.pre
  rw [← sum_later (T.ls r) o c.val c.isLt, coe_sum]
  refine Finset.sum_congr rfl fun k _ => ?_
  rw [B.ls, B.ht, hi, ← EReal.coe_mul]

theorem w (r : Fin 1024) (c : Fin 128) : sel (wRaw sel q t cl kk) (ix2 r c) = ((T.w r (o + c.val) : ℝ) : EReal) := by
  unfold RTile.w
  rw [B.hsel]
  split
  · rw [wRaw_apply, B.z, B.sp, B.later, B.hs.hcl, ← EReal.coe_sub, ← EReal.coe_add, ← EReal.coe_add, Ideal.exp_coe]
    congr 2
    ring
  · rfl

/-- The sums after the block. -/
theorem after : After T o (bCl sel q cl kk) (bAcc sel q t cl acc kk vv) := by
  refine ⟨fun r => ?_, fun r d => ?_⟩
  · have e : T.lt r - T.pre r o = (T.lt r - T.pre r (o + 128)) + ∑ c : Fin 128, T.ls r (o + c.val) := by
      unfold RTile.pre
      rw [sum_block]
      ring
    rw [cl_apply, B.hs.hcl, e, EReal.coe_add, coe_sum]
    congr 1
    exact Finset.sum_congr rfl fun c _ => B.ls r c
  · have e : part T r d 4096 - part T r d o = (part T r d 4096 - part T r d (o + 128)) + ∑ c : Fin 128, T.w r (o + c.val) * T.V (o + c.val) d := by
      unfold part
      rw [sum_block (fun c => T.w r c * T.V c d) o]
      ring
    rw [acc_apply, B.hs.hacc, e, EReal.coe_add, coe_sum]
    congr 1
    refine Finset.sum_congr rfl fun c _ => ?_
    rw [B.w, B.hv, ← EReal.coe_mul]

end BlockOk

/-- What is handed from block to block. -/
abbrev Carry := FVec Ideal S1024x1 .f32 × FVec Ideal S1024x128 .f32

/-- What is handed on after `u` blocks. -/
def carry (sel : ℕ → FVec Ideal S1024x128 .f32 → FVec Ideal S1024x128 .f32) (q : FVec Ideal S1024x128 .bf16)
    (t : FVec Ideal S128x128 .bf16) (KK VV : ℕ → Vec Ideal S128x128 .bf16) (s : Carry) : ℕ → Carry
  | 0 => s
  | u + 1 =>
    (bCl (sel u) q (carry sel q t KK VV s u).1 (KK u),
     bAcc (sel u) q t (carry sel q t KK VV s u).1 (carry sel q t KK VV s u).2 (KK u) (VV u))

/-- Blocks of keys one before the other: after `u` of `m` blocks the keys from `o + 128 (m - u)` on have been treated. -/
theorem carry_ok {T : RTile} {o m : ℕ} {sel : ℕ → FVec Ideal S1024x128 .f32 → FVec Ideal S1024x128 .f32} {q : FVec Ideal S1024x128 .bf16}
    {t : FVec Ideal S128x128 .bf16} {KK VV : ℕ → Vec Ideal S128x128 .bf16} {s : Carry}
    (hsel : ∀ u, u < m → ∀ x r c, sel u x (ix2 r c) = if o + 128 * (m - 1 - u) + c.val < 1024 * T.i + r.val then x (ix2 r c) else 0)
    (hq : ∀ r d, q (ix2 r d) = ((T.qs r d : ℝ) : EReal))
    (ht : ∀ k j, t (ix2 k j) = if j.val < k.val then 1 else 0)
    (hs : After T (o + 128 * m) s.1 s.2)
    (hk : ∀ u, u < m → ∀ c d, KK u (ix2 c d) = ((T.K (o + 128 * (m - 1 - u) + c.val) d : ℝ) : EReal))
    (hv : ∀ u, u < m → ∀ c d, VV u (ix2 c d) = ((T.V (o + 128 * (m - 1 - u) + c.val) d : ℝ) : EReal)) (u : ℕ) (hu : u ≤ m) :
    After T (o + 128 * (m - u)) (carry sel q t KK VV s u).1 (carry sel q t KK VV s u).2 := by
  induction u with
  | zero => exact hs
  | succ u ih =>
    have B : BlockOk T (o + 128 * (m - 1 - u)) (sel u) q t (carry sel q t KK VV s u).1 (carry sel q t KK VV s u).2 (KK u) (VV u) := by
      refine ⟨hsel u (by omega), hq, ht, ?_, hk u (by omega), hv u (by omega)⟩
      rw [show o + 128 * (m - 1 - u) + 128 = o + 128 * (m - u) from by omega]
      exact ih (by omega)
    rw [show m - (u + 1) = m - 1 - u from by omega]
    exact B.after

/-- Before any block, at the end of the keys a tile sees, nothing has been summed. -/
theorem after_start (T : RTile) (hT : ∀ r, T.lt r = T.pre r 4096) {cl : FVec Ideal S1024x1 .f32} {acc : FVec Ideal S1024x128 .f32}
    (h1 : ∀ r, cl (ix2 r 0) = 0) (h2 : ∀ r d, acc (ix2 r d) = 0) {n : ℕ} (hn : 1024 * T.i + 1024 ≤ n) (hn' : n ≤ 4096) : After T n cl acc := by
  have cut : ∀ f : ℕ → ℝ, (∀ c, n ≤ c → f c = 0) → ∑ c ∈ Finset.range 4096, f c = ∑ c ∈ Finset.range n, f c := fun f hf =>
    (Finset.sum_subset (Finset.range_mono hn') fun c _ hc => hf c (by simpa using hc)).symm
  refine ⟨fun r => ?_, fun r d => ?_⟩
  · have e : T.pre r 4096 = T.pre r n := cut (T.ls r) fun c hc => if_neg (by have := r.isLt; omega)
    rw [h1, hT, e, sub_self]
    rfl
  · have e : part T r d 4096 = part T r d n := cut (fun c => T.w r c * T.V c d) fun c hc => by
      rw [show T.w r c = 0 from if_neg (by have := r.isLt; omega), zero_mul]
    rw [h2, e, sub_self]
    rfl

end Cert.Kernel21Ideal.SbF
-- ==== Proof.SbFwdLoop.lean ====
module

public import proofs.«01_k».proof.Proof.SbFwdBlock
public import proofs.«01_k».proof.Proof.Gen.Kernel21Ideal.Loops
public import Idealize.ShloMosaic.Lib.WritesUnit

/-!
# The forward pass of a tile of 1024 rows

First the eight blocks of keys on the diagonal, with the mask; then a loop over the groups of eight blocks below the diagonal, from the
last group to the first. After all of them the sums are the tile's whole sums.
-/

@[expose] public section

set_option maxRecDepth 16384

noncomputable section

namespace Cert.Kernel21Ideal.SbF

open Idealize.ShloMosaic Idealize.ShloMosaic.TcCoe Idealize.ShloMosaic.Tactic Cert.Kernel21Ideal Cert.Kernel21Ideal.Gen
open Cert.KernelIdeal.Block (coe_sum div_real)
open Cert.Kernel2Ideal.Sb (RTile softplus slt_word)

theorem iota0_apply (r : Fin 1024) (c : Fin 128) :
    iota Kind.tc S1024x128 32 [0] iota_S1024x128_d0_w32 (ix2 r c) = BitVec.ofNat 32 r.val := by
  pointwise []

theorem iota1_apply (r : Fin 1024) (c : Fin 128) :
    iota Kind.tc S1024x128 32 [1] iota_S1024x128_d1_w32 (ix2 r c) = BitVec.ofNat 32 c.val := by
  pointwise []

/-- The mask of the diagonal's block `7 - u`, the one treated after `u` others. -/
def dgSel (u : ℕ) (x : FVec Ideal S1024x128 .f32) : FVec Ideal S1024x128 .f32 :=
  select (cmpi .slt (addi (iota Kind.tc S1024x128 32 [1] iota_S1024x128_d1_w32) (broadcast S1024x128 (BitVec.ofNat 32 (128 * (7 - u)))))
    (iota Kind.tc S1024x128 32 [0] iota_S1024x128_d0_w32)) x (broadcast S1024x128 (Scalar.ofBits .f32 0x00000000#32))

theorem dgSel_apply (u : ℕ) (x : FVec Ideal S1024x128 .f32) (r : Fin 1024) (c : Fin 128) :
    dgSel u x (ix2 r c) = if 128 * (7 - u) + c.val < r.val then x (ix2 r c) else 0 := by
  have hr := r.isLt
  have hc := c.isLt
  show Scalar.select (IntOp.cmpi .slt
    (iota Kind.tc S1024x128 32 [1] iota_S1024x128_d1_w32 (ix2 r c) + BitVec.ofNat 32 (128 * (7 - u)))
    (iota Kind.tc S1024x128 32 [0] iota_S1024x128_d0_w32 (ix2 r c))) (x (ix2 r c)) (Ideal.ofBits .f32 0x00000000#32) = _
  rw [iota0_apply, iota1_apply, ← BitVec.ofNat_add, slt_word (by omega) (by omega), Nat.add_comm c.val]
  by_cases h : 128 * (7 - u) + c.val < r.val
  · rw [if_pos h, if_pos h]
    rfl
  · rw [if_neg h, if_neg h]
    refine Eq.trans (b := Ideal.ofBits .f32 0x00000000#32) rfl ?_
    simp [Ideal.ofBits, Ideal.ieee]

/-- The rows that a load of 128 rows reads. -/
def rowsOf {e : EltTy} (v : View sig .tc .vmem S4096x128 e) (X : v.ty.Contents (Elt Ideal)) (off : ℕ → Fin 2 → ℕ)
    (inb : ∀ u a, off u a + S128x128.size a ≤ S4096x128.size a) (u : ℕ) : Vec Ideal S128x128 e :=
  View.readAt (Elt Ideal) v (Rect.unit (s := S4096x128) (off u) S128x128.size (inb u)).toLoadRect X

theorem rowsOf_apply {e : EltTy} (v : View sig .tc .vmem S4096x128 e) (X : v.ty.Contents (Elt Ideal)) {off : ℕ → Fin 2 → ℕ}
    (inb : ∀ u a, off u a + S128x128.size a ≤ S4096x128.size a) {u n : ℕ} (ho : off u = ![n, 0]) (c d : Fin 128) (h : n + c.val < 4096) :
    rowsOf v X off inb u (ix2 c d) = v.read (Elt Ideal) X (ix2 ⟨n + c.val, h⟩ d) := by
  unfold rowsOf
  rw [View.readAt_eq_ld]
  refine congrArg (v.read (Elt Ideal) X) (funext fun a => Fin.ext ?_)
  fin_cases a
  · show off u 0 + 1 * c.val = n + c.val
    rw [ho]
    simp
  · show off u 1 + 1 * d.val = d.val
    rw [ho]
    simp

/-- The tile of number `i` makes `i` trips. -/
theorem trips_eq : ∀ i : grid0.Coords, (k0_t1_loop i).trips = (i 1).val := by decide +kernel

variable (i : grid0.Coords)

/-- Where the block that a trip treats after `u` others lies. -/
def tripOff (k : Fin (k0_t1_loop i).trips) (u : ℕ) : Fin 2 → ℕ := k0_off2 i k (BitVec.ofNat 32 (Fin.ofNat 8 u).val)

theorem tripOff_inb (k : Fin (k0_t1_loop i).trips) (u : ℕ) (a : Fin 2) : tripOff i k u a + S128x128.size a ≤ S4096x128.size a :=
  k0_off2_inb i k (Fin.ofNat 8 u) a

theorem off2_val : ∀ (i : grid0.Coords) (k : Fin (k0_t1_loop i).trips) (r : Fin 8) (a : Fin 2), k0_off2 i k (BitVec.ofNat 32 r.val) a
    = (![1024 * ((i 1).val - 1 - k.val) + 128 * (7 - r.val), 0] : Fin 2 → ℕ) a := by decide +kernel

theorem tripOff_eq (k : Fin (k0_t1_loop i).trips) (u : ℕ) (hu : u < 8) :
    tripOff i k u = ![1024 * ((i 1).val - 1 - k.val) + 128 * (8 - 1 - u), 0] := by
  unfold tripOff
  refine (funext fun a => off2_val i k (Fin.ofNat 8 u) a).trans ?_
  have e : (Fin.ofNat 8 u).val = u := Nat.mod_eq_of_lt hu
  rw [e]

/-- Where the diagonal's block that is treated after `u` others lies. -/
def dgOff (u : ℕ) : Fin 2 → ℕ := k0_off1 i (BitVec.ofNat 32 (Fin.ofNat 8 (7 - u)).val)

theorem dgOff_inb (u : ℕ) (a : Fin 2) : dgOff i u a + S128x128.size a ≤ S4096x128.size a := k0_off1_inb i (Fin.ofNat 8 (7 - u)) a

theorem dgOff_eq (u : ℕ) : dgOff i u = ![1024 * (i 1).val + 128 * (8 - 1 - u), 0] := by
  unfold dgOff
  refine (k0_off1_eq i (Fin.ofNat 8 (7 - u))).trans ?_
  have e : (Fin.ofNat 8 (7 - u)).val = 7 - u := Nat.mod_eq_of_lt (by omega)
  rw [e]

variable (𝒱 : Variants) (c : Dev nD) (bd : Option 𝒱.V)
  (arg2 : Memref sig .tc .vmem S1024x128 .f32) (harg2 : arg2.IsWhole)
  (arg3 : Memref sig .tc .vmem S4096x128 .f32) (harg3 : arg3.IsWhole)
  (arg4 : Memref sig .tc .vmem S4096x128 .f32) (harg4 : arg4.IsWhole)
  (arg5 : Memref sig .tc .vmem S1024x128 .f32) (harg5 : arg5.IsWhole)
  (arg6 : Memref sig .tc .vmem S1024x128 .f32) (harg6 : arg6.IsWhole)
  (arg7 : Memref sig .tc .vmem S1x1024x1 .f32) (harg7 : arg7.IsWhole)
  (arg8 : Memref sig .tc .vmem S1024x128 .bf16) (harg8 : arg8.IsWhole)
  (arg9 : Memref sig .tc .vmem S4096x128 .bf16) (harg9 : arg9.IsWhole)
  (arg10 : Memref sig .tc .vmem S4096x128 .bf16) (harg10 : arg10.IsWhole)
  (arg1 : BitVec 32) (q : FVec Ideal S1024x128 .bf16)
  (X9 : BufTy.Contents (Elt Ideal) arg9.view.ty) (X10 : BufTy.Contents (Elt Ideal) arg10.view.ty)

/-- What is handed on after `u` blocks of a trip. -/
abbrev tripCarry (k : Fin (k0_t1_loop i).trips) (s : Carry) : ℕ → Carry :=
  carry (fun _ x => x) q k0_pay75 (rowsOf arg9.view X9 (tripOff i k) (tripOff_inb i k)) (rowsOf arg10.view X10 (tripOff i k) (tripOff_inb i k)) s

/-- What a trip hands on. -/
theorem tripR_eq (k : Fin (k0_t1_loop i).trips) (s : Carry) :
    tripR_k0_t1 (F := Ideal) 𝒱 c bd i _ harg2 _ harg3 _ harg4 _ harg5 _ harg6 _ harg7 _ harg8 _ harg9 _ harg10 arg1 q k0_pay75 X9 X10 k s = tripCarry i arg9 arg10 q X9 X10 k s 8 := by
  unfold tripR_k0_t1 trip_k0_t1
  rfl

/-- What is handed on after `u` blocks of the diagonal. -/
abbrev dgCarry : ℕ → Carry :=
  carry dgSel q k0_pay75 (rowsOf arg9.view X9 (dgOff i) (dgOff_inb i)) (rowsOf arg10.view X10 (dgOff i) (dgOff_inb i)) (k0_pay76, k0_pay77)

/-- What the loop starts from, what it hands on before trip `n`, and what a point ends with. -/
abbrev loopAt (n : ℕ) : Carry :=
  st_k0_t1 (F := Ideal) 𝒱 c bd i _ harg2 _ harg3 _ harg4 _ harg5 _ harg6 _ harg7 _ harg8 _ harg9 _ harg10 arg1 q k0_pay75 X9 X10 (dgCarry i arg9 arg10 q X9 X10 8) n

/-- A tile's arrays as a point finds them. -/
structure PointOk (T : RTile) (K V : Vec Ideal S4096x128 .bf16) : Prop where
  hi : T.i = (i 1).val
  hT : ∀ r, T.lt r = T.pre r 4096
  hq : ∀ r d, q (ix2 r d) = ((T.qs r d : ℝ) : EReal)
  hk : ∀ (a : Fin 4096) d, K (ix2 a d) = ((T.K a.val d : ℝ) : EReal)
  hv : ∀ (a : Fin 4096) d, V (ix2 a d) = ((T.V a.val d : ℝ) : EReal)

variable (T : RTile) (H : PointOk i q T (arg9.view.read (Elt Ideal) X9) (arg10.view.read (Elt Ideal) X10))
include H

/-- The sums after the diagonal. -/
theorem dg_ok : After T (1024 * (i 1).val) (dgCarry i arg9 arg10 q X9 X10 8).1 (dgCarry i arg9 arg10 q X9 X10 8).2 := by
  have h4 : (i 1).val < 4 := (i 1).isLt
  refine carry_ok (o := 1024 * (i 1).val) (m := 8) (fun u hu x r c => ?_) H.hq tri_apply
    (after_start T H.hT zero76_apply zero77_apply (by rw [H.hi]) (by omega)) (fun u hu c d => ?_) (fun u hu c d => ?_) 8 le_rfl
  · rw [dgSel_apply u, H.hi]
    by_cases h : 128 * (7 - u) + c.val < r.val
    · rw [if_pos h, if_pos (by omega)]
    · rw [if_neg h, if_neg (by omega)]
  · exact (rowsOf_apply arg9.view X9 _ (dgOff_eq i u) c d (by have := c.isLt; omega)).trans (H.hk _ d)
  · exact (rowsOf_apply arg10.view X10 _ (dgOff_eq i u) c d (by have := c.isLt; omega)).trans (H.hv _ d)

/-- The sums before trip `n` of the loop. -/
theorem loop_ok (n : ℕ) (hn : n ≤ (i 1).val) :
    After T (1024 * ((i 1).val - n)) (loopAt i 𝒱 c bd _ harg2 _ harg3 _ harg4 _ harg5 _ harg6 _ harg7 _ harg8 _ harg9 _ harg10 arg1 q X9 X10 n).1 (loopAt i 𝒱 c bd _ harg2 _ harg3 _ harg4 _ harg5 _ harg6 _ harg7 _ harg8 _ harg9 _ harg10 arg1 q X9 X10 n).2 := by
  induction n with
  | zero => exact dg_ok i arg9 arg10 q X9 X10 T H
  | succ n ih =>
    have hlt : n < (k0_t1_loop i).trips := by rw [trips_eq]; omega
    have h4 : (i 1).val < 4 := (i 1).isLt
    have hst : loopAt i 𝒱 c bd _ harg2 _ harg3 _ harg4 _ harg5 _ harg6 _ harg7 _ harg8 _ harg9 _ harg10 arg1 q X9 X10 (n + 1) = _ :=
      (st_k0_t1_succ (F := Ideal) 𝒱 c bd i _ harg2 _ harg3 _ harg4 _ harg5 _ harg6 _ harg7 _ harg8 _ harg9 _ harg10 arg1 q k0_pay75 X9 X10 _ ⟨n, hlt⟩).trans
        (tripR_eq i 𝒱 c bd _ harg2 _ harg3 _ harg4 _ harg5 _ harg6 _ harg7 _ harg8 _ harg9 _ harg10 arg1 q X9 X10 ⟨n, hlt⟩ _)
    rw [hst]
    have h0 := ih (by omega)
    refine carry_ok (o := 1024 * ((i 1).val - (n + 1))) (m := 8) (fun u hu x r c => ?_) H.hq tri_apply ?_ (fun u hu c d => ?_)
      (fun u hu c d => ?_) 8 le_rfl
    · have := c.isLt
      rw [H.hi, if_pos (by omega)]
    · rw [show 1024 * ((i 1).val - (n + 1)) + 128 * 8 = 1024 * ((i 1).val - n) from by omega]
      exact h0
    · have e : (i 1).val - 1 - n = (i 1).val - (n + 1) := by omega
      have ho := tripOff_eq i ⟨n, hlt⟩ u hu
      rw [show ((⟨n, hlt⟩ : Fin (k0_t1_loop i).trips)).val = n from rfl, e] at ho
      exact (rowsOf_apply arg9.view X9 _ ho c d (by have := c.isLt; omega)).trans (H.hk _ d)
    · have e : (i 1).val - 1 - n = (i 1).val - (n + 1) := by omega
      have ho := tripOff_eq i ⟨n, hlt⟩ u hu
      rw [show ((⟨n, hlt⟩ : Fin (k0_t1_loop i).trips)).val = n from rfl, e] at ho
      exact (rowsOf_apply arg10.view X10 _ ho c d (by have := c.isLt; omega)).trans (H.hv _ d)

/-- The sums a point ends with. -/
theorem end_ok : After T 0 (loopAt i 𝒱 c bd _ harg2 _ harg3 _ harg4 _ harg5 _ harg6 _ harg7 _ harg8 _ harg9 _ harg10 arg1 q X9 X10 (k0_t1_loop i).trips).1
    (loopAt i 𝒱 c bd _ harg2 _ harg3 _ harg4 _ harg5 _ harg6 _ harg7 _ harg8 _ harg9 _ harg10 arg1 q X9 X10 (k0_t1_loop i).trips).2 := by
  have h := loop_ok i 𝒱 c bd _ harg2 _ harg3 _ harg4 _ harg5 _ harg6 _ harg7 _ harg8 _ harg9 _ harg10 arg1 q X9 X10 T H (i 1).val le_rfl
  rw [Nat.sub_self, Nat.mul_zero] at h
  rw [trips_eq]
  exact h

end Cert.Kernel21Ideal.SbF
-- ==== Proof.SbFwdPoint.lean ====
module

public import proofs.«01_k».proof.Proof.SbFwdLoop
public import proofs.«01_k».proof.Proof.SbPoint
public import proofs.«01_k».proof.Proof.Gen.Kernel21Ideal.Frame

/-!
# What a grid point of the forward attention leaves

A point runs the diagonal, then the loop over the blocks before it, then a loop over no block, and writes out the two running sums and the
gated one. The first point of a head also keeps the head's keys and values, which the later points read.
-/

@[expose] public section

set_option maxRecDepth 16384

noncomputable section

namespace Cert.Kernel21Ideal.SbF

open Idealize.ShloMosaic Idealize.ShloMosaic.TcCoe Idealize.ShloMosaic.Tactic Cert.Kernel21Ideal Cert.Kernel21Ideal.Gen
open Cert.Kernel2Ideal.Sb (RTile off2 off3)

/-- A load of a whole buffer reads its contents. -/
theorem load_whole {sg : RefSig} {sp : Space} {e : EltTy} {n : ℕ} {size : Fin n → ℕ} {m : Memref sg .tc sp ⟨n, size⟩ e} (h : m.IsWhole)
    (X : (⟨n, size⟩ : Shape).Idx → Elt Ideal e) {off : Fin n → ℕ} (ho : off = fun _ => 0) (inb : ∀ a, off a + size a ≤ size a) :
    View.readAt (Elt Ideal) m.view (Rect.unit (s := ⟨n, size⟩) off size inb).toLoadRect (h.unread X) = X := by
  rw [View.readAt_eq_ld, h.read_unread]
  exact View.ld_unit_zero (S := ⟨n, size⟩) ho inb X

/-- A buffer that one store of the whole covers holds that store. -/
theorem read_store_whole {sg : RefSig} {sp : Space} {e : EltTy} {n : ℕ} {size : Fin n → ℕ} (v : View sg .tc sp ⟨n, size⟩ e) (f : v.ty.Contents (Elt Ideal))
    {off : Fin n → ℕ} (ho : off = fun _ => 0) (inb : ∀ a, off a + size a ≤ size a) (w : Vec Ideal ⟨n, size⟩ e) :
    v.read (Elt Ideal) (v.writes (Elt Ideal) f [⟨Rect.unit (s := ⟨n, size⟩) off size inb, w⟩]) = w := by
  refine (View.read_writes_eq_canon v _ _ fun y => ⟨_, List.mem_singleton.mpr rfl, ?_⟩).trans (View.canon_unit_zero (S := ⟨n, size⟩) ho inb w)
  exact Cert.Kernel2Ideal.Sb.mem_whole ho inb y

/-- The second loop of the kernel has nothing to visit. -/
theorem trips2_eq (i : grid0.Coords) : Scf.trips (k0_t2_loop i).lb (k0_t2_loop i).ub (k0_t2_loop i).st = 0 :=
  Nat.le_zero.mp (k0_t2_abs i).2.1

variable (c : Dev nD) (i : grid0.Coords)
  (arg2 : Memref sig .tc .vmem S1024x128 .f32) (harg2 : arg2.IsWhole)
  (arg3 : Memref sig .tc .vmem S4096x128 .f32) (harg3 : arg3.IsWhole)
  (arg4 : Memref sig .tc .vmem S4096x128 .f32) (harg4 : arg4.IsWhole)
  (arg5 : Memref sig .tc .vmem S1024x128 .f32) (harg5 : arg5.IsWhole)
  (arg6 : Memref sig .tc .vmem S1024x128 .f32) (harg6 : arg6.IsWhole)
  (arg7 : Memref sig .tc .vmem S1x1024x1 .f32) (harg7 : arg7.IsWhole)
  (arg8 : Memref sig .tc .vmem S1024x128 .bf16) (harg8 : arg8.IsWhole)
  (arg9 : Memref sig .tc .vmem S4096x128 .bf16) (harg9 : arg9.IsWhole)
  (arg10 : Memref sig .tc .vmem S4096x128 .bf16) (harg10 : arg10.IsWhole)
  (x0 : Vec Ideal S1024x128 .f32) (x1 x2 : Vec Ideal S4096x128 .f32) (x3 : Vec Ideal S1024x128 .f32)
  (xs0 xs1 : Vec Ideal S4096x128 .bf16)

section CaseB

variable (hc0 : ¬cond0_0 i)

/-- The sums that the loop hands on. -/
abbrev finB : Carry := (loopAt i Variants.none c none _ harg2 _ harg3 _ harg4 _ harg5 _ harg6 _ harg7 _ harg8 _ harg9 _ harg10 (BitVec.ofNat 32 (i 1).val) (k0_pay74 x0) (harg9.unread xs0) (harg10.unread xs1) (k0_t1_loop i).trips)

/-- The weighted sum of the values is written out. -/
theorem outB_o : out0_B_4 c i _ harg2 _ harg3 _ harg4 _ harg5 _ harg6 _ harg7 _ harg8 _ harg9 _ harg10 hc0 x0 x1 x2 x3 xs0 xs1 = (finB c i _ harg2 _ harg3 _ harg4 _ harg5 _ harg6 _ harg7 _ harg8 _ harg9 _ harg10 x0 xs0 xs1).2 := by
  unfold out0_B_4 kernelRun0_B
  dsimp only
  refine (read_store_whole VO0_4 _ off2 inb_S1024x128_S1024x128_0_0 _).trans ?_
  rw [trips2_eq]
  have e : kernelRun0_B.sl.r c _ harg2 x0 = k0_pay74 x0 := congrArg k0_pay74 (load_whole harg2 x0 off2 inb_S1024x128_S1024x128_0_0)
  unfold finB
  rw [← e]
  rfl

/-- The running sum of the logarithms is written out. -/
theorem outB_lt : out0_B_5 c i _ harg2 _ harg3 _ harg4 _ harg5 _ harg6 _ harg7 _ harg8 _ harg9 _ harg10 hc0 x0 x1 x2 x3 xs0 xs1 = k0_pay148 (finB c i _ harg2 _ harg3 _ harg4 _ harg5 _ harg6 _ harg7 _ harg8 _ harg9 _ harg10 x0 xs0 xs1).1 := by
  unfold out0_B_5 kernelRun0_B
  dsimp only
  refine (read_store_whole VO0_5 _ off3 inb_S1x1024x1_S1x1024x1_0_0_0 _).trans ?_
  rw [trips2_eq]
  have e : kernelRun0_B.sl.r c _ harg2 x0 = k0_pay74 x0 := congrArg k0_pay74 (load_whole harg2 x0 off2 inb_S1024x128_S1024x128_0_0)
  unfold finB
  rw [← e]
  rfl

/-- The gated sum is written out. -/
theorem outB_g : out0_B_6 c i _ harg2 _ harg3 _ harg4 _ harg5 _ harg6 _ harg7 _ harg8 _ harg9 _ harg10 hc0 x0 x1 x2 x3 xs0 xs1 = k0_pay1 (finB c i _ harg2 _ harg3 _ harg4 _ harg5 _ harg6 _ harg7 _ harg8 _ harg9 _ harg10 x0 xs0 xs1).2 x3 (k0_pay149 x3) k0_pay150 := by
  unfold out0_B_6 kernelRun0_B
  dsimp only
  refine (read_store_whole VO0_6 _ off2 inb_S1024x128_S1024x128_0_0 _).trans ?_
  have e : kernelRun0_B.sl.r c _ harg2 x0 = k0_pay74 x0 := congrArg k0_pay74 (load_whole harg2 x0 off2 inb_S1024x128_S1024x128_0_0)
  have e3 := load_whole harg5 x3 off2 inb_S1024x128_S1024x128_0_0
  rw [show kernelRun0_B.sl.r_38 c _ harg5 x3 = x3 from e3, show kernelRun0_B.sl.r_39 c _ harg5 x3 = k0_pay149 x3 from congrArg k0_pay149 e3]
  unfold kernelRun0_B.sl.r_37 finB
  rw [trips2_eq, ← e]
  rfl

/-- The sums are those of the tile's whole rows. -/
theorem finB_ok (T : RTile) (H : PointOk i (k0_pay74 x0) T xs0 xs1) :
    After T 0 (finB c i _ harg2 _ harg3 _ harg4 _ harg5 _ harg6 _ harg7 _ harg8 _ harg9 _ harg10 x0 xs0 xs1).1 (finB c i _ harg2 _ harg3 _ harg4 _ harg5 _ harg6 _ harg7 _ harg8 _ harg9 _ harg10 x0 xs0 xs1).2 := by
  refine end_ok i Variants.none c none _ harg2 _ harg3 _ harg4 _ harg5 _ harg6 _ harg7 _ harg8 _ harg9 _ harg10 _ (k0_pay74 x0) _ _ T ?_
  rw [harg9.read_unread, harg10.read_unread]
  exact H

end CaseB

section CaseA

variable (hc0 : cond0_0 i)

/-- The sums that the loop hands on. -/
abbrev finA : Carry := (loopAt i Variants.none c none _ harg2 _ harg3 _ harg4 _ harg5 _ harg6 _ harg7 _ harg8 _ harg9 _ harg10 (BitVec.ofNat 32 (i 1).val) (k0_pay74 x0) (arg9.view.writes (Elt Ideal) arg9.view.junk (kernelRun0_A.sl.HS0_1 c _ harg3 x1)) (arg10.view.writes (Elt Ideal) arg10.view.junk (kernelRun0_A.sl.HS1_1 c _ harg4 x2)) (k0_t1_loop i).trips)

/-- The weighted sum of the values is written out. -/
theorem outA_o : out0_A_4 c i _ harg2 _ harg3 _ harg4 _ harg5 _ harg6 _ harg7 _ harg8 _ harg9 _ harg10 hc0 x0 x1 x2 x3 = (finA c i _ harg2 _ harg3 _ harg4 _ harg5 _ harg6 _ harg7 _ harg8 _ harg9 _ harg10 x0 x1 x2).2 := by
  unfold out0_A_4 kernelRun0_A
  dsimp only
  refine (read_store_whole VO0_4 _ off2 inb_S1024x128_S1024x128_0_0 _).trans ?_
  rw [trips2_eq]
  have e : kernelRun0_A.sl.r c _ harg2 x0 = k0_pay74 x0 := congrArg k0_pay74 (load_whole harg2 x0 off2 inb_S1024x128_S1024x128_0_0)
  unfold finA
  rw [← e]
  rfl

/-- The running sum of the logarithms is written out. -/
theorem outA_lt : out0_A_5 c i _ harg2 _ harg3 _ harg4 _ harg5 _ harg6 _ harg7 _ harg8 _ harg9 _ harg10 hc0 x0 x1 x2 x3 = k0_pay148 (finA c i _ harg2 _ harg3 _ harg4 _ harg5 _ harg6 _ harg7 _ harg8 _ harg9 _ harg10 x0 x1 x2).1 := by
  unfold out0_A_5 kernelRun0_A
  dsimp only
  refine (read_store_whole VO0_5 _ off3 inb_S1x1024x1_S1x1024x1_0_0_0 _).trans ?_
  rw [trips2_eq]
  have e : kernelRun0_A.sl.r c _ harg2 x0 = k0_pay74 x0 := congrArg k0_pay74 (load_whole harg2 x0 off2 inb_S1024x128_S1024x128_0_0)
  unfold finA
  rw [← e]
  rfl

/-- The gated sum is written out. -/
theorem outA_g : out0_A_6 c i _ harg2 _ harg3 _ harg4 _ harg5 _ harg6 _ harg7 _ harg8 _ harg9 _ harg10 hc0 x0 x1 x2 x3 = k0_pay1 (finA c i _ harg2 _ harg3 _ harg4 _ harg5 _ harg6 _ harg7 _ harg8 _ harg9 _ harg10 x0 x1 x2).2 x3 (k0_pay149 x3) k0_pay150 := by
  unfold out0_A_6 kernelRun0_A
  dsimp only
  refine (read_store_whole VO0_6 _ off2 inb_S1024x128_S1024x128_0_0 _).trans ?_
  have e : kernelRun0_A.sl.r c _ harg2 x0 = k0_pay74 x0 := congrArg k0_pay74 (load_whole harg2 x0 off2 inb_S1024x128_S1024x128_0_0)
  have e3 := load_whole harg5 x3 off2 inb_S1024x128_S1024x128_0_0
  rw [show kernelRun0_A.sl.r_38 c _ harg5 x3 = x3 from e3, show kernelRun0_A.sl.r_39 c _ harg5 x3 = k0_pay149 x3 from congrArg k0_pay149 e3]
  unfold kernelRun0_A.sl.r_37 finA
  rw [trips2_eq, ← e]
  rfl

/-- The keys are kept. -/
theorem soutA_0 : sout0_A_0 c i _ harg2 _ harg3 _ harg4 _ harg5 _ harg6 _ harg7 _ harg8 _ harg9 _ harg10 hc0 x0 x1 x2 x3 = k0_pay72 x1 := by
  unfold sout0_A_0 kernelRun0_A
  dsimp only
  unfold kernelRun0_A.sl.HS0_1
  refine (read_store_whole VS0_0 _ off2 inb_S4096x128_S4096x128_0_0 _).trans ?_
  rw [load_whole harg3 x1 off2 inb_S4096x128_S4096x128_0_0]

/-- The values are kept. -/
theorem soutA_1 : sout0_A_1 c i _ harg2 _ harg3 _ harg4 _ harg5 _ harg6 _ harg7 _ harg8 _ harg9 _ harg10 hc0 x0 x1 x2 x3 = k0_pay73 x2 := by
  unfold sout0_A_1 kernelRun0_A
  dsimp only
  unfold kernelRun0_A.sl.HS1_1
  refine (read_store_whole VS0_1 _ off2 inb_S4096x128_S4096x128_0_0 _).trans ?_
  rw [load_whole harg4 x2 off2 inb_S4096x128_S4096x128_0_0]

/-- The sums are those of the tile's whole rows. -/
theorem finA_ok (T : RTile) (H : PointOk i (k0_pay74 x0) T (k0_pay72 x1) (k0_pay73 x2)) :
    After T 0 (finA c i _ harg2 _ harg3 _ harg4 _ harg5 _ harg6 _ harg7 _ harg8 _ harg9 _ harg10 x0 x1 x2).1 (finA c i _ harg2 _ harg3 _ harg4 _ harg5 _ harg6 _ harg7 _ harg8 _ harg9 _ harg10 x0 x1 x2).2 := by
  refine end_ok i Variants.none c none _ harg2 _ harg3 _ harg4 _ harg5 _ harg6 _ harg7 _ harg8 _ harg9 _ harg10 _ (k0_pay74 x0) _ _ T ?_
  unfold kernelRun0_A.sl.HS0_1 kernelRun0_A.sl.HS1_1
  rw [read_store_whole arg9.view _ off2 inb_S4096x128_S4096x128_0_0, read_store_whole arg10.view _ off2 inb_S4096x128_S4096x128_0_0,
    load_whole harg3 x1 off2 inb_S4096x128_S4096x128_0_0, load_whole harg4 x2 off2 inb_S4096x128_S4096x128_0_0]
  exact H

end CaseA

end Cert.Kernel21Ideal.SbF
-- ==== Proof.SbFwdGrid.lean ====
module

public import proofs.«01_k».proof.Proof.SbHost
public import proofs.«01_k».proof.Proof.SbFwdPoint
public import proofs.«01_k».proof.Proof.Arrays
public import proofs.«01_k».proof.Proof.Gen.Kernel21Ideal.Value

/-!
# What the forward attention's grid leaves

Point `t` works on head `t / 4` and on the tile of rows from `1024 * (t % 4)`. The keys and values kept at the first point of a head serve
its four points. An entry of a result is what the point of its head and row wrote there.
-/

@[expose] public section

set_option maxRecDepth 16384

noncomputable section

namespace Cert.Kernel21Ideal.SbF

open Idealize.ShloMosaic Idealize.ShloMosaic.TcCoe Idealize.ShloMosaic.Tactic Cert.Kernel21Ideal Cert.Kernel21Ideal.Gen
open Cert.KernelIdeal.Block (coe_sum div_real at2 at2_val up col)
open Cert.Kernel2Ideal.Sb (RTile SHead headR at2_up)

open Cert.Kernel21Ideal.Value

variable (m : (ℓ : Loc nD τ sig) → Buf (Elt Ideal) ℓ) (c : Dev nD)

/-- Which blocks a point reads. -/
theorem idx : ∀ t : Fin cfg0.N, win0_0.index t = ![t.val % 4, t.val / 4] ∧ win0_1.index t = ![0, 16 + t.val / 4]
    ∧ win0_2.index t = ![0, 32 + t.val / 4] ∧ win0_3.index t = ![t.val % 4, 48 + t.val / 4] := by
  decide +kernel

theorem coord1 : ∀ t : Fin cfg0.N, ((grid0.coords t) 1).val = t.val % 4 := by
  decide +kernel

theorem blk_q (t : Fin cfg0.N) (r : Fin 1024) (d : Fin 128) :
    iblk m c 0 t (ix2 r d) = at2 (m ((c : Thread nD τ).loc main_arg0)) (1024 * (t.val % 4) + r.val) (128 * (t.val / 4) + d.val) := by
  have ht : t.val < 64 := t.isLt
  rw [at2_val (a := 4096) (b := 8192) _ (by omega) (by omega)]
  blk_ext [iblk, V, idx t]

theorem blk_k (t : Fin cfg0.N) (r : Fin 4096) (d : Fin 128) :
    iblk m c 1 t (ix2 r d) = at2 (m ((c : Thread nD τ).loc main_arg0)) (r.val) (2048 + 128 * (t.val / 4) + d.val) := by
  have ht : t.val < 64 := t.isLt
  rw [at2_val (a := 4096) (b := 8192) _ (by omega) (by omega)]
  blk_ext [iblk, V, idx t]

theorem blk_v (t : Fin cfg0.N) (r : Fin 4096) (d : Fin 128) :
    iblk m c 2 t (ix2 r d) = at2 (m ((c : Thread nD τ).loc main_arg0)) (r.val) (4096 + 128 * (t.val / 4) + d.val) := by
  have ht : t.val < 64 := t.isLt
  rw [at2_val (a := 4096) (b := 8192) _ (by omega) (by omega)]
  blk_ext [iblk, V, idx t]

theorem blk_g (t : Fin cfg0.N) (r : Fin 1024) (d : Fin 128) :
    iblk m c 3 t (ix2 r d) = at2 (m ((c : Thread nD τ).loc main_arg0)) (1024 * (t.val % 4) + r.val) (6144 + 128 * (t.val / 4) + d.val) := by
  have ht : t.val < 64 := t.isLt
  rw [at2_val (a := 4096) (b := 8192) _ (by omega) (by omega)]
  blk_ext [iblk, V, idx t]

variable (P : S4096x8192.Idx → ℝ) (s : ℝ)

/-- The head of a point. The forward pass has no gradient coming in. -/
abbrev hd (t : ℕ) : SHead := headR P (fun _ => 0) s (t / 4)

/-- What a point's sums come to, in its three results. -/
structure Sums (t : Fin cfg0.N) (o : Vec Ideal S1024x128 .f32) (l : Vec Ideal S1x1024x1 .f32) (g : Vec Ideal S1024x128 .bf16) : Prop where
  o : ∀ r d, o (ix2 r d) = ((hd P s t.val).o (1024 * (t.val % 4) + r.val) d : EReal)
  l : ∀ r, l (ix3 0 r 0) = ((hd P s t.val).lt (1024 * (t.val % 4) + r.val) : EReal)
  g : ∀ r d, g (ix2 r d) = (((hd P s t.val).o (1024 * (t.val % 4) + r.val) d
    * ((hd P s t.val).g (1024 * (t.val % 4) + r.val) d * (hd P s t.val).sg (1024 * (t.val % 4) + r.val) d) : ℝ) : EReal)

/-- What the results and the kept arrays hold after point `t`. -/
structure Left (t : Fin cfg0.N) : Prop where
  kb : ∀ (a : Fin 4096) d, (outsAt0 m c t.val t.isLt).2.2.2.1 (ix2 a d) = ((hd P s t.val).k a.val d : EReal)
  vb : ∀ (a : Fin 4096) d, (outsAt0 m c t.val t.isLt).2.2.2.2 (ix2 a d) = ((hd P s t.val).v a.val d : EReal)
  sums : Sums P s t (outsAt0 m c t.val t.isLt).1 (outsAt0 m c t.val t.isLt).2.1 (outsAt0 m c t.val t.isLt).2.2.1

variable (hs : Ideal.ofBits .f32 0x3DB504F3#32 = (s : EReal)) (hP : m ((c : Thread nD τ).loc main_arg0) = up P)
include hs hP

/-- The keys that a point's block holds. -/
theorem keys_at (t : Fin cfg0.N) (a : Fin 4096) (d : Fin 128) : k0_pay72 (iblk m c 1 t) (ix2 a d) = ((hd P s t.val).k a.val d : EReal) := by
  rw [kb_apply, blk_k m c t, hP, at2_up]
  rfl

/-- The values that a point's block holds. -/
theorem values_at (t : Fin cfg0.N) (a : Fin 4096) (d : Fin 128) : k0_pay73 (iblk m c 2 t) (ix2 a d) = ((hd P s t.val).v a.val d : EReal) := by
  rw [vb_apply, blk_v m c t, hP, at2_up]
  rfl

/-- A point works on the tile of its head. -/
theorem point_at (t : Fin cfg0.N) (K W : Vec Ideal S4096x128 .bf16)
    (hK : ∀ (a : Fin 4096) d, K (ix2 a d) = ((hd P s t.val).k a.val d : EReal)) (hW : ∀ (a : Fin 4096) d, W (ix2 a d) = ((hd P s t.val).v a.val d : EReal)) :
    PointOk (grid0.coords t) (k0_pay74 (iblk m c 0 t)) ((hd P s t.val).tile (t.val % 4)) K W := by
  refine ⟨(coord1 t).symm, fun r => rfl, ?_, hK, hW⟩
  intro r d
  rw [qs_apply, blk_q m c t, hP, at2_up, hs, ← EReal.coe_mul]
  rfl

/-- The point's running sums are those of its three results. -/
theorem sums_at (t : Fin cfg0.N) (s1 : Carry) (A : After ((hd P s t.val).tile (t.val % 4)) 0 s1.1 s1.2) :
    Sums P s t s1.2 (k0_pay148 s1.1) (k0_pay1 s1.2 (iblk m c 3 t) (k0_pay149 (iblk m c 3 t)) k0_pay150) := by
  have ho : ∀ r d, s1.2 (ix2 r d) = ((hd P s t.val).o (1024 * (t.val % 4) + r.val) d : EReal) := by
    intro r d
    rw [A.hacc, show part ((hd P s t.val).tile (t.val % 4)) r d 0 = 0 from rfl, sub_zero]
    rfl
  refine ⟨ho, ?_, ?_⟩
  · intro r
    rw [lt_apply, A.hcl, show ((hd P s t.val).tile (t.val % 4)).pre r 0 = 0 from rfl, sub_zero]
    rfl
  · intro r d
    rw [gated_apply, ho, blk_g m c t, hP, at2_up, ← EReal.coe_zero, ← EReal.coe_sub, Ideal.exp_coe, ← EReal.coe_one, ← EReal.coe_add, zero_sub,
      div_real _ (SHead.one_add_exp_ne _), ← EReal.coe_mul, ← EReal.coe_mul]
    rfl

/-- After the first point of a head. -/
theorem left_first (t : Fin cfg0.N) (h0 : t.val % 4 = 0) : Left m c P s t := by
  have hT := point_at m c P s hs hP t _ _ (keys_at m c P s hs hP t) (values_at m c P s hs hP t)
  have e := outsAt0_A m c t h0
  refine ⟨?_, ?_, ?_⟩
  · intro a d
    rw [e]
    dsimp only
    rw [soutA_0]
    exact keys_at m c P s hs hP t a d
  · intro a d
    rw [e]
    dsimp only
    rw [soutA_1]
    exact values_at m c P s hs hP t a d
  · rw [e]
    dsimp only
    rw [outA_o, outA_lt, outA_g]
    exact sums_at m c P s hs hP t _ (finA_ok (H := hT) ..)

/-- After a later point of a head. -/
theorem left_later (t t' : Fin cfg0.N) (h0 : ¬t.val % 4 = 0) (ht' : t'.val = t.val - 1) (L : Left m c P s t') : Left m c P s t := by
  have hh : t'.val / 4 = t.val / 4 := by omega
  obtain ⟨n', hn'⟩ := t'
  dsimp only at ht' hh
  subst ht'
  have hkb := L.kb
  have hvb := L.vb
  unfold hd at hkb hvb
  dsimp only at hkb hvb
  rw [hh] at hkb hvb
  have hT := point_at m c P s hs hP t _ _ hkb hvb
  have e := outsAt0_B m c t h0
  refine ⟨?_, ?_, ?_⟩
  · intro a d
    rw [e]
    exact hkb a d
  · intro a d
    rw [e]
    exact hvb a d
  · rw [e]
    dsimp only
    rw [outB_o, outB_lt, outB_g]
    exact sums_at m c P s hs hP t _ (finB_ok (H := hT) ..)

/-- After every point. -/
theorem left : ∀ t : Fin cfg0.N, Left m c P s t := by
  intro ⟨n, hn⟩
  induction n with
  | zero => exact left_first m c P s hs hP _ rfl
  | succ n ih =>
    by_cases h0 : (n + 1) % 4 = 0
    · exact left_first m c P s hs hP _ h0
    · exact left_later m c P s hs hP _ ⟨n, Nat.lt_of_succ_lt hn⟩ h0 rfl (ih _)

omit hs hP

theorem G4_at (i : S4096x2048.Idx) (j : S1024x128.Idx) (t : Fin cfg0.N) (ht : pt4Of i = t.val) (hj : loc4Of i = j) :
    G4 m c i = (outsAt0 m c t.val t.isLt).1 j := by
  obtain ⟨n, hn⟩ := t
  dsimp only at ht
  subst ht
  subst hj
  unfold G4
  rw [dif_pos hn, outsAt0_sweep]

theorem G5_at (i : S16x4096x1.Idx) (j : S1x1024x1.Idx) (t : Fin cfg0.N) (ht : pt5Of i = t.val) (hj : loc5Of i = j) :
    G5 m c i = (outsAt0 m c t.val t.isLt).2.1 j := by
  obtain ⟨n, hn⟩ := t
  dsimp only at ht
  subst ht
  subst hj
  unfold G5
  rw [dif_pos hn, outsAt0_sweep]

theorem G6_at (i : S4096x2048.Idx) (j : S1024x128.Idx) (t : Fin cfg0.N) (ht : pt6Of i = t.val) (hj : loc6Of i = j) :
    G6 m c i = (outsAt0 m c t.val t.isLt).2.2.1 j := by
  obtain ⟨n, hn⟩ := t
  dsimp only at ht
  subst ht
  subst hj
  unfold G6
  rw [dif_pos hn, outsAt0_sweep]

/-- The point of a head and a row. -/
def ptRow (h : Fin 16) (n : Fin 4096) : Fin cfg0.N := ⟨4 * h.val + n.val / 1024, show _ < 64 by omega⟩

theorem ptRow_div (h : Fin 16) (n : Fin 4096) : (ptRow h n).val / 4 = h.val := show (4 * h.val + n.val / 1024) / 4 = _ by omega

theorem ptRow_mod (h : Fin 16) (n : Fin 4096) : (ptRow h n).val % 4 = n.val / 1024 := show (4 * h.val + n.val / 1024) % 4 = _ by omega

theorem row_split (n : Fin 4096) : 1024 * (n.val / 1024) + n.val % 1024 = n.val := by omega

include hs hP

/-- The attention's output. -/
theorem o_at (n : Fin 4096) (h : Fin 16) (d : Fin 128) :
    G4 m c (ix2 n (col h d)) = ((headR P (fun _ => 0) s h.val).o n.val d : EReal) := by
  have hn : n.val % 1024 < 1024 := Nat.mod_lt _ (by decide)
  rw [G4_at m c _ (ix2 ⟨n.val % 1024, hn⟩ d) (ptRow h n)
    (show 1 * (n.val / 1024 - 0) + 4 * ((128 * h.val + d.val) / 128 - 0) = 4 * h.val + n.val / 1024 by omega)
    (by funext a; fin_cases a <;> refine Fin.ext ?_ <;> first | rfl | (show (128 * h.val + d.val) % 128 = d.val; omega)),
    (left m c P s hs hP (ptRow h n)).sums.o]
  unfold hd
  dsimp only
  rw [ptRow_div, ptRow_mod, row_split]

/-- The totals of the rows. -/
theorem lt_at (n : Fin 4096) (h : Fin 16) :
    G5 m c (ix3 h n 0) = ((headR P (fun _ => 0) s h.val).lt n.val : EReal) := by
  have hn : n.val % 1024 < 1024 := Nat.mod_lt _ (by decide)
  rw [G5_at m c _ (ix3 0 ⟨n.val % 1024, hn⟩ 0) (ptRow h n)
    (show 4 * (h.val / 1 - 0) + 1 * (n.val / 1024 - 0) + 1 * (0 / 1 - 0) = 4 * h.val + n.val / 1024 by omega)
    (by funext a; fin_cases a <;> refine Fin.ext ?_ <;> first | rfl | (show h.val % 1 = 0; omega)),
    (left m c P s hs hP (ptRow h n)).sums.l]
  unfold hd
  dsimp only
  rw [ptRow_div, ptRow_mod, row_split]

/-- The gated output. -/
theorem gated_at (n : Fin 4096) (h : Fin 16) (d : Fin 128) :
    G6 m c (ix2 n (col h d)) = (((headR P (fun _ => 0) s h.val).o n.val d
      * ((headR P (fun _ => 0) s h.val).g n.val d * (headR P (fun _ => 0) s h.val).sg n.val d) : ℝ) : EReal) := by
  have hn : n.val % 1024 < 1024 := Nat.mod_lt _ (by decide)
  rw [G6_at m c _ (ix2 ⟨n.val % 1024, hn⟩ d) (ptRow h n)
    (show 1 * (n.val / 1024 - 0) + 4 * ((128 * h.val + d.val) / 128 - 0) = 4 * h.val + n.val / 1024 by omega)
    (by funext a; fin_cases a <;> refine Fin.ext ?_ <;> first | rfl | (show (128 * h.val + d.val) % 128 = d.val; omega)),
    (left m c P s hs hP (ptRow h n)).sums.g]
  unfold hd
  dsimp only
  rw [ptRow_div, ptRow_mod, row_split]

end Cert.Kernel21Ideal.SbF
-- ==== Proof.SbFwdEquation.lean ====
module

public import proofs.«01_k».proof.Proof.SbFwdGrid
public import proofs.«01_k».proof.Proof.Gen.Reference21Ideal.Read
public import proofs.«01_k».proof.Proof.RefReal
public import proofs.«01_k».proof.Proof.Equation
public import proofs.«01_k».proof.Proof.Finite
public import proofs.«01_k».proof.Pre_finite21

/-!
# The equation of the forward attention

On finite inputs the forward kernel's three results are its reference's.
-/

@[expose] public section

set_option maxRecDepth 16384

noncomputable section

namespace Cert.Kernel21Ideal.SbF

open Idealize.ShloMosaic Idealize.ShloMosaic.TcCoe Idealize.ShloMosaic.Tactic Cert.Kernel21Ideal Cert.Kernel21Ideal.Gen
open Cert.KernelIdeal.Block (coe_sum div_real col col_surj up real_of_all bits_one)
open Cert.Kernel2Ideal.Sb (SHead headR scale_real hO hLt hWhere hE hZ hSkip hO_real hLt_skip)

open Cert.Reference21Ideal.Read Cert.Kernel21Ideal.Value

/-- The precondition's side conditions. -/
theorem preFacts : Cert.Pre_finite21.Facts where
  bcast_S_S4096x8192 := by decide
  reducesTo_S4096x8192_S_d0_1 := by decide
  h_S_ := by decide

/-- The input is an array of real numbers. -/
theorem real_of_pre [Cert.Pre_finite21.Facts] (x0 : FVec Ideal Cert.Pre_finite21.S4096x8192 .f32)
    (h : Cert.Pre_finite21.fn (F := Ideal) x0 = fun _ => 1#1) : x0 = fun i => ((x0 i).toReal : EReal) := by
  let j : (⟨0, ![]⟩ : Shape).Idx := fun k => k.elim0
  exact real_of_all x0 Cert.Pre_finite21.Facts.bcast_S_S4096x8192 Cert.Pre_finite21.Facts.reducesTo_S4096x8192_S_d0_1 Cert.Pre_finite21.Facts.h_S_ j (congrFun h j)

/-- The reference's output is that of its weights. -/
theorem ref_O (x0 : FVec Ideal S4096x8192 .f32) : val_main_v31 (F := Ideal) x0 = hO (hWhere (hE (hZ x0))) x0 := rfl

/-- The reference's totals are those of its logarithms. -/
theorem ref_lt (x0 : FVec Ideal S4096x8192 .f32) : val_main_v33 (F := Ideal) x0 = hLt (hSkip (hZ x0)) := rfl

section Reference

variable (P : S4096x8192.Idx → ℝ) (s : ℝ) (h : Fin 16) (n : Fin 4096) (d : Fin 128)

/-- The reference's gate. -/
theorem ref_g : val_main_v3 (F := Ideal) (up P) (ix2 n (col h d)) = ((headR P (fun _ => 0) s h.val).g n.val d : EReal) := by
  have e : (headR P (fun _ => 0) s h.val).g n.val d = P (ix2 n ⟨6144 + 128 * h.val + d.val, by omega⟩) :=
    dif_pos ⟨n.isLt, by omega⟩
  rw [val_main_v3_apply, e]
  show ((P _ : ℝ) : EReal) = ((P _ : ℝ) : EReal)
  congr 2
  funext a
  fin_cases a
  · apply Fin.ext
    simp [col]
  · apply Fin.ext
    simp [col]
    omega

/-- The sigmoid of the reference's gate. -/
theorem ref_sg : val_main_call5_v5 (F := Ideal) (up P) (ix2 n (col h d)) = ((headR P (fun _ => 0) s h.val).sg n.val d : EReal) := by
  rw [val_main_call5_v5_apply, val_main_call5_v3_apply, val_main_call5_v1_apply, val_main_call5_v0_apply, ref_g P s,
    val_main_call5_v2_apply, val_main_call5_v4_apply, val_main_call5_cst_apply, val_main_call5_cst_0_apply]
  show Ideal.div (Ideal.ofBits .f32 0x3F800000#32) (Ideal.ofBits .f32 0x3F800000#32 + Ideal.exp (-(((headR P (fun _ => 0) s h.val).g n.val d : ℝ) : EReal))) = _
  rw [bits_one, ← EReal.coe_neg, Ideal.exp_coe, ← EReal.coe_one, ← EReal.coe_add, div_real _ (SHead.one_add_exp_ne _)]
  rfl

/-- The reference's gated output. -/
theorem ref_gated (hs : Ideal.ofBits .f32 0x3DB504F3#32 = (s : EReal)) :
    val_main_v36 (F := Ideal) (up P) (ix2 n (col h d)) = (((headR P (fun _ => 0) s h.val).o n.val d
      * ((headR P (fun _ => 0) s h.val).g n.val d * (headR P (fun _ => 0) s h.val).sg n.val d) : ℝ) : EReal) := by
  have ho : val_main_v31 (F := Ideal) (up P) (ix2 n (col h d)) = ((headR P (fun _ => 0) s h.val).o n.val d : EReal) := by
    rw [ref_O]
    exact hO_real P (fun _ => 0) s hs h n d
  rw [val_main_v36_apply, val_main_v35_apply, val_main_v34_apply, ho, ref_g P s, ref_sg P s]
  show _ * (_ * _) = _
  rw [← EReal.coe_mul, ← EReal.coe_mul]

end Reference

variable (m : (ℓ : Loc nD τ sig) → Buf (Elt Ideal) ℓ) (c : Dev nD)
variable (P : S4096x8192.Idx → ℝ) (hP : m ((c : Thread nD τ).loc main_arg0) = up P)
include hP

/-- The attention's output. -/
theorem eq_o : val_main_v31 (F := Ideal) (up P) = G4 m c := by
  obtain ⟨s, hs⟩ := scale_real
  funext i
  obtain ⟨n, h, d, rfl⟩ := col_surj i
  rw [o_at m c P s hs hP n h d, ref_O]
  exact hO_real P (fun _ => 0) s hs h n d

/-- The totals of the rows. -/
theorem eq_lt : val_main_v33 (F := Ideal) (up P) = G5 m c := by
  obtain ⟨s, hs⟩ := scale_real
  funext i
  obtain ⟨h, n, rfl⟩ : ∃ (h : Fin 16) (n : Fin 4096), i = ix3 h n 0 :=
    ⟨i 0, i 1, by funext a; fin_cases a <;> first | rfl | exact Subsingleton.elim (α := Fin 1) _ _⟩
  rw [lt_at m c P s hs hP n h, ref_lt]
  exact hLt_skip P (fun _ => 0) s hs h n

/-- The gated output. -/
theorem eq_gated : val_main_v36 (F := Ideal) (up P) = G6 m c := by
  obtain ⟨s, hs⟩ := scale_real
  funext i
  obtain ⟨n, h, d, rfl⟩ := col_surj i
  exact (ref_gated P s h n d hs).trans (gated_at m c P s hs hP n h d).symm

end Cert.Kernel21Ideal.SbF
-- ==== Proof.FgFwdBlock.lean ====
module

public import proofs.«01_k».proof.Proof.KernelReal
public import proofs.«01_k».proof.Proof.Gen.Kernel22Ideal.Skeleton

/-!
# One block of the forgetting attention's forward pass

The kernel goes through the columns in blocks of 512. For each row it hands on a shift, the sum of the weights under that shift, and the
sum of the weighted values under it. Here: what a block computes, and that after it the sums are those of the columns up to its end,
whatever real number the shift has become.
-/

@[expose] public section

set_option maxRecDepth 16384

noncomputable section

namespace Cert.Kernel22Ideal.FgF

open Idealize.ShloMosaic Cert.Kernel22Ideal Cert.Kernel22Ideal.Gen
open Cert.KernelIdeal.Block (coe_sum div_real bits_bot)

/-- What is handed on between the blocks: the shift, the sum of the weights, the sum of the weighted values. -/
abbrev Carry : Type := FVec Ideal S1024x1 .f32 × FVec Ideal S1024x1 .f32 × FVec Ideal S1024x128 .f32

section Block

variable (z : FVec Ideal S1024x512 .f32) (m l : FVec Ideal S1024x1 .f32) (acc : FVec Ideal S1024x128 .f32) (vv : Vec Ideal S512x128 .bf16)

/-- The shift after the block. -/
def bM : FVec Ideal S1024x1 .f32 :=
  maximumf m (shapeCast S1024x1 (multiReduction .maximumf [1] S1024 z 0xFF800000#32 reduces_S1024x512_S1024 (.inl rfl) rfl) shapeCasts_S1024_S1024x1)

/-- What the sums so far are scaled by. -/
def bA : FVec Ideal S1024x1 .f32 := exp (subf m (bM z m))

/-- The block's weights under the shift. -/
def bP : FVec Ideal S1024x512 .f32 := exp (subf z (broadcastTo S1024x512 (bM z m) broadcasts_S1024x1_S1024x512))

/-- The sum of the weights after the block. -/
def bL : FVec Ideal S1024x1 .f32 :=
  addf (mulf (bA z m) l)
    (shapeCast S1024x1 (multiReduction .add [1] S1024 (bP z m) 0x00000000#32 reduces_S1024x512_S1024 (.inl rfl) rfl) shapeCasts_S1024_S1024x1)

/-- The sum of the weighted values after the block. -/
def bAcc : FVec Ideal S1024x128 .f32 :=
  addf (mulf (broadcastTo S1024x128 (bA z m) broadcasts_S1024x1_S1024x128) acc)
    (matmul (φ₂ := .bf16) dot_S1024x512_S512x128_S1024x128_1_0_0_1_n_n none (truncf .bf16 (bP z m) bitsLt_bf16_f32) vv
      (constant S1024x128 .f32 0x00000000#32))

/-- A block's work on what is handed on. -/
def step (s : Carry) : Carry := (bM z s.1, bL z s.1 s.2.1, bAcc z s.1 s.2.2 vv)

theorem bM_apply (r : Fin 1024) :
    bM z m (ix2 r 0) = max (m (ix2 r 0)) ((Finset.univ : Finset (Fin 512)).fold max ⊥ fun c => z (ix2 r c)) := by
  have e : multiReduction .maximumf [1] S1024 z 0xFF800000#32 reduces_S1024x512_S1024 (.inl rfl) rfl (ix1 r)
      = (Finset.univ : Finset (Fin 512)).fold max ⊥ fun c => z (ix2 r c) := by
    refine (Ideal.multiReduction_maximumf_single z _ reduces_S1024x512_S1024 (.inl rfl) rfl _).trans ?_
    show Finset.fold max (Ideal.ofBits .f32 0xFF800000#32) _ (Finset.univ : Finset (Fin 512)) = _
    rw [bits_bot]
    congr 1
    funext k
    show z _ = z _
    congr 1
    funext a
    fin_cases a <;> rfl
  rw [← e]
  pointwise [bM]

theorem bA_apply (r : Fin 1024) : bA z m (ix2 r 0) = Ideal.exp (m (ix2 r 0) - bM z m (ix2 r 0)) := by
  pointwise [bA]

theorem bP_apply (r : Fin 1024) (c : Fin 512) : bP z m (ix2 r c) = Ideal.exp (z (ix2 r c) - bM z m (ix2 r 0)) := by
  pointwise [bP]

theorem bL_apply (r : Fin 1024) : bL z m l (ix2 r 0) = bA z m (ix2 r 0) * l (ix2 r 0) + ∑ c : Fin 512, bP z m (ix2 r c) := by
  pointwise [bL]

theorem bAcc_apply (r : Fin 1024) (d : Fin 128) :
    bAcc z m acc vv (ix2 r d) = bA z m (ix2 r 0) * acc (ix2 r d) + ∑ c : Fin 512, bP z m (ix2 r c) * vv (ix2 c d) := by
  pointwise [bAcc]

end Block

/-- The scores before the mask. -/
theorem raw_apply (q : FVec Ideal S1024x128 .bf16) (cr : FVec Ideal S1024x1 .f32) (kk : Vec Ideal S512x128 .bf16) (cc : Vec Ideal S1x1x512 .f32)
    (r : Fin 1024) (c : Fin 512) :
    k0_pay3 q cr kk cc (ix2 r c) = (∑ x : Fin 128, q (ix2 r x) * kk (ix2 c x)) + cr (ix2 r 0) - cc (ix3 0 0 c) := by
  pointwise [k0_pay3]

/-- The queries, scaled. -/
theorem qs_apply (q : Vec Ideal S1024x128 .f32) (r : Fin 1024) (d : Fin 128) :
    k0_pay19 q (ix2 r d) = q (ix2 r d) * Ideal.ofBits .f32 0x3DB504F3#32 := by
  pointwise [k0_pay19]

/-- The keys, the values and the rows' bias are kept as they are, and the sums start at zero under the shift `−∞`. -/
theorem kb_apply (k : Vec Ideal S4096x128 .f32) (c : Fin 4096) (d : Fin 128) : k0_pay17 k (ix2 c d) = k (ix2 c d) := by
  pointwise [k0_pay17]

theorem vb_apply (k : Vec Ideal S4096x128 .f32) (c : Fin 4096) (d : Fin 128) : k0_pay18 k (ix2 c d) = k (ix2 c d) := by
  pointwise [k0_pay18]

theorem cr_apply (x : Vec Ideal S1x1024x1 .f32) (r : Fin 1024) : k0_pay20 x (ix2 r 0) = x (ix3 0 r 0) := by
  pointwise [k0_pay20]

/-- The value of the kernel's mask is `−∞`. -/
theorem mask_eq : (Named.named (F := Ideal) κ "mask" (0xF149F2CA#32 : BitVec 32) : Ideal .f32) = (⊥ : EReal) :=
  IdealRules.named_const.ideal_named_scalar _ _ _ _ rfl

theorem init_m (r : Fin 1024) : k0_pay21 (F := Ideal) (ix2 r 0) = ⊥ := by
  rw [← mask_eq]
  pointwise [k0_pay21]

theorem init_l (r : Fin 1024) : k0_pay22 (F := Ideal) (ix2 r 0) = 0 := by
  pointwise [k0_pay22]

theorem init_acc (r : Fin 1024) (d : Fin 128) : k0_pay23 (F := Ideal) (ix2 r d) = 0 := by
  pointwise [k0_pay23]

/-- The rows' log-sums, as they are stored. -/
theorem lse_apply (l : FVec Ideal S1024x1 .f32) (r : Fin 1024) : k0_pay1 l (ix3 0 r 0) = l (ix2 r 0) := by
  pointwise [k0_pay1]

/-- The gated output. -/
theorem gated_apply (o : FVec Ideal S1024x128 .f32) (g : Vec Ideal S1024x128 .f32) (r : Fin 1024) (d : Fin 128) :
    k0_pay2 o g (ix2 r d) = o (ix2 r d) * (g (ix2 r d) * Ideal.div 1 (1 + Ideal.exp (0 - g (ix2 r d)))) := by
  pointwise [k0_pay2]

/-- A tile of 1024 rows: its number, the scaled queries, the keys and the values, and the bias of its rows and of the columns. -/
structure FTile where
  i : ℕ
  qs : Fin 1024 → Fin 128 → ℝ
  K : ℕ → Fin 128 → ℝ
  V : ℕ → Fin 128 → ℝ
  br : Fin 1024 → ℝ
  bc : ℕ → ℝ

namespace FTile

variable (T : FTile)

/-- The score of row `r` against column `c`. -/
def z (r : Fin 1024) (c : ℕ) : ℝ := (∑ d, T.qs r d * T.K c d) + T.br r - T.bc c

/-- The weight of column `c` in row `r`: nothing after the row. -/
def w (r : Fin 1024) (c : ℕ) : ℝ := if c ≤ 1024 * T.i + r.val then Real.exp (T.z r c) else 0

/-- The sum of the weights of the columns before `n`. -/
def S (r : Fin 1024) (n : ℕ) : ℝ := ∑ c ∈ Finset.range n, T.w r c

/-- The sum of their weighted values. -/
def A (r : Fin 1024) (d : Fin 128) (n : ℕ) : ℝ := ∑ c ∈ Finset.range n, T.w r c * T.V c d

end FTile

/-- The sums of the columns before `n`, under the shift `μ`. -/
structure Under (T : FTile) (n : ℕ) (r : Fin 1024) (μ : ℝ) (s : Carry) : Prop where
  hm : s.1 (ix2 r 0) = (μ : EReal)
  hl : s.2.1 (ix2 r 0) = ((T.S r n * Real.exp (-μ) : ℝ) : EReal)
  hacc : ∀ d, s.2.2 (ix2 r d) = ((T.A r d n * Real.exp (-μ) : ℝ) : EReal)

/-- Before any column: no shift, and empty sums. -/
structure Empty (r : Fin 1024) (s : Carry) : Prop where
  hm : s.1 (ix2 r 0) = ⊥
  hl : s.2.1 (ix2 r 0) = 0
  hacc : ∀ d, s.2.2 (ix2 r d) = 0

/-- What is handed on once the columns before `n` have been treated. -/
def After (T : FTile) (n : ℕ) (s : Carry) : Prop := ∀ r, (n = 0 ∧ Empty r s) ∨ ∃ μ : ℝ, Under T n r μ s

theorem after_start (T : FTile) : After T 0 (k0_pay21, k0_pay22, k0_pay23) := fun r => .inl ⟨rfl, init_m r, init_l r, init_acc r⟩

/-- A sum over the columns before the end of a block. -/
theorem sum_block (f : ℕ → ℝ) (o : ℕ) : ∑ c ∈ Finset.range (o + 512), f c = ∑ c ∈ Finset.range o, f c + ∑ c : Fin 512, f (o + c.val) := by
  rw [Finset.sum_range_add, Finset.sum_range (fun x => f (o + x))]

/-- What holds of the scores of the block from column `o`: those after the row are `−∞`, the others are the tile's. -/
def Scores (T : FTile) (o : ℕ) (z : FVec Ideal S1024x512 .f32) : Prop :=
  ∀ (r : Fin 1024) (c : Fin 512), z (ix2 r c) = if o + c.val ≤ 1024 * T.i + r.val then ((T.z r (o + c.val) : ℝ) : EReal) else ⊥

section Step

variable {T : FTile} {o : ℕ} {z : FVec Ideal S1024x512 .f32} (hz : Scores T o z)
include hz

/-- The shift after a block is a real number, if it was one or the row has a column in the block. -/
theorem shift_real (r : Fin 1024) (m : FVec Ideal S1024x1 .f32) (h : (m (ix2 r 0) = ⊥ ∧ o = 0) ∨ ∃ μ : ℝ, m (ix2 r 0) = μ) :
    ∃ μ : ℝ, bM z m (ix2 r 0) = μ := by
  have ht : ∀ c, z (ix2 r c) ≠ ⊤ := by
    intro c
    rw [hz]
    split
    · exact EReal.coe_ne_top _
    · exact bot_ne_top
  have hf : (Finset.univ : Finset (Fin 512)).fold max ⊥ (fun c => z (ix2 r c)) ≠ ⊤ :=
    ne_of_lt ((Finset.fold_max_lt _).mpr ⟨bot_lt_top, fun c _ => lt_of_le_of_ne le_top (ht c)⟩)
  have h1 : bM z m (ix2 r 0) ≠ ⊤ := by
    rw [bM_apply]
    refine ne_of_lt (max_lt ?_ (lt_of_le_of_ne le_top hf))
    rcases h with ⟨h, -⟩ | ⟨μ, h⟩
    · rw [h]
      exact bot_lt_top
    · rw [h]
      exact EReal.coe_lt_top _
  have h2 : bM z m (ix2 r 0) ≠ ⊥ := by
    rw [bM_apply]
    refine ne_of_gt (lt_max_iff.mpr ?_)
    rcases h with ⟨-, h⟩ | ⟨μ, h⟩
    · refine .inr ((Finset.lt_fold_max _).mpr (.inr ⟨0, Finset.mem_univ _, ?_⟩))
      rw [hz, if_pos (by rw [h, Fin.val_zero]; omega)]
      exact EReal.bot_lt_coe _
    · refine .inl ?_
      rw [h]
      exact EReal.bot_lt_coe _
  exact ⟨_, (EReal.coe_toReal h1 h2).symm⟩

/-- A block's weights under a shift. -/
theorem weight (r : Fin 1024) (c : Fin 512) (m : FVec Ideal S1024x1 .f32) (μ : ℝ) (hμ : bM z m (ix2 r 0) = μ) :
    bP z m (ix2 r c) = ((T.w r (o + c.val) * Real.exp (-μ) : ℝ) : EReal) := by
  rw [bP_apply, hμ, hz]
  unfold FTile.w
  split
  · rw [← EReal.coe_sub, Ideal.exp_coe, sub_eq_add_neg, Real.exp_add]
  · rw [EReal.bot_sub, Ideal.exp_bot, zero_mul]
    rfl

/-- After a block the sums are those of the columns up to its end. -/
theorem step_ok (s : Carry) (hs : After T o s) {vv : Vec Ideal S512x128 .bf16} (hv : ∀ c d, vv (ix2 c d) = ((T.V (o + c.val) d : ℝ) : EReal)) :
    After T (o + 512) (step z vv s) := by
  intro r
  obtain ⟨μ', hμ'⟩ := shift_real hz r s.1 (by
    rcases hs r with ⟨h0, h⟩ | ⟨μ, h⟩
    · exact .inl ⟨h.hm, h0⟩
    · exact .inr ⟨μ, h.hm⟩)
  have old : bA z s.1 (ix2 r 0) * s.2.1 (ix2 r 0) = ((T.S r o * Real.exp (-μ') : ℝ) : EReal)
      ∧ ∀ d, bA z s.1 (ix2 r 0) * s.2.2 (ix2 r d) = ((T.A r d o * Real.exp (-μ') : ℝ) : EReal) := by
    rcases hs r with ⟨h0, h⟩ | ⟨μ, h⟩
    · subst h0
      refine ⟨?_, fun d => ?_⟩
      · rw [h.hl, mul_zero, show T.S r 0 = 0 from rfl, zero_mul]
        rfl
      · rw [h.hacc, mul_zero, show T.A r d 0 = 0 from rfl, zero_mul]
        rfl
    · have ha : bA z s.1 (ix2 r 0) = ((Real.exp (μ - μ') : ℝ) : EReal) := by
        rw [bA_apply, hμ', h.hm, ← EReal.coe_sub, Ideal.exp_coe]
      have e : ∀ x : ℝ, Real.exp (μ - μ') * (x * Real.exp (-μ)) = x * Real.exp (-μ') := by
        intro x
        rw [mul_left_comm, ← Real.exp_add]
        congr 2
        ring
      refine ⟨?_, fun d => ?_⟩
      · rw [ha, h.hl, ← EReal.coe_mul, e]
      · rw [ha, h.hacc, ← EReal.coe_mul, e]
  refine .inr ⟨μ', hμ', ?_, fun d => ?_⟩
  · show bL z s.1 s.2.1 (ix2 r 0) = _
    rw [bL_apply, old.1]
    simp only [weight hz r _ s.1 μ' hμ']
    rw [← coe_sum, ← EReal.coe_add, ← Finset.sum_mul, ← add_mul]
    unfold FTile.S
    rw [sum_block]
  · show bAcc z s.1 s.2.2 vv (ix2 r d) = _
    rw [bAcc_apply, old.2]
    have e : ∀ c : Fin 512, bP z s.1 (ix2 r c) * vv (ix2 c d) = ((T.w r (o + c.val) * T.V (o + c.val) d * Real.exp (-μ') : ℝ) : EReal) := by
      intro c
      rw [weight hz r _ s.1 μ' hμ', hv, ← EReal.coe_mul, mul_right_comm]
    simp only [e]
    rw [← coe_sum, ← EReal.coe_add, ← Finset.sum_mul, ← add_mul]
    unfold FTile.A
    rw [sum_block (fun c => T.w r c * T.V c d)]

end Step

end Cert.Kernel22Ideal.FgF
-- ==== Proof.FgFwdLoop.lean ====
module

public import proofs.«01_k».proof.Proof.FgFwdBlock
public import proofs.«01_k».proof.Proof.Diag
public import proofs.«01_k».proof.Proof.Gen.Kernel22Ideal.Loops

/-!
# The forgetting attention's forward pass of a tile of 1024 rows

First a loop over the pairs of blocks before the diagonal, then the two blocks on the diagonal, with the mask. After all of them the sums
are the tile's whole sums.
-/

@[expose] public section

set_option maxRecDepth 16384

noncomputable section

namespace Cert.Kernel22Ideal.FgF

open Idealize.ShloMosaic Idealize.ShloMosaic.TcCoe Idealize.ShloMosaic.Tactic Cert.Kernel22Ideal Cert.Kernel22Ideal.Gen
open Cert.KernelIdeal.Block (iota0_apply iota1_apply select_tile word_row word_col0 word_col1 readAt_rows readAt_cols)

/-- The tile of number `i` makes `i` trips. -/
theorem trips_eq : ∀ i : grid0.Coords, (k0_t1_loop i).trips = (i 1).val := by decide +kernel

/-- The numbers of the rows, and of the columns of a block. -/
abbrev iota0 : IVec S1024x512 32 := iota Kind.tc S1024x512 32 [0] iota_S1024x512_d0_w32
abbrev iota1 : IVec S1024x512 32 := iota Kind.tc S1024x512 32 [1] iota_S1024x512_d1_w32

variable (i : grid0.Coords)

/-- The mask of the diagonal's block `u`. -/
def dgSel (u : BitVec 32) (x : FVec Ideal S1024x512 .f32) : FVec Ideal S1024x512 .f32 :=
  select (cmpi .sle (addi iota1 (broadcast S1024x512 (Scalar.muli (Scalar.addi (Scalar.muli (BitVec.ofNat 32 (i 1).val) 2#32) u) 512#32)))
    (addi iota0 (broadcast S1024x512 (Scalar.muli (BitVec.ofNat 32 (i 1).val) 1024#32)))) x
    (broadcast S1024x512 (Named.named (F := Ideal) κ "mask" (0xF149F2CA#32 : BitVec 32) : Ideal .f32))

theorem dgSel_apply {u : BitVec 32} {o : ℕ} (hu : Scalar.muli (Scalar.addi (Scalar.muli (BitVec.ofNat 32 (i 1).val) 2#32) u) 512#32 = BitVec.ofNat 32 o)
    (ho : o + 512 ≤ 4096) (x : FVec Ideal S1024x512 .f32) (r : Fin 1024) (c : Fin 512) :
    dgSel i u x (ix2 r c) = if o + c.val ≤ 1024 * (i 1).val + r.val then x (ix2 r c) else ⊥ := by
  rw [← mask_eq]
  exact select_tile iota0_apply iota1_apply (word_row i) hu (i 1).isLt ho r c _ _

variable (𝒱 : Variants) (c : Dev nD) (bd : Option 𝒱.V)
  (arg2 : Memref sig .tc .vmem S1024x128 .f32) (harg2 : arg2.IsWhole)
  (arg3 : Memref sig .tc .vmem S4096x128 .f32) (harg3 : arg3.IsWhole)
  (arg4 : Memref sig .tc .vmem S4096x128 .f32) (harg4 : arg4.IsWhole)
  (arg5 : Memref sig .tc .vmem S1024x128 .f32) (harg5 : arg5.IsWhole)
  (arg6 : Memref sig .tc .vmem S1x1024x1 .f32) (harg6 : arg6.IsWhole)
  (arg7 : Memref sig .tc .vmem S1x8x512 .f32) (harg7 : arg7.IsWhole)
  (arg8 : Memref sig .tc .vmem S1024x128 .f32) (harg8 : arg8.IsWhole)
  (arg9 : Memref sig .tc .vmem S1x1024x1 .f32) (harg9 : arg9.IsWhole)
  (arg10 : Memref sig .tc .vmem S1024x128 .bf16) (harg10 : arg10.IsWhole)
  (arg11 : Memref sig .tc .vmem S4096x128 .bf16) (harg11 : arg11.IsWhole)
  (arg12 : Memref sig .tc .vmem S4096x128 .bf16) (harg12 : arg12.IsWhole)
  (w : BitVec 32) (q : FVec Ideal S1024x128 .bf16) (cr : FVec Ideal S1024x1 .f32)
  (X7 : BufTy.Contents (Elt Ideal) arg7.view.ty) (X11 : BufTy.Contents (Elt Ideal) arg11.view.ty)
  (X12 : BufTy.Contents (Elt Ideal) arg12.view.ty)

/-- A block's work: the keys and the values of the rows from `off`, the bias of the columns at `offc`, and the mask. -/
def blockAt (sel : FVec Ideal S1024x512 .f32 → FVec Ideal S1024x512 .f32) {off : Fin 2 → ℕ} (inb : ∀ a, off a + S512x128.size a ≤ S4096x128.size a)
    {offc : Fin 3 → ℕ} (inbc : ∀ a, offc a + S1x1x512.size a ≤ S1x8x512.size a) (s : Carry) : Carry :=
  step (sel (k0_pay3 q cr (View.readAt (Elt Ideal) arg11.view (Rect.unit (s := S4096x128) off S512x128.size inb).toLoadRect X11)
      (View.readAt (Elt Ideal) arg7.view (Rect.unit (s := S1x8x512) offc S1x1x512.size inbc).toLoadRect X7)))
    (View.readAt (Elt Ideal) arg12.view (Rect.unit (s := S4096x128) off S512x128.size inb).toLoadRect X12) s

/-- What a trip hands on. -/
theorem tripR_eq (k : Fin (k0_t1_loop i).trips) (s : Carry) :
    tripR_k0_t1 (F := Ideal) 𝒱 c bd i _ harg2 _ harg3 _ harg4 _ harg5 _ harg6 _ harg7 _ harg8 _ harg9 _ harg10 _ harg11 _ harg12 (BitVec.ofNat 32 (i 1).val) q (Scalar.muli (BitVec.ofNat 32 (i 1).val) 1024#32) iota0 iota1 cr k0_pay21 k0_pay22 k0_pay23 0#32 w 1#32 X7 X11 X12 k s
      = blockAt arg7 arg11 arg12 q cr X7 X11 X12 id (k0_off1_inb i k 1) (k0_off2_inb i k 1)
          (blockAt arg7 arg11 arg12 q cr X7 X11 X12 id (k0_off1_inb i k 0) (k0_off2_inb i k 0) s) := by
  unfold tripR_k0_t1 trip_k0_t1
  rfl

/-- What the loop hands on before trip `n`. -/
abbrev loopAt (n : ℕ) : Carry :=
  st_k0_t1 (F := Ideal) 𝒱 c bd i _ harg2 _ harg3 _ harg4 _ harg5 _ harg6 _ harg7 _ harg8 _ harg9 _ harg10 _ harg11 _ harg12 (BitVec.ofNat 32 (i 1).val) q (Scalar.muli (BitVec.ofNat 32 (i 1).val) 1024#32) iota0 iota1 cr k0_pay21 k0_pay22 k0_pay23 0#32 w 1#32 X7 X11 X12 (k0_pay21, k0_pay22, k0_pay23) n

/-- What a point ends with: the two blocks on the diagonal come after the loop. -/
def endAt : Carry :=
  blockAt arg7 arg11 arg12 q cr X7 X11 X12 (dgSel i 1#32) (k0_off5_inb i 1) (k0_off6_inb i 1)
    (blockAt arg7 arg11 arg12 q cr X7 X11 X12 (dgSel i 0#32) (k0_off5_inb i 0) (k0_off6_inb i 0)
      (loopAt i 𝒱 c bd _ harg2 _ harg3 _ harg4 _ harg5 _ harg6 _ harg7 _ harg8 _ harg9 _ harg10 _ harg11 _ harg12 w q cr X7 X11 X12 (k0_t1_loop i).trips))

/-- A tile's arrays as a point finds them. -/
structure PointOk (T : FTile) (C : Vec Ideal S1x8x512 .f32) (K V : Vec Ideal S4096x128 .bf16) : Prop where
  hi : T.i = (i 1).val
  hq : ∀ r d, q (ix2 r d) = ((T.qs r d : ℝ) : EReal)
  hr : ∀ r, cr (ix2 r 0) = ((T.br r : ℝ) : EReal)
  hk : ∀ (a : Fin 4096) d, K (ix2 a d) = ((T.K a.val d : ℝ) : EReal)
  hv : ∀ (a : Fin 4096) d, V (ix2 a d) = ((T.V a.val d : ℝ) : EReal)
  hc : ∀ (b : Fin 8) (j : Fin 512), C (ix3 0 b j) = ((T.bc (512 * b.val + j.val) : ℝ) : EReal)

variable (T : FTile) (H : PointOk i q cr T (arg7.view.read (Elt Ideal) X7) (arg11.view.read (Elt Ideal) X11) (arg12.view.read (Elt Ideal) X12))
include H

/-- After a block the sums are those of the columns up to its end. -/
theorem block_ok {sel : FVec Ideal S1024x512 .f32 → FVec Ideal S1024x512 .f32} {off : Fin 2 → ℕ} (inb : ∀ a, off a + S512x128.size a ≤ S4096x128.size a)
    {offc : Fin 3 → ℕ} (inbc : ∀ a, offc a + S1x1x512.size a ≤ S1x8x512.size a) {o b : ℕ} (ho : off = ![o, 0]) (hb : offc = ![0, b, 0])
    (e : o = 512 * b) (h8 : b < 8) (hs : ∀ x r (c : Fin 512), sel x (ix2 r c) = if o + c.val ≤ 1024 * (i 1).val + r.val then x (ix2 r c) else ⊥)
    (s : Carry) (h : After T o s) : After T (o + 512) (blockAt arg7 arg11 arg12 q cr X7 X11 X12 sel inb inbc s) := by
  subst e
  refine step_ok (fun r c => ?_) s h (fun c d => (readAt_rows arg12.view X12 inb ho c d (by have := c.isLt; omega)).trans (H.hv _ d))
  rw [hs, H.hi, raw_apply, H.hr]
  have e1 : ∀ x, q (ix2 r x) * View.readAt (Elt Ideal) arg11.view (Rect.unit (s := S4096x128) off S512x128.size inb).toLoadRect X11 (ix2 c x)
      = ((T.qs r x * T.K (512 * b + c.val) x : ℝ) : EReal) := by
    intro x
    rw [EReal.coe_mul, H.hq]
    exact congrArg _ ((readAt_rows arg11.view X11 inb ho c x (by have := c.isLt; omega)).trans (H.hk _ x))
  have e2 := (readAt_cols arg7.view X7 inbc hb c h8).trans (H.hc ⟨b, h8⟩ c)
  simp only [e1]
  rw [← Cert.KernelIdeal.Block.coe_sum, ← EReal.coe_add]
  refine if_congr Iff.rfl ((congrArg _ e2).trans ?_) rfl
  rw [← EReal.coe_sub]
  rfl

/-- The sums before trip `n` of the loop. -/
theorem loop_ok (n : ℕ) (hn : n ≤ (i 1).val) : After T (1024 * n) (loopAt i 𝒱 c bd _ harg2 _ harg3 _ harg4 _ harg5 _ harg6 _ harg7 _ harg8 _ harg9 _ harg10 _ harg11 _ harg12 w q cr X7 X11 X12 n) := by
  induction n with
  | zero => exact after_start T
  | succ n ih =>
    have hlt : n < (k0_t1_loop i).trips := by rw [trips_eq]; omega
    have h4 : (i 1).val < 4 := (i 1).isLt
    have hst : loopAt i 𝒱 c bd _ harg2 _ harg3 _ harg4 _ harg5 _ harg6 _ harg7 _ harg8 _ harg9 _ harg10 _ harg11 _ harg12 w q cr X7 X11 X12 (n + 1) = _ :=
      (st_k0_t1_succ (F := Ideal) 𝒱 c bd i _ harg2 _ harg3 _ harg4 _ harg5 _ harg6 _ harg7 _ harg8 _ harg9 _ harg10 _ harg11 _ harg12 (BitVec.ofNat 32 (i 1).val) q (Scalar.muli (BitVec.ofNat 32 (i 1).val) 1024#32) iota0 iota1 cr k0_pay21 k0_pay22 k0_pay23 0#32 w 1#32 X7 X11 X12 _ ⟨n, hlt⟩).trans
        (tripR_eq i 𝒱 c bd _ harg2 _ harg3 _ harg4 _ harg5 _ harg6 _ harg7 _ harg8 _ harg9 _ harg10 _ harg11 _ harg12 w q cr X7 X11 X12 ⟨n, hlt⟩ _)
    rw [hst]
    have all : ∀ u : ℕ, u < 2 → ∀ (x : FVec Ideal S1024x512 .f32) (r : Fin 1024) (c : Fin 512),
        id x (ix2 r c) = if 1024 * n + 512 * u + c.val ≤ 1024 * (i 1).val + r.val then x (ix2 r c) else ⊥ := by
      intro u hu x r c
      have := c.isLt
      rw [if_pos (by omega)]
      rfl
    have h1 := block_ok i arg7 arg11 arg12 q cr X7 X11 X12 T H (k0_off1_inb i ⟨n, hlt⟩ 0) (k0_off2_inb i ⟨n, hlt⟩ 0) (o := 1024 * n + 512 * 0)
      (b := 2 * n + 0) (k0_off1_eq i ⟨n, hlt⟩ 0) (k0_off2_eq i ⟨n, hlt⟩ 0) (by omega) (by omega) (all 0 (by omega)) _ (ih (by omega))
    exact block_ok i arg7 arg11 arg12 q cr X7 X11 X12 T H (k0_off1_inb i ⟨n, hlt⟩ 1) (k0_off2_inb i ⟨n, hlt⟩ 1) (o := 1024 * n + 512 * 1)
      (b := 2 * n + 1) (k0_off1_eq i ⟨n, hlt⟩ 1) (k0_off2_eq i ⟨n, hlt⟩ 1) (by omega) (by omega) (all 1 (by omega)) _ h1

/-- The sums a point ends with. -/
theorem end_ok : After T (1024 * ((i 1).val + 1)) (endAt i 𝒱 c bd _ harg2 _ harg3 _ harg4 _ harg5 _ harg6 _ harg7 _ harg8 _ harg9 _ harg10 _ harg11 _ harg12 w q cr X7 X11 X12) := by
  have h4 : (i 1).val < 4 := (i 1).isLt
  have h := loop_ok i 𝒱 c bd _ harg2 _ harg3 _ harg4 _ harg5 _ harg6 _ harg7 _ harg8 _ harg9 _ harg10 _ harg11 _ harg12 w q cr X7 X11 X12 T H (i 1).val le_rfl
  unfold endAt
  rw [trips_eq]
  have h1 := block_ok i arg7 arg11 arg12 q cr X7 X11 X12 T H (k0_off5_inb i 0) (k0_off6_inb i 0) (o := 1024 * (i 1).val) (b := 2 * (i 1).val)
    (k0_off5_eq i 0) (k0_off6_eq i 0) (by omega) (by omega) (dgSel_apply i (word_col0 i) (by omega)) _ h
  exact block_ok i arg7 arg11 arg12 q cr X7 X11 X12 T H (k0_off5_inb i 1) (k0_off6_inb i 1) (o := 1024 * (i 1).val + 512) (b := 2 * (i 1).val + 1)
    (k0_off5_eq i 1) (k0_off6_eq i 1) (by omega) (by omega) (dgSel_apply i (word_col1 i) (by omega)) _ h1

end Cert.Kernel22Ideal.FgF
-- ==== Proof.FgFwdPoint.lean ====
module

public import proofs.«01_k».proof.Proof.FgFwdLoop
public import proofs.«01_k».proof.Proof.SbFwdPoint
public import proofs.«01_k».proof.Proof.Gen.Kernel22Ideal.Frame

/-!
# What a grid point of the forgetting attention's forward pass leaves

A point runs the loop over the blocks before the diagonal, then a loop over no block, then the diagonal, and writes out the output, the
log-sums and the gated output. The first point of a head also keeps the head's keys and values, which the later points read.
-/

@[expose] public section

set_option maxRecDepth 16384

noncomputable section

namespace Cert.Kernel22Ideal.FgF

open Idealize.ShloMosaic Idealize.ShloMosaic.TcCoe Idealize.ShloMosaic.Tactic Cert.Kernel22Ideal Cert.Kernel22Ideal.Gen
open Cert.Kernel2Ideal.Sb (off2 off3)
open Cert.Kernel21Ideal.SbF (load_whole read_store_whole)

/-- The second loop of the kernel has nothing to visit. -/
theorem trips2_eq (i : grid0.Coords) : Scf.trips (k0_t2_loop i).lb (k0_t2_loop i).ub (k0_t2_loop i).st = 0 :=
  Nat.le_zero.mp (k0_t2_abs i).2.1

/-- The output and the log-sums from the sums. -/
def outO (s : Carry) : FVec Ideal S1024x128 .f32 := divf s.2.2 (broadcastTo S1024x128 s.2.1 broadcasts_S1024x1_S1024x128)
def outL (s : Carry) : FVec Ideal S1024x1 .f32 := addf s.1 (log s.2.1)

theorem outO_apply (s : Carry) (r : Fin 1024) (d : Fin 128) : outO s (ix2 r d) = Ideal.div (s.2.2 (ix2 r d)) (s.2.1 (ix2 r 0)) := by
  pointwise [outO]

theorem outL_apply (s : Carry) (r : Fin 1024) : outL s (ix2 r 0) = s.1 (ix2 r 0) + Ideal.log (s.2.1 (ix2 r 0)) := by
  pointwise [outL]

variable (c : Dev nD) (i : grid0.Coords)
  (arg2 : Memref sig .tc .vmem S1024x128 .f32) (harg2 : arg2.IsWhole)
  (arg3 : Memref sig .tc .vmem S4096x128 .f32) (harg3 : arg3.IsWhole)
  (arg4 : Memref sig .tc .vmem S4096x128 .f32) (harg4 : arg4.IsWhole)
  (arg5 : Memref sig .tc .vmem S1024x128 .f32) (harg5 : arg5.IsWhole)
  (arg6 : Memref sig .tc .vmem S1x1024x1 .f32) (harg6 : arg6.IsWhole)
  (arg7 : Memref sig .tc .vmem S1x8x512 .f32) (harg7 : arg7.IsWhole)
  (arg8 : Memref sig .tc .vmem S1024x128 .f32) (harg8 : arg8.IsWhole)
  (arg9 : Memref sig .tc .vmem S1x1024x1 .f32) (harg9 : arg9.IsWhole)
  (arg10 : Memref sig .tc .vmem S1024x128 .bf16) (harg10 : arg10.IsWhole)
  (arg11 : Memref sig .tc .vmem S4096x128 .bf16) (harg11 : arg11.IsWhole)
  (arg12 : Memref sig .tc .vmem S4096x128 .bf16) (harg12 : arg12.IsWhole)
  (x0 : Vec Ideal S1024x128 .f32) (x1 x2 : Vec Ideal S4096x128 .f32) (x3 : Vec Ideal S1024x128 .f32)
  (x4 : Vec Ideal S1x1024x1 .f32) (x5 : Vec Ideal S1x8x512 .f32) (xs0 xs1 : Vec Ideal S4096x128 .bf16)

section CaseB

variable (hc0 : ¬cond0_0 i)

/-- What the loop and the diagonal hand on. -/
abbrev finB : Carry := endAt i Variants.none c none _ harg2 _ harg3 _ harg4 _ harg5 _ harg6 _ harg7 _ harg8 _ harg9 _ harg10 _ harg11 _ harg12 (kernelRun0_B.sl.v33 i) (k0_pay19 x0) (k0_pay20 x4) (harg7.unread x5) (harg11.unread xs0) (harg12.unread xs1)

/-- The weighted sum of the values over the sum of the weights is written out. -/
theorem outB_o : out0_B_6 c i _ harg2 _ harg3 _ harg4 _ harg5 _ harg6 _ harg7 _ harg8 _ harg9 _ harg10 _ harg11 _ harg12 hc0 x0 x1 x2 x3 x4 x5 xs0 xs1 = outO (finB c i _ harg2 _ harg3 _ harg4 _ harg5 _ harg6 _ harg7 _ harg8 _ harg9 _ harg10 _ harg11 _ harg12 x0 x4 x5 xs0 xs1) := by
  unfold out0_B_6 kernelRun0_B
  dsimp only
  refine (read_store_whole VO0_6 _ off2 inb_S1024x128_S1024x128_0_0 _).trans ?_
  have e : kernelRun0_B.sl.r c _ harg2 x0 = k0_pay19 x0 := congrArg k0_pay19 (load_whole harg2 x0 off2 inb_S1024x128_S1024x128_0_0)
  have e1 : kernelRun0_B.sl.r_1 c _ harg6 x4 = k0_pay20 x4 := congrArg k0_pay20 (load_whole harg6 x4 off3 inb_S1x1024x1_S1x1024x1_0_0_0)
  unfold kernelRun0_B.sl.r_2 kernelRun0_B.sl.r_3 kernelRun0_B.sl.r_4
  rw [trips2_eq]
  unfold finB
  rw [← e, ← e1]
  rfl

/-- The logarithm of the sum of the weights is written out, with the shift added. -/
theorem outB_l : out0_B_7 c i _ harg2 _ harg3 _ harg4 _ harg5 _ harg6 _ harg7 _ harg8 _ harg9 _ harg10 _ harg11 _ harg12 hc0 x0 x1 x2 x3 x4 x5 xs0 xs1 = k0_pay1 (outL (finB c i _ harg2 _ harg3 _ harg4 _ harg5 _ harg6 _ harg7 _ harg8 _ harg9 _ harg10 _ harg11 _ harg12 x0 x4 x5 xs0 xs1)) := by
  unfold out0_B_7 kernelRun0_B
  dsimp only
  refine (read_store_whole VO0_7 _ off3 inb_S1x1024x1_S1x1024x1_0_0_0 _).trans ?_
  have e : kernelRun0_B.sl.r c _ harg2 x0 = k0_pay19 x0 := congrArg k0_pay19 (load_whole harg2 x0 off2 inb_S1024x128_S1024x128_0_0)
  have e1 : kernelRun0_B.sl.r_1 c _ harg6 x4 = k0_pay20 x4 := congrArg k0_pay20 (load_whole harg6 x4 off3 inb_S1x1024x1_S1x1024x1_0_0_0)
  unfold kernelRun0_B.sl.r_6 kernelRun0_B.sl.r_2 kernelRun0_B.sl.r_3
  rw [trips2_eq]
  unfold finB
  rw [← e, ← e1]
  rfl

/-- The gated output is written out. -/
theorem outB_g : out0_B_8 c i _ harg2 _ harg3 _ harg4 _ harg5 _ harg6 _ harg7 _ harg8 _ harg9 _ harg10 _ harg11 _ harg12 hc0 x0 x1 x2 x3 x4 x5 xs0 xs1 = k0_pay2 (outO (finB c i _ harg2 _ harg3 _ harg4 _ harg5 _ harg6 _ harg7 _ harg8 _ harg9 _ harg10 _ harg11 _ harg12 x0 x4 x5 xs0 xs1)) x3 := by
  unfold out0_B_8 kernelRun0_B
  dsimp only
  refine (read_store_whole VO0_8 _ off2 inb_S1024x128_S1024x128_0_0 _).trans ?_
  have e : kernelRun0_B.sl.r c _ harg2 x0 = k0_pay19 x0 := congrArg k0_pay19 (load_whole harg2 x0 off2 inb_S1024x128_S1024x128_0_0)
  have e1 : kernelRun0_B.sl.r_1 c _ harg6 x4 = k0_pay20 x4 := congrArg k0_pay20 (load_whole harg6 x4 off3 inb_S1x1024x1_S1x1024x1_0_0_0)
  have e3 := load_whole harg5 x3 off2 inb_S1024x128_S1024x128_0_0
  refine (congrArg (k0_pay2 _) e3).trans ?_
  unfold kernelRun0_B.sl.r_5 kernelRun0_B.sl.r_2 kernelRun0_B.sl.r_3 kernelRun0_B.sl.r_4
  rw [trips2_eq]
  unfold finB
  rw [← e, ← e1]
  rfl

/-- The sums are those of the tile's whole rows. -/
theorem finB_ok (T : FTile) (H : PointOk i (k0_pay19 x0) (k0_pay20 x4) T x5 xs0 xs1) :
    After T (1024 * ((i 1).val + 1)) (finB c i _ harg2 _ harg3 _ harg4 _ harg5 _ harg6 _ harg7 _ harg8 _ harg9 _ harg10 _ harg11 _ harg12 x0 x4 x5 xs0 xs1) := by
  refine end_ok i Variants.none c none _ harg2 _ harg3 _ harg4 _ harg5 _ harg6 _ harg7 _ harg8 _ harg9 _ harg10 _ harg11 _ harg12 _ (k0_pay19 x0) (k0_pay20 x4) _ _ _ T ?_
  rw [harg7.read_unread, harg11.read_unread, harg12.read_unread]
  exact H

end CaseB

section CaseA

variable (hc0 : cond0_0 i)

/-- What the loop and the diagonal hand on. -/
abbrev finA : Carry := endAt i Variants.none c none _ harg2 _ harg3 _ harg4 _ harg5 _ harg6 _ harg7 _ harg8 _ harg9 _ harg10 _ harg11 _ harg12 (kernelRun0_A.sl.v33 i) (k0_pay19 x0) (k0_pay20 x4) (harg7.unread x5) (arg11.view.writes (Elt Ideal) arg11.view.junk (kernelRun0_A.sl.HS0_1 c _ harg3 x1)) (arg12.view.writes (Elt Ideal) arg12.view.junk (kernelRun0_A.sl.HS1_1 c _ harg4 x2))

/-- The weighted sum of the values over the sum of the weights is written out. -/
theorem outA_o : out0_A_6 c i _ harg2 _ harg3 _ harg4 _ harg5 _ harg6 _ harg7 _ harg8 _ harg9 _ harg10 _ harg11 _ harg12 hc0 x0 x1 x2 x3 x4 x5 = outO (finA c i _ harg2 _ harg3 _ harg4 _ harg5 _ harg6 _ harg7 _ harg8 _ harg9 _ harg10 _ harg11 _ harg12 x0 x1 x2 x4 x5) := by
  unfold out0_A_6 kernelRun0_A
  dsimp only
  refine (read_store_whole VO0_6 _ off2 inb_S1024x128_S1024x128_0_0 _).trans ?_
  have e : kernelRun0_A.sl.r c _ harg2 x0 = k0_pay19 x0 := congrArg k0_pay19 (load_whole harg2 x0 off2 inb_S1024x128_S1024x128_0_0)
  have e1 : kernelRun0_A.sl.r_1 c _ harg6 x4 = k0_pay20 x4 := congrArg k0_pay20 (load_whole harg6 x4 off3 inb_S1x1024x1_S1x1024x1_0_0_0)
  unfold kernelRun0_A.sl.r_2 kernelRun0_A.sl.r_3 kernelRun0_A.sl.r_4
  rw [trips2_eq]
  unfold finA
  rw [← e, ← e1]
  rfl

/-- The logarithm of the sum of the weights is written out, with the shift added. -/
theorem outA_l : out0_A_7 c i _ harg2 _ harg3 _ harg4 _ harg5 _ harg6 _ harg7 _ harg8 _ harg9 _ harg10 _ harg11 _ harg12 hc0 x0 x1 x2 x3 x4 x5 = k0_pay1 (outL (finA c i _ harg2 _ harg3 _ harg4 _ harg5 _ harg6 _ harg7 _ harg8 _ harg9 _ harg10 _ harg11 _ harg12 x0 x1 x2 x4 x5)) := by
  unfold out0_A_7 kernelRun0_A
  dsimp only
  refine (read_store_whole VO0_7 _ off3 inb_S1x1024x1_S1x1024x1_0_0_0 _).trans ?_
  have e : kernelRun0_A.sl.r c _ harg2 x0 = k0_pay19 x0 := congrArg k0_pay19 (load_whole harg2 x0 off2 inb_S1024x128_S1024x128_0_0)
  have e1 : kernelRun0_A.sl.r_1 c _ harg6 x4 = k0_pay20 x4 := congrArg k0_pay20 (load_whole harg6 x4 off3 inb_S1x1024x1_S1x1024x1_0_0_0)
  unfold kernelRun0_A.sl.r_6 kernelRun0_A.sl.r_2 kernelRun0_A.sl.r_3
  rw [trips2_eq]
  unfold finA
  rw [← e, ← e1]
  rfl

/-- The gated output is written out. -/
theorem outA_g : out0_A_8 c i _ harg2 _ harg3 _ harg4 _ harg5 _ harg6 _ harg7 _ harg8 _ harg9 _ harg10 _ harg11 _ harg12 hc0 x0 x1 x2 x3 x4 x5 = k0_pay2 (outO (finA c i _ harg2 _ harg3 _ harg4 _ harg5 _ harg6 _ harg7 _ harg8 _ harg9 _ harg10 _ harg11 _ harg12 x0 x1 x2 x4 x5)) x3 := by
  unfold out0_A_8 kernelRun0_A
  dsimp only
  refine (read_store_whole VO0_8 _ off2 inb_S1024x128_S1024x128_0_0 _).trans ?_
  have e : kernelRun0_A.sl.r c _ harg2 x0 = k0_pay19 x0 := congrArg k0_pay19 (load_whole harg2 x0 off2 inb_S1024x128_S1024x128_0_0)
  have e1 : kernelRun0_A.sl.r_1 c _ harg6 x4 = k0_pay20 x4 := congrArg k0_pay20 (load_whole harg6 x4 off3 inb_S1x1024x1_S1x1024x1_0_0_0)
  have e3 := load_whole harg5 x3 off2 inb_S1024x128_S1024x128_0_0
  refine (congrArg (k0_pay2 _) e3).trans ?_
  unfold kernelRun0_A.sl.r_5 kernelRun0_A.sl.r_2 kernelRun0_A.sl.r_3 kernelRun0_A.sl.r_4
  rw [trips2_eq]
  unfold finA
  rw [← e, ← e1]
  rfl

/-- The keys are kept. -/
theorem soutA_0 : sout0_A_0 c i _ harg2 _ harg3 _ harg4 _ harg5 _ harg6 _ harg7 _ harg8 _ harg9 _ harg10 _ harg11 _ harg12 hc0 x0 x1 x2 x3 x4 x5 = k0_pay17 x1 := by
  unfold sout0_A_0 kernelRun0_A
  dsimp only
  unfold kernelRun0_A.sl.HS0_1
  refine (read_store_whole VS0_0 _ off2 inb_S4096x128_S4096x128_0_0 _).trans ?_
  rw [load_whole harg3 x1 off2 inb_S4096x128_S4096x128_0_0]

/-- The values are kept. -/
theorem soutA_1 : sout0_A_1 c i _ harg2 _ harg3 _ harg4 _ harg5 _ harg6 _ harg7 _ harg8 _ harg9 _ harg10 _ harg11 _ harg12 hc0 x0 x1 x2 x3 x4 x5 = k0_pay18 x2 := by
  unfold sout0_A_1 kernelRun0_A
  dsimp only
  unfold kernelRun0_A.sl.HS1_1
  refine (read_store_whole VS0_1 _ off2 inb_S4096x128_S4096x128_0_0 _).trans ?_
  rw [load_whole harg4 x2 off2 inb_S4096x128_S4096x128_0_0]

/-- The sums are those of the tile's whole rows. -/
theorem finA_ok (T : FTile) (H : PointOk i (k0_pay19 x0) (k0_pay20 x4) T x5 (k0_pay17 x1) (k0_pay18 x2)) :
    After T (1024 * ((i 1).val + 1)) (finA c i _ harg2 _ harg3 _ harg4 _ harg5 _ harg6 _ harg7 _ harg8 _ harg9 _ harg10 _ harg11 _ harg12 x0 x1 x2 x4 x5) := by
  refine end_ok i Variants.none c none _ harg2 _ harg3 _ harg4 _ harg5 _ harg6 _ harg7 _ harg8 _ harg9 _ harg10 _ harg11 _ harg12 _ (k0_pay19 x0) (k0_pay20 x4) _ _ _ T ?_
  unfold kernelRun0_A.sl.HS0_1 kernelRun0_A.sl.HS1_1
  rw [harg7.read_unread, read_store_whole arg11.view _ off2 inb_S4096x128_S4096x128_0_0, read_store_whole arg12.view _ off2 inb_S4096x128_S4096x128_0_0,
    load_whole harg3 x1 off2 inb_S4096x128_S4096x128_0_0, load_whole harg4 x2 off2 inb_S4096x128_S4096x128_0_0]
  exact H

end CaseA

end Cert.Kernel22Ideal.FgF
-- ==== Proof.FgFwdGrid.lean ====
module

public import proofs.«01_k».proof.Proof.KernelReal
public import proofs.«01_k».proof.Proof.FgFwdPoint
public import proofs.«01_k».proof.Proof.Gen.Kernel22Ideal.Value

/-!
# What the grid of the forgetting attention's forward pass leaves

Point `t` works on head `t / 4` and on the tile of rows from `1024 * (t % 4)`. The keys and values kept at the first point of a head serve
its four points. An entry of a result is what the point of its head and row wrote there.
-/

@[expose] public section

set_option maxRecDepth 16384

noncomputable section

namespace Cert.Kernel22Ideal.FgF

open Idealize.ShloMosaic Idealize.ShloMosaic.TcCoe Idealize.ShloMosaic.Tactic Cert.Kernel22Ideal Cert.Kernel22Ideal.Gen
open Cert.KernelIdeal.Block (coe_sum div_real up col RHead realHead sc)
open Cert.Kernel22Ideal.Value

variable (m : (ℓ : Loc nD τ sig) → Buf (Elt Ideal) ℓ) (c : Dev nD)
variable (P : S4096x8320.Idx → ℝ) (B : S16x4096.Idx → ℝ) (s : ℝ)

/-- Which blocks a point reads. -/
theorem idx : ∀ t : Fin cfg0.N, win0_0.index t = ![t.val % 4, t.val / 4] ∧ win0_1.index t = ![0, 16 + t.val / 4]
    ∧ win0_2.index t = ![0, 32 + t.val / 4] ∧ win0_3.index t = ![t.val % 4, 48 + t.val / 4]
    ∧ win0_4.index t = ![t.val / 4, t.val % 4, 0] ∧ win0_5.index t = ![t.val / 4, 0, 0] := by
  decide +kernel

theorem coord1 : ∀ t : Fin cfg0.N, ((grid0.coords t) 1).val = t.val % 4 := by
  decide +kernel

/-- The head of a point, and the rows of its tile. -/
def head (t : Fin cfg0.N) : Fin 16 := ⟨t.val / 4, by have : t.val < 64 := t.isLt; omega⟩
def row (t : Fin cfg0.N) (r : Fin 1024) : Fin 4096 := ⟨1024 * (t.val % 4) + r.val, by omega⟩

/-- A head of finite arrays. The forward pass has no gradient coming in. -/
abbrev hd (h : Fin 16) : RHead := realHead P B (fun _ => 0) s h

/-- An array of 4096 entries, with nothing after them. -/
def ext (f : Fin 4096 → ℝ) (n : ℕ) : ℝ := if h : n < 4096 then f ⟨n, h⟩ else 0

theorem ext_val (f : Fin 4096 → ℝ) (a : Fin 4096) : ext f a.val = f a := dif_pos a.isLt

/-- The tile of a point. -/
def tile (R : RHead) (t : Fin cfg0.N) : FTile where
  i := t.val % 4
  qs r d := R.q (row t r) d * R.s
  K n d := ext (fun a => R.k a d) n
  V n d := ext (fun a => R.v a d) n
  br r := R.b (row t r)
  bc n := ext R.b n

section Tile

variable (R : RHead) (t : Fin cfg0.N) (r : Fin 1024)

/-- A tile's weights are those of its head. -/
theorem w_eq (a : Fin 4096) : (tile R t).w r a.val = R.w (row t r) a := by
  unfold FTile.w RHead.w FTile.z RHead.z tile
  simp only [ext_val]
  refine if_congr Iff.rfl ?_ rfl
  rw [Finset.sum_mul]
  congr 3
  exact Finset.sum_congr rfl fun d _ => by ring

/-- A sum over the columns up to the end of the tile is one over all columns, if the later ones add nothing. -/
theorem sum_all (f : ℕ → ℝ) (hf : ∀ a, 1024 * (t.val % 4 + 1) ≤ a → f a = 0) :
    ∑ a ∈ Finset.range (1024 * (t.val % 4 + 1)), f a = ∑ a : Fin 4096, f a.val := by
  rw [← Finset.sum_range]
  refine Finset.sum_subset (Finset.range_subset_range.mpr (by omega)) fun a _ h => hf a ?_
  simpa using h

theorem w_late (a : ℕ) (h : 1024 * (t.val % 4 + 1) ≤ a) : (tile R t).w r a = 0 := by
  have := r.isLt
  exact if_neg (show ¬a ≤ 1024 * (t.val % 4) + r.val by omega)

theorem S_eq : (tile R t).S r (1024 * (t.val % 4 + 1)) = R.S (row t r) := by
  refine (sum_all t _ fun a h => w_late R t r a h).trans (Finset.sum_congr rfl fun a _ => w_eq R t r a)

theorem A_eq (d : Fin 128) : (tile R t).A r d (1024 * (t.val % 4 + 1)) = ∑ a, R.w (row t r) a * R.v a d := by
  refine (sum_all t _ fun a h => by rw [w_late R t r a h, zero_mul]).trans (Finset.sum_congr rfl fun a _ => ?_)
  rw [w_eq]
  exact congrArg _ (ext_val (fun a => R.v a d) a)

/-- The output and the log-sum of a row, from the sums. The shift cancels. -/
theorem out_eq (s1 : Carry) (h : After (tile R t) (1024 * (t.val % 4 + 1)) s1) :
    (∀ d, outO s1 (ix2 r d) = (R.o (row t r) d : EReal)) ∧ outL s1 (ix2 r 0) = (Real.log (R.S (row t r)) : EReal) := by
  rcases h r with ⟨h0, -⟩ | ⟨μ, U⟩
  · omega
  · have hS := U.hl
    rw [S_eq] at hS
    refine ⟨fun d => ?_, ?_⟩
    · rw [outO_apply, U.hacc, hS, A_eq, div_real _ (R.shift_pos μ _).ne', mul_div_mul_right _ _ (Real.exp_pos _).ne', Finset.sum_div]
      unfold RHead.o RHead.p
      congr 1
      exact Finset.sum_congr rfl fun a _ => by ring
    · rw [outL_apply, U.hm, hS, Ideal.log_coe, if_neg (not_le.mpr (R.shift_pos μ _)), ← EReal.coe_add, RHead.log_shift]

end Tile

/-- What a point's three results come to. -/
structure Sums (R : RHead) (t : Fin cfg0.N) (o : Vec Ideal S1024x128 .f32) (l : Vec Ideal S1x1024x1 .f32) (g : Vec Ideal S1024x128 .bf16) : Prop where
  o : ∀ r d, o (ix2 r d) = (R.o (row t r) d : EReal)
  l : ∀ r, l (ix3 0 r 0) = (Real.log (R.S (row t r)) : EReal)
  g : ∀ r d, g (ix2 r d) = ((R.o (row t r) d * (R.g (row t r) d * R.sg (row t r) d) : ℝ) : EReal)

/-- What the results and the kept arrays hold after point `t`. -/
structure Left (t : Fin cfg0.N) : Prop where
  kb : ∀ (a : Fin 4096) d, (outsAt0 m c t.val t.isLt).2.2.2.1 (ix2 a d) = ((hd P B s (head t)).k a d : EReal)
  vb : ∀ (a : Fin 4096) d, (outsAt0 m c t.val t.isLt).2.2.2.2 (ix2 a d) = ((hd P B s (head t)).v a d : EReal)
  sums : Sums (hd P B s (head t)) t (outsAt0 m c t.val t.isLt).1 (outsAt0 m c t.val t.isLt).2.1 (outsAt0 m c t.val t.isLt).2.2.1

/-- The bias of the rows, and of the columns in rows of 512, is the bias. -/
theorem V_row (h : Fin 16) (n : Fin 4096) : V m c main_v0 (ix3 h n 0) = m ((c : Thread nD τ).loc main_arg1) (ix2 h n) := by
  simp only [V, hostOps0, List.flatten_cons, List.flatten_nil, List.append_nil, List.cons_append, List.nil_append]
  after_reads_simp
  pointwise
  blk_ext

theorem V_col (h : Fin 16) (b : Fin 8) (d : Fin 512) :
    V m c main_v1 (ix3 h b d) = m ((c : Thread nD τ).loc main_arg1) (ix2 h ⟨512 * b.val + d.val, by omega⟩) := by
  simp only [V, hostOps0, List.flatten_cons, List.flatten_nil, List.append_nil, List.cons_append, List.nil_append]
  after_reads_simp
  pointwise
  blk_ext

theorem read_row (t : Fin cfg0.N) (X : S16x4096x1.Idx → EReal) (r : Fin 1024) :
    (win0_4.blk t).view.read (Elt Ideal) X (ix3 0 r 0) = X (ix3 (head t) (row t r) 0) := by
  blk_ext [idx t, head, row]

theorem read_col (t : Fin cfg0.N) (X : S16x8x512.Idx → EReal) (b : Fin 8) (d : Fin 512) :
    (win0_5.blk t).view.read (Elt Ideal) X (ix3 0 b d) = X (ix3 (head t) b d) := by
  blk_ext [idx t, head]

variable (hs : sc = (s : EReal)) (hP : m ((c : Thread nD τ).loc main_arg0) = up P) (hB : m ((c : Thread nD τ).loc main_arg1) = up B)
include hs hP hB

section Reads

variable (t : Fin cfg0.N)

omit hs hB in
theorem blk_q (r : Fin 1024) (d : Fin 128) : iblk m c 0 t (ix2 r d) = ((hd P B s (head t)).q (row t r) d : EReal) := by
  refine Eq.trans (b := m ((c : Thread nD τ).loc main_arg0) (ix2 (row t r) ⟨128 * (head t).val + d.val, by omega⟩)) ?_ (congrFun hP _)
  blk_ext [iblk, V, idx t, head, row]

omit hs hB in
theorem blk_k (a : Fin 4096) (d : Fin 128) : k0_pay17 (iblk m c 1 t) (ix2 a d) = ((hd P B s (head t)).k a d : EReal) := by
  rw [kb_apply]
  refine Eq.trans (b := m ((c : Thread nD τ).loc main_arg0) (ix2 a ⟨2048 + 128 * (head t).val + d.val, by omega⟩)) ?_ (congrFun hP _)
  blk_ext [iblk, V, idx t, head]

omit hs hB in
theorem blk_v (a : Fin 4096) (d : Fin 128) : k0_pay18 (iblk m c 2 t) (ix2 a d) = ((hd P B s (head t)).v a d : EReal) := by
  rw [vb_apply]
  refine Eq.trans (b := m ((c : Thread nD τ).loc main_arg0) (ix2 a ⟨4096 + 128 * (head t).val + d.val, by omega⟩)) ?_ (congrFun hP _)
  blk_ext [iblk, V, idx t, head]

omit hs hB in
theorem blk_g (r : Fin 1024) (d : Fin 128) : iblk m c 3 t (ix2 r d) = ((hd P B s (head t)).g (row t r) d : EReal) := by
  refine Eq.trans (b := m ((c : Thread nD τ).loc main_arg0) (ix2 (row t r) ⟨6144 + 128 * (head t).val + d.val, by omega⟩)) ?_ (congrFun hP _)
  blk_ext [iblk, V, idx t, head, row]

/-- A point works on the tile of its head. -/
theorem point_at (K W : Vec Ideal S4096x128 .bf16)
    (hK : ∀ (a : Fin 4096) d, K (ix2 a d) = ((hd P B s (head t)).k a d : EReal)) (hW : ∀ (a : Fin 4096) d, W (ix2 a d) = ((hd P B s (head t)).v a d : EReal)) :
    PointOk (grid0.coords t) (k0_pay19 (iblk m c 0 t)) (k0_pay20 (iblk m c 4 t)) (tile (hd P B s (head t)) t) (iblk m c 5 t) K W := by
  refine ⟨(coord1 t).symm, fun r d => ?_, fun r => ?_, fun a d => (hK a d).trans (congrArg _ (ext_val (fun a => (hd P B s (head t)).k a d) a).symm),
    fun a d => (hW a d).trans (congrArg _ (ext_val (fun a => (hd P B s (head t)).v a d) a).symm), fun b j => ?_⟩
  · rw [qs_apply, blk_q m c P B s hP t]
    exact (congrArg _ hs).trans (EReal.coe_mul _ _).symm
  · rw [cr_apply]
    exact ((read_row t _ r).trans (V_row m c _ _)).trans (congrFun hB _)
  · exact (((read_col t _ b j).trans (V_col m c _ _ _)).trans (congrFun hB _)).trans
      (congrArg _ (ext_val (hd P B s (head t)).b ⟨512 * b.val + j.val, by omega⟩).symm)

/-- The point's three results. -/
theorem sums_at (s1 : Carry) (A : After (tile (hd P B s (head t)) t) (1024 * (((grid0.coords t) 1).val + 1)) s1) :
    Sums (hd P B s (head t)) t (outO s1) (k0_pay1 (outL s1)) (k0_pay2 (outO s1) (iblk m c 3 t)) := by
  rw [coord1] at A
  have ho := fun r => out_eq (hd P B s (head t)) t r s1 A
  refine ⟨fun r => (ho r).1, fun r => (lse_apply _ r).trans (ho r).2, fun r d => ?_⟩
  rw [gated_apply, (ho r).1, blk_g m c P B s hP t, ← EReal.coe_zero, ← EReal.coe_sub, Ideal.exp_coe, ← EReal.coe_one, ← EReal.coe_add, zero_sub,
    div_real _ (RHead.one_add_exp_ne _), ← EReal.coe_mul, ← EReal.coe_mul]
  rfl

/-- After the first point of a head. -/
theorem left_first (h0 : t.val % 4 = 0) : Left m c P B s t := by
  have hk := blk_k m c P B s hP t
  have hv := blk_v m c P B s hP t
  have hT := point_at m c P B s hs hP hB t _ _ hk hv
  constructor <;> rw [outsAt0_A m c t h0] <;> dsimp only
  · rw [soutA_0]
    exact hk
  · rw [soutA_1]
    exact hv
  · rw [outA_o, outA_l, outA_g]
    exact sums_at m c P B s hs hP hB t _ (by apply finA_ok; exact hT)

/-- After a later point of a head. -/
theorem left_later (t' : Fin cfg0.N) (h0 : ¬t.val % 4 = 0) (ht' : t'.val = t.val - 1) (L : Left m c P B s t') : Left m c P B s t := by
  have hh : head t' = head t := Fin.ext (show t'.val / 4 = t.val / 4 by omega)
  obtain ⟨n', hn'⟩ := t'
  dsimp only at ht'
  subst ht'
  have hk := L.kb
  have hv := L.vb
  rw [hh] at hk hv
  have hT := point_at m c P B s hs hP hB t _ _ hk hv
  constructor <;> rw [outsAt0_B m c t h0]
  · exact hk
  · exact hv
  · dsimp only
    rw [outB_o, outB_l, outB_g]
    exact sums_at m c P B s hs hP hB t _ (by apply finB_ok; exact hT)

end Reads

/-- After every point. -/
theorem left : ∀ t : Fin cfg0.N, Left m c P B s t := by
  intro ⟨n, hn⟩
  induction n with
  | zero => exact left_first m c P B s hs hP hB _ rfl
  | succ n ih =>
    by_cases h0 : (n + 1) % 4 = 0
    · exact left_first m c P B s hs hP hB _ h0
    · exact left_later m c P B s hs hP hB _ ⟨n, Nat.lt_of_succ_lt hn⟩ h0 rfl (ih _)

/-- The point of a head and a row. -/
def ptRow (h : Fin 16) (n : Fin 4096) : Fin cfg0.N := ⟨4 * h.val + n.val / 1024, show _ < 64 by omega⟩

/-- The place of a row in its tile. -/
def inTile (n : Fin 4096) : Fin 1024 := ⟨n.val % 1024, by omega⟩

omit hs hP hB

theorem head_pt (h : Fin 16) (n : Fin 4096) : head (ptRow h n) = h := Fin.ext (show (4 * h.val + n.val / 1024) / 4 = _ by omega)

theorem row_pt (h : Fin 16) (n : Fin 4096) : row (ptRow h n) (inTile n) = n :=
  Fin.ext (show 1024 * ((4 * h.val + n.val / 1024) % 4) + n.val % 1024 = n.val by omega)

theorem G6_at (i : S4096x2048.Idx) (j : S1024x128.Idx) (t : Fin cfg0.N) (ht : pt6Of i = t.val) (hj : loc6Of i = j) :
    G6 m c i = (outsAt0 m c t.val t.isLt).1 j := by
  obtain ⟨n, hn⟩ := t
  dsimp only at ht
  subst ht
  subst hj
  unfold G6
  rw [dif_pos hn, outsAt0_sweep]

theorem G7_at (i : S16x4096x1.Idx) (j : S1x1024x1.Idx) (t : Fin cfg0.N) (ht : pt7Of i = t.val) (hj : loc7Of i = j) :
    G7 m c i = (outsAt0 m c t.val t.isLt).2.1 j := by
  obtain ⟨n, hn⟩ := t
  dsimp only at ht
  subst ht
  subst hj
  unfold G7
  rw [dif_pos hn, outsAt0_sweep]

theorem G8_at (i : S4096x2048.Idx) (j : S1024x128.Idx) (t : Fin cfg0.N) (ht : pt8Of i = t.val) (hj : loc8Of i = j) :
    G8 m c i = (outsAt0 m c t.val t.isLt).2.2.1 j := by
  obtain ⟨n, hn⟩ := t
  dsimp only at ht
  subst ht
  subst hj
  unfold G8
  rw [dif_pos hn, outsAt0_sweep]

theorem loc_o (n : Fin 4096) (h : Fin 16) (d : Fin 128) : loc6Of (ix2 n (col h d)) = ix2 (inTile n) d := by
  funext a
  fin_cases a <;> refine Fin.ext ?_ <;> first | rfl | (show (128 * h.val + d.val) % 128 = d.val; omega)

theorem pt_o (n : Fin 4096) (h : Fin 16) (d : Fin 128) : pt6Of (ix2 n (col h d)) = (ptRow h n).val :=
  show 1 * (n.val / 1024 - 0) + 4 * ((128 * h.val + d.val) / 128 - 0) = 4 * h.val + n.val / 1024 by omega

include hs hP hB

/-- The attention's output. -/
theorem o_at (n : Fin 4096) (h : Fin 16) (d : Fin 128) : G6 m c (ix2 n (col h d)) = ((hd P B s h).o n d : EReal) := by
  have L := (left m c P B s hs hP hB (ptRow h n)).sums.o (inTile n) d
  rw [row_pt, head_pt] at L
  exact (G6_at m c _ _ (ptRow h n) (pt_o n h d) (loc_o n h d)).trans L

/-- The rows' log-sums. -/
theorem lse_at (n : Fin 4096) (h : Fin 16) : G7 m c (ix3 h n 0) = (Real.log ((hd P B s h).S n) : EReal) := by
  have L := (left m c P B s hs hP hB (ptRow h n)).sums.l (inTile n)
  rw [row_pt, head_pt] at L
  refine (G7_at m c _ _ (ptRow h n)
    (show 4 * (h.val / 1 - 0) + 1 * (n.val / 1024 - 0) + 1 * (0 / 1 - 0) = 4 * h.val + n.val / 1024 by omega) ?_).trans L
  funext a
  fin_cases a <;> refine Fin.ext ?_ <;> first | rfl | (show h.val % 1 = 0; omega)

/-- The gated output. -/
theorem gated_at (n : Fin 4096) (h : Fin 16) (d : Fin 128) :
    G8 m c (ix2 n (col h d)) = (((hd P B s h).o n d * ((hd P B s h).g n d * (hd P B s h).sg n d) : ℝ) : EReal) := by
  have L := (left m c P B s hs hP hB (ptRow h n)).sums.g (inTile n) d
  rw [row_pt, head_pt] at L
  exact (G8_at m c _ _ (ptRow h n) (pt_o n h d) (loc_o n h d)).trans L

end Cert.Kernel22Ideal.FgF
-- ==== Proof.FgFwdEquation.lean ====
module

public import proofs.«01_k».proof.Proof.FgFwdGrid
public import proofs.«01_k».proof.Proof.Gen.Reference22Ideal.Read
public import proofs.«01_k».proof.Proof.Equation
public import proofs.«01_k».proof.Proof.Finite
public import proofs.«01_k».proof.Pre_finite22

/-!
# The equation of the forgetting attention's forward pass

On finite inputs the forward kernel's three results are its reference's.
-/

@[expose] public section

set_option maxRecDepth 16384

noncomputable section

namespace Cert.Kernel22Ideal.FgF

open Idealize.ShloMosaic Idealize.ShloMosaic.TcCoe Idealize.ShloMosaic.Tactic Cert.Kernel22Ideal Cert.Kernel22Ideal.Gen
open Cert.KernelIdeal.Block (col col_surj rows_surj up real_of_all sc sc_real realHead at2_val ref_g ref_sg max_real hO_real hL_real hTop_eq hA hM hE hS hO hL hTop)
open Cert.Reference22Ideal.Read Cert.Kernel22Ideal.Value

/-- The precondition's side conditions. -/
theorem preFacts : Cert.Pre_finite22.Facts where
  bcast_S_S4096x8320 := by decide
  reducesTo_S4096x8320_S_d0_1 := by decide
  h_S_ := by decide
  bcast_S_S16x4096 := by decide
  reducesTo_S16x4096_S_d0_1 := by decide

/-- The two inputs are arrays of real numbers. -/
theorem real_of_pre [Cert.Pre_finite22.Facts] (x0 : FVec Ideal Cert.Pre_finite22.S4096x8320 .f32) (x1 : FVec Ideal Cert.Pre_finite22.S16x4096 .f32)
    (h : Cert.Pre_finite22.fn (F := Ideal) x0 x1 = fun _ => 1#1) :
    (x0 = fun i => ((x0 i).toReal : EReal)) ∧ (x1 = fun i => ((x1 i).toReal : EReal)) := by
  let j : (⟨0, ![]⟩ : Shape).Idx := fun k => k.elim0
  have hand : ∀ a b : BitVec 1, IntOp.andi a b = 1#1 → a = 1#1 ∧ b = 1#1 := by decide
  obtain ⟨h1, h2⟩ := hand _ _ (congrFun h j)
  exact ⟨real_of_all x0 Cert.Pre_finite22.Facts.bcast_S_S4096x8320 Cert.Pre_finite22.Facts.reducesTo_S4096x8320_S_d0_1 Cert.Pre_finite22.Facts.h_S_ j h1,
    real_of_all x1 Cert.Pre_finite22.Facts.bcast_S_S16x4096 Cert.Pre_finite22.Facts.reducesTo_S16x4096_S_d0_1 Cert.Pre_finite22.Facts.h_S_ j h2⟩

section Reference

variable (x0 : FVec Ideal S4096x8320 .f32) (x1 : FVec Ideal S16x4096 .f32)

/-- The reference's output is that of its masked scores, shifted by their rows' maxima. -/
theorem ref_O : val_main_v40 (F := Ideal) x0 x1 = hO (hE (hA x0 x1) (hM (hA x0 x1))) (hS (hE (hA x0 x1) (hM (hA x0 x1)))) x0 := by
  have e : val_main_v40 (F := Ideal) x0 x1
      = hO (hE (hA x0 x1) (hTop (hM (hA x0 x1)))) (hS (hE (hA x0 x1) (hTop (hM (hA x0 x1))))) x0 := rfl
  rw [e, hTop_eq]

/-- The reference's log-sums, likewise. -/
theorem ref_L : val_main_v49 (F := Ideal) x0 x1 = hL (hM (hA x0 x1)) (hS (hE (hA x0 x1) (hM (hA x0 x1)))) := rfl

/-- The gate and its sigmoid are those of the backward pass. -/
theorem ref_gate : val_main_v3 (F := Ideal) x0 = Cert.ReferenceIdeal.Read.val_main_v3 (F := Ideal) x0 := rfl

theorem ref_sig : val_main_call1_v5 (F := Ideal) x0 = Cert.ReferenceIdeal.Read.val_main_v58_2 (F := Ideal) x0 := rfl

variable (P : S4096x8320.Idx → ℝ) (B : S16x4096.Idx → ℝ) (s : ℝ) (hs : sc = (s : EReal)) (h : Fin 16) (n : Fin 4096) (d : Fin 128)
include hs

/-- On finite inputs the reference's output is that of the head. -/
theorem ref_o : val_main_v40 (F := Ideal) (up P) (up B) (ix2 n (col h d)) = ((hd P B s h).o n d : EReal) := by
  obtain ⟨μ, hμ⟩ := max_real P B (fun _ => 0) s hs h n
  rw [ref_O, ← hO_real P B (fun _ => 0) s hs h _ μ n hμ d, at2_val (a := 4096) (b := 2048) _ n.isLt (by omega)]

end Reference

variable (m : (ℓ : Loc nD τ sig) → Buf (Elt Ideal) ℓ) (c : Dev nD)
variable (P : S4096x8320.Idx → ℝ) (B : S16x4096.Idx → ℝ)
variable (hP : m ((c : Thread nD τ).loc main_arg0) = up P) (hB : m ((c : Thread nD τ).loc main_arg1) = up B)
include hP hB

/-- The attention's output. -/
theorem eq_o : val_main_v40 (F := Ideal) (up P) (up B) = G6 m c := by
  obtain ⟨s, hs⟩ := sc_real
  funext i
  obtain ⟨n, h, d, rfl⟩ := col_surj i
  exact (ref_o P B s hs h n d).trans (o_at m c P B s hs hP hB n h d).symm

/-- The log-sums of the rows. -/
theorem eq_lse : val_main_v49 (F := Ideal) (up P) (up B) = G7 m c := by
  obtain ⟨s, hs⟩ := sc_real
  funext i
  obtain ⟨h, n, rfl⟩ := rows_surj i
  obtain ⟨μ, hμ⟩ := max_real P B (fun _ => 0) s hs h n
  rw [ref_L]
  exact (hL_real P B (fun _ => 0) s hs h _ μ n hμ).trans (lse_at m c P B s hs hP hB n h).symm

/-- The gated output. -/
theorem eq_gated : val_main_v52 (F := Ideal) (up P) (up B) = G8 m c := by
  obtain ⟨s, hs⟩ := sc_real
  funext i
  obtain ⟨n, h, d, rfl⟩ := col_surj i
  rw [gated_at m c P B s hs hP hB n h d, val_main_v52_apply, val_main_v51_apply, val_main_v50_apply, ref_o P B s hs h n d, ref_gate, ref_sig,
    ref_g P B (fun _ => 0) s h n d, ref_sg P B (fun _ => 0) s h n d]
  show _ * (_ * _) = _
  rw [← EReal.coe_mul, ← EReal.coe_mul]

end Cert.Kernel22Ideal.FgF
-- ==== Proof.Prod.lean ====
module

public import Idealize.ShloMosaic.Lib.Pipeline.ValueKit
public import Idealize.ShloMosaic.Lib.Pointwise
public import Idealize.ShloMosaic.PureOps.Ideal.Laws

/-!
# Products of two arrays

The three products that the projections and their gradients are, entry by entry.
-/

@[expose] public section

noncomputable section

namespace Cert.Prod

open Idealize.ShloMosaic Idealize.ShloMosaic.Tactic

variable {M N K : ℕ}

/-- A · B. -/
def nn (A : Shape.Idx ⟨2, ![M, K]⟩ → EReal) (B : Shape.Idx ⟨2, ![K, N]⟩ → EReal) : Shape.Idx ⟨2, ![M, N]⟩ → EReal :=
  fun i => ∑ k : Fin K, A (ix2 (i 0) k) * B (ix2 k (i 1))

/-- A · Bᵀ. -/
def nt (A : Shape.Idx ⟨2, ![M, K]⟩ → EReal) (B : Shape.Idx ⟨2, ![N, K]⟩ → EReal) : Shape.Idx ⟨2, ![M, N]⟩ → EReal :=
  fun i => ∑ k : Fin K, A (ix2 (i 0) k) * B (ix2 (i 1) k)

/-- Aᵀ · B. -/
def tn (A : Shape.Idx ⟨2, ![K, M]⟩ → EReal) (B : Shape.Idx ⟨2, ![K, N]⟩ → EReal) : Shape.Idx ⟨2, ![M, N]⟩ → EReal :=
  fun i => ∑ k : Fin K, A (ix2 k (i 0)) * B (ix2 k (i 1))

/-- A residual and the product of two matrices. -/
def nnAdd {M K N : ℕ} (A : Shape.Idx ⟨2, ![M, K]⟩ → EReal) (B : Shape.Idx ⟨2, ![K, N]⟩ → EReal) (C : Shape.Idx ⟨2, ![M, N]⟩ → EReal) :
    Shape.Idx ⟨2, ![M, N]⟩ → EReal :=
  fun i => C i + nn A B i

/-- The whole matrix of four blocks of 2048 columns. -/
def join (B : Shape.Idx ⟨3, ![4, 1024, 2048]⟩ → EReal) : Shape.Idx ⟨2, ![1024, 8192]⟩ → EReal :=
  fun i => B (ix3 ⟨(i 1).val / 2048, by have : (i 1).val < 8192 := (i 1).isLt; omega⟩ (i 0) ⟨(i 1).val % 2048, Nat.mod_lt _ (by decide)⟩)

/-- The four blocks of 2048 columns of a whole matrix. -/
def split (A : Shape.Idx ⟨2, ![1024, 8192]⟩ → EReal) : Shape.Idx ⟨3, ![4, 1024, 2048]⟩ → EReal :=
  fun i => A (ix2 (i 1) ⟨(i 0).val * 2048 + (i 2).val, by
    have h0 : (i 0).val < 4 := (i 0).isLt
    have h2 : (i 2).val < 2048 := (i 2).isLt
    omega⟩)

/-- The matrix of four blocks of 2048 columns, side by side. -/
def beside (A0 A1 A2 A3 : Shape.Idx ⟨2, ![4096, 2048]⟩ → EReal) : Shape.Idx ⟨2, ![4096, 8192]⟩ → EReal :=
  fun i =>
    if h : (i 1).val < 2048 then A0 (ix2 (i 0) ⟨(i 1).val, h⟩)
    else if h : (i 1).val - 2048 < 2048 then A1 (ix2 (i 0) ⟨(i 1).val - 2048, h⟩)
    else if h : (i 1).val - 2048 - 2048 < 2048 then A2 (ix2 (i 0) ⟨(i 1).val - 2048 - 2048, h⟩)
    else A3 (ix2 (i 0) ⟨(i 1).val - 2048 - 2048 - 2048, by have : (i 1).val < 8192 := (i 1).isLt; omega⟩)

section
variable (A0 A1 A2 A3 : Shape.Idx ⟨2, ![4096, 2048]⟩ → EReal) (i : Shape.Idx ⟨2, ![4096, 8192]⟩)

/-- The column of a block that a column of the whole matrix is. -/
def col : Fin 2048 := ⟨(i 1).val % 2048, Nat.mod_lt _ (by decide)⟩

/-- A column of the first block. -/
theorem beside_0 (h : (i 1).val < 2048) : beside A0 A1 A2 A3 i = A0 (ix2 (i 0) (col i)) := by
  rw [beside, dif_pos h]
  exact congrArg (fun k => A0 (ix2 (i 0) k)) (Fin.ext (Nat.mod_eq_of_lt h).symm)

/-- A column of the second block. -/
theorem beside_1 (h : 2048 ≤ (i 1).val) (h' : (i 1).val < 4096) : beside A0 A1 A2 A3 i = A1 (ix2 (i 0) (col i)) := by
  rw [beside, dif_neg (by omega), dif_pos (by omega)]
  exact congrArg (fun k => A1 (ix2 (i 0) k)) (Fin.ext (by dsimp only [col]; omega))

/-- A column of the third block. -/
theorem beside_2 (h : 4096 ≤ (i 1).val) (h' : (i 1).val < 6144) : beside A0 A1 A2 A3 i = A2 (ix2 (i 0) (col i)) := by
  rw [beside, dif_neg (by omega), dif_neg (by omega), dif_pos (by omega)]
  exact congrArg (fun k => A2 (ix2 (i 0) k)) (Fin.ext (by dsimp only [col]; omega))

/-- A column of the last block. -/
theorem beside_3 (h : 6144 ≤ (i 1).val) : beside A0 A1 A2 A3 i = A3 (ix2 (i 0) (col i)) := by
  have hi : (i 1).val < 8192 := (i 1).isLt
  rw [beside, dif_neg (by omega), dif_neg (by omega), dif_neg (by omega)]
  exact congrArg (fun k => A3 (ix2 (i 0) k)) (Fin.ext (by dsimp only [col]; omega))

end

end Cert.Prod

end
-- ==== Proof.Dh4.lean ====
module

public import proofs.«01_k».proof.Proof.Prod
public import proofs.«01_k».proof.Proof.Gen.Kernel3Ideal.Value
public import proofs.«01_k».proof.Proof.Gen.Reference3Ideal.Read

/-!
# The gradient of the stick-breaking layers' projection by its input

The product of the projection's gradient, whose four blocks of columns come apart, with the weights transposed, in tiles of 1024 rows and
steps of 1024 along the sum. A step's case says which of the four blocks it reads.
-/

@[expose] public section

set_option maxRecDepth 16384

noncomputable section

namespace Cert.Kernel3Ideal.Prod

open Idealize.ShloMosaic Idealize.ShloMosaic.TcCoe Idealize.ShloMosaic.Tactic Cert.Kernel3Ideal Cert.Kernel3Ideal.Gen

variable (m : (ℓ : Loc nD τ sig) → Buf (Elt Ideal) ℓ) (c : Dev nD)

/-- A block's product. -/
theorem pay1_at (x : Vec Ideal S1024x1024 .bf16) (w : Vec Ideal S1x1024x1024 .bf16) (j : S1024x1024.Idx) :
    k0_pay1 x w j = ∑ k : Fin 1024, x (ix2 (j 0) k) * w (ix3 0 (j 1) k) := by
  pointwise [k0_pay1]

/-- A block's product, added to what the blocks before it left. -/
theorem pay2_at (x : Vec Ideal S1024x1024 .bf16) (w : Vec Ideal S1x1024x1024 .bf16) (a : Vec Ideal S1024x1024 .f32) (j : S1024x1024.Idx) :
    k0_pay2 x w a j = a j + k0_pay1 x w j := by
  pointwise [k0_pay2]

/-- Which block each window has at a point. -/
theorem idx : ∀ t : Fin grid0.N,
    (t.val % 8 ≤ 1 → win0_0.index t = ![t.val / 8, t.val % 8 % 2]) ∧
    (2 ≤ t.val % 8 ∧ t.val % 8 ≤ 3 → win0_1.index t = ![t.val / 8, t.val % 8 % 2]) ∧
    (4 ≤ t.val % 8 ∧ t.val % 8 ≤ 5 → win0_2.index t = ![t.val / 8, t.val % 8 % 2]) ∧
    (6 ≤ t.val % 8 → win0_3.index t = ![t.val / 8, t.val % 8 % 2]) ∧
    win0_4.index t = ![t.val % 8 / 2, 0, t.val % 8 % 2] ∧ win0_5.index t = ![t.val / 8, 0] := by
  decide +kernel

/-- The block of the gradient that a point multiplies. -/
def arg (t : Fin cfg0.N) : Vec Ideal S1024x1024 .bf16 :=
  if t.val % 8 ≤ 1 then iblk m c 0 t else if t.val % 8 ≤ 3 then iblk m c 1 t else if t.val % 8 ≤ 5 then iblk m c 2 t else iblk m c 3 t

/-- What a point leaves after the first of its tile. -/
theorem step (t : Fin cfg0.N) (h : ¬t.val % 8 = 0) (j : S1024x1024.Idx) :
    outsAt0 m c t.val t.isLt j = (outsAt0 m c (t.val - 1) (Nat.lt_of_le_of_lt (Nat.sub_le _ _) t.isLt) j + k0_pay1 (arg m c t) (iblk m c 4 t) j : EReal) := by
  by_cases a : t.val % 8 ≤ 1
  · rw [outsAt0_B m c t a h (by omega) (by omega) (by omega) (by omega), arg, if_pos a]
    frame_out
    exact pay2_at _ _ _ j
  by_cases b : t.val % 8 ≤ 3
  · rw [outsAt0_C m c t a (by omega) (by omega) (by omega) h (by omega), arg, if_neg a, if_pos b]
    frame_out
    exact pay2_at _ _ _ j
  by_cases d : t.val % 8 ≤ 5
  · rw [outsAt0_D m c t a (by omega) (by omega) (by omega) h (by omega), arg, if_neg a, if_neg b, if_pos d]
    frame_out
    exact pay2_at _ _ _ j
  · rw [outsAt0_E m c t a (by omega) (by omega) (by omega) h (by omega), arg, if_neg a, if_neg b, if_neg d]
    frame_out
    exact pay2_at _ _ _ j

/-- The result array is the product. -/
theorem final : (dats m 0 c).arrAt 5 cfg0.N =
    Cert.Prod.nt (Cert.Prod.beside (m ((c : Thread nD τ).loc main_arg1)) (m ((c : Thread nD τ).loc main_arg2)) (m ((c : Thread nD τ).loc main_arg3))
      (m ((c : Thread nD τ).loc main_arg4))) (Cert.Prod.join (m ((c : Thread nD τ).loc main_arg0))) := by
  refine (dats m 0 c).arrAt_eq_of_covers 5 _ (by decide +kernel) fun t hf y => ?_
  blk_simp
  rw [after0_5, Pipeline.eq_sum_fin_of_reset_step_apply_of_flush (fun n h => outsAt0 m c n h) 8 (fun _ => 0)
    (fun t j => k0_pay1 (arg m c t) (iblk m c 4 t) j)
    (fun t h j => by
      rw [outsAt0_A m c t (by omega) h (by omega) (by omega) (by omega) (by omega), arg, if_pos (by omega)]; frame_out; exact (zero_add _).symm)
    (fun t h j => step m c t h j) t ((flush0_5 t).mp hf), zero_add]
  simp only [pay1_at]
  refine Fin.sum_mul_add_congr fun s k hl => ?_
  have hs : s.val < 8 := s.isLt
  have hk : k.val < 1024 := k.isLt
  have ht : (8 * (t.val / 8) + s.val) % 8 = s.val := by omega
  obtain ⟨i0, i1, i2, i3, i4, -⟩ := idx ⟨8 * (t.val / 8) + s.val, Pipeline.run_point_lt_of_flush t ((flush0_5 t).mp hf) s⟩
  congr 1
  · unfold arg
    dsimp only at i0 i1 i2 i3 ⊢
    by_cases a : s.val ≤ 1
    · rw [if_pos (by omega), Cert.Prod.beside_0 _ _ _ _ _ (show s.val * 1024 + k.val < 2048 by omega)]
      blk_ext [iblk, V, Cert.Prod.col, idx t, i0 (by omega)]
    by_cases b : s.val ≤ 3
    · rw [if_neg (by omega), if_pos (by omega), Cert.Prod.beside_1 _ _ _ _ _ (show 2048 ≤ s.val * 1024 + k.val by omega)
        (show s.val * 1024 + k.val < 4096 by omega)]
      blk_ext [iblk, V, Cert.Prod.col, idx t, i1 (by omega)]
    by_cases d : s.val ≤ 5
    · rw [if_neg (by omega), if_neg (by omega), if_pos (by omega), Cert.Prod.beside_2 _ _ _ _ _ (show 4096 ≤ s.val * 1024 + k.val by omega)
        (show s.val * 1024 + k.val < 6144 by omega)]
      blk_ext [iblk, V, Cert.Prod.col, idx t, i2 (by omega)]
    · rw [if_neg (by omega), if_neg (by omega), if_neg (by omega), Cert.Prod.beside_3 _ _ _ _ _ (show 6144 ≤ s.val * 1024 + k.val by omega)]
      blk_ext [iblk, V, Cert.Prod.col, idx t, i3 (by omega)]
  · rw [Cert.Prod.join]
    blk_ext [iblk, V, idx t, i4]

/-- The reference is the product. -/
theorem ref (x0 x1 x2 x3 x4) : Cert.Reference3Ideal.Read.val_main_v7 (F := Ideal) x0 x1 x2 x3 x4 =
    Cert.Prod.nt (Cert.Prod.beside x1 x2 x3 x4) (Cert.Prod.join x0) := by
  funext i
  pointwise [Cert.Reference3Ideal.Read.val_main_v7, Cert.Reference3Ideal.Read.val_main_v4, Cert.Reference3Ideal.Read.val_main_v3,
    Cert.Reference3Ideal.Read.val_main_v2, Cert.Reference3Ideal.Read.val_main_v1, Cert.Reference3Ideal.Read.val_main_v0, Cert.Prod.nt, Cert.Prod.join]
  rfl

end Cert.Kernel3Ideal.Prod

end
-- ==== Proof.Dw4.lean ====
module

public import proofs.«01_k».proof.Proof.Prod
public import proofs.«01_k».proof.Proof.Gen.Kernel4Ideal.Value
public import proofs.«01_k».proof.Proof.Gen.Reference4Ideal.Read

/-!
# The gradient of the stick-breaking layers' projection by its weights

The product of the input transposed with the projection's gradient, whose four blocks of columns come apart, in tiles of 1024 columns and
steps of 1024 along the sum. A tile's case says which of the four blocks it reads.
-/

@[expose] public section

set_option maxRecDepth 16384

noncomputable section

namespace Cert.Kernel4Ideal.Prod

open Idealize.ShloMosaic Idealize.ShloMosaic.TcCoe Idealize.ShloMosaic.Tactic Cert.Kernel4Ideal Cert.Kernel4Ideal.Gen

variable (m : (ℓ : Loc nD τ sig) → Buf (Elt Ideal) ℓ) (c : Dev nD)

/-- A block's product. -/
theorem pay2_at (x w : Vec Ideal S1024x1024 .bf16) (j : S1x1024x1024.Idx) :
    k0_pay2 x w j = ∑ k : Fin 1024, x (ix2 k (j 1)) * w (ix2 k (j 2)) := by
  pointwise [k0_pay2, k0_pay1]

/-- A block's product, added to what the blocks before it left. -/
theorem pay3_at (x w : Vec Ideal S1024x1024 .bf16) (a : Vec Ideal S1x1024x1024 .f32) (j : S1x1024x1024.Idx) :
    k0_pay3 x w a j = a j + k0_pay2 x w j := by
  rw [pay2_at]
  pointwise [k0_pay3, k0_pay1]

/-- Which block each window has at a point. -/
theorem idx : ∀ t : Fin grid0.N, win0_0.index t = ![t.val % 4, 0] ∧
    (t.val < 8 → win0_1.index t = ![t.val % 4, t.val / 4 % 2]) ∧
    (2 ≤ t.val / 4 ∧ t.val / 4 ≤ 3 → win0_2.index t = ![t.val % 4, t.val / 4 % 2]) ∧
    (4 ≤ t.val / 4 ∧ t.val / 4 ≤ 5 → win0_3.index t = ![t.val % 4, t.val / 4 % 2]) ∧
    (24 ≤ t.val → win0_4.index t = ![t.val % 4, t.val / 4 % 2]) ∧
    win0_5.index t = ![t.val / 8, 0, t.val / 4 % 2] := by
  decide +kernel

/-- The block of the gradient that a point multiplies. -/
def arg (t : Fin cfg0.N) : Vec Ideal S1024x1024 .bf16 :=
  if t.val < 8 then iblk m c 1 t else if t.val < 16 then iblk m c 2 t else if t.val < 24 then iblk m c 3 t else iblk m c 4 t

/-- The whole gradient, its four blocks side by side. -/
abbrev whole : Shape.Idx ⟨2, ![4096, 8192]⟩ → EReal :=
  Cert.Prod.beside (m ((c : Thread nD τ).loc main_arg1)) (m ((c : Thread nD τ).loc main_arg2)) (m ((c : Thread nD τ).loc main_arg3))
    (m ((c : Thread nD τ).loc main_arg4))

/-- The block of the gradient that a point multiplies, in the whole gradient. -/
theorem arg_at (t : Fin cfg0.N) (a b : Fin 1024) (r : Fin 4096) (q : Fin 8192) (hr : r.val = t.val % 4 * 1024 + a.val)
    (hq : q.val = t.val / 4 * 1024 + b.val) : arg m c t (ix2 a b) = whole m c (ix2 r q) := by
  have ha : a.val < 1024 := a.isLt
  have hb : b.val < 1024 := b.isLt
  have ht : t.val < 32 := t.isLt
  obtain ⟨-, i1, i2, i3, i4, -⟩ := idx t
  by_cases h1 : t.val < 8
  · rw [arg, if_pos h1, whole, Cert.Prod.beside_0 _ _ _ _ _ (show q.val < 2048 by omega)]
    blk_ext [iblk, V, Cert.Prod.col, i1 h1, hr, hq]
  by_cases h2 : t.val < 16
  · rw [arg, if_neg h1, if_pos h2, whole, Cert.Prod.beside_1 _ _ _ _ _ (show 2048 ≤ q.val by omega) (show q.val < 4096 by omega)]
    blk_ext [iblk, V, Cert.Prod.col, i2 (by omega), hr, hq]
  by_cases h3 : t.val < 24
  · rw [arg, if_neg h1, if_neg h2, if_pos h3, whole, Cert.Prod.beside_2 _ _ _ _ _ (show 4096 ≤ q.val by omega) (show q.val < 6144 by omega)]
    blk_ext [iblk, V, Cert.Prod.col, i3 (by omega), hr, hq]
  · rw [arg, if_neg h1, if_neg h2, if_neg h3, whole, Cert.Prod.beside_3 _ _ _ _ _ (show 6144 ≤ q.val by omega)]
    blk_ext [iblk, V, Cert.Prod.col, i4 (by omega), hr, hq]

/-- What a tile's first point leaves. -/
theorem first (t : Fin cfg0.N) (h : t.val % 4 = 0) : outsAt0 m c t.val t.isLt = k0_pay2 (iblk m c 0 t) (arg m c t) := by
  have ht : t.val < 32 := t.isLt
  funext j
  by_cases a : t.val < 8
  · rw [outsAt0_A m c t a h (by omega) (by omega) (by omega) (by omega), arg, if_pos a]
    frame_out
    rfl
  by_cases b : t.val < 16
  · rw [outsAt0_C m c t a (by omega) (by omega) (by omega) h (by omega), arg, if_neg a, if_pos b]
    frame_out
    rfl
  by_cases d : t.val < 24
  · rw [outsAt0_E m c t a (by omega) (by omega) (by omega) h (by omega), arg, if_neg a, if_neg b, if_pos d]
    frame_out
    rfl
  · rw [outsAt0_G m c t a (by omega) (by omega) (by omega) h (by omega), arg, if_neg a, if_neg b, if_neg d]
    frame_out

/-- What a tile's other points leave. -/
theorem step (t : Fin cfg0.N) (h : ¬t.val % 4 = 0) (j : S1x1024x1024.Idx) :
    outsAt0 m c t.val t.isLt j = (outsAt0 m c (t.val - 1) (Nat.lt_of_le_of_lt (Nat.sub_le _ _) t.isLt) j + k0_pay2 (iblk m c 0 t) (arg m c t) j : EReal) := by
  have ht : t.val < 32 := t.isLt
  by_cases a : t.val < 8
  · rw [outsAt0_B m c t a h (by omega) (by omega) (by omega) (by omega), arg, if_pos a]
    frame_out
    exact pay3_at _ _ _ j
  by_cases b : t.val < 16
  · rw [outsAt0_D m c t a (by omega) (by omega) (by omega) h (by omega), arg, if_neg a, if_pos b]
    frame_out
    exact pay3_at _ _ _ j
  by_cases d : t.val < 24
  · rw [outsAt0_F m c t a (by omega) (by omega) (by omega) h (by omega), arg, if_neg a, if_neg b, if_pos d]
    frame_out
    exact pay3_at _ _ _ j
  · rw [outsAt0_H m c t a (by omega) (by omega) (by omega) h (by omega), arg, if_neg a, if_neg b, if_neg d]
    frame_out
    exact pay3_at _ _ _ j

/-- The block of the input that a point multiplies, in the whole input. -/
theorem input_at (t : Fin cfg0.N) (a b : Fin 1024) (r : Fin 4096) (hr : r.val = t.val % 4 * 1024 + a.val) :
    iblk m c 0 t (ix2 a b) = m ((c : Thread nD τ).loc main_arg0) (ix2 r b) := by
  have i0 := (idx t).1
  blk_ext [iblk, V, i0, hr]

/-- A tile's products sum to the whole product there. -/
theorem tile (t : Fin cfg0.N) (ht : t.val % 4 = 3) (a b : Fin 1024) (q : Fin 8192) (hq : q.val = t.val / 4 * 1024 + b.val) :
    (∑ s : Fin 4, k0_pay2 (iblk m c 0 ⟨4 * (t.val / 4) + s.val, Pipeline.run_point_lt_of_flush t ht s⟩)
      (arg m c ⟨4 * (t.val / 4) + s.val, Pipeline.run_point_lt_of_flush t ht s⟩) (ix3 0 a b) : EReal) =
      Cert.Prod.tn (m ((c : Thread nD τ).loc main_arg0)) (whole m c) (ix2 a q) := by
  simp only [pay2_at]
  refine Fin.sum_mul_add_congr fun s k hl => ?_
  have hs : s.val < 4 := s.isLt
  have hk : k.val < 1024 := k.isLt
  exact congrArg₂ (· * ·)
    (input_at m c _ k a ⟨s.val * 1024 + k.val, hl⟩ (show s.val * 1024 + k.val = (4 * (t.val / 4) + s.val) % 4 * 1024 + k.val by omega))
    (arg_at m c _ k b ⟨s.val * 1024 + k.val, hl⟩ q (show s.val * 1024 + k.val = (4 * (t.val / 4) + s.val) % 4 * 1024 + k.val by omega)
      (show q.val = (4 * (t.val / 4) + s.val) / 4 * 1024 + b.val by omega))

/-- The result array is the product, by blocks of columns. -/
theorem final : (dats m 0 c).arrAt 5 cfg0.N =
    Cert.Prod.split (Cert.Prod.tn (m ((c : Thread nD τ).loc main_arg0)) (whole m c)) := by
  refine (dats m 0 c).arrAt_eq_of_covers 5 _ (by decide +kernel) fun t hf y => ?_
  have i5 := (idx t).2.2.2.2.2
  have h := tile m c t ((flush0_5 t).mp hf)
  blk_simp
  rw [after0_5, Pipeline.eq_sum_fin_of_reset_step_apply_of_flush (fun n h => outsAt0 m c n h) 4 (fun _ => 0)
    (fun t j => k0_pay2 (iblk m c 0 t) (arg m c t) j)
    (fun t h j => by rw [first m c t h]; exact (zero_add _).symm)
    (fun t h j => step m c t h j) t ((flush0_5 t).mp hf), zero_add]
  have hy : y = ix3 (0 : Fin 1) (y 1) (y 2) := by
    funext d
    fin_cases d
    · exact Fin.ext (by have : (y 0).val < 1 := (y 0).isLt; show (y 0).val = 0; omega)
    · rfl
    · rfl
  have h0 : (y 0).val < 1 := (y 0).isLt
  have h2 : (y 2).val < 1024 := (y 2).isLt
  have ht : t.val < 32 := t.isLt
  have e0 : ((win0_5.blk t).view.emb y 0).val = t.val / 8 := by blk_ext [i5]
  have e1 : ((win0_5.blk t).view.emb y 1).val = (y 1).val := by blk_ext [i5]
  have e2 : ((win0_5.blk t).view.emb y 2).val = t.val / 4 % 2 * 1024 + (y 2).val := by blk_ext [i5]
  generalize (win0_5.blk t).view.emb y = i at e0 e1 e2 ⊢
  rw [hy]
  refine (h (y 1) (y 2) ⟨t.val / 4 * 1024 + (y 2).val, by omega⟩ rfl).trans ?_
  rw [Cert.Prod.split]
  generalize Cert.Prod.tn (m ((c : Thread nD τ).loc main_arg0)) (whole m c) = T
  exact congrArg₂ (fun a b => T (ix2 a b)) (Fin.ext e1.symm) (Fin.ext (by dsimp only; omega))

/-- The reference is the product, by blocks of columns. -/
theorem ref (x0 x1 x2 x3 x4) : Cert.Reference4Ideal.Read.val_main_v10 (F := Ideal) x0 x1 x2 x3 x4 =
    Cert.Prod.split (Cert.Prod.tn x0 (Cert.Prod.beside x1 x2 x3 x4)) := by
  funext i
  pointwise [Cert.Reference4Ideal.Read.val_main_v10, Cert.Reference4Ideal.Read.val_main_v9, Cert.Reference4Ideal.Read.val_main_v8, Cert.Reference4Ideal.Read.val_main_v7,
    Cert.Reference4Ideal.Read.val_main_v3, Cert.Reference4Ideal.Read.val_main_v1, Cert.Reference4Ideal.Read.val_main_v0, Cert.Prod.tn, Cert.Prod.split]
  exact Finset.sum_congr rfl fun k _ => mul_comm _ _

end Cert.Kernel4Ideal.Prod

end
-- ==== Proof.ProjIn4.lean ====
module

public import proofs.«01_k».proof.Proof.Prod
public import proofs.«01_k».proof.Proof.Gen.Kernel5Ideal.Value
public import proofs.«01_k».proof.Proof.Gen.Reference5Ideal.Read

/-!
# The stick-breaking layers' projection

The product of the normed input with the weights, which the chips hold by blocks of 2048 columns, in tiles of 1024 × 1024 with the whole sum in one step.
-/

@[expose] public section

set_option maxRecDepth 16384

noncomputable section

namespace Cert.Kernel5Ideal.Prod

open Idealize.ShloMosaic Idealize.ShloMosaic.TcCoe Idealize.ShloMosaic.Tactic Cert.Kernel5Ideal Cert.Kernel5Ideal.Gen

variable (m : (ℓ : Loc nD τ sig) → Buf (Elt Ideal) ℓ) (c : Dev nD)

/-- A block's product. -/
theorem pay1_at (x : Vec Ideal S1024x1024 .bf16) (w : Vec Ideal S1x1024x1024 .bf16) (j : S1024x1024.Idx) :
    k0_pay1 x w j = ∑ k : Fin 1024, x (ix2 (j 0) k) * w (ix3 0 k (j 1)) := by
  pointwise [k0_pay1]

/-- Which block each window has at a point. -/
theorem idx : ∀ t : Fin grid0.N, win0_0.index t = ![t.val / 8, 0] ∧ win0_1.index t = ![t.val % 8 / 2, 0, t.val % 8 % 2] ∧ win0_2.index t = ![t.val / 8, t.val % 8] := by
  decide +kernel

/-- The result array is the product. -/
theorem final : (dats m 0 c).arrAt 2 cfg0.N = Cert.Prod.nn (m ((c : Thread nD τ).loc main_arg0)) (Cert.Prod.join (m ((c : Thread nD τ).loc main_arg1))) := by
  refine (dats m 0 c).arrAt_eq_of_covers 2 _ (by decide +kernel) fun t hf y => ?_
  blk_simp
  rw [after0_2]
  frame_out
  rw [pay1_at]
  refine (Finset.sum_congr rfl fun k _ => ?_ : (_ : EReal) = _)
  unfold Cert.Prod.join
  congr 1 <;> blk_ext [iblk, V, idx t]

/-- The reference is the product. -/
theorem ref (x0 x1) : Cert.Reference5Ideal.Read.val_main_v4 (F := Ideal) x0 x1 = Cert.Prod.nn x0 (Cert.Prod.join x1) := by
  funext i
  pointwise [Cert.Reference5Ideal.Read.val_main_v4, Cert.Reference5Ideal.Read.val_main_v3, Cert.Reference5Ideal.Read.val_main_v2, Cert.Reference5Ideal.Read.val_main_v1, Cert.Reference5Ideal.Read.val_main_v0, Cert.Prod.nn, Cert.Prod.join]

end Cert.Kernel5Ideal.Prod

end
-- ==== Proof.Dh2.lean ====
module

public import proofs.«01_k».proof.Proof.Prod
public import proofs.«01_k».proof.Proof.Gen.Kernel6Ideal.Value
public import proofs.«01_k».proof.Proof.Gen.Reference6Ideal.Read

/-!
# The gradient of the forgetting layer's projection by its input

The product of the projection's gradient with the weights transposed, in tiles of 1024 rows and steps of 1664 along the sum.
-/

@[expose] public section

set_option maxRecDepth 16384

noncomputable section

namespace Cert.Kernel6Ideal.Prod

open Idealize.ShloMosaic Idealize.ShloMosaic.TcCoe Idealize.ShloMosaic.Tactic Cert.Kernel6Ideal Cert.Kernel6Ideal.Gen

variable (m : (ℓ : Loc nD τ sig) → Buf (Elt Ideal) ℓ) (c : Dev nD)

/-- A block's product. -/
theorem pay1_at (x : Vec Ideal S1024x1664 .bf16) (w : Vec Ideal S1024x1664 .bf16) (j : S1024x1024.Idx) :
    k0_pay1 x w j = ∑ k : Fin 1664, x (ix2 (j 0) k) * w (ix2 (j 1) k) := by
  pointwise [k0_pay1]

/-- A block's product, added to what the blocks before it left. -/
theorem pay2_at (x : Vec Ideal S1024x1664 .bf16) (w : Vec Ideal S1024x1664 .bf16) (a : Vec Ideal S1024x1024 .f32) (j : S1024x1024.Idx) :
    k0_pay2 x w a j = a j + ∑ k : Fin 1664, x (ix2 (j 0) k) * w (ix2 (j 1) k) := by
  rw [← pay1_at x w j]
  pointwise [k0_pay2]

/-- Which block each window has at a point. -/
theorem idx : ∀ t : Fin grid0.N, win0_0.index t = ![t.val / 5, t.val % 5] ∧ win0_1.index t = ![0, t.val % 5] ∧ win0_2.index t = ![t.val / 5, 0] := by
  decide +kernel

/-- The result array is the product. -/
theorem final : (dats m 0 c).arrAt 2 cfg0.N = Cert.Prod.nt (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 5 (fun _ => 0) _
    (fun t h j => by rw [outsAt0_A m c t h (by omega)]; frame_out; rw [pay1_at, zero_add])
    (fun t h j => by rw [outsAt0_B m c t h (by omega)]; frame_out; rw [pay2_at]) t ((flush0_2 t).mp hf), zero_add]
  refine Fin.sum_mul_add_congr fun s k hl => ?_
  congr 1 <;> blk_ext [iblk, V, idx t, idx ⟨5 * (t.val / 5) + s.val, Pipeline.run_point_lt_of_flush t ((flush0_2 t).mp hf) s⟩]

/-- The reference is the product. -/
theorem ref (x0 x1) : Cert.Reference6Ideal.Read.val_main_v4 (F := Ideal) x0 x1 = Cert.Prod.nt x0 x1 := by
  funext i
  pointwise [Cert.Reference6Ideal.Read.val_main_v4, Cert.Reference6Ideal.Read.val_main_v3, Cert.Reference6Ideal.Read.val_main_v1, Cert.Prod.nt]

end Cert.Kernel6Ideal.Prod

end
-- ==== Proof.Dw2.lean ====
module

public import proofs.«01_k».proof.Proof.Prod
public import proofs.«01_k».proof.Proof.Gen.Kernel7Ideal.Value
public import proofs.«01_k».proof.Proof.Gen.Reference7Ideal.Read

/-!
# The gradient of the forgetting layer's projection by its weights

The product of the input transposed with the projection's gradient, in tiles of 1664 columns and steps of 1024 along the sum.
-/

@[expose] public section

set_option maxRecDepth 16384

noncomputable section

namespace Cert.Kernel7Ideal.Prod

open Idealize.ShloMosaic Idealize.ShloMosaic.TcCoe Idealize.ShloMosaic.Tactic Cert.Kernel7Ideal Cert.Kernel7Ideal.Gen

variable (m : (ℓ : Loc nD τ sig) → Buf (Elt Ideal) ℓ) (c : Dev nD)

/-- A block's product. -/
theorem pay1_at (x : Vec Ideal S1024x1024 .bf16) (w : Vec Ideal S1024x1664 .bf16) (j : S1024x1664.Idx) :
    k0_pay1 x w j = ∑ k : Fin 1024, x (ix2 k (j 0)) * w (ix2 k (j 1)) := by
  pointwise [k0_pay1]

/-- A block's product, added to what the blocks before it left. -/
theorem pay2_at (x : Vec Ideal S1024x1024 .bf16) (w : Vec Ideal S1024x1664 .bf16) (a : Vec Ideal S1024x1664 .f32) (j : S1024x1664.Idx) :
    k0_pay2 x w a j = a j + ∑ k : Fin 1024, x (ix2 k (j 0)) * w (ix2 k (j 1)) := by
  rw [← pay1_at x w j]
  pointwise [k0_pay2]

/-- Which block each window has at a point. -/
theorem idx : ∀ t : Fin grid0.N, win0_0.index t = ![t.val % 4, 0] ∧ win0_1.index t = ![t.val % 4, t.val / 4] ∧ win0_2.index t = ![0, t.val / 4] := by
  decide +kernel

/-- The result array is the product. -/
theorem final : (dats m 0 c).arrAt 2 cfg0.N = Cert.Prod.tn (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 4 (fun _ => 0) _
    (fun t h j => by rw [outsAt0_A m c t h (by omega)]; frame_out; rw [pay1_at, zero_add])
    (fun t h j => by rw [outsAt0_B m c t h (by omega)]; frame_out; rw [pay2_at]) t ((flush0_2 t).mp hf), zero_add]
  refine Fin.sum_mul_add_congr fun s k hl => ?_
  congr 1 <;> blk_ext [iblk, V, idx t, idx ⟨4 * (t.val / 4) + s.val, Pipeline.run_point_lt_of_flush t ((flush0_2 t).mp hf) s⟩]

/-- The reference is the product. -/
theorem ref (x0 x1) : Cert.Reference7Ideal.Read.val_main_v5 (F := Ideal) x0 x1 = Cert.Prod.tn x0 x1 := by
  funext i
  pointwise [Cert.Reference7Ideal.Read.val_main_v5, Cert.Reference7Ideal.Read.val_main_v4, Cert.Reference7Ideal.Read.val_main_v3, Cert.Reference7Ideal.Read.val_main_v1, Cert.Prod.tn]
  exact Finset.sum_congr rfl fun k _ => mul_comm _ _

end Cert.Kernel7Ideal.Prod

end
-- ==== Proof.DgateIn.lean ====
module

public import proofs.«01_k».proof.Proof.Prod
public import proofs.«01_k».proof.Proof.Gen.Kernel8Ideal.Value
public import proofs.«01_k».proof.Proof.Gen.Reference8Ideal.Read

/-!
# The gradient of a mixer's output projection by its input

The product of the layer's gradient with the output weights transposed, in tiles of 1024 × 1024 with the whole sum in one step.
-/

@[expose] public section

set_option maxRecDepth 16384

noncomputable section

namespace Cert.Kernel8Ideal.Prod

open Idealize.ShloMosaic Idealize.ShloMosaic.TcCoe Idealize.ShloMosaic.Tactic Cert.Kernel8Ideal Cert.Kernel8Ideal.Gen

variable (m : (ℓ : Loc nD τ sig) → Buf (Elt Ideal) ℓ) (c : Dev nD)

/-- A block's product. -/
theorem pay1_at (x : Vec Ideal S1024x1024 .bf16) (w : Vec Ideal S1024x1024 .bf16) (j : S1024x1024.Idx) :
    k0_pay1 x w j = ∑ k : Fin 1024, x (ix2 (j 0) k) * w (ix2 (j 1) k) := by
  pointwise [k0_pay1]

/-- Which block each window has at a point. -/
theorem idx : ∀ t : Fin grid0.N, win0_0.index t = ![t.val / 2, 0] ∧ win0_1.index t = ![t.val % 2, 0] ∧ win0_2.index t = ![t.val / 2, t.val % 2] := by
  decide +kernel

/-- The result array is the product. -/
theorem final : (dats m 0 c).arrAt 2 cfg0.N = Cert.Prod.nt (m ((c : Thread nD τ).loc main_arg0)) (m ((c : Thread nD τ).loc main_arg1)) := by
  refine (dats m 0 c).arrAt_eq_of_covers 2 _ (by decide +kernel) fun t hf y => ?_
  blk_simp
  rw [after0_2]
  simp only [outsAt0]
  frame_out
  rw [pay1_at]
  refine (Finset.sum_congr rfl fun k _ => ?_ : (_ : EReal) = _)
  congr 1 <;> blk_ext [iblk, V, idx t]

/-- The reference is the product. -/
theorem ref (x0 x1) : Cert.Reference8Ideal.Read.val_main_v4 (F := Ideal) x0 x1 = Cert.Prod.nt x0 x1 := by
  funext i
  pointwise [Cert.Reference8Ideal.Read.val_main_v4, Cert.Reference8Ideal.Read.val_main_v3, Cert.Reference8Ideal.Read.val_main_v1, Cert.Prod.nt]

end Cert.Kernel8Ideal.Prod

end
-- ==== Proof.DwOut.lean ====
module

public import proofs.«01_k».proof.Proof.Prod
public import proofs.«01_k».proof.Proof.Gen.Kernel9Ideal.Value
public import proofs.«01_k».proof.Proof.Gen.Reference9Ideal.Read

/-!
# The gradient of a mixer's output projection by its weights

The product of the mixer's output transposed with the layer's gradient, in tiles of 1024 rows and steps of 1024 along the sum.
-/

@[expose] public section

set_option maxRecDepth 16384

noncomputable section

namespace Cert.Kernel9Ideal.Prod

open Idealize.ShloMosaic Idealize.ShloMosaic.TcCoe Idealize.ShloMosaic.Tactic Cert.Kernel9Ideal Cert.Kernel9Ideal.Gen

variable (m : (ℓ : Loc nD τ sig) → Buf (Elt Ideal) ℓ) (c : Dev nD)

/-- A block's product. -/
theorem pay1_at (x : Vec Ideal S1024x1024 .bf16) (w : Vec Ideal S1024x1024 .bf16) (j : S1024x1024.Idx) :
    k0_pay1 x w j = ∑ k : Fin 1024, x (ix2 k (j 0)) * w (ix2 k (j 1)) := by
  pointwise [k0_pay1]

/-- A block's product, added to what the blocks before it left. -/
theorem pay2_at (x : Vec Ideal S1024x1024 .bf16) (w : Vec Ideal S1024x1024 .bf16) (a : Vec Ideal S1024x1024 .f32) (j : S1024x1024.Idx) :
    k0_pay2 x w a j = a j + ∑ k : Fin 1024, x (ix2 k (j 0)) * w (ix2 k (j 1)) := by
  rw [← pay1_at x w j]
  pointwise [k0_pay2]

/-- Which block each window has at a point. -/
theorem idx : ∀ t : Fin grid0.N, win0_0.index t = ![t.val % 4, t.val / 4] ∧ win0_1.index t = ![t.val % 4, 0] ∧ win0_2.index t = ![t.val / 4, 0] := by
  decide +kernel

/-- The result array is the product. -/
theorem final : (dats m 0 c).arrAt 2 cfg0.N = Cert.Prod.tn (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 4 (fun _ => 0) _
    (fun t h j => by rw [outsAt0_A m c t h (by omega)]; frame_out; rw [pay1_at, zero_add])
    (fun t h j => by rw [outsAt0_B m c t h (by omega)]; frame_out; rw [pay2_at]) t ((flush0_2 t).mp hf), zero_add]
  refine Fin.sum_mul_add_congr fun s k hl => ?_
  congr 1 <;> blk_ext [iblk, V, idx t, idx ⟨4 * (t.val / 4) + s.val, Pipeline.run_point_lt_of_flush t ((flush0_2 t).mp hf) s⟩]

/-- The reference is the product. -/
theorem ref (x0 x1) : Cert.Reference9Ideal.Read.val_main_v5 (F := Ideal) x0 x1 = Cert.Prod.tn x0 x1 := by
  funext i
  pointwise [Cert.Reference9Ideal.Read.val_main_v5, Cert.Reference9Ideal.Read.val_main_v4, Cert.Reference9Ideal.Read.val_main_v3, Cert.Reference9Ideal.Read.val_main_v1, Cert.Prod.tn]
  exact Finset.sum_congr rfl fun k _ => mul_comm _ _

end Cert.Kernel9Ideal.Prod

end
-- ==== Proof.ProjOut.lean ====
module

public import proofs.«01_k».proof.Proof.Prod
public import proofs.«01_k».proof.Proof.Gen.Kernel10Ideal.Value
public import proofs.«01_k».proof.Proof.Gen.Reference10Ideal.Read

/-!
# A mixer's output projection with its residual

The product of the mixer's output with the output weights, added to the layer's input, in tiles of 1024 rows and steps of 1024 along the sum.
-/

@[expose] public section

set_option maxRecDepth 16384

noncomputable section

namespace Cert.Kernel10Ideal.Prod

open Idealize.ShloMosaic Idealize.ShloMosaic.TcCoe Idealize.ShloMosaic.Tactic Cert.Kernel10Ideal Cert.Kernel10Ideal.Gen

variable (m : (ℓ : Loc nD τ sig) → Buf (Elt Ideal) ℓ) (c : Dev nD)

/-- A block's product. -/
theorem pay1_at (x : Vec Ideal S1024x1024 .bf16) (w : Vec Ideal S1024x1024 .bf16) (j : S1024x1024.Idx) :
    k0_pay1 x w j = ∑ k : Fin 1024, x (ix2 (j 0) k) * w (ix2 k (j 1)) := by
  pointwise [k0_pay1]

/-- A block's product, added to what the blocks before it left. -/
theorem pay3_at (x : Vec Ideal S1024x1024 .bf16) (w : Vec Ideal S1024x1024 .bf16) (a : Vec Ideal S1024x1024 .f32) (j : S1024x1024.Idx) :
    k0_pay3 x w a j = a j + ∑ k : Fin 1024, x (ix2 (j 0) k) * w (ix2 k (j 1)) := by
  rw [← pay1_at x w j]
  pointwise [k0_pay3]

/-- The first block's product, with the residual. -/
theorem pay2_at (x : Vec Ideal S1024x1024 .bf16) (w : Vec Ideal S1024x1024 .bf16) (a : Vec Ideal S1024x1024 .f32) (j : S1024x1024.Idx) :
    k0_pay2 x w a j = (∑ k : Fin 1024, x (ix2 (j 0) k) * w (ix2 k (j 1))) + a j := by
  rw [← pay1_at x w j]
  pointwise [k0_pay2]

/-- Which block each window has at a point. -/
theorem idx : ∀ t : Fin grid0.N, win0_0.index t = ![t.val / 2, t.val % 2] ∧ win0_1.index t = ![t.val % 2, 0] ∧ win0_2.index t = ![t.val / 2, 0] ∧ win0_3.index t = ![t.val / 2, 0] := by
  decide +kernel

/-- What a point adds: its block's product and, at a tile's first point, the residual. -/
def term (t : Fin cfg0.N) (j : S1024x1024.Idx) : EReal :=
  k0_pay1 (iblk m c 0 t) (iblk m c 1 t) j + (if t.val % 2 = 0 then iblk m c 2 t j else 0 : EReal)

/-- The result array is the residual and the product. -/
theorem final : (dats m 0 c).arrAt 3 cfg0.N =
    Cert.Prod.nnAdd (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3, Pipeline.eq_sum_fin_of_reset_step_apply_of_flush (fun n h => outsAt0 m c n h) 2 (fun _ => 0) (term m c)
    (fun t h j => by rw [outsAt0_A m c t h (by omega)]; frame_out; rw [pay2_at, zero_add, term, if_pos h, pay1_at])
    (fun t h j => by rw [outsAt0_B m c t h (by omega)]; frame_out; rw [pay3_at, term, if_neg h, add_zero, pay1_at]) t ((flush0_3 t).mp hf), zero_add]
  simp only [term, pay1_at]
  rw [Finset.sum_add_distrib, add_comm, Fin.sum_univ_two, if_pos (show (2 * (t.val / 2) + (0 : Fin 2).val) % 2 = 0 by dsimp; omega),
    if_neg (show ¬(2 * (t.val / 2) + (1 : Fin 2).val) % 2 = 0 by dsimp; omega), add_zero]
  congr 1
  · blk_ext [iblk, V, idx t, idx ⟨2 * (t.val / 2) + (0 : Fin 2).val, Pipeline.run_point_lt_of_flush t ((flush0_3 t).mp hf) 0⟩]
  refine Fin.sum_mul_add_congr fun s k hl => ?_
  congr 1 <;> blk_ext [iblk, V, idx t, idx ⟨2 * (t.val / 2) + s.val, Pipeline.run_point_lt_of_flush t ((flush0_3 t).mp hf) s⟩]

/-- The reference is the residual and the product. -/
theorem ref (x0 x1 x2) : Cert.Reference10Ideal.Read.val_main_v3 (F := Ideal) x0 x1 x2 = Cert.Prod.nnAdd x0 x1 x2 := by
  funext i
  pointwise [Cert.Reference10Ideal.Read.val_main_v3, Cert.Reference10Ideal.Read.val_main_v2, Cert.Reference10Ideal.Read.val_main_v1,
    Cert.Reference10Ideal.Read.val_main_v0, Cert.Prod.nnAdd, Cert.Prod.nn]

end Cert.Kernel10Ideal.Prod

end
-- ==== Proof.ProjIn2.lean ====
module

public import proofs.«01_k».proof.Proof.Prod
public import proofs.«01_k».proof.Proof.Gen.Kernel11Ideal.Value
public import proofs.«01_k».proof.Proof.Gen.Reference11Ideal.Read

/-!
# The forgetting layer's projection

The product of the normed input with the weights, in tiles of 1024 × 1664 with the whole sum in one step.
-/

@[expose] public section

set_option maxRecDepth 16384

noncomputable section

namespace Cert.Kernel11Ideal.Prod

open Idealize.ShloMosaic Idealize.ShloMosaic.TcCoe Idealize.ShloMosaic.Tactic Cert.Kernel11Ideal Cert.Kernel11Ideal.Gen

variable (m : (ℓ : Loc nD τ sig) → Buf (Elt Ideal) ℓ) (c : Dev nD)

/-- A block's product. -/
theorem pay1_at (x : Vec Ideal S1024x1024 .bf16) (w : Vec Ideal S1024x1664 .bf16) (j : S1024x1664.Idx) :
    k0_pay1 x w j = ∑ k : Fin 1024, x (ix2 (j 0) k) * w (ix2 k (j 1)) := by
  pointwise [k0_pay1]

/-- Which block each window has at a point. -/
theorem idx : ∀ t : Fin grid0.N, win0_0.index t = ![t.val / 5, 0] ∧ win0_1.index t = ![0, t.val % 5] ∧ win0_2.index t = ![t.val / 5, t.val % 5] := by
  decide +kernel

/-- The result array is the product. -/
theorem final : (dats m 0 c).arrAt 2 cfg0.N = Cert.Prod.nn (m ((c : Thread nD τ).loc main_arg0)) (m ((c : Thread nD τ).loc main_arg1)) := by
  refine (dats m 0 c).arrAt_eq_of_covers 2 _ (by decide +kernel) fun t hf y => ?_
  blk_simp
  rw [after0_2]
  simp only [outsAt0]
  frame_out
  rw [pay1_at]
  refine (Finset.sum_congr rfl fun k _ => ?_ : (_ : EReal) = _)
  congr 1 <;> blk_ext [iblk, V, idx t]

/-- The reference is the product. -/
theorem ref (x0 x1) : Cert.Reference11Ideal.Read.val_main_v2 (F := Ideal) x0 x1 = Cert.Prod.nn x0 x1 := by
  funext i
  pointwise [Cert.Reference11Ideal.Read.val_main_v2, Cert.Reference11Ideal.Read.val_main_v0, Cert.Reference11Ideal.Read.val_main_v1, Cert.Prod.nn]

end Cert.Kernel11Ideal.Prod

end
-- ==== Proof.ProjIn1.lean ====
module

public import proofs.«01_k».proof.Proof.Prod
public import proofs.«01_k».proof.Proof.Gen.Kernel12Ideal.Value
public import proofs.«01_k».proof.Proof.Gen.Reference12Ideal.Read

/-!
# The latent layer's projection

The product of the normed input with the weights, in tiles of 1024 × 640 with the whole sum in one step.
-/

@[expose] public section

set_option maxRecDepth 16384

noncomputable section

namespace Cert.Kernel12Ideal.Prod

open Idealize.ShloMosaic Idealize.ShloMosaic.TcCoe Idealize.ShloMosaic.Tactic Cert.Kernel12Ideal Cert.Kernel12Ideal.Gen

variable (m : (ℓ : Loc nD τ sig) → Buf (Elt Ideal) ℓ) (c : Dev nD)

/-- A block's product. -/
theorem pay1_at (x : Vec Ideal S1024x1024 .bf16) (w : Vec Ideal S1024x640 .bf16) (j : S1024x640.Idx) :
    k0_pay1 x w j = ∑ k : Fin 1024, x (ix2 (j 0) k) * w (ix2 k (j 1)) := by
  pointwise [k0_pay1]

/-- Which block each window has at a point. -/
theorem idx : ∀ t : Fin grid0.N, win0_0.index t = ![t.val / 4, 0] ∧ win0_1.index t = ![0, t.val % 4] ∧ win0_2.index t = ![t.val / 4, t.val % 4] := by
  decide +kernel

/-- The result array is the product. -/
theorem final : (dats m 0 c).arrAt 2 cfg0.N = Cert.Prod.nn (m ((c : Thread nD τ).loc main_arg0)) (m ((c : Thread nD τ).loc main_arg1)) := by
  refine (dats m 0 c).arrAt_eq_of_covers 2 _ (by decide +kernel) fun t hf y => ?_
  blk_simp
  rw [after0_2]
  simp only [outsAt0]
  frame_out
  rw [pay1_at]
  refine (Finset.sum_congr rfl fun k _ => ?_ : (_ : EReal) = _)
  congr 1 <;> blk_ext [iblk, V, idx t]

/-- The reference is the product. -/
theorem ref (x0 x1) : Cert.Reference12Ideal.Read.val_main_v2 (F := Ideal) x0 x1 = Cert.Prod.nn x0 x1 := by
  funext i
  pointwise [Cert.Reference12Ideal.Read.val_main_v2, Cert.Reference12Ideal.Read.val_main_v0, Cert.Reference12Ideal.Read.val_main_v1, Cert.Prod.nn]

end Cert.Kernel12Ideal.Prod

end
-- ==== Proof.QUp.lean ====
module

public import proofs.«01_k».proof.Proof.Prod
public import proofs.«01_k».proof.Proof.Gen.Kernel13Ideal.Value
public import proofs.«01_k».proof.Proof.Gen.Reference13Ideal.Read

/-!
# The latent queries' projection to the heads

The product of the normed latent queries with the weights, in tiles of 1024 × 1024 with the whole sum in one step.
-/

@[expose] public section

set_option maxRecDepth 16384

noncomputable section

namespace Cert.Kernel13Ideal.Prod

open Idealize.ShloMosaic Idealize.ShloMosaic.TcCoe Idealize.ShloMosaic.Tactic Cert.Kernel13Ideal Cert.Kernel13Ideal.Gen

variable (m : (ℓ : Loc nD τ sig) → Buf (Elt Ideal) ℓ) (c : Dev nD)

/-- A block's product. -/
theorem pay1_at (x : Vec Ideal S1024x256 .bf16) (w : Vec Ideal S256x1024 .bf16) (j : S1024x1024.Idx) :
    k0_pay1 x w j = ∑ k : Fin 256, x (ix2 (j 0) k) * w (ix2 k (j 1)) := by
  pointwise [k0_pay1]

/-- Which block each window has at a point. -/
theorem idx : ∀ t : Fin grid0.N, win0_0.index t = ![t.val / 4, 0] ∧ win0_1.index t = ![0, t.val % 4] ∧ win0_2.index t = ![t.val / 4, t.val % 4] := by
  decide +kernel

/-- The result array is the product. -/
theorem final : (dats m 0 c).arrAt 2 cfg0.N = Cert.Prod.nn (m ((c : Thread nD τ).loc main_arg0)) (m ((c : Thread nD τ).loc main_arg1)) := by
  refine (dats m 0 c).arrAt_eq_of_covers 2 _ (by decide +kernel) fun t hf y => ?_
  blk_simp
  rw [after0_2]
  simp only [outsAt0]
  frame_out
  rw [pay1_at]
  refine (Finset.sum_congr rfl fun k _ => ?_ : (_ : EReal) = _)
  congr 1 <;> blk_ext [iblk, V, idx t]

/-- The reference is the product. -/
theorem ref (x0 x1) : Cert.Reference13Ideal.Read.val_main_v2 (F := Ideal) x0 x1 = Cert.Prod.nn x0 x1 := by
  funext i
  pointwise [Cert.Reference13Ideal.Read.val_main_v2, Cert.Reference13Ideal.Read.val_main_v0, Cert.Reference13Ideal.Read.val_main_v1, Cert.Prod.nn]

end Cert.Kernel13Ideal.Prod

end
-- ==== Proof.KvUp.lean ====
module

public import proofs.«01_k».proof.Proof.Prod
public import proofs.«01_k».proof.Proof.Gen.Kernel14Ideal.Value
public import proofs.«01_k».proof.Proof.Gen.Reference14Ideal.Read

/-!
# The latent keys' and values' projection to the heads

The product of the normed latents with the weights, in tiles of 1024 × 1024 with the whole sum in one step.
-/

@[expose] public section

set_option maxRecDepth 16384

noncomputable section

namespace Cert.Kernel14Ideal.Prod

open Idealize.ShloMosaic Idealize.ShloMosaic.TcCoe Idealize.ShloMosaic.Tactic Cert.Kernel14Ideal Cert.Kernel14Ideal.Gen

variable (m : (ℓ : Loc nD τ sig) → Buf (Elt Ideal) ℓ) (c : Dev nD)

/-- A block's product. -/
theorem pay1_at (x : Vec Ideal S1024x128 .bf16) (w : Vec Ideal S128x1024 .bf16) (j : S1024x1024.Idx) :
    k0_pay1 x w j = ∑ k : Fin 128, x (ix2 (j 0) k) * w (ix2 k (j 1)) := by
  pointwise [k0_pay1]

/-- Which block each window has at a point. -/
theorem idx : ∀ t : Fin grid0.N, win0_0.index t = ![t.val / 4, 0] ∧ win0_1.index t = ![0, t.val % 4] ∧ win0_2.index t = ![t.val / 4, t.val % 4] := by
  decide +kernel

/-- The result array is the product. -/
theorem final : (dats m 0 c).arrAt 2 cfg0.N = Cert.Prod.nn (m ((c : Thread nD τ).loc main_arg0)) (m ((c : Thread nD τ).loc main_arg1)) := by
  refine (dats m 0 c).arrAt_eq_of_covers 2 _ (by decide +kernel) fun t hf y => ?_
  blk_simp
  rw [after0_2]
  simp only [outsAt0]
  frame_out
  rw [pay1_at]
  refine (Finset.sum_congr rfl fun k _ => ?_ : (_ : EReal) = _)
  congr 1 <;> blk_ext [iblk, V, idx t]

/-- The reference is the product. -/
theorem ref (x0 x1) : Cert.Reference14Ideal.Read.val_main_v2 (F := Ideal) x0 x1 = Cert.Prod.nn x0 x1 := by
  funext i
  pointwise [Cert.Reference14Ideal.Read.val_main_v2, Cert.Reference14Ideal.Read.val_main_v0, Cert.Reference14Ideal.Read.val_main_v1, Cert.Prod.nn]

end Cert.Kernel14Ideal.Prod

end
-- ==== Proof.Dqn.lean ====
module

public import proofs.«01_k».proof.Proof.Prod
public import proofs.«01_k».proof.Proof.Gen.Kernel15Ideal.Value
public import proofs.«01_k».proof.Proof.Gen.Reference15Ideal.Read

/-!
# The gradient of the latent queries' projection by its input

The product of the projection's gradient with the weights transposed, in tiles of 1024 rows and steps of 1024 along the sum.
-/

@[expose] public section

set_option maxRecDepth 16384

noncomputable section

namespace Cert.Kernel15Ideal.Prod

open Idealize.ShloMosaic Idealize.ShloMosaic.TcCoe Idealize.ShloMosaic.Tactic Cert.Kernel15Ideal Cert.Kernel15Ideal.Gen

variable (m : (ℓ : Loc nD τ sig) → Buf (Elt Ideal) ℓ) (c : Dev nD)

/-- A block's product. -/
theorem pay1_at (x : Vec Ideal S1024x1024 .bf16) (w : Vec Ideal S256x1024 .bf16) (j : S1024x256.Idx) :
    k0_pay1 x w j = ∑ k : Fin 1024, x (ix2 (j 0) k) * w (ix2 (j 1) k) := by
  pointwise [k0_pay1]

/-- A block's product, added to what the blocks before it left. -/
theorem pay2_at (x : Vec Ideal S1024x1024 .bf16) (w : Vec Ideal S256x1024 .bf16) (a : Vec Ideal S1024x256 .f32) (j : S1024x256.Idx) :
    k0_pay2 x w a j = a j + ∑ k : Fin 1024, x (ix2 (j 0) k) * w (ix2 (j 1) k) := by
  rw [← pay1_at x w j]
  pointwise [k0_pay2]

/-- Which block each window has at a point. -/
theorem idx : ∀ t : Fin grid0.N, win0_0.index t = ![t.val / 4, t.val % 4] ∧ win0_1.index t = ![0, t.val % 4] ∧ win0_2.index t = ![t.val / 4, 0] := by
  decide +kernel

/-- The result array is the product. -/
theorem final : (dats m 0 c).arrAt 2 cfg0.N = Cert.Prod.nt (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 4 (fun _ => 0) _
    (fun t h j => by rw [outsAt0_A m c t h (by omega)]; frame_out; rw [pay1_at, zero_add])
    (fun t h j => by rw [outsAt0_B m c t h (by omega)]; frame_out; rw [pay2_at]) t ((flush0_2 t).mp hf), zero_add]
  refine Fin.sum_mul_add_congr fun s k hl => ?_
  congr 1 <;> blk_ext [iblk, V, idx t, idx ⟨4 * (t.val / 4) + s.val, Pipeline.run_point_lt_of_flush t ((flush0_2 t).mp hf) s⟩]

/-- The reference is the product. -/
theorem ref (x0 x1) : Cert.Reference15Ideal.Read.val_main_v4 (F := Ideal) x0 x1 = Cert.Prod.nt x0 x1 := by
  funext i
  pointwise [Cert.Reference15Ideal.Read.val_main_v4, Cert.Reference15Ideal.Read.val_main_v3, Cert.Reference15Ideal.Read.val_main_v1, Cert.Prod.nt]

end Cert.Kernel15Ideal.Prod

end
-- ==== Proof.DwQb.lean ====
module

public import proofs.«01_k».proof.Proof.Prod
public import proofs.«01_k».proof.Proof.Gen.Kernel16Ideal.Value
public import proofs.«01_k».proof.Proof.Gen.Reference16Ideal.Read

/-!
# The gradient of the latent queries' projection by its weights

The product of the input transposed with the projection's gradient, in tiles of 1024 columns and steps of 1024 along the sum.
-/

@[expose] public section

set_option maxRecDepth 16384

noncomputable section

namespace Cert.Kernel16Ideal.Prod

open Idealize.ShloMosaic Idealize.ShloMosaic.TcCoe Idealize.ShloMosaic.Tactic Cert.Kernel16Ideal Cert.Kernel16Ideal.Gen

variable (m : (ℓ : Loc nD τ sig) → Buf (Elt Ideal) ℓ) (c : Dev nD)

/-- A block's product. -/
theorem pay1_at (x : Vec Ideal S1024x256 .bf16) (w : Vec Ideal S1024x1024 .bf16) (j : S256x1024.Idx) :
    k0_pay1 x w j = ∑ k : Fin 1024, x (ix2 k (j 0)) * w (ix2 k (j 1)) := by
  pointwise [k0_pay1]

/-- A block's product, added to what the blocks before it left. -/
theorem pay2_at (x : Vec Ideal S1024x256 .bf16) (w : Vec Ideal S1024x1024 .bf16) (a : Vec Ideal S256x1024 .f32) (j : S256x1024.Idx) :
    k0_pay2 x w a j = a j + ∑ k : Fin 1024, x (ix2 k (j 0)) * w (ix2 k (j 1)) := by
  rw [← pay1_at x w j]
  pointwise [k0_pay2]

/-- Which block each window has at a point. -/
theorem idx : ∀ t : Fin grid0.N, win0_0.index t = ![t.val % 4, 0] ∧ win0_1.index t = ![t.val % 4, t.val / 4] ∧ win0_2.index t = ![0, t.val / 4] := by
  decide +kernel

/-- The result array is the product. -/
theorem final : (dats m 0 c).arrAt 2 cfg0.N = Cert.Prod.tn (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 4 (fun _ => 0) _
    (fun t h j => by rw [outsAt0_A m c t h (by omega)]; frame_out; rw [pay1_at, zero_add])
    (fun t h j => by rw [outsAt0_B m c t h (by omega)]; frame_out; rw [pay2_at]) t ((flush0_2 t).mp hf), zero_add]
  refine Fin.sum_mul_add_congr fun s k hl => ?_
  congr 1 <;> blk_ext [iblk, V, idx t, idx ⟨4 * (t.val / 4) + s.val, Pipeline.run_point_lt_of_flush t ((flush0_2 t).mp hf) s⟩]

/-- The reference is the product. -/
theorem ref (x0 x1) : Cert.Reference16Ideal.Read.val_main_v5 (F := Ideal) x0 x1 = Cert.Prod.tn x0 x1 := by
  funext i
  pointwise [Cert.Reference16Ideal.Read.val_main_v5, Cert.Reference16Ideal.Read.val_main_v4, Cert.Reference16Ideal.Read.val_main_v3, Cert.Reference16Ideal.Read.val_main_v1, Cert.Prod.tn]
  exact Finset.sum_congr rfl fun k _ => mul_comm _ _

end Cert.Kernel16Ideal.Prod

end
-- ==== Proof.Dkvn.lean ====
module

public import proofs.«01_k».proof.Proof.Prod
public import proofs.«01_k».proof.Proof.Gen.Kernel17Ideal.Value
public import proofs.«01_k».proof.Proof.Gen.Reference17Ideal.Read

/-!
# The gradient of the latent keys' and values' projection by its input

The product of the projection's gradient with the weights transposed, in tiles of 1024 rows and steps of 1024 along the sum.
-/

@[expose] public section

set_option maxRecDepth 16384

noncomputable section

namespace Cert.Kernel17Ideal.Prod

open Idealize.ShloMosaic Idealize.ShloMosaic.TcCoe Idealize.ShloMosaic.Tactic Cert.Kernel17Ideal Cert.Kernel17Ideal.Gen

variable (m : (ℓ : Loc nD τ sig) → Buf (Elt Ideal) ℓ) (c : Dev nD)

/-- A block's product. -/
theorem pay1_at (x : Vec Ideal S1024x1024 .bf16) (w : Vec Ideal S128x1024 .bf16) (j : S1024x128.Idx) :
    k0_pay1 x w j = ∑ k : Fin 1024, x (ix2 (j 0) k) * w (ix2 (j 1) k) := by
  pointwise [k0_pay1]

/-- A block's product, added to what the blocks before it left. -/
theorem pay2_at (x : Vec Ideal S1024x1024 .bf16) (w : Vec Ideal S128x1024 .bf16) (a : Vec Ideal S1024x128 .f32) (j : S1024x128.Idx) :
    k0_pay2 x w a j = a j + ∑ k : Fin 1024, x (ix2 (j 0) k) * w (ix2 (j 1) k) := by
  rw [← pay1_at x w j]
  pointwise [k0_pay2]

/-- Which block each window has at a point. -/
theorem idx : ∀ t : Fin grid0.N, win0_0.index t = ![t.val / 4, t.val % 4] ∧ win0_1.index t = ![0, t.val % 4] ∧ win0_2.index t = ![t.val / 4, 0] := by
  decide +kernel

/-- The result array is the product. -/
theorem final : (dats m 0 c).arrAt 2 cfg0.N = Cert.Prod.nt (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 4 (fun _ => 0) _
    (fun t h j => by rw [outsAt0_A m c t h (by omega)]; frame_out; rw [pay1_at, zero_add])
    (fun t h j => by rw [outsAt0_B m c t h (by omega)]; frame_out; rw [pay2_at]) t ((flush0_2 t).mp hf), zero_add]
  refine Fin.sum_mul_add_congr fun s k hl => ?_
  congr 1 <;> blk_ext [iblk, V, idx t, idx ⟨4 * (t.val / 4) + s.val, Pipeline.run_point_lt_of_flush t ((flush0_2 t).mp hf) s⟩]

/-- The reference is the product. -/
theorem ref (x0 x1) : Cert.Reference17Ideal.Read.val_main_v4 (F := Ideal) x0 x1 = Cert.Prod.nt x0 x1 := by
  funext i
  pointwise [Cert.Reference17Ideal.Read.val_main_v4, Cert.Reference17Ideal.Read.val_main_v3, Cert.Reference17Ideal.Read.val_main_v1, Cert.Prod.nt]

end Cert.Kernel17Ideal.Prod

end
-- ==== Proof.DwKvb.lean ====
module

public import proofs.«01_k».proof.Proof.Prod
public import proofs.«01_k».proof.Proof.Gen.Kernel18Ideal.Value
public import proofs.«01_k».proof.Proof.Gen.Reference18Ideal.Read

/-!
# The gradient of the latent keys' and values' projection by its weights

The product of the input transposed with the projection's gradient, in tiles of 1024 columns and steps of 1024 along the sum.
-/

@[expose] public section

set_option maxRecDepth 16384

noncomputable section

namespace Cert.Kernel18Ideal.Prod

open Idealize.ShloMosaic Idealize.ShloMosaic.TcCoe Idealize.ShloMosaic.Tactic Cert.Kernel18Ideal Cert.Kernel18Ideal.Gen

variable (m : (ℓ : Loc nD τ sig) → Buf (Elt Ideal) ℓ) (c : Dev nD)

/-- A block's product. -/
theorem pay1_at (x : Vec Ideal S1024x128 .bf16) (w : Vec Ideal S1024x1024 .bf16) (j : S128x1024.Idx) :
    k0_pay1 x w j = ∑ k : Fin 1024, x (ix2 k (j 0)) * w (ix2 k (j 1)) := by
  pointwise [k0_pay1]

/-- A block's product, added to what the blocks before it left. -/
theorem pay2_at (x : Vec Ideal S1024x128 .bf16) (w : Vec Ideal S1024x1024 .bf16) (a : Vec Ideal S128x1024 .f32) (j : S128x1024.Idx) :
    k0_pay2 x w a j = a j + ∑ k : Fin 1024, x (ix2 k (j 0)) * w (ix2 k (j 1)) := by
  rw [← pay1_at x w j]
  pointwise [k0_pay2]

/-- Which block each window has at a point. -/
theorem idx : ∀ t : Fin grid0.N, win0_0.index t = ![t.val % 4, 0] ∧ win0_1.index t = ![t.val % 4, t.val / 4] ∧ win0_2.index t = ![0, t.val / 4] := by
  decide +kernel

/-- The result array is the product. -/
theorem final : (dats m 0 c).arrAt 2 cfg0.N = Cert.Prod.tn (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 4 (fun _ => 0) _
    (fun t h j => by rw [outsAt0_A m c t h (by omega)]; frame_out; rw [pay1_at, zero_add])
    (fun t h j => by rw [outsAt0_B m c t h (by omega)]; frame_out; rw [pay2_at]) t ((flush0_2 t).mp hf), zero_add]
  refine Fin.sum_mul_add_congr fun s k hl => ?_
  congr 1 <;> blk_ext [iblk, V, idx t, idx ⟨4 * (t.val / 4) + s.val, Pipeline.run_point_lt_of_flush t ((flush0_2 t).mp hf) s⟩]

/-- The reference is the product. -/
theorem ref (x0 x1) : Cert.Reference18Ideal.Read.val_main_v5 (F := Ideal) x0 x1 = Cert.Prod.tn x0 x1 := by
  funext i
  pointwise [Cert.Reference18Ideal.Read.val_main_v5, Cert.Reference18Ideal.Read.val_main_v4, Cert.Reference18Ideal.Read.val_main_v3, Cert.Reference18Ideal.Read.val_main_v1, Cert.Prod.tn]
  exact Finset.sum_congr rfl fun k _ => mul_comm _ _

end Cert.Kernel18Ideal.Prod

end
-- ==== Proof.Dh1.lean ====
module

public import proofs.«01_k».proof.Proof.Prod
public import proofs.«01_k».proof.Proof.Gen.Kernel19Ideal.Value
public import proofs.«01_k».proof.Proof.Gen.Reference19Ideal.Read

/-!
# The gradient of the latent layer's projection by its input

The product of the projection's gradient with the weights transposed, in tiles of 1024 rows and steps of 640 along the sum.
-/

@[expose] public section

set_option maxRecDepth 16384

noncomputable section

namespace Cert.Kernel19Ideal.Prod

open Idealize.ShloMosaic Idealize.ShloMosaic.TcCoe Idealize.ShloMosaic.Tactic Cert.Kernel19Ideal Cert.Kernel19Ideal.Gen

variable (m : (ℓ : Loc nD τ sig) → Buf (Elt Ideal) ℓ) (c : Dev nD)

/-- A block's product. -/
theorem pay1_at (x : Vec Ideal S1024x640 .bf16) (w : Vec Ideal S1024x640 .bf16) (j : S1024x1024.Idx) :
    k0_pay1 x w j = ∑ k : Fin 640, x (ix2 (j 0) k) * w (ix2 (j 1) k) := by
  pointwise [k0_pay1]

/-- A block's product, added to what the blocks before it left. -/
theorem pay2_at (x : Vec Ideal S1024x640 .bf16) (w : Vec Ideal S1024x640 .bf16) (a : Vec Ideal S1024x1024 .f32) (j : S1024x1024.Idx) :
    k0_pay2 x w a j = a j + ∑ k : Fin 640, x (ix2 (j 0) k) * w (ix2 (j 1) k) := by
  rw [← pay1_at x w j]
  pointwise [k0_pay2]

/-- Which block each window has at a point. -/
theorem idx : ∀ t : Fin grid0.N, win0_0.index t = ![t.val / 4, t.val % 4] ∧ win0_1.index t = ![0, t.val % 4] ∧ win0_2.index t = ![t.val / 4, 0] := by
  decide +kernel

/-- The result array is the product. -/
theorem final : (dats m 0 c).arrAt 2 cfg0.N = Cert.Prod.nt (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 4 (fun _ => 0) _
    (fun t h j => by rw [outsAt0_A m c t h (by omega)]; frame_out; rw [pay1_at, zero_add])
    (fun t h j => by rw [outsAt0_B m c t h (by omega)]; frame_out; rw [pay2_at]) t ((flush0_2 t).mp hf), zero_add]
  refine Fin.sum_mul_add_congr fun s k hl => ?_
  congr 1 <;> blk_ext [iblk, V, idx t, idx ⟨4 * (t.val / 4) + s.val, Pipeline.run_point_lt_of_flush t ((flush0_2 t).mp hf) s⟩]

/-- The reference is the product. -/
theorem ref (x0 x1) : Cert.Reference19Ideal.Read.val_main_v4 (F := Ideal) x0 x1 = Cert.Prod.nt x0 x1 := by
  funext i
  pointwise [Cert.Reference19Ideal.Read.val_main_v4, Cert.Reference19Ideal.Read.val_main_v3, Cert.Reference19Ideal.Read.val_main_v1, Cert.Prod.nt]

end Cert.Kernel19Ideal.Prod

end
-- ==== Proof.DwIn1.lean ====
module

public import proofs.«01_k».proof.Proof.Prod
public import proofs.«01_k».proof.Proof.Gen.Kernel20Ideal.Value
public import proofs.«01_k».proof.Proof.Gen.Reference20Ideal.Read

/-!
# The gradient of the latent layer's projection by its weights

The product of the input transposed with the projection's gradient, in tiles of 640 columns and steps of 1024 along the sum.
-/

@[expose] public section

set_option maxRecDepth 16384

noncomputable section

namespace Cert.Kernel20Ideal.Prod

open Idealize.ShloMosaic Idealize.ShloMosaic.TcCoe Idealize.ShloMosaic.Tactic Cert.Kernel20Ideal Cert.Kernel20Ideal.Gen

variable (m : (ℓ : Loc nD τ sig) → Buf (Elt Ideal) ℓ) (c : Dev nD)

/-- A block's product. -/
theorem pay1_at (x : Vec Ideal S1024x1024 .bf16) (w : Vec Ideal S1024x640 .bf16) (j : S1024x640.Idx) :
    k0_pay1 x w j = ∑ k : Fin 1024, x (ix2 k (j 0)) * w (ix2 k (j 1)) := by
  pointwise [k0_pay1]

/-- A block's product, added to what the blocks before it left. -/
theorem pay2_at (x : Vec Ideal S1024x1024 .bf16) (w : Vec Ideal S1024x640 .bf16) (a : Vec Ideal S1024x640 .f32) (j : S1024x640.Idx) :
    k0_pay2 x w a j = a j + ∑ k : Fin 1024, x (ix2 k (j 0)) * w (ix2 k (j 1)) := by
  rw [← pay1_at x w j]
  pointwise [k0_pay2]

/-- Which block each window has at a point. -/
theorem idx : ∀ t : Fin grid0.N, win0_0.index t = ![t.val % 4, 0] ∧ win0_1.index t = ![t.val % 4, t.val / 4] ∧ win0_2.index t = ![0, t.val / 4] := by
  decide +kernel

/-- The result array is the product. -/
theorem final : (dats m 0 c).arrAt 2 cfg0.N = Cert.Prod.tn (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 4 (fun _ => 0) _
    (fun t h j => by rw [outsAt0_A m c t h (by omega)]; frame_out; rw [pay1_at, zero_add])
    (fun t h j => by rw [outsAt0_B m c t h (by omega)]; frame_out; rw [pay2_at]) t ((flush0_2 t).mp hf), zero_add]
  refine Fin.sum_mul_add_congr fun s k hl => ?_
  congr 1 <;> blk_ext [iblk, V, idx t, idx ⟨4 * (t.val / 4) + s.val, Pipeline.run_point_lt_of_flush t ((flush0_2 t).mp hf) s⟩]

/-- The reference is the product. -/
theorem ref (x0 x1) : Cert.Reference20Ideal.Read.val_main_v5 (F := Ideal) x0 x1 = Cert.Prod.tn x0 x1 := by
  funext i
  pointwise [Cert.Reference20Ideal.Read.val_main_v5, Cert.Reference20Ideal.Read.val_main_v4, Cert.Reference20Ideal.Read.val_main_v3, Cert.Reference20Ideal.Read.val_main_v1, Cert.Prod.tn]
  exact Finset.sum_congr rfl fun k _ => mul_comm _ _

end Cert.Kernel20Ideal.Prod

end
-- ==== Proof.Products.lean ====
/- The claims of the products: each kernel and each reference runs, leaves its arguments as they were and its counters at
   zero; and each kernel's result is its reference's, both being the product that its module names (`final`, `ref`). -/
module

public import proofs.«01_k».proof.Defs
public import proofs.«01_k».proof.Proof.Gen.Kernel3.Frame
public import proofs.«01_k».proof.Proof.Gen.Kernel4.Frame
public import proofs.«01_k».proof.Proof.Gen.Kernel5.Frame
public import proofs.«01_k».proof.Proof.Gen.Kernel6.Frame
public import proofs.«01_k».proof.Proof.Gen.Kernel7.Frame
public import proofs.«01_k».proof.Proof.Gen.Kernel8.Frame
public import proofs.«01_k».proof.Proof.Gen.Kernel9.Frame
public import proofs.«01_k».proof.Proof.Gen.Kernel10.Frame
public import proofs.«01_k».proof.Proof.Gen.Kernel11.Frame
public import proofs.«01_k».proof.Proof.Gen.Kernel12.Frame
public import proofs.«01_k».proof.Proof.Gen.Kernel13.Frame
public import proofs.«01_k».proof.Proof.Gen.Kernel14.Frame
public import proofs.«01_k».proof.Proof.Gen.Kernel15.Frame
public import proofs.«01_k».proof.Proof.Gen.Kernel16.Frame
public import proofs.«01_k».proof.Proof.Gen.Kernel17.Frame
public import proofs.«01_k».proof.Proof.Gen.Kernel18.Frame
public import proofs.«01_k».proof.Proof.Gen.Kernel19.Frame
public import proofs.«01_k».proof.Proof.Gen.Kernel20.Frame
public import proofs.«01_k».proof.Proof.Dh4
public import proofs.«01_k».proof.Proof.Dw4
public import proofs.«01_k».proof.Proof.ProjIn4
public import proofs.«01_k».proof.Proof.Dh2
public import proofs.«01_k».proof.Proof.Dw2
public import proofs.«01_k».proof.Proof.DgateIn
public import proofs.«01_k».proof.Proof.DwOut
public import proofs.«01_k».proof.Proof.ProjOut
public import proofs.«01_k».proof.Proof.ProjIn2
public import proofs.«01_k».proof.Proof.ProjIn1
public import proofs.«01_k».proof.Proof.QUp
public import proofs.«01_k».proof.Proof.KvUp
public import proofs.«01_k».proof.Proof.Dqn
public import proofs.«01_k».proof.Proof.DwQb
public import proofs.«01_k».proof.Proof.Dkvn
public import proofs.«01_k».proof.Proof.DwKvb
public import proofs.«01_k».proof.Proof.Dh1
public import proofs.«01_k».proof.Proof.DwIn1
public import Idealize.ShloMosaic.Adequacy
public import Idealize.ShloMosaic.Init

@[expose] public section

noncomputable section

namespace Cert.Proof

open Idealize.ShloMosaic Idealize.SL.Sem

/-- The kernel of the gradient of a stick-breaking layer's projection by its input runs, leaves its arguments as they were and its counters at zero. -/
theorem frame_p3 : Cert.quiescent_Kernel3 (hKernel3 := Cert.Kernel3.Gen.facts) := fun m ρ _ => Cert.Kernel3.Gen.frame m ρ

/-- So does it over the extended reals. -/
theorem frame_pi3 : Cert.quiescent_Kernel3Ideal (hKernel3Ideal := Cert.Kernel3Ideal.Gen.facts) := fun m ρ _ => Cert.Kernel3Ideal.Gen.frame m ρ

/-- So does its reference. -/
theorem frame_ri3 : Cert.quiescent_Reference3Ideal (hReference3Ideal := Cert.Reference3Ideal.Gen.facts) := fun m ρ _ =>
  (θ_run Cert.Reference3Ideal.defs _ _).mono (fun r h => ⟨fun c => (h c).2, sem_eq_zero_of_no_sems (by decide) r.2⟩)
    (Cert.Reference3Ideal.Value.run (F := Ideal) m ρ)

/-- Nothing of it is rewritten. -/
theorem preserves3 : Cert.preserves_Kernel3_Kernel3Ideal := trivial

/-- Its result is its reference's. -/
theorem algebraic3 : Cert.algebraic_Kernel3Ideal_Reference3Ideal (hKernel3Ideal := Cert.Kernel3Ideal.Gen.facts) (hReference3Ideal := Cert.Reference3Ideal.Gen.facts) := by
  intro m ρ m' ρ' _ hagree
  refine ⟨_, Cert.Kernel3Ideal.Value.run_blocks (F := Ideal) m ρ, ?_⟩
  refine (θ_run Cert.Reference3Ideal.defs _ _).mono (fun _ h c => ?_) (Cert.Reference3Ideal.Value.run (F := Ideal) m' ρ')
  obtain ⟨a0, a1, a2, a3, a4⟩ := hagree c
  refine ⟨(h c).1.trans ?_, (h c).2⟩
  rw [Cert.Reference3Ideal.Read.val_main_v7_eq, a0, a1, a2, a3, a4, Cert.Kernel3Ideal.Prod.ref]
  exact (Cert.Kernel3Ideal.Prod.final m c).symm

/-- The kernel of the gradient of a stick-breaking layer's projection by its weights runs, leaves its arguments as they were and its counters at zero. -/
theorem frame_p4 : Cert.quiescent_Kernel4 (hKernel4 := Cert.Kernel4.Gen.facts) := fun m ρ _ => Cert.Kernel4.Gen.frame m ρ

/-- So does it over the extended reals. -/
theorem frame_pi4 : Cert.quiescent_Kernel4Ideal (hKernel4Ideal := Cert.Kernel4Ideal.Gen.facts) := fun m ρ _ => Cert.Kernel4Ideal.Gen.frame m ρ

/-- So does its reference. -/
theorem frame_ri4 : Cert.quiescent_Reference4Ideal (hReference4Ideal := Cert.Reference4Ideal.Gen.facts) := fun m ρ _ =>
  (θ_run Cert.Reference4Ideal.defs _ _).mono (fun r h => ⟨fun c => (h c).2, sem_eq_zero_of_no_sems (by decide) r.2⟩)
    (Cert.Reference4Ideal.Value.run (F := Ideal) m ρ)

/-- Nothing of it is rewritten. -/
theorem preserves4 : Cert.preserves_Kernel4_Kernel4Ideal := trivial

/-- Its result is its reference's. -/
theorem algebraic4 : Cert.algebraic_Kernel4Ideal_Reference4Ideal (hKernel4Ideal := Cert.Kernel4Ideal.Gen.facts) (hReference4Ideal := Cert.Reference4Ideal.Gen.facts) := by
  intro m ρ m' ρ' _ hagree
  refine ⟨_, Cert.Kernel4Ideal.Value.run_blocks (F := Ideal) m ρ, ?_⟩
  refine (θ_run Cert.Reference4Ideal.defs _ _).mono (fun _ h c => ?_) (Cert.Reference4Ideal.Value.run (F := Ideal) m' ρ')
  obtain ⟨a0, a1, a2, a3, a4⟩ := hagree c
  refine ⟨(h c).1.trans ?_, (h c).2⟩
  rw [Cert.Reference4Ideal.Read.val_main_v10_eq, a0, a1, a2, a3, a4, Cert.Kernel4Ideal.Prod.ref]
  exact (Cert.Kernel4Ideal.Prod.final m c).symm

/-- The kernel of a stick-breaking layer's projection runs, leaves its arguments as they were and its counters at zero. -/
theorem frame_p5 : Cert.quiescent_Kernel5 (hKernel5 := Cert.Kernel5.Gen.facts) := fun m ρ _ => Cert.Kernel5.Gen.frame m ρ

/-- So does it over the extended reals. -/
theorem frame_pi5 : Cert.quiescent_Kernel5Ideal (hKernel5Ideal := Cert.Kernel5Ideal.Gen.facts) := fun m ρ _ => Cert.Kernel5Ideal.Gen.frame m ρ

/-- So does its reference. -/
theorem frame_ri5 : Cert.quiescent_Reference5Ideal (hReference5Ideal := Cert.Reference5Ideal.Gen.facts) := fun m ρ _ =>
  (θ_run Cert.Reference5Ideal.defs _ _).mono (fun r h => ⟨fun c => (h c).2, sem_eq_zero_of_no_sems (by decide) r.2⟩)
    (Cert.Reference5Ideal.Value.run (F := Ideal) m ρ)

/-- Nothing of it is rewritten. -/
theorem preserves5 : Cert.preserves_Kernel5_Kernel5Ideal := trivial

/-- Its result is its reference's. -/
theorem algebraic5 : Cert.algebraic_Kernel5Ideal_Reference5Ideal (hKernel5Ideal := Cert.Kernel5Ideal.Gen.facts) (hReference5Ideal := Cert.Reference5Ideal.Gen.facts) := by
  intro m ρ m' ρ' _ hagree
  refine ⟨_, Cert.Kernel5Ideal.Value.run_blocks (F := Ideal) m ρ, ?_⟩
  refine (θ_run Cert.Reference5Ideal.defs _ _).mono (fun _ h c => ?_) (Cert.Reference5Ideal.Value.run (F := Ideal) m' ρ')
  obtain ⟨a0, a1⟩ := hagree c
  refine ⟨(h c).1.trans ?_, (h c).2⟩
  rw [Cert.Reference5Ideal.Read.val_main_v4_eq, a0, a1, Cert.Kernel5Ideal.Prod.ref]
  exact (Cert.Kernel5Ideal.Prod.final m c).symm

/-- The kernel of the gradient of the forgetting layer's projection by its input runs, leaves its arguments as they were and its counters at zero. -/
theorem frame_p6 : Cert.quiescent_Kernel6 (hKernel6 := Cert.Kernel6.Gen.facts) := fun m ρ _ => Cert.Kernel6.Gen.frame m ρ

/-- So does it over the extended reals. -/
theorem frame_pi6 : Cert.quiescent_Kernel6Ideal (hKernel6Ideal := Cert.Kernel6Ideal.Gen.facts) := fun m ρ _ => Cert.Kernel6Ideal.Gen.frame m ρ

/-- So does its reference. -/
theorem frame_ri6 : Cert.quiescent_Reference6Ideal (hReference6Ideal := Cert.Reference6Ideal.Gen.facts) := fun m ρ _ =>
  (θ_run Cert.Reference6Ideal.defs _ _).mono (fun r h => ⟨fun c => (h c).2, sem_eq_zero_of_no_sems (by decide) r.2⟩)
    (Cert.Reference6Ideal.Value.run (F := Ideal) m ρ)

/-- Nothing of it is rewritten. -/
theorem preserves6 : Cert.preserves_Kernel6_Kernel6Ideal := trivial

/-- Its result is its reference's. -/
theorem algebraic6 : Cert.algebraic_Kernel6Ideal_Reference6Ideal (hKernel6Ideal := Cert.Kernel6Ideal.Gen.facts) (hReference6Ideal := Cert.Reference6Ideal.Gen.facts) := by
  intro m ρ m' ρ' _ hagree
  refine ⟨_, Cert.Kernel6Ideal.Value.run_blocks (F := Ideal) m ρ, ?_⟩
  refine (θ_run Cert.Reference6Ideal.defs _ _).mono (fun _ h c => ?_) (Cert.Reference6Ideal.Value.run (F := Ideal) m' ρ')
  obtain ⟨a0, a1⟩ := hagree c
  refine ⟨(h c).1.trans ?_, (h c).2⟩
  rw [Cert.Reference6Ideal.Read.val_main_v4_eq, a0, a1, Cert.Kernel6Ideal.Prod.ref]
  exact (Cert.Kernel6Ideal.Prod.final m c).symm

/-- The kernel of the gradient of the forgetting layer's projection by its weights runs, leaves its arguments as they were and its counters at zero. -/
theorem frame_p7 : Cert.quiescent_Kernel7 (hKernel7 := Cert.Kernel7.Gen.facts) := fun m ρ _ => Cert.Kernel7.Gen.frame m ρ

/-- So does it over the extended reals. -/
theorem frame_pi7 : Cert.quiescent_Kernel7Ideal (hKernel7Ideal := Cert.Kernel7Ideal.Gen.facts) := fun m ρ _ => Cert.Kernel7Ideal.Gen.frame m ρ

/-- So does its reference. -/
theorem frame_ri7 : Cert.quiescent_Reference7Ideal (hReference7Ideal := Cert.Reference7Ideal.Gen.facts) := fun m ρ _ =>
  (θ_run Cert.Reference7Ideal.defs _ _).mono (fun r h => ⟨fun c => (h c).2, sem_eq_zero_of_no_sems (by decide) r.2⟩)
    (Cert.Reference7Ideal.Value.run (F := Ideal) m ρ)

/-- Nothing of it is rewritten. -/
theorem preserves7 : Cert.preserves_Kernel7_Kernel7Ideal := trivial

/-- Its result is its reference's. -/
theorem algebraic7 : Cert.algebraic_Kernel7Ideal_Reference7Ideal (hKernel7Ideal := Cert.Kernel7Ideal.Gen.facts) (hReference7Ideal := Cert.Reference7Ideal.Gen.facts) := by
  intro m ρ m' ρ' _ hagree
  refine ⟨_, Cert.Kernel7Ideal.Value.run_blocks (F := Ideal) m ρ, ?_⟩
  refine (θ_run Cert.Reference7Ideal.defs _ _).mono (fun _ h c => ?_) (Cert.Reference7Ideal.Value.run (F := Ideal) m' ρ')
  obtain ⟨a0, a1⟩ := hagree c
  refine ⟨(h c).1.trans ?_, (h c).2⟩
  rw [Cert.Reference7Ideal.Read.val_main_v5_eq, a0, a1, Cert.Kernel7Ideal.Prod.ref]
  exact (Cert.Kernel7Ideal.Prod.final m c).symm

/-- The kernel of the gradient of an output projection by its input runs, leaves its arguments as they were and its counters at zero. -/
theorem frame_p8 : Cert.quiescent_Kernel8 (hKernel8 := Cert.Kernel8.Gen.facts) := fun m ρ _ => Cert.Kernel8.Gen.frame m ρ

/-- So does it over the extended reals. -/
theorem frame_pi8 : Cert.quiescent_Kernel8Ideal (hKernel8Ideal := Cert.Kernel8Ideal.Gen.facts) := fun m ρ _ => Cert.Kernel8Ideal.Gen.frame m ρ

/-- So does its reference. -/
theorem frame_ri8 : Cert.quiescent_Reference8Ideal (hReference8Ideal := Cert.Reference8Ideal.Gen.facts) := fun m ρ _ =>
  (θ_run Cert.Reference8Ideal.defs _ _).mono (fun r h => ⟨fun c => (h c).2, sem_eq_zero_of_no_sems (by decide) r.2⟩)
    (Cert.Reference8Ideal.Value.run (F := Ideal) m ρ)

/-- Nothing of it is rewritten. -/
theorem preserves8 : Cert.preserves_Kernel8_Kernel8Ideal := trivial

/-- Its result is its reference's. -/
theorem algebraic8 : Cert.algebraic_Kernel8Ideal_Reference8Ideal (hKernel8Ideal := Cert.Kernel8Ideal.Gen.facts) (hReference8Ideal := Cert.Reference8Ideal.Gen.facts) := by
  intro m ρ m' ρ' _ hagree
  refine ⟨_, Cert.Kernel8Ideal.Value.run_blocks (F := Ideal) m ρ, ?_⟩
  refine (θ_run Cert.Reference8Ideal.defs _ _).mono (fun _ h c => ?_) (Cert.Reference8Ideal.Value.run (F := Ideal) m' ρ')
  obtain ⟨a0, a1⟩ := hagree c
  refine ⟨(h c).1.trans ?_, (h c).2⟩
  rw [Cert.Reference8Ideal.Read.val_main_v4_eq, a0, a1, Cert.Kernel8Ideal.Prod.ref]
  exact (Cert.Kernel8Ideal.Prod.final m c).symm

/-- The kernel of the gradient of an output projection by its weights runs, leaves its arguments as they were and its counters at zero. -/
theorem frame_p9 : Cert.quiescent_Kernel9 (hKernel9 := Cert.Kernel9.Gen.facts) := fun m ρ _ => Cert.Kernel9.Gen.frame m ρ

/-- So does it over the extended reals. -/
theorem frame_pi9 : Cert.quiescent_Kernel9Ideal (hKernel9Ideal := Cert.Kernel9Ideal.Gen.facts) := fun m ρ _ => Cert.Kernel9Ideal.Gen.frame m ρ

/-- So does its reference. -/
theorem frame_ri9 : Cert.quiescent_Reference9Ideal (hReference9Ideal := Cert.Reference9Ideal.Gen.facts) := fun m ρ _ =>
  (θ_run Cert.Reference9Ideal.defs _ _).mono (fun r h => ⟨fun c => (h c).2, sem_eq_zero_of_no_sems (by decide) r.2⟩)
    (Cert.Reference9Ideal.Value.run (F := Ideal) m ρ)

/-- Nothing of it is rewritten. -/
theorem preserves9 : Cert.preserves_Kernel9_Kernel9Ideal := trivial

/-- Its result is its reference's. -/
theorem algebraic9 : Cert.algebraic_Kernel9Ideal_Reference9Ideal (hKernel9Ideal := Cert.Kernel9Ideal.Gen.facts) (hReference9Ideal := Cert.Reference9Ideal.Gen.facts) := by
  intro m ρ m' ρ' _ hagree
  refine ⟨_, Cert.Kernel9Ideal.Value.run_blocks (F := Ideal) m ρ, ?_⟩
  refine (θ_run Cert.Reference9Ideal.defs _ _).mono (fun _ h c => ?_) (Cert.Reference9Ideal.Value.run (F := Ideal) m' ρ')
  obtain ⟨a0, a1⟩ := hagree c
  refine ⟨(h c).1.trans ?_, (h c).2⟩
  rw [Cert.Reference9Ideal.Read.val_main_v5_eq, a0, a1, Cert.Kernel9Ideal.Prod.ref]
  exact (Cert.Kernel9Ideal.Prod.final m c).symm

/-- The kernel of an output projection with its residual runs, leaves its arguments as they were and its counters at zero. -/
theorem frame_p10 : Cert.quiescent_Kernel10 (hKernel10 := Cert.Kernel10.Gen.facts) := fun m ρ _ => Cert.Kernel10.Gen.frame m ρ

/-- So does it over the extended reals. -/
theorem frame_pi10 : Cert.quiescent_Kernel10Ideal (hKernel10Ideal := Cert.Kernel10Ideal.Gen.facts) := fun m ρ _ => Cert.Kernel10Ideal.Gen.frame m ρ

/-- So does its reference. -/
theorem frame_ri10 : Cert.quiescent_Reference10Ideal (hReference10Ideal := Cert.Reference10Ideal.Gen.facts) := fun m ρ _ =>
  (θ_run Cert.Reference10Ideal.defs _ _).mono (fun r h => ⟨fun c => (h c).2, sem_eq_zero_of_no_sems (by decide) r.2⟩)
    (Cert.Reference10Ideal.Value.run (F := Ideal) m ρ)

/-- Nothing of it is rewritten. -/
theorem preserves10 : Cert.preserves_Kernel10_Kernel10Ideal := trivial

/-- Its result is its reference's. -/
theorem algebraic10 : Cert.algebraic_Kernel10Ideal_Reference10Ideal (hKernel10Ideal := Cert.Kernel10Ideal.Gen.facts) (hReference10Ideal := Cert.Reference10Ideal.Gen.facts) := by
  intro m ρ m' ρ' _ hagree
  refine ⟨_, Cert.Kernel10Ideal.Value.run_blocks (F := Ideal) m ρ, ?_⟩
  refine (θ_run Cert.Reference10Ideal.defs _ _).mono (fun _ h c => ?_) (Cert.Reference10Ideal.Value.run (F := Ideal) m' ρ')
  obtain ⟨a0, a1, a2⟩ := hagree c
  refine ⟨(h c).1.trans ?_, (h c).2⟩
  rw [Cert.Reference10Ideal.Read.val_main_v3_eq, a0, a1, a2, Cert.Kernel10Ideal.Prod.ref]
  exact (Cert.Kernel10Ideal.Prod.final m c).symm

/-- The kernel of the forgetting layer's projection runs, leaves its arguments as they were and its counters at zero. -/
theorem frame_p11 : Cert.quiescent_Kernel11 (hKernel11 := Cert.Kernel11.Gen.facts) := fun m ρ _ => Cert.Kernel11.Gen.frame m ρ

/-- So does it over the extended reals. -/
theorem frame_pi11 : Cert.quiescent_Kernel11Ideal (hKernel11Ideal := Cert.Kernel11Ideal.Gen.facts) := fun m ρ _ => Cert.Kernel11Ideal.Gen.frame m ρ

/-- So does its reference. -/
theorem frame_ri11 : Cert.quiescent_Reference11Ideal (hReference11Ideal := Cert.Reference11Ideal.Gen.facts) := fun m ρ _ =>
  (θ_run Cert.Reference11Ideal.defs _ _).mono (fun r h => ⟨fun c => (h c).2, sem_eq_zero_of_no_sems (by decide) r.2⟩)
    (Cert.Reference11Ideal.Value.run (F := Ideal) m ρ)

/-- Nothing of it is rewritten. -/
theorem preserves11 : Cert.preserves_Kernel11_Kernel11Ideal := trivial

/-- Its result is its reference's. -/
theorem algebraic11 : Cert.algebraic_Kernel11Ideal_Reference11Ideal (hKernel11Ideal := Cert.Kernel11Ideal.Gen.facts) (hReference11Ideal := Cert.Reference11Ideal.Gen.facts) := by
  intro m ρ m' ρ' _ hagree
  refine ⟨_, Cert.Kernel11Ideal.Value.run_blocks (F := Ideal) m ρ, ?_⟩
  refine (θ_run Cert.Reference11Ideal.defs _ _).mono (fun _ h c => ?_) (Cert.Reference11Ideal.Value.run (F := Ideal) m' ρ')
  obtain ⟨a0, a1⟩ := hagree c
  refine ⟨(h c).1.trans ?_, (h c).2⟩
  rw [Cert.Reference11Ideal.Read.val_main_v2_eq, a0, a1, Cert.Kernel11Ideal.Prod.ref]
  exact (Cert.Kernel11Ideal.Prod.final m c).symm

/-- The kernel of the latent layer's projection runs, leaves its arguments as they were and its counters at zero. -/
theorem frame_p12 : Cert.quiescent_Kernel12 (hKernel12 := Cert.Kernel12.Gen.facts) := fun m ρ _ => Cert.Kernel12.Gen.frame m ρ

/-- So does it over the extended reals. -/
theorem frame_pi12 : Cert.quiescent_Kernel12Ideal (hKernel12Ideal := Cert.Kernel12Ideal.Gen.facts) := fun m ρ _ => Cert.Kernel12Ideal.Gen.frame m ρ

/-- So does its reference. -/
theorem frame_ri12 : Cert.quiescent_Reference12Ideal (hReference12Ideal := Cert.Reference12Ideal.Gen.facts) := fun m ρ _ =>
  (θ_run Cert.Reference12Ideal.defs _ _).mono (fun r h => ⟨fun c => (h c).2, sem_eq_zero_of_no_sems (by decide) r.2⟩)
    (Cert.Reference12Ideal.Value.run (F := Ideal) m ρ)

/-- Nothing of it is rewritten. -/
theorem preserves12 : Cert.preserves_Kernel12_Kernel12Ideal := trivial

/-- Its result is its reference's. -/
theorem algebraic12 : Cert.algebraic_Kernel12Ideal_Reference12Ideal (hKernel12Ideal := Cert.Kernel12Ideal.Gen.facts) (hReference12Ideal := Cert.Reference12Ideal.Gen.facts) := by
  intro m ρ m' ρ' _ hagree
  refine ⟨_, Cert.Kernel12Ideal.Value.run_blocks (F := Ideal) m ρ, ?_⟩
  refine (θ_run Cert.Reference12Ideal.defs _ _).mono (fun _ h c => ?_) (Cert.Reference12Ideal.Value.run (F := Ideal) m' ρ')
  obtain ⟨a0, a1⟩ := hagree c
  refine ⟨(h c).1.trans ?_, (h c).2⟩
  rw [Cert.Reference12Ideal.Read.val_main_v2_eq, a0, a1, Cert.Kernel12Ideal.Prod.ref]
  exact (Cert.Kernel12Ideal.Prod.final m c).symm

/-- The kernel of the latent queries' projection runs, leaves its arguments as they were and its counters at zero. -/
theorem frame_p13 : Cert.quiescent_Kernel13 (hKernel13 := Cert.Kernel13.Gen.facts) := fun m ρ _ => Cert.Kernel13.Gen.frame m ρ

/-- So does it over the extended reals. -/
theorem frame_pi13 : Cert.quiescent_Kernel13Ideal (hKernel13Ideal := Cert.Kernel13Ideal.Gen.facts) := fun m ρ _ => Cert.Kernel13Ideal.Gen.frame m ρ

/-- So does its reference. -/
theorem frame_ri13 : Cert.quiescent_Reference13Ideal (hReference13Ideal := Cert.Reference13Ideal.Gen.facts) := fun m ρ _ =>
  (θ_run Cert.Reference13Ideal.defs _ _).mono (fun r h => ⟨fun c => (h c).2, sem_eq_zero_of_no_sems (by decide) r.2⟩)
    (Cert.Reference13Ideal.Value.run (F := Ideal) m ρ)

/-- Nothing of it is rewritten. -/
theorem preserves13 : Cert.preserves_Kernel13_Kernel13Ideal := trivial

/-- Its result is its reference's. -/
theorem algebraic13 : Cert.algebraic_Kernel13Ideal_Reference13Ideal (hKernel13Ideal := Cert.Kernel13Ideal.Gen.facts) (hReference13Ideal := Cert.Reference13Ideal.Gen.facts) := by
  intro m ρ m' ρ' _ hagree
  refine ⟨_, Cert.Kernel13Ideal.Value.run_blocks (F := Ideal) m ρ, ?_⟩
  refine (θ_run Cert.Reference13Ideal.defs _ _).mono (fun _ h c => ?_) (Cert.Reference13Ideal.Value.run (F := Ideal) m' ρ')
  obtain ⟨a0, a1⟩ := hagree c
  refine ⟨(h c).1.trans ?_, (h c).2⟩
  rw [Cert.Reference13Ideal.Read.val_main_v2_eq, a0, a1, Cert.Kernel13Ideal.Prod.ref]
  exact (Cert.Kernel13Ideal.Prod.final m c).symm

/-- The kernel of the latent keys' and values' projection runs, leaves its arguments as they were and its counters at zero. -/
theorem frame_p14 : Cert.quiescent_Kernel14 (hKernel14 := Cert.Kernel14.Gen.facts) := fun m ρ _ => Cert.Kernel14.Gen.frame m ρ

/-- So does it over the extended reals. -/
theorem frame_pi14 : Cert.quiescent_Kernel14Ideal (hKernel14Ideal := Cert.Kernel14Ideal.Gen.facts) := fun m ρ _ => Cert.Kernel14Ideal.Gen.frame m ρ

/-- So does its reference. -/
theorem frame_ri14 : Cert.quiescent_Reference14Ideal (hReference14Ideal := Cert.Reference14Ideal.Gen.facts) := fun m ρ _ =>
  (θ_run Cert.Reference14Ideal.defs _ _).mono (fun r h => ⟨fun c => (h c).2, sem_eq_zero_of_no_sems (by decide) r.2⟩)
    (Cert.Reference14Ideal.Value.run (F := Ideal) m ρ)

/-- Nothing of it is rewritten. -/
theorem preserves14 : Cert.preserves_Kernel14_Kernel14Ideal := trivial

/-- Its result is its reference's. -/
theorem algebraic14 : Cert.algebraic_Kernel14Ideal_Reference14Ideal (hKernel14Ideal := Cert.Kernel14Ideal.Gen.facts) (hReference14Ideal := Cert.Reference14Ideal.Gen.facts) := by
  intro m ρ m' ρ' _ hagree
  refine ⟨_, Cert.Kernel14Ideal.Value.run_blocks (F := Ideal) m ρ, ?_⟩
  refine (θ_run Cert.Reference14Ideal.defs _ _).mono (fun _ h c => ?_) (Cert.Reference14Ideal.Value.run (F := Ideal) m' ρ')
  obtain ⟨a0, a1⟩ := hagree c
  refine ⟨(h c).1.trans ?_, (h c).2⟩
  rw [Cert.Reference14Ideal.Read.val_main_v2_eq, a0, a1, Cert.Kernel14Ideal.Prod.ref]
  exact (Cert.Kernel14Ideal.Prod.final m c).symm

/-- The kernel of the gradient of the latent queries' projection by its input runs, leaves its arguments as they were and its counters at zero. -/
theorem frame_p15 : Cert.quiescent_Kernel15 (hKernel15 := Cert.Kernel15.Gen.facts) := fun m ρ _ => Cert.Kernel15.Gen.frame m ρ

/-- So does it over the extended reals. -/
theorem frame_pi15 : Cert.quiescent_Kernel15Ideal (hKernel15Ideal := Cert.Kernel15Ideal.Gen.facts) := fun m ρ _ => Cert.Kernel15Ideal.Gen.frame m ρ

/-- So does its reference. -/
theorem frame_ri15 : Cert.quiescent_Reference15Ideal (hReference15Ideal := Cert.Reference15Ideal.Gen.facts) := fun m ρ _ =>
  (θ_run Cert.Reference15Ideal.defs _ _).mono (fun r h => ⟨fun c => (h c).2, sem_eq_zero_of_no_sems (by decide) r.2⟩)
    (Cert.Reference15Ideal.Value.run (F := Ideal) m ρ)

/-- Nothing of it is rewritten. -/
theorem preserves15 : Cert.preserves_Kernel15_Kernel15Ideal := trivial

/-- Its result is its reference's. -/
theorem algebraic15 : Cert.algebraic_Kernel15Ideal_Reference15Ideal (hKernel15Ideal := Cert.Kernel15Ideal.Gen.facts) (hReference15Ideal := Cert.Reference15Ideal.Gen.facts) := by
  intro m ρ m' ρ' _ hagree
  refine ⟨_, Cert.Kernel15Ideal.Value.run_blocks (F := Ideal) m ρ, ?_⟩
  refine (θ_run Cert.Reference15Ideal.defs _ _).mono (fun _ h c => ?_) (Cert.Reference15Ideal.Value.run (F := Ideal) m' ρ')
  obtain ⟨a0, a1⟩ := hagree c
  refine ⟨(h c).1.trans ?_, (h c).2⟩
  rw [Cert.Reference15Ideal.Read.val_main_v4_eq, a0, a1, Cert.Kernel15Ideal.Prod.ref]
  exact (Cert.Kernel15Ideal.Prod.final m c).symm

/-- The kernel of the gradient of the latent queries' projection by its weights runs, leaves its arguments as they were and its counters at zero. -/
theorem frame_p16 : Cert.quiescent_Kernel16 (hKernel16 := Cert.Kernel16.Gen.facts) := fun m ρ _ => Cert.Kernel16.Gen.frame m ρ

/-- So does it over the extended reals. -/
theorem frame_pi16 : Cert.quiescent_Kernel16Ideal (hKernel16Ideal := Cert.Kernel16Ideal.Gen.facts) := fun m ρ _ => Cert.Kernel16Ideal.Gen.frame m ρ

/-- So does its reference. -/
theorem frame_ri16 : Cert.quiescent_Reference16Ideal (hReference16Ideal := Cert.Reference16Ideal.Gen.facts) := fun m ρ _ =>
  (θ_run Cert.Reference16Ideal.defs _ _).mono (fun r h => ⟨fun c => (h c).2, sem_eq_zero_of_no_sems (by decide) r.2⟩)
    (Cert.Reference16Ideal.Value.run (F := Ideal) m ρ)

/-- Nothing of it is rewritten. -/
theorem preserves16 : Cert.preserves_Kernel16_Kernel16Ideal := trivial

/-- Its result is its reference's. -/
theorem algebraic16 : Cert.algebraic_Kernel16Ideal_Reference16Ideal (hKernel16Ideal := Cert.Kernel16Ideal.Gen.facts) (hReference16Ideal := Cert.Reference16Ideal.Gen.facts) := by
  intro m ρ m' ρ' _ hagree
  refine ⟨_, Cert.Kernel16Ideal.Value.run_blocks (F := Ideal) m ρ, ?_⟩
  refine (θ_run Cert.Reference16Ideal.defs _ _).mono (fun _ h c => ?_) (Cert.Reference16Ideal.Value.run (F := Ideal) m' ρ')
  obtain ⟨a0, a1⟩ := hagree c
  refine ⟨(h c).1.trans ?_, (h c).2⟩
  rw [Cert.Reference16Ideal.Read.val_main_v5_eq, a0, a1, Cert.Kernel16Ideal.Prod.ref]
  exact (Cert.Kernel16Ideal.Prod.final m c).symm

/-- The kernel of the gradient of the latent keys' and values' projection by its input runs, leaves its arguments as they were and its counters at zero. -/
theorem frame_p17 : Cert.quiescent_Kernel17 (hKernel17 := Cert.Kernel17.Gen.facts) := fun m ρ _ => Cert.Kernel17.Gen.frame m ρ

/-- So does it over the extended reals. -/
theorem frame_pi17 : Cert.quiescent_Kernel17Ideal (hKernel17Ideal := Cert.Kernel17Ideal.Gen.facts) := fun m ρ _ => Cert.Kernel17Ideal.Gen.frame m ρ

/-- So does its reference. -/
theorem frame_ri17 : Cert.quiescent_Reference17Ideal (hReference17Ideal := Cert.Reference17Ideal.Gen.facts) := fun m ρ _ =>
  (θ_run Cert.Reference17Ideal.defs _ _).mono (fun r h => ⟨fun c => (h c).2, sem_eq_zero_of_no_sems (by decide) r.2⟩)
    (Cert.Reference17Ideal.Value.run (F := Ideal) m ρ)

/-- Nothing of it is rewritten. -/
theorem preserves17 : Cert.preserves_Kernel17_Kernel17Ideal := trivial

/-- Its result is its reference's. -/
theorem algebraic17 : Cert.algebraic_Kernel17Ideal_Reference17Ideal (hKernel17Ideal := Cert.Kernel17Ideal.Gen.facts) (hReference17Ideal := Cert.Reference17Ideal.Gen.facts) := by
  intro m ρ m' ρ' _ hagree
  refine ⟨_, Cert.Kernel17Ideal.Value.run_blocks (F := Ideal) m ρ, ?_⟩
  refine (θ_run Cert.Reference17Ideal.defs _ _).mono (fun _ h c => ?_) (Cert.Reference17Ideal.Value.run (F := Ideal) m' ρ')
  obtain ⟨a0, a1⟩ := hagree c
  refine ⟨(h c).1.trans ?_, (h c).2⟩
  rw [Cert.Reference17Ideal.Read.val_main_v4_eq, a0, a1, Cert.Kernel17Ideal.Prod.ref]
  exact (Cert.Kernel17Ideal.Prod.final m c).symm

/-- The kernel of the gradient of the latent keys' and values' projection by its weights runs, leaves its arguments as they were and its counters at zero. -/
theorem frame_p18 : Cert.quiescent_Kernel18 (hKernel18 := Cert.Kernel18.Gen.facts) := fun m ρ _ => Cert.Kernel18.Gen.frame m ρ

/-- So does it over the extended reals. -/
theorem frame_pi18 : Cert.quiescent_Kernel18Ideal (hKernel18Ideal := Cert.Kernel18Ideal.Gen.facts) := fun m ρ _ => Cert.Kernel18Ideal.Gen.frame m ρ

/-- So does its reference. -/
theorem frame_ri18 : Cert.quiescent_Reference18Ideal (hReference18Ideal := Cert.Reference18Ideal.Gen.facts) := fun m ρ _ =>
  (θ_run Cert.Reference18Ideal.defs _ _).mono (fun r h => ⟨fun c => (h c).2, sem_eq_zero_of_no_sems (by decide) r.2⟩)
    (Cert.Reference18Ideal.Value.run (F := Ideal) m ρ)

/-- Nothing of it is rewritten. -/
theorem preserves18 : Cert.preserves_Kernel18_Kernel18Ideal := trivial

/-- Its result is its reference's. -/
theorem algebraic18 : Cert.algebraic_Kernel18Ideal_Reference18Ideal (hKernel18Ideal := Cert.Kernel18Ideal.Gen.facts) (hReference18Ideal := Cert.Reference18Ideal.Gen.facts) := by
  intro m ρ m' ρ' _ hagree
  refine ⟨_, Cert.Kernel18Ideal.Value.run_blocks (F := Ideal) m ρ, ?_⟩
  refine (θ_run Cert.Reference18Ideal.defs _ _).mono (fun _ h c => ?_) (Cert.Reference18Ideal.Value.run (F := Ideal) m' ρ')
  obtain ⟨a0, a1⟩ := hagree c
  refine ⟨(h c).1.trans ?_, (h c).2⟩
  rw [Cert.Reference18Ideal.Read.val_main_v5_eq, a0, a1, Cert.Kernel18Ideal.Prod.ref]
  exact (Cert.Kernel18Ideal.Prod.final m c).symm

/-- The kernel of the gradient of the latent layer's projection by its input runs, leaves its arguments as they were and its counters at zero. -/
theorem frame_p19 : Cert.quiescent_Kernel19 (hKernel19 := Cert.Kernel19.Gen.facts) := fun m ρ _ => Cert.Kernel19.Gen.frame m ρ

/-- So does it over the extended reals. -/
theorem frame_pi19 : Cert.quiescent_Kernel19Ideal (hKernel19Ideal := Cert.Kernel19Ideal.Gen.facts) := fun m ρ _ => Cert.Kernel19Ideal.Gen.frame m ρ

/-- So does its reference. -/
theorem frame_ri19 : Cert.quiescent_Reference19Ideal (hReference19Ideal := Cert.Reference19Ideal.Gen.facts) := fun m ρ _ =>
  (θ_run Cert.Reference19Ideal.defs _ _).mono (fun r h => ⟨fun c => (h c).2, sem_eq_zero_of_no_sems (by decide) r.2⟩)
    (Cert.Reference19Ideal.Value.run (F := Ideal) m ρ)

/-- Nothing of it is rewritten. -/
theorem preserves19 : Cert.preserves_Kernel19_Kernel19Ideal := trivial

/-- Its result is its reference's. -/
theorem algebraic19 : Cert.algebraic_Kernel19Ideal_Reference19Ideal (hKernel19Ideal := Cert.Kernel19Ideal.Gen.facts) (hReference19Ideal := Cert.Reference19Ideal.Gen.facts) := by
  intro m ρ m' ρ' _ hagree
  refine ⟨_, Cert.Kernel19Ideal.Value.run_blocks (F := Ideal) m ρ, ?_⟩
  refine (θ_run Cert.Reference19Ideal.defs _ _).mono (fun _ h c => ?_) (Cert.Reference19Ideal.Value.run (F := Ideal) m' ρ')
  obtain ⟨a0, a1⟩ := hagree c
  refine ⟨(h c).1.trans ?_, (h c).2⟩
  rw [Cert.Reference19Ideal.Read.val_main_v4_eq, a0, a1, Cert.Kernel19Ideal.Prod.ref]
  exact (Cert.Kernel19Ideal.Prod.final m c).symm

/-- The kernel of the gradient of the latent layer's projection by its weights runs, leaves its arguments as they were and its counters at zero. -/
theorem frame_p20 : Cert.quiescent_Kernel20 (hKernel20 := Cert.Kernel20.Gen.facts) := fun m ρ _ => Cert.Kernel20.Gen.frame m ρ

/-- So does it over the extended reals. -/
theorem frame_pi20 : Cert.quiescent_Kernel20Ideal (hKernel20Ideal := Cert.Kernel20Ideal.Gen.facts) := fun m ρ _ => Cert.Kernel20Ideal.Gen.frame m ρ

/-- So does its reference. -/
theorem frame_ri20 : Cert.quiescent_Reference20Ideal (hReference20Ideal := Cert.Reference20Ideal.Gen.facts) := fun m ρ _ =>
  (θ_run Cert.Reference20Ideal.defs _ _).mono (fun r h => ⟨fun c => (h c).2, sem_eq_zero_of_no_sems (by decide) r.2⟩)
    (Cert.Reference20Ideal.Value.run (F := Ideal) m ρ)

/-- Nothing of it is rewritten. -/
theorem preserves20 : Cert.preserves_Kernel20_Kernel20Ideal := trivial

/-- Its result is its reference's. -/
theorem algebraic20 : Cert.algebraic_Kernel20Ideal_Reference20Ideal (hKernel20Ideal := Cert.Kernel20Ideal.Gen.facts) (hReference20Ideal := Cert.Reference20Ideal.Gen.facts) := by
  intro m ρ m' ρ' _ hagree
  refine ⟨_, Cert.Kernel20Ideal.Value.run_blocks (F := Ideal) m ρ, ?_⟩
  refine (θ_run Cert.Reference20Ideal.defs _ _).mono (fun _ h c => ?_) (Cert.Reference20Ideal.Value.run (F := Ideal) m' ρ')
  obtain ⟨a0, a1⟩ := hagree c
  refine ⟨(h c).1.trans ?_, (h c).2⟩
  rw [Cert.Reference20Ideal.Read.val_main_v5_eq, a0, a1, Cert.Kernel20Ideal.Prod.ref]
  exact (Cert.Kernel20Ideal.Prod.final m c).symm

end Cert.Proof

end
-- ==== Proof.Norm.lean ====
module

public import proofs.«01_k».proof.Defs
public import proofs.«01_k».proof.Proof.Gen.Kernel23.Frame
public import proofs.«01_k».proof.Proof.Gen.Kernel23Ideal.Value
public import proofs.«01_k».proof.Proof.Gen.Reference23Ideal.Read
public import Idealize.ShloMosaic.Lib.Pipeline.ValueKit
public import Idealize.ShloMosaic.Lib.Pointwise
public import Idealize.ShloMosaic.Adequacy
public import Idealize.ShloMosaic.Init

/-!
# The norm of a layer's input

Each row divided by its root mean square and multiplied with the norm's weights, in tiles of 512 rows.
-/

@[expose] public section

set_option maxRecDepth 16384

noncomputable section

namespace Cert.Kernel23Ideal.Norm

open Idealize.ShloMosaic Idealize.ShloMosaic.TcCoe Idealize.ShloMosaic.Tactic Cert.Kernel23Ideal Cert.Kernel23Ideal.Gen

variable (m : (ℓ : Loc nD τ sig) → Buf (Elt Ideal) ℓ) (c : Dev nD)

/-- What a row `x` and the norm's weight `g` of its entry `a` have there: the entry times the reciprocal root of the mean square, times the weight. -/
def entry (x : Fin 1024 → EReal) (a g : EReal) : EReal :=
  a * Ideal.rsqrt (Ideal.div (∑ k, x k * x k) (Ideal.ofBits .f32 0x44800000#32) + Ideal.ofBits .f32 0x358637BD#32) * g

/-- The norm of the whole array. -/
def norm (x : S4096x1024.Idx → EReal) (g : S1x1024.Idx → EReal) : S4096x1024.Idx → EReal :=
  fun i => entry (fun k => x (ix2 (i 0) k)) (x i) (g (ix2 0 (i 1)))

/-- A block's norm. -/
theorem pay1_at (x : Vec Ideal S512x1024 .f32) (g : Vec Ideal S1x1024 .f32) (j : S512x1024.Idx) :
    k0_pay1 x g j = entry (fun k => x (ix2 (j 0) k)) (x j) (g (ix2 0 (j 1))) := by
  pointwise [k0_pay1, entry]

/-- Which block each window has at a point. -/
theorem idx : ∀ t : Fin grid0.N, win0_0.index t = ![t.val, 0] ∧ win0_1.index t = ![0, 0] ∧ win0_2.index t = ![t.val, 0] := by
  decide +kernel

/-- The result array is the norm. -/
theorem final : (dats m 0 c).arrAt 2 cfg0.N = norm (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [pay1_at]
  unfold norm
  congr 1
  · funext k
    blk_ext [iblk, V, idx t]
  all_goals blk_ext [iblk, V, idx t]

/-- The reference is the norm. -/
theorem ref (x0 x1) : Cert.Reference23Ideal.Read.val_main_v12 (F := Ideal) x0 x1 = norm x0 x1 := by
  funext i
  pointwise [Cert.Reference23Ideal.Read.val_main_v12, Cert.Reference23Ideal.Read.val_main_v11, Cert.Reference23Ideal.Read.val_main_v10,
    Cert.Reference23Ideal.Read.val_main_v9, Cert.Reference23Ideal.Read.val_main_v8, Cert.Reference23Ideal.Read.val_main_v7,
    Cert.Reference23Ideal.Read.val_main_v6, Cert.Reference23Ideal.Read.val_main_v5, Cert.Reference23Ideal.Read.val_main_cst_1,
    Cert.Reference23Ideal.Read.val_main_v4, Cert.Reference23Ideal.Read.val_main_v3, Cert.Reference23Ideal.Read.val_main_cst_0,
    Cert.Reference23Ideal.Read.val_main_v2, Cert.Reference23Ideal.Read.val_main_v1, Cert.Reference23Ideal.Read.val_main_cst,
    Cert.Reference23Ideal.Read.val_main_v0, norm, entry]

end Cert.Kernel23Ideal.Norm

namespace Cert.Proof

open Idealize.ShloMosaic Idealize.SL.Sem

/-- The kernel of a layer's norm runs, leaves its arguments as they were and its counters at zero. -/
theorem frame_p23 : Cert.quiescent_Kernel23 (hKernel23 := Cert.Kernel23.Gen.facts) := fun m ρ _ => Cert.Kernel23.Gen.frame m ρ

/-- So does it over the extended reals. -/
theorem frame_pi23 : Cert.quiescent_Kernel23Ideal (hKernel23Ideal := Cert.Kernel23Ideal.Gen.facts) := fun m ρ _ => Cert.Kernel23Ideal.Gen.frame m ρ

/-- So does its reference. -/
theorem frame_ri23 : Cert.quiescent_Reference23Ideal (hReference23Ideal := Cert.Reference23Ideal.Gen.facts) := fun m ρ _ =>
  (θ_run Cert.Reference23Ideal.defs _ _).mono (fun r h => ⟨fun c => (h c).2, sem_eq_zero_of_no_sems (by decide) r.2⟩)
    (Cert.Reference23Ideal.Value.run (F := Ideal) m ρ)

/-- Nothing of it is rewritten. -/
theorem preserves23 : Cert.preserves_Kernel23_Kernel23Ideal := trivial

/-- Its result is its reference's. -/
theorem algebraic23 : Cert.algebraic_Kernel23Ideal_Reference23Ideal (hKernel23Ideal := Cert.Kernel23Ideal.Gen.facts) (hReference23Ideal := Cert.Reference23Ideal.Gen.facts) := by
  intro m ρ m' ρ' _ hagree
  refine ⟨_, Cert.Kernel23Ideal.Value.run_blocks (F := Ideal) m ρ, ?_⟩
  refine (θ_run Cert.Reference23Ideal.defs _ _).mono (fun _ h c => ?_) (Cert.Reference23Ideal.Value.run (F := Ideal) m' ρ')
  obtain ⟨a0, a1⟩ := hagree c
  refine ⟨(h c).1.trans ?_, (h c).2⟩
  rw [Cert.Reference23Ideal.Read.val_main_v12_eq, a0, a1, Cert.Kernel23Ideal.Norm.ref]
  exact (Cert.Kernel23Ideal.Norm.final m c).symm

end Cert.Proof

end
-- ==== Proof.NormBack.lean ====
module

public import proofs.«01_k».proof.Defs
public import proofs.«01_k».proof.Proof.Gen.Kernel25.Frame
public import proofs.«01_k».proof.Proof.Gen.Kernel25Ideal.Value
public import proofs.«01_k».proof.Proof.Gen.Reference25Ideal.Read
public import Idealize.ShloMosaic.Lib.Pipeline.ValueKit
public import Idealize.ShloMosaic.Lib.Pointwise
public import Idealize.ShloMosaic.Adequacy
public import Idealize.ShloMosaic.Init

/-!
# The gradients of a layer's norm

A row's gradient by its entries, with the residual's gradient added, and the sum over the rows that is the gradient by the
norm's weights, in tiles of 512 rows. The kernel takes the gradient by the entries from the normed row, the reference
differentiates the reciprocal root; both are the same on all inputs, infinite ones too.
-/

@[expose] public section

set_option maxRecDepth 16384

noncomputable section

namespace Cert.Kernel25Ideal.Norm

open Idealize.ShloMosaic Idealize.ShloMosaic.TcCoe Idealize.ShloMosaic.Tactic Cert.Kernel25Ideal Cert.Kernel25Ideal.Gen

/-! ## The equation of one row -/

/-- A row's length, as both programs have it. -/
abbrev len : EReal := Ideal.ofBits .f32 0x44800000#32

/-- A row's mean square with what is added to it. -/
def ms (x : Fin 1024 → EReal) : EReal := Ideal.div (∑ k, x k * x k) len + Ideal.ofBits .f32 0x358637BD#32

/-- Its reciprocal root. -/
def rr (x : Fin 1024 → EReal) : EReal := Ideal.rsqrt (ms x)

/-- The gradient by an entry as the kernel takes it: `x` is the row, `d` the gradient of the normed row, `e` the residual's. -/
def back (x d : Fin 1024 → EReal) (j : Fin 1024) (e : EReal) : EReal :=
  rr x * (d j - x j * rr x * Ideal.div (∑ k, d k * (x k * rr x)) len) + e

/-- What the reference takes as the gradient by the mean square's summands. -/
def vv (x d : Fin 1024 → EReal) : EReal :=
  Ideal.div ((∑ k, x k * d k) * (Ideal.ofBits .f32 0xBF000000#32 * Ideal.div (rr x) (ms x))) len

theorem len_eq : len = ((1024 : ℝ) : EReal) := by
  simp [len, Ideal.ofBits, Ideal.ieee]
  rw [← EReal.coe_mul]
  norm_num

theorem half_eq : Ideal.ofBits .f32 0xBF000000#32 = ((-(1 / 2) : ℝ) : EReal) := by
  simp [Ideal.ofBits, Ideal.ieee]
  rw [← EReal.coe_mul]
  norm_num

theorem eps_pos : ∃ ε : ℝ, 0 < ε ∧ Ideal.ofBits .f32 0x358637BD#32 = (ε : EReal) := by
  refine ⟨_, ?_, by simp [Ideal.ofBits, Ideal.ieee]; rfl⟩
  positivity

/-- Division by the row's length. -/
theorem div_len (y : EReal) : Ideal.div y len = ((1 / 1024 : ℝ) : EReal) * y := by
  rw [len_eq, Ideal.div, if_neg (by norm_num), mul_comm, ← EReal.coe_inv]
  norm_num

/-- A nonnegative real comes out of a sum. -/
theorem mul_sum_real {ι : Type} (s : Finset ι) (r : ℝ) (hr : 0 ≤ r) (f : ι → EReal) : ∑ k ∈ s, (r : EReal) * f k = (r : EReal) * ∑ k ∈ s, f k := by
  classical
  induction s using Finset.induction_on with
  | empty => simp
  | insert a s h ih =>
    rw [Finset.sum_insert h, Finset.sum_insert h, ih, EReal.left_distrib_of_nonneg_of_ne_top (by exact_mod_cast hr) (EReal.coe_ne_top r)]

/-- A real multiple taken twice. -/
theorem twice (p : ℝ) (y : EReal) : (p : EReal) * y + (p : EReal) * y = ((2 * p : ℝ) : EReal) * y := by
  rw [two_mul, EReal.coe_add]
  rcases le_total 0 p with h | h
  · exact (EReal.right_distrib_of_nonneg (by exact_mod_cast h) (by exact_mod_cast h)).symm
  · have h' : (0 : EReal) ≤ ((-p : ℝ) : EReal) := by exact_mod_cast (by linarith : (0 : ℝ) ≤ -p)
    have := EReal.right_distrib_of_nonneg (c := -y) h' h'
    rw [← EReal.coe_add, show -p + -p = -(p + p) by ring, EReal.coe_neg, EReal.coe_neg, neg_mul_neg, neg_mul_neg, EReal.coe_add] at this
    exact this.symm

/-- Either a row's squares sum to infinity or the row is real. -/
theorem row_cases (x : Fin 1024 → EReal) : ∑ k, x k * x k = ⊤ ∨ ∃ X : Fin 1024 → ℝ, x = fun k => (X k : EReal) := by
  by_cases h : ∃ k, x k * x k = ⊤
  · obtain ⟨k, hk⟩ := h
    left
    have := Finset.single_le_sum (f := fun k => x k * x k) (s := Finset.univ) (fun k _ => ?_) (Finset.mem_univ k)
    · rw [hk] at this
      exact top_le_iff.mp this
    · show 0 ≤ x k * x k
      induction x k using EReal.rec with
      | bot => simp
      | top => simp
      | coe a => exact_mod_cast mul_self_nonneg a
  · right
    refine ⟨fun k => (x k).toReal, funext fun k => (EReal.coe_toReal ?_ ?_).symm⟩
    · exact fun e => h ⟨k, by rw [e]; simp⟩
    · exact fun e => h ⟨k, by rw [e]; simp⟩

/-- The reference's gradient by an entry is the kernel's. -/
theorem back_eq (x d : Fin 1024 → EReal) (j : Fin 1024) (e : EReal) :
    d j * rr x + x j * vv x d + vv x d * x j + e = back x d j e := by
  obtain ⟨ε, hε, hE⟩ := eps_pos
  rcases row_cases x with hx | ⟨X, rfl⟩
  · have hm : ms x = ⊤ := by
      rw [ms, hx, div_len, hE, EReal.coe_mul_top_of_pos (by norm_num)]
      rfl
    have hr : rr x = 0 := by rw [rr, hm]; rfl
    have hv : vv x d = 0 := by
      rw [vv, hr, hm, div_len, Ideal.div, if_neg (by simp)]
      simp
    simp [back, hr, hv]
  · have hm : ms (fun k => (X k : EReal)) = ((1 / 1024 * ∑ k, X k * X k + ε : ℝ) : EReal) := by
      rw [ms, div_len, hE]
      push_cast
      rfl
    set w : ℝ := 1 / 1024 * ∑ k, X k * X k + ε with hw
    have hw0 : 0 < w := by
      have : 0 ≤ ∑ k, X k * X k := Finset.sum_nonneg fun k _ => mul_self_nonneg _
      rw [hw]
      positivity
    have hr : rr (fun k => (X k : EReal)) = (((Real.sqrt w)⁻¹ : ℝ) : EReal) := by
      rw [rr, hm, Ideal.rsqrt_coe, if_neg (not_lt.mpr hw0.le), if_neg hw0.ne']
    set r : ℝ := (Real.sqrt w)⁻¹ with hrd
    have hr0 : 0 ≤ r := by positivity
    have hrr : r * r = w⁻¹ := by
      rw [hrd, ← mul_inv, Real.mul_self_sqrt hw0.le]
    have hS : ∑ k, d k * ((X k : EReal) * (r : EReal)) = (r : EReal) * ∑ k, (X k : EReal) * d k := by
      rw [← mul_sum_real _ r hr0]
      exact Finset.sum_congr rfl fun k _ => by rw [← mul_assoc, mul_comm, mul_comm (d k)]
    have hv : vv (fun k => (X k : EReal)) d = ((-(1 / 2048) * (r * w⁻¹) : ℝ) : EReal) * ∑ k, (X k : EReal) * d k := by
      rw [vv, hr, hm, div_len, half_eq, Ideal.div, if_neg (by exact_mod_cast hw0.ne'), ← EReal.coe_inv, ← EReal.coe_mul, ← EReal.coe_mul,
        mul_comm _ (((-(1 / 2) * (r * w⁻¹) : ℝ)) : EReal), ← mul_assoc, ← EReal.coe_mul]
      congr 2
      ring
    simp only [back]
    rw [hr, hv, hS, div_len]
    set S : EReal := ∑ k, (X k : EReal) * d k
    have e1 : (X j : EReal) * (((-(1 / 2048) * (r * w⁻¹) : ℝ) : EReal) * S) = ((-(1 / 2048) * (X j * r * w⁻¹) : ℝ) : EReal) * S := by
      rw [← mul_assoc, ← EReal.coe_mul]
      congr 2
      ring
    have e2 : (X j : EReal) * (r : EReal) * (((1 / 1024 : ℝ) : EReal) * ((r : EReal) * S)) = ((1 / 1024 * (X j * (r * r)) : ℝ) : EReal) * S := by
      rw [← mul_assoc, ← mul_assoc, ← EReal.coe_mul, ← EReal.coe_mul, ← EReal.coe_mul]
      congr 2
      ring
    rw [mul_comm (((-(1 / 2048) * (r * w⁻¹) : ℝ) : EReal) * S), e1, e2, add_assoc (d j * _), twice, sub_eq_add_neg,
      EReal.left_distrib_of_nonneg_of_ne_top (by exact_mod_cast hr0) (EReal.coe_ne_top r), mul_comm (d j), ← neg_mul, ← EReal.coe_neg, ← mul_assoc (r : EReal),
      ← EReal.coe_mul, hrr]
    congr 4
    ring

/-! ## The kernel's arrays -/

variable (m : (ℓ : Loc nD τ sig) → Buf (Elt Ideal) ℓ) (c : Dev nD)

/-- The gradient by the entries of the whole array. -/
def dx (x : S4096x1024.Idx → EReal) (g : S1x1024.Idx → EReal) (dh e : S4096x1024.Idx → EReal) : S4096x1024.Idx → EReal :=
  fun i => back (fun k => x (ix2 (i 0) k)) (fun k => dh (ix2 (i 0) k) * g (ix2 0 k)) (i 1) (e i)

/-- The gradient by the norm's weights. -/
def dg (x dh : S4096x1024.Idx → EReal) : S1x1024.Idx → EReal :=
  fun i => ∑ n : Fin 4096, dh (ix2 n (i 1)) * (x (ix2 n (i 1)) * rr fun k => x (ix2 n k))

/-- A block's gradient by the entries. -/
theorem pay4_at (x dh : Vec Ideal S512x1024 .f32) (g : Vec Ideal S1x1024 .f32) (e : Vec Ideal S512x1024 .f32) (j : S512x1024.Idx) :
    k0_pay4 x dh g e j = back (fun k => x (ix2 (j 0) k)) (fun k => dh (ix2 (j 0) k) * g (ix2 0 k)) (j 1) (e j) := by
  pointwise [k0_pay4, k0_pay3, k0_pay2, back, rr, ms]

/-- A block's part of the gradient by the weights. -/
theorem pay6_at (x dh : Vec Ideal S512x1024 .f32) (j : S1x1024.Idx) :
    k0_pay6 x dh j = ∑ n : Fin 512, dh (ix2 n (j 1)) * (x (ix2 n (j 1)) * rr fun k => x (ix2 n k)) := by
  pointwise [k0_pay6, k0_pay3, k0_pay2, rr, ms]

/-- This part added to what the blocks before it left. -/
theorem pay1_at (a b : Vec Ideal S1x1024 .f32) (j : S1x1024.Idx) : k0_pay1 a b j = b j + a j := by
  pointwise [k0_pay1]

/-- Which block each window has at a point. -/
theorem idx : ∀ t : Fin grid0.N, win0_0.index t = ![t.val, 0] ∧ win0_1.index t = ![0, 0] ∧ win0_2.index t = ![t.val, 0] ∧ win0_3.index t = ![t.val, 0]
    ∧ win0_4.index t = ![t.val, 0] ∧ win0_5.index t = ![t.val, 0] ∧ win0_6.index t = ![0, 0] := by
  decide +kernel

/-- What a point leaves of the gradient by the entries, in both formats. -/
theorem outs (t : Fin cfg0.N) : (outsAt0 m c t.val t.isLt).1 = k0_pay4 (iblk m c 0 t) (iblk m c 2 t) (iblk m c 1 t) (iblk m c 3 t)
    ∧ (outsAt0 m c t.val t.isLt).2.1 = k0_pay5 (iblk m c 0 t) (iblk m c 2 t) (iblk m c 1 t) (iblk m c 3 t) := by
  have hN : t.val < 8 := t.isLt
  by_cases h : t.val = 0
  · rw [outsAt0_A m c t (by omega) (by omega)]
    exact ⟨by frame_out, by frame_out⟩
  · rw [outsAt0_B m c t (by omega) (by omega)]
    exact ⟨by frame_out, by frame_out⟩

/-- The first result array is the gradient by the entries. -/
theorem final4 : (dats m 0 c).arrAt 4 cfg0.N
    = dx (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4, (outs m c t).1, pay4_at]
  unfold dx
  congr 1
  · funext k
    blk_ext [iblk, V, idx t]
  · funext k
    congr 1 <;> blk_ext [iblk, V, idx t]
  · exact Fin.ext (by show (y 1).val = win0_4.index t 1 * 1024 + 1 * (y 1).val; rw [(idx t).2.2.2.2.1]; simp)

/-- The second one too, a cast being the identity. -/
theorem final5 : (dats m 0 c).arrAt 5 cfg0.N
    = dx (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5, (outs m c t).2]
  refine (pay4_at _ _ _ _ _).trans ?_
  unfold dx
  congr 1
  · funext k
    blk_ext [iblk, V, idx t]
  · funext k
    congr 1 <;> blk_ext [iblk, V, idx t]
  · exact Fin.ext (by show (y 1).val = win0_5.index t 1 * 1024 + 1 * (y 1).val; rw [(idx t).2.2.2.2.2.1]; simp)

/-- The third is the gradient by the weights. -/
theorem final6 : (dats m 0 c).arrAt 6 cfg0.N = dg (m ((c : Thread nD τ).loc main_arg0)) (m ((c : Thread nD τ).loc main_arg2)) := by
  refine (dats m 0 c).arrAt_eq_of_covers 6 _ (by decide +kernel) fun t hf y => ?_
  blk_simp
  rw [after0_6, Pipeline.eq_sum_fin_of_reset_step_apply_of_flush (fun n h => (outsAt0 m c n h).2.2) 8 (fun _ => 0) _
    (fun t h j => by rw [outsAt0_A m c t h (by have := t.isLt; have : cfg0.N = 8 := N_0; omega)]; frame_out; rw [pay6_at, zero_add])
    (fun t h j => by rw [outsAt0_B m c t h (by omega)]; frame_out; rw [pay1_at, pay6_at]) t ((flush0_6 t).mp hf), zero_add]
  refine Fin.sum_mul_add_congr fun s k hl => ?_
  have hs := idx ⟨8 * (t.val / 8) + s.val, Pipeline.run_point_lt_of_flush t ((flush0_6 t).mp hf) s⟩
  congr 1
  · blk_ext [iblk, V, idx t, hs]
  · congr 1
    · blk_ext [iblk, V, idx t, hs]
    · congr 1
      funext k
      blk_ext [iblk, V, idx t, hs]

/-! ## The reference -/

open Cert.Reference25Ideal.Read in
/-- The reference's gradient by the entries is this array. -/
theorem ref_dx (x0 x1 x2 x3) : val_main_v34 (F := Ideal) x0 x1 x2 x3 = dx x0 x1 x2 x3 := by
  funext i
  refine Eq.trans ?_ (back_eq _ _ _ _)
  pointwise [
    val_main_v34, val_main_v33, val_main_v32, val_main_v31, val_main_v30, val_main_v29, val_main_v28, val_main_cst_6, val_main_v27, val_main_cst_5,
    val_main_v26, val_main_v25, val_main_v24, val_main_v23, val_main_v22, val_main_v21, val_main_cst_4, val_main_v20, val_main_v19, val_main_v18,
    val_main_v10, val_main_v9, val_main_cst_2, val_main_v8, val_main_v7, val_main_v6, val_main_v5, val_main_cst_1, val_main_v4, val_main_v3,
    val_main_cst_0, val_main_v2, val_main_v1, val_main_cst, val_main_v0, rr, ms, vv, len]
  simp only [Finset.univ_unique, Finset.sum_singleton]

open Cert.Reference25Ideal.Read in
/-- The reference's gradient by the weights is this array. -/
theorem ref_dg (x0 x2) : val_main_v17 (F := Ideal) x0 x2 = dg x0 x2 := by
  funext i
  pointwise [val_main_v17, val_main_v16, val_main_cst_3, val_main_v15, val_main_v12, val_main_v11, val_main_v7, val_main_v6, val_main_v5, val_main_cst_1,
    val_main_v4, val_main_v3, val_main_cst_0, val_main_v2, val_main_v1, val_main_cst, val_main_v0, dg, rr, ms]
  exact Finset.sum_congr rfl fun k _ => mul_comm _ _

end Cert.Kernel25Ideal.Norm

namespace Cert.Proof

open Idealize.ShloMosaic Idealize.SL.Sem

/-- The kernel of the gradients of a layer's norm runs, leaves its arguments as they were and its counters at zero. -/
theorem frame_p25 : Cert.quiescent_Kernel25 (hKernel25 := Cert.Kernel25.Gen.facts) := fun m ρ _ => Cert.Kernel25.Gen.frame m ρ

/-- So does it over the extended reals. -/
theorem frame_pi25 : Cert.quiescent_Kernel25Ideal (hKernel25Ideal := Cert.Kernel25Ideal.Gen.facts) := fun m ρ _ => Cert.Kernel25Ideal.Gen.frame m ρ

/-- So does its reference. -/
theorem frame_ri25 : Cert.quiescent_Reference25Ideal (hReference25Ideal := Cert.Reference25Ideal.Gen.facts) := fun m ρ _ =>
  (θ_run Cert.Reference25Ideal.defs _ _).mono (fun r h => ⟨fun c => (h c).2.2.2, sem_eq_zero_of_no_sems (by decide) r.2⟩)
    (Cert.Reference25Ideal.Value.run (F := Ideal) m ρ)

/-- Nothing of it is rewritten. -/
theorem preserves25 : Cert.preserves_Kernel25_Kernel25Ideal := trivial

/-- Its three results are its reference's. -/
theorem algebraic25 : Cert.algebraic_Kernel25Ideal_Reference25Ideal (hKernel25Ideal := Cert.Kernel25Ideal.Gen.facts) (hReference25Ideal := Cert.Reference25Ideal.Gen.facts) := by
  intro m ρ m' ρ' _ hagree
  refine ⟨_, _, _, Cert.Kernel25Ideal.Value.run_blocks (F := Ideal) m ρ, ?_⟩
  refine (θ_run Cert.Reference25Ideal.defs _ _).mono (fun _ h c => ?_) (Cert.Reference25Ideal.Value.run (F := Ideal) m' ρ')
  obtain ⟨a0, a1, a2, a3⟩ := hagree c
  obtain ⟨h0, h1, h2, h3⟩ := h c
  refine ⟨h0.trans ?_, h1.trans ?_, h2.trans ?_, h3⟩
  · rw [Cert.Reference25Ideal.Read.val_main_v34_eq, a0, a1, a2, a3, Cert.Kernel25Ideal.Norm.ref_dx]
    exact (Cert.Kernel25Ideal.Norm.final4 m c).symm
  · rw [Cert.Reference25Ideal.Read.val_main_v35_eq, a0, a1, a2, a3]
    exact (Cert.Kernel25Ideal.Norm.ref_dx _ _ _ _).trans (Cert.Kernel25Ideal.Norm.final5 m c).symm
  · rw [Cert.Reference25Ideal.Read.val_main_v17_eq, a0, a2, Cert.Kernel25Ideal.Norm.ref_dg]
    exact (Cert.Kernel25Ideal.Norm.final6 m c).symm

end Cert.Proof

end
-- ==== Proof.LossHead.lean ====
module

public import proofs.«01_k».proof.Proof.NormBack
public import proofs.«01_k».proof.Proof.Gen.Kernel26.Frame
public import proofs.«01_k».proof.Proof.Gen.Kernel26Ideal.Value
public import proofs.«01_k».proof.Proof.Gen.Reference26Ideal.Read

/-!
# The loss and its gradients

The loss is half the sum over the rows of the mean square of what the normed, weighted rows miss their targets by. The kernel
takes it and its gradients by the rows and by the norm's weights in tiles of 512 rows; the reference differentiates the loss.
-/

@[expose] public section

set_option maxRecDepth 16384

noncomputable section

namespace Cert.Kernel26Ideal.Loss

open Idealize.ShloMosaic Idealize.ShloMosaic.TcCoe Idealize.ShloMosaic.Tactic Cert.Kernel26Ideal Cert.Kernel26Ideal.Gen
open Cert.Kernel25Ideal.Norm (len rr ms vv back back_eq div_len mul_sum_real)

variable (m : (ℓ : Loc nD τ sig) → Buf (Elt Ideal) ℓ) (c : Dev nD)

/-- What a row's entry, normed and weighted, misses its target by. -/
def miss (x g t : Fin 1024 → EReal) (k : Fin 1024) : EReal := x k * rr x * g k - t k

/-- The loss's gradient by it. -/
def slope (x g t : Fin 1024 → EReal) (k : Fin 1024) : EReal := Ideal.div (miss x g t k) len

/-- A row's part of the loss, up to the half. -/
def part (x g t : Fin 1024 → EReal) : EReal := Ideal.div (∑ k, miss x g t k * miss x g t k) len

/-- The gradient by the entries. -/
def dx (x : S4096x1024.Idx → EReal) (g : S1x1024.Idx → EReal) (t : S4096x1024.Idx → EReal) : S4096x1024.Idx → EReal :=
  fun i => back (fun k => x (ix2 (i 0) k))
    (fun k => slope (fun k => x (ix2 (i 0) k)) (fun k => g (ix2 0 k)) (fun k => t (ix2 (i 0) k)) k * g (ix2 0 k)) (i 1) 0

/-- The gradient by the norm's weights. -/
def dg (x : S4096x1024.Idx → EReal) (g : S1x1024.Idx → EReal) (t : S4096x1024.Idx → EReal) : S1x1024.Idx → EReal :=
  fun i => ∑ n : Fin 4096, slope (fun k => x (ix2 n k)) (fun k => g (ix2 0 k)) (fun k => t (ix2 n k)) (i 1)
    * (x (ix2 n (i 1)) * rr fun k => x (ix2 n k))

/-- The loss, in each of 128 places. -/
def loss (x : S4096x1024.Idx → EReal) (g : S1x1024.Idx → EReal) (t : S4096x1024.Idx → EReal) : S1x128.Idx → EReal :=
  fun _ => ∑ n : Fin 4096, Ideal.ofBits .f32 0x3F000000#32 * part (fun k => x (ix2 n k)) (fun k => g (ix2 0 k)) (fun k => t (ix2 n k))

theorem half_eq : Ideal.ofBits .f32 0x3F000000#32 = ((1 / 2 : ℝ) : EReal) := by
  simp [Ideal.ofBits, Ideal.ieee]
  rw [← EReal.coe_mul]
  norm_num

theorem two_eq : Ideal.ofBits .f32 0x40000000#32 = ((2 : ℝ) : EReal) := by
  simp [Ideal.ofBits, Ideal.ieee]
  rw [← EReal.coe_mul]
  norm_num

/-- The half comes out of the sum. -/
theorem half_sum {n : ℕ} (f : Fin n → EReal) :
    Ideal.ofBits .f32 0x3F000000#32 * ∑ k, f k = ∑ k, Ideal.ofBits .f32 0x3F000000#32 * f k := by
  rw [half_eq]
  exact (mul_sum_real _ _ (by norm_num) f).symm

/-- The derivative of a half of a mean square. -/
theorem slope_eq (y : EReal) :
    Ideal.div (Ideal.ofBits .f32 0x3F000000#32) (Ideal.ofBits .f32 0x44800000#32) * (Ideal.ofBits .f32 0x40000000#32 * y)
      = Ideal.div y (Ideal.ofBits .f32 0x44800000#32) := by
  rw [div_len, div_len, half_eq, two_eq, ← mul_assoc, ← EReal.coe_mul, ← EReal.coe_mul]
  norm_num

/-- A block's gradient by the entries. -/
theorem pay11_at (x : Vec Ideal S512x1024 .f32) (g : Vec Ideal S1x1024 .f32) (t : Vec Ideal S512x1024 .f32) (j : S512x1024.Idx) :
    k0_pay11 x g t j = back (fun k => x (ix2 (j 0) k))
      (fun k => slope (fun k => x (ix2 (j 0) k)) (fun k => g (ix2 0 k)) (fun k => t (ix2 (j 0) k)) k * g (ix2 0 k)) (j 1) 0 := by
  refine Eq.trans ?_ (add_zero _).symm
  pointwise [k0_pay11, k0_pay10, k0_pay8, k0_pay7, k0_pay6, slope, miss, rr, ms]

/-- A block's part of the gradient by the weights. -/
theorem pay2_at (x : Vec Ideal S512x1024 .f32) (g : Vec Ideal S1x1024 .f32) (t : Vec Ideal S512x1024 .f32) (j : S1x1024.Idx) :
    k0_pay2 (k0_pay7 x) (k0_pay10 x g t) j = ∑ n : Fin 512, slope (fun k => x (ix2 n k)) (fun k => g (ix2 0 k)) (fun k => t (ix2 n k)) (j 1)
      * (x (ix2 n (j 1)) * rr fun k => x (ix2 n k)) := by
  pointwise [k0_pay2, k0_pay10, k0_pay8, k0_pay7, k0_pay6, slope, miss, rr, ms]

/-- A block's part of the loss. -/
theorem pay3_at (x : Vec Ideal S512x1024 .f32) (g : Vec Ideal S1x1024 .f32) (t : Vec Ideal S512x1024 .f32) (j : S1x128.Idx) :
    k0_pay3 (k0_pay9 x g t) j
      = ∑ n : Fin 512, Ideal.ofBits .f32 0x3F000000#32 * part (fun k => x (ix2 n k)) (fun k => g (ix2 0 k)) (fun k => t (ix2 n k)) := by
  rw [← half_sum]
  pointwise [k0_pay3, k0_pay9, k0_pay8, k0_pay7, k0_pay6, part, miss, rr, ms]

/-- The part of the gradient by the weights added to what the blocks before it left. -/
theorem pay4_at (a b : Vec Ideal S512x1024 .f32) (p : Vec Ideal S1x1024 .f32) (j : S1x1024.Idx) : k0_pay4 a b p j = p j + k0_pay2 a b j := by
  pointwise [k0_pay4]

/-- And the part of the loss. -/
theorem pay5_at (a : Vec Ideal S1x1 .f32) (p : Vec Ideal S1x128 .f32) (j : S1x128.Idx) : k0_pay5 a p j = p j + k0_pay3 a j := by
  pointwise [k0_pay5]

/-- Which block each window has at a point. -/
theorem idx : ∀ t : Fin grid0.N, win0_0.index t = ![t.val, 0] ∧ win0_1.index t = ![0, 0] ∧ win0_2.index t = ![t.val, 0] ∧ win0_3.index t = ![t.val, 0]
    ∧ win0_4.index t = ![t.val, 0] ∧ win0_5.index t = ![0, 0] ∧ win0_6.index t = ![0, 0] := by
  decide +kernel

/-- What a point leaves of the gradient by the entries, in both formats. -/
theorem outs (t : Fin cfg0.N) : (outsAt0 m c t.val t.isLt).1 = k0_pay11 (iblk m c 0 t) (iblk m c 1 t) (iblk m c 2 t)
    ∧ (outsAt0 m c t.val t.isLt).2.1 = k0_pay1 (k0_pay11 (iblk m c 0 t) (iblk m c 1 t) (iblk m c 2 t)) := by
  have hN : t.val < 8 := t.isLt
  by_cases h : t.val = 0
  · rw [outsAt0_A m c t (by omega) (by omega)]
    exact ⟨by frame_out, by frame_out⟩
  · rw [outsAt0_B m c t (by omega) (by omega)]
    exact ⟨by frame_out, by frame_out⟩

/-- The rows of the three blocks at a point are those of the arrays. -/
theorem rows (t : Fin cfg0.N) (n : Fin 512) (i : Fin 4096) (hi : i.val = t.val * 512 + n.val) :
    (fun k : Fin 1024 => iblk m c 0 t (ix2 n k)) = (fun k => m ((c : Thread nD τ).loc main_arg0) (ix2 i k))
    ∧ (fun k : Fin 1024 => iblk m c 1 t (ix2 0 k)) = (fun k => m ((c : Thread nD τ).loc main_arg1) (ix2 0 k))
    ∧ (fun k : Fin 1024 => iblk m c 2 t (ix2 n k)) = (fun k => m ((c : Thread nD τ).loc main_arg2) (ix2 i k)) := by
  refine ⟨?_, ?_, ?_⟩ <;> funext k
  · blk_ext [iblk, V, idx t, hi]
  · blk_ext [iblk, V, idx t, hi]
  · blk_ext [iblk, V, idx t, hi]

/-- A block's gradient by the entries is the array's. -/
theorem pay11_dx (t : Fin cfg0.N) (y : S512x1024.Idx) (i : S4096x1024.Idx) (h0 : (i 0).val = t.val * 512 + (y 0).val) (h1 : (i 1).val = (y 1).val) :
    k0_pay11 (iblk m c 0 t) (iblk m c 1 t) (iblk m c 2 t) y
      = dx (m ((c : Thread nD τ).loc main_arg0)) (m ((c : Thread nD τ).loc main_arg1)) (m ((c : Thread nD τ).loc main_arg2)) i := by
  obtain ⟨e0, e1, e2⟩ := rows m c t (y 0) (i 0) h0
  rw [pay11_at, dx, e0, e1, e2, show (y 1 : Fin 1024) = i 1 from Fin.ext h1.symm]
  congr 1
  funext k
  rw [congrFun e1 k]

/-- The first result array is the gradient by the entries. -/
theorem final3 : (dats m 0 c).arrAt 3 cfg0.N
    = dx (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3, (outs m c t).1]
  refine pay11_dx m c t y _ ?_ ?_
  · show win0_3.index t 0 * 512 + 1 * (y 0).val = _
    rw [(idx t).2.2.2.1]; simp
  · show win0_3.index t 1 * 1024 + 1 * (y 1).val = _
    rw [(idx t).2.2.2.1]; simp

/-- The second one too, a cast being the identity. -/
theorem final4 : (dats m 0 c).arrAt 4 cfg0.N
    = dx (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4, (outs m c t).2]
  refine pay11_dx m c t y _ ?_ ?_
  · show win0_4.index t 0 * 512 + 1 * (y 0).val = _
    rw [(idx t).2.2.2.2.1]; simp
  · show win0_4.index t 1 * 1024 + 1 * (y 1).val = _
    rw [(idx t).2.2.2.2.1]; simp

/-- The third is the gradient by the weights. -/
theorem final5 : (dats m 0 c).arrAt 5 cfg0.N
    = dg (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5, Pipeline.eq_sum_fin_of_reset_step_apply_of_flush (fun n h => (outsAt0 m c n h).2.2.1) 8 (fun _ => 0) _
    (fun t h j => by rw [outsAt0_A m c t h (by have := t.isLt; have : cfg0.N = 8 := N_0; omega)]; frame_out; rw [pay2_at, zero_add])
    (fun t h j => by rw [outsAt0_B m c t h (by omega)]; frame_out; rw [pay4_at, pay2_at]) t ((flush0_5 t).mp hf), zero_add]
  refine Fin.sum_mul_add_congr fun s n hl => ?_
  obtain ⟨e0, e1, e2⟩ := rows m c ⟨8 * (t.val / 8) + s.val, Pipeline.run_point_lt_of_flush t ((flush0_5 t).mp hf) s⟩ n ⟨s.val * 512 + n.val, hl⟩
    (by have := t.isLt; have : cfg0.grid.N = 8 := N_0; simp; omega)
  have hy : (((cfg0.win 5).blk t).view.emb y 1 : Fin 1024) = y 1 := Fin.ext (by
    show win0_5.index t 1 * 1024 + 1 * (y 1).val = _
    rw [(idx t).2.2.2.2.2.1]; simp)
  rw [e0, e1, e2, hy, congrFun e0 (y 1)]

/-- The fourth is the loss. -/
theorem final6 : (dats m 0 c).arrAt 6 cfg0.N
    = loss (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp
  rw [after0_6, Pipeline.eq_sum_fin_of_reset_step_apply_of_flush (fun n h => (outsAt0 m c n h).2.2.2) 8 (fun _ => 0) _
    (fun t h j => by rw [outsAt0_A m c t h (by have := t.isLt; have : cfg0.N = 8 := N_0; omega)]; frame_out; rw [pay3_at, zero_add])
    (fun t h j => by rw [outsAt0_B m c t h (by omega)]; frame_out; rw [pay5_at, pay3_at]) t ((flush0_6 t).mp hf), zero_add]
  refine Fin.sum_mul_add_congr fun s n hl => ?_
  obtain ⟨e0, e1, e2⟩ := rows m c ⟨8 * (t.val / 8) + s.val, Pipeline.run_point_lt_of_flush t ((flush0_6 t).mp hf) s⟩ n ⟨s.val * 512 + n.val, hl⟩
    (by have := t.isLt; have : cfg0.grid.N = 8 := N_0; simp; omega)
  rw [e0, e1, e2]

open Cert.Reference26Ideal.Read in
/-- The reference's gradient by the entries is this array. -/
theorem ref_dx (x0 x1 x2) : val_main_v48 (F := Ideal) x0 x1 x2 = dx x0 x1 x2 := by
  funext i
  refine Eq.trans ?_ (back_eq _ _ _ _)
  rw [add_zero]
  pointwise [
    val_main_v48, val_main_v47, val_main_v46, val_main_v45, val_main_v44, val_main_v43, val_main_cst_14, val_main_v42, val_main_v41, val_main_cst_13,
    val_main_v40, val_main_v39, val_main_v38, val_main_v37, val_main_v36, val_main_cst_12, val_main_v35, val_main_v34, val_main_v33, val_main_v29,
    val_main_v28, val_main_v27, val_main_v26, val_main_cst_10, val_main_v25, val_main_v24, val_main_cst_9, val_main_cst_8, val_main_v18, val_main_v17,
    val_main_cst_3, val_main_v15, val_main_v14, val_main_v13, val_main_v12, val_main_v11,
    val_main_v10, val_main_v9, val_main_cst_2, val_main_v8, val_main_v7, val_main_v6, val_main_v5, val_main_cst_1, val_main_v4, val_main_v3,
    val_main_cst_0, val_main_v2, val_main_v1, val_main_cst, val_main_v0, rr, ms, vv, len, slope, miss, slope_eq]
  simp only [Finset.univ_unique, Finset.sum_singleton, slope_eq]

open Cert.Reference26Ideal.Read in
/-- The reference's gradient by the weights is this array. -/
theorem ref_dg (x0 x1 x2) : val_main_v32 (F := Ideal) x0 x1 x2 = dg x0 x1 x2 := by
  funext i
  pointwise [val_main_v32, val_main_v31, val_main_cst_11, val_main_v30, val_main_v29,
    val_main_v28, val_main_v27, val_main_v26, val_main_cst_10, val_main_v25, val_main_v24, val_main_cst_9, val_main_cst_8, val_main_v18, val_main_v17,
    val_main_cst_3, val_main_v15, val_main_v14, val_main_v13, val_main_v12, val_main_v11, val_main_v7, val_main_v6, val_main_v5, val_main_cst_1,
    val_main_v4, val_main_v3, val_main_cst_0, val_main_v2, val_main_v1, val_main_cst, val_main_v0, dg, rr, ms, len, slope, miss, slope_eq]
  exact Finset.sum_congr rfl fun k _ => mul_comm _ _

open Cert.Reference26Ideal.Read in
/-- The reference's loss is this array. -/
theorem ref_loss (x0 x1 x2) : val_main_v50 (F := Ideal) x0 x1 x2 = loss x0 x1 x2 := by
  funext i
  rw [loss, ← half_sum]
  pointwise [val_main_v50, val_main_v23, val_main_cst_7, val_main_v22, val_main_cst_6, val_main_v21, val_main_v20, val_main_cst_5, val_main_v19,
    val_main_cst_4, val_main_v16, val_main_v15, val_main_v14, val_main_v13, val_main_v12, val_main_v11, val_main_v7, val_main_v6, val_main_v5,
    val_main_cst_1, val_main_v4, val_main_v3, val_main_cst_0, val_main_v2, val_main_v1, val_main_cst, val_main_v0, part, rr, ms, miss]

end Cert.Kernel26Ideal.Loss

namespace Cert.Proof

open Idealize.ShloMosaic Idealize.SL.Sem

/-- The loss and its gradients run, leave their arguments as they were and their counters at zero. -/
theorem frame_p26 : Cert.quiescent_Kernel26 (hKernel26 := Cert.Kernel26.Gen.facts) := fun m ρ _ => Cert.Kernel26.Gen.frame m ρ

/-- So do they over the extended reals. -/
theorem frame_pi26 : Cert.quiescent_Kernel26Ideal (hKernel26Ideal := Cert.Kernel26Ideal.Gen.facts) := fun m ρ _ => Cert.Kernel26Ideal.Gen.frame m ρ

/-- So does their reference. -/
theorem frame_ri26 : Cert.quiescent_Reference26Ideal (hReference26Ideal := Cert.Reference26Ideal.Gen.facts) := fun m ρ _ =>
  (θ_run Cert.Reference26Ideal.defs _ _).mono (fun r h => ⟨fun c => (h c).2.2.2.2, sem_eq_zero_of_no_sems (by decide) r.2⟩)
    (Cert.Reference26Ideal.Value.run (F := Ideal) m ρ)

/-- Nothing of them is rewritten. -/
theorem preserves26 : Cert.preserves_Kernel26_Kernel26Ideal := trivial

/-- The four results are the reference's. -/
theorem algebraic26 : Cert.algebraic_Kernel26Ideal_Reference26Ideal (hKernel26Ideal := Cert.Kernel26Ideal.Gen.facts) (hReference26Ideal := Cert.Reference26Ideal.Gen.facts) := by
  intro m ρ m' ρ' _ hagree
  refine ⟨_, _, _, _, Cert.Kernel26Ideal.Value.run_blocks (F := Ideal) m ρ, ?_⟩
  refine (θ_run Cert.Reference26Ideal.defs _ _).mono (fun _ h c => ?_) (Cert.Reference26Ideal.Value.run (F := Ideal) m' ρ')
  obtain ⟨a0, a1, a2⟩ := hagree c
  obtain ⟨h0, h1, h2, h3, h4⟩ := h c
  refine ⟨h0.trans ?_, h1.trans ?_, h2.trans ?_, h3.trans ?_, h4⟩
  · rw [Cert.Reference26Ideal.Read.val_main_v48_eq, a0, a1, a2, Cert.Kernel26Ideal.Loss.ref_dx]
    exact (Cert.Kernel26Ideal.Loss.final3 m c).symm
  · rw [Cert.Reference26Ideal.Read.val_main_v49_eq, a0, a1, a2]
    exact (Cert.Kernel26Ideal.Loss.ref_dx _ _ _).trans (Cert.Kernel26Ideal.Loss.final4 m c).symm
  · rw [Cert.Reference26Ideal.Read.val_main_v32_eq, a0, a1, a2, Cert.Kernel26Ideal.Loss.ref_dg]
    exact (Cert.Kernel26Ideal.Loss.final5 m c).symm
  · rw [Cert.Reference26Ideal.Read.val_main_v50_eq, a0, a1, a2, Cert.Kernel26Ideal.Loss.ref_loss]
    exact (Cert.Kernel26Ideal.Loss.final6 m c).symm

end Cert.Proof

end
-- ==== Proof.Latent.lean ====
module

public import proofs.«01_k».proof.Proof.Norm
public import proofs.«01_k».proof.Proof.Gen.Kernel27.Frame
public import proofs.«01_k».proof.Proof.Gen.Kernel27Ideal.Value
public import proofs.«01_k».proof.Proof.Gen.Reference27Ideal.Read
public import proofs.«01_k».proof.Proof.Gen.Kernel28.Frame
public import proofs.«01_k».proof.Proof.Gen.Kernel28Ideal.Value
public import proofs.«01_k».proof.Proof.Gen.Reference28Ideal.Read

/-!
# The norms of the latent queries and of the latent keys and values

Each is the norm of its columns of the latent layer's projection, in tiles of 512 rows.
-/

@[expose] public section

set_option maxRecDepth 16384

noncomputable section

namespace Cert.Latent

open Idealize.ShloMosaic

/-- What a row `x` and the norm's weight `g` of its entry `a` have there, `l` being the row's length as both programs have it. -/
def entry {n : ℕ} (l : EReal) (x : Fin n → EReal) (a g : EReal) : EReal :=
  a * Ideal.rsqrt (Ideal.div (∑ k, x k * x k) l + Ideal.ofBits .f32 0x358637BD#32) * g

end Cert.Latent

namespace Cert.Kernel27Ideal.Norm

open Idealize.ShloMosaic Idealize.ShloMosaic.TcCoe Idealize.ShloMosaic.Tactic Cert.Kernel27Ideal Cert.Kernel27Ideal.Gen Cert.Reference27Ideal.Read

variable (m : (ℓ : Loc nD τ sig) → Buf (Elt Ideal) ℓ) (c : Dev nD)

/-- The norm of the latent queries. -/
def norm (x : S4096x2560.Idx → EReal) (g : S1x256.Idx → EReal) : S4096x256.Idx → EReal :=
  fun i => Latent.entry (Ideal.ofBits .f32 0x43800000#32) (fun k : Fin 256 => x (ix2 (i 0) (⟨2048 + k.val, by omega⟩ : Fin 2560)))
    (x (ix2 (i 0) (⟨2048 + (i 1).val, by have : (i 1).val < 256 := (i 1).isLt; omega⟩ : Fin 2560))) (g (ix2 0 (i 1)))

/-- A block's norm. -/
theorem pay1_at (x : Vec Ideal S512x256 .f32) (g : Vec Ideal S1x256 .f32) (j : S512x256.Idx) :
    k0_pay1 x g j = Latent.entry (Ideal.ofBits .f32 0x43800000#32) (fun k : Fin 256 => x (ix2 (j 0) k)) (x j) (g (ix2 0 (j 1))) := by
  pointwise [k0_pay1, Latent.entry]

/-- Which block each window has at a point. -/
theorem idx : ∀ t : Fin grid0.N, win0_0.index t = ![t.val, 8] ∧ win0_1.index t = ![0, 0] ∧ win0_2.index t = ![t.val, 0] := by
  decide +kernel

/-- The result array is the norm. -/
theorem final : (dats m 0 c).arrAt 2 cfg0.N = norm (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [pay1_at]
  unfold norm
  congr 1
  · funext k
    blk_ext [iblk, V, idx t]
  all_goals blk_ext [iblk, V, idx t]

/-- The reference is the norm. -/
theorem ref (x0 x1) : val_main_v13 (F := Ideal) x0 x1 = norm x0 x1 := by
  funext i
  pointwise [val_main_v13, val_main_v12, val_main_v11, val_main_v10,
    val_main_v9, val_main_v8, val_main_v7,
    val_main_v6, val_main_v5, val_main_cst_1,
    val_main_v4, val_main_v3, val_main_cst_0,
    val_main_v2, val_main_v1, val_main_cst,
    val_main_v0, norm, Latent.entry]

end Cert.Kernel27Ideal.Norm

namespace Cert.Proof

open Idealize.ShloMosaic Idealize.SL.Sem Cert.Reference27Ideal.Read

/-- The kernel of the norm of the latent queries runs, leaves its arguments as they were and its counters at zero. -/
theorem frame_p27 : Cert.quiescent_Kernel27 (hKernel27 := Cert.Kernel27.Gen.facts) := fun m ρ _ => Cert.Kernel27.Gen.frame m ρ

/-- So does it over the extended reals. -/
theorem frame_pi27 : Cert.quiescent_Kernel27Ideal (hKernel27Ideal := Cert.Kernel27Ideal.Gen.facts) := fun m ρ _ => Cert.Kernel27Ideal.Gen.frame m ρ

/-- So does its reference. -/
theorem frame_ri27 : Cert.quiescent_Reference27Ideal (hReference27Ideal := Cert.Reference27Ideal.Gen.facts) := fun m ρ _ =>
  (θ_run Cert.Reference27Ideal.defs _ _).mono (fun r h => ⟨fun c => (h c).2, sem_eq_zero_of_no_sems (by decide) r.2⟩)
    (Cert.Reference27Ideal.Value.run (F := Ideal) m ρ)

/-- Nothing of it is rewritten. -/
theorem preserves27 : Cert.preserves_Kernel27_Kernel27Ideal := trivial

/-- Its result is its reference's. -/
theorem algebraic27 : Cert.algebraic_Kernel27Ideal_Reference27Ideal (hKernel27Ideal := Cert.Kernel27Ideal.Gen.facts) (hReference27Ideal := Cert.Reference27Ideal.Gen.facts) := by
  intro m ρ m' ρ' _ hagree
  refine ⟨_, Cert.Kernel27Ideal.Value.run_blocks (F := Ideal) m ρ, ?_⟩
  refine (θ_run Cert.Reference27Ideal.defs _ _).mono (fun _ h c => ?_) (Cert.Reference27Ideal.Value.run (F := Ideal) m' ρ')
  obtain ⟨a0, a1⟩ := hagree c
  refine ⟨(h c).1.trans ?_, (h c).2⟩
  rw [val_main_v13_eq, a0, a1, Cert.Kernel27Ideal.Norm.ref]
  exact (Cert.Kernel27Ideal.Norm.final m c).symm

end Cert.Proof

namespace Cert.Kernel28Ideal.Norm

open Idealize.ShloMosaic Idealize.ShloMosaic.TcCoe Idealize.ShloMosaic.Tactic Cert.Kernel28Ideal Cert.Kernel28Ideal.Gen Cert.Reference28Ideal.Read

variable (m : (ℓ : Loc nD τ sig) → Buf (Elt Ideal) ℓ) (c : Dev nD)

/-- The norm of the latent keys and values. -/
def norm (x : S4096x2560.Idx → EReal) (g : S1x128.Idx → EReal) : S4096x128.Idx → EReal :=
  fun i => Latent.entry (Ideal.ofBits .f32 0x43000000#32) (fun k : Fin 128 => x (ix2 (i 0) (⟨2304 + k.val, by omega⟩ : Fin 2560)))
    (x (ix2 (i 0) (⟨2304 + (i 1).val, by have : (i 1).val < 128 := (i 1).isLt; omega⟩ : Fin 2560))) (g (ix2 0 (i 1)))

/-- A block's norm. -/
theorem pay1_at (x : Vec Ideal S512x128 .f32) (g : Vec Ideal S1x128 .f32) (j : S512x128.Idx) :
    k0_pay1 x g j = Latent.entry (Ideal.ofBits .f32 0x43000000#32) (fun k : Fin 128 => x (ix2 (j 0) k)) (x j) (g (ix2 0 (j 1))) := by
  pointwise [k0_pay1, Latent.entry]

/-- Which block each window has at a point. -/
theorem idx : ∀ t : Fin grid0.N, win0_0.index t = ![t.val, 18] ∧ win0_1.index t = ![0, 0] ∧ win0_2.index t = ![t.val, 0] := by
  decide +kernel

/-- The result array is the norm. -/
theorem final : (dats m 0 c).arrAt 2 cfg0.N = norm (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [pay1_at]
  unfold norm
  congr 1
  · funext k
    blk_ext [iblk, V, idx t]
  all_goals blk_ext [iblk, V, idx t]

/-- The reference is the norm. -/
theorem ref (x0 x1) : val_main_v13 (F := Ideal) x0 x1 = norm x0 x1 := by
  funext i
  pointwise [val_main_v13, val_main_v12, val_main_v11, val_main_v10,
    val_main_v9, val_main_v8, val_main_v7,
    val_main_v6, val_main_v5, val_main_cst_1,
    val_main_v4, val_main_v3, val_main_cst_0,
    val_main_v2, val_main_v1, val_main_cst,
    val_main_v0, norm, Latent.entry]

end Cert.Kernel28Ideal.Norm

namespace Cert.Proof

open Idealize.ShloMosaic Idealize.SL.Sem Cert.Reference28Ideal.Read

/-- The kernel of the norm of the latent keys and values runs, leaves its arguments as they were and its counters at zero. -/
theorem frame_p28 : Cert.quiescent_Kernel28 (hKernel28 := Cert.Kernel28.Gen.facts) := fun m ρ _ => Cert.Kernel28.Gen.frame m ρ

/-- So does it over the extended reals. -/
theorem frame_pi28 : Cert.quiescent_Kernel28Ideal (hKernel28Ideal := Cert.Kernel28Ideal.Gen.facts) := fun m ρ _ => Cert.Kernel28Ideal.Gen.frame m ρ

/-- So does its reference. -/
theorem frame_ri28 : Cert.quiescent_Reference28Ideal (hReference28Ideal := Cert.Reference28Ideal.Gen.facts) := fun m ρ _ =>
  (θ_run Cert.Reference28Ideal.defs _ _).mono (fun r h => ⟨fun c => (h c).2, sem_eq_zero_of_no_sems (by decide) r.2⟩)
    (Cert.Reference28Ideal.Value.run (F := Ideal) m ρ)

/-- Nothing of it is rewritten. -/
theorem preserves28 : Cert.preserves_Kernel28_Kernel28Ideal := trivial

/-- Its result is its reference's. -/
theorem algebraic28 : Cert.algebraic_Kernel28Ideal_Reference28Ideal (hKernel28Ideal := Cert.Kernel28Ideal.Gen.facts) (hReference28Ideal := Cert.Reference28Ideal.Gen.facts) := by
  intro m ρ m' ρ' _ hagree
  refine ⟨_, Cert.Kernel28Ideal.Value.run_blocks (F := Ideal) m ρ, ?_⟩
  refine (θ_run Cert.Reference28Ideal.defs _ _).mono (fun _ h c => ?_) (Cert.Reference28Ideal.Value.run (F := Ideal) m' ρ')
  obtain ⟨a0, a1⟩ := hagree c
  refine ⟨(h c).1.trans ?_, (h c).2⟩
  rw [val_main_v13_eq, a0, a1, Cert.Kernel28Ideal.Norm.ref]
  exact (Cert.Kernel28Ideal.Norm.final m c).symm

end Cert.Proof

end
-- ==== Proof.Adam.lean ====
/- One AdamW step: the kernel and its reference do the same operations entry by entry, so the weight's change and its two
   new moments agree on all inputs. -/
module

public import proofs.«01_k».proof.Defs
public import proofs.«01_k».proof.Proof.Gen.Kernel24.Frame
public import proofs.«01_k».proof.Proof.Gen.Kernel24Ideal.Value
public import proofs.«01_k».proof.Proof.Gen.Reference24Ideal.Read
public import Idealize.ShloMosaic.Adequacy
public import Idealize.ShloMosaic.Init

@[expose] public section

noncomputable section

namespace Cert.Kernel24Ideal.Adam

open Idealize.ShloMosaic Idealize.ShloMosaic.Tactic Cert.Kernel24Ideal.Value Cert.Reference24Ideal.Read

/-- The reference's new first moment is the kernel's. -/
theorem first (g m : _) : val_main_v4 (F := Ideal) g m = G5 g m := rfl

/-- The reference's new second moment is the kernel's. -/
theorem second (g v : _) : val_main_v10 (F := Ideal) g v = G6 g v := rfl

/-- The reference's change of the weight is the kernel's. -/
theorem change (w g m v : _) : val_main_v23 (F := Ideal) w g m v = G4 g m v w := rfl

end Cert.Kernel24Ideal.Adam

namespace Cert.Proof

open Idealize.ShloMosaic Idealize.SL.Sem

/-- The kernel of an AdamW step runs, leaves its arguments as they were and its counters at zero. -/
theorem frame_p24 : Cert.quiescent_Kernel24 (hKernel24 := Cert.Kernel24.Gen.facts) := fun m ρ _ => Cert.Kernel24.Gen.frame m ρ

/-- So does it over the extended reals. -/
theorem frame_pi24 : Cert.quiescent_Kernel24Ideal (hKernel24Ideal := Cert.Kernel24Ideal.Gen.facts) := fun m ρ _ => Cert.Kernel24Ideal.Gen.frame m ρ

/-- So does its reference. -/
theorem frame_ri24 : Cert.quiescent_Reference24Ideal (hReference24Ideal := Cert.Reference24Ideal.Gen.facts) := fun m ρ _ =>
  (θ_run Cert.Reference24Ideal.defs _ _).mono (fun r h => ⟨fun c => (h c).2.2.2, sem_eq_zero_of_no_sems (by decide) r.2⟩)
    (Cert.Reference24Ideal.Value.run (F := Ideal) m ρ)

/-- Nothing of it is rewritten. -/
theorem preserves24 : Cert.preserves_Kernel24_Kernel24Ideal := trivial

/-- Its three results are its reference's. -/
theorem algebraic24 : Cert.algebraic_Kernel24Ideal_Reference24Ideal (hKernel24Ideal := Cert.Kernel24Ideal.Gen.facts) (hReference24Ideal := Cert.Reference24Ideal.Gen.facts) := by
  intro m ρ m' ρ' _ hagree
  refine ⟨_, _, _, Cert.Kernel24Ideal.Value.run (F := Ideal) m ρ, ?_⟩
  refine (θ_run Cert.Reference24Ideal.defs _ _).mono (fun _ h c => ?_) (Cert.Reference24Ideal.Value.run (F := Ideal) m' ρ')
  obtain ⟨a0, a1, a2, a3⟩ := hagree c
  obtain ⟨h0, h1, h2, h3⟩ := h c
  refine ⟨h0.trans ?_, h1.trans ?_, h2.trans ?_, h3⟩
  · rw [Cert.Reference24Ideal.Read.val_main_v23_eq, a0, a1, a2, a3, Cert.Kernel24Ideal.Adam.change]
  · rw [Cert.Reference24Ideal.Read.val_main_v4_eq, a1, a2, Cert.Kernel24Ideal.Adam.first]
  · rw [Cert.Reference24Ideal.Read.val_main_v10_eq, a1, a3, Cert.Kernel24Ideal.Adam.second]

end Cert.Proof

end
-- ==== Proof.Adams.lean ====
module

public import proofs.«01_k».proof.Proof.Adam
public import proofs.«01_k».proof.Proof.Gen.Kernel29.Frame
public import proofs.«01_k».proof.Proof.Gen.Kernel29Ideal.Value
public import proofs.«01_k».proof.Proof.Gen.Reference29Ideal.Read
public import proofs.«01_k».proof.Proof.Gen.Kernel30.Frame
public import proofs.«01_k».proof.Proof.Gen.Kernel30Ideal.Value
public import proofs.«01_k».proof.Proof.Gen.Reference30Ideal.Read
public import proofs.«01_k».proof.Proof.Gen.Kernel31.Frame
public import proofs.«01_k».proof.Proof.Gen.Kernel31Ideal.Value
public import proofs.«01_k».proof.Proof.Gen.Reference31Ideal.Read
public import proofs.«01_k».proof.Proof.Gen.Kernel32.Frame
public import proofs.«01_k».proof.Proof.Gen.Kernel32Ideal.Value
public import proofs.«01_k».proof.Proof.Gen.Reference32Ideal.Read
public import proofs.«01_k».proof.Proof.Gen.Kernel33.Frame
public import proofs.«01_k».proof.Proof.Gen.Kernel33Ideal.Value
public import proofs.«01_k».proof.Proof.Gen.Reference33Ideal.Read
public import proofs.«01_k».proof.Proof.Gen.Kernel34.Frame
public import proofs.«01_k».proof.Proof.Gen.Kernel34Ideal.Value
public import proofs.«01_k».proof.Proof.Gen.Reference34Ideal.Read

/-!
# The AdamW steps of the other weights

As in Adam: of each shape the kernel and its reference do the same operations entry by entry.
-/

@[expose] public section

noncomputable section

namespace Cert.Proof

open Idealize.ShloMosaic Idealize.SL.Sem

/-! ## Of an output projection's weights -/

theorem frame_p29 : Cert.quiescent_Kernel29 (hKernel29 := Kernel29.Gen.facts) := fun m ρ _ => Kernel29.Gen.frame m ρ

theorem frame_pi29 : Cert.quiescent_Kernel29Ideal (hKernel29Ideal := Kernel29Ideal.Gen.facts) := fun m ρ _ => Kernel29Ideal.Gen.frame m ρ

theorem frame_ri29 : Cert.quiescent_Reference29Ideal (hReference29Ideal := Reference29Ideal.Gen.facts) := fun m ρ _ =>
  (θ_run Reference29Ideal.defs _ _).mono (fun r h => ⟨fun c => (h c).2.2.2, sem_eq_zero_of_no_sems (by decide) r.2⟩)
    (Reference29Ideal.Value.run (F := Ideal) m ρ)

theorem preserves29 : Cert.preserves_Kernel29_Kernel29Ideal := trivial

open Reference29Ideal.Read Kernel29Ideal.Value in
theorem algebraic29 : Cert.algebraic_Kernel29Ideal_Reference29Ideal (hKernel29Ideal := Kernel29Ideal.Gen.facts) (hReference29Ideal := Reference29Ideal.Gen.facts) := by
  intro m ρ m' ρ' _ hagree
  refine ⟨_, _, _, run (F := Ideal) m ρ, ?_⟩
  refine (θ_run Reference29Ideal.defs _ _).mono (fun _ h c => ?_) (Reference29Ideal.Value.run (F := Ideal) m' ρ')
  obtain ⟨a0, a1, a2, a3⟩ := hagree c
  obtain ⟨h0, h1, h2, h3⟩ := h c
  refine ⟨h0.trans ?_, h1.trans ?_, h2.trans ?_, h3⟩
  · rw [val_main_v23_eq, a0, a1, a2, a3, show ∀ w g m v, val_main_v23 (F := Ideal) w g m v = G4 g m v w from fun _ _ _ _ => rfl]
  · rw [val_main_v4_eq, a1, a2, show ∀ g m, val_main_v4 (F := Ideal) g m = G5 g m from fun _ _ => rfl]
  · rw [val_main_v10_eq, a1, a3, show ∀ g v, val_main_v10 (F := Ideal) g v = G6 g v from fun _ _ => rfl]

/-! ## Of the latent layer's projection's weights -/

theorem frame_p30 : Cert.quiescent_Kernel30 (hKernel30 := Kernel30.Gen.facts) := fun m ρ _ => Kernel30.Gen.frame m ρ

theorem frame_pi30 : Cert.quiescent_Kernel30Ideal (hKernel30Ideal := Kernel30Ideal.Gen.facts) := fun m ρ _ => Kernel30Ideal.Gen.frame m ρ

theorem frame_ri30 : Cert.quiescent_Reference30Ideal (hReference30Ideal := Reference30Ideal.Gen.facts) := fun m ρ _ =>
  (θ_run Reference30Ideal.defs _ _).mono (fun r h => ⟨fun c => (h c).2.2.2, sem_eq_zero_of_no_sems (by decide) r.2⟩)
    (Reference30Ideal.Value.run (F := Ideal) m ρ)

theorem preserves30 : Cert.preserves_Kernel30_Kernel30Ideal := trivial

open Reference30Ideal.Read Kernel30Ideal.Value in
theorem algebraic30 : Cert.algebraic_Kernel30Ideal_Reference30Ideal (hKernel30Ideal := Kernel30Ideal.Gen.facts) (hReference30Ideal := Reference30Ideal.Gen.facts) := by
  intro m ρ m' ρ' _ hagree
  refine ⟨_, _, _, run (F := Ideal) m ρ, ?_⟩
  refine (θ_run Reference30Ideal.defs _ _).mono (fun _ h c => ?_) (Reference30Ideal.Value.run (F := Ideal) m' ρ')
  obtain ⟨a0, a1, a2, a3⟩ := hagree c
  obtain ⟨h0, h1, h2, h3⟩ := h c
  refine ⟨h0.trans ?_, h1.trans ?_, h2.trans ?_, h3⟩
  · rw [val_main_v23_eq, a0, a1, a2, a3, show ∀ w g m v, val_main_v23 (F := Ideal) w g m v = G4 g m v w from fun _ _ _ _ => rfl]
  · rw [val_main_v4_eq, a1, a2, show ∀ g m, val_main_v4 (F := Ideal) g m = G5 g m from fun _ _ => rfl]
  · rw [val_main_v10_eq, a1, a3, show ∀ g v, val_main_v10 (F := Ideal) g v = G6 g v from fun _ _ => rfl]

/-! ## Of the latent queries' projection's weights -/

theorem frame_p31 : Cert.quiescent_Kernel31 (hKernel31 := Kernel31.Gen.facts) := fun m ρ _ => Kernel31.Gen.frame m ρ

theorem frame_pi31 : Cert.quiescent_Kernel31Ideal (hKernel31Ideal := Kernel31Ideal.Gen.facts) := fun m ρ _ => Kernel31Ideal.Gen.frame m ρ

theorem frame_ri31 : Cert.quiescent_Reference31Ideal (hReference31Ideal := Reference31Ideal.Gen.facts) := fun m ρ _ =>
  (θ_run Reference31Ideal.defs _ _).mono (fun r h => ⟨fun c => (h c).2.2.2, sem_eq_zero_of_no_sems (by decide) r.2⟩)
    (Reference31Ideal.Value.run (F := Ideal) m ρ)

theorem preserves31 : Cert.preserves_Kernel31_Kernel31Ideal := trivial

open Reference31Ideal.Read Kernel31Ideal.Value in
theorem algebraic31 : Cert.algebraic_Kernel31Ideal_Reference31Ideal (hKernel31Ideal := Kernel31Ideal.Gen.facts) (hReference31Ideal := Reference31Ideal.Gen.facts) := by
  intro m ρ m' ρ' _ hagree
  refine ⟨_, _, _, run (F := Ideal) m ρ, ?_⟩
  refine (θ_run Reference31Ideal.defs _ _).mono (fun _ h c => ?_) (Reference31Ideal.Value.run (F := Ideal) m' ρ')
  obtain ⟨a0, a1, a2, a3⟩ := hagree c
  obtain ⟨h0, h1, h2, h3⟩ := h c
  refine ⟨h0.trans ?_, h1.trans ?_, h2.trans ?_, h3⟩
  · rw [val_main_v23_eq, a0, a1, a2, a3, show ∀ w g m v, val_main_v23 (F := Ideal) w g m v = G4 g m v w from fun _ _ _ _ => rfl]
  · rw [val_main_v4_eq, a1, a2, show ∀ g m, val_main_v4 (F := Ideal) g m = G5 g m from fun _ _ => rfl]
  · rw [val_main_v10_eq, a1, a3, show ∀ g v, val_main_v10 (F := Ideal) g v = G6 g v from fun _ _ => rfl]

/-! ## Of the latent keys' and values' projection's weights -/

theorem frame_p32 : Cert.quiescent_Kernel32 (hKernel32 := Kernel32.Gen.facts) := fun m ρ _ => Kernel32.Gen.frame m ρ

theorem frame_pi32 : Cert.quiescent_Kernel32Ideal (hKernel32Ideal := Kernel32Ideal.Gen.facts) := fun m ρ _ => Kernel32Ideal.Gen.frame m ρ

theorem frame_ri32 : Cert.quiescent_Reference32Ideal (hReference32Ideal := Reference32Ideal.Gen.facts) := fun m ρ _ =>
  (θ_run Reference32Ideal.defs _ _).mono (fun r h => ⟨fun c => (h c).2.2.2, sem_eq_zero_of_no_sems (by decide) r.2⟩)
    (Reference32Ideal.Value.run (F := Ideal) m ρ)

theorem preserves32 : Cert.preserves_Kernel32_Kernel32Ideal := trivial

open Reference32Ideal.Read Kernel32Ideal.Value in
theorem algebraic32 : Cert.algebraic_Kernel32Ideal_Reference32Ideal (hKernel32Ideal := Kernel32Ideal.Gen.facts) (hReference32Ideal := Reference32Ideal.Gen.facts) := by
  intro m ρ m' ρ' _ hagree
  refine ⟨_, _, _, run (F := Ideal) m ρ, ?_⟩
  refine (θ_run Reference32Ideal.defs _ _).mono (fun _ h c => ?_) (Reference32Ideal.Value.run (F := Ideal) m' ρ')
  obtain ⟨a0, a1, a2, a3⟩ := hagree c
  obtain ⟨h0, h1, h2, h3⟩ := h c
  refine ⟨h0.trans ?_, h1.trans ?_, h2.trans ?_, h3⟩
  · rw [val_main_v23_eq, a0, a1, a2, a3, show ∀ w g m v, val_main_v23 (F := Ideal) w g m v = G4 g m v w from fun _ _ _ _ => rfl]
  · rw [val_main_v4_eq, a1, a2, show ∀ g m, val_main_v4 (F := Ideal) g m = G5 g m from fun _ _ => rfl]
  · rw [val_main_v10_eq, a1, a3, show ∀ g v, val_main_v10 (F := Ideal) g v = G6 g v from fun _ _ => rfl]

/-! ## Of the forgetting layer's projection's weights -/

theorem frame_p33 : Cert.quiescent_Kernel33 (hKernel33 := Kernel33.Gen.facts) := fun m ρ _ => Kernel33.Gen.frame m ρ

theorem frame_pi33 : Cert.quiescent_Kernel33Ideal (hKernel33Ideal := Kernel33Ideal.Gen.facts) := fun m ρ _ => Kernel33Ideal.Gen.frame m ρ

theorem frame_ri33 : Cert.quiescent_Reference33Ideal (hReference33Ideal := Reference33Ideal.Gen.facts) := fun m ρ _ =>
  (θ_run Reference33Ideal.defs _ _).mono (fun r h => ⟨fun c => (h c).2.2.2, sem_eq_zero_of_no_sems (by decide) r.2⟩)
    (Reference33Ideal.Value.run (F := Ideal) m ρ)

theorem preserves33 : Cert.preserves_Kernel33_Kernel33Ideal := trivial

open Reference33Ideal.Read Kernel33Ideal.Value in
theorem algebraic33 : Cert.algebraic_Kernel33Ideal_Reference33Ideal (hKernel33Ideal := Kernel33Ideal.Gen.facts) (hReference33Ideal := Reference33Ideal.Gen.facts) := by
  intro m ρ m' ρ' _ hagree
  refine ⟨_, _, _, run (F := Ideal) m ρ, ?_⟩
  refine (θ_run Reference33Ideal.defs _ _).mono (fun _ h c => ?_) (Reference33Ideal.Value.run (F := Ideal) m' ρ')
  obtain ⟨a0, a1, a2, a3⟩ := hagree c
  obtain ⟨h0, h1, h2, h3⟩ := h c
  refine ⟨h0.trans ?_, h1.trans ?_, h2.trans ?_, h3⟩
  · rw [val_main_v23_eq, a0, a1, a2, a3, show ∀ w g m v, val_main_v23 (F := Ideal) w g m v = G4 g m v w from fun _ _ _ _ => rfl]
  · rw [val_main_v4_eq, a1, a2, show ∀ g m, val_main_v4 (F := Ideal) g m = G5 g m from fun _ _ => rfl]
  · rw [val_main_v10_eq, a1, a3, show ∀ g v, val_main_v10 (F := Ideal) g v = G6 g v from fun _ _ => rfl]

/-! ## Of the small weights, packed into one array -/

theorem frame_p34 : Cert.quiescent_Kernel34 (hKernel34 := Kernel34.Gen.facts) := fun m ρ _ => Kernel34.Gen.frame m ρ

theorem frame_pi34 : Cert.quiescent_Kernel34Ideal (hKernel34Ideal := Kernel34Ideal.Gen.facts) := fun m ρ _ => Kernel34Ideal.Gen.frame m ρ

theorem frame_ri34 : Cert.quiescent_Reference34Ideal (hReference34Ideal := Reference34Ideal.Gen.facts) := fun m ρ _ =>
  (θ_run Reference34Ideal.defs _ _).mono (fun r h => ⟨fun c => (h c).2.2.2, sem_eq_zero_of_no_sems (by decide) r.2⟩)
    (Reference34Ideal.Value.run (F := Ideal) m ρ)

theorem preserves34 : Cert.preserves_Kernel34_Kernel34Ideal := trivial

open Reference34Ideal.Read Kernel34Ideal.Value in
theorem algebraic34 : Cert.algebraic_Kernel34Ideal_Reference34Ideal (hKernel34Ideal := Kernel34Ideal.Gen.facts) (hReference34Ideal := Reference34Ideal.Gen.facts) := by
  intro m ρ m' ρ' _ hagree
  refine ⟨_, _, _, run (F := Ideal) m ρ, ?_⟩
  refine (θ_run Reference34Ideal.defs _ _).mono (fun _ h c => ?_) (Reference34Ideal.Value.run (F := Ideal) m' ρ')
  obtain ⟨a0, a1, a2, a3⟩ := hagree c
  obtain ⟨h0, h1, h2, h3⟩ := h c
  refine ⟨h0.trans ?_, h1.trans ?_, h2.trans ?_, h3⟩
  · rw [val_main_v23_eq, a0, a1, a2, a3, show ∀ w g m v, val_main_v23 (F := Ideal) w g m v = G4 g m v w from fun _ _ _ _ => rfl]
  · rw [val_main_v4_eq, a1, a2, show ∀ g m, val_main_v4 (F := Ideal) g m = G5 g m from fun _ _ => rfl]
  · rw [val_main_v10_eq, a1, a3, show ∀ g v, val_main_v10 (F := Ideal) g v = G6 g v from fun _ _ => rfl]

end Cert.Proof

end
-- ==== Proof.lean ====
module

public import proofs.«01_k».proof.Defs
public import proofs.«01_k».proof.Proof.Gen.KernelIdeal.Value
public import proofs.«01_k».proof.Proof.Gen.ReferenceIdeal.Read
public import proofs.«01_k».proof.Proof.Gen.Kernel.Frame
public import proofs.«01_k».proof.Proof.Gen.Kernel2.Frame
public import proofs.«01_k».proof.Proof.Gen.Kernel2Ideal.Value
public import proofs.«01_k».proof.Proof.Gen.Reference2Ideal.Read
public import proofs.«01_k».proof.Proof.Gen.Kernel3.Frame
public import proofs.«01_k».proof.Proof.Gen.Kernel3Ideal.Value
public import proofs.«01_k».proof.Proof.Gen.Reference3Ideal.Read
public import proofs.«01_k».proof.Proof.Gen.Kernel4.Frame
public import proofs.«01_k».proof.Proof.Gen.Kernel4Ideal.Value
public import proofs.«01_k».proof.Proof.Gen.Reference4Ideal.Read
public import proofs.«01_k».proof.Proof.Gen.Kernel5.Frame
public import proofs.«01_k».proof.Proof.Gen.Kernel5Ideal.Value
public import proofs.«01_k».proof.Proof.Gen.Reference5Ideal.Read
public import proofs.«01_k».proof.Proof.Gen.Kernel6.Frame
public import proofs.«01_k».proof.Proof.Gen.Kernel6Ideal.Value
public import proofs.«01_k».proof.Proof.Gen.Reference6Ideal.Read
public import proofs.«01_k».proof.Proof.Gen.Kernel7.Frame
public import proofs.«01_k».proof.Proof.Gen.Kernel7Ideal.Value
public import proofs.«01_k».proof.Proof.Gen.Reference7Ideal.Read
public import proofs.«01_k».proof.Proof.Gen.Kernel8.Frame
public import proofs.«01_k».proof.Proof.Gen.Kernel8Ideal.Value
public import proofs.«01_k».proof.Proof.Gen.Reference8Ideal.Read
public import proofs.«01_k».proof.Proof.Gen.Kernel9.Frame
public import proofs.«01_k».proof.Proof.Gen.Kernel9Ideal.Value
public import proofs.«01_k».proof.Proof.Gen.Reference9Ideal.Read
public import proofs.«01_k».proof.Proof.Gen.Kernel10.Frame
public import proofs.«01_k».proof.Proof.Gen.Kernel10Ideal.Value
public import proofs.«01_k».proof.Proof.Gen.Reference10Ideal.Read
public import proofs.«01_k».proof.Proof.Gen.Kernel11.Frame
public import proofs.«01_k».proof.Proof.Gen.Kernel11Ideal.Value
public import proofs.«01_k».proof.Proof.Gen.Reference11Ideal.Read
public import proofs.«01_k».proof.Proof.Gen.Kernel12.Frame
public import proofs.«01_k».proof.Proof.Gen.Kernel12Ideal.Value
public import proofs.«01_k».proof.Proof.Gen.Reference12Ideal.Read
public import proofs.«01_k».proof.Proof.Gen.Kernel13.Frame
public import proofs.«01_k».proof.Proof.Gen.Kernel13Ideal.Value
public import proofs.«01_k».proof.Proof.Gen.Reference13Ideal.Read
public import proofs.«01_k».proof.Proof.Gen.Kernel14.Frame
public import proofs.«01_k».proof.Proof.Gen.Kernel14Ideal.Value
public import proofs.«01_k».proof.Proof.Gen.Reference14Ideal.Read
public import proofs.«01_k».proof.Proof.Gen.Kernel15.Frame
public import proofs.«01_k».proof.Proof.Gen.Kernel15Ideal.Value
public import proofs.«01_k».proof.Proof.Gen.Reference15Ideal.Read
public import proofs.«01_k».proof.Proof.Gen.Kernel16.Frame
public import proofs.«01_k».proof.Proof.Gen.Kernel16Ideal.Value
public import proofs.«01_k».proof.Proof.Gen.Reference16Ideal.Read
public import proofs.«01_k».proof.Proof.Gen.Kernel17.Frame
public import proofs.«01_k».proof.Proof.Gen.Kernel17Ideal.Value
public import proofs.«01_k».proof.Proof.Gen.Reference17Ideal.Read
public import proofs.«01_k».proof.Proof.Gen.Kernel18.Frame
public import proofs.«01_k».proof.Proof.Gen.Kernel18Ideal.Value
public import proofs.«01_k».proof.Proof.Gen.Reference18Ideal.Read
public import proofs.«01_k».proof.Proof.Gen.Kernel19.Frame
public import proofs.«01_k».proof.Proof.Gen.Kernel19Ideal.Value
public import proofs.«01_k».proof.Proof.Gen.Reference19Ideal.Read
public import proofs.«01_k».proof.Proof.Gen.Kernel20.Frame
public import proofs.«01_k».proof.Proof.Gen.Kernel20Ideal.Value
public import proofs.«01_k».proof.Proof.Gen.Reference20Ideal.Read
public import proofs.«01_k».proof.Proof.Gen.Kernel21.Frame
public import proofs.«01_k».proof.Proof.Gen.Kernel21Ideal.Value
public import proofs.«01_k».proof.Proof.Gen.Reference21Ideal.Read
public import proofs.«01_k».proof.Proof.Gen.Kernel22.Frame
public import proofs.«01_k».proof.Proof.Gen.Kernel22Ideal.Value
public import proofs.«01_k».proof.Proof.Gen.Reference22Ideal.Read
public import proofs.«01_k».proof.Proof.Gen.Kernel23.Frame
public import proofs.«01_k».proof.Proof.Gen.Kernel23Ideal.Value
public import proofs.«01_k».proof.Proof.Gen.Reference23Ideal.Read
public import proofs.«01_k».proof.Proof.Gen.Kernel24.Frame
public import proofs.«01_k».proof.Proof.Gen.Kernel24Ideal.Value
public import proofs.«01_k».proof.Proof.Gen.Reference24Ideal.Read
public import proofs.«01_k».proof.Proof.Gen.Kernel25.Frame
public import proofs.«01_k».proof.Proof.Gen.Kernel25Ideal.Value
public import proofs.«01_k».proof.Proof.Gen.Reference25Ideal.Read
public import proofs.«01_k».proof.Proof.Gen.Kernel26.Frame
public import proofs.«01_k».proof.Proof.Gen.Kernel26Ideal.Value
public import proofs.«01_k».proof.Proof.Gen.Reference26Ideal.Read
public import proofs.«01_k».proof.Proof.Gen.Kernel27.Frame
public import proofs.«01_k».proof.Proof.Gen.Kernel27Ideal.Value
public import proofs.«01_k».proof.Proof.Gen.Reference27Ideal.Read
public import proofs.«01_k».proof.Proof.Gen.Kernel28.Frame
public import proofs.«01_k».proof.Proof.Gen.Kernel28Ideal.Value
public import proofs.«01_k».proof.Proof.Gen.Reference28Ideal.Read
public import proofs.«01_k».proof.Proof.Gen.Kernel29.Frame
public import proofs.«01_k».proof.Proof.Gen.Kernel29Ideal.Value
public import proofs.«01_k».proof.Proof.Gen.Reference29Ideal.Read
public import proofs.«01_k».proof.Proof.Gen.Kernel30.Frame
public import proofs.«01_k».proof.Proof.Gen.Kernel30Ideal.Value
public import proofs.«01_k».proof.Proof.Gen.Reference30Ideal.Read
public import proofs.«01_k».proof.Proof.Gen.Kernel31.Frame
public import proofs.«01_k».proof.Proof.Gen.Kernel31Ideal.Value
public import proofs.«01_k».proof.Proof.Gen.Reference31Ideal.Read
public import proofs.«01_k».proof.Proof.Gen.Kernel32.Frame
public import proofs.«01_k».proof.Proof.Gen.Kernel32Ideal.Value
public import proofs.«01_k».proof.Proof.Gen.Reference32Ideal.Read
public import proofs.«01_k».proof.Proof.Gen.Kernel33.Frame
public import proofs.«01_k».proof.Proof.Gen.Kernel33Ideal.Value
public import proofs.«01_k».proof.Proof.Gen.Reference33Ideal.Read
public import proofs.«01_k».proof.Proof.Gen.Kernel34.Frame
public import proofs.«01_k».proof.Proof.Gen.Kernel34Ideal.Value
public import proofs.«01_k».proof.Proof.Gen.Reference34Ideal.Read
public import proofs.«01_k».proof.Proof.Equation
public import proofs.«01_k».proof.Proof.Finite
public import proofs.«01_k».proof.Proof.SbEquation
public import proofs.«01_k».proof.Proof.SbFwdEquation
public import proofs.«01_k».proof.Proof.FgFwdEquation
public import proofs.«01_k».proof.Proof.Products
public import proofs.«01_k».proof.Proof.Norm
public import proofs.«01_k».proof.Proof.NormBack
public import proofs.«01_k».proof.Proof.LossHead
public import proofs.«01_k».proof.Proof.Latent
public import proofs.«01_k».proof.Proof.Adams
public import proofs.«01_k».proof.Proof.Adam
public import Idealize.ShloMosaic.Adequacy
public import Idealize.ShloMosaic.Init

@[expose] public section

noncomputable section

namespace Cert.Proof

open Idealize.ShloMosaic Idealize.SL.Sem Cert.KernelIdeal.Block Cert.ReferenceIdeal.Read

/-- The kernel runs, leaves its arguments as they were and its counters at zero. -/
theorem frame_p : Cert.quiescent_Kernel (hKernel := Cert.Kernel.Gen.facts) := fun m ρ _ => Cert.Kernel.Gen.frame m ρ

/-- So does the kernel over the extended reals. -/
theorem frame_pi : Cert.quiescent_KernelIdeal (hKernelIdeal := Cert.KernelIdeal.Gen.facts) := fun m ρ _ => Cert.KernelIdeal.Gen.frame m ρ

/-- So does the kernel over the extended reals on finite inputs. -/
theorem frame_pi_pre : Cert.quiescent_KernelIdeal_pre_finite (hKernelIdeal := Cert.KernelIdeal.Gen.facts) (hPre_finite := preFacts) :=
  fun m ρ _ => Cert.KernelIdeal.Gen.frame m ρ

/-- The reference runs, leaves its arguments as they were and its counters at zero. -/
theorem frame_ri : Cert.quiescent_ReferenceIdeal (hReferenceIdeal := Cert.ReferenceIdeal.Gen.facts) := fun m ρ _ =>
  (θ_run Cert.ReferenceIdeal.defs _ _).mono (fun r h => ⟨fun c => (h c).2.2.2.2.2.2, sem_eq_zero_of_no_sems (by decide) r.2⟩)
    (Cert.ReferenceIdeal.Value.run (F := Ideal) m ρ)

/-- So does the reference on finite inputs. -/
theorem frame_ri_pre : Cert.quiescent_ReferenceIdeal_pre_finite (hReferenceIdeal := Cert.ReferenceIdeal.Gen.facts) (hPre_finite := preFacts) :=
  fun m ρ _ => frame_ri m ρ trivial

/-- The constant that masks is −∞. -/
theorem preserves : Cert.preserves_Kernel_KernelIdeal :=
  IdealRules.named_const.statement Cert.KernelIdeal.κ "mask" .f32 0xF149F2CA#32 ⊥ rfl

/-- On finite inputs the kernel's results are the reference's. -/
theorem algebraic : Cert.algebraic_KernelIdeal_ReferenceIdeal_pre_finite (hKernelIdeal := Cert.KernelIdeal.Gen.facts)
    (hReferenceIdeal := Cert.ReferenceIdeal.Gen.facts) (hPre_finite := preFacts) := by
  intro m ρ m' ρ' hpre hagree
  refine ⟨_, _, _, _, _, _, Cert.KernelIdeal.Value.run (F := Ideal) m ρ, ?_⟩
  refine (θ_run Cert.ReferenceIdeal.defs _ _).mono (fun _ h c => ?_) (Cert.ReferenceIdeal.Value.run (F := Ideal) m' ρ')
  letI := preFacts
  obtain ⟨hP, hB, hD⟩ := real_of_pre _ _ _ (hpre c)
  obtain ⟨a0, a1, a2⟩ := hagree c
  obtain ⟨h0, h1, h2, h3, h4, h5, h6⟩ := h c
  refine ⟨h0.trans ?_, h1.trans ?_, h2.trans ?_, h3.trans ?_, h4.trans ?_, h5.trans ?_, h6⟩
  · rw [val_main_v97_eq, a0, a1, a2, hP, hB, hD]
    exact eq_dq m c _ _ _ hP hB hD
  · rw [val_main_v95_eq, a0, a1, a2, hP, hB, hD]
    exact eq_dk m c _ _ _ hP hB hD
  · rw [val_main_v69_eq, a0, a1, a2, hP, hB, hD]
    exact eq_dv m c _ _ _ hP hB hD
  · rw [val_main_v98_eq, a0, a1, a2, hP, hB, hD]
    exact eq_dgate m c _ _ _ hP hB hD
  · rw [val_main_v99_eq, a0, a1, a2, hP, hB, hD]
    exact eq_dcc m c _ _ _ hP hB hD
  · rw [val_main_v100_eq, a0, a1, a2, hP, hB, hD]
    exact eq_dcr m c _ _ _ hP hB hD

/-- The second kernel runs, leaves its arguments as they were and its counters at zero. -/
theorem frame_p2 : Cert.quiescent_Kernel2 (hKernel2 := Cert.Kernel2.Gen.facts) := fun m ρ _ => Cert.Kernel2.Gen.frame m ρ

/-- So does the second kernel over the extended reals. -/
theorem frame_pi2 : Cert.quiescent_Kernel2Ideal (hKernel2Ideal := Cert.Kernel2Ideal.Gen.facts) := fun m ρ _ => Cert.Kernel2Ideal.Gen.frame m ρ

/-- So does the second kernel over the extended reals on finite inputs. -/
theorem frame_pi2_pre : Cert.quiescent_Kernel2Ideal_pre_finite2 (hKernel2Ideal := Cert.Kernel2Ideal.Gen.facts)
    (hPre_finite2 := Cert.Kernel2Ideal.Sb.preFacts) := fun m ρ _ => Cert.Kernel2Ideal.Gen.frame m ρ

/-- The second reference runs, leaves its arguments as they were and its counters at zero. -/
theorem frame_ri2 : Cert.quiescent_Reference2Ideal (hReference2Ideal := Cert.Reference2Ideal.Gen.facts) := fun m ρ _ =>
  (θ_run Cert.Reference2Ideal.defs _ _).mono (fun r h => ⟨fun c => (h c).2.2.2.2, sem_eq_zero_of_no_sems (by decide) r.2⟩)
    (Cert.Reference2Ideal.Value.run (F := Ideal) m ρ)

/-- So does the second reference on finite inputs. -/
theorem frame_ri2_pre : Cert.quiescent_Reference2Ideal_pre_finite2 (hReference2Ideal := Cert.Reference2Ideal.Gen.facts)
    (hPre_finite2 := Cert.Kernel2Ideal.Sb.preFacts) := fun m ρ _ => frame_ri2 m ρ trivial

/-- Nothing of the second kernel is rewritten. -/
theorem preserves2 : Cert.preserves_Kernel2_Kernel2Ideal := trivial

/-- On finite inputs the second kernel's results are its reference's. -/
theorem algebraic2 : Cert.algebraic_Kernel2Ideal_Reference2Ideal_pre_finite2 (hKernel2Ideal := Cert.Kernel2Ideal.Gen.facts)
    (hReference2Ideal := Cert.Reference2Ideal.Gen.facts) (hPre_finite2 := Cert.Kernel2Ideal.Sb.preFacts) := by
  intro m ρ m' ρ' hpre hagree
  refine ⟨_, _, _, _, Cert.Kernel2Ideal.Value.run (F := Ideal) m ρ, ?_⟩
  refine (θ_run Cert.Reference2Ideal.defs _ _).mono (fun _ h c => ?_) (Cert.Reference2Ideal.Value.run (F := Ideal) m' ρ')
  letI := Cert.Kernel2Ideal.Sb.preFacts
  obtain ⟨hP, hD⟩ := Cert.Kernel2Ideal.Sb.real_of_pre _ _ (hpre c)
  obtain ⟨a0, a1⟩ := hagree c
  obtain ⟨h0, h1, h2, h3, h4⟩ := h c
  have l0 : StableHlo.launchContents m' c (Proc.devRef .tc Cert.Reference2Ideal.main_arg0) = up _ := a0.trans hP
  have l1 : StableHlo.launchContents m' c (Proc.devRef .tc Cert.Reference2Ideal.main_arg1) = up _ := a1.trans hD
  refine ⟨h0.trans ?_, h1.trans ?_, h2.trans ?_, h3.trans ?_, h4⟩
  · rw [Cert.Reference2Ideal.Read.val_main_v62_eq, l0, l1]
    exact Cert.Kernel2Ideal.Sb.eq_dq m c _ _ hP hD
  · rw [Cert.Reference2Ideal.Read.val_main_v63_eq, l0, l1]
    exact Cert.Kernel2Ideal.Sb.eq_dk m c _ _ hP hD
  · rw [Cert.Reference2Ideal.Read.val_main_v64_eq, l0, l1]
    exact Cert.Kernel2Ideal.Sb.eq_dv m c _ _ hP hD
  · rw [Cert.Reference2Ideal.Read.val_main_v65_eq, l0, l1]
    exact Cert.Kernel2Ideal.Sb.eq_dgate m c _ _ hP hD

/-- The forward stick-breaking kernel runs, leaves its argument as it was and its counters at zero. -/
theorem frame_p21 : Cert.quiescent_Kernel21 (hKernel21 := Cert.Kernel21.Gen.facts) := fun m ρ _ => Cert.Kernel21.Gen.frame m ρ

/-- So does this kernel over the extended reals. -/
theorem frame_pi21 : Cert.quiescent_Kernel21Ideal (hKernel21Ideal := Cert.Kernel21Ideal.Gen.facts) := fun m ρ _ => Cert.Kernel21Ideal.Gen.frame m ρ

/-- So does this kernel over the extended reals on finite inputs. -/
theorem frame_pi21_pre : Cert.quiescent_Kernel21Ideal_pre_finite21 (hKernel21Ideal := Cert.Kernel21Ideal.Gen.facts)
    (hPre_finite21 := Cert.Kernel21Ideal.SbF.preFacts) := fun m ρ _ => Cert.Kernel21Ideal.Gen.frame m ρ

/-- Its reference runs, leaves its argument as it was and its counters at zero. -/
theorem frame_ri21 : Cert.quiescent_Reference21Ideal (hReference21Ideal := Cert.Reference21Ideal.Gen.facts) := fun m ρ _ =>
  (θ_run Cert.Reference21Ideal.defs _ _).mono (fun r h => ⟨fun c => (h c).2.2.2, sem_eq_zero_of_no_sems (by decide) r.2⟩)
    (Cert.Reference21Ideal.Value.run (F := Ideal) m ρ)

/-- So does its reference on finite inputs. -/
theorem frame_ri21_pre : Cert.quiescent_Reference21Ideal_pre_finite21 (hReference21Ideal := Cert.Reference21Ideal.Gen.facts)
    (hPre_finite21 := Cert.Kernel21Ideal.SbF.preFacts) := fun m ρ _ => frame_ri21 m ρ trivial

/-- Nothing of the forward stick-breaking kernel is rewritten. -/
theorem preserves21 : Cert.preserves_Kernel21_Kernel21Ideal := trivial

/-- On finite inputs the forward stick-breaking kernel's results are its reference's. -/
theorem algebraic21 : Cert.algebraic_Kernel21Ideal_Reference21Ideal_pre_finite21 (hKernel21Ideal := Cert.Kernel21Ideal.Gen.facts)
    (hReference21Ideal := Cert.Reference21Ideal.Gen.facts) (hPre_finite21 := Cert.Kernel21Ideal.SbF.preFacts) := by
  intro m ρ m' ρ' hpre hagree
  refine ⟨_, _, _, Cert.Kernel21Ideal.Value.run (F := Ideal) m ρ, ?_⟩
  refine (θ_run Cert.Reference21Ideal.defs _ _).mono (fun _ h c => ?_) (Cert.Reference21Ideal.Value.run (F := Ideal) m' ρ')
  letI := Cert.Kernel21Ideal.SbF.preFacts
  have hP := Cert.Kernel21Ideal.SbF.real_of_pre _ (hpre c)
  obtain ⟨h0, h1, h2, h3⟩ := h c
  refine ⟨h0.trans ?_, h1.trans ?_, h2.trans ?_, h3⟩
  · rw [Cert.Reference21Ideal.Read.val_main_v31_eq, (hagree c).trans hP]
    exact Cert.Kernel21Ideal.SbF.eq_o m c _ hP
  · rw [Cert.Reference21Ideal.Read.val_main_v33_eq, (hagree c).trans hP]
    exact Cert.Kernel21Ideal.SbF.eq_lt m c _ hP
  · rw [Cert.Reference21Ideal.Read.val_main_v36_eq, (hagree c).trans hP]
    exact Cert.Kernel21Ideal.SbF.eq_gated m c _ hP

/-- The forward forgetting kernel runs, leaves its arguments as they were and its counters at zero. -/
theorem frame_p22 : Cert.quiescent_Kernel22 (hKernel22 := Cert.Kernel22.Gen.facts) := fun m ρ _ => Cert.Kernel22.Gen.frame m ρ

/-- So does this kernel over the extended reals. -/
theorem frame_pi22 : Cert.quiescent_Kernel22Ideal (hKernel22Ideal := Cert.Kernel22Ideal.Gen.facts) := fun m ρ _ => Cert.Kernel22Ideal.Gen.frame m ρ

/-- So does this kernel over the extended reals on finite inputs. -/
theorem frame_pi22_pre : Cert.quiescent_Kernel22Ideal_pre_finite22 (hKernel22Ideal := Cert.Kernel22Ideal.Gen.facts)
    (hPre_finite22 := Cert.Kernel22Ideal.FgF.preFacts) := fun m ρ _ => Cert.Kernel22Ideal.Gen.frame m ρ

/-- Its reference runs, leaves its arguments as they were and its counters at zero. -/
theorem frame_ri22 : Cert.quiescent_Reference22Ideal (hReference22Ideal := Cert.Reference22Ideal.Gen.facts) := fun m ρ _ =>
  (θ_run Cert.Reference22Ideal.defs _ _).mono (fun r h => ⟨fun c => (h c).2.2.2, sem_eq_zero_of_no_sems (by decide) r.2⟩)
    (Cert.Reference22Ideal.Value.run (F := Ideal) m ρ)

/-- So does its reference on finite inputs. -/
theorem frame_ri22_pre : Cert.quiescent_Reference22Ideal_pre_finite22 (hReference22Ideal := Cert.Reference22Ideal.Gen.facts)
    (hPre_finite22 := Cert.Kernel22Ideal.FgF.preFacts) := fun m ρ _ => frame_ri22 m ρ trivial

/-- Over the extended reals the forward forgetting kernel masks with −∞. -/
theorem preserves22 : Cert.preserves_Kernel22_Kernel22Ideal :=
  IdealRules.named_const.statement Cert.Kernel22Ideal.κ "mask" .f32 0xF149F2CA#32 ⊥ rfl

/-- On finite inputs the forward forgetting kernel's results are its reference's. -/
theorem algebraic22 : Cert.algebraic_Kernel22Ideal_Reference22Ideal_pre_finite22 (hKernel22Ideal := Cert.Kernel22Ideal.Gen.facts)
    (hReference22Ideal := Cert.Reference22Ideal.Gen.facts) (hPre_finite22 := Cert.Kernel22Ideal.FgF.preFacts) := by
  intro m ρ m' ρ' hpre hagree
  refine ⟨_, _, _, Cert.Kernel22Ideal.Value.run (F := Ideal) m ρ, ?_⟩
  refine (θ_run Cert.Reference22Ideal.defs _ _).mono (fun _ h c => ?_) (Cert.Reference22Ideal.Value.run (F := Ideal) m' ρ')
  letI := Cert.Kernel22Ideal.FgF.preFacts
  obtain ⟨hP, hB⟩ := Cert.Kernel22Ideal.FgF.real_of_pre _ _ (hpre c)
  obtain ⟨a0, a1⟩ := hagree c
  obtain ⟨h0, h1, h2, h3⟩ := h c
  refine ⟨h0.trans ?_, h1.trans ?_, h2.trans ?_, h3⟩
  · rw [Cert.Reference22Ideal.Read.val_main_v40_eq, a0, a1, hP, hB]
    exact Cert.Kernel22Ideal.FgF.eq_o m c _ _ hP hB
  · rw [Cert.Reference22Ideal.Read.val_main_v49_eq, a0, a1, hP, hB]
    exact Cert.Kernel22Ideal.FgF.eq_lse m c _ _ hP hB
  · rw [Cert.Reference22Ideal.Read.val_main_v52_eq, a0, a1, hP, hB]
    exact Cert.Kernel22Ideal.FgF.eq_gated m c _ _ hP hB

/-- The certificate's claim. -/
theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    Cert.Kernel23.Gen.facts, Cert.Kernel23Ideal.Gen.facts, Cert.Reference23Ideal.Gen.facts,
    Cert.Kernel24.Gen.facts, Cert.Kernel24Ideal.Gen.facts, Cert.Reference24Ideal.Gen.facts,
    Cert.Kernel25.Gen.facts, Cert.Kernel25Ideal.Gen.facts, Cert.Reference25Ideal.Gen.facts,
    Cert.Kernel26.Gen.facts, Cert.Kernel26Ideal.Gen.facts, Cert.Reference26Ideal.Gen.facts,
    Cert.Kernel27.Gen.facts, Cert.Kernel27Ideal.Gen.facts, Cert.Reference27Ideal.Gen.facts,
    Cert.Kernel28.Gen.facts, Cert.Kernel28Ideal.Gen.facts, Cert.Reference28Ideal.Gen.facts,
    Cert.Kernel29.Gen.facts, Cert.Kernel29Ideal.Gen.facts, Cert.Reference29Ideal.Gen.facts,
    Cert.Kernel30.Gen.facts, Cert.Kernel30Ideal.Gen.facts, Cert.Reference30Ideal.Gen.facts,
    Cert.Kernel31.Gen.facts, Cert.Kernel31Ideal.Gen.facts, Cert.Reference31Ideal.Gen.facts,
    Cert.Kernel32.Gen.facts, Cert.Kernel32Ideal.Gen.facts, Cert.Reference32Ideal.Gen.facts,
    Cert.Kernel33.Gen.facts, Cert.Kernel33Ideal.Gen.facts, Cert.Reference33Ideal.Gen.facts,
    Cert.Kernel34.Gen.facts, Cert.Kernel34Ideal.Gen.facts, Cert.Reference34Ideal.Gen.facts,
    preFacts, Cert.Kernel2Ideal.Sb.preFacts, Cert.Kernel21Ideal.SbF.preFacts, Cert.Kernel22Ideal.FgF.preFacts,
    frame_p, frame_pi, frame_pi_pre, frame_ri, frame_ri_pre, frame_p2, frame_pi2, frame_pi2_pre, frame_ri2, frame_ri2_pre,
    frame_p3, frame_pi3, frame_ri3, frame_p4, frame_pi4, frame_ri4, frame_p5, frame_pi5, frame_ri5, frame_p6, frame_pi6, frame_ri6, frame_p7, frame_pi7, frame_ri7, frame_p8, frame_pi8, frame_ri8, frame_p9, frame_pi9, frame_ri9, frame_p10, frame_pi10, frame_ri10, frame_p11, frame_pi11, frame_ri11, frame_p12, frame_pi12, frame_ri12, frame_p13, frame_pi13, frame_ri13, frame_p14, frame_pi14, frame_ri14, frame_p15, frame_pi15, frame_ri15, frame_p16, frame_pi16, frame_ri16, frame_p17, frame_pi17, frame_ri17, frame_p18, frame_pi18, frame_ri18, frame_p19, frame_pi19, frame_ri19, frame_p20, frame_pi20, frame_ri20,
    frame_p21, frame_pi21, frame_pi21_pre, frame_ri21, frame_ri21_pre,
    frame_p22, frame_pi22, frame_pi22_pre, frame_ri22, frame_ri22_pre,
    frame_p23, frame_pi23, frame_ri23, frame_p24, frame_pi24, frame_ri24, frame_p25, frame_pi25, frame_ri25, frame_p26, frame_pi26, frame_ri26, frame_p27, frame_pi27, frame_ri27, frame_p28, frame_pi28, frame_ri28,
    frame_p29, frame_pi29, frame_ri29, frame_p30, frame_pi30, frame_ri30,
    frame_p31, frame_pi31, frame_ri31, frame_p32, frame_pi32, frame_ri32,
    frame_p33, frame_pi33, frame_ri33, frame_p34, frame_pi34, frame_ri34,
    preserves, algebraic, preserves2, algebraic2,
    preserves3, algebraic3, preserves4, algebraic4, preserves5, algebraic5, preserves6, algebraic6, preserves7, algebraic7, preserves8, algebraic8, preserves9, algebraic9, preserves10, algebraic10, preserves11, algebraic11, preserves12, algebraic12, preserves13, algebraic13, preserves14, algebraic14, preserves15, algebraic15, preserves16, algebraic16, preserves17, algebraic17, preserves18, algebraic18, preserves19, algebraic19, preserves20, algebraic20,
    preserves21, algebraic21, preserves22, algebraic22,
    preserves23, algebraic23, preserves24, algebraic24, preserves25, algebraic25, preserves26, algebraic26, preserves27, algebraic27, preserves28, algebraic28,
    preserves29, algebraic29, preserves30, algebraic30, preserves31, algebraic31, preserves32, algebraic32, preserves33, algebraic33, preserves34, algebraic34⟩

end Cert.Proof

end
